-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_WGateRefIdeal (m : (ℓ : Loc Cert.WGateRefIdeal.nD Cert.WGateRefIdeal.τ Cert.WGateRefIdeal.sig) → Buf (Elt Ideal) ℓ) : Prop :=
  True

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_HnGate (m : (ℓ : Loc Cert.HnGate.nD Cert.HnGate.τ Cert.HnGate.sig) → Buf (Elt Bits) ℓ) : Prop :=
  True

def Pre_HnGateIdeal (m : (ℓ : Loc Cert.HnGateIdeal.nD Cert.HnGateIdeal.τ Cert.HnGateIdeal.sig) → Buf (Elt Ideal) ℓ) : Prop :=
  True

def Pre_HnGateRefIdeal (m : (ℓ : Loc Cert.HnGateRefIdeal.nD Cert.HnGateRefIdeal.τ Cert.HnGateRefIdeal.sig) → Buf (Elt Ideal) ℓ) : Prop :=
  True

def Pre_HnUp (m : (ℓ : Loc Cert.HnUp.nD Cert.HnUp.τ Cert.HnUp.sig) → Buf (Elt Bits) ℓ) : Prop :=
  True

def Pre_HnUpIdeal (m : (ℓ : Loc Cert.HnUpIdeal.nD Cert.HnUpIdeal.τ Cert.HnUpIdeal.sig) → Buf (Elt Ideal) ℓ) : Prop :=
  True

def Pre_HnUpRefIdeal (m : (ℓ : Loc Cert.HnUpRefIdeal.nD Cert.HnUpRefIdeal.τ Cert.HnUpRefIdeal.sig) → Buf (Elt Ideal) ℓ) : Prop :=
  True

def Pre_FGate (m : (ℓ : Loc Cert.FGate.nD Cert.FGate.τ Cert.FGate.sig) → Buf (Elt Bits) ℓ) : Prop :=
  True

def Pre_FGateIdeal (m : (ℓ : Loc Cert.FGateIdeal.nD Cert.FGateIdeal.τ Cert.FGateIdeal.sig) → Buf (Elt Ideal) ℓ) : Prop :=
  True

def Pre_FGateRefIdeal (m : (ℓ : Loc Cert.FGateRefIdeal.nD Cert.FGateRefIdeal.τ Cert.FGateRefIdeal.sig) → Buf (Elt Ideal) ℓ) : Prop :=
  True

def Pre_FUp (m : (ℓ : Loc Cert.FUp.nD Cert.FUp.τ Cert.FUp.sig) → Buf (Elt Bits) ℓ) : Prop :=
  True

def Pre_FUpIdeal (m : (ℓ : Loc Cert.FUpIdeal.nD Cert.FUpIdeal.τ Cert.FUpIdeal.sig) → Buf (Elt Ideal) ℓ) : Prop :=
  True

def Pre_FUpRefIdeal (m : (ℓ : Loc Cert.FUpRefIdeal.nD Cert.FUpRefIdeal.τ Cert.FUpRefIdeal.sig) → Buf (Elt Ideal) ℓ) : Prop :=
  True

def Pre_FDown (m : (ℓ : Loc Cert.FDown.nD Cert.FDown.τ Cert.FDown.sig) → Buf (Elt Bits) ℓ) : Prop :=
  True

def Pre_FDownIdeal (m : (ℓ : Loc Cert.FDownIdeal.nD Cert.FDownIdeal.τ Cert.FDownIdeal.sig) → Buf (Elt Ideal) ℓ) : Prop :=
  True

def Pre_FDownRefIdeal (m : (ℓ : Loc Cert.FDownRefIdeal.nD Cert.FDownRefIdeal.τ Cert.FDownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DwoA (m : (ℓ : Loc Cert.DwoA.nD Cert.DwoA.τ Cert.DwoA.sig) → Buf (Elt Bits) ℓ) : Prop :=
  True

def Pre_DwoAIdeal (m : (ℓ : Loc Cert.DwoAIdeal.nD Cert.DwoAIdeal.τ Cert.DwoAIdeal.sig) → Buf (Elt Ideal) ℓ) : Prop :=
  True

def Pre_DwoARefIdeal (m : (ℓ : Loc Cert.DwoARefIdeal.nD Cert.DwoARefIdeal.τ Cert.DwoARefIdeal.sig) → Buf (Elt Ideal) ℓ) : Prop :=
  True

def Pre_DwoG (m : (ℓ : Loc Cert.DwoG.nD Cert.DwoG.τ Cert.DwoG.sig) → Buf (Elt Bits) ℓ) : Prop :=
  True

def Pre_DwoGIdeal (m : (ℓ : Loc Cert.DwoGIdeal.nD Cert.DwoGIdeal.τ Cert.DwoGIdeal.sig) → Buf (Elt Ideal) ℓ) : Prop :=
  True

def Pre_DwoGRefIdeal (m : (ℓ : Loc Cert.DwoGRefIdeal.nD Cert.DwoGRefIdeal.τ Cert.DwoGRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_UvW (m : (ℓ : Loc Cert.UvW.nD Cert.UvW.τ Cert.UvW.sig) → Buf (Elt Bits) ℓ) : Prop :=
  True

def Pre_UvWIdeal (m : (ℓ : Loc Cert.UvWIdeal.nD Cert.UvWIdeal.τ Cert.UvWIdeal.sig) → Buf (Elt Ideal) ℓ) : Prop :=
  True

def Pre_UvWRefIdeal (m : (ℓ : Loc Cert.UvWRefIdeal.nD Cert.UvWRefIdeal.τ Cert.UvWRefIdeal.sig) → Buf (Elt Ideal) ℓ) : Prop :=
  True

def Pre_UvX (m : (ℓ : Loc Cert.UvX.nD Cert.UvX.τ Cert.UvX.sig) → Buf (Elt Bits) ℓ) : Prop :=
  True

def Pre_UvXIdeal (m : (ℓ : Loc Cert.UvXIdeal.nD Cert.UvXIdeal.τ Cert.UvXIdeal.sig) → Buf (Elt Ideal) ℓ) : Prop :=
  True

def Pre_UvXRefIdeal (m : (ℓ : Loc Cert.UvXRefIdeal.nD Cert.UvXRefIdeal.τ Cert.UvXRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvX (m : (ℓ : Loc Cert.KvX.nD Cert.KvX.τ Cert.KvX.sig) → Buf (Elt Bits) ℓ) : Prop :=
  True

def Pre_KvXIdeal (m : (ℓ : Loc Cert.KvXIdeal.nD Cert.KvXIdeal.τ Cert.KvXIdeal.sig) → Buf (Elt Ideal) ℓ) : Prop :=
  True

def Pre_KvXRefIdeal (m : (ℓ : Loc Cert.KvXRefIdeal.nD Cert.KvXRefIdeal.τ Cert.KvXRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_Col (m : (ℓ : Loc Cert.Col.nD Cert.Col.τ Cert.Col.sig) → Buf (Elt Bits) ℓ) : Prop :=
  True

def Pre_ColIdeal (m : (ℓ : Loc Cert.ColIdeal.nD Cert.ColIdeal.τ Cert.ColIdeal.sig) → Buf (Elt Ideal) ℓ) : Prop :=
  True

def Pre_ColIdeal_finite_columns [hPre_finite_columns : Cert.Pre_finite_columns.Facts] (m : (ℓ : Loc Cert.ColIdeal.nD Cert.ColIdeal.τ Cert.ColIdeal.sig) → Buf (Elt Ideal) ℓ) : Prop :=
  ∀ c : Dev Cert.ColIdeal.nD,
    (Cert.Pre_finite_columns.fn (F := Ideal) (m ((c.tc : Thread Cert.ColIdeal.nD Cert.ColIdeal.τ).loc Cert.ColIdeal.main_arg0)) (m ((c.tc : Thread Cert.ColIdeal.nD Cert.ColIdeal.τ).loc Cert.ColIdeal.main_arg1)) (m ((c.tc : Thread Cert.ColIdeal.nD Cert.ColIdeal.τ).loc Cert.ColIdeal.main_arg2)) (m ((c.tc : Thread Cert.ColIdeal.nD Cert.ColIdeal.τ).loc Cert.ColIdeal.main_arg3))).1 = (fun _ => 1#1)
    ∧ (Cert.Pre_finite_columns.fn (F := Ideal) (m ((c.tc : Thread Cert.ColIdeal.nD Cert.ColIdeal.τ).loc Cert.ColIdeal.main_arg0)) (m ((c.tc : Thread Cert.ColIdeal.nD Cert.ColIdeal.τ).loc Cert.ColIdeal.main_arg1)) (m ((c.tc : Thread Cert.ColIdeal.nD Cert.ColIdeal.τ).loc Cert.ColIdeal.main_arg2)) (m ((c.tc : Thread Cert.ColIdeal.nD Cert.ColIdeal.τ).loc Cert.ColIdeal.main_arg3))).2 = (fun _ => 1#1)

def Pre_ColRefIdeal (m : (ℓ : Loc Cert.ColRefIdeal.nD Cert.ColRefIdeal.τ Cert.ColRefIdeal.sig) → Buf (Elt Ideal) ℓ) : Prop :=
  True

def Pre_ColRefIdeal_finite_columns [hPre_finite_columns : Cert.Pre_finite_columns.Facts] (m : (ℓ : Loc Cert.ColRefIdeal.nD Cert.ColRefIdeal.τ Cert.ColRefIdeal.sig) → Buf (Elt Ideal) ℓ) : Prop :=
  ∀ c : Dev Cert.ColRefIdeal.nD,
    (Cert.Pre_finite_columns.fn (F := Ideal) (m ((c.tc : Thread Cert.ColRefIdeal.nD Cert.ColRefIdeal.τ).loc Cert.ColRefIdeal.main_arg0)) (m ((c.tc : Thread Cert.ColRefIdeal.nD Cert.ColRefIdeal.τ).loc Cert.ColRefIdeal.main_arg1)) (m ((c.tc : Thread Cert.ColRefIdeal.nD Cert.ColRefIdeal.τ).loc Cert.ColRefIdeal.main_arg2)) (m ((c.tc : Thread Cert.ColRefIdeal.nD Cert.ColRefIdeal.τ).loc Cert.ColRefIdeal.main_arg3))).1 = (fun _ => 1#1)
    ∧ (Cert.Pre_finite_columns.fn (F := Ideal) (m ((c.tc : Thread Cert.ColRefIdeal.nD Cert.ColRefIdeal.τ).loc Cert.ColRefIdeal.main_arg0)) (m ((c.tc : Thread Cert.ColRefIdeal.nD Cert.ColRefIdeal.τ).loc Cert.ColRefIdeal.main_arg1)) (m ((c.tc : Thread Cert.ColRefIdeal.nD Cert.ColRefIdeal.τ).loc Cert.ColRefIdeal.main_arg2)) (m ((c.tc : Thread Cert.ColRefIdeal.nD Cert.ColRefIdeal.τ).loc Cert.ColRefIdeal.main_arg3))).2 = (fun _ => 1#1)

def Pre_ColX (m : (ℓ : Loc Cert.ColX.nD Cert.ColX.τ Cert.ColX.sig) → Buf (Elt Bits) ℓ) : Prop :=
  True

def Pre_ColXIdeal (m : (ℓ : Loc Cert.ColXIdeal.nD Cert.ColXIdeal.τ Cert.ColXIdeal.sig) → Buf (Elt Ideal) ℓ) : Prop :=
  True

def Pre_ColXIdeal_finite_columns_input [hPre_finite_columns_input : Cert.Pre_finite_columns_input.Facts] (m : (ℓ : Loc Cert.ColXIdeal.nD Cert.ColXIdeal.τ Cert.ColXIdeal.sig) → Buf (Elt Ideal) ℓ) : Prop :=
  ∀ c : Dev Cert.ColXIdeal.nD,
    (Cert.Pre_finite_columns_input.fn (F := Ideal) (m ((c.tc : Thread Cert.ColXIdeal.nD Cert.ColXIdeal.τ).loc Cert.ColXIdeal.main_arg0)) (m ((c.tc : Thread Cert.ColXIdeal.nD Cert.ColXIdeal.τ).loc Cert.ColXIdeal.main_arg1)) (m ((c.tc : Thread Cert.ColXIdeal.nD Cert.ColXIdeal.τ).loc Cert.ColXIdeal.main_arg2)) (m ((c.tc : Thread Cert.ColXIdeal.nD Cert.ColXIdeal.τ).loc Cert.ColXIdeal.main_arg3)) (m ((c.tc : Thread Cert.ColXIdeal.nD Cert.ColXIdeal.τ).loc Cert.ColXIdeal.main_arg4)) (m ((c.tc : Thread Cert.ColXIdeal.nD Cert.ColXIdeal.τ).loc Cert.ColXIdeal.main_arg5))).1 = (fun _ => 1#1)
    ∧ (Cert.Pre_finite_columns_input.fn (F := Ideal) (m ((c.tc : Thread Cert.ColXIdeal.nD Cert.ColXIdeal.τ).loc Cert.ColXIdeal.main_arg0)) (m ((c.tc : Thread Cert.ColXIdeal.nD Cert.ColXIdeal.τ).loc Cert.ColXIdeal.main_arg1)) (m ((c.tc : Thread Cert.ColXIdeal.nD Cert.ColXIdeal.τ).loc Cert.ColXIdeal.main_arg2)) (m ((c.tc : Thread Cert.ColXIdeal.nD Cert.ColXIdeal.τ).loc Cert.ColXIdeal.main_arg3)) (m ((c.tc : Thread Cert.ColXIdeal.nD Cert.ColXIdeal.τ).loc Cert.ColXIdeal.main_arg4)) (m ((c.tc : Thread Cert.ColXIdeal.nD Cert.ColXIdeal.τ).loc Cert.ColXIdeal.main_arg5))).2.1 = (fun _ => 1#1)
    ∧ (Cert.Pre_finite_columns_input.fn (F := Ideal) (m ((c.tc : Thread Cert.ColXIdeal.nD Cert.ColXIdeal.τ).loc Cert.ColXIdeal.main_arg0)) (m ((c.tc : Thread Cert.ColXIdeal.nD Cert.ColXIdeal.τ).loc Cert.ColXIdeal.main_arg1)) (m ((c.tc : Thread Cert.ColXIdeal.nD Cert.ColXIdeal.τ).loc Cert.ColXIdeal.main_arg2)) (m ((c.tc : Thread Cert.ColXIdeal.nD Cert.ColXIdeal.τ).loc Cert.ColXIdeal.main_arg3)) (m ((c.tc : Thread Cert.ColXIdeal.nD Cert.ColXIdeal.τ).loc Cert.ColXIdeal.main_arg4)) (m ((c.tc : Thread Cert.ColXIdeal.nD Cert.ColXIdeal.τ).loc Cert.ColXIdeal.main_arg5))).2.2.1 = (fun _ => 1#1)
    ∧ (Cert.Pre_finite_columns_input.fn (F := Ideal) (m ((c.tc : Thread Cert.ColXIdeal.nD Cert.ColXIdeal.τ).loc Cert.ColXIdeal.main_arg0)) (m ((c.tc : Thread Cert.ColXIdeal.nD Cert.ColXIdeal.τ).loc Cert.ColXIdeal.main_arg1)) (m ((c.tc : Thread Cert.ColXIdeal.nD Cert.ColXIdeal.τ).loc Cert.ColXIdeal.main_arg2)) (m ((c.tc : Thread Cert.ColXIdeal.nD Cert.ColXIdeal.τ).loc Cert.ColXIdeal.main_arg3)) (m ((c.tc : Thread Cert.ColXIdeal.nD Cert.ColXIdeal.τ).loc Cert.ColXIdeal.main_arg4)) (m ((c.tc : Thread Cert.ColXIdeal.nD Cert.ColXIdeal.τ).loc Cert.ColXIdeal.main_arg5))).2.2.2 = (fun _ => 1#1)

def Pre_ColXRefIdeal (m : (ℓ : Loc Cert.ColXRefIdeal.nD Cert.ColXRefIdeal.τ Cert.ColXRefIdeal.sig) → Buf (Elt Ideal) ℓ) : Prop :=
  True

def Pre_ColXRefIdeal_finite_columns_input [hPre_finite_columns_input : Cert.Pre_finite_columns_input.Facts] (m : (ℓ : Loc Cert.ColXRefIdeal.nD Cert.ColXRefIdeal.τ Cert.ColXRefIdeal.sig) → Buf (Elt Ideal) ℓ) : Prop :=
  ∀ c : Dev Cert.ColXRefIdeal.nD,
    (Cert.Pre_finite_columns_input.fn (F := Ideal) (m ((c.tc : Thread Cert.ColXRefIdeal.nD Cert.ColXRefIdeal.τ).loc Cert.ColXRefIdeal.main_arg0)) (m ((c.tc : Thread Cert.ColXRefIdeal.nD Cert.ColXRefIdeal.τ).loc Cert.ColXRefIdeal.main_arg1)) (m ((c.tc : Thread Cert.ColXRefIdeal.nD Cert.ColXRefIdeal.τ).loc Cert.ColXRefIdeal.main_arg2)) (m ((c.tc : Thread Cert.ColXRefIdeal.nD Cert.ColXRefIdeal.τ).loc Cert.ColXRefIdeal.main_arg3)) (m ((c.tc : Thread Cert.ColXRefIdeal.nD Cert.ColXRefIdeal.τ).loc Cert.ColXRefIdeal.main_arg4)) (m ((c.tc : Thread Cert.ColXRefIdeal.nD Cert.ColXRefIdeal.τ).loc Cert.ColXRefIdeal.main_arg5))).1 = (fun _ => 1#1)
    ∧ (Cert.Pre_finite_columns_input.fn (F := Ideal) (m ((c.tc : Thread Cert.ColXRefIdeal.nD Cert.ColXRefIdeal.τ).loc Cert.ColXRefIdeal.main_arg0)) (m ((c.tc : Thread Cert.ColXRefIdeal.nD Cert.ColXRefIdeal.τ).loc Cert.ColXRefIdeal.main_arg1)) (m ((c.tc : Thread Cert.ColXRefIdeal.nD Cert.ColXRefIdeal.τ).loc Cert.ColXRefIdeal.main_arg2)) (m ((c.tc : Thread Cert.ColXRefIdeal.nD Cert.ColXRefIdeal.τ).loc Cert.ColXRefIdeal.main_arg3)) (m ((c.tc : Thread Cert.ColXRefIdeal.nD Cert.ColXRefIdeal.τ).loc Cert.ColXRefIdeal.main_arg4)) (m ((c.tc : Thread Cert.ColXRefIdeal.nD Cert.ColXRefIdeal.τ).loc Cert.ColXRefIdeal.main_arg5))).2.1 = (fun _ => 1#1)
    ∧ (Cert.Pre_finite_columns_input.fn (F := Ideal) (m ((c.tc : Thread Cert.ColXRefIdeal.nD Cert.ColXRefIdeal.τ).loc Cert.ColXRefIdeal.main_arg0)) (m ((c.tc : Thread Cert.ColXRefIdeal.nD Cert.ColXRefIdeal.τ).loc Cert.ColXRefIdeal.main_arg1)) (m ((c.tc : Thread Cert.ColXRefIdeal.nD Cert.ColXRefIdeal.τ).loc Cert.ColXRefIdeal.main_arg2)) (m ((c.tc : Thread Cert.ColXRefIdeal.nD Cert.ColXRefIdeal.τ).loc Cert.ColXRefIdeal.main_arg3)) (m ((c.tc : Thread Cert.ColXRefIdeal.nD Cert.ColXRefIdeal.τ).loc Cert.ColXRefIdeal.main_arg4)) (m ((c.tc : Thread Cert.ColXRefIdeal.nD Cert.ColXRefIdeal.τ).loc Cert.ColXRefIdeal.main_arg5))).2.2.1 = (fun _ => 1#1)
    ∧ (Cert.Pre_finite_columns_input.fn (F := Ideal) (m ((c.tc : Thread Cert.ColXRefIdeal.nD Cert.ColXRefIdeal.τ).loc Cert.ColXRefIdeal.main_arg0)) (m ((c.tc : Thread Cert.ColXRefIdeal.nD Cert.ColXRefIdeal.τ).loc Cert.ColXRefIdeal.main_arg1)) (m ((c.tc : Thread Cert.ColXRefIdeal.nD Cert.ColXRefIdeal.τ).loc Cert.ColXRefIdeal.main_arg2)) (m ((c.tc : Thread Cert.ColXRefIdeal.nD Cert.ColXRefIdeal.τ).loc Cert.ColXRefIdeal.main_arg3)) (m ((c.tc : Thread Cert.ColXRefIdeal.nD Cert.ColXRefIdeal.τ).loc Cert.ColXRefIdeal.main_arg4)) (m ((c.tc : Thread Cert.ColXRefIdeal.nD Cert.ColXRefIdeal.τ).loc Cert.ColXRefIdeal.main_arg5))).2.2.2 = (fun _ => 1#1)

def Pre_ColW (m : (ℓ : Loc Cert.ColW.nD Cert.ColW.τ Cert.ColW.sig) → Buf (Elt Bits) ℓ) : Prop :=
  True

def Pre_ColWIdeal (m : (ℓ : Loc Cert.ColWIdeal.nD Cert.ColWIdeal.τ Cert.ColWIdeal.sig) → Buf (Elt Ideal) ℓ) : Prop :=
  True

def Pre_ColWIdeal_finite_columns_weight [hPre_finite_columns_weight : Cert.Pre_finite_columns_weight.Facts] (m : (ℓ : Loc Cert.ColWIdeal.nD Cert.ColWIdeal.τ Cert.ColWIdeal.sig) → Buf (Elt Ideal) ℓ) : Prop :=
  ∀ c : Dev Cert.ColWIdeal.nD,
    (Cert.Pre_finite_columns_weight.fn (F := Ideal) (m ((c.tc : Thread Cert.ColWIdeal.nD Cert.ColWIdeal.τ).loc Cert.ColWIdeal.main_arg0)) (m ((c.tc : Thread Cert.ColWIdeal.nD Cert.ColWIdeal.τ).loc Cert.ColWIdeal.main_arg1)) (m ((c.tc : Thread Cert.ColWIdeal.nD Cert.ColWIdeal.τ).loc Cert.ColWIdeal.main_arg2)) (m ((c.tc : Thread Cert.ColWIdeal.nD Cert.ColWIdeal.τ).loc Cert.ColWIdeal.main_arg3)) (m ((c.tc : Thread Cert.ColWIdeal.nD Cert.ColWIdeal.τ).loc Cert.ColWIdeal.main_arg4)) (m ((c.tc : Thread Cert.ColWIdeal.nD Cert.ColWIdeal.τ).loc Cert.ColWIdeal.main_arg5))).1 = (fun _ => 1#1)
    ∧ (Cert.Pre_finite_columns_weight.fn (F := Ideal) (m ((c.tc : Thread Cert.ColWIdeal.nD Cert.ColWIdeal.τ).loc Cert.ColWIdeal.main_arg0)) (m ((c.tc : Thread Cert.ColWIdeal.nD Cert.ColWIdeal.τ).loc Cert.ColWIdeal.main_arg1)) (m ((c.tc : Thread Cert.ColWIdeal.nD Cert.ColWIdeal.τ).loc Cert.ColWIdeal.main_arg2)) (m ((c.tc : Thread Cert.ColWIdeal.nD Cert.ColWIdeal.τ).loc Cert.ColWIdeal.main_arg3)) (m ((c.tc : Thread Cert.ColWIdeal.nD Cert.ColWIdeal.τ).loc Cert.ColWIdeal.main_arg4)) (m ((c.tc : Thread Cert.ColWIdeal.nD Cert.ColWIdeal.τ).loc Cert.ColWIdeal.main_arg5))).2.1 = (fun _ => 1#1)
    ∧ (Cert.Pre_finite_columns_weight.fn (F := Ideal) (m ((c.tc : Thread Cert.ColWIdeal.nD Cert.ColWIdeal.τ).loc Cert.ColWIdeal.main_arg0)) (m ((c.tc : Thread Cert.ColWIdeal.nD Cert.ColWIdeal.τ).loc Cert.ColWIdeal.main_arg1)) (m ((c.tc : Thread Cert.ColWIdeal.nD Cert.ColWIdeal.τ).loc Cert.ColWIdeal.main_arg2)) (m ((c.tc : Thread Cert.ColWIdeal.nD Cert.ColWIdeal.τ).loc Cert.ColWIdeal.main_arg3)) (m ((c.tc : Thread Cert.ColWIdeal.nD Cert.ColWIdeal.τ).loc Cert.ColWIdeal.main_arg4)) (m ((c.tc : Thread Cert.ColWIdeal.nD Cert.ColWIdeal.τ).loc Cert.ColWIdeal.main_arg5))).2.2.1 = (fun _ => 1#1)
    ∧ (Cert.Pre_finite_columns_weight.fn (F := Ideal) (m ((c.tc : Thread Cert.ColWIdeal.nD Cert.ColWIdeal.τ).loc Cert.ColWIdeal.main_arg0)) (m ((c.tc : Thread Cert.ColWIdeal.nD Cert.ColWIdeal.τ).loc Cert.ColWIdeal.main_arg1)) (m ((c.tc : Thread Cert.ColWIdeal.nD Cert.ColWIdeal.τ).loc Cert.ColWIdeal.main_arg2)) (m ((c.tc : Thread Cert.ColWIdeal.nD Cert.ColWIdeal.τ).loc Cert.ColWIdeal.main_arg3)) (m ((c.tc : Thread Cert.ColWIdeal.nD Cert.ColWIdeal.τ).loc Cert.ColWIdeal.main_arg4)) (m ((c.tc : Thread Cert.ColWIdeal.nD Cert.ColWIdeal.τ).loc Cert.ColWIdeal.main_arg5))).2.2.2 = (fun _ => 1#1)

def Pre_ColWRefIdeal (m : (ℓ : Loc Cert.ColWRefIdeal.nD Cert.ColWRefIdeal.τ Cert.ColWRefIdeal.sig) → Buf (Elt Ideal) ℓ) : Prop :=
  True

def Pre_ColWRefIdeal_finite_columns_weight [hPre_finite_columns_weight : Cert.Pre_finite_columns_weight.Facts] (m : (ℓ : Loc Cert.ColWRefIdeal.nD Cert.ColWRefIdeal.τ Cert.ColWRefIdeal.sig) → Buf (Elt Ideal) ℓ) : Prop :=
  ∀ c : Dev Cert.ColWRefIdeal.nD,
    (Cert.Pre_finite_columns_weight.fn (F := Ideal) (m ((c.tc : Thread Cert.ColWRefIdeal.nD Cert.ColWRefIdeal.τ).loc Cert.ColWRefIdeal.main_arg0)) (m ((c.tc : Thread Cert.ColWRefIdeal.nD Cert.ColWRefIdeal.τ).loc Cert.ColWRefIdeal.main_arg1)) (m ((c.tc : Thread Cert.ColWRefIdeal.nD Cert.ColWRefIdeal.τ).loc Cert.ColWRefIdeal.main_arg2)) (m ((c.tc : Thread Cert.ColWRefIdeal.nD Cert.ColWRefIdeal.τ).loc Cert.ColWRefIdeal.main_arg3)) (m ((c.tc : Thread Cert.ColWRefIdeal.nD Cert.ColWRefIdeal.τ).loc Cert.ColWRefIdeal.main_arg4)) (m ((c.tc : Thread Cert.ColWRefIdeal.nD Cert.ColWRefIdeal.τ).loc Cert.ColWRefIdeal.main_arg5))).1 = (fun _ => 1#1)
    ∧ (Cert.Pre_finite_columns_weight.fn (F := Ideal) (m ((c.tc : Thread Cert.ColWRefIdeal.nD Cert.ColWRefIdeal.τ).loc Cert.ColWRefIdeal.main_arg0)) (m ((c.tc : Thread Cert.ColWRefIdeal.nD Cert.ColWRefIdeal.τ).loc Cert.ColWRefIdeal.main_arg1)) (m ((c.tc : Thread Cert.ColWRefIdeal.nD Cert.ColWRefIdeal.τ).loc Cert.ColWRefIdeal.main_arg2)) (m ((c.tc : Thread Cert.ColWRefIdeal.nD Cert.ColWRefIdeal.τ).loc Cert.ColWRefIdeal.main_arg3)) (m ((c.tc : Thread Cert.ColWRefIdeal.nD Cert.ColWRefIdeal.τ).loc Cert.ColWRefIdeal.main_arg4)) (m ((c.tc : Thread Cert.ColWRefIdeal.nD Cert.ColWRefIdeal.τ).loc Cert.ColWRefIdeal.main_arg5))).2.1 = (fun _ => 1#1)
    ∧ (Cert.Pre_finite_columns_weight.fn (F := Ideal) (m ((c.tc : Thread Cert.ColWRefIdeal.nD Cert.ColWRefIdeal.τ).loc Cert.ColWRefIdeal.main_arg0)) (m ((c.tc : Thread Cert.ColWRefIdeal.nD Cert.ColWRefIdeal.τ).loc Cert.ColWRefIdeal.main_arg1)) (m ((c.tc : Thread Cert.ColWRefIdeal.nD Cert.ColWRefIdeal.τ).loc Cert.ColWRefIdeal.main_arg2)) (m ((c.tc : Thread Cert.ColWRefIdeal.nD Cert.ColWRefIdeal.τ).loc Cert.ColWRefIdeal.main_arg3)) (m ((c.tc : Thread Cert.ColWRefIdeal.nD Cert.ColWRefIdeal.τ).loc Cert.ColWRefIdeal.main_arg4)) (m ((c.tc : Thread Cert.ColWRefIdeal.nD Cert.ColWRefIdeal.τ).loc Cert.ColWRefIdeal.main_arg5))).2.2.1 = (fun _ => 1#1)
    ∧ (Cert.Pre_finite_columns_weight.fn (F := Ideal) (m ((c.tc : Thread Cert.ColWRefIdeal.nD Cert.ColWRefIdeal.τ).loc Cert.ColWRefIdeal.main_arg0)) (m ((c.tc : Thread Cert.ColWRefIdeal.nD Cert.ColWRefIdeal.τ).loc Cert.ColWRefIdeal.main_arg1)) (m ((c.tc : Thread Cert.ColWRefIdeal.nD Cert.ColWRefIdeal.τ).loc Cert.ColWRefIdeal.main_arg2)) (m ((c.tc : Thread Cert.ColWRefIdeal.nD Cert.ColWRefIdeal.τ).loc Cert.ColWRefIdeal.main_arg3)) (m ((c.tc : Thread Cert.ColWRefIdeal.nD Cert.ColWRefIdeal.τ).loc Cert.ColWRefIdeal.main_arg4)) (m ((c.tc : Thread Cert.ColWRefIdeal.nD Cert.ColWRefIdeal.τ).loc Cert.ColWRefIdeal.main_arg5))).2.2.2 = (fun _ => 1#1)

def Pre_Qu (m : (ℓ : Loc Cert.Qu.nD Cert.Qu.τ Cert.Qu.sig) → Buf (Elt Bits) ℓ) : Prop :=
  True

def Pre_QuIdeal (m : (ℓ : Loc Cert.QuIdeal.nD Cert.QuIdeal.τ Cert.QuIdeal.sig) → Buf (Elt Ideal) ℓ) : Prop :=
  True

def Pre_QuIdeal_finite_queries [hPre_finite_queries : Cert.Pre_finite_queries.Facts] (m : (ℓ : Loc Cert.QuIdeal.nD Cert.QuIdeal.τ Cert.QuIdeal.sig) → Buf (Elt Ideal) ℓ) : Prop :=
  ∀ c : Dev Cert.QuIdeal.nD,
    (Cert.Pre_finite_queries.fn (F := Ideal) (m ((c.tc : Thread Cert.QuIdeal.nD Cert.QuIdeal.τ).loc Cert.QuIdeal.main_arg0)) (m ((c.tc : Thread Cert.QuIdeal.nD Cert.QuIdeal.τ).loc Cert.QuIdeal.main_arg1)) (m ((c.tc : Thread Cert.QuIdeal.nD Cert.QuIdeal.τ).loc Cert.QuIdeal.main_arg2)) (m ((c.tc : Thread Cert.QuIdeal.nD Cert.QuIdeal.τ).loc Cert.QuIdeal.main_arg3))).1 = (fun _ => 1#1)
    ∧ (Cert.Pre_finite_queries.fn (F := Ideal) (m ((c.tc : Thread Cert.QuIdeal.nD Cert.QuIdeal.τ).loc Cert.QuIdeal.main_arg0)) (m ((c.tc : Thread Cert.QuIdeal.nD Cert.QuIdeal.τ).loc Cert.QuIdeal.main_arg1)) (m ((c.tc : Thread Cert.QuIdeal.nD Cert.QuIdeal.τ).loc Cert.QuIdeal.main_arg2)) (m ((c.tc : Thread Cert.QuIdeal.nD Cert.QuIdeal.τ).loc Cert.QuIdeal.main_arg3))).2 = (fun _ => 1#1)

def Pre_QuRefIdeal (m : (ℓ : Loc Cert.QuRefIdeal.nD Cert.QuRefIdeal.τ Cert.QuRefIdeal.sig) → Buf (Elt Ideal) ℓ) : Prop :=
  True

def Pre_QuRefIdeal_finite_queries [hPre_finite_queries : Cert.Pre_finite_queries.Facts] (m : (ℓ : Loc Cert.QuRefIdeal.nD Cert.QuRefIdeal.τ Cert.QuRefIdeal.sig) → Buf (Elt Ideal) ℓ) : Prop :=
  ∀ c : Dev Cert.QuRefIdeal.nD,
    (Cert.Pre_finite_queries.fn (F := Ideal) (m ((c.tc : Thread Cert.QuRefIdeal.nD Cert.QuRefIdeal.τ).loc Cert.QuRefIdeal.main_arg0)) (m ((c.tc : Thread Cert.QuRefIdeal.nD Cert.QuRefIdeal.τ).loc Cert.QuRefIdeal.main_arg1)) (m ((c.tc : Thread Cert.QuRefIdeal.nD Cert.QuRefIdeal.τ).loc Cert.QuRefIdeal.main_arg2)) (m ((c.tc : Thread Cert.QuRefIdeal.nD Cert.QuRefIdeal.τ).loc Cert.QuRefIdeal.main_arg3))).1 = (fun _ => 1#1)
    ∧ (Cert.Pre_finite_queries.fn (F := Ideal) (m ((c.tc : Thread Cert.QuRefIdeal.nD Cert.QuRefIdeal.τ).loc Cert.QuRefIdeal.main_arg0)) (m ((c.tc : Thread Cert.QuRefIdeal.nD Cert.QuRefIdeal.τ).loc Cert.QuRefIdeal.main_arg1)) (m ((c.tc : Thread Cert.QuRefIdeal.nD Cert.QuRefIdeal.τ).loc Cert.QuRefIdeal.main_arg2)) (m ((c.tc : Thread Cert.QuRefIdeal.nD Cert.QuRefIdeal.τ).loc Cert.QuRefIdeal.main_arg3))).2 = (fun _ => 1#1)

def Pre_QuX (m : (ℓ : Loc Cert.QuX.nD Cert.QuX.τ Cert.QuX.sig) → Buf (Elt Bits) ℓ) : Prop :=
  True

def Pre_QuXIdeal (m : (ℓ : Loc Cert.QuXIdeal.nD Cert.QuXIdeal.τ Cert.QuXIdeal.sig) → Buf (Elt Ideal) ℓ) : Prop :=
  True

def Pre_QuXIdeal_finite_queries_input [hPre_finite_queries_input : Cert.Pre_finite_queries_input.Facts] (m : (ℓ : Loc Cert.QuXIdeal.nD Cert.QuXIdeal.τ Cert.QuXIdeal.sig) → Buf (Elt Ideal) ℓ) : Prop :=
  ∀ c : Dev Cert.QuXIdeal.nD,
    (Cert.Pre_finite_queries_input.fn (F := Ideal) (m ((c.tc : Thread Cert.QuXIdeal.nD Cert.QuXIdeal.τ).loc Cert.QuXIdeal.main_arg0)) (m ((c.tc : Thread Cert.QuXIdeal.nD Cert.QuXIdeal.τ).loc Cert.QuXIdeal.main_arg1)) (m ((c.tc : Thread Cert.QuXIdeal.nD Cert.QuXIdeal.τ).loc Cert.QuXIdeal.main_arg2)) (m ((c.tc : Thread Cert.QuXIdeal.nD Cert.QuXIdeal.τ).loc Cert.QuXIdeal.main_arg3)) (m ((c.tc : Thread Cert.QuXIdeal.nD Cert.QuXIdeal.τ).loc Cert.QuXIdeal.main_arg4)) (m ((c.tc : Thread Cert.QuXIdeal.nD Cert.QuXIdeal.τ).loc Cert.QuXIdeal.main_arg5))).1 = (fun _ => 1#1)
    ∧ (Cert.Pre_finite_queries_input.fn (F := Ideal) (m ((c.tc : Thread Cert.QuXIdeal.nD Cert.QuXIdeal.τ).loc Cert.QuXIdeal.main_arg0)) (m ((c.tc : Thread Cert.QuXIdeal.nD Cert.QuXIdeal.τ).loc Cert.QuXIdeal.main_arg1)) (m ((c.tc : Thread Cert.QuXIdeal.nD Cert.QuXIdeal.τ).loc Cert.QuXIdeal.main_arg2)) (m ((c.tc : Thread Cert.QuXIdeal.nD Cert.QuXIdeal.τ).loc Cert.QuXIdeal.main_arg3)) (m ((c.tc : Thread Cert.QuXIdeal.nD Cert.QuXIdeal.τ).loc Cert.QuXIdeal.main_arg4)) (m ((c.tc : Thread Cert.QuXIdeal.nD Cert.QuXIdeal.τ).loc Cert.QuXIdeal.main_arg5))).2.1 = (fun _ => 1#1)
    ∧ (Cert.Pre_finite_queries_input.fn (F := Ideal) (m ((c.tc : Thread Cert.QuXIdeal.nD Cert.QuXIdeal.τ).loc Cert.QuXIdeal.main_arg0)) (m ((c.tc : Thread Cert.QuXIdeal.nD Cert.QuXIdeal.τ).loc Cert.QuXIdeal.main_arg1)) (m ((c.tc : Thread Cert.QuXIdeal.nD Cert.QuXIdeal.τ).loc Cert.QuXIdeal.main_arg2)) (m ((c.tc : Thread Cert.QuXIdeal.nD Cert.QuXIdeal.τ).loc Cert.QuXIdeal.main_arg3)) (m ((c.tc : Thread Cert.QuXIdeal.nD Cert.QuXIdeal.τ).loc Cert.QuXIdeal.main_arg4)) (m ((c.tc : Thread Cert.QuXIdeal.nD Cert.QuXIdeal.τ).loc Cert.QuXIdeal.main_arg5))).2.2.1 = (fun _ => 1#1)
    ∧ (Cert.Pre_finite_queries_input.fn (F := Ideal) (m ((c.tc : Thread Cert.QuXIdeal.nD Cert.QuXIdeal.τ).loc Cert.QuXIdeal.main_arg0)) (m ((c.tc : Thread Cert.QuXIdeal.nD Cert.QuXIdeal.τ).loc Cert.QuXIdeal.main_arg1)) (m ((c.tc : Thread Cert.QuXIdeal.nD Cert.QuXIdeal.τ).loc Cert.QuXIdeal.main_arg2)) (m ((c.tc : Thread Cert.QuXIdeal.nD Cert.QuXIdeal.τ).loc Cert.QuXIdeal.main_arg3)) (m ((c.tc : Thread Cert.QuXIdeal.nD Cert.QuXIdeal.τ).loc Cert.QuXIdeal.main_arg4)) (m ((c.tc : Thread Cert.QuXIdeal.nD Cert.QuXIdeal.τ).loc Cert.QuXIdeal.main_arg5))).2.2.2 = (fun _ => 1#1)

def Pre_QuXRefIdeal (m : (ℓ : Loc Cert.QuXRefIdeal.nD Cert.QuXRefIdeal.τ Cert.QuXRefIdeal.sig) → Buf (Elt Ideal) ℓ) : Prop :=
  True

def Pre_QuXRefIdeal_finite_queries_input [hPre_finite_queries_input : Cert.Pre_finite_queries_input.Facts] (m : (ℓ : Loc Cert.QuXRefIdeal.nD Cert.QuXRefIdeal.τ Cert.QuXRefIdeal.sig) → Buf (Elt Ideal) ℓ) : Prop :=
  ∀ c : Dev Cert.QuXRefIdeal.nD,
    (Cert.Pre_finite_queries_input.fn (F := Ideal) (m ((c.tc : Thread Cert.QuXRefIdeal.nD Cert.QuXRefIdeal.τ).loc Cert.QuXRefIdeal.main_arg0)) (m ((c.tc : Thread Cert.QuXRefIdeal.nD Cert.QuXRefIdeal.τ).loc Cert.QuXRefIdeal.main_arg1)) (m ((c.tc : Thread Cert.QuXRefIdeal.nD Cert.QuXRefIdeal.τ).loc Cert.QuXRefIdeal.main_arg2)) (m ((c.tc : Thread Cert.QuXRefIdeal.nD Cert.QuXRefIdeal.τ).loc Cert.QuXRefIdeal.main_arg3)) (m ((c.tc : Thread Cert.QuXRefIdeal.nD Cert.QuXRefIdeal.τ).loc Cert.QuXRefIdeal.main_arg4)) (m ((c.tc : Thread Cert.QuXRefIdeal.nD Cert.QuXRefIdeal.τ).loc Cert.QuXRefIdeal.main_arg5))).1 = (fun _ => 1#1)
    ∧ (Cert.Pre_finite_queries_input.fn (F := Ideal) (m ((c.tc : Thread Cert.QuXRefIdeal.nD Cert.QuXRefIdeal.τ).loc Cert.QuXRefIdeal.main_arg0)) (m ((c.tc : Thread Cert.QuXRefIdeal.nD Cert.QuXRefIdeal.τ).loc Cert.QuXRefIdeal.main_arg1)) (m ((c.tc : Thread Cert.QuXRefIdeal.nD Cert.QuXRefIdeal.τ).loc Cert.QuXRefIdeal.main_arg2)) (m ((c.tc : Thread Cert.QuXRefIdeal.nD Cert.QuXRefIdeal.τ).loc Cert.QuXRefIdeal.main_arg3)) (m ((c.tc : Thread Cert.QuXRefIdeal.nD Cert.QuXRefIdeal.τ).loc Cert.QuXRefIdeal.main_arg4)) (m ((c.tc : Thread Cert.QuXRefIdeal.nD Cert.QuXRefIdeal.τ).loc Cert.QuXRefIdeal.main_arg5))).2.1 = (fun _ => 1#1)
    ∧ (Cert.Pre_finite_queries_input.fn (F := Ideal) (m ((c.tc : Thread Cert.QuXRefIdeal.nD Cert.QuXRefIdeal.τ).loc Cert.QuXRefIdeal.main_arg0)) (m ((c.tc : Thread Cert.QuXRefIdeal.nD Cert.QuXRefIdeal.τ).loc Cert.QuXRefIdeal.main_arg1)) (m ((c.tc : Thread Cert.QuXRefIdeal.nD Cert.QuXRefIdeal.τ).loc Cert.QuXRefIdeal.main_arg2)) (m ((c.tc : Thread Cert.QuXRefIdeal.nD Cert.QuXRefIdeal.τ).loc Cert.QuXRefIdeal.main_arg3)) (m ((c.tc : Thread Cert.QuXRefIdeal.nD Cert.QuXRefIdeal.τ).loc Cert.QuXRefIdeal.main_arg4)) (m ((c.tc : Thread Cert.QuXRefIdeal.nD Cert.QuXRefIdeal.τ).loc Cert.QuXRefIdeal.main_arg5))).2.2.1 = (fun _ => 1#1)
    ∧ (Cert.Pre_finite_queries_input.fn (F := Ideal) (m ((c.tc : Thread Cert.QuXRefIdeal.nD Cert.QuXRefIdeal.τ).loc Cert.QuXRefIdeal.main_arg0)) (m ((c.tc : Thread Cert.QuXRefIdeal.nD Cert.QuXRefIdeal.τ).loc Cert.QuXRefIdeal.main_arg1)) (m ((c.tc : Thread Cert.QuXRefIdeal.nD Cert.QuXRefIdeal.τ).loc Cert.QuXRefIdeal.main_arg2)) (m ((c.tc : Thread Cert.QuXRefIdeal.nD Cert.QuXRefIdeal.τ).loc Cert.QuXRefIdeal.main_arg3)) (m ((c.tc : Thread Cert.QuXRefIdeal.nD Cert.QuXRefIdeal.τ).loc Cert.QuXRefIdeal.main_arg4)) (m ((c.tc : Thread Cert.QuXRefIdeal.nD Cert.QuXRefIdeal.τ).loc Cert.QuXRefIdeal.main_arg5))).2.2.2 = (fun _ => 1#1)

def Pre_QuW (m : (ℓ : Loc Cert.QuW.nD Cert.QuW.τ Cert.QuW.sig) → Buf (Elt Bits) ℓ) : Prop :=
  True

def Pre_QuWIdeal (m : (ℓ : Loc Cert.QuWIdeal.nD Cert.QuWIdeal.τ Cert.QuWIdeal.sig) → Buf (Elt Ideal) ℓ) : Prop :=
  True

def Pre_QuWIdeal_finite_queries_weight [hPre_finite_queries_weight : Cert.Pre_finite_queries_weight.Facts] (m : (ℓ : Loc Cert.QuWIdeal.nD Cert.QuWIdeal.τ Cert.QuWIdeal.sig) → Buf (Elt Ideal) ℓ) : Prop :=
  ∀ c : Dev Cert.QuWIdeal.nD,
    (Cert.Pre_finite_queries_weight.fn (F := Ideal) (m ((c.tc : Thread Cert.QuWIdeal.nD Cert.QuWIdeal.τ).loc Cert.QuWIdeal.main_arg0)) (m ((c.tc : Thread Cert.QuWIdeal.nD Cert.QuWIdeal.τ).loc Cert.QuWIdeal.main_arg1)) (m ((c.tc : Thread Cert.QuWIdeal.nD Cert.QuWIdeal.τ).loc Cert.QuWIdeal.main_arg2)) (m ((c.tc : Thread Cert.QuWIdeal.nD Cert.QuWIdeal.τ).loc Cert.QuWIdeal.main_arg3)) (m ((c.tc : Thread Cert.QuWIdeal.nD Cert.QuWIdeal.τ).loc Cert.QuWIdeal.main_arg4)) (m ((c.tc : Thread Cert.QuWIdeal.nD Cert.QuWIdeal.τ).loc Cert.QuWIdeal.main_arg5))).1 = (fun _ => 1#1)
    ∧ (Cert.Pre_finite_queries_weight.fn (F := Ideal) (m ((c.tc : Thread Cert.QuWIdeal.nD Cert.QuWIdeal.τ).loc Cert.QuWIdeal.main_arg0)) (m ((c.tc : Thread Cert.QuWIdeal.nD Cert.QuWIdeal.τ).loc Cert.QuWIdeal.main_arg1)) (m ((c.tc : Thread Cert.QuWIdeal.nD Cert.QuWIdeal.τ).loc Cert.QuWIdeal.main_arg2)) (m ((c.tc : Thread Cert.QuWIdeal.nD Cert.QuWIdeal.τ).loc Cert.QuWIdeal.main_arg3)) (m ((c.tc : Thread Cert.QuWIdeal.nD Cert.QuWIdeal.τ).loc Cert.QuWIdeal.main_arg4)) (m ((c.tc : Thread Cert.QuWIdeal.nD Cert.QuWIdeal.τ).loc Cert.QuWIdeal.main_arg5))).2.1 = (fun _ => 1#1)
    ∧ (Cert.Pre_finite_queries_weight.fn (F := Ideal) (m ((c.tc : Thread Cert.QuWIdeal.nD Cert.QuWIdeal.τ).loc Cert.QuWIdeal.main_arg0)) (m ((c.tc : Thread Cert.QuWIdeal.nD Cert.QuWIdeal.τ).loc Cert.QuWIdeal.main_arg1)) (m ((c.tc : Thread Cert.QuWIdeal.nD Cert.QuWIdeal.τ).loc Cert.QuWIdeal.main_arg2)) (m ((c.tc : Thread Cert.QuWIdeal.nD Cert.QuWIdeal.τ).loc Cert.QuWIdeal.main_arg3)) (m ((c.tc : Thread Cert.QuWIdeal.nD Cert.QuWIdeal.τ).loc Cert.QuWIdeal.main_arg4)) (m ((c.tc : Thread Cert.QuWIdeal.nD Cert.QuWIdeal.τ).loc Cert.QuWIdeal.main_arg5))).2.2.1 = (fun _ => 1#1)
    ∧ (Cert.Pre_finite_queries_weight.fn (F := Ideal) (m ((c.tc : Thread Cert.QuWIdeal.nD Cert.QuWIdeal.τ).loc Cert.QuWIdeal.main_arg0)) (m ((c.tc : Thread Cert.QuWIdeal.nD Cert.QuWIdeal.τ).loc Cert.QuWIdeal.main_arg1)) (m ((c.tc : Thread Cert.QuWIdeal.nD Cert.QuWIdeal.τ).loc Cert.QuWIdeal.main_arg2)) (m ((c.tc : Thread Cert.QuWIdeal.nD Cert.QuWIdeal.τ).loc Cert.QuWIdeal.main_arg3)) (m ((c.tc : Thread Cert.QuWIdeal.nD Cert.QuWIdeal.τ).loc Cert.QuWIdeal.main_arg4)) (m ((c.tc : Thread Cert.QuWIdeal.nD Cert.QuWIdeal.τ).loc Cert.QuWIdeal.main_arg5))).2.2.2 = (fun _ => 1#1)

def Pre_QuWRefIdeal (m : (ℓ : Loc Cert.QuWRefIdeal.nD Cert.QuWRefIdeal.τ Cert.QuWRefIdeal.sig) → Buf (Elt Ideal) ℓ) : Prop :=
  True

def Pre_QuWRefIdeal_finite_queries_weight [hPre_finite_queries_weight : Cert.Pre_finite_queries_weight.Facts] (m : (ℓ : Loc Cert.QuWRefIdeal.nD Cert.QuWRefIdeal.τ Cert.QuWRefIdeal.sig) → Buf (Elt Ideal) ℓ) : Prop :=
  ∀ c : Dev Cert.QuWRefIdeal.nD,
    (Cert.Pre_finite_queries_weight.fn (F := Ideal) (m ((c.tc : Thread Cert.QuWRefIdeal.nD Cert.QuWRefIdeal.τ).loc Cert.QuWRefIdeal.main_arg0)) (m ((c.tc : Thread Cert.QuWRefIdeal.nD Cert.QuWRefIdeal.τ).loc Cert.QuWRefIdeal.main_arg1)) (m ((c.tc : Thread Cert.QuWRefIdeal.nD Cert.QuWRefIdeal.τ).loc Cert.QuWRefIdeal.main_arg2)) (m ((c.tc : Thread Cert.QuWRefIdeal.nD Cert.QuWRefIdeal.τ).loc Cert.QuWRefIdeal.main_arg3)) (m ((c.tc : Thread Cert.QuWRefIdeal.nD Cert.QuWRefIdeal.τ).loc Cert.QuWRefIdeal.main_arg4)) (m ((c.tc : Thread Cert.QuWRefIdeal.nD Cert.QuWRefIdeal.τ).loc Cert.QuWRefIdeal.main_arg5))).1 = (fun _ => 1#1)
    ∧ (Cert.Pre_finite_queries_weight.fn (F := Ideal) (m ((c.tc : Thread Cert.QuWRefIdeal.nD Cert.QuWRefIdeal.τ).loc Cert.QuWRefIdeal.main_arg0)) (m ((c.tc : Thread Cert.QuWRefIdeal.nD Cert.QuWRefIdeal.τ).loc Cert.QuWRefIdeal.main_arg1)) (m ((c.tc : Thread Cert.QuWRefIdeal.nD Cert.QuWRefIdeal.τ).loc Cert.QuWRefIdeal.main_arg2)) (m ((c.tc : Thread Cert.QuWRefIdeal.nD Cert.QuWRefIdeal.τ).loc Cert.QuWRefIdeal.main_arg3)) (m ((c.tc : Thread Cert.QuWRefIdeal.nD Cert.QuWRefIdeal.τ).loc Cert.QuWRefIdeal.main_arg4)) (m ((c.tc : Thread Cert.QuWRefIdeal.nD Cert.QuWRefIdeal.τ).loc Cert.QuWRefIdeal.main_arg5))).2.1 = (fun _ => 1#1)
    ∧ (Cert.Pre_finite_queries_weight.fn (F := Ideal) (m ((c.tc : Thread Cert.QuWRefIdeal.nD Cert.QuWRefIdeal.τ).loc Cert.QuWRefIdeal.main_arg0)) (m ((c.tc : Thread Cert.QuWRefIdeal.nD Cert.QuWRefIdeal.τ).loc Cert.QuWRefIdeal.main_arg1)) (m ((c.tc : Thread Cert.QuWRefIdeal.nD Cert.QuWRefIdeal.τ).loc Cert.QuWRefIdeal.main_arg2)) (m ((c.tc : Thread Cert.QuWRefIdeal.nD Cert.QuWRefIdeal.τ).loc Cert.QuWRefIdeal.main_arg3)) (m ((c.tc : Thread Cert.QuWRefIdeal.nD Cert.QuWRefIdeal.τ).loc Cert.QuWRefIdeal.main_arg4)) (m ((c.tc : Thread Cert.QuWRefIdeal.nD Cert.QuWRefIdeal.τ).loc Cert.QuWRefIdeal.main_arg5))).2.2.1 = (fun _ => 1#1)
    ∧ (Cert.Pre_finite_queries_weight.fn (F := Ideal) (m ((c.tc : Thread Cert.QuWRefIdeal.nD Cert.QuWRefIdeal.τ).loc Cert.QuWRefIdeal.main_arg0)) (m ((c.tc : Thread Cert.QuWRefIdeal.nD Cert.QuWRefIdeal.τ).loc Cert.QuWRefIdeal.main_arg1)) (m ((c.tc : Thread Cert.QuWRefIdeal.nD Cert.QuWRefIdeal.τ).loc Cert.QuWRefIdeal.main_arg2)) (m ((c.tc : Thread Cert.QuWRefIdeal.nD Cert.QuWRefIdeal.τ).loc Cert.QuWRefIdeal.main_arg3)) (m ((c.tc : Thread Cert.QuWRefIdeal.nD Cert.QuWRefIdeal.τ).loc Cert.QuWRefIdeal.main_arg4)) (m ((c.tc : Thread Cert.QuWRefIdeal.nD Cert.QuWRefIdeal.τ).loc Cert.QuWRefIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1)
      ∧ r.2.mem ((c.tc : Thread Cert.WGate.nD Cert.WGate.τ).loc Cert.WGate.main_arg2) = m ((c.tc : Thread Cert.WGate.nD Cert.WGate.τ).loc Cert.WGate.main_arg2))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1)
      ∧ r.2.mem ((c.tc : Thread Cert.WGateIdeal.nD Cert.WGateIdeal.τ).loc Cert.WGateIdeal.main_arg2) = m ((c.tc : Thread Cert.WGateIdeal.nD Cert.WGateIdeal.τ).loc Cert.WGateIdeal.main_arg2))
      ∧ r.2.sem = fun _ => 0)

def quiescent_WGateRefIdeal [hWGateRefIdeal : Cert.WGateRefIdeal.Facts] : Prop :=
  ∀ (m : (ℓ : Loc Cert.WGateRefIdeal.nD Cert.WGateRefIdeal.τ Cert.WGateRefIdeal.sig) → Buf (Elt Ideal) ℓ) (g : Dev Cert.WGateRefIdeal.nD → PrngReg), Pre_WGateRefIdeal m →
    θ_run (Cert.WGateRefIdeal.defs (F := Ideal)) (onTc (τ := Cert.WGateRefIdeal.τ) (Cert.WGateRefIdeal.main (F := Ideal))) ⟨m, fun _ => 0, g⟩ (fun r => (∀ c : Dev Cert.WGateRefIdeal.nD,
      r.2.mem ((c.tc : Thread Cert.WGateRefIdeal.nD Cert.WGateRefIdeal.τ).loc Cert.WGateRefIdeal.main_arg0) = m ((c.tc : Thread Cert.WGateRefIdeal.nD Cert.WGateRefIdeal.τ).loc Cert.WGateRefIdeal.main_arg0)
      ∧ r.2.mem ((c.tc : Thread Cert.WGateRefIdeal.nD Cert.WGateRefIdeal.τ).loc Cert.WGateRefIdeal.main_arg1) = m ((c.tc : Thread Cert.WGateRefIdeal.nD Cert.WGateRefIdeal.τ).loc Cert.WGateRefIdeal.main_arg1)
      ∧ r.2.mem ((c.tc : Thread Cert.WGateRefIdeal.nD Cert.WGateRefIdeal.τ).loc Cert.WGateRefIdeal.main_arg2) = m ((c.tc : Thread Cert.WGateRefIdeal.nD Cert.WGateRefIdeal.τ).loc Cert.WGateRefIdeal.main_arg2))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1)
      ∧ r.2.mem ((c.tc : Thread Cert.WUp.nD Cert.WUp.τ).loc Cert.WUp.main_arg2) = m ((c.tc : Thread Cert.WUp.nD Cert.WUp.τ).loc Cert.WUp.main_arg2))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1)
      ∧ r.2.mem ((c.tc : Thread Cert.WUpIdeal.nD Cert.WUpIdeal.τ).loc Cert.WUpIdeal.main_arg2) = m ((c.tc : Thread Cert.WUpIdeal.nD Cert.WUpIdeal.τ).loc Cert.WUpIdeal.main_arg2))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1)
      ∧ r.2.mem ((c.tc : Thread Cert.WUpRefIdeal.nD Cert.WUpRefIdeal.τ).loc Cert.WUpRefIdeal.main_arg2) = m ((c.tc : Thread Cert.WUpRefIdeal.nD Cert.WUpRefIdeal.τ).loc Cert.WUpRefIdeal.main_arg2))
      ∧ r.2.sem = fun _ => 0)

def quiescent_HnGate [hHnGate : Cert.HnGate.Facts] : Prop :=
  ∀ (m : (ℓ : Loc Cert.HnGate.nD Cert.HnGate.τ Cert.HnGate.sig) → Buf (Elt Bits) ℓ) (g : Dev Cert.HnGate.nD → PrngReg), Pre_HnGate m →
    θ_run (Cert.HnGate.defs (F := Bits)) (onTc (τ := Cert.HnGate.τ) (Cert.HnGate.main (F := Bits))) ⟨m, fun _ => 0, g⟩ (fun r => (∀ c : Dev Cert.HnGate.nD,
      r.2.mem ((c.tc : Thread Cert.HnGate.nD Cert.HnGate.τ).loc Cert.HnGate.main_arg0) = m ((c.tc : Thread Cert.HnGate.nD Cert.HnGate.τ).loc Cert.HnGate.main_arg0)
      ∧ r.2.mem ((c.tc : Thread Cert.HnGate.nD Cert.HnGate.τ).loc Cert.HnGate.main_arg1) = m ((c.tc : Thread Cert.HnGate.nD Cert.HnGate.τ).loc Cert.HnGate.main_arg1)
      ∧ r.2.mem ((c.tc : Thread Cert.HnGate.nD Cert.HnGate.τ).loc Cert.HnGate.main_arg2) = m ((c.tc : Thread Cert.HnGate.nD Cert.HnGate.τ).loc Cert.HnGate.main_arg2))
      ∧ r.2.sem = fun _ => 0)

def quiescent_HnGateIdeal [hHnGateIdeal : Cert.HnGateIdeal.Facts] : Prop :=
  ∀ (m : (ℓ : Loc Cert.HnGateIdeal.nD Cert.HnGateIdeal.τ Cert.HnGateIdeal.sig) → Buf (Elt Ideal) ℓ) (g : Dev Cert.HnGateIdeal.nD → PrngReg), Pre_HnGateIdeal m →
    θ_run (Cert.HnGateIdeal.defs (F := Ideal)) (onTc (τ := Cert.HnGateIdeal.τ) (Cert.HnGateIdeal.main (F := Ideal))) ⟨m, fun _ => 0, g⟩ (fun r => (∀ c : Dev Cert.HnGateIdeal.nD,
      r.2.mem ((c.tc : Thread Cert.HnGateIdeal.nD Cert.HnGateIdeal.τ).loc Cert.HnGateIdeal.main_arg0) = m ((c.tc : Thread Cert.HnGateIdeal.nD Cert.HnGateIdeal.τ).loc Cert.HnGateIdeal.main_arg0)
      ∧ r.2.mem ((c.tc : Thread Cert.HnGateIdeal.nD Cert.HnGateIdeal.τ).loc Cert.HnGateIdeal.main_arg1) = m ((c.tc : Thread Cert.HnGateIdeal.nD Cert.HnGateIdeal.τ).loc Cert.HnGateIdeal.main_arg1)
      ∧ r.2.mem ((c.tc : Thread Cert.HnGateIdeal.nD Cert.HnGateIdeal.τ).loc Cert.HnGateIdeal.main_arg2) = m ((c.tc : Thread Cert.HnGateIdeal.nD Cert.HnGateIdeal.τ).loc Cert.HnGateIdeal.main_arg2))
      ∧ r.2.sem = fun _ => 0)

def quiescent_HnGateRefIdeal [hHnGateRefIdeal : Cert.HnGateRefIdeal.Facts] : Prop :=
  ∀ (m : (ℓ : Loc Cert.HnGateRefIdeal.nD Cert.HnGateRefIdeal.τ Cert.HnGateRefIdeal.sig) → Buf (Elt Ideal) ℓ) (g : Dev Cert.HnGateRefIdeal.nD → PrngReg), Pre_HnGateRefIdeal m →
    θ_run (Cert.HnGateRefIdeal.defs (F := Ideal)) (onTc (τ := Cert.HnGateRefIdeal.τ) (Cert.HnGateRefIdeal.main (F := Ideal))) ⟨m, fun _ => 0, g⟩ (fun r => (∀ c : Dev Cert.HnGateRefIdeal.nD,
      r.2.mem ((c.tc : Thread Cert.HnGateRefIdeal.nD Cert.HnGateRefIdeal.τ).loc Cert.HnGateRefIdeal.main_arg0) = m ((c.tc : Thread Cert.HnGateRefIdeal.nD Cert.HnGateRefIdeal.τ).loc Cert.HnGateRefIdeal.main_arg0)
      ∧ r.2.mem ((c.tc : Thread Cert.HnGateRefIdeal.nD Cert.HnGateRefIdeal.τ).loc Cert.HnGateRefIdeal.main_arg1) = m ((c.tc : Thread Cert.HnGateRefIdeal.nD Cert.HnGateRefIdeal.τ).loc Cert.HnGateRefIdeal.main_arg1)
      ∧ r.2.mem ((c.tc : Thread Cert.HnGateRefIdeal.nD Cert.HnGateRefIdeal.τ).loc Cert.HnGateRefIdeal.main_arg2) = m ((c.tc : Thread Cert.HnGateRefIdeal.nD Cert.HnGateRefIdeal.τ).loc Cert.HnGateRefIdeal.main_arg2))
      ∧ r.2.sem = fun _ => 0)

def quiescent_HnUp [hHnUp : Cert.HnUp.Facts] : Prop :=
  ∀ (m : (ℓ : Loc Cert.HnUp.nD Cert.HnUp.τ Cert.HnUp.sig) → Buf (Elt Bits) ℓ) (g : Dev Cert.HnUp.nD → PrngReg), Pre_HnUp m →
    θ_run (Cert.HnUp.defs (F := Bits)) (onTc (τ := Cert.HnUp.τ) (Cert.HnUp.main (F := Bits))) ⟨m, fun _ => 0, g⟩ (fun r => (∀ c : Dev Cert.HnUp.nD,
      r.2.mem ((c.tc : Thread Cert.HnUp.nD Cert.HnUp.τ).loc Cert.HnUp.main_arg0) = m ((c.tc : Thread Cert.HnUp.nD Cert.HnUp.τ).loc Cert.HnUp.main_arg0)
      ∧ r.2.mem ((c.tc : Thread Cert.HnUp.nD Cert.HnUp.τ).loc Cert.HnUp.main_arg1) = m ((c.tc : Thread Cert.HnUp.nD Cert.HnUp.τ).loc Cert.HnUp.main_arg1)
      ∧ r.2.mem ((c.tc : Thread Cert.HnUp.nD Cert.HnUp.τ).loc Cert.HnUp.main_arg2) = m ((c.tc : Thread Cert.HnUp.nD Cert.HnUp.τ).loc Cert.HnUp.main_arg2)
      ∧ r.2.mem ((c.tc : Thread Cert.HnUp.nD Cert.HnUp.τ).loc Cert.HnUp.main_arg3) = m ((c.tc : Thread Cert.HnUp.nD Cert.HnUp.τ).loc Cert.HnUp.main_arg3))
      ∧ r.2.sem = fun _ => 0)

def quiescent_HnUpIdeal [hHnUpIdeal : Cert.HnUpIdeal.Facts] : Prop :=
  ∀ (m : (ℓ : Loc Cert.HnUpIdeal.nD Cert.HnUpIdeal.τ Cert.HnUpIdeal.sig) → Buf (Elt Ideal) ℓ) (g : Dev Cert.HnUpIdeal.nD → PrngReg), Pre_HnUpIdeal m →
    θ_run (Cert.HnUpIdeal.defs (F := Ideal)) (onTc (τ := Cert.HnUpIdeal.τ) (Cert.HnUpIdeal.main (F := Ideal))) ⟨m, fun _ => 0, g⟩ (fun r => (∀ c : Dev Cert.HnUpIdeal.nD,
      r.2.mem ((c.tc : Thread Cert.HnUpIdeal.nD Cert.HnUpIdeal.τ).loc Cert.HnUpIdeal.main_arg0) = m ((c.tc : Thread Cert.HnUpIdeal.nD Cert.HnUpIdeal.τ).loc Cert.HnUpIdeal.main_arg0)
      ∧ r.2.mem ((c.tc : Thread Cert.HnUpIdeal.nD Cert.HnUpIdeal.τ).loc Cert.HnUpIdeal.main_arg1) = m ((c.tc : Thread Cert.HnUpIdeal.nD Cert.HnUpIdeal.τ).loc Cert.HnUpIdeal.main_arg1)
      ∧ r.2.mem ((c.tc : Thread Cert.HnUpIdeal.nD Cert.HnUpIdeal.τ).loc Cert.HnUpIdeal.main_arg2) = m ((c.tc : Thread Cert.HnUpIdeal.nD Cert.HnUpIdeal.τ).loc Cert.HnUpIdeal.main_arg2)
      ∧ r.2.mem ((c.tc : Thread Cert.HnUpIdeal.nD Cert.HnUpIdeal.τ).loc Cert.HnUpIdeal.main_arg3) = m ((c.tc : Thread Cert.HnUpIdeal.nD Cert.HnUpIdeal.τ).loc Cert.HnUpIdeal.main_arg3))
      ∧ r.2.sem = fun _ => 0)

def quiescent_HnUpRefIdeal [hHnUpRefIdeal : Cert.HnUpRefIdeal.Facts] : Prop :=
  ∀ (m : (ℓ : Loc Cert.HnUpRefIdeal.nD Cert.HnUpRefIdeal.τ Cert.HnUpRefIdeal.sig) → Buf (Elt Ideal) ℓ) (g : Dev Cert.HnUpRefIdeal.nD → PrngReg), Pre_HnUpRefIdeal m →
    θ_run (Cert.HnUpRefIdeal.defs (F := Ideal)) (onTc (τ := Cert.HnUpRefIdeal.τ) (Cert.HnUpRefIdeal.main (F := Ideal))) ⟨m, fun _ => 0, g⟩ (fun r => (∀ c : Dev Cert.HnUpRefIdeal.nD,
      r.2.mem ((c.tc : Thread Cert.HnUpRefIdeal.nD Cert.HnUpRefIdeal.τ).loc Cert.HnUpRefIdeal.main_arg0) = m ((c.tc : Thread Cert.HnUpRefIdeal.nD Cert.HnUpRefIdeal.τ).loc Cert.HnUpRefIdeal.main_arg0)
      ∧ r.2.mem ((c.tc : Thread Cert.HnUpRefIdeal.nD Cert.HnUpRefIdeal.τ).loc Cert.HnUpRefIdeal.main_arg1) = m ((c.tc : Thread Cert.HnUpRefIdeal.nD Cert.HnUpRefIdeal.τ).loc Cert.HnUpRefIdeal.main_arg1)
      ∧ r.2.mem ((c.tc : Thread Cert.HnUpRefIdeal.nD Cert.HnUpRefIdeal.τ).loc Cert.HnUpRefIdeal.main_arg2) = m ((c.tc : Thread Cert.HnUpRefIdeal.nD Cert.HnUpRefIdeal.τ).loc Cert.HnUpRefIdeal.main_arg2)
      ∧ r.2.mem ((c.tc : Thread Cert.HnUpRefIdeal.nD Cert.HnUpRefIdeal.τ).loc Cert.HnUpRefIdeal.main_arg3) = m ((c.tc : Thread Cert.HnUpRefIdeal.nD Cert.HnUpRefIdeal.τ).loc Cert.HnUpRefIdeal.main_arg3))
      ∧ r.2.sem = fun _ => 0)

def quiescent_FGate [hFGate : Cert.FGate.Facts] : Prop :=
  ∀ (m : (ℓ : Loc Cert.FGate.nD Cert.FGate.τ Cert.FGate.sig) → Buf (Elt Bits) ℓ) (g : Dev Cert.FGate.nD → PrngReg), Pre_FGate m →
    θ_run (Cert.FGate.defs (F := Bits)) (onTc (τ := Cert.FGate.τ) (Cert.FGate.main (F := Bits))) ⟨m, fun _ => 0, g⟩ (fun r => (∀ c : Dev Cert.FGate.nD,
      r.2.mem ((c.tc : Thread Cert.FGate.nD Cert.FGate.τ).loc Cert.FGate.main_arg0) = m ((c.tc : Thread Cert.FGate.nD Cert.FGate.τ).loc Cert.FGate.main_arg0)
      ∧ r.2.mem ((c.tc : Thread Cert.FGate.nD Cert.FGate.τ).loc Cert.FGate.main_arg1) = m ((c.tc : Thread Cert.FGate.nD Cert.FGate.τ).loc Cert.FGate.main_arg1))
      ∧ r.2.sem = fun _ => 0)

def quiescent_FGateIdeal [hFGateIdeal : Cert.FGateIdeal.Facts] : Prop :=
  ∀ (m : (ℓ : Loc Cert.FGateIdeal.nD Cert.FGateIdeal.τ Cert.FGateIdeal.sig) → Buf (Elt Ideal) ℓ) (g : Dev Cert.FGateIdeal.nD → PrngReg), Pre_FGateIdeal m →
    θ_run (Cert.FGateIdeal.defs (F := Ideal)) (onTc (τ := Cert.FGateIdeal.τ) (Cert.FGateIdeal.main (F := Ideal))) ⟨m, fun _ => 0, g⟩ (fun r => (∀ c : Dev Cert.FGateIdeal.nD,
      r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
      ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1))
      ∧ r.2.sem = fun _ => 0)

def quiescent_FGateRefIdeal [hFGateRefIdeal : Cert.FGateRefIdeal.Facts] : Prop :=
  ∀ (m : (ℓ : Loc Cert.FGateRefIdeal.nD Cert.FGateRefIdeal.τ Cert.FGateRefIdeal.sig) → Buf (Elt Ideal) ℓ) (g : Dev Cert.FGateRefIdeal.nD → PrngReg), Pre_FGateRefIdeal m →
    θ_run (Cert.FGateRefIdeal.defs (F := Ideal)) (onTc (τ := Cert.FGateRefIdeal.τ) (Cert.FGateRefIdeal.main (F := Ideal))) ⟨m, fun _ => 0, g⟩ (fun r => (∀ c : Dev Cert.FGateRefIdeal.nD,
      r.2.mem ((c.tc : Thread Cert.FGateRefIdeal.nD Cert.FGateRefIdeal.τ).loc Cert.FGateRefIdeal.main_arg0) = m ((c.tc : Thread Cert.FGateRefIdeal.nD Cert.FGateRefIdeal.τ).loc Cert.FGateRefIdeal.main_arg0)
      ∧ r.2.mem ((c.tc : Thread Cert.FGateRefIdeal.nD Cert.FGateRefIdeal.τ).loc Cert.FGateRefIdeal.main_arg1) = m ((c.tc : Thread Cert.FGateRefIdeal.nD Cert.FGateRefIdeal.τ).loc Cert.FGateRefIdeal.main_arg1))
      ∧ r.2.sem = fun _ => 0)

def quiescent_FUp [hFUp : Cert.FUp.Facts] : Prop :=
  ∀ (m : (ℓ : Loc Cert.FUp.nD Cert.FUp.τ Cert.FUp.sig) → Buf (Elt Bits) ℓ) (g : Dev Cert.FUp.nD → PrngReg), Pre_FUp m →
    θ_run (Cert.FUp.defs (F := Bits)) (onTc (τ := Cert.FUp.τ) (Cert.FUp.main (F := Bits))) ⟨m, fun _ => 0, g⟩ (fun r => (∀ c : Dev Cert.FUp.nD,
      r.2.mem ((c.tc : Thread Cert.FUp.nD Cert.FUp.τ).loc Cert.FUp.main_arg0) = m ((c.tc : Thread Cert.FUp.nD Cert.FUp.τ).loc Cert.FUp.main_arg0)
      ∧ r.2.mem ((c.tc : Thread Cert.FUp.nD Cert.FUp.τ).loc Cert.FUp.main_arg1) = m ((c.tc : Thread Cert.FUp.nD Cert.FUp.τ).loc Cert.FUp.main_arg1)
      ∧ r.2.mem ((c.tc : Thread Cert.FUp.nD Cert.FUp.τ).loc Cert.FUp.main_arg2) = m ((c.tc : Thread Cert.FUp.nD Cert.FUp.τ).loc Cert.FUp.main_arg2))
      ∧ r.2.sem = fun _ => 0)

def quiescent_FUpIdeal [hFUpIdeal : Cert.FUpIdeal.Facts] : Prop :=
  ∀ (m : (ℓ : Loc Cert.FUpIdeal.nD Cert.FUpIdeal.τ Cert.FUpIdeal.sig) → Buf (Elt Ideal) ℓ) (g : Dev Cert.FUpIdeal.nD → PrngReg), Pre_FUpIdeal m →
    θ_run (Cert.FUpIdeal.defs (F := Ideal)) (onTc (τ := Cert.FUpIdeal.τ) (Cert.FUpIdeal.main (F := Ideal))) ⟨m, fun _ => 0, g⟩ (fun r => (∀ c : Dev Cert.FUpIdeal.nD,
      r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
      ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1)
      ∧ r.2.mem ((c.tc : Thread Cert.FUpIdeal.nD Cert.FUpIdeal.τ).loc Cert.FUpIdeal.main_arg2) = m ((c.tc : Thread Cert.FUpIdeal.nD Cert.FUpIdeal.τ).loc Cert.FUpIdeal.main_arg2))
      ∧ r.2.sem = fun _ => 0)

def quiescent_FUpRefIdeal [hFUpRefIdeal : Cert.FUpRefIdeal.Facts] : Prop :=
  ∀ (m : (ℓ : Loc Cert.FUpRefIdeal.nD Cert.FUpRefIdeal.τ Cert.FUpRefIdeal.sig) → Buf (Elt Ideal) ℓ) (g : Dev Cert.FUpRefIdeal.nD → PrngReg), Pre_FUpRefIdeal m →
    θ_run (Cert.FUpRefIdeal.defs (F := Ideal)) (onTc (τ := Cert.FUpRefIdeal.τ) (Cert.FUpRefIdeal.main (F := Ideal))) ⟨m, fun _ => 0, g⟩ (fun r => (∀ c : Dev Cert.FUpRefIdeal.nD,
      r.2.mem ((c.tc : Thread Cert.FUpRefIdeal.nD Cert.FUpRefIdeal.τ).loc Cert.FUpRefIdeal.main_arg0) = m ((c.tc : Thread Cert.FUpRefIdeal.nD Cert.FUpRefIdeal.τ).loc Cert.FUpRefIdeal.main_arg0)
      ∧ r.2.mem ((c.tc : Thread Cert.FUpRefIdeal.nD Cert.FUpRefIdeal.τ).loc Cert.FUpRefIdeal.main_arg1) = m ((c.tc : Thread Cert.FUpRefIdeal.nD Cert.FUpRefIdeal.τ).loc Cert.FUpRefIdeal.main_arg1)
      ∧ r.2.mem ((c.tc : Thread Cert.FUpRefIdeal.nD Cert.FUpRefIdeal.τ).loc Cert.FUpRefIdeal.main_arg2) = m ((c.tc : Thread Cert.FUpRefIdeal.nD Cert.FUpRefIdeal.τ).loc Cert.FUpRefIdeal.main_arg2))
      ∧ r.2.sem = fun _ => 0)

def quiescent_FDown [hFDown : Cert.FDown.Facts] : Prop :=
  ∀ (m : (ℓ : Loc Cert.FDown.nD Cert.FDown.τ Cert.FDown.sig) → Buf (Elt Bits) ℓ) (g : Dev Cert.FDown.nD → PrngReg), Pre_FDown m →
    θ_run (Cert.FDown.defs (F := Bits)) (onTc (τ := Cert.FDown.τ) (Cert.FDown.main (F := Bits))) ⟨m, fun _ => 0, g⟩ (fun r => (∀ c : Dev Cert.FDown.nD,
      r.2.mem ((c.tc : Thread Cert.FDown.nD Cert.FDown.τ).loc Cert.FDown.main_arg0) = m ((c.tc : Thread Cert.FDown.nD Cert.FDown.τ).loc Cert.FDown.main_arg0)
      ∧ r.2.mem ((c.tc : Thread Cert.FDown.nD Cert.FDown.τ).loc Cert.FDown.main_arg1) = m ((c.tc : Thread Cert.FDown.nD Cert.FDown.τ).loc Cert.FDown.main_arg1))
      ∧ r.2.sem = fun _ => 0)

def quiescent_FDownIdeal [hFDownIdeal : Cert.FDownIdeal.Facts] : Prop :=
  ∀ (m : (ℓ : Loc Cert.FDownIdeal.nD Cert.FDownIdeal.τ Cert.FDownIdeal.sig) → Buf (Elt Ideal) ℓ) (g : Dev Cert.FDownIdeal.nD → PrngReg), Pre_FDownIdeal m →
    θ_run (Cert.FDownIdeal.defs (F := Ideal)) (onTc (τ := Cert.FDownIdeal.τ) (Cert.FDownIdeal.main (F := Ideal))) ⟨m, fun _ => 0, g⟩ (fun r => (∀ c : Dev Cert.FDownIdeal.nD,
      r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
      ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1))
      ∧ r.2.sem = fun _ => 0)

def quiescent_FDownRefIdeal [hFDownRefIdeal : Cert.FDownRefIdeal.Facts] : Prop :=
  ∀ (m : (ℓ : Loc Cert.FDownRefIdeal.nD Cert.FDownRefIdeal.τ Cert.FDownRefIdeal.sig) → Buf (Elt Ideal) ℓ) (g : Dev Cert.FDownRefIdeal.nD → PrngReg), Pre_FDownRefIdeal m →
    θ_run (Cert.FDownRefIdeal.defs (F := Ideal)) (onTc (τ := Cert.FDownRefIdeal.τ) (Cert.FDownRefIdeal.main (F := Ideal))) ⟨m, fun _ => 0, g⟩ (fun r => (∀ c : Dev Cert.FDownRefIdeal.nD,
      r.2.mem ((c.tc : Thread Cert.FDownRefIdeal.nD Cert.FDownRefIdeal.τ).loc Cert.FDownRefIdeal.main_arg0) = m ((c.tc : Thread Cert.FDownRefIdeal.nD Cert.FDownRefIdeal.τ).loc Cert.FDownRefIdeal.main_arg0)
      ∧ r.2.mem ((c.tc : Thread Cert.FDownRefIdeal.nD Cert.FDownRefIdeal.τ).loc Cert.FDownRefIdeal.main_arg1) = m ((c.tc : Thread Cert.FDownRefIdeal.nD Cert.FDownRefIdeal.τ).loc Cert.FDownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1)
      ∧ r.2.mem ((c.tc : Thread Cert.DMixed.nD Cert.DMixed.τ).loc Cert.DMixed.main_arg2) = m ((c.tc : Thread Cert.DMixed.nD Cert.DMixed.τ).loc Cert.DMixed.main_arg2))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1)
      ∧ r.2.mem ((c.tc : Thread Cert.DMixedIdeal.nD Cert.DMixedIdeal.τ).loc Cert.DMixedIdeal.main_arg2) = m ((c.tc : Thread Cert.DMixedIdeal.nD Cert.DMixedIdeal.τ).loc Cert.DMixedIdeal.main_arg2))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1)
      ∧ r.2.mem ((c.tc : Thread Cert.DMixedRefIdeal.nD Cert.DMixedRefIdeal.τ).loc Cert.DMixedRefIdeal.main_arg2) = m ((c.tc : Thread Cert.DMixedRefIdeal.nD Cert.DMixedRefIdeal.τ).loc Cert.DMixedRefIdeal.main_arg2))
      ∧ r.2.sem = fun _ => 0)

def quiescent_DwoA [hDwoA : Cert.DwoA.Facts] : Prop :=
  ∀ (m : (ℓ : Loc Cert.DwoA.nD Cert.DwoA.τ Cert.DwoA.sig) → Buf (Elt Bits) ℓ) (g : Dev Cert.DwoA.nD → PrngReg), Pre_DwoA m →
    θ_run (Cert.DwoA.defs (F := Bits)) (onTc (τ := Cert.DwoA.τ) (Cert.DwoA.main (F := Bits))) ⟨m, fun _ => 0, g⟩ (fun r => (∀ c : Dev Cert.DwoA.nD,
      r.2.mem ((c.tc : Thread Cert.DwoA.nD Cert.DwoA.τ).loc Cert.DwoA.main_arg0) = m ((c.tc : Thread Cert.DwoA.nD Cert.DwoA.τ).loc Cert.DwoA.main_arg0)
      ∧ r.2.mem ((c.tc : Thread Cert.DwoA.nD Cert.DwoA.τ).loc Cert.DwoA.main_arg1) = m ((c.tc : Thread Cert.DwoA.nD Cert.DwoA.τ).loc Cert.DwoA.main_arg1)
      ∧ r.2.mem ((c.tc : Thread Cert.DwoA.nD Cert.DwoA.τ).loc Cert.DwoA.main_arg2) = m ((c.tc : Thread Cert.DwoA.nD Cert.DwoA.τ).loc Cert.DwoA.main_arg2))
      ∧ r.2.sem = fun _ => 0)

def quiescent_DwoAIdeal [hDwoAIdeal : Cert.DwoAIdeal.Facts] : Prop :=
  ∀ (m : (ℓ : Loc Cert.DwoAIdeal.nD Cert.DwoAIdeal.τ Cert.DwoAIdeal.sig) → Buf (Elt Ideal) ℓ) (g : Dev Cert.DwoAIdeal.nD → PrngReg), Pre_DwoAIdeal m →
    θ_run (Cert.DwoAIdeal.defs (F := Ideal)) (onTc (τ := Cert.DwoAIdeal.τ) (Cert.DwoAIdeal.main (F := Ideal))) ⟨m, fun _ => 0, g⟩ (fun r => (∀ c : Dev Cert.DwoAIdeal.nD,
      r.2.mem ((c.tc : Thread Cert.DwoAIdeal.nD Cert.DwoAIdeal.τ).loc Cert.DwoAIdeal.main_arg0) = m ((c.tc : Thread Cert.DwoAIdeal.nD Cert.DwoAIdeal.τ).loc Cert.DwoAIdeal.main_arg0)
      ∧ r.2.mem ((c.tc : Thread Cert.DwoAIdeal.nD Cert.DwoAIdeal.τ).loc Cert.DwoAIdeal.main_arg1) = m ((c.tc : Thread Cert.DwoAIdeal.nD Cert.DwoAIdeal.τ).loc Cert.DwoAIdeal.main_arg1)
      ∧ r.2.mem ((c.tc : Thread Cert.DwoAIdeal.nD Cert.DwoAIdeal.τ).loc Cert.DwoAIdeal.main_arg2) = m ((c.tc : Thread Cert.DwoAIdeal.nD Cert.DwoAIdeal.τ).loc Cert.DwoAIdeal.main_arg2))
      ∧ r.2.sem = fun _ => 0)

def quiescent_DwoARefIdeal [hDwoARefIdeal : Cert.DwoARefIdeal.Facts] : Prop :=
  ∀ (m : (ℓ : Loc Cert.DwoARefIdeal.nD Cert.DwoARefIdeal.τ Cert.DwoARefIdeal.sig) → Buf (Elt Ideal) ℓ) (g : Dev Cert.DwoARefIdeal.nD → PrngReg), Pre_DwoARefIdeal m →
    θ_run (Cert.DwoARefIdeal.defs (F := Ideal)) (onTc (τ := Cert.DwoARefIdeal.τ) (Cert.DwoARefIdeal.main (F := Ideal))) ⟨m, fun _ => 0, g⟩ (fun r => (∀ c : Dev Cert.DwoARefIdeal.nD,
      r.2.mem ((c.tc : Thread Cert.DwoARefIdeal.nD Cert.DwoARefIdeal.τ).loc Cert.DwoARefIdeal.main_arg0) = m ((c.tc : Thread Cert.DwoARefIdeal.nD Cert.DwoARefIdeal.τ).loc Cert.DwoARefIdeal.main_arg0)
      ∧ r.2.mem ((c.tc : Thread Cert.DwoARefIdeal.nD Cert.DwoARefIdeal.τ).loc Cert.DwoARefIdeal.main_arg1) = m ((c.tc : Thread Cert.DwoARefIdeal.nD Cert.DwoARefIdeal.τ).loc Cert.DwoARefIdeal.main_arg1)
      ∧ r.2.mem ((c.tc : Thread Cert.DwoARefIdeal.nD Cert.DwoARefIdeal.τ).loc Cert.DwoARefIdeal.main_arg2) = m ((c.tc : Thread Cert.DwoARefIdeal.nD Cert.DwoARefIdeal.τ).loc Cert.DwoARefIdeal.main_arg2))
      ∧ r.2.sem = fun _ => 0)

def quiescent_DwoG [hDwoG : Cert.DwoG.Facts] : Prop :=
  ∀ (m : (ℓ : Loc Cert.DwoG.nD Cert.DwoG.τ Cert.DwoG.sig) → Buf (Elt Bits) ℓ) (g : Dev Cert.DwoG.nD → PrngReg), Pre_DwoG m →
    θ_run (Cert.DwoG.defs (F := Bits)) (onTc (τ := Cert.DwoG.τ) (Cert.DwoG.main (F := Bits))) ⟨m, fun _ => 0, g⟩ (fun r => (∀ c : Dev Cert.DwoG.nD,
      r.2.mem ((c.tc : Thread Cert.DwoG.nD Cert.DwoG.τ).loc Cert.DwoG.main_arg0) = m ((c.tc : Thread Cert.DwoG.nD Cert.DwoG.τ).loc Cert.DwoG.main_arg0)
      ∧ r.2.mem ((c.tc : Thread Cert.DwoG.nD Cert.DwoG.τ).loc Cert.DwoG.main_arg1) = m ((c.tc : Thread Cert.DwoG.nD Cert.DwoG.τ).loc Cert.DwoG.main_arg1)
      ∧ r.2.mem ((c.tc : Thread Cert.DwoG.nD Cert.DwoG.τ).loc Cert.DwoG.main_arg2) = m ((c.tc : Thread Cert.DwoG.nD Cert.DwoG.τ).loc Cert.DwoG.main_arg2))
      ∧ r.2.sem = fun _ => 0)

def quiescent_DwoGIdeal [hDwoGIdeal : Cert.DwoGIdeal.Facts] : Prop :=
  ∀ (m : (ℓ : Loc Cert.DwoGIdeal.nD Cert.DwoGIdeal.τ Cert.DwoGIdeal.sig) → Buf (Elt Ideal) ℓ) (g : Dev Cert.DwoGIdeal.nD → PrngReg), Pre_DwoGIdeal m →
    θ_run (Cert.DwoGIdeal.defs (F := Ideal)) (onTc (τ := Cert.DwoGIdeal.τ) (Cert.DwoGIdeal.main (F := Ideal))) ⟨m, fun _ => 0, g⟩ (fun r => (∀ c : Dev Cert.DwoGIdeal.nD,
      r.2.mem ((c.tc : Thread Cert.DwoGIdeal.nD Cert.DwoGIdeal.τ).loc Cert.DwoGIdeal.main_arg0) = m ((c.tc : Thread Cert.DwoGIdeal.nD Cert.DwoGIdeal.τ).loc Cert.DwoGIdeal.main_arg0)
      ∧ r.2.mem ((c.tc : Thread Cert.DwoGIdeal.nD Cert.DwoGIdeal.τ).loc Cert.DwoGIdeal.main_arg1) = m ((c.tc : Thread Cert.DwoGIdeal.nD Cert.DwoGIdeal.τ).loc Cert.DwoGIdeal.main_arg1)
      ∧ r.2.mem ((c.tc : Thread Cert.DwoGIdeal.nD Cert.DwoGIdeal.τ).loc Cert.DwoGIdeal.main_arg2) = m ((c.tc : Thread Cert.DwoGIdeal.nD Cert.DwoGIdeal.τ).loc Cert.DwoGIdeal.main_arg2))
      ∧ r.2.sem = fun _ => 0)

def quiescent_DwoGRefIdeal [hDwoGRefIdeal : Cert.DwoGRefIdeal.Facts] : Prop :=
  ∀ (m : (ℓ : Loc Cert.DwoGRefIdeal.nD Cert.DwoGRefIdeal.τ Cert.DwoGRefIdeal.sig) → Buf (Elt Ideal) ℓ) (g : Dev Cert.DwoGRefIdeal.nD → PrngReg), Pre_DwoGRefIdeal m →
    θ_run (Cert.DwoGRefIdeal.defs (F := Ideal)) (onTc (τ := Cert.DwoGRefIdeal.τ) (Cert.DwoGRefIdeal.main (F := Ideal))) ⟨m, fun _ => 0, g⟩ (fun r => (∀ c : Dev Cert.DwoGRefIdeal.nD,
      r.2.mem ((c.tc : Thread Cert.DwoGRefIdeal.nD Cert.DwoGRefIdeal.τ).loc Cert.DwoGRefIdeal.main_arg0) = m ((c.tc : Thread Cert.DwoGRefIdeal.nD Cert.DwoGRefIdeal.τ).loc Cert.DwoGRefIdeal.main_arg0)
      ∧ r.2.mem ((c.tc : Thread Cert.DwoGRefIdeal.nD Cert.DwoGRefIdeal.τ).loc Cert.DwoGRefIdeal.main_arg1) = m ((c.tc : Thread Cert.DwoGRefIdeal.nD Cert.DwoGRefIdeal.τ).loc Cert.DwoGRefIdeal.main_arg1)
      ∧ r.2.mem ((c.tc : Thread Cert.DwoGRefIdeal.nD Cert.DwoGRefIdeal.τ).loc Cert.DwoGRefIdeal.main_arg2) = m ((c.tc : Thread Cert.DwoGRefIdeal.nD Cert.DwoGRefIdeal.τ).loc Cert.DwoGRefIdeal.main_arg2))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1))
      ∧ r.2.sem = fun _ => 0)

def quiescent_UvW [hUvW : Cert.UvW.Facts] : Prop :=
  ∀ (m : (ℓ : Loc Cert.UvW.nD Cert.UvW.τ Cert.UvW.sig) → Buf (Elt Bits) ℓ) (g : Dev Cert.UvW.nD → PrngReg), Pre_UvW m →
    θ_run (Cert.UvW.defs (F := Bits)) (onTc (τ := Cert.UvW.τ) (Cert.UvW.main (F := Bits))) ⟨m, fun _ => 0, g⟩ (fun r => (∀ c : Dev Cert.UvW.nD,
      r.2.mem ((c.tc : Thread Cert.UvW.nD Cert.UvW.τ).loc Cert.UvW.main_arg0) = m ((c.tc : Thread Cert.UvW.nD Cert.UvW.τ).loc Cert.UvW.main_arg0)
      ∧ r.2.mem ((c.tc : Thread Cert.UvW.nD Cert.UvW.τ).loc Cert.UvW.main_arg1) = m ((c.tc : Thread Cert.UvW.nD Cert.UvW.τ).loc Cert.UvW.main_arg1)
      ∧ r.2.mem ((c.tc : Thread Cert.UvW.nD Cert.UvW.τ).loc Cert.UvW.main_arg2) = m ((c.tc : Thread Cert.UvW.nD Cert.UvW.τ).loc Cert.UvW.main_arg2))
      ∧ r.2.sem = fun _ => 0)

def quiescent_UvWIdeal [hUvWIdeal : Cert.UvWIdeal.Facts] : Prop :=
  ∀ (m : (ℓ : Loc Cert.UvWIdeal.nD Cert.UvWIdeal.τ Cert.UvWIdeal.sig) → Buf (Elt Ideal) ℓ) (g : Dev Cert.UvWIdeal.nD → PrngReg), Pre_UvWIdeal m →
    θ_run (Cert.UvWIdeal.defs (F := Ideal)) (onTc (τ := Cert.UvWIdeal.τ) (Cert.UvWIdeal.main (F := Ideal))) ⟨m, fun _ => 0, g⟩ (fun r => (∀ c : Dev Cert.UvWIdeal.nD,
      r.2.mem ((c.tc : Thread Cert.UvWIdeal.nD Cert.UvWIdeal.τ).loc Cert.UvWIdeal.main_arg0) = m ((c.tc : Thread Cert.UvWIdeal.nD Cert.UvWIdeal.τ).loc Cert.UvWIdeal.main_arg0)
      ∧ r.2.mem ((c.tc : Thread Cert.UvWIdeal.nD Cert.UvWIdeal.τ).loc Cert.UvWIdeal.main_arg1) = m ((c.tc : Thread Cert.UvWIdeal.nD Cert.UvWIdeal.τ).loc Cert.UvWIdeal.main_arg1)
      ∧ r.2.mem ((c.tc : Thread Cert.UvWIdeal.nD Cert.UvWIdeal.τ).loc Cert.UvWIdeal.main_arg2) = m ((c.tc : Thread Cert.UvWIdeal.nD Cert.UvWIdeal.τ).loc Cert.UvWIdeal.main_arg2))
      ∧ r.2.sem = fun _ => 0)

def quiescent_UvWRefIdeal [hUvWRefIdeal : Cert.UvWRefIdeal.Facts] : Prop :=
  ∀ (m : (ℓ : Loc Cert.UvWRefIdeal.nD Cert.UvWRefIdeal.τ Cert.UvWRefIdeal.sig) → Buf (Elt Ideal) ℓ) (g : Dev Cert.UvWRefIdeal.nD → PrngReg), Pre_UvWRefIdeal m →
    θ_run (Cert.UvWRefIdeal.defs (F := Ideal)) (onTc (τ := Cert.UvWRefIdeal.τ) (Cert.UvWRefIdeal.main (F := Ideal))) ⟨m, fun _ => 0, g⟩ (fun r => (∀ c : Dev Cert.UvWRefIdeal.nD,
      r.2.mem ((c.tc : Thread Cert.UvWRefIdeal.nD Cert.UvWRefIdeal.τ).loc Cert.UvWRefIdeal.main_arg0) = m ((c.tc : Thread Cert.UvWRefIdeal.nD Cert.UvWRefIdeal.τ).loc Cert.UvWRefIdeal.main_arg0)
      ∧ r.2.mem ((c.tc : Thread Cert.UvWRefIdeal.nD Cert.UvWRefIdeal.τ).loc Cert.UvWRefIdeal.main_arg1) = m ((c.tc : Thread Cert.UvWRefIdeal.nD Cert.UvWRefIdeal.τ).loc Cert.UvWRefIdeal.main_arg1)
      ∧ r.2.mem ((c.tc : Thread Cert.UvWRefIdeal.nD Cert.UvWRefIdeal.τ).loc Cert.UvWRefIdeal.main_arg2) = m ((c.tc : Thread Cert.UvWRefIdeal.nD Cert.UvWRefIdeal.τ).loc Cert.UvWRefIdeal.main_arg2))
      ∧ r.2.sem = fun _ => 0)

def quiescent_UvX [hUvX : Cert.UvX.Facts] : Prop :=
  ∀ (m : (ℓ : Loc Cert.UvX.nD Cert.UvX.τ Cert.UvX.sig) → Buf (Elt Bits) ℓ) (g : Dev Cert.UvX.nD → PrngReg), Pre_UvX m →
    θ_run (Cert.UvX.defs (F := Bits)) (onTc (τ := Cert.UvX.τ) (Cert.UvX.main (F := Bits))) ⟨m, fun _ => 0, g⟩ (fun r => (∀ c : Dev Cert.UvX.nD,
      r.2.mem ((c.tc : Thread Cert.UvX.nD Cert.UvX.τ).loc Cert.UvX.main_arg0) = m ((c.tc : Thread Cert.UvX.nD Cert.UvX.τ).loc Cert.UvX.main_arg0)
      ∧ r.2.mem ((c.tc : Thread Cert.UvX.nD Cert.UvX.τ).loc Cert.UvX.main_arg1) = m ((c.tc : Thread Cert.UvX.nD Cert.UvX.τ).loc Cert.UvX.main_arg1)
      ∧ r.2.mem ((c.tc : Thread Cert.UvX.nD Cert.UvX.τ).loc Cert.UvX.main_arg2) = m ((c.tc : Thread Cert.UvX.nD Cert.UvX.τ).loc Cert.UvX.main_arg2))
      ∧ r.2.sem = fun _ => 0)

def quiescent_UvXIdeal [hUvXIdeal : Cert.UvXIdeal.Facts] : Prop :=
  ∀ (m : (ℓ : Loc Cert.UvXIdeal.nD Cert.UvXIdeal.τ Cert.UvXIdeal.sig) → Buf (Elt Ideal) ℓ) (g : Dev Cert.UvXIdeal.nD → PrngReg), Pre_UvXIdeal m →
    θ_run (Cert.UvXIdeal.defs (F := Ideal)) (onTc (τ := Cert.UvXIdeal.τ) (Cert.UvXIdeal.main (F := Ideal))) ⟨m, fun _ => 0, g⟩ (fun r => (∀ c : Dev Cert.UvXIdeal.nD,
      r.2.mem ((c.tc : Thread Cert.UvXIdeal.nD Cert.UvXIdeal.τ).loc Cert.UvXIdeal.main_arg0) = m ((c.tc : Thread Cert.UvXIdeal.nD Cert.UvXIdeal.τ).loc Cert.UvXIdeal.main_arg0)
      ∧ r.2.mem ((c.tc : Thread Cert.UvXIdeal.nD Cert.UvXIdeal.τ).loc Cert.UvXIdeal.main_arg1) = m ((c.tc : Thread Cert.UvXIdeal.nD Cert.UvXIdeal.τ).loc Cert.UvXIdeal.main_arg1)
      ∧ r.2.mem ((c.tc : Thread Cert.UvXIdeal.nD Cert.UvXIdeal.τ).loc Cert.UvXIdeal.main_arg2) = m ((c.tc : Thread Cert.UvXIdeal.nD Cert.UvXIdeal.τ).loc Cert.UvXIdeal.main_arg2))
      ∧ r.2.sem = fun _ => 0)

def quiescent_UvXRefIdeal [hUvXRefIdeal : Cert.UvXRefIdeal.Facts] : Prop :=
  ∀ (m : (ℓ : Loc Cert.UvXRefIdeal.nD Cert.UvXRefIdeal.τ Cert.UvXRefIdeal.sig) → Buf (Elt Ideal) ℓ) (g : Dev Cert.UvXRefIdeal.nD → PrngReg), Pre_UvXRefIdeal m →
    θ_run (Cert.UvXRefIdeal.defs (F := Ideal)) (onTc (τ := Cert.UvXRefIdeal.τ) (Cert.UvXRefIdeal.main (F := Ideal))) ⟨m, fun _ => 0, g⟩ (fun r => (∀ c : Dev Cert.UvXRefIdeal.nD,
      r.2.mem ((c.tc : Thread Cert.UvXRefIdeal.nD Cert.UvXRefIdeal.τ).loc Cert.UvXRefIdeal.main_arg0) = m ((c.tc : Thread Cert.UvXRefIdeal.nD Cert.UvXRefIdeal.τ).loc Cert.UvXRefIdeal.main_arg0)
      ∧ r.2.mem ((c.tc : Thread Cert.UvXRefIdeal.nD Cert.UvXRefIdeal.τ).loc Cert.UvXRefIdeal.main_arg1) = m ((c.tc : Thread Cert.UvXRefIdeal.nD Cert.UvXRefIdeal.τ).loc Cert.UvXRefIdeal.main_arg1)
      ∧ r.2.mem ((c.tc : Thread Cert.UvXRefIdeal.nD Cert.UvXRefIdeal.τ).loc Cert.UvXRefIdeal.main_arg2) = m ((c.tc : Thread Cert.UvXRefIdeal.nD Cert.UvXRefIdeal.τ).loc Cert.UvXRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvX [hKvX : Cert.KvX.Facts] : Prop :=
  ∀ (m : (ℓ : Loc Cert.KvX.nD Cert.KvX.τ Cert.KvX.sig) → Buf (Elt Bits) ℓ) (g : Dev Cert.KvX.nD → PrngReg), Pre_KvX m →
    θ_run (Cert.KvX.defs (F := Bits)) (onTc (τ := Cert.KvX.τ) (Cert.KvX.main (F := Bits))) ⟨m, fun _ => 0, g⟩ (fun r => (∀ c : Dev Cert.KvX.nD,
      r.2.mem ((c.tc : Thread Cert.KvX.nD Cert.KvX.τ).loc Cert.KvX.main_arg0) = m ((c.tc : Thread Cert.KvX.nD Cert.KvX.τ).loc Cert.KvX.main_arg0)
      ∧ r.2.mem ((c.tc : Thread Cert.KvX.nD Cert.KvX.τ).loc Cert.KvX.main_arg1) = m ((c.tc : Thread Cert.KvX.nD Cert.KvX.τ).loc Cert.KvX.main_arg1)
      ∧ r.2.mem ((c.tc : Thread Cert.KvX.nD Cert.KvX.τ).loc Cert.KvX.main_arg2) = m ((c.tc : Thread Cert.KvX.nD Cert.KvX.τ).loc Cert.KvX.main_arg2))
      ∧ r.2.sem = fun _ => 0)

def quiescent_KvXIdeal [hKvXIdeal : Cert.KvXIdeal.Facts] : Prop :=
  ∀ (m : (ℓ : Loc Cert.KvXIdeal.nD Cert.KvXIdeal.τ Cert.KvXIdeal.sig) → Buf (Elt Ideal) ℓ) (g : Dev Cert.KvXIdeal.nD → PrngReg), Pre_KvXIdeal m →
    θ_run (Cert.KvXIdeal.defs (F := Ideal)) (onTc (τ := Cert.KvXIdeal.τ) (Cert.KvXIdeal.main (F := Ideal))) ⟨m, fun _ => 0, g⟩ (fun r => (∀ c : Dev Cert.KvXIdeal.nD,
      r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
      ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1)
      ∧ r.2.mem ((c.tc : Thread Cert.KvXIdeal.nD Cert.KvXIdeal.τ).loc Cert.KvXIdeal.main_arg2) = m ((c.tc : Thread Cert.KvXIdeal.nD Cert.KvXIdeal.τ).loc Cert.KvXIdeal.main_arg2))
      ∧ r.2.sem = fun _ => 0)

def quiescent_KvXRefIdeal [hKvXRefIdeal : Cert.KvXRefIdeal.Facts] : Prop :=
  ∀ (m : (ℓ : Loc Cert.KvXRefIdeal.nD Cert.KvXRefIdeal.τ Cert.KvXRefIdeal.sig) → Buf (Elt Ideal) ℓ) (g : Dev Cert.KvXRefIdeal.nD → PrngReg), Pre_KvXRefIdeal m →
    θ_run (Cert.KvXRefIdeal.defs (F := Ideal)) (onTc (τ := Cert.KvXRefIdeal.τ) (Cert.KvXRefIdeal.main (F := Ideal))) ⟨m, fun _ => 0, g⟩ (fun r => (∀ c : Dev Cert.KvXRefIdeal.nD,
      r.2.mem ((c.tc : Thread Cert.KvXRefIdeal.nD Cert.KvXRefIdeal.τ).loc Cert.KvXRefIdeal.main_arg0) = m ((c.tc : Thread Cert.KvXRefIdeal.nD Cert.KvXRefIdeal.τ).loc Cert.KvXRefIdeal.main_arg0)
      ∧ r.2.mem ((c.tc : Thread Cert.KvXRefIdeal.nD Cert.KvXRefIdeal.τ).loc Cert.KvXRefIdeal.main_arg1) = m ((c.tc : Thread Cert.KvXRefIdeal.nD Cert.KvXRefIdeal.τ).loc Cert.KvXRefIdeal.main_arg1)
      ∧ r.2.mem ((c.tc : Thread Cert.KvXRefIdeal.nD Cert.KvXRefIdeal.τ).loc Cert.KvXRefIdeal.main_arg2) = m ((c.tc : Thread Cert.KvXRefIdeal.nD Cert.KvXRefIdeal.τ).loc Cert.KvXRefIdeal.main_arg2))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1)
      ∧ r.2.mem ((c.tc : Thread Cert.KvW.nD Cert.KvW.τ).loc Cert.KvW.main_arg2) = m ((c.tc : Thread Cert.KvW.nD Cert.KvW.τ).loc Cert.KvW.main_arg2))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1)
      ∧ r.2.mem ((c.tc : Thread Cert.KvWIdeal.nD Cert.KvWIdeal.τ).loc Cert.KvWIdeal.main_arg2) = m ((c.tc : Thread Cert.KvWIdeal.nD Cert.KvWIdeal.τ).loc Cert.KvWIdeal.main_arg2))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1)
      ∧ r.2.mem ((c.tc : Thread Cert.KvWRefIdeal.nD Cert.KvWRefIdeal.τ).loc Cert.KvWRefIdeal.main_arg2) = m ((c.tc : Thread Cert.KvWRefIdeal.nD Cert.KvWRefIdeal.τ).loc Cert.KvWRefIdeal.main_arg2))
      ∧ r.2.sem = fun _ => 0)

def quiescent_Col [hCol : Cert.Col.Facts] : Prop :=
  ∀ (m : (ℓ : Loc Cert.Col.nD Cert.Col.τ Cert.Col.sig) → Buf (Elt Bits) ℓ) (g : Dev Cert.Col.nD → PrngReg), Pre_Col m →
    θ_run (Cert.Col.defs (F := Bits)) (onTc (τ := Cert.Col.τ) (Cert.Col.main (F := Bits))) ⟨m, fun _ => 0, g⟩ (fun r => (∀ c : Dev Cert.Col.nD,
      r.2.mem ((c.tc : Thread Cert.Col.nD Cert.Col.τ).loc Cert.Col.main_arg0) = m ((c.tc : Thread Cert.Col.nD Cert.Col.τ).loc Cert.Col.main_arg0)
      ∧ r.2.mem ((c.tc : Thread Cert.Col.nD Cert.Col.τ).loc Cert.Col.main_arg1) = m ((c.tc : Thread Cert.Col.nD Cert.Col.τ).loc Cert.Col.main_arg1)
      ∧ r.2.mem ((c.tc : Thread Cert.Col.nD Cert.Col.τ).loc Cert.Col.main_arg2) = m ((c.tc : Thread Cert.Col.nD Cert.Col.τ).loc Cert.Col.main_arg2)
      ∧ r.2.mem ((c.tc : Thread Cert.Col.nD Cert.Col.τ).loc Cert.Col.main_arg3) = m ((c.tc : Thread Cert.Col.nD Cert.Col.τ).loc Cert.Col.main_arg3))
      ∧ r.2.sem = fun _ => 0)

def quiescent_ColIdeal [hColIdeal : Cert.ColIdeal.Facts] : Prop :=
  ∀ (m : (ℓ : Loc Cert.ColIdeal.nD Cert.ColIdeal.τ Cert.ColIdeal.sig) → Buf (Elt Ideal) ℓ) (g : Dev Cert.ColIdeal.nD → PrngReg), Pre_ColIdeal m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
      ∧ r.2.mem ((c.tc : Thread Cert.ColIdeal.nD Cert.ColIdeal.τ).loc Cert.ColIdeal.main_arg3) = m ((c.tc : Thread Cert.ColIdeal.nD Cert.ColIdeal.τ).loc Cert.ColIdeal.main_arg3))
      ∧ r.2.sem = fun _ => 0)

def quiescent_ColIdeal_pre_finite_columns [hColIdeal : Cert.ColIdeal.Facts] [hPre_finite_columns : Cert.Pre_finite_columns.Facts] : Prop :=
  ∀ (m : (ℓ : Loc Cert.ColIdeal.nD Cert.ColIdeal.τ Cert.ColIdeal.sig) → Buf (Elt Ideal) ℓ) (g : Dev Cert.ColIdeal.nD → PrngReg), Pre_ColIdeal_finite_columns m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
      ∧ r.2.mem ((c.tc : Thread Cert.ColIdeal.nD Cert.ColIdeal.τ).loc Cert.ColIdeal.main_arg3) = m ((c.tc : Thread Cert.ColIdeal.nD Cert.ColIdeal.τ).loc Cert.ColIdeal.main_arg3))
      ∧ r.2.sem = fun _ => 0)

def quiescent_ColRefIdeal [hColRefIdeal : Cert.ColRefIdeal.Facts] : Prop :=
  ∀ (m : (ℓ : Loc Cert.ColRefIdeal.nD Cert.ColRefIdeal.τ Cert.ColRefIdeal.sig) → Buf (Elt Ideal) ℓ) (g : Dev Cert.ColRefIdeal.nD → PrngReg), Pre_ColRefIdeal m →
    θ_run (Cert.ColRefIdeal.defs (F := Ideal)) (onTc (τ := Cert.ColRefIdeal.τ) (Cert.ColRefIdeal.main (F := Ideal))) ⟨m, fun _ => 0, g⟩ (fun r => (∀ c : Dev Cert.ColRefIdeal.nD,
      r.2.mem ((c.tc : Thread Cert.ColRefIdeal.nD Cert.ColRefIdeal.τ).loc Cert.ColRefIdeal.main_arg0) = m ((c.tc : Thread Cert.ColRefIdeal.nD Cert.ColRefIdeal.τ).loc Cert.ColRefIdeal.main_arg0)
      ∧ r.2.mem ((c.tc : Thread Cert.ColRefIdeal.nD Cert.ColRefIdeal.τ).loc Cert.ColRefIdeal.main_arg1) = m ((c.tc : Thread Cert.ColRefIdeal.nD Cert.ColRefIdeal.τ).loc Cert.ColRefIdeal.main_arg1)
      ∧ r.2.mem ((c.tc : Thread Cert.ColRefIdeal.nD Cert.ColRefIdeal.τ).loc Cert.ColRefIdeal.main_arg2) = m ((c.tc : Thread Cert.ColRefIdeal.nD Cert.ColRefIdeal.τ).loc Cert.ColRefIdeal.main_arg2)
      ∧ r.2.mem ((c.tc : Thread Cert.ColRefIdeal.nD Cert.ColRefIdeal.τ).loc Cert.ColRefIdeal.main_arg3) = m ((c.tc : Thread Cert.ColRefIdeal.nD Cert.ColRefIdeal.τ).loc Cert.ColRefIdeal.main_arg3))
      ∧ r.2.sem = fun _ => 0)

def quiescent_ColRefIdeal_pre_finite_columns [hColRefIdeal : Cert.ColRefIdeal.Facts] [hPre_finite_columns : Cert.Pre_finite_columns.Facts] : Prop :=
  ∀ (m : (ℓ : Loc Cert.ColRefIdeal.nD Cert.ColRefIdeal.τ Cert.ColRefIdeal.sig) → Buf (Elt Ideal) ℓ) (g : Dev Cert.ColRefIdeal.nD → PrngReg), Pre_ColRefIdeal_finite_columns m →
    θ_run (Cert.ColRefIdeal.defs (F := Ideal)) (onTc (τ := Cert.ColRefIdeal.τ) (Cert.ColRefIdeal.main (F := Ideal))) ⟨m, fun _ => 0, g⟩ (fun r => (∀ c : Dev Cert.ColRefIdeal.nD,
      r.2.mem ((c.tc : Thread Cert.ColRefIdeal.nD Cert.ColRefIdeal.τ).loc Cert.ColRefIdeal.main_arg0) = m ((c.tc : Thread Cert.ColRefIdeal.nD Cert.ColRefIdeal.τ).loc Cert.ColRefIdeal.main_arg0)
      ∧ r.2.mem ((c.tc : Thread Cert.ColRefIdeal.nD Cert.ColRefIdeal.τ).loc Cert.ColRefIdeal.main_arg1) = m ((c.tc : Thread Cert.ColRefIdeal.nD Cert.ColRefIdeal.τ).loc Cert.ColRefIdeal.main_arg1)
      ∧ r.2.mem ((c.tc : Thread Cert.ColRefIdeal.nD Cert.ColRefIdeal.τ).loc Cert.ColRefIdeal.main_arg2) = m ((c.tc : Thread Cert.ColRefIdeal.nD Cert.ColRefIdeal.τ).loc Cert.ColRefIdeal.main_arg2)
      ∧ r.2.mem ((c.tc : Thread Cert.ColRefIdeal.nD Cert.ColRefIdeal.τ).loc Cert.ColRefIdeal.main_arg3) = m ((c.tc : Thread Cert.ColRefIdeal.nD Cert.ColRefIdeal.τ).loc Cert.ColRefIdeal.main_arg3))
      ∧ r.2.sem = fun _ => 0)

def quiescent_ColX [hColX : Cert.ColX.Facts] : Prop :=
  ∀ (m : (ℓ : Loc Cert.ColX.nD Cert.ColX.τ Cert.ColX.sig) → Buf (Elt Bits) ℓ) (g : Dev Cert.ColX.nD → PrngReg), Pre_ColX m →
    θ_run (Cert.ColX.defs (F := Bits)) (onTc (τ := Cert.ColX.τ) (Cert.ColX.main (F := Bits))) ⟨m, fun _ => 0, g⟩ (fun r => (∀ c : Dev Cert.ColX.nD,
      r.2.mem ((c.tc : Thread Cert.ColX.nD Cert.ColX.τ).loc Cert.ColX.main_arg0) = m ((c.tc : Thread Cert.ColX.nD Cert.ColX.τ).loc Cert.ColX.main_arg0)
      ∧ r.2.mem ((c.tc : Thread Cert.ColX.nD Cert.ColX.τ).loc Cert.ColX.main_arg1) = m ((c.tc : Thread Cert.ColX.nD Cert.ColX.τ).loc Cert.ColX.main_arg1)
      ∧ r.2.mem ((c.tc : Thread Cert.ColX.nD Cert.ColX.τ).loc Cert.ColX.main_arg2) = m ((c.tc : Thread Cert.ColX.nD Cert.ColX.τ).loc Cert.ColX.main_arg2)
      ∧ r.2.mem ((c.tc : Thread Cert.ColX.nD Cert.ColX.τ).loc Cert.ColX.main_arg3) = m ((c.tc : Thread Cert.ColX.nD Cert.ColX.τ).loc Cert.ColX.main_arg3)
      ∧ r.2.mem ((c.tc : Thread Cert.ColX.nD Cert.ColX.τ).loc Cert.ColX.main_arg4) = m ((c.tc : Thread Cert.ColX.nD Cert.ColX.τ).loc Cert.ColX.main_arg4)
      ∧ r.2.mem ((c.tc : Thread Cert.ColX.nD Cert.ColX.τ).loc Cert.ColX.main_arg5) = m ((c.tc : Thread Cert.ColX.nD Cert.ColX.τ).loc Cert.ColX.main_arg5))
      ∧ r.2.sem = fun _ => 0)

def quiescent_ColXIdeal [hColXIdeal : Cert.ColXIdeal.Facts] : Prop :=
  ∀ (m : (ℓ : Loc Cert.ColXIdeal.nD Cert.ColXIdeal.τ Cert.ColXIdeal.sig) → Buf (Elt Ideal) ℓ) (g : Dev Cert.ColXIdeal.nD → PrngReg), Pre_ColXIdeal m →
    θ_run (Cert.ColXIdeal.defs (F := Ideal)) (onTc (τ := Cert.ColXIdeal.τ) (Cert.ColXIdeal.main (F := Ideal))) ⟨m, fun _ => 0, g⟩ (fun r => (∀ c : Dev Cert.ColXIdeal.nD,
      r.2.mem ((c.tc : Thread Cert.ColXIdeal.nD Cert.ColXIdeal.τ).loc Cert.ColXIdeal.main_arg0) = m ((c.tc : Thread Cert.ColXIdeal.nD Cert.ColXIdeal.τ).loc Cert.ColXIdeal.main_arg0)
      ∧ r.2.mem ((c.tc : Thread Cert.ColXIdeal.nD Cert.ColXIdeal.τ).loc Cert.ColXIdeal.main_arg1) = m ((c.tc : Thread Cert.ColXIdeal.nD Cert.ColXIdeal.τ).loc Cert.ColXIdeal.main_arg1)
      ∧ r.2.mem ((c.tc : Thread Cert.ColXIdeal.nD Cert.ColXIdeal.τ).loc Cert.ColXIdeal.main_arg2) = m ((c.tc : Thread Cert.ColXIdeal.nD Cert.ColXIdeal.τ).loc Cert.ColXIdeal.main_arg2)
      ∧ r.2.mem ((c.tc : Thread Cert.ColXIdeal.nD Cert.ColXIdeal.τ).loc Cert.ColXIdeal.main_arg3) = m ((c.tc : Thread Cert.ColXIdeal.nD Cert.ColXIdeal.τ).loc Cert.ColXIdeal.main_arg3)
      ∧ r.2.mem ((c.tc : Thread Cert.ColXIdeal.nD Cert.ColXIdeal.τ).loc Cert.ColXIdeal.main_arg4) = m ((c.tc : Thread Cert.ColXIdeal.nD Cert.ColXIdeal.τ).loc Cert.ColXIdeal.main_arg4)
      ∧ r.2.mem ((c.tc : Thread Cert.ColXIdeal.nD Cert.ColXIdeal.τ).loc Cert.ColXIdeal.main_arg5) = m ((c.tc : Thread Cert.ColXIdeal.nD Cert.ColXIdeal.τ).loc Cert.ColXIdeal.main_arg5))
      ∧ r.2.sem = fun _ => 0)

def quiescent_ColXIdeal_pre_finite_columns_input [hColXIdeal : Cert.ColXIdeal.Facts] [hPre_finite_columns_input : Cert.Pre_finite_columns_input.Facts] : Prop :=
  ∀ (m : (ℓ : Loc Cert.ColXIdeal.nD Cert.ColXIdeal.τ Cert.ColXIdeal.sig) → Buf (Elt Ideal) ℓ) (g : Dev Cert.ColXIdeal.nD → PrngReg), Pre_ColXIdeal_finite_columns_input m →
    θ_run (Cert.ColXIdeal.defs (F := Ideal)) (onTc (τ := Cert.ColXIdeal.τ) (Cert.ColXIdeal.main (F := Ideal))) ⟨m, fun _ => 0, g⟩ (fun r => (∀ c : Dev Cert.ColXIdeal.nD,
      r.2.mem ((c.tc : Thread Cert.ColXIdeal.nD Cert.ColXIdeal.τ).loc Cert.ColXIdeal.main_arg0) = m ((c.tc : Thread Cert.ColXIdeal.nD Cert.ColXIdeal.τ).loc Cert.ColXIdeal.main_arg0)
      ∧ r.2.mem ((c.tc : Thread Cert.ColXIdeal.nD Cert.ColXIdeal.τ).loc Cert.ColXIdeal.main_arg1) = m ((c.tc : Thread Cert.ColXIdeal.nD Cert.ColXIdeal.τ).loc Cert.ColXIdeal.main_arg1)
      ∧ r.2.mem ((c.tc : Thread Cert.ColXIdeal.nD Cert.ColXIdeal.τ).loc Cert.ColXIdeal.main_arg2) = m ((c.tc : Thread Cert.ColXIdeal.nD Cert.ColXIdeal.τ).loc Cert.ColXIdeal.main_arg2)
      ∧ r.2.mem ((c.tc : Thread Cert.ColXIdeal.nD Cert.ColXIdeal.τ).loc Cert.ColXIdeal.main_arg3) = m ((c.tc : Thread Cert.ColXIdeal.nD Cert.ColXIdeal.τ).loc Cert.ColXIdeal.main_arg3)
      ∧ r.2.mem ((c.tc : Thread Cert.ColXIdeal.nD Cert.ColXIdeal.τ).loc Cert.ColXIdeal.main_arg4) = m ((c.tc : Thread Cert.ColXIdeal.nD Cert.ColXIdeal.τ).loc Cert.ColXIdeal.main_arg4)
      ∧ r.2.mem ((c.tc : Thread Cert.ColXIdeal.nD Cert.ColXIdeal.τ).loc Cert.ColXIdeal.main_arg5) = m ((c.tc : Thread Cert.ColXIdeal.nD Cert.ColXIdeal.τ).loc Cert.ColXIdeal.main_arg5))
      ∧ r.2.sem = fun _ => 0)

def quiescent_ColXRefIdeal [hColXRefIdeal : Cert.ColXRefIdeal.Facts] : Prop :=
  ∀ (m : (ℓ : Loc Cert.ColXRefIdeal.nD Cert.ColXRefIdeal.τ Cert.ColXRefIdeal.sig) → Buf (Elt Ideal) ℓ) (g : Dev Cert.ColXRefIdeal.nD → PrngReg), Pre_ColXRefIdeal m →
    θ_run (Cert.ColXRefIdeal.defs (F := Ideal)) (onTc (τ := Cert.ColXRefIdeal.τ) (Cert.ColXRefIdeal.main (F := Ideal))) ⟨m, fun _ => 0, g⟩ (fun r => (∀ c : Dev Cert.ColXRefIdeal.nD,
      r.2.mem ((c.tc : Thread Cert.ColXRefIdeal.nD Cert.ColXRefIdeal.τ).loc Cert.ColXRefIdeal.main_arg0) = m ((c.tc : Thread Cert.ColXRefIdeal.nD Cert.ColXRefIdeal.τ).loc Cert.ColXRefIdeal.main_arg0)
      ∧ r.2.mem ((c.tc : Thread Cert.ColXRefIdeal.nD Cert.ColXRefIdeal.τ).loc Cert.ColXRefIdeal.main_arg1) = m ((c.tc : Thread Cert.ColXRefIdeal.nD Cert.ColXRefIdeal.τ).loc Cert.ColXRefIdeal.main_arg1)
      ∧ r.2.mem ((c.tc : Thread Cert.ColXRefIdeal.nD Cert.ColXRefIdeal.τ).loc Cert.ColXRefIdeal.main_arg2) = m ((c.tc : Thread Cert.ColXRefIdeal.nD Cert.ColXRefIdeal.τ).loc Cert.ColXRefIdeal.main_arg2)
      ∧ r.2.mem ((c.tc : Thread Cert.ColXRefIdeal.nD Cert.ColXRefIdeal.τ).loc Cert.ColXRefIdeal.main_arg3) = m ((c.tc : Thread Cert.ColXRefIdeal.nD Cert.ColXRefIdeal.τ).loc Cert.ColXRefIdeal.main_arg3)
      ∧ r.2.mem ((c.tc : Thread Cert.ColXRefIdeal.nD Cert.ColXRefIdeal.τ).loc Cert.ColXRefIdeal.main_arg4) = m ((c.tc : Thread Cert.ColXRefIdeal.nD Cert.ColXRefIdeal.τ).loc Cert.ColXRefIdeal.main_arg4)
      ∧ r.2.mem ((c.tc : Thread Cert.ColXRefIdeal.nD Cert.ColXRefIdeal.τ).loc Cert.ColXRefIdeal.main_arg5) = m ((c.tc : Thread Cert.ColXRefIdeal.nD Cert.ColXRefIdeal.τ).loc Cert.ColXRefIdeal.main_arg5))
      ∧ r.2.sem = fun _ => 0)

def quiescent_ColXRefIdeal_pre_finite_columns_input [hColXRefIdeal : Cert.ColXRefIdeal.Facts] [hPre_finite_columns_input : Cert.Pre_finite_columns_input.Facts] : Prop :=
  ∀ (m : (ℓ : Loc Cert.ColXRefIdeal.nD Cert.ColXRefIdeal.τ Cert.ColXRefIdeal.sig) → Buf (Elt Ideal) ℓ) (g : Dev Cert.ColXRefIdeal.nD → PrngReg), Pre_ColXRefIdeal_finite_columns_input m →
    θ_run (Cert.ColXRefIdeal.defs (F := Ideal)) (onTc (τ := Cert.ColXRefIdeal.τ) (Cert.ColXRefIdeal.main (F := Ideal))) ⟨m, fun _ => 0, g⟩ (fun r => (∀ c : Dev Cert.ColXRefIdeal.nD,
      r.2.mem ((c.tc : Thread Cert.ColXRefIdeal.nD Cert.ColXRefIdeal.τ).loc Cert.ColXRefIdeal.main_arg0) = m ((c.tc : Thread Cert.ColXRefIdeal.nD Cert.ColXRefIdeal.τ).loc Cert.ColXRefIdeal.main_arg0)
      ∧ r.2.mem ((c.tc : Thread Cert.ColXRefIdeal.nD Cert.ColXRefIdeal.τ).loc Cert.ColXRefIdeal.main_arg1) = m ((c.tc : Thread Cert.ColXRefIdeal.nD Cert.ColXRefIdeal.τ).loc Cert.ColXRefIdeal.main_arg1)
      ∧ r.2.mem ((c.tc : Thread Cert.ColXRefIdeal.nD Cert.ColXRefIdeal.τ).loc Cert.ColXRefIdeal.main_arg2) = m ((c.tc : Thread Cert.ColXRefIdeal.nD Cert.ColXRefIdeal.τ).loc Cert.ColXRefIdeal.main_arg2)
      ∧ r.2.mem ((c.tc : Thread Cert.ColXRefIdeal.nD Cert.ColXRefIdeal.τ).loc Cert.ColXRefIdeal.main_arg3) = m ((c.tc : Thread Cert.ColXRefIdeal.nD Cert.ColXRefIdeal.τ).loc Cert.ColXRefIdeal.main_arg3)
      ∧ r.2.mem ((c.tc : Thread Cert.ColXRefIdeal.nD Cert.ColXRefIdeal.τ).loc Cert.ColXRefIdeal.main_arg4) = m ((c.tc : Thread Cert.ColXRefIdeal.nD Cert.ColXRefIdeal.τ).loc Cert.ColXRefIdeal.main_arg4)
      ∧ r.2.mem ((c.tc : Thread Cert.ColXRefIdeal.nD Cert.ColXRefIdeal.τ).loc Cert.ColXRefIdeal.main_arg5) = m ((c.tc : Thread Cert.ColXRefIdeal.nD Cert.ColXRefIdeal.τ).loc Cert.ColXRefIdeal.main_arg5))
      ∧ r.2.sem = fun _ => 0)

def quiescent_ColW [hColW : Cert.ColW.Facts] : Prop :=
  ∀ (m : (ℓ : Loc Cert.ColW.nD Cert.ColW.τ Cert.ColW.sig) → Buf (Elt Bits) ℓ) (g : Dev Cert.ColW.nD → PrngReg), Pre_ColW m →
    θ_run (Cert.ColW.defs (F := Bits)) (onTc (τ := Cert.ColW.τ) (Cert.ColW.main (F := Bits))) ⟨m, fun _ => 0, g⟩ (fun r => (∀ c : Dev Cert.ColW.nD,
      r.2.mem ((c.tc : Thread Cert.ColW.nD Cert.ColW.τ).loc Cert.ColW.main_arg0) = m ((c.tc : Thread Cert.ColW.nD Cert.ColW.τ).loc Cert.ColW.main_arg0)
      ∧ r.2.mem ((c.tc : Thread Cert.ColW.nD Cert.ColW.τ).loc Cert.ColW.main_arg1) = m ((c.tc : Thread Cert.ColW.nD Cert.ColW.τ).loc Cert.ColW.main_arg1)
      ∧ r.2.mem ((c.tc : Thread Cert.ColW.nD Cert.ColW.τ).loc Cert.ColW.main_arg2) = m ((c.tc : Thread Cert.ColW.nD Cert.ColW.τ).loc Cert.ColW.main_arg2)
      ∧ r.2.mem ((c.tc : Thread Cert.ColW.nD Cert.ColW.τ).loc Cert.ColW.main_arg3) = m ((c.tc : Thread Cert.ColW.nD Cert.ColW.τ).loc Cert.ColW.main_arg3)
      ∧ r.2.mem ((c.tc : Thread Cert.ColW.nD Cert.ColW.τ).loc Cert.ColW.main_arg4) = m ((c.tc : Thread Cert.ColW.nD Cert.ColW.τ).loc Cert.ColW.main_arg4)
      ∧ r.2.mem ((c.tc : Thread Cert.ColW.nD Cert.ColW.τ).loc Cert.ColW.main_arg5) = m ((c.tc : Thread Cert.ColW.nD Cert.ColW.τ).loc Cert.ColW.main_arg5))
      ∧ r.2.sem = fun _ => 0)

def quiescent_ColWIdeal [hColWIdeal : Cert.ColWIdeal.Facts] : Prop :=
  ∀ (m : (ℓ : Loc Cert.ColWIdeal.nD Cert.ColWIdeal.τ Cert.ColWIdeal.sig) → Buf (Elt Ideal) ℓ) (g : Dev Cert.ColWIdeal.nD → PrngReg), Pre_ColWIdeal m →
    θ_run (Cert.ColWIdeal.defs (F := Ideal)) (onTc (τ := Cert.ColWIdeal.τ) (Cert.ColWIdeal.main (F := Ideal))) ⟨m, fun _ => 0, g⟩ (fun r => (∀ c : Dev Cert.ColWIdeal.nD,
      r.2.mem ((c.tc : Thread Cert.ColWIdeal.nD Cert.ColWIdeal.τ).loc Cert.ColWIdeal.main_arg0) = m ((c.tc : Thread Cert.ColWIdeal.nD Cert.ColWIdeal.τ).loc Cert.ColWIdeal.main_arg0)
      ∧ r.2.mem ((c.tc : Thread Cert.ColWIdeal.nD Cert.ColWIdeal.τ).loc Cert.ColWIdeal.main_arg1) = m ((c.tc : Thread Cert.ColWIdeal.nD Cert.ColWIdeal.τ).loc Cert.ColWIdeal.main_arg1)
      ∧ r.2.mem ((c.tc : Thread Cert.ColWIdeal.nD Cert.ColWIdeal.τ).loc Cert.ColWIdeal.main_arg2) = m ((c.tc : Thread Cert.ColWIdeal.nD Cert.ColWIdeal.τ).loc Cert.ColWIdeal.main_arg2)
      ∧ r.2.mem ((c.tc : Thread Cert.ColWIdeal.nD Cert.ColWIdeal.τ).loc Cert.ColWIdeal.main_arg3) = m ((c.tc : Thread Cert.ColWIdeal.nD Cert.ColWIdeal.τ).loc Cert.ColWIdeal.main_arg3)
      ∧ r.2.mem ((c.tc : Thread Cert.ColWIdeal.nD Cert.ColWIdeal.τ).loc Cert.ColWIdeal.main_arg4) = m ((c.tc : Thread Cert.ColWIdeal.nD Cert.ColWIdeal.τ).loc Cert.ColWIdeal.main_arg4)
      ∧ r.2.mem ((c.tc : Thread Cert.ColWIdeal.nD Cert.ColWIdeal.τ).loc Cert.ColWIdeal.main_arg5) = m ((c.tc : Thread Cert.ColWIdeal.nD Cert.ColWIdeal.τ).loc Cert.ColWIdeal.main_arg5))
      ∧ r.2.sem = fun _ => 0)

def quiescent_ColWIdeal_pre_finite_columns_weight [hColWIdeal : Cert.ColWIdeal.Facts] [hPre_finite_columns_weight : Cert.Pre_finite_columns_weight.Facts] : Prop :=
  ∀ (m : (ℓ : Loc Cert.ColWIdeal.nD Cert.ColWIdeal.τ Cert.ColWIdeal.sig) → Buf (Elt Ideal) ℓ) (g : Dev Cert.ColWIdeal.nD → PrngReg), Pre_ColWIdeal_finite_columns_weight m →
    θ_run (Cert.ColWIdeal.defs (F := Ideal)) (onTc (τ := Cert.ColWIdeal.τ) (Cert.ColWIdeal.main (F := Ideal))) ⟨m, fun _ => 0, g⟩ (fun r => (∀ c : Dev Cert.ColWIdeal.nD,
      r.2.mem ((c.tc : Thread Cert.ColWIdeal.nD Cert.ColWIdeal.τ).loc Cert.ColWIdeal.main_arg0) = m ((c.tc : Thread Cert.ColWIdeal.nD Cert.ColWIdeal.τ).loc Cert.ColWIdeal.main_arg0)
      ∧ r.2.mem ((c.tc : Thread Cert.ColWIdeal.nD Cert.ColWIdeal.τ).loc Cert.ColWIdeal.main_arg1) = m ((c.tc : Thread Cert.ColWIdeal.nD Cert.ColWIdeal.τ).loc Cert.ColWIdeal.main_arg1)
      ∧ r.2.mem ((c.tc : Thread Cert.ColWIdeal.nD Cert.ColWIdeal.τ).loc Cert.ColWIdeal.main_arg2) = m ((c.tc : Thread Cert.ColWIdeal.nD Cert.ColWIdeal.τ).loc Cert.ColWIdeal.main_arg2)
      ∧ r.2.mem ((c.tc : Thread Cert.ColWIdeal.nD Cert.ColWIdeal.τ).loc Cert.ColWIdeal.main_arg3) = m ((c.tc : Thread Cert.ColWIdeal.nD Cert.ColWIdeal.τ).loc Cert.ColWIdeal.main_arg3)
      ∧ r.2.mem ((c.tc : Thread Cert.ColWIdeal.nD Cert.ColWIdeal.τ).loc Cert.ColWIdeal.main_arg4) = m ((c.tc : Thread Cert.ColWIdeal.nD Cert.ColWIdeal.τ).loc Cert.ColWIdeal.main_arg4)
      ∧ r.2.mem ((c.tc : Thread Cert.ColWIdeal.nD Cert.ColWIdeal.τ).loc Cert.ColWIdeal.main_arg5) = m ((c.tc : Thread Cert.ColWIdeal.nD Cert.ColWIdeal.τ).loc Cert.ColWIdeal.main_arg5))
      ∧ r.2.sem = fun _ => 0)

def quiescent_ColWRefIdeal [hColWRefIdeal : Cert.ColWRefIdeal.Facts] : Prop :=
  ∀ (m : (ℓ : Loc Cert.ColWRefIdeal.nD Cert.ColWRefIdeal.τ Cert.ColWRefIdeal.sig) → Buf (Elt Ideal) ℓ) (g : Dev Cert.ColWRefIdeal.nD → PrngReg), Pre_ColWRefIdeal m →
    θ_run (Cert.ColWRefIdeal.defs (F := Ideal)) (onTc (τ := Cert.ColWRefIdeal.τ) (Cert.ColWRefIdeal.main (F := Ideal))) ⟨m, fun _ => 0, g⟩ (fun r => (∀ c : Dev Cert.ColWRefIdeal.nD,
      r.2.mem ((c.tc : Thread Cert.ColWRefIdeal.nD Cert.ColWRefIdeal.τ).loc Cert.ColWRefIdeal.main_arg0) = m ((c.tc : Thread Cert.ColWRefIdeal.nD Cert.ColWRefIdeal.τ).loc Cert.ColWRefIdeal.main_arg0)
      ∧ r.2.mem ((c.tc : Thread Cert.ColWRefIdeal.nD Cert.ColWRefIdeal.τ).loc Cert.ColWRefIdeal.main_arg1) = m ((c.tc : Thread Cert.ColWRefIdeal.nD Cert.ColWRefIdeal.τ).loc Cert.ColWRefIdeal.main_arg1)
      ∧ r.2.mem ((c.tc : Thread Cert.ColWRefIdeal.nD Cert.ColWRefIdeal.τ).loc Cert.ColWRefIdeal.main_arg2) = m ((c.tc : Thread Cert.ColWRefIdeal.nD Cert.ColWRefIdeal.τ).loc Cert.ColWRefIdeal.main_arg2)
      ∧ r.2.mem ((c.tc : Thread Cert.ColWRefIdeal.nD Cert.ColWRefIdeal.τ).loc Cert.ColWRefIdeal.main_arg3) = m ((c.tc : Thread Cert.ColWRefIdeal.nD Cert.ColWRefIdeal.τ).loc Cert.ColWRefIdeal.main_arg3)
      ∧ r.2.mem ((c.tc : Thread Cert.ColWRefIdeal.nD Cert.ColWRefIdeal.τ).loc Cert.ColWRefIdeal.main_arg4) = m ((c.tc : Thread Cert.ColWRefIdeal.nD Cert.ColWRefIdeal.τ).loc Cert.ColWRefIdeal.main_arg4)
      ∧ r.2.mem ((c.tc : Thread Cert.ColWRefIdeal.nD Cert.ColWRefIdeal.τ).loc Cert.ColWRefIdeal.main_arg5) = m ((c.tc : Thread Cert.ColWRefIdeal.nD Cert.ColWRefIdeal.τ).loc Cert.ColWRefIdeal.main_arg5))
      ∧ r.2.sem = fun _ => 0)

def quiescent_ColWRefIdeal_pre_finite_columns_weight [hColWRefIdeal : Cert.ColWRefIdeal.Facts] [hPre_finite_columns_weight : Cert.Pre_finite_columns_weight.Facts] : Prop :=
  ∀ (m : (ℓ : Loc Cert.ColWRefIdeal.nD Cert.ColWRefIdeal.τ Cert.ColWRefIdeal.sig) → Buf (Elt Ideal) ℓ) (g : Dev Cert.ColWRefIdeal.nD → PrngReg), Pre_ColWRefIdeal_finite_columns_weight m →
    θ_run (Cert.ColWRefIdeal.defs (F := Ideal)) (onTc (τ := Cert.ColWRefIdeal.τ) (Cert.ColWRefIdeal.main (F := Ideal))) ⟨m, fun _ => 0, g⟩ (fun r => (∀ c : Dev Cert.ColWRefIdeal.nD,
      r.2.mem ((c.tc : Thread Cert.ColWRefIdeal.nD Cert.ColWRefIdeal.τ).loc Cert.ColWRefIdeal.main_arg0) = m ((c.tc : Thread Cert.ColWRefIdeal.nD Cert.ColWRefIdeal.τ).loc Cert.ColWRefIdeal.main_arg0)
      ∧ r.2.mem ((c.tc : Thread Cert.ColWRefIdeal.nD Cert.ColWRefIdeal.τ).loc Cert.ColWRefIdeal.main_arg1) = m ((c.tc : Thread Cert.ColWRefIdeal.nD Cert.ColWRefIdeal.τ).loc Cert.ColWRefIdeal.main_arg1)
      ∧ r.2.mem ((c.tc : Thread Cert.ColWRefIdeal.nD Cert.ColWRefIdeal.τ).loc Cert.ColWRefIdeal.main_arg2) = m ((c.tc : Thread Cert.ColWRefIdeal.nD Cert.ColWRefIdeal.τ).loc Cert.ColWRefIdeal.main_arg2)
      ∧ r.2.mem ((c.tc : Thread Cert.ColWRefIdeal.nD Cert.ColWRefIdeal.τ).loc Cert.ColWRefIdeal.main_arg3) = m ((c.tc : Thread Cert.ColWRefIdeal.nD Cert.ColWRefIdeal.τ).loc Cert.ColWRefIdeal.main_arg3)
      ∧ r.2.mem ((c.tc : Thread Cert.ColWRefIdeal.nD Cert.ColWRefIdeal.τ).loc Cert.ColWRefIdeal.main_arg4) = m ((c.tc : Thread Cert.ColWRefIdeal.nD Cert.ColWRefIdeal.τ).loc Cert.ColWRefIdeal.main_arg4)
      ∧ r.2.mem ((c.tc : Thread Cert.ColWRefIdeal.nD Cert.ColWRefIdeal.τ).loc Cert.ColWRefIdeal.main_arg5) = m ((c.tc : Thread Cert.ColWRefIdeal.nD Cert.ColWRefIdeal.τ).loc Cert.ColWRefIdeal.main_arg5))
      ∧ r.2.sem = fun _ => 0)

def quiescent_Qu [hQu : Cert.Qu.Facts] : Prop :=
  ∀ (m : (ℓ : Loc Cert.Qu.nD Cert.Qu.τ Cert.Qu.sig) → Buf (Elt Bits) ℓ) (g : Dev Cert.Qu.nD → PrngReg), Pre_Qu m →
    θ_run (Cert.Qu.defs (F := Bits)) (onTc (τ := Cert.Qu.τ) (Cert.Qu.main (F := Bits))) ⟨m, fun _ => 0, g⟩ (fun r => (∀ c : Dev Cert.Qu.nD,
      r.2.mem ((c.tc : Thread Cert.Qu.nD Cert.Qu.τ).loc Cert.Qu.main_arg0) = m ((c.tc : Thread Cert.Qu.nD Cert.Qu.τ).loc Cert.Qu.main_arg0)
      ∧ r.2.mem ((c.tc : Thread Cert.Qu.nD Cert.Qu.τ).loc Cert.Qu.main_arg1) = m ((c.tc : Thread Cert.Qu.nD Cert.Qu.τ).loc Cert.Qu.main_arg1)
      ∧ r.2.mem ((c.tc : Thread Cert.Qu.nD Cert.Qu.τ).loc Cert.Qu.main_arg2) = m ((c.tc : Thread Cert.Qu.nD Cert.Qu.τ).loc Cert.Qu.main_arg2)
      ∧ r.2.mem ((c.tc : Thread Cert.Qu.nD Cert.Qu.τ).loc Cert.Qu.main_arg3) = m ((c.tc : Thread Cert.Qu.nD Cert.Qu.τ).loc Cert.Qu.main_arg3))
      ∧ r.2.sem = fun _ => 0)

def quiescent_QuIdeal [hQuIdeal : Cert.QuIdeal.Facts] : Prop :=
  ∀ (m : (ℓ : Loc Cert.QuIdeal.nD Cert.QuIdeal.τ Cert.QuIdeal.sig) → Buf (Elt Ideal) ℓ) (g : Dev Cert.QuIdeal.nD → PrngReg), Pre_QuIdeal m →
    θ_run (Cert.QuIdeal.defs (F := Ideal)) (onTc (τ := Cert.QuIdeal.τ) (Cert.QuIdeal.main (F := Ideal))) ⟨m, fun _ => 0, g⟩ (fun r => (∀ c : Dev Cert.QuIdeal.nD,
      r.2.mem ((c.tc : Thread Cert.QuIdeal.nD Cert.QuIdeal.τ).loc Cert.QuIdeal.main_arg0) = m ((c.tc : Thread Cert.QuIdeal.nD Cert.QuIdeal.τ).loc Cert.QuIdeal.main_arg0)
      ∧ r.2.mem ((c.tc : Thread Cert.QuIdeal.nD Cert.QuIdeal.τ).loc Cert.QuIdeal.main_arg1) = m ((c.tc : Thread Cert.QuIdeal.nD Cert.QuIdeal.τ).loc Cert.QuIdeal.main_arg1)
      ∧ r.2.mem ((c.tc : Thread Cert.QuIdeal.nD Cert.QuIdeal.τ).loc Cert.QuIdeal.main_arg2) = m ((c.tc : Thread Cert.QuIdeal.nD Cert.QuIdeal.τ).loc Cert.QuIdeal.main_arg2)
      ∧ r.2.mem ((c.tc : Thread Cert.QuIdeal.nD Cert.QuIdeal.τ).loc Cert.QuIdeal.main_arg3) = m ((c.tc : Thread Cert.QuIdeal.nD Cert.QuIdeal.τ).loc Cert.QuIdeal.main_arg3))
      ∧ r.2.sem = fun _ => 0)

def quiescent_QuIdeal_pre_finite_queries [hQuIdeal : Cert.QuIdeal.Facts] [hPre_finite_queries : Cert.Pre_finite_queries.Facts] : Prop :=
  ∀ (m : (ℓ : Loc Cert.QuIdeal.nD Cert.QuIdeal.τ Cert.QuIdeal.sig) → Buf (Elt Ideal) ℓ) (g : Dev Cert.QuIdeal.nD → PrngReg), Pre_QuIdeal_finite_queries m →
    θ_run (Cert.QuIdeal.defs (F := Ideal)) (onTc (τ := Cert.QuIdeal.τ) (Cert.QuIdeal.main (F := Ideal))) ⟨m, fun _ => 0, g⟩ (fun r => (∀ c : Dev Cert.QuIdeal.nD,
      r.2.mem ((c.tc : Thread Cert.QuIdeal.nD Cert.QuIdeal.τ).loc Cert.QuIdeal.main_arg0) = m ((c.tc : Thread Cert.QuIdeal.nD Cert.QuIdeal.τ).loc Cert.QuIdeal.main_arg0)
      ∧ r.2.mem ((c.tc : Thread Cert.QuIdeal.nD Cert.QuIdeal.τ).loc Cert.QuIdeal.main_arg1) = m ((c.tc : Thread Cert.QuIdeal.nD Cert.QuIdeal.τ).loc Cert.QuIdeal.main_arg1)
      ∧ r.2.mem ((c.tc : Thread Cert.QuIdeal.nD Cert.QuIdeal.τ).loc Cert.QuIdeal.main_arg2) = m ((c.tc : Thread Cert.QuIdeal.nD Cert.QuIdeal.τ).loc Cert.QuIdeal.main_arg2)
      ∧ r.2.mem ((c.tc : Thread Cert.QuIdeal.nD Cert.QuIdeal.τ).loc Cert.QuIdeal.main_arg3) = m ((c.tc : Thread Cert.QuIdeal.nD Cert.QuIdeal.τ).loc Cert.QuIdeal.main_arg3))
      ∧ r.2.sem = fun _ => 0)

def quiescent_QuRefIdeal [hQuRefIdeal : Cert.QuRefIdeal.Facts] : Prop :=
  ∀ (m : (ℓ : Loc Cert.QuRefIdeal.nD Cert.QuRefIdeal.τ Cert.QuRefIdeal.sig) → Buf (Elt Ideal) ℓ) (g : Dev Cert.QuRefIdeal.nD → PrngReg), Pre_QuRefIdeal m →
    θ_run (Cert.QuRefIdeal.defs (F := Ideal)) (onTc (τ := Cert.QuRefIdeal.τ) (Cert.QuRefIdeal.main (F := Ideal))) ⟨m, fun _ => 0, g⟩ (fun r => (∀ c : Dev Cert.QuRefIdeal.nD,
      r.2.mem ((c.tc : Thread Cert.QuRefIdeal.nD Cert.QuRefIdeal.τ).loc Cert.QuRefIdeal.main_arg0) = m ((c.tc : Thread Cert.QuRefIdeal.nD Cert.QuRefIdeal.τ).loc Cert.QuRefIdeal.main_arg0)
      ∧ r.2.mem ((c.tc : Thread Cert.QuRefIdeal.nD Cert.QuRefIdeal.τ).loc Cert.QuRefIdeal.main_arg1) = m ((c.tc : Thread Cert.QuRefIdeal.nD Cert.QuRefIdeal.τ).loc Cert.QuRefIdeal.main_arg1)
      ∧ r.2.mem ((c.tc : Thread Cert.QuRefIdeal.nD Cert.QuRefIdeal.τ).loc Cert.QuRefIdeal.main_arg2) = m ((c.tc : Thread Cert.QuRefIdeal.nD Cert.QuRefIdeal.τ).loc Cert.QuRefIdeal.main_arg2)
      ∧ r.2.mem ((c.tc : Thread Cert.QuRefIdeal.nD Cert.QuRefIdeal.τ).loc Cert.QuRefIdeal.main_arg3) = m ((c.tc : Thread Cert.QuRefIdeal.nD Cert.QuRefIdeal.τ).loc Cert.QuRefIdeal.main_arg3))
      ∧ r.2.sem = fun _ => 0)

def quiescent_QuRefIdeal_pre_finite_queries [hQuRefIdeal : Cert.QuRefIdeal.Facts] [hPre_finite_queries : Cert.Pre_finite_queries.Facts] : Prop :=
  ∀ (m : (ℓ : Loc Cert.QuRefIdeal.nD Cert.QuRefIdeal.τ Cert.QuRefIdeal.sig) → Buf (Elt Ideal) ℓ) (g : Dev Cert.QuRefIdeal.nD → PrngReg), Pre_QuRefIdeal_finite_queries m →
    θ_run (Cert.QuRefIdeal.defs (F := Ideal)) (onTc (τ := Cert.QuRefIdeal.τ) (Cert.QuRefIdeal.main (F := Ideal))) ⟨m, fun _ => 0, g⟩ (fun r => (∀ c : Dev Cert.QuRefIdeal.nD,
      r.2.mem ((c.tc : Thread Cert.QuRefIdeal.nD Cert.QuRefIdeal.τ).loc Cert.QuRefIdeal.main_arg0) = m ((c.tc : Thread Cert.QuRefIdeal.nD Cert.QuRefIdeal.τ).loc Cert.QuRefIdeal.main_arg0)
      ∧ r.2.mem ((c.tc : Thread Cert.QuRefIdeal.nD Cert.QuRefIdeal.τ).loc Cert.QuRefIdeal.main_arg1) = m ((c.tc : Thread Cert.QuRefIdeal.nD Cert.QuRefIdeal.τ).loc Cert.QuRefIdeal.main_arg1)
      ∧ r.2.mem ((c.tc : Thread Cert.QuRefIdeal.nD Cert.QuRefIdeal.τ).loc Cert.QuRefIdeal.main_arg2) = m ((c.tc : Thread Cert.QuRefIdeal.nD Cert.QuRefIdeal.τ).loc Cert.QuRefIdeal.main_arg2)
      ∧ r.2.mem ((c.tc : Thread Cert.QuRefIdeal.nD Cert.QuRefIdeal.τ).loc Cert.QuRefIdeal.main_arg3) = m ((c.tc : Thread Cert.QuRefIdeal.nD Cert.QuRefIdeal.τ).loc Cert.QuRefIdeal.main_arg3))
      ∧ r.2.sem = fun _ => 0)

def quiescent_QuX [hQuX : Cert.QuX.Facts] : Prop :=
  ∀ (m : (ℓ : Loc Cert.QuX.nD Cert.QuX.τ Cert.QuX.sig) → Buf (Elt Bits) ℓ) (g : Dev Cert.QuX.nD → PrngReg), Pre_QuX m →
    θ_run (Cert.QuX.defs (F := Bits)) (onTc (τ := Cert.QuX.τ) (Cert.QuX.main (F := Bits))) ⟨m, fun _ => 0, g⟩ (fun r => (∀ c : Dev Cert.QuX.nD,
      r.2.mem ((c.tc : Thread Cert.QuX.nD Cert.QuX.τ).loc Cert.QuX.main_arg0) = m ((c.tc : Thread Cert.QuX.nD Cert.QuX.τ).loc Cert.QuX.main_arg0)
      ∧ r.2.mem ((c.tc : Thread Cert.QuX.nD Cert.QuX.τ).loc Cert.QuX.main_arg1) = m ((c.tc : Thread Cert.QuX.nD Cert.QuX.τ).loc Cert.QuX.main_arg1)
      ∧ r.2.mem ((c.tc : Thread Cert.QuX.nD Cert.QuX.τ).loc Cert.QuX.main_arg2) = m ((c.tc : Thread Cert.QuX.nD Cert.QuX.τ).loc Cert.QuX.main_arg2)
      ∧ r.2.mem ((c.tc : Thread Cert.QuX.nD Cert.QuX.τ).loc Cert.QuX.main_arg3) = m ((c.tc : Thread Cert.QuX.nD Cert.QuX.τ).loc Cert.QuX.main_arg3)
      ∧ r.2.mem ((c.tc : Thread Cert.QuX.nD Cert.QuX.τ).loc Cert.QuX.main_arg4) = m ((c.tc : Thread Cert.QuX.nD Cert.QuX.τ).loc Cert.QuX.main_arg4)
      ∧ r.2.mem ((c.tc : Thread Cert.QuX.nD Cert.QuX.τ).loc Cert.QuX.main_arg5) = m ((c.tc : Thread Cert.QuX.nD Cert.QuX.τ).loc Cert.QuX.main_arg5))
      ∧ r.2.sem = fun _ => 0)

def quiescent_QuXIdeal [hQuXIdeal : Cert.QuXIdeal.Facts] : Prop :=
  ∀ (m : (ℓ : Loc Cert.QuXIdeal.nD Cert.QuXIdeal.τ Cert.QuXIdeal.sig) → Buf (Elt Ideal) ℓ) (g : Dev Cert.QuXIdeal.nD → PrngReg), Pre_QuXIdeal m →
    θ_run (Cert.QuXIdeal.defs (F := Ideal)) (onTc (τ := Cert.QuXIdeal.τ) (Cert.QuXIdeal.main (F := Ideal))) ⟨m, fun _ => 0, g⟩ (fun r => (∀ c : Dev Cert.QuXIdeal.nD,
      r.2.mem ((c.tc : Thread Cert.QuXIdeal.nD Cert.QuXIdeal.τ).loc Cert.QuXIdeal.main_arg0) = m ((c.tc : Thread Cert.QuXIdeal.nD Cert.QuXIdeal.τ).loc Cert.QuXIdeal.main_arg0)
      ∧ r.2.mem ((c.tc : Thread Cert.QuXIdeal.nD Cert.QuXIdeal.τ).loc Cert.QuXIdeal.main_arg1) = m ((c.tc : Thread Cert.QuXIdeal.nD Cert.QuXIdeal.τ).loc Cert.QuXIdeal.main_arg1)
      ∧ r.2.mem ((c.tc : Thread Cert.QuXIdeal.nD Cert.QuXIdeal.τ).loc Cert.QuXIdeal.main_arg2) = m ((c.tc : Thread Cert.QuXIdeal.nD Cert.QuXIdeal.τ).loc Cert.QuXIdeal.main_arg2)
      ∧ r.2.mem ((c.tc : Thread Cert.QuXIdeal.nD Cert.QuXIdeal.τ).loc Cert.QuXIdeal.main_arg3) = m ((c.tc : Thread Cert.QuXIdeal.nD Cert.QuXIdeal.τ).loc Cert.QuXIdeal.main_arg3)
      ∧ r.2.mem ((c.tc : Thread Cert.QuXIdeal.nD Cert.QuXIdeal.τ).loc Cert.QuXIdeal.main_arg4) = m ((c.tc : Thread Cert.QuXIdeal.nD Cert.QuXIdeal.τ).loc Cert.QuXIdeal.main_arg4)
      ∧ r.2.mem ((c.tc : Thread Cert.QuXIdeal.nD Cert.QuXIdeal.τ).loc Cert.QuXIdeal.main_arg5) = m ((c.tc : Thread Cert.QuXIdeal.nD Cert.QuXIdeal.τ).loc Cert.QuXIdeal.main_arg5))
      ∧ r.2.sem = fun _ => 0)

def quiescent_QuXIdeal_pre_finite_queries_input [hQuXIdeal : Cert.QuXIdeal.Facts] [hPre_finite_queries_input : Cert.Pre_finite_queries_input.Facts] : Prop :=
  ∀ (m : (ℓ : Loc Cert.QuXIdeal.nD Cert.QuXIdeal.τ Cert.QuXIdeal.sig) → Buf (Elt Ideal) ℓ) (g : Dev Cert.QuXIdeal.nD → PrngReg), Pre_QuXIdeal_finite_queries_input m →
    θ_run (Cert.QuXIdeal.defs (F := Ideal)) (onTc (τ := Cert.QuXIdeal.τ) (Cert.QuXIdeal.main (F := Ideal))) ⟨m, fun _ => 0, g⟩ (fun r => (∀ c : Dev Cert.QuXIdeal.nD,
      r.2.mem ((c.tc : Thread Cert.QuXIdeal.nD Cert.QuXIdeal.τ).loc Cert.QuXIdeal.main_arg0) = m ((c.tc : Thread Cert.QuXIdeal.nD Cert.QuXIdeal.τ).loc Cert.QuXIdeal.main_arg0)
      ∧ r.2.mem ((c.tc : Thread Cert.QuXIdeal.nD Cert.QuXIdeal.τ).loc Cert.QuXIdeal.main_arg1) = m ((c.tc : Thread Cert.QuXIdeal.nD Cert.QuXIdeal.τ).loc Cert.QuXIdeal.main_arg1)
      ∧ r.2.mem ((c.tc : Thread Cert.QuXIdeal.nD Cert.QuXIdeal.τ).loc Cert.QuXIdeal.main_arg2) = m ((c.tc : Thread Cert.QuXIdeal.nD Cert.QuXIdeal.τ).loc Cert.QuXIdeal.main_arg2)
      ∧ r.2.mem ((c.tc : Thread Cert.QuXIdeal.nD Cert.QuXIdeal.τ).loc Cert.QuXIdeal.main_arg3) = m ((c.tc : Thread Cert.QuXIdeal.nD Cert.QuXIdeal.τ).loc Cert.QuXIdeal.main_arg3)
      ∧ r.2.mem ((c.tc : Thread Cert.QuXIdeal.nD Cert.QuXIdeal.τ).loc Cert.QuXIdeal.main_arg4) = m ((c.tc : Thread Cert.QuXIdeal.nD Cert.QuXIdeal.τ).loc Cert.QuXIdeal.main_arg4)
      ∧ r.2.mem ((c.tc : Thread Cert.QuXIdeal.nD Cert.QuXIdeal.τ).loc Cert.QuXIdeal.main_arg5) = m ((c.tc : Thread Cert.QuXIdeal.nD Cert.QuXIdeal.τ).loc Cert.QuXIdeal.main_arg5))
      ∧ r.2.sem = fun _ => 0)

def quiescent_QuXRefIdeal [hQuXRefIdeal : Cert.QuXRefIdeal.Facts] : Prop :=
  ∀ (m : (ℓ : Loc Cert.QuXRefIdeal.nD Cert.QuXRefIdeal.τ Cert.QuXRefIdeal.sig) → Buf (Elt Ideal) ℓ) (g : Dev Cert.QuXRefIdeal.nD → PrngReg), Pre_QuXRefIdeal m →
    θ_run (Cert.QuXRefIdeal.defs (F := Ideal)) (onTc (τ := Cert.QuXRefIdeal.τ) (Cert.QuXRefIdeal.main (F := Ideal))) ⟨m, fun _ => 0, g⟩ (fun r => (∀ c : Dev Cert.QuXRefIdeal.nD,
      r.2.mem ((c.tc : Thread Cert.QuXRefIdeal.nD Cert.QuXRefIdeal.τ).loc Cert.QuXRefIdeal.main_arg0) = m ((c.tc : Thread Cert.QuXRefIdeal.nD Cert.QuXRefIdeal.τ).loc Cert.QuXRefIdeal.main_arg0)
      ∧ r.2.mem ((c.tc : Thread Cert.QuXRefIdeal.nD Cert.QuXRefIdeal.τ).loc Cert.QuXRefIdeal.main_arg1) = m ((c.tc : Thread Cert.QuXRefIdeal.nD Cert.QuXRefIdeal.τ).loc Cert.QuXRefIdeal.main_arg1)
      ∧ r.2.mem ((c.tc : Thread Cert.QuXRefIdeal.nD Cert.QuXRefIdeal.τ).loc Cert.QuXRefIdeal.main_arg2) = m ((c.tc : Thread Cert.QuXRefIdeal.nD Cert.QuXRefIdeal.τ).loc Cert.QuXRefIdeal.main_arg2)
      ∧ r.2.mem ((c.tc : Thread Cert.QuXRefIdeal.nD Cert.QuXRefIdeal.τ).loc Cert.QuXRefIdeal.main_arg3) = m ((c.tc : Thread Cert.QuXRefIdeal.nD Cert.QuXRefIdeal.τ).loc Cert.QuXRefIdeal.main_arg3)
      ∧ r.2.mem ((c.tc : Thread Cert.QuXRefIdeal.nD Cert.QuXRefIdeal.τ).loc Cert.QuXRefIdeal.main_arg4) = m ((c.tc : Thread Cert.QuXRefIdeal.nD Cert.QuXRefIdeal.τ).loc Cert.QuXRefIdeal.main_arg4)
      ∧ r.2.mem ((c.tc : Thread Cert.QuXRefIdeal.nD Cert.QuXRefIdeal.τ).loc Cert.QuXRefIdeal.main_arg5) = m ((c.tc : Thread Cert.QuXRefIdeal.nD Cert.QuXRefIdeal.τ).loc Cert.QuXRefIdeal.main_arg5))
      ∧ r.2.sem = fun _ => 0)

def quiescent_QuXRefIdeal_pre_finite_queries_input [hQuXRefIdeal : Cert.QuXRefIdeal.Facts] [hPre_finite_queries_input : Cert.Pre_finite_queries_input.Facts] : Prop :=
  ∀ (m : (ℓ : Loc Cert.QuXRefIdeal.nD Cert.QuXRefIdeal.τ Cert.QuXRefIdeal.sig) → Buf (Elt Ideal) ℓ) (g : Dev Cert.QuXRefIdeal.nD → PrngReg), Pre_QuXRefIdeal_finite_queries_input m →
    θ_run (Cert.QuXRefIdeal.defs (F := Ideal)) (onTc (τ := Cert.QuXRefIdeal.τ) (Cert.QuXRefIdeal.main (F := Ideal))) ⟨m, fun _ => 0, g⟩ (fun r => (∀ c : Dev Cert.QuXRefIdeal.nD,
      r.2.mem ((c.tc : Thread Cert.QuXRefIdeal.nD Cert.QuXRefIdeal.τ).loc Cert.QuXRefIdeal.main_arg0) = m ((c.tc : Thread Cert.QuXRefIdeal.nD Cert.QuXRefIdeal.τ).loc Cert.QuXRefIdeal.main_arg0)
      ∧ r.2.mem ((c.tc : Thread Cert.QuXRefIdeal.nD Cert.QuXRefIdeal.τ).loc Cert.QuXRefIdeal.main_arg1) = m ((c.tc : Thread Cert.QuXRefIdeal.nD Cert.QuXRefIdeal.τ).loc Cert.QuXRefIdeal.main_arg1)
      ∧ r.2.mem ((c.tc : Thread Cert.QuXRefIdeal.nD Cert.QuXRefIdeal.τ).loc Cert.QuXRefIdeal.main_arg2) = m ((c.tc : Thread Cert.QuXRefIdeal.nD Cert.QuXRefIdeal.τ).loc Cert.QuXRefIdeal.main_arg2)
      ∧ r.2.mem ((c.tc : Thread Cert.QuXRefIdeal.nD Cert.QuXRefIdeal.τ).loc Cert.QuXRefIdeal.main_arg3) = m ((c.tc : Thread Cert.QuXRefIdeal.nD Cert.QuXRefIdeal.τ).loc Cert.QuXRefIdeal.main_arg3)
      ∧ r.2.mem ((c.tc : Thread Cert.QuXRefIdeal.nD Cert.QuXRefIdeal.τ).loc Cert.QuXRefIdeal.main_arg4) = m ((c.tc : Thread Cert.QuXRefIdeal.nD Cert.QuXRefIdeal.τ).loc Cert.QuXRefIdeal.main_arg4)
      ∧ r.2.mem ((c.tc : Thread Cert.QuXRefIdeal.nD Cert.QuXRefIdeal.τ).loc Cert.QuXRefIdeal.main_arg5) = m ((c.tc : Thread Cert.QuXRefIdeal.nD Cert.QuXRefIdeal.τ).loc Cert.QuXRefIdeal.main_arg5))
      ∧ r.2.sem = fun _ => 0)

def quiescent_QuW [hQuW : Cert.QuW.Facts] : Prop :=
  ∀ (m : (ℓ : Loc Cert.QuW.nD Cert.QuW.τ Cert.QuW.sig) → Buf (Elt Bits) ℓ) (g : Dev Cert.QuW.nD → PrngReg), Pre_QuW m →
    θ_run (Cert.QuW.defs (F := Bits)) (onTc (τ := Cert.QuW.τ) (Cert.QuW.main (F := Bits))) ⟨m, fun _ => 0, g⟩ (fun r => (∀ c : Dev Cert.QuW.nD,
      r.2.mem ((c.tc : Thread Cert.QuW.nD Cert.QuW.τ).loc Cert.QuW.main_arg0) = m ((c.tc : Thread Cert.QuW.nD Cert.QuW.τ).loc Cert.QuW.main_arg0)
      ∧ r.2.mem ((c.tc : Thread Cert.QuW.nD Cert.QuW.τ).loc Cert.QuW.main_arg1) = m ((c.tc : Thread Cert.QuW.nD Cert.QuW.τ).loc Cert.QuW.main_arg1)
      ∧ r.2.mem ((c.tc : Thread Cert.QuW.nD Cert.QuW.τ).loc Cert.QuW.main_arg2) = m ((c.tc : Thread Cert.QuW.nD Cert.QuW.τ).loc Cert.QuW.main_arg2)
      ∧ r.2.mem ((c.tc : Thread Cert.QuW.nD Cert.QuW.τ).loc Cert.QuW.main_arg3) = m ((c.tc : Thread Cert.QuW.nD Cert.QuW.τ).loc Cert.QuW.main_arg3)
      ∧ r.2.mem ((c.tc : Thread Cert.QuW.nD Cert.QuW.τ).loc Cert.QuW.main_arg4) = m ((c.tc : Thread Cert.QuW.nD Cert.QuW.τ).loc Cert.QuW.main_arg4)
      ∧ r.2.mem ((c.tc : Thread Cert.QuW.nD Cert.QuW.τ).loc Cert.QuW.main_arg5) = m ((c.tc : Thread Cert.QuW.nD Cert.QuW.τ).loc Cert.QuW.main_arg5))
      ∧ r.2.sem = fun _ => 0)

def quiescent_QuWIdeal [hQuWIdeal : Cert.QuWIdeal.Facts] : Prop :=
  ∀ (m : (ℓ : Loc Cert.QuWIdeal.nD Cert.QuWIdeal.τ Cert.QuWIdeal.sig) → Buf (Elt Ideal) ℓ) (g : Dev Cert.QuWIdeal.nD → PrngReg), Pre_QuWIdeal m →
    θ_run (Cert.QuWIdeal.defs (F := Ideal)) (onTc (τ := Cert.QuWIdeal.τ) (Cert.QuWIdeal.main (F := Ideal))) ⟨m, fun _ => 0, g⟩ (fun r => (∀ c : Dev Cert.QuWIdeal.nD,
      r.2.mem ((c.tc : Thread Cert.QuWIdeal.nD Cert.QuWIdeal.τ).loc Cert.QuWIdeal.main_arg0) = m ((c.tc : Thread Cert.QuWIdeal.nD Cert.QuWIdeal.τ).loc Cert.QuWIdeal.main_arg0)
      ∧ r.2.mem ((c.tc : Thread Cert.QuWIdeal.nD Cert.QuWIdeal.τ).loc Cert.QuWIdeal.main_arg1) = m ((c.tc : Thread Cert.QuWIdeal.nD Cert.QuWIdeal.τ).loc Cert.QuWIdeal.main_arg1)
      ∧ r.2.mem ((c.tc : Thread Cert.QuWIdeal.nD Cert.QuWIdeal.τ).loc Cert.QuWIdeal.main_arg2) = m ((c.tc : Thread Cert.QuWIdeal.nD Cert.QuWIdeal.τ).loc Cert.QuWIdeal.main_arg2)
      ∧ r.2.mem ((c.tc : Thread Cert.QuWIdeal.nD Cert.QuWIdeal.τ).loc Cert.QuWIdeal.main_arg3) = m ((c.tc : Thread Cert.QuWIdeal.nD Cert.QuWIdeal.τ).loc Cert.QuWIdeal.main_arg3)
      ∧ r.2.mem ((c.tc : Thread Cert.QuWIdeal.nD Cert.QuWIdeal.τ).loc Cert.QuWIdeal.main_arg4) = m ((c.tc : Thread Cert.QuWIdeal.nD Cert.QuWIdeal.τ).loc Cert.QuWIdeal.main_arg4)
      ∧ r.2.mem ((c.tc : Thread Cert.QuWIdeal.nD Cert.QuWIdeal.τ).loc Cert.QuWIdeal.main_arg5) = m ((c.tc : Thread Cert.QuWIdeal.nD Cert.QuWIdeal.τ).loc Cert.QuWIdeal.main_arg5))
      ∧ r.2.sem = fun _ => 0)

def quiescent_QuWIdeal_pre_finite_queries_weight [hQuWIdeal : Cert.QuWIdeal.Facts] [hPre_finite_queries_weight : Cert.Pre_finite_queries_weight.Facts] : Prop :=
  ∀ (m : (ℓ : Loc Cert.QuWIdeal.nD Cert.QuWIdeal.τ Cert.QuWIdeal.sig) → Buf (Elt Ideal) ℓ) (g : Dev Cert.QuWIdeal.nD → PrngReg), Pre_QuWIdeal_finite_queries_weight m →
    θ_run (Cert.QuWIdeal.defs (F := Ideal)) (onTc (τ := Cert.QuWIdeal.τ) (Cert.QuWIdeal.main (F := Ideal))) ⟨m, fun _ => 0, g⟩ (fun r => (∀ c : Dev Cert.QuWIdeal.nD,
      r.2.mem ((c.tc : Thread Cert.QuWIdeal.nD Cert.QuWIdeal.τ).loc Cert.QuWIdeal.main_arg0) = m ((c.tc : Thread Cert.QuWIdeal.nD Cert.QuWIdeal.τ).loc Cert.QuWIdeal.main_arg0)
      ∧ r.2.mem ((c.tc : Thread Cert.QuWIdeal.nD Cert.QuWIdeal.τ).loc Cert.QuWIdeal.main_arg1) = m ((c.tc : Thread Cert.QuWIdeal.nD Cert.QuWIdeal.τ).loc Cert.QuWIdeal.main_arg1)
      ∧ r.2.mem ((c.tc : Thread Cert.QuWIdeal.nD Cert.QuWIdeal.τ).loc Cert.QuWIdeal.main_arg2) = m ((c.tc : Thread Cert.QuWIdeal.nD Cert.QuWIdeal.τ).loc Cert.QuWIdeal.main_arg2)
      ∧ r.2.mem ((c.tc : Thread Cert.QuWIdeal.nD Cert.QuWIdeal.τ).loc Cert.QuWIdeal.main_arg3) = m ((c.tc : Thread Cert.QuWIdeal.nD Cert.QuWIdeal.τ).loc Cert.QuWIdeal.main_arg3)
      ∧ r.2.mem ((c.tc : Thread Cert.QuWIdeal.nD Cert.QuWIdeal.τ).loc Cert.QuWIdeal.main_arg4) = m ((c.tc : Thread Cert.QuWIdeal.nD Cert.QuWIdeal.τ).loc Cert.QuWIdeal.main_arg4)
      ∧ r.2.mem ((c.tc : Thread Cert.QuWIdeal.nD Cert.QuWIdeal.τ).loc Cert.QuWIdeal.main_arg5) = m ((c.tc : Thread Cert.QuWIdeal.nD Cert.QuWIdeal.τ).loc Cert.QuWIdeal.main_arg5))
      ∧ r.2.sem = fun _ => 0)

def quiescent_QuWRefIdeal [hQuWRefIdeal : Cert.QuWRefIdeal.Facts] : Prop :=
  ∀ (m : (ℓ : Loc Cert.QuWRefIdeal.nD Cert.QuWRefIdeal.τ Cert.QuWRefIdeal.sig) → Buf (Elt Ideal) ℓ) (g : Dev Cert.QuWRefIdeal.nD → PrngReg), Pre_QuWRefIdeal m →
    θ_run (Cert.QuWRefIdeal.defs (F := Ideal)) (onTc (τ := Cert.QuWRefIdeal.τ) (Cert.QuWRefIdeal.main (F := Ideal))) ⟨m, fun _ => 0, g⟩ (fun r => (∀ c : Dev Cert.QuWRefIdeal.nD,
      r.2.mem ((c.tc : Thread Cert.QuWRefIdeal.nD Cert.QuWRefIdeal.τ).loc Cert.QuWRefIdeal.main_arg0) = m ((c.tc : Thread Cert.QuWRefIdeal.nD Cert.QuWRefIdeal.τ).loc Cert.QuWRefIdeal.main_arg0)
      ∧ r.2.mem ((c.tc : Thread Cert.QuWRefIdeal.nD Cert.QuWRefIdeal.τ).loc Cert.QuWRefIdeal.main_arg1) = m ((c.tc : Thread Cert.QuWRefIdeal.nD Cert.QuWRefIdeal.τ).loc Cert.QuWRefIdeal.main_arg1)
      ∧ r.2.mem ((c.tc : Thread Cert.QuWRefIdeal.nD Cert.QuWRefIdeal.τ).loc Cert.QuWRefIdeal.main_arg2) = m ((c.tc : Thread Cert.QuWRefIdeal.nD Cert.QuWRefIdeal.τ).loc Cert.QuWRefIdeal.main_arg2)
      ∧ r.2.mem ((c.tc : Thread Cert.QuWRefIdeal.nD Cert.QuWRefIdeal.τ).loc Cert.QuWRefIdeal.main_arg3) = m ((c.tc : Thread Cert.QuWRefIdeal.nD Cert.QuWRefIdeal.τ).loc Cert.QuWRefIdeal.main_arg3)
      ∧ r.2.mem ((c.tc : Thread Cert.QuWRefIdeal.nD Cert.QuWRefIdeal.τ).loc Cert.QuWRefIdeal.main_arg4) = m ((c.tc : Thread Cert.QuWRefIdeal.nD Cert.QuWRefIdeal.τ).loc Cert.QuWRefIdeal.main_arg4)
      ∧ r.2.mem ((c.tc : Thread Cert.QuWRefIdeal.nD Cert.QuWRefIdeal.τ).loc Cert.QuWRefIdeal.main_arg5) = m ((c.tc : Thread Cert.QuWRefIdeal.nD Cert.QuWRefIdeal.τ).loc Cert.QuWRefIdeal.main_arg5))
      ∧ r.2.sem = fun _ => 0)

def quiescent_QuWRefIdeal_pre_finite_queries_weight [hQuWRefIdeal : Cert.QuWRefIdeal.Facts] [hPre_finite_queries_weight : Cert.Pre_finite_queries_weight.Facts] : Prop :=
  ∀ (m : (ℓ : Loc Cert.QuWRefIdeal.nD Cert.QuWRefIdeal.τ Cert.QuWRefIdeal.sig) → Buf (Elt Ideal) ℓ) (g : Dev Cert.QuWRefIdeal.nD → PrngReg), Pre_QuWRefIdeal_finite_queries_weight m →
    θ_run (Cert.QuWRefIdeal.defs (F := Ideal)) (onTc (τ := Cert.QuWRefIdeal.τ) (Cert.QuWRefIdeal.main (F := Ideal))) ⟨m, fun _ => 0, g⟩ (fun r => (∀ c : Dev Cert.QuWRefIdeal.nD,
      r.2.mem ((c.tc : Thread Cert.QuWRefIdeal.nD Cert.QuWRefIdeal.τ).loc Cert.QuWRefIdeal.main_arg0) = m ((c.tc : Thread Cert.QuWRefIdeal.nD Cert.QuWRefIdeal.τ).loc Cert.QuWRefIdeal.main_arg0)
      ∧ r.2.mem ((c.tc : Thread Cert.QuWRefIdeal.nD Cert.QuWRefIdeal.τ).loc Cert.QuWRefIdeal.main_arg1) = m ((c.tc : Thread Cert.QuWRefIdeal.nD Cert.QuWRefIdeal.τ).loc Cert.QuWRefIdeal.main_arg1)
      ∧ r.2.mem ((c.tc : Thread Cert.QuWRefIdeal.nD Cert.QuWRefIdeal.τ).loc Cert.QuWRefIdeal.main_arg2) = m ((c.tc : Thread Cert.QuWRefIdeal.nD Cert.QuWRefIdeal.τ).loc Cert.QuWRefIdeal.main_arg2)
      ∧ r.2.mem ((c.tc : Thread Cert.QuWRefIdeal.nD Cert.QuWRefIdeal.τ).loc Cert.QuWRefIdeal.main_arg3) = m ((c.tc : Thread Cert.QuWRefIdeal.nD Cert.QuWRefIdeal.τ).loc Cert.QuWRefIdeal.main_arg3)
      ∧ r.2.mem ((c.tc : Thread Cert.QuWRefIdeal.nD Cert.QuWRefIdeal.τ).loc Cert.QuWRefIdeal.main_arg4) = m ((c.tc : Thread Cert.QuWRefIdeal.nD Cert.QuWRefIdeal.τ).loc Cert.QuWRefIdeal.main_arg4)
      ∧ r.2.mem ((c.tc : Thread Cert.QuWRefIdeal.nD Cert.QuWRefIdeal.τ).loc Cert.QuWRefIdeal.main_arg5) = m ((c.tc : Thread Cert.QuWRefIdeal.nD Cert.QuWRefIdeal.τ).loc Cert.QuWRefIdeal.main_arg5))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v119)) (v2 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_v117) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v17)) (v1 : (c : Dev Cert.GateIdeal.nD) → Buf (Elt Ideal) ((c.tc : Thread Cert.GateIdeal.nD Cert.GateIdeal.τ).loc Cert.GateIdeal.main_v21)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v17) = v0 c
          ∧ r.2.mem ((c.tc : Thread Cert.GateIdeal.nD Cert.GateIdeal.τ).loc Cert.GateIdeal.main_v21) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_v4) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v9)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v9) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_WGate_WGateIdeal : Prop :=
  True

def algebraic_WGateIdeal_WGateRefIdeal [hWGateIdeal : Cert.WGateIdeal.Facts] [hWGateRefIdeal : Cert.WGateRefIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.WGateRefIdeal.nD Cert.WGateRefIdeal.τ Cert.WGateRefIdeal.sig) → Buf (Elt Ideal) ℓ) (g' : Dev Cert.WGateRefIdeal.nD → PrngReg), Pre_WGateIdeal m →
    (∀ c : Dev Cert.WGateIdeal.nD,
      m' ((c.tc : Thread Cert.WGateRefIdeal.nD Cert.WGateRefIdeal.τ).loc Cert.WGateRefIdeal.main_arg0) = m ((c.tc : Thread Cert.WGateIdeal.nD Cert.WGateIdeal.τ).loc Cert.WGateIdeal.main_arg0)
      ∧ m' ((c.tc : Thread Cert.WGateRefIdeal.nD Cert.WGateRefIdeal.τ).loc Cert.WGateRefIdeal.main_arg1) = m ((c.tc : Thread Cert.WGateIdeal.nD Cert.WGateIdeal.τ).loc Cert.WGateIdeal.main_arg1)
      ∧ m' ((c.tc : Thread Cert.WGateRefIdeal.nD Cert.WGateRefIdeal.τ).loc Cert.WGateRefIdeal.main_arg2) = m ((c.tc : Thread Cert.WGateIdeal.nD Cert.WGateIdeal.τ).loc Cert.WGateIdeal.main_arg2)) →
    ∃ (v0 : (c : Dev Cert.WGateIdeal.nD) → Buf (Elt Ideal) ((c.tc : Thread Cert.WGateIdeal.nD Cert.WGateIdeal.τ).loc Cert.WGateIdeal.main_v10)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v10) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1)
          ∧ r.2.mem ((c.tc : Thread Cert.WGateIdeal.nD Cert.WGateIdeal.τ).loc Cert.WGateIdeal.main_arg2) = m ((c.tc : Thread Cert.WGateIdeal.nD Cert.WGateIdeal.τ).loc Cert.WGateIdeal.main_arg2))
      ∧ θ_run (Cert.WGateRefIdeal.defs (F := Ideal)) (onTc (τ := Cert.WGateRefIdeal.τ) (Cert.WGateRefIdeal.main (F := Ideal))) ⟨m', fun _ => 0, g'⟩ (fun r => ∀ c : Dev Cert.WGateRefIdeal.nD,
          r.2.mem ((c.tc : Thread Cert.WGateRefIdeal.nD Cert.WGateRefIdeal.τ).loc Cert.WGateRefIdeal.main_v2) = v0 c
          ∧ r.2.mem ((c.tc : Thread Cert.WGateRefIdeal.nD Cert.WGateRefIdeal.τ).loc Cert.WGateRefIdeal.main_arg0) = m' ((c.tc : Thread Cert.WGateRefIdeal.nD Cert.WGateRefIdeal.τ).loc Cert.WGateRefIdeal.main_arg0)
          ∧ r.2.mem ((c.tc : Thread Cert.WGateRefIdeal.nD Cert.WGateRefIdeal.τ).loc Cert.WGateRefIdeal.main_arg1) = m' ((c.tc : Thread Cert.WGateRefIdeal.nD Cert.WGateRefIdeal.τ).loc Cert.WGateRefIdeal.main_arg1)
          ∧ r.2.mem ((c.tc : Thread Cert.WGateRefIdeal.nD Cert.WGateRefIdeal.τ).loc Cert.WGateRefIdeal.main_arg2) = m' ((c.tc : Thread Cert.WGateRefIdeal.nD Cert.WGateRefIdeal.τ).loc Cert.WGateRefIdeal.main_arg2))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)
      ∧ m' ((c.tc : Thread Cert.WUpRefIdeal.nD Cert.WUpRefIdeal.τ).loc Cert.WUpRefIdeal.main_arg2) = m ((c.tc : Thread Cert.WUpIdeal.nD Cert.WUpIdeal.τ).loc Cert.WUpIdeal.main_arg2)) →
    ∃ (v0 : (c : Dev Cert.WUpIdeal.nD) → Buf (Elt Ideal) ((c.tc : Thread Cert.WUpIdeal.nD Cert.WUpIdeal.τ).loc Cert.WUpIdeal.main_v10)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v10) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1)
          ∧ r.2.mem ((c.tc : Thread Cert.WUpIdeal.nD Cert.WUpIdeal.τ).loc Cert.WUpIdeal.main_arg2) = m ((c.tc : Thread Cert.WUpIdeal.nD Cert.WUpIdeal.τ).loc Cert.WUpIdeal.main_arg2))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v2) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1)
          ∧ r.2.mem ((c.tc : Thread Cert.WUpRefIdeal.nD Cert.WUpRefIdeal.τ).loc Cert.WUpRefIdeal.main_arg2) = m' ((c.tc : Thread Cert.WUpRefIdeal.nD Cert.WUpRefIdeal.τ).loc Cert.WUpRefIdeal.main_arg2))

def preserves_HnGate_HnGateIdeal : Prop :=
  True

def algebraic_HnGateIdeal_HnGateRefIdeal [hHnGateIdeal : Cert.HnGateIdeal.Facts] [hHnGateRefIdeal : Cert.HnGateRefIdeal.Facts] : Prop :=
  ∀ (m : (ℓ : Loc Cert.HnGateIdeal.nD Cert.HnGateIdeal.τ Cert.HnGateIdeal.sig) → Buf (Elt Ideal) ℓ) (g : Dev Cert.HnGateIdeal.nD → PrngReg)
    (m' : (ℓ : Loc Cert.HnGateRefIdeal.nD Cert.HnGateRefIdeal.τ Cert.HnGateRefIdeal.sig) → Buf (Elt Ideal) ℓ) (g' : Dev Cert.HnGateRefIdeal.nD → PrngReg), Pre_HnGateIdeal m →
    (∀ c : Dev Cert.HnGateIdeal.nD,
      m' ((c.tc : Thread Cert.HnGateRefIdeal.nD Cert.HnGateRefIdeal.τ).loc Cert.HnGateRefIdeal.main_arg0) = m ((c.tc : Thread Cert.HnGateIdeal.nD Cert.HnGateIdeal.τ).loc Cert.HnGateIdeal.main_arg0)
      ∧ m' ((c.tc : Thread Cert.HnGateRefIdeal.nD Cert.HnGateRefIdeal.τ).loc Cert.HnGateRefIdeal.main_arg1) = m ((c.tc : Thread Cert.HnGateIdeal.nD Cert.HnGateIdeal.τ).loc Cert.HnGateIdeal.main_arg1)
      ∧ m' ((c.tc : Thread Cert.HnGateRefIdeal.nD Cert.HnGateRefIdeal.τ).loc Cert.HnGateRefIdeal.main_arg2) = m ((c.tc : Thread Cert.HnGateIdeal.nD Cert.HnGateIdeal.τ).loc Cert.HnGateIdeal.main_arg2)) →
    ∃ (v0 : (c : Dev Cert.HnGateIdeal.nD) → Buf (Elt Ideal) ((c.tc : Thread Cert.HnGateIdeal.nD Cert.HnGateIdeal.τ).loc Cert.HnGateIdeal.main_v9)),
      θ_run (Cert.HnGateIdeal.defs (F := Ideal)) (onTc (τ := Cert.HnGateIdeal.τ) (Cert.HnGateIdeal.main (F := Ideal))) ⟨m, fun _ => 0, g⟩ (fun r => ∀ c : Dev Cert.HnGateIdeal.nD,
          r.2.mem ((c.tc : Thread Cert.HnGateIdeal.nD Cert.HnGateIdeal.τ).loc Cert.HnGateIdeal.main_v9) = v0 c
          ∧ r.2.mem ((c.tc : Thread Cert.HnGateIdeal.nD Cert.HnGateIdeal.τ).loc Cert.HnGateIdeal.main_arg0) = m ((c.tc : Thread Cert.HnGateIdeal.nD Cert.HnGateIdeal.τ).loc Cert.HnGateIdeal.main_arg0)
          ∧ r.2.mem ((c.tc : Thread Cert.HnGateIdeal.nD Cert.HnGateIdeal.τ).loc Cert.HnGateIdeal.main_arg1) = m ((c.tc : Thread Cert.HnGateIdeal.nD Cert.HnGateIdeal.τ).loc Cert.HnGateIdeal.main_arg1)
          ∧ r.2.mem ((c.tc : Thread Cert.HnGateIdeal.nD Cert.HnGateIdeal.τ).loc Cert.HnGateIdeal.main_arg2) = m ((c.tc : Thread Cert.HnGateIdeal.nD Cert.HnGateIdeal.τ).loc Cert.HnGateIdeal.main_arg2))
      ∧ θ_run (Cert.HnGateRefIdeal.defs (F := Ideal)) (onTc (τ := Cert.HnGateRefIdeal.τ) (Cert.HnGateRefIdeal.main (F := Ideal))) ⟨m', fun _ => 0, g'⟩ (fun r => ∀ c : Dev Cert.HnGateRefIdeal.nD,
          r.2.mem ((c.tc : Thread Cert.HnGateRefIdeal.nD Cert.HnGateRefIdeal.τ).loc Cert.HnGateRefIdeal.main_v1) = v0 c
          ∧ r.2.mem ((c.tc : Thread Cert.HnGateRefIdeal.nD Cert.HnGateRefIdeal.τ).loc Cert.HnGateRefIdeal.main_arg0) = m' ((c.tc : Thread Cert.HnGateRefIdeal.nD Cert.HnGateRefIdeal.τ).loc Cert.HnGateRefIdeal.main_arg0)
          ∧ r.2.mem ((c.tc : Thread Cert.HnGateRefIdeal.nD Cert.HnGateRefIdeal.τ).loc Cert.HnGateRefIdeal.main_arg1) = m' ((c.tc : Thread Cert.HnGateRefIdeal.nD Cert.HnGateRefIdeal.τ).loc Cert.HnGateRefIdeal.main_arg1)
          ∧ r.2.mem ((c.tc : Thread Cert.HnGateRefIdeal.nD Cert.HnGateRefIdeal.τ).loc Cert.HnGateRefIdeal.main_arg2) = m' ((c.tc : Thread Cert.HnGateRefIdeal.nD Cert.HnGateRefIdeal.τ).loc Cert.HnGateRefIdeal.main_arg2))

def preserves_HnUp_HnUpIdeal : Prop :=
  True

def algebraic_HnUpIdeal_HnUpRefIdeal [hHnUpIdeal : Cert.HnUpIdeal.Facts] [hHnUpRefIdeal : Cert.HnUpRefIdeal.Facts] : Prop :=
  ∀ (m : (ℓ : Loc Cert.HnUpIdeal.nD Cert.HnUpIdeal.τ Cert.HnUpIdeal.sig) → Buf (Elt Ideal) ℓ) (g : Dev Cert.HnUpIdeal.nD → PrngReg)
    (m' : (ℓ : Loc Cert.HnUpRefIdeal.nD Cert.HnUpRefIdeal.τ Cert.HnUpRefIdeal.sig) → Buf (Elt Ideal) ℓ) (g' : Dev Cert.HnUpRefIdeal.nD → PrngReg), Pre_HnUpIdeal m →
    (∀ c : Dev Cert.HnUpIdeal.nD,
      m' ((c.tc : Thread Cert.HnUpRefIdeal.nD Cert.HnUpRefIdeal.τ).loc Cert.HnUpRefIdeal.main_arg0) = m ((c.tc : Thread Cert.HnUpIdeal.nD Cert.HnUpIdeal.τ).loc Cert.HnUpIdeal.main_arg0)
      ∧ m' ((c.tc : Thread Cert.HnUpRefIdeal.nD Cert.HnUpRefIdeal.τ).loc Cert.HnUpRefIdeal.main_arg1) = m ((c.tc : Thread Cert.HnUpIdeal.nD Cert.HnUpIdeal.τ).loc Cert.HnUpIdeal.main_arg1)
      ∧ m' ((c.tc : Thread Cert.HnUpRefIdeal.nD Cert.HnUpRefIdeal.τ).loc Cert.HnUpRefIdeal.main_arg2) = m ((c.tc : Thread Cert.HnUpIdeal.nD Cert.HnUpIdeal.τ).loc Cert.HnUpIdeal.main_arg2)
      ∧ m' ((c.tc : Thread Cert.HnUpRefIdeal.nD Cert.HnUpRefIdeal.τ).loc Cert.HnUpRefIdeal.main_arg3) = m ((c.tc : Thread Cert.HnUpIdeal.nD Cert.HnUpIdeal.τ).loc Cert.HnUpIdeal.main_arg3)) →
    ∃ (v0 : (c : Dev Cert.HnUpIdeal.nD) → Buf (Elt Ideal) ((c.tc : Thread Cert.HnUpIdeal.nD Cert.HnUpIdeal.τ).loc Cert.HnUpIdeal.main_v9)),
      θ_run (Cert.HnUpIdeal.defs (F := Ideal)) (onTc (τ := Cert.HnUpIdeal.τ) (Cert.HnUpIdeal.main (F := Ideal))) ⟨m, fun _ => 0, g⟩ (fun r => ∀ c : Dev Cert.HnUpIdeal.nD,
          r.2.mem ((c.tc : Thread Cert.HnUpIdeal.nD Cert.HnUpIdeal.τ).loc Cert.HnUpIdeal.main_v9) = v0 c
          ∧ r.2.mem ((c.tc : Thread Cert.HnUpIdeal.nD Cert.HnUpIdeal.τ).loc Cert.HnUpIdeal.main_arg0) = m ((c.tc : Thread Cert.HnUpIdeal.nD Cert.HnUpIdeal.τ).loc Cert.HnUpIdeal.main_arg0)
          ∧ r.2.mem ((c.tc : Thread Cert.HnUpIdeal.nD Cert.HnUpIdeal.τ).loc Cert.HnUpIdeal.main_arg1) = m ((c.tc : Thread Cert.HnUpIdeal.nD Cert.HnUpIdeal.τ).loc Cert.HnUpIdeal.main_arg1)
          ∧ r.2.mem ((c.tc : Thread Cert.HnUpIdeal.nD Cert.HnUpIdeal.τ).loc Cert.HnUpIdeal.main_arg2) = m ((c.tc : Thread Cert.HnUpIdeal.nD Cert.HnUpIdeal.τ).loc Cert.HnUpIdeal.main_arg2)
          ∧ r.2.mem ((c.tc : Thread Cert.HnUpIdeal.nD Cert.HnUpIdeal.τ).loc Cert.HnUpIdeal.main_arg3) = m ((c.tc : Thread Cert.HnUpIdeal.nD Cert.HnUpIdeal.τ).loc Cert.HnUpIdeal.main_arg3))
      ∧ θ_run (Cert.HnUpRefIdeal.defs (F := Ideal)) (onTc (τ := Cert.HnUpRefIdeal.τ) (Cert.HnUpRefIdeal.main (F := Ideal))) ⟨m', fun _ => 0, g'⟩ (fun r => ∀ c : Dev Cert.HnUpRefIdeal.nD,
          r.2.mem ((c.tc : Thread Cert.HnUpRefIdeal.nD Cert.HnUpRefIdeal.τ).loc Cert.HnUpRefIdeal.main_v2) = v0 c
          ∧ r.2.mem ((c.tc : Thread Cert.HnUpRefIdeal.nD Cert.HnUpRefIdeal.τ).loc Cert.HnUpRefIdeal.main_arg0) = m' ((c.tc : Thread Cert.HnUpRefIdeal.nD Cert.HnUpRefIdeal.τ).loc Cert.HnUpRefIdeal.main_arg0)
          ∧ r.2.mem ((c.tc : Thread Cert.HnUpRefIdeal.nD Cert.HnUpRefIdeal.τ).loc Cert.HnUpRefIdeal.main_arg1) = m' ((c.tc : Thread Cert.HnUpRefIdeal.nD Cert.HnUpRefIdeal.τ).loc Cert.HnUpRefIdeal.main_arg1)
          ∧ r.2.mem ((c.tc : Thread Cert.HnUpRefIdeal.nD Cert.HnUpRefIdeal.τ).loc Cert.HnUpRefIdeal.main_arg2) = m' ((c.tc : Thread Cert.HnUpRefIdeal.nD Cert.HnUpRefIdeal.τ).loc Cert.HnUpRefIdeal.main_arg2)
          ∧ r.2.mem ((c.tc : Thread Cert.HnUpRefIdeal.nD Cert.HnUpRefIdeal.τ).loc Cert.HnUpRefIdeal.main_arg3) = m' ((c.tc : Thread Cert.HnUpRefIdeal.nD Cert.HnUpRefIdeal.τ).loc Cert.HnUpRefIdeal.main_arg3))

def preserves_FGate_FGateIdeal : Prop :=
  True

def algebraic_FGateIdeal_FGateRefIdeal [hFGateIdeal : Cert.FGateIdeal.Facts] [hFGateRefIdeal : Cert.FGateRefIdeal.Facts] : Prop :=
  ∀ (m : (ℓ : Loc Cert.FGateIdeal.nD Cert.FGateIdeal.τ Cert.FGateIdeal.sig) → Buf (Elt Ideal) ℓ) (g : Dev Cert.FGateIdeal.nD → PrngReg)
    (m' : (ℓ : Loc Cert.FGateRefIdeal.nD Cert.FGateRefIdeal.τ Cert.FGateRefIdeal.sig) → Buf (Elt Ideal) ℓ) (g' : Dev Cert.FGateRefIdeal.nD → PrngReg), Pre_FGateIdeal m →
    (∀ c : Dev Cert.FGateIdeal.nD,
      m' ((c.tc : Thread Cert.FGateRefIdeal.nD Cert.FGateRefIdeal.τ).loc Cert.FGateRefIdeal.main_arg0) = m ((c.tc : Thread Cert.FGateIdeal.nD Cert.FGateIdeal.τ).loc Cert.FGateIdeal.main_arg0)
      ∧ m' ((c.tc : Thread Cert.FGateRefIdeal.nD Cert.FGateRefIdeal.τ).loc Cert.FGateRefIdeal.main_arg1) = m ((c.tc : Thread Cert.FGateIdeal.nD Cert.FGateIdeal.τ).loc Cert.FGateIdeal.main_arg1)) →
    ∃ (v0 : (c : Dev Cert.FGateIdeal.nD) → Buf (Elt Ideal) ((c.tc : Thread Cert.FGateIdeal.nD Cert.FGateIdeal.τ).loc Cert.FGateIdeal.main_v10)),
      θ_run (Cert.FGateIdeal.defs (F := Ideal)) (onTc (τ := Cert.FGateIdeal.τ) (Cert.FGateIdeal.main (F := Ideal))) ⟨m, fun _ => 0, g⟩ (fun r => ∀ c : Dev Cert.FGateIdeal.nD,
          r.2.mem ((c.tc : Thread Cert.FGateIdeal.nD Cert.FGateIdeal.τ).loc Cert.FGateIdeal.main_v10) = v0 c
          ∧ r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
          ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1))
      ∧ θ_run (Cert.FGateRefIdeal.defs (F := Ideal)) (onTc (τ := Cert.FGateRefIdeal.τ) (Cert.FGateRefIdeal.main (F := Ideal))) ⟨m', fun _ => 0, g'⟩ (fun r => ∀ c : Dev Cert.FGateRefIdeal.nD,
          r.2.mem ((c.tc : Thread Cert.FGateRefIdeal.nD Cert.FGateRefIdeal.τ).loc Cert.FGateRefIdeal.main_v0) = v0 c
          ∧ r.2.mem ((c.tc : Thread Cert.FGateRefIdeal.nD Cert.FGateRefIdeal.τ).loc Cert.FGateRefIdeal.main_arg0) = m' ((c.tc : Thread Cert.FGateRefIdeal.nD Cert.FGateRefIdeal.τ).loc Cert.FGateRefIdeal.main_arg0)
          ∧ r.2.mem ((c.tc : Thread Cert.FGateRefIdeal.nD Cert.FGateRefIdeal.τ).loc Cert.FGateRefIdeal.main_arg1) = m' ((c.tc : Thread Cert.FGateRefIdeal.nD Cert.FGateRefIdeal.τ).loc Cert.FGateRefIdeal.main_arg1))

def preserves_FUp_FUpIdeal : Prop :=
  True

def algebraic_FUpIdeal_FUpRefIdeal [hFUpIdeal : Cert.FUpIdeal.Facts] [hFUpRefIdeal : Cert.FUpRefIdeal.Facts] : Prop :=
  ∀ (m : (ℓ : Loc Cert.FUpIdeal.nD Cert.FUpIdeal.τ Cert.FUpIdeal.sig) → Buf (Elt Ideal) ℓ) (g : Dev Cert.FUpIdeal.nD → PrngReg)
    (m' : (ℓ : Loc Cert.FUpRefIdeal.nD Cert.FUpRefIdeal.τ Cert.FUpRefIdeal.sig) → Buf (Elt Ideal) ℓ) (g' : Dev Cert.FUpRefIdeal.nD → PrngReg), Pre_FUpIdeal m →
    (∀ c : Dev Cert.FUpIdeal.nD,
      m' ((c.tc : Thread Cert.FUpRefIdeal.nD Cert.FUpRefIdeal.τ).loc Cert.FUpRefIdeal.main_arg0) = m ((c.tc : Thread Cert.FUpIdeal.nD Cert.FUpIdeal.τ).loc Cert.FUpIdeal.main_arg0)
      ∧ m' ((c.tc : Thread Cert.FUpRefIdeal.nD Cert.FUpRefIdeal.τ).loc Cert.FUpRefIdeal.main_arg1) = m ((c.tc : Thread Cert.FUpIdeal.nD Cert.FUpIdeal.τ).loc Cert.FUpIdeal.main_arg1)
      ∧ m' ((c.tc : Thread Cert.FUpRefIdeal.nD Cert.FUpRefIdeal.τ).loc Cert.FUpRefIdeal.main_arg2) = m ((c.tc : Thread Cert.FUpIdeal.nD Cert.FUpIdeal.τ).loc Cert.FUpIdeal.main_arg2)) →
    ∃ (v0 : (c : Dev Cert.FUpIdeal.nD) → Buf (Elt Ideal) ((c.tc : Thread Cert.FUpIdeal.nD Cert.FUpIdeal.τ).loc Cert.FUpIdeal.main_v14)) (v1 : (c : Dev Cert.FUpIdeal.nD) → Buf (Elt Ideal) ((c.tc : Thread Cert.FUpIdeal.nD Cert.FUpIdeal.τ).loc Cert.FUpIdeal.main_v18)),
      θ_run (Cert.FUpIdeal.defs (F := Ideal)) (onTc (τ := Cert.FUpIdeal.τ) (Cert.FUpIdeal.main (F := Ideal))) ⟨m, fun _ => 0, g⟩ (fun r => ∀ c : Dev Cert.FUpIdeal.nD,
          r.2.mem ((c.tc : Thread Cert.FUpIdeal.nD Cert.FUpIdeal.τ).loc Cert.FUpIdeal.main_v14) = v0 c
          ∧ r.2.mem ((c.tc : Thread Cert.FUpIdeal.nD Cert.FUpIdeal.τ).loc Cert.FUpIdeal.main_v18) = v1 c
          ∧ r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
          ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1)
          ∧ r.2.mem ((c.tc : Thread Cert.FUpIdeal.nD Cert.FUpIdeal.τ).loc Cert.FUpIdeal.main_arg2) = m ((c.tc : Thread Cert.FUpIdeal.nD Cert.FUpIdeal.τ).loc Cert.FUpIdeal.main_arg2))
      ∧ θ_run (Cert.FUpRefIdeal.defs (F := Ideal)) (onTc (τ := Cert.FUpRefIdeal.τ) (Cert.FUpRefIdeal.main (F := Ideal))) ⟨m', fun _ => 0, g'⟩ (fun r => ∀ c : Dev Cert.FUpRefIdeal.nD,
          r.2.mem ((c.tc : Thread Cert.FUpRefIdeal.nD Cert.FUpRefIdeal.τ).loc Cert.FUpRefIdeal.main_v0) = v0 c
          ∧ r.2.mem ((c.tc : Thread Cert.FUpRefIdeal.nD Cert.FUpRefIdeal.τ).loc Cert.FUpRefIdeal.main_v2) = v1 c
          ∧ r.2.mem ((c.tc : Thread Cert.FUpRefIdeal.nD Cert.FUpRefIdeal.τ).loc Cert.FUpRefIdeal.main_arg0) = m' ((c.tc : Thread Cert.FUpRefIdeal.nD Cert.FUpRefIdeal.τ).loc Cert.FUpRefIdeal.main_arg0)
          ∧ r.2.mem ((c.tc : Thread Cert.FUpRefIdeal.nD Cert.FUpRefIdeal.τ).loc Cert.FUpRefIdeal.main_arg1) = m' ((c.tc : Thread Cert.FUpRefIdeal.nD Cert.FUpRefIdeal.τ).loc Cert.FUpRefIdeal.main_arg1)
          ∧ r.2.mem ((c.tc : Thread Cert.FUpRefIdeal.nD Cert.FUpRefIdeal.τ).loc Cert.FUpRefIdeal.main_arg2) = m' ((c.tc : Thread Cert.FUpRefIdeal.nD Cert.FUpRefIdeal.τ).loc Cert.FUpRefIdeal.main_arg2))

def preserves_FDown_FDownIdeal : Prop :=
  True

def algebraic_FDownIdeal_FDownRefIdeal [hFDownIdeal : Cert.FDownIdeal.Facts] [hFDownRefIdeal : Cert.FDownRefIdeal.Facts] : Prop :=
  ∀ (m : (ℓ : Loc Cert.FDownIdeal.nD Cert.FDownIdeal.τ Cert.FDownIdeal.sig) → Buf (Elt Ideal) ℓ) (g : Dev Cert.FDownIdeal.nD → PrngReg)
    (m' : (ℓ : Loc Cert.FDownRefIdeal.nD Cert.FDownRefIdeal.τ Cert.FDownRefIdeal.sig) → Buf (Elt Ideal) ℓ) (g' : Dev Cert.FDownRefIdeal.nD → PrngReg), Pre_FDownIdeal m →
    (∀ c : Dev Cert.FDownIdeal.nD,
      m' ((c.tc : Thread Cert.FDownRefIdeal.nD Cert.FDownRefIdeal.τ).loc Cert.FDownRefIdeal.main_arg0) = m ((c.tc : Thread Cert.FDownIdeal.nD Cert.FDownIdeal.τ).loc Cert.FDownIdeal.main_arg0)
      ∧ m' ((c.tc : Thread Cert.FDownRefIdeal.nD Cert.FDownRefIdeal.τ).loc Cert.FDownRefIdeal.main_arg1) = m ((c.tc : Thread Cert.FDownIdeal.nD Cert.FDownIdeal.τ).loc Cert.FDownIdeal.main_arg1)) →
    ∃ (v0 : (c : Dev Cert.FDownIdeal.nD) → Buf (Elt Ideal) ((c.tc : Thread Cert.FDownIdeal.nD Cert.FDownIdeal.τ).loc Cert.FDownIdeal.main_v8)),
      θ_run (Cert.FDownIdeal.defs (F := Ideal)) (onTc (τ := Cert.FDownIdeal.τ) (Cert.FDownIdeal.main (F := Ideal))) ⟨m, fun _ => 0, g⟩ (fun r => ∀ c : Dev Cert.FDownIdeal.nD,
          r.2.mem ((c.tc : Thread Cert.FDownIdeal.nD Cert.FDownIdeal.τ).loc Cert.FDownIdeal.main_v8) = v0 c
          ∧ r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
          ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1))
      ∧ θ_run (Cert.FDownRefIdeal.defs (F := Ideal)) (onTc (τ := Cert.FDownRefIdeal.τ) (Cert.FDownRefIdeal.main (F := Ideal))) ⟨m', fun _ => 0, g'⟩ (fun r => ∀ c : Dev Cert.FDownRefIdeal.nD,
          r.2.mem ((c.tc : Thread Cert.FDownRefIdeal.nD Cert.FDownRefIdeal.τ).loc Cert.FDownRefIdeal.main_v0) = v0 c
          ∧ r.2.mem ((c.tc : Thread Cert.FDownRefIdeal.nD Cert.FDownRefIdeal.τ).loc Cert.FDownRefIdeal.main_arg0) = m' ((c.tc : Thread Cert.FDownRefIdeal.nD Cert.FDownRefIdeal.τ).loc Cert.FDownRefIdeal.main_arg0)
          ∧ r.2.mem ((c.tc : Thread Cert.FDownRefIdeal.nD Cert.FDownRefIdeal.τ).loc Cert.FDownRefIdeal.main_arg1) = m' ((c.tc : Thread Cert.FDownRefIdeal.nD Cert.FDownRefIdeal.τ).loc Cert.FDownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)
      ∧ m' ((c.tc : Thread Cert.DMixedRefIdeal.nD Cert.DMixedRefIdeal.τ).loc Cert.DMixedRefIdeal.main_arg2) = m ((c.tc : Thread Cert.DMixedIdeal.nD Cert.DMixedIdeal.τ).loc Cert.DMixedIdeal.main_arg2)) →
    ∃ (v0 : (c : Dev Cert.DMixedIdeal.nD) → Buf (Elt Ideal) ((c.tc : Thread Cert.DMixedIdeal.nD Cert.DMixedIdeal.τ).loc Cert.DMixedIdeal.main_v2)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v2) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1)
          ∧ r.2.mem ((c.tc : Thread Cert.DMixedIdeal.nD Cert.DMixedIdeal.τ).loc Cert.DMixedIdeal.main_arg2) = m ((c.tc : Thread Cert.DMixedIdeal.nD Cert.DMixedIdeal.τ).loc Cert.DMixedIdeal.main_arg2))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v1) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1)
          ∧ r.2.mem ((c.tc : Thread Cert.DMixedRefIdeal.nD Cert.DMixedRefIdeal.τ).loc Cert.DMixedRefIdeal.main_arg2) = m' ((c.tc : Thread Cert.DMixedRefIdeal.nD Cert.DMixedRefIdeal.τ).loc Cert.DMixedRefIdeal.main_arg2))

def preserves_DwoA_DwoAIdeal : Prop :=
  True

def algebraic_DwoAIdeal_DwoARefIdeal [hDwoAIdeal : Cert.DwoAIdeal.Facts] [hDwoARefIdeal : Cert.DwoARefIdeal.Facts] : Prop :=
  ∀ (m : (ℓ : Loc Cert.DwoAIdeal.nD Cert.DwoAIdeal.τ Cert.DwoAIdeal.sig) → Buf (Elt Ideal) ℓ) (g : Dev Cert.DwoAIdeal.nD → PrngReg)
    (m' : (ℓ : Loc Cert.DwoARefIdeal.nD Cert.DwoARefIdeal.τ Cert.DwoARefIdeal.sig) → Buf (Elt Ideal) ℓ) (g' : Dev Cert.DwoARefIdeal.nD → PrngReg), Pre_DwoAIdeal m →
    (∀ c : Dev Cert.DwoAIdeal.nD,
      m' ((c.tc : Thread Cert.DwoARefIdeal.nD Cert.DwoARefIdeal.τ).loc Cert.DwoARefIdeal.main_arg0) = m ((c.tc : Thread Cert.DwoAIdeal.nD Cert.DwoAIdeal.τ).loc Cert.DwoAIdeal.main_arg0)
      ∧ m' ((c.tc : Thread Cert.DwoARefIdeal.nD Cert.DwoARefIdeal.τ).loc Cert.DwoARefIdeal.main_arg1) = m ((c.tc : Thread Cert.DwoAIdeal.nD Cert.DwoAIdeal.τ).loc Cert.DwoAIdeal.main_arg1)
      ∧ m' ((c.tc : Thread Cert.DwoARefIdeal.nD Cert.DwoARefIdeal.τ).loc Cert.DwoARefIdeal.main_arg2) = m ((c.tc : Thread Cert.DwoAIdeal.nD Cert.DwoAIdeal.τ).loc Cert.DwoAIdeal.main_arg2)) →
    ∃ (v0 : (c : Dev Cert.DwoAIdeal.nD) → Buf (Elt Ideal) ((c.tc : Thread Cert.DwoAIdeal.nD Cert.DwoAIdeal.τ).loc Cert.DwoAIdeal.main_v3)),
      θ_run (Cert.DwoAIdeal.defs (F := Ideal)) (onTc (τ := Cert.DwoAIdeal.τ) (Cert.DwoAIdeal.main (F := Ideal))) ⟨m, fun _ => 0, g⟩ (fun r => ∀ c : Dev Cert.DwoAIdeal.nD,
          r.2.mem ((c.tc : Thread Cert.DwoAIdeal.nD Cert.DwoAIdeal.τ).loc Cert.DwoAIdeal.main_v3) = v0 c
          ∧ r.2.mem ((c.tc : Thread Cert.DwoAIdeal.nD Cert.DwoAIdeal.τ).loc Cert.DwoAIdeal.main_arg0) = m ((c.tc : Thread Cert.DwoAIdeal.nD Cert.DwoAIdeal.τ).loc Cert.DwoAIdeal.main_arg0)
          ∧ r.2.mem ((c.tc : Thread Cert.DwoAIdeal.nD Cert.DwoAIdeal.τ).loc Cert.DwoAIdeal.main_arg1) = m ((c.tc : Thread Cert.DwoAIdeal.nD Cert.DwoAIdeal.τ).loc Cert.DwoAIdeal.main_arg1)
          ∧ r.2.mem ((c.tc : Thread Cert.DwoAIdeal.nD Cert.DwoAIdeal.τ).loc Cert.DwoAIdeal.main_arg2) = m ((c.tc : Thread Cert.DwoAIdeal.nD Cert.DwoAIdeal.τ).loc Cert.DwoAIdeal.main_arg2))
      ∧ θ_run (Cert.DwoARefIdeal.defs (F := Ideal)) (onTc (τ := Cert.DwoARefIdeal.τ) (Cert.DwoARefIdeal.main (F := Ideal))) ⟨m', fun _ => 0, g'⟩ (fun r => ∀ c : Dev Cert.DwoARefIdeal.nD,
          r.2.mem ((c.tc : Thread Cert.DwoARefIdeal.nD Cert.DwoARefIdeal.τ).loc Cert.DwoARefIdeal.main_v2) = v0 c
          ∧ r.2.mem ((c.tc : Thread Cert.DwoARefIdeal.nD Cert.DwoARefIdeal.τ).loc Cert.DwoARefIdeal.main_arg0) = m' ((c.tc : Thread Cert.DwoARefIdeal.nD Cert.DwoARefIdeal.τ).loc Cert.DwoARefIdeal.main_arg0)
          ∧ r.2.mem ((c.tc : Thread Cert.DwoARefIdeal.nD Cert.DwoARefIdeal.τ).loc Cert.DwoARefIdeal.main_arg1) = m' ((c.tc : Thread Cert.DwoARefIdeal.nD Cert.DwoARefIdeal.τ).loc Cert.DwoARefIdeal.main_arg1)
          ∧ r.2.mem ((c.tc : Thread Cert.DwoARefIdeal.nD Cert.DwoARefIdeal.τ).loc Cert.DwoARefIdeal.main_arg2) = m' ((c.tc : Thread Cert.DwoARefIdeal.nD Cert.DwoARefIdeal.τ).loc Cert.DwoARefIdeal.main_arg2))

def preserves_DwoG_DwoGIdeal : Prop :=
  True

def algebraic_DwoGIdeal_DwoGRefIdeal [hDwoGIdeal : Cert.DwoGIdeal.Facts] [hDwoGRefIdeal : Cert.DwoGRefIdeal.Facts] : Prop :=
  ∀ (m : (ℓ : Loc Cert.DwoGIdeal.nD Cert.DwoGIdeal.τ Cert.DwoGIdeal.sig) → Buf (Elt Ideal) ℓ) (g : Dev Cert.DwoGIdeal.nD → PrngReg)
    (m' : (ℓ : Loc Cert.DwoGRefIdeal.nD Cert.DwoGRefIdeal.τ Cert.DwoGRefIdeal.sig) → Buf (Elt Ideal) ℓ) (g' : Dev Cert.DwoGRefIdeal.nD → PrngReg), Pre_DwoGIdeal m →
    (∀ c : Dev Cert.DwoGIdeal.nD,
      m' ((c.tc : Thread Cert.DwoGRefIdeal.nD Cert.DwoGRefIdeal.τ).loc Cert.DwoGRefIdeal.main_arg0) = m ((c.tc : Thread Cert.DwoGIdeal.nD Cert.DwoGIdeal.τ).loc Cert.DwoGIdeal.main_arg0)
      ∧ m' ((c.tc : Thread Cert.DwoGRefIdeal.nD Cert.DwoGRefIdeal.τ).loc Cert.DwoGRefIdeal.main_arg1) = m ((c.tc : Thread Cert.DwoGIdeal.nD Cert.DwoGIdeal.τ).loc Cert.DwoGIdeal.main_arg1)
      ∧ m' ((c.tc : Thread Cert.DwoGRefIdeal.nD Cert.DwoGRefIdeal.τ).loc Cert.DwoGRefIdeal.main_arg2) = m ((c.tc : Thread Cert.DwoGIdeal.nD Cert.DwoGIdeal.τ).loc Cert.DwoGIdeal.main_arg2)) →
    ∃ (v0 : (c : Dev Cert.DwoGIdeal.nD) → Buf (Elt Ideal) ((c.tc : Thread Cert.DwoGIdeal.nD Cert.DwoGIdeal.τ).loc Cert.DwoGIdeal.main_v3)),
      θ_run (Cert.DwoGIdeal.defs (F := Ideal)) (onTc (τ := Cert.DwoGIdeal.τ) (Cert.DwoGIdeal.main (F := Ideal))) ⟨m, fun _ => 0, g⟩ (fun r => ∀ c : Dev Cert.DwoGIdeal.nD,
          r.2.mem ((c.tc : Thread Cert.DwoGIdeal.nD Cert.DwoGIdeal.τ).loc Cert.DwoGIdeal.main_v3) = v0 c
          ∧ r.2.mem ((c.tc : Thread Cert.DwoGIdeal.nD Cert.DwoGIdeal.τ).loc Cert.DwoGIdeal.main_arg0) = m ((c.tc : Thread Cert.DwoGIdeal.nD Cert.DwoGIdeal.τ).loc Cert.DwoGIdeal.main_arg0)
          ∧ r.2.mem ((c.tc : Thread Cert.DwoGIdeal.nD Cert.DwoGIdeal.τ).loc Cert.DwoGIdeal.main_arg1) = m ((c.tc : Thread Cert.DwoGIdeal.nD Cert.DwoGIdeal.τ).loc Cert.DwoGIdeal.main_arg1)
          ∧ r.2.mem ((c.tc : Thread Cert.DwoGIdeal.nD Cert.DwoGIdeal.τ).loc Cert.DwoGIdeal.main_arg2) = m ((c.tc : Thread Cert.DwoGIdeal.nD Cert.DwoGIdeal.τ).loc Cert.DwoGIdeal.main_arg2))
      ∧ θ_run (Cert.DwoGRefIdeal.defs (F := Ideal)) (onTc (τ := Cert.DwoGRefIdeal.τ) (Cert.DwoGRefIdeal.main (F := Ideal))) ⟨m', fun _ => 0, g'⟩ (fun r => ∀ c : Dev Cert.DwoGRefIdeal.nD,
          r.2.mem ((c.tc : Thread Cert.DwoGRefIdeal.nD Cert.DwoGRefIdeal.τ).loc Cert.DwoGRefIdeal.main_v2) = v0 c
          ∧ r.2.mem ((c.tc : Thread Cert.DwoGRefIdeal.nD Cert.DwoGRefIdeal.τ).loc Cert.DwoGRefIdeal.main_arg0) = m' ((c.tc : Thread Cert.DwoGRefIdeal.nD Cert.DwoGRefIdeal.τ).loc Cert.DwoGRefIdeal.main_arg0)
          ∧ r.2.mem ((c.tc : Thread Cert.DwoGRefIdeal.nD Cert.DwoGRefIdeal.τ).loc Cert.DwoGRefIdeal.main_arg1) = m' ((c.tc : Thread Cert.DwoGRefIdeal.nD Cert.DwoGRefIdeal.τ).loc Cert.DwoGRefIdeal.main_arg1)
          ∧ r.2.mem ((c.tc : Thread Cert.DwoGRefIdeal.nD Cert.DwoGRefIdeal.τ).loc Cert.DwoGRefIdeal.main_arg2) = m' ((c.tc : Thread Cert.DwoGRefIdeal.nD Cert.DwoGRefIdeal.τ).loc Cert.DwoGRefIdeal.main_arg2))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)) →
    ∃ (v0 : (c : Dev Cert.UvIdeal.nD) → Buf (Elt Ideal) ((c.tc : Thread Cert.UvIdeal.nD Cert.UvIdeal.τ).loc Cert.UvIdeal.main_v3)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v3) = v0 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v0) = v0 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1))

def preserves_UvW_UvWIdeal : Prop :=
  True

def algebraic_UvWIdeal_UvWRefIdeal [hUvWIdeal : Cert.UvWIdeal.Facts] [hUvWRefIdeal : Cert.UvWRefIdeal.Facts] : Prop :=
  ∀ (m : (ℓ : Loc Cert.UvWIdeal.nD Cert.UvWIdeal.τ Cert.UvWIdeal.sig) → Buf (Elt Ideal) ℓ) (g : Dev Cert.UvWIdeal.nD → PrngReg)
    (m' : (ℓ : Loc Cert.UvWRefIdeal.nD Cert.UvWRefIdeal.τ Cert.UvWRefIdeal.sig) → Buf (Elt Ideal) ℓ) (g' : Dev Cert.UvWRefIdeal.nD → PrngReg), Pre_UvWIdeal m →
    (∀ c : Dev Cert.UvWIdeal.nD,
      m' ((c.tc : Thread Cert.UvWRefIdeal.nD Cert.UvWRefIdeal.τ).loc Cert.UvWRefIdeal.main_arg0) = m ((c.tc : Thread Cert.UvWIdeal.nD Cert.UvWIdeal.τ).loc Cert.UvWIdeal.main_arg0)
      ∧ m' ((c.tc : Thread Cert.UvWRefIdeal.nD Cert.UvWRefIdeal.τ).loc Cert.UvWRefIdeal.main_arg1) = m ((c.tc : Thread Cert.UvWIdeal.nD Cert.UvWIdeal.τ).loc Cert.UvWIdeal.main_arg1)
      ∧ m' ((c.tc : Thread Cert.UvWRefIdeal.nD Cert.UvWRefIdeal.τ).loc Cert.UvWRefIdeal.main_arg2) = m ((c.tc : Thread Cert.UvWIdeal.nD Cert.UvWIdeal.τ).loc Cert.UvWIdeal.main_arg2)) →
    ∃ (v0 : (c : Dev Cert.UvWIdeal.nD) → Buf (Elt Ideal) ((c.tc : Thread Cert.UvWIdeal.nD Cert.UvWIdeal.τ).loc Cert.UvWIdeal.main_v4)),
      θ_run (Cert.UvWIdeal.defs (F := Ideal)) (onTc (τ := Cert.UvWIdeal.τ) (Cert.UvWIdeal.main (F := Ideal))) ⟨m, fun _ => 0, g⟩ (fun r => ∀ c : Dev Cert.UvWIdeal.nD,
          r.2.mem ((c.tc : Thread Cert.UvWIdeal.nD Cert.UvWIdeal.τ).loc Cert.UvWIdeal.main_v4) = v0 c
          ∧ r.2.mem ((c.tc : Thread Cert.UvWIdeal.nD Cert.UvWIdeal.τ).loc Cert.UvWIdeal.main_arg0) = m ((c.tc : Thread Cert.UvWIdeal.nD Cert.UvWIdeal.τ).loc Cert.UvWIdeal.main_arg0)
          ∧ r.2.mem ((c.tc : Thread Cert.UvWIdeal.nD Cert.UvWIdeal.τ).loc Cert.UvWIdeal.main_arg1) = m ((c.tc : Thread Cert.UvWIdeal.nD Cert.UvWIdeal.τ).loc Cert.UvWIdeal.main_arg1)
          ∧ r.2.mem ((c.tc : Thread Cert.UvWIdeal.nD Cert.UvWIdeal.τ).loc Cert.UvWIdeal.main_arg2) = m ((c.tc : Thread Cert.UvWIdeal.nD Cert.UvWIdeal.τ).loc Cert.UvWIdeal.main_arg2))
      ∧ θ_run (Cert.UvWRefIdeal.defs (F := Ideal)) (onTc (τ := Cert.UvWRefIdeal.τ) (Cert.UvWRefIdeal.main (F := Ideal))) ⟨m', fun _ => 0, g'⟩ (fun r => ∀ c : Dev Cert.UvWRefIdeal.nD,
          r.2.mem ((c.tc : Thread Cert.UvWRefIdeal.nD Cert.UvWRefIdeal.τ).loc Cert.UvWRefIdeal.main_v2) = v0 c
          ∧ r.2.mem ((c.tc : Thread Cert.UvWRefIdeal.nD Cert.UvWRefIdeal.τ).loc Cert.UvWRefIdeal.main_arg0) = m' ((c.tc : Thread Cert.UvWRefIdeal.nD Cert.UvWRefIdeal.τ).loc Cert.UvWRefIdeal.main_arg0)
          ∧ r.2.mem ((c.tc : Thread Cert.UvWRefIdeal.nD Cert.UvWRefIdeal.τ).loc Cert.UvWRefIdeal.main_arg1) = m' ((c.tc : Thread Cert.UvWRefIdeal.nD Cert.UvWRefIdeal.τ).loc Cert.UvWRefIdeal.main_arg1)
          ∧ r.2.mem ((c.tc : Thread Cert.UvWRefIdeal.nD Cert.UvWRefIdeal.τ).loc Cert.UvWRefIdeal.main_arg2) = m' ((c.tc : Thread Cert.UvWRefIdeal.nD Cert.UvWRefIdeal.τ).loc Cert.UvWRefIdeal.main_arg2))

def preserves_UvX_UvXIdeal : Prop :=
  True

def algebraic_UvXIdeal_UvXRefIdeal [hUvXIdeal : Cert.UvXIdeal.Facts] [hUvXRefIdeal : Cert.UvXRefIdeal.Facts] : Prop :=
  ∀ (m : (ℓ : Loc Cert.UvXIdeal.nD Cert.UvXIdeal.τ Cert.UvXIdeal.sig) → Buf (Elt Ideal) ℓ) (g : Dev Cert.UvXIdeal.nD → PrngReg)
    (m' : (ℓ : Loc Cert.UvXRefIdeal.nD Cert.UvXRefIdeal.τ Cert.UvXRefIdeal.sig) → Buf (Elt Ideal) ℓ) (g' : Dev Cert.UvXRefIdeal.nD → PrngReg), Pre_UvXIdeal m →
    (∀ c : Dev Cert.UvXIdeal.nD,
      m' ((c.tc : Thread Cert.UvXRefIdeal.nD Cert.UvXRefIdeal.τ).loc Cert.UvXRefIdeal.main_arg0) = m ((c.tc : Thread Cert.UvXIdeal.nD Cert.UvXIdeal.τ).loc Cert.UvXIdeal.main_arg0)
      ∧ m' ((c.tc : Thread Cert.UvXRefIdeal.nD Cert.UvXRefIdeal.τ).loc Cert.UvXRefIdeal.main_arg1) = m ((c.tc : Thread Cert.UvXIdeal.nD Cert.UvXIdeal.τ).loc Cert.UvXIdeal.main_arg1)
      ∧ m' ((c.tc : Thread Cert.UvXRefIdeal.nD Cert.UvXRefIdeal.τ).loc Cert.UvXRefIdeal.main_arg2) = m ((c.tc : Thread Cert.UvXIdeal.nD Cert.UvXIdeal.τ).loc Cert.UvXIdeal.main_arg2)) →
    ∃ (v0 : (c : Dev Cert.UvXIdeal.nD) → Buf (Elt Ideal) ((c.tc : Thread Cert.UvXIdeal.nD Cert.UvXIdeal.τ).loc Cert.UvXIdeal.main_v3)),
      θ_run (Cert.UvXIdeal.defs (F := Ideal)) (onTc (τ := Cert.UvXIdeal.τ) (Cert.UvXIdeal.main (F := Ideal))) ⟨m, fun _ => 0, g⟩ (fun r => ∀ c : Dev Cert.UvXIdeal.nD,
          r.2.mem ((c.tc : Thread Cert.UvXIdeal.nD Cert.UvXIdeal.τ).loc Cert.UvXIdeal.main_v3) = v0 c
          ∧ r.2.mem ((c.tc : Thread Cert.UvXIdeal.nD Cert.UvXIdeal.τ).loc Cert.UvXIdeal.main_arg0) = m ((c.tc : Thread Cert.UvXIdeal.nD Cert.UvXIdeal.τ).loc Cert.UvXIdeal.main_arg0)
          ∧ r.2.mem ((c.tc : Thread Cert.UvXIdeal.nD Cert.UvXIdeal.τ).loc Cert.UvXIdeal.main_arg1) = m ((c.tc : Thread Cert.UvXIdeal.nD Cert.UvXIdeal.τ).loc Cert.UvXIdeal.main_arg1)
          ∧ r.2.mem ((c.tc : Thread Cert.UvXIdeal.nD Cert.UvXIdeal.τ).loc Cert.UvXIdeal.main_arg2) = m ((c.tc : Thread Cert.UvXIdeal.nD Cert.UvXIdeal.τ).loc Cert.UvXIdeal.main_arg2))
      ∧ θ_run (Cert.UvXRefIdeal.defs (F := Ideal)) (onTc (τ := Cert.UvXRefIdeal.τ) (Cert.UvXRefIdeal.main (F := Ideal))) ⟨m', fun _ => 0, g'⟩ (fun r => ∀ c : Dev Cert.UvXRefIdeal.nD,
          r.2.mem ((c.tc : Thread Cert.UvXRefIdeal.nD Cert.UvXRefIdeal.τ).loc Cert.UvXRefIdeal.main_v1) = v0 c
          ∧ r.2.mem ((c.tc : Thread Cert.UvXRefIdeal.nD Cert.UvXRefIdeal.τ).loc Cert.UvXRefIdeal.main_arg0) = m' ((c.tc : Thread Cert.UvXRefIdeal.nD Cert.UvXRefIdeal.τ).loc Cert.UvXRefIdeal.main_arg0)
          ∧ r.2.mem ((c.tc : Thread Cert.UvXRefIdeal.nD Cert.UvXRefIdeal.τ).loc Cert.UvXRefIdeal.main_arg1) = m' ((c.tc : Thread Cert.UvXRefIdeal.nD Cert.UvXRefIdeal.τ).loc Cert.UvXRefIdeal.main_arg1)
          ∧ r.2.mem ((c.tc : Thread Cert.UvXRefIdeal.nD Cert.UvXRefIdeal.τ).loc Cert.UvXRefIdeal.main_arg2) = m' ((c.tc : Thread Cert.UvXRefIdeal.nD Cert.UvXRefIdeal.τ).loc Cert.UvXRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v0) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvX_KvXIdeal : Prop :=
  True

def algebraic_KvXIdeal_KvXRefIdeal [hKvXIdeal : Cert.KvXIdeal.Facts] [hKvXRefIdeal : Cert.KvXRefIdeal.Facts] : Prop :=
  ∀ (m : (ℓ : Loc Cert.KvXIdeal.nD Cert.KvXIdeal.τ Cert.KvXIdeal.sig) → Buf (Elt Ideal) ℓ) (g : Dev Cert.KvXIdeal.nD → PrngReg)
    (m' : (ℓ : Loc Cert.KvXRefIdeal.nD Cert.KvXRefIdeal.τ Cert.KvXRefIdeal.sig) → Buf (Elt Ideal) ℓ) (g' : Dev Cert.KvXRefIdeal.nD → PrngReg), Pre_KvXIdeal m →
    (∀ c : Dev Cert.KvXIdeal.nD,
      m' ((c.tc : Thread Cert.KvXRefIdeal.nD Cert.KvXRefIdeal.τ).loc Cert.KvXRefIdeal.main_arg0) = m ((c.tc : Thread Cert.KvXIdeal.nD Cert.KvXIdeal.τ).loc Cert.KvXIdeal.main_arg0)
      ∧ m' ((c.tc : Thread Cert.KvXRefIdeal.nD Cert.KvXRefIdeal.τ).loc Cert.KvXRefIdeal.main_arg1) = m ((c.tc : Thread Cert.KvXIdeal.nD Cert.KvXIdeal.τ).loc Cert.KvXIdeal.main_arg1)
      ∧ m' ((c.tc : Thread Cert.KvXRefIdeal.nD Cert.KvXRefIdeal.τ).loc Cert.KvXRefIdeal.main_arg2) = m ((c.tc : Thread Cert.KvXIdeal.nD Cert.KvXIdeal.τ).loc Cert.KvXIdeal.main_arg2)) →
    ∃ (v0 : (c : Dev Cert.KvXIdeal.nD) → Buf (Elt Ideal) ((c.tc : Thread Cert.KvXIdeal.nD Cert.KvXIdeal.τ).loc Cert.KvXIdeal.main_v2)),
      θ_run (Cert.KvXIdeal.defs (F := Ideal)) (onTc (τ := Cert.KvXIdeal.τ) (Cert.KvXIdeal.main (F := Ideal))) ⟨m, fun _ => 0, g⟩ (fun r => ∀ c : Dev Cert.KvXIdeal.nD,
          r.2.mem ((c.tc : Thread Cert.KvXIdeal.nD Cert.KvXIdeal.τ).loc Cert.KvXIdeal.main_v2) = v0 c
          ∧ r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
          ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1)
          ∧ r.2.mem ((c.tc : Thread Cert.KvXIdeal.nD Cert.KvXIdeal.τ).loc Cert.KvXIdeal.main_arg2) = m ((c.tc : Thread Cert.KvXIdeal.nD Cert.KvXIdeal.τ).loc Cert.KvXIdeal.main_arg2))
      ∧ θ_run (Cert.KvXRefIdeal.defs (F := Ideal)) (onTc (τ := Cert.KvXRefIdeal.τ) (Cert.KvXRefIdeal.main (F := Ideal))) ⟨m', fun _ => 0, g'⟩ (fun r => ∀ c : Dev Cert.KvXRefIdeal.nD,
          r.2.mem ((c.tc : Thread Cert.KvXRefIdeal.nD Cert.KvXRefIdeal.τ).loc Cert.KvXRefIdeal.main_v1) = v0 c
          ∧ r.2.mem ((c.tc : Thread Cert.KvXRefIdeal.nD Cert.KvXRefIdeal.τ).loc Cert.KvXRefIdeal.main_arg0) = m' ((c.tc : Thread Cert.KvXRefIdeal.nD Cert.KvXRefIdeal.τ).loc Cert.KvXRefIdeal.main_arg0)
          ∧ r.2.mem ((c.tc : Thread Cert.KvXRefIdeal.nD Cert.KvXRefIdeal.τ).loc Cert.KvXRefIdeal.main_arg1) = m' ((c.tc : Thread Cert.KvXRefIdeal.nD Cert.KvXRefIdeal.τ).loc Cert.KvXRefIdeal.main_arg1)
          ∧ r.2.mem ((c.tc : Thread Cert.KvXRefIdeal.nD Cert.KvXRefIdeal.τ).loc Cert.KvXRefIdeal.main_arg2) = m' ((c.tc : Thread Cert.KvXRefIdeal.nD Cert.KvXRefIdeal.τ).loc Cert.KvXRefIdeal.main_arg2))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)
      ∧ m' ((c.tc : Thread Cert.KvWRefIdeal.nD Cert.KvWRefIdeal.τ).loc Cert.KvWRefIdeal.main_arg2) = m ((c.tc : Thread Cert.KvWIdeal.nD Cert.KvWIdeal.τ).loc Cert.KvWIdeal.main_arg2)) →
    ∃ (v0 : (c : Dev Cert.KvWIdeal.nD) → Buf (Elt Ideal) ((c.tc : Thread Cert.KvWIdeal.nD Cert.KvWIdeal.τ).loc Cert.KvWIdeal.main_v3)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v3) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1)
          ∧ r.2.mem ((c.tc : Thread Cert.KvWIdeal.nD Cert.KvWIdeal.τ).loc Cert.KvWIdeal.main_arg2) = m ((c.tc : Thread Cert.KvWIdeal.nD Cert.KvWIdeal.τ).loc Cert.KvWIdeal.main_arg2))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v2) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1)
          ∧ r.2.mem ((c.tc : Thread Cert.KvWRefIdeal.nD Cert.KvWRefIdeal.τ).loc Cert.KvWRefIdeal.main_arg2) = m' ((c.tc : Thread Cert.KvWRefIdeal.nD Cert.KvWRefIdeal.τ).loc Cert.KvWRefIdeal.main_arg2))

def preserves_Col_ColIdeal : Prop :=
  True

def algebraic_ColIdeal_ColRefIdeal_pre_finite_columns [hColIdeal : Cert.ColIdeal.Facts] [hColRefIdeal : Cert.ColRefIdeal.Facts] [hPre_finite_columns : Cert.Pre_finite_columns.Facts] : Prop :=
  ∀ (m : (ℓ : Loc Cert.ColIdeal.nD Cert.ColIdeal.τ Cert.ColIdeal.sig) → Buf (Elt Ideal) ℓ) (g : Dev Cert.ColIdeal.nD → PrngReg)
    (m' : (ℓ : Loc Cert.ColRefIdeal.nD Cert.ColRefIdeal.τ Cert.ColRefIdeal.sig) → Buf (Elt Ideal) ℓ) (g' : Dev Cert.ColRefIdeal.nD → PrngReg), Pre_ColIdeal_finite_columns m →
    (∀ c : Dev Cert.ColIdeal.nD,
      m' ((c.tc : Thread Cert.ColRefIdeal.nD Cert.ColRefIdeal.τ).loc Cert.ColRefIdeal.main_arg0) = m ((c.tc : Thread Cert.ColIdeal.nD Cert.ColIdeal.τ).loc Cert.ColIdeal.main_arg0)
      ∧ m' ((c.tc : Thread Cert.ColRefIdeal.nD Cert.ColRefIdeal.τ).loc Cert.ColRefIdeal.main_arg1) = m ((c.tc : Thread Cert.ColIdeal.nD Cert.ColIdeal.τ).loc Cert.ColIdeal.main_arg1)
      ∧ m' ((c.tc : Thread Cert.ColRefIdeal.nD Cert.ColRefIdeal.τ).loc Cert.ColRefIdeal.main_arg2) = m ((c.tc : Thread Cert.ColIdeal.nD Cert.ColIdeal.τ).loc Cert.ColIdeal.main_arg2)
      ∧ m' ((c.tc : Thread Cert.ColRefIdeal.nD Cert.ColRefIdeal.τ).loc Cert.ColRefIdeal.main_arg3) = m ((c.tc : Thread Cert.ColIdeal.nD Cert.ColIdeal.τ).loc Cert.ColIdeal.main_arg3)) →
    ∃ (v0 : (c : Dev Cert.ColIdeal.nD) → Buf (Elt Ideal) ((c.tc : Thread Cert.ColIdeal.nD Cert.ColIdeal.τ).loc Cert.ColIdeal.main_v15)) (v1 : (c : Dev Cert.ColIdeal.nD) → Buf (Elt Ideal) ((c.tc : Thread Cert.ColIdeal.nD Cert.ColIdeal.τ).loc Cert.ColIdeal.main_v20)),
      θ_run (Cert.ColIdeal.defs (F := Ideal)) (onTc (τ := Cert.ColIdeal.τ) (Cert.ColIdeal.main (F := Ideal))) ⟨m, fun _ => 0, g⟩ (fun r => ∀ c : Dev Cert.ColIdeal.nD,
          r.2.mem ((c.tc : Thread Cert.ColIdeal.nD Cert.ColIdeal.τ).loc Cert.ColIdeal.main_v15) = v0 c
          ∧ r.2.mem ((c.tc : Thread Cert.ColIdeal.nD Cert.ColIdeal.τ).loc Cert.ColIdeal.main_v20) = v1 c
          ∧ r.2.mem ((c.tc : Thread Cert.ColIdeal.nD Cert.ColIdeal.τ).loc Cert.ColIdeal.main_arg0) = m ((c.tc : Thread Cert.ColIdeal.nD Cert.ColIdeal.τ).loc Cert.ColIdeal.main_arg0)
          ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
          ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
          ∧ r.2.mem ((c.tc : Thread Cert.ColIdeal.nD Cert.ColIdeal.τ).loc Cert.ColIdeal.main_arg3) = m ((c.tc : Thread Cert.ColIdeal.nD Cert.ColIdeal.τ).loc Cert.ColIdeal.main_arg3))
      ∧ θ_run (Cert.ColRefIdeal.defs (F := Ideal)) (onTc (τ := Cert.ColRefIdeal.τ) (Cert.ColRefIdeal.main (F := Ideal))) ⟨m', fun _ => 0, g'⟩ (fun r => ∀ c : Dev Cert.ColRefIdeal.nD,
          r.2.mem ((c.tc : Thread Cert.ColRefIdeal.nD Cert.ColRefIdeal.τ).loc Cert.ColRefIdeal.main_v1) = v0 c
          ∧ r.2.mem ((c.tc : Thread Cert.ColRefIdeal.nD Cert.ColRefIdeal.τ).loc Cert.ColRefIdeal.main_v11) = v1 c
          ∧ r.2.mem ((c.tc : Thread Cert.ColRefIdeal.nD Cert.ColRefIdeal.τ).loc Cert.ColRefIdeal.main_arg0) = m' ((c.tc : Thread Cert.ColRefIdeal.nD Cert.ColRefIdeal.τ).loc Cert.ColRefIdeal.main_arg0)
          ∧ r.2.mem ((c.tc : Thread Cert.ColRefIdeal.nD Cert.ColRefIdeal.τ).loc Cert.ColRefIdeal.main_arg1) = m' ((c.tc : Thread Cert.ColRefIdeal.nD Cert.ColRefIdeal.τ).loc Cert.ColRefIdeal.main_arg1)
          ∧ r.2.mem ((c.tc : Thread Cert.ColRefIdeal.nD Cert.ColRefIdeal.τ).loc Cert.ColRefIdeal.main_arg2) = m' ((c.tc : Thread Cert.ColRefIdeal.nD Cert.ColRefIdeal.τ).loc Cert.ColRefIdeal.main_arg2)
          ∧ r.2.mem ((c.tc : Thread Cert.ColRefIdeal.nD Cert.ColRefIdeal.τ).loc Cert.ColRefIdeal.main_arg3) = m' ((c.tc : Thread Cert.ColRefIdeal.nD Cert.ColRefIdeal.τ).loc Cert.ColRefIdeal.main_arg3))

def preserves_ColX_ColXIdeal : Prop :=
  True

def algebraic_ColXIdeal_ColXRefIdeal_pre_finite_columns_input [hColXIdeal : Cert.ColXIdeal.Facts] [hColXRefIdeal : Cert.ColXRefIdeal.Facts] [hPre_finite_columns_input : Cert.Pre_finite_columns_input.Facts] : Prop :=
  ∀ (m : (ℓ : Loc Cert.ColXIdeal.nD Cert.ColXIdeal.τ Cert.ColXIdeal.sig) → Buf (Elt Ideal) ℓ) (g : Dev Cert.ColXIdeal.nD → PrngReg)
    (m' : (ℓ : Loc Cert.ColXRefIdeal.nD Cert.ColXRefIdeal.τ Cert.ColXRefIdeal.sig) → Buf (Elt Ideal) ℓ) (g' : Dev Cert.ColXRefIdeal.nD → PrngReg), Pre_ColXIdeal_finite_columns_input m →
    (∀ c : Dev Cert.ColXIdeal.nD,
      m' ((c.tc : Thread Cert.ColXRefIdeal.nD Cert.ColXRefIdeal.τ).loc Cert.ColXRefIdeal.main_arg0) = m ((c.tc : Thread Cert.ColXIdeal.nD Cert.ColXIdeal.τ).loc Cert.ColXIdeal.main_arg0)
      ∧ m' ((c.tc : Thread Cert.ColXRefIdeal.nD Cert.ColXRefIdeal.τ).loc Cert.ColXRefIdeal.main_arg1) = m ((c.tc : Thread Cert.ColXIdeal.nD Cert.ColXIdeal.τ).loc Cert.ColXIdeal.main_arg1)
      ∧ m' ((c.tc : Thread Cert.ColXRefIdeal.nD Cert.ColXRefIdeal.τ).loc Cert.ColXRefIdeal.main_arg2) = m ((c.tc : Thread Cert.ColXIdeal.nD Cert.ColXIdeal.τ).loc Cert.ColXIdeal.main_arg2)
      ∧ m' ((c.tc : Thread Cert.ColXRefIdeal.nD Cert.ColXRefIdeal.τ).loc Cert.ColXRefIdeal.main_arg3) = m ((c.tc : Thread Cert.ColXIdeal.nD Cert.ColXIdeal.τ).loc Cert.ColXIdeal.main_arg3)
      ∧ m' ((c.tc : Thread Cert.ColXRefIdeal.nD Cert.ColXRefIdeal.τ).loc Cert.ColXRefIdeal.main_arg4) = m ((c.tc : Thread Cert.ColXIdeal.nD Cert.ColXIdeal.τ).loc Cert.ColXIdeal.main_arg4)
      ∧ m' ((c.tc : Thread Cert.ColXRefIdeal.nD Cert.ColXRefIdeal.τ).loc Cert.ColXRefIdeal.main_arg5) = m ((c.tc : Thread Cert.ColXIdeal.nD Cert.ColXIdeal.τ).loc Cert.ColXIdeal.main_arg5)) →
    ∃ (v0 : (c : Dev Cert.ColXIdeal.nD) → Buf (Elt Ideal) ((c.tc : Thread Cert.ColXIdeal.nD Cert.ColXIdeal.τ).loc Cert.ColXIdeal.main_v18)),
      θ_run (Cert.ColXIdeal.defs (F := Ideal)) (onTc (τ := Cert.ColXIdeal.τ) (Cert.ColXIdeal.main (F := Ideal))) ⟨m, fun _ => 0, g⟩ (fun r => ∀ c : Dev Cert.ColXIdeal.nD,
          r.2.mem ((c.tc : Thread Cert.ColXIdeal.nD Cert.ColXIdeal.τ).loc Cert.ColXIdeal.main_v18) = v0 c
          ∧ r.2.mem ((c.tc : Thread Cert.ColXIdeal.nD Cert.ColXIdeal.τ).loc Cert.ColXIdeal.main_arg0) = m ((c.tc : Thread Cert.ColXIdeal.nD Cert.ColXIdeal.τ).loc Cert.ColXIdeal.main_arg0)
          ∧ r.2.mem ((c.tc : Thread Cert.ColXIdeal.nD Cert.ColXIdeal.τ).loc Cert.ColXIdeal.main_arg1) = m ((c.tc : Thread Cert.ColXIdeal.nD Cert.ColXIdeal.τ).loc Cert.ColXIdeal.main_arg1)
          ∧ r.2.mem ((c.tc : Thread Cert.ColXIdeal.nD Cert.ColXIdeal.τ).loc Cert.ColXIdeal.main_arg2) = m ((c.tc : Thread Cert.ColXIdeal.nD Cert.ColXIdeal.τ).loc Cert.ColXIdeal.main_arg2)
          ∧ r.2.mem ((c.tc : Thread Cert.ColXIdeal.nD Cert.ColXIdeal.τ).loc Cert.ColXIdeal.main_arg3) = m ((c.tc : Thread Cert.ColXIdeal.nD Cert.ColXIdeal.τ).loc Cert.ColXIdeal.main_arg3)
          ∧ r.2.mem ((c.tc : Thread Cert.ColXIdeal.nD Cert.ColXIdeal.τ).loc Cert.ColXIdeal.main_arg4) = m ((c.tc : Thread Cert.ColXIdeal.nD Cert.ColXIdeal.τ).loc Cert.ColXIdeal.main_arg4)
          ∧ r.2.mem ((c.tc : Thread Cert.ColXIdeal.nD Cert.ColXIdeal.τ).loc Cert.ColXIdeal.main_arg5) = m ((c.tc : Thread Cert.ColXIdeal.nD Cert.ColXIdeal.τ).loc Cert.ColXIdeal.main_arg5))
      ∧ θ_run (Cert.ColXRefIdeal.defs (F := Ideal)) (onTc (τ := Cert.ColXRefIdeal.τ) (Cert.ColXRefIdeal.main (F := Ideal))) ⟨m', fun _ => 0, g'⟩ (fun r => ∀ c : Dev Cert.ColXRefIdeal.nD,
          r.2.mem ((c.tc : Thread Cert.ColXRefIdeal.nD Cert.ColXRefIdeal.τ).loc Cert.ColXRefIdeal.main_v27) = v0 c
          ∧ r.2.mem ((c.tc : Thread Cert.ColXRefIdeal.nD Cert.ColXRefIdeal.τ).loc Cert.ColXRefIdeal.main_arg0) = m' ((c.tc : Thread Cert.ColXRefIdeal.nD Cert.ColXRefIdeal.τ).loc Cert.ColXRefIdeal.main_arg0)
          ∧ r.2.mem ((c.tc : Thread Cert.ColXRefIdeal.nD Cert.ColXRefIdeal.τ).loc Cert.ColXRefIdeal.main_arg1) = m' ((c.tc : Thread Cert.ColXRefIdeal.nD Cert.ColXRefIdeal.τ).loc Cert.ColXRefIdeal.main_arg1)
          ∧ r.2.mem ((c.tc : Thread Cert.ColXRefIdeal.nD Cert.ColXRefIdeal.τ).loc Cert.ColXRefIdeal.main_arg2) = m' ((c.tc : Thread Cert.ColXRefIdeal.nD Cert.ColXRefIdeal.τ).loc Cert.ColXRefIdeal.main_arg2)
          ∧ r.2.mem ((c.tc : Thread Cert.ColXRefIdeal.nD Cert.ColXRefIdeal.τ).loc Cert.ColXRefIdeal.main_arg3) = m' ((c.tc : Thread Cert.ColXRefIdeal.nD Cert.ColXRefIdeal.τ).loc Cert.ColXRefIdeal.main_arg3)
          ∧ r.2.mem ((c.tc : Thread Cert.ColXRefIdeal.nD Cert.ColXRefIdeal.τ).loc Cert.ColXRefIdeal.main_arg4) = m' ((c.tc : Thread Cert.ColXRefIdeal.nD Cert.ColXRefIdeal.τ).loc Cert.ColXRefIdeal.main_arg4)
          ∧ r.2.mem ((c.tc : Thread Cert.ColXRefIdeal.nD Cert.ColXRefIdeal.τ).loc Cert.ColXRefIdeal.main_arg5) = m' ((c.tc : Thread Cert.ColXRefIdeal.nD Cert.ColXRefIdeal.τ).loc Cert.ColXRefIdeal.main_arg5))

def preserves_ColW_ColWIdeal : Prop :=
  True

def algebraic_ColWIdeal_ColWRefIdeal_pre_finite_columns_weight [hColWIdeal : Cert.ColWIdeal.Facts] [hColWRefIdeal : Cert.ColWRefIdeal.Facts] [hPre_finite_columns_weight : Cert.Pre_finite_columns_weight.Facts] : Prop :=
  ∀ (m : (ℓ : Loc Cert.ColWIdeal.nD Cert.ColWIdeal.τ Cert.ColWIdeal.sig) → Buf (Elt Ideal) ℓ) (g : Dev Cert.ColWIdeal.nD → PrngReg)
    (m' : (ℓ : Loc Cert.ColWRefIdeal.nD Cert.ColWRefIdeal.τ Cert.ColWRefIdeal.sig) → Buf (Elt Ideal) ℓ) (g' : Dev Cert.ColWRefIdeal.nD → PrngReg), Pre_ColWIdeal_finite_columns_weight m →
    (∀ c : Dev Cert.ColWIdeal.nD,
      m' ((c.tc : Thread Cert.ColWRefIdeal.nD Cert.ColWRefIdeal.τ).loc Cert.ColWRefIdeal.main_arg0) = m ((c.tc : Thread Cert.ColWIdeal.nD Cert.ColWIdeal.τ).loc Cert.ColWIdeal.main_arg0)
      ∧ m' ((c.tc : Thread Cert.ColWRefIdeal.nD Cert.ColWRefIdeal.τ).loc Cert.ColWRefIdeal.main_arg1) = m ((c.tc : Thread Cert.ColWIdeal.nD Cert.ColWIdeal.τ).loc Cert.ColWIdeal.main_arg1)
      ∧ m' ((c.tc : Thread Cert.ColWRefIdeal.nD Cert.ColWRefIdeal.τ).loc Cert.ColWRefIdeal.main_arg2) = m ((c.tc : Thread Cert.ColWIdeal.nD Cert.ColWIdeal.τ).loc Cert.ColWIdeal.main_arg2)
      ∧ m' ((c.tc : Thread Cert.ColWRefIdeal.nD Cert.ColWRefIdeal.τ).loc Cert.ColWRefIdeal.main_arg3) = m ((c.tc : Thread Cert.ColWIdeal.nD Cert.ColWIdeal.τ).loc Cert.ColWIdeal.main_arg3)
      ∧ m' ((c.tc : Thread Cert.ColWRefIdeal.nD Cert.ColWRefIdeal.τ).loc Cert.ColWRefIdeal.main_arg4) = m ((c.tc : Thread Cert.ColWIdeal.nD Cert.ColWIdeal.τ).loc Cert.ColWIdeal.main_arg4)
      ∧ m' ((c.tc : Thread Cert.ColWRefIdeal.nD Cert.ColWRefIdeal.τ).loc Cert.ColWRefIdeal.main_arg5) = m ((c.tc : Thread Cert.ColWIdeal.nD Cert.ColWIdeal.τ).loc Cert.ColWIdeal.main_arg5)) →
    ∃ (v0 : (c : Dev Cert.ColWIdeal.nD) → Buf (Elt Ideal) ((c.tc : Thread Cert.ColWIdeal.nD Cert.ColWIdeal.τ).loc Cert.ColWIdeal.main_v18)),
      θ_run (Cert.ColWIdeal.defs (F := Ideal)) (onTc (τ := Cert.ColWIdeal.τ) (Cert.ColWIdeal.main (F := Ideal))) ⟨m, fun _ => 0, g⟩ (fun r => ∀ c : Dev Cert.ColWIdeal.nD,
          r.2.mem ((c.tc : Thread Cert.ColWIdeal.nD Cert.ColWIdeal.τ).loc Cert.ColWIdeal.main_v18) = v0 c
          ∧ r.2.mem ((c.tc : Thread Cert.ColWIdeal.nD Cert.ColWIdeal.τ).loc Cert.ColWIdeal.main_arg0) = m ((c.tc : Thread Cert.ColWIdeal.nD Cert.ColWIdeal.τ).loc Cert.ColWIdeal.main_arg0)
          ∧ r.2.mem ((c.tc : Thread Cert.ColWIdeal.nD Cert.ColWIdeal.τ).loc Cert.ColWIdeal.main_arg1) = m ((c.tc : Thread Cert.ColWIdeal.nD Cert.ColWIdeal.τ).loc Cert.ColWIdeal.main_arg1)
          ∧ r.2.mem ((c.tc : Thread Cert.ColWIdeal.nD Cert.ColWIdeal.τ).loc Cert.ColWIdeal.main_arg2) = m ((c.tc : Thread Cert.ColWIdeal.nD Cert.ColWIdeal.τ).loc Cert.ColWIdeal.main_arg2)
          ∧ r.2.mem ((c.tc : Thread Cert.ColWIdeal.nD Cert.ColWIdeal.τ).loc Cert.ColWIdeal.main_arg3) = m ((c.tc : Thread Cert.ColWIdeal.nD Cert.ColWIdeal.τ).loc Cert.ColWIdeal.main_arg3)
          ∧ r.2.mem ((c.tc : Thread Cert.ColWIdeal.nD Cert.ColWIdeal.τ).loc Cert.ColWIdeal.main_arg4) = m ((c.tc : Thread Cert.ColWIdeal.nD Cert.ColWIdeal.τ).loc Cert.ColWIdeal.main_arg4)
          ∧ r.2.mem ((c.tc : Thread Cert.ColWIdeal.nD Cert.ColWIdeal.τ).loc Cert.ColWIdeal.main_arg5) = m ((c.tc : Thread Cert.ColWIdeal.nD Cert.ColWIdeal.τ).loc Cert.ColWIdeal.main_arg5))
      ∧ θ_run (Cert.ColWRefIdeal.defs (F := Ideal)) (onTc (τ := Cert.ColWRefIdeal.τ) (Cert.ColWRefIdeal.main (F := Ideal))) ⟨m', fun _ => 0, g'⟩ (fun r => ∀ c : Dev Cert.ColWRefIdeal.nD,
          r.2.mem ((c.tc : Thread Cert.ColWRefIdeal.nD Cert.ColWRefIdeal.τ).loc Cert.ColWRefIdeal.main_v28) = v0 c
          ∧ r.2.mem ((c.tc : Thread Cert.ColWRefIdeal.nD Cert.ColWRefIdeal.τ).loc Cert.ColWRefIdeal.main_arg0) = m' ((c.tc : Thread Cert.ColWRefIdeal.nD Cert.ColWRefIdeal.τ).loc Cert.ColWRefIdeal.main_arg0)
          ∧ r.2.mem ((c.tc : Thread Cert.ColWRefIdeal.nD Cert.ColWRefIdeal.τ).loc Cert.ColWRefIdeal.main_arg1) = m' ((c.tc : Thread Cert.ColWRefIdeal.nD Cert.ColWRefIdeal.τ).loc Cert.ColWRefIdeal.main_arg1)
          ∧ r.2.mem ((c.tc : Thread Cert.ColWRefIdeal.nD Cert.ColWRefIdeal.τ).loc Cert.ColWRefIdeal.main_arg2) = m' ((c.tc : Thread Cert.ColWRefIdeal.nD Cert.ColWRefIdeal.τ).loc Cert.ColWRefIdeal.main_arg2)
          ∧ r.2.mem ((c.tc : Thread Cert.ColWRefIdeal.nD Cert.ColWRefIdeal.τ).loc Cert.ColWRefIdeal.main_arg3) = m' ((c.tc : Thread Cert.ColWRefIdeal.nD Cert.ColWRefIdeal.τ).loc Cert.ColWRefIdeal.main_arg3)
          ∧ r.2.mem ((c.tc : Thread Cert.ColWRefIdeal.nD Cert.ColWRefIdeal.τ).loc Cert.ColWRefIdeal.main_arg4) = m' ((c.tc : Thread Cert.ColWRefIdeal.nD Cert.ColWRefIdeal.τ).loc Cert.ColWRefIdeal.main_arg4)
          ∧ r.2.mem ((c.tc : Thread Cert.ColWRefIdeal.nD Cert.ColWRefIdeal.τ).loc Cert.ColWRefIdeal.main_arg5) = m' ((c.tc : Thread Cert.ColWRefIdeal.nD Cert.ColWRefIdeal.τ).loc Cert.ColWRefIdeal.main_arg5))

def preserves_Qu_QuIdeal : Prop :=
  True

def algebraic_QuIdeal_QuRefIdeal_pre_finite_queries [hQuIdeal : Cert.QuIdeal.Facts] [hQuRefIdeal : Cert.QuRefIdeal.Facts] [hPre_finite_queries : Cert.Pre_finite_queries.Facts] : Prop :=
  ∀ (m : (ℓ : Loc Cert.QuIdeal.nD Cert.QuIdeal.τ Cert.QuIdeal.sig) → Buf (Elt Ideal) ℓ) (g : Dev Cert.QuIdeal.nD → PrngReg)
    (m' : (ℓ : Loc Cert.QuRefIdeal.nD Cert.QuRefIdeal.τ Cert.QuRefIdeal.sig) → Buf (Elt Ideal) ℓ) (g' : Dev Cert.QuRefIdeal.nD → PrngReg), Pre_QuIdeal_finite_queries m →
    (∀ c : Dev Cert.QuIdeal.nD,
      m' ((c.tc : Thread Cert.QuRefIdeal.nD Cert.QuRefIdeal.τ).loc Cert.QuRefIdeal.main_arg0) = m ((c.tc : Thread Cert.QuIdeal.nD Cert.QuIdeal.τ).loc Cert.QuIdeal.main_arg0)
      ∧ m' ((c.tc : Thread Cert.QuRefIdeal.nD Cert.QuRefIdeal.τ).loc Cert.QuRefIdeal.main_arg1) = m ((c.tc : Thread Cert.QuIdeal.nD Cert.QuIdeal.τ).loc Cert.QuIdeal.main_arg1)
      ∧ m' ((c.tc : Thread Cert.QuRefIdeal.nD Cert.QuRefIdeal.τ).loc Cert.QuRefIdeal.main_arg2) = m ((c.tc : Thread Cert.QuIdeal.nD Cert.QuIdeal.τ).loc Cert.QuIdeal.main_arg2)
      ∧ m' ((c.tc : Thread Cert.QuRefIdeal.nD Cert.QuRefIdeal.τ).loc Cert.QuRefIdeal.main_arg3) = m ((c.tc : Thread Cert.QuIdeal.nD Cert.QuIdeal.τ).loc Cert.QuIdeal.main_arg3)) →
    ∃ (v0 : (c : Dev Cert.QuIdeal.nD) → Buf (Elt Ideal) ((c.tc : Thread Cert.QuIdeal.nD Cert.QuIdeal.τ).loc Cert.QuIdeal.main_v19)) (v1 : (c : Dev Cert.QuIdeal.nD) → Buf (Elt Ideal) ((c.tc : Thread Cert.QuIdeal.nD Cert.QuIdeal.τ).loc Cert.QuIdeal.main_v26)),
      θ_run (Cert.QuIdeal.defs (F := Ideal)) (onTc (τ := Cert.QuIdeal.τ) (Cert.QuIdeal.main (F := Ideal))) ⟨m, fun _ => 0, g⟩ (fun r => ∀ c : Dev Cert.QuIdeal.nD,
          r.2.mem ((c.tc : Thread Cert.QuIdeal.nD Cert.QuIdeal.τ).loc Cert.QuIdeal.main_v19) = v0 c
          ∧ r.2.mem ((c.tc : Thread Cert.QuIdeal.nD Cert.QuIdeal.τ).loc Cert.QuIdeal.main_v26) = v1 c
          ∧ r.2.mem ((c.tc : Thread Cert.QuIdeal.nD Cert.QuIdeal.τ).loc Cert.QuIdeal.main_arg0) = m ((c.tc : Thread Cert.QuIdeal.nD Cert.QuIdeal.τ).loc Cert.QuIdeal.main_arg0)
          ∧ r.2.mem ((c.tc : Thread Cert.QuIdeal.nD Cert.QuIdeal.τ).loc Cert.QuIdeal.main_arg1) = m ((c.tc : Thread Cert.QuIdeal.nD Cert.QuIdeal.τ).loc Cert.QuIdeal.main_arg1)
          ∧ r.2.mem ((c.tc : Thread Cert.QuIdeal.nD Cert.QuIdeal.τ).loc Cert.QuIdeal.main_arg2) = m ((c.tc : Thread Cert.QuIdeal.nD Cert.QuIdeal.τ).loc Cert.QuIdeal.main_arg2)
          ∧ r.2.mem ((c.tc : Thread Cert.QuIdeal.nD Cert.QuIdeal.τ).loc Cert.QuIdeal.main_arg3) = m ((c.tc : Thread Cert.QuIdeal.nD Cert.QuIdeal.τ).loc Cert.QuIdeal.main_arg3))
      ∧ θ_run (Cert.QuRefIdeal.defs (F := Ideal)) (onTc (τ := Cert.QuRefIdeal.τ) (Cert.QuRefIdeal.main (F := Ideal))) ⟨m', fun _ => 0, g'⟩ (fun r => ∀ c : Dev Cert.QuRefIdeal.nD,
          r.2.mem ((c.tc : Thread Cert.QuRefIdeal.nD Cert.QuRefIdeal.τ).loc Cert.QuRefIdeal.main_v2) = v0 c
          ∧ r.2.mem ((c.tc : Thread Cert.QuRefIdeal.nD Cert.QuRefIdeal.τ).loc Cert.QuRefIdeal.main_v18) = v1 c
          ∧ r.2.mem ((c.tc : Thread Cert.QuRefIdeal.nD Cert.QuRefIdeal.τ).loc Cert.QuRefIdeal.main_arg0) = m' ((c.tc : Thread Cert.QuRefIdeal.nD Cert.QuRefIdeal.τ).loc Cert.QuRefIdeal.main_arg0)
          ∧ r.2.mem ((c.tc : Thread Cert.QuRefIdeal.nD Cert.QuRefIdeal.τ).loc Cert.QuRefIdeal.main_arg1) = m' ((c.tc : Thread Cert.QuRefIdeal.nD Cert.QuRefIdeal.τ).loc Cert.QuRefIdeal.main_arg1)
          ∧ r.2.mem ((c.tc : Thread Cert.QuRefIdeal.nD Cert.QuRefIdeal.τ).loc Cert.QuRefIdeal.main_arg2) = m' ((c.tc : Thread Cert.QuRefIdeal.nD Cert.QuRefIdeal.τ).loc Cert.QuRefIdeal.main_arg2)
          ∧ r.2.mem ((c.tc : Thread Cert.QuRefIdeal.nD Cert.QuRefIdeal.τ).loc Cert.QuRefIdeal.main_arg3) = m' ((c.tc : Thread Cert.QuRefIdeal.nD Cert.QuRefIdeal.τ).loc Cert.QuRefIdeal.main_arg3))

def preserves_QuX_QuXIdeal : Prop :=
  True

def algebraic_QuXIdeal_QuXRefIdeal_pre_finite_queries_input [hQuXIdeal : Cert.QuXIdeal.Facts] [hQuXRefIdeal : Cert.QuXRefIdeal.Facts] [hPre_finite_queries_input : Cert.Pre_finite_queries_input.Facts] : Prop :=
  ∀ (m : (ℓ : Loc Cert.QuXIdeal.nD Cert.QuXIdeal.τ Cert.QuXIdeal.sig) → Buf (Elt Ideal) ℓ) (g : Dev Cert.QuXIdeal.nD → PrngReg)
    (m' : (ℓ : Loc Cert.QuXRefIdeal.nD Cert.QuXRefIdeal.τ Cert.QuXRefIdeal.sig) → Buf (Elt Ideal) ℓ) (g' : Dev Cert.QuXRefIdeal.nD → PrngReg), Pre_QuXIdeal_finite_queries_input m →
    (∀ c : Dev Cert.QuXIdeal.nD,
      m' ((c.tc : Thread Cert.QuXRefIdeal.nD Cert.QuXRefIdeal.τ).loc Cert.QuXRefIdeal.main_arg0) = m ((c.tc : Thread Cert.QuXIdeal.nD Cert.QuXIdeal.τ).loc Cert.QuXIdeal.main_arg0)
      ∧ m' ((c.tc : Thread Cert.QuXRefIdeal.nD Cert.QuXRefIdeal.τ).loc Cert.QuXRefIdeal.main_arg1) = m ((c.tc : Thread Cert.QuXIdeal.nD Cert.QuXIdeal.τ).loc Cert.QuXIdeal.main_arg1)
      ∧ m' ((c.tc : Thread Cert.QuXRefIdeal.nD Cert.QuXRefIdeal.τ).loc Cert.QuXRefIdeal.main_arg2) = m ((c.tc : Thread Cert.QuXIdeal.nD Cert.QuXIdeal.τ).loc Cert.QuXIdeal.main_arg2)
      ∧ m' ((c.tc : Thread Cert.QuXRefIdeal.nD Cert.QuXRefIdeal.τ).loc Cert.QuXRefIdeal.main_arg3) = m ((c.tc : Thread Cert.QuXIdeal.nD Cert.QuXIdeal.τ).loc Cert.QuXIdeal.main_arg3)
      ∧ m' ((c.tc : Thread Cert.QuXRefIdeal.nD Cert.QuXRefIdeal.τ).loc Cert.QuXRefIdeal.main_arg4) = m ((c.tc : Thread Cert.QuXIdeal.nD Cert.QuXIdeal.τ).loc Cert.QuXIdeal.main_arg4)
      ∧ m' ((c.tc : Thread Cert.QuXRefIdeal.nD Cert.QuXRefIdeal.τ).loc Cert.QuXRefIdeal.main_arg5) = m ((c.tc : Thread Cert.QuXIdeal.nD Cert.QuXIdeal.τ).loc Cert.QuXIdeal.main_arg5)) →
    ∃ (v0 : (c : Dev Cert.QuXIdeal.nD) → Buf (Elt Ideal) ((c.tc : Thread Cert.QuXIdeal.nD Cert.QuXIdeal.τ).loc Cert.QuXIdeal.main_v24)),
      θ_run (Cert.QuXIdeal.defs (F := Ideal)) (onTc (τ := Cert.QuXIdeal.τ) (Cert.QuXIdeal.main (F := Ideal))) ⟨m, fun _ => 0, g⟩ (fun r => ∀ c : Dev Cert.QuXIdeal.nD,
          r.2.mem ((c.tc : Thread Cert.QuXIdeal.nD Cert.QuXIdeal.τ).loc Cert.QuXIdeal.main_v24) = v0 c
          ∧ r.2.mem ((c.tc : Thread Cert.QuXIdeal.nD Cert.QuXIdeal.τ).loc Cert.QuXIdeal.main_arg0) = m ((c.tc : Thread Cert.QuXIdeal.nD Cert.QuXIdeal.τ).loc Cert.QuXIdeal.main_arg0)
          ∧ r.2.mem ((c.tc : Thread Cert.QuXIdeal.nD Cert.QuXIdeal.τ).loc Cert.QuXIdeal.main_arg1) = m ((c.tc : Thread Cert.QuXIdeal.nD Cert.QuXIdeal.τ).loc Cert.QuXIdeal.main_arg1)
          ∧ r.2.mem ((c.tc : Thread Cert.QuXIdeal.nD Cert.QuXIdeal.τ).loc Cert.QuXIdeal.main_arg2) = m ((c.tc : Thread Cert.QuXIdeal.nD Cert.QuXIdeal.τ).loc Cert.QuXIdeal.main_arg2)
          ∧ r.2.mem ((c.tc : Thread Cert.QuXIdeal.nD Cert.QuXIdeal.τ).loc Cert.QuXIdeal.main_arg3) = m ((c.tc : Thread Cert.QuXIdeal.nD Cert.QuXIdeal.τ).loc Cert.QuXIdeal.main_arg3)
          ∧ r.2.mem ((c.tc : Thread Cert.QuXIdeal.nD Cert.QuXIdeal.τ).loc Cert.QuXIdeal.main_arg4) = m ((c.tc : Thread Cert.QuXIdeal.nD Cert.QuXIdeal.τ).loc Cert.QuXIdeal.main_arg4)
          ∧ r.2.mem ((c.tc : Thread Cert.QuXIdeal.nD Cert.QuXIdeal.τ).loc Cert.QuXIdeal.main_arg5) = m ((c.tc : Thread Cert.QuXIdeal.nD Cert.QuXIdeal.τ).loc Cert.QuXIdeal.main_arg5))
      ∧ θ_run (Cert.QuXRefIdeal.defs (F := Ideal)) (onTc (τ := Cert.QuXRefIdeal.τ) (Cert.QuXRefIdeal.main (F := Ideal))) ⟨m', fun _ => 0, g'⟩ (fun r => ∀ c : Dev Cert.QuXRefIdeal.nD,
          r.2.mem ((c.tc : Thread Cert.QuXRefIdeal.nD Cert.QuXRefIdeal.τ).loc Cert.QuXRefIdeal.main_v39) = v0 c
          ∧ r.2.mem ((c.tc : Thread Cert.QuXRefIdeal.nD Cert.QuXRefIdeal.τ).loc Cert.QuXRefIdeal.main_arg0) = m' ((c.tc : Thread Cert.QuXRefIdeal.nD Cert.QuXRefIdeal.τ).loc Cert.QuXRefIdeal.main_arg0)
          ∧ r.2.mem ((c.tc : Thread Cert.QuXRefIdeal.nD Cert.QuXRefIdeal.τ).loc Cert.QuXRefIdeal.main_arg1) = m' ((c.tc : Thread Cert.QuXRefIdeal.nD Cert.QuXRefIdeal.τ).loc Cert.QuXRefIdeal.main_arg1)
          ∧ r.2.mem ((c.tc : Thread Cert.QuXRefIdeal.nD Cert.QuXRefIdeal.τ).loc Cert.QuXRefIdeal.main_arg2) = m' ((c.tc : Thread Cert.QuXRefIdeal.nD Cert.QuXRefIdeal.τ).loc Cert.QuXRefIdeal.main_arg2)
          ∧ r.2.mem ((c.tc : Thread Cert.QuXRefIdeal.nD Cert.QuXRefIdeal.τ).loc Cert.QuXRefIdeal.main_arg3) = m' ((c.tc : Thread Cert.QuXRefIdeal.nD Cert.QuXRefIdeal.τ).loc Cert.QuXRefIdeal.main_arg3)
          ∧ r.2.mem ((c.tc : Thread Cert.QuXRefIdeal.nD Cert.QuXRefIdeal.τ).loc Cert.QuXRefIdeal.main_arg4) = m' ((c.tc : Thread Cert.QuXRefIdeal.nD Cert.QuXRefIdeal.τ).loc Cert.QuXRefIdeal.main_arg4)
          ∧ r.2.mem ((c.tc : Thread Cert.QuXRefIdeal.nD Cert.QuXRefIdeal.τ).loc Cert.QuXRefIdeal.main_arg5) = m' ((c.tc : Thread Cert.QuXRefIdeal.nD Cert.QuXRefIdeal.τ).loc Cert.QuXRefIdeal.main_arg5))

def preserves_QuW_QuWIdeal : Prop :=
  True

def algebraic_QuWIdeal_QuWRefIdeal_pre_finite_queries_weight [hQuWIdeal : Cert.QuWIdeal.Facts] [hQuWRefIdeal : Cert.QuWRefIdeal.Facts] [hPre_finite_queries_weight : Cert.Pre_finite_queries_weight.Facts] : Prop :=
  ∀ (m : (ℓ : Loc Cert.QuWIdeal.nD Cert.QuWIdeal.τ Cert.QuWIdeal.sig) → Buf (Elt Ideal) ℓ) (g : Dev Cert.QuWIdeal.nD → PrngReg)
    (m' : (ℓ : Loc Cert.QuWRefIdeal.nD Cert.QuWRefIdeal.τ Cert.QuWRefIdeal.sig) → Buf (Elt Ideal) ℓ) (g' : Dev Cert.QuWRefIdeal.nD → PrngReg), Pre_QuWIdeal_finite_queries_weight m →
    (∀ c : Dev Cert.QuWIdeal.nD,
      m' ((c.tc : Thread Cert.QuWRefIdeal.nD Cert.QuWRefIdeal.τ).loc Cert.QuWRefIdeal.main_arg0) = m ((c.tc : Thread Cert.QuWIdeal.nD Cert.QuWIdeal.τ).loc Cert.QuWIdeal.main_arg0)
      ∧ m' ((c.tc : Thread Cert.QuWRefIdeal.nD Cert.QuWRefIdeal.τ).loc Cert.QuWRefIdeal.main_arg1) = m ((c.tc : Thread Cert.QuWIdeal.nD Cert.QuWIdeal.τ).loc Cert.QuWIdeal.main_arg1)
      ∧ m' ((c.tc : Thread Cert.QuWRefIdeal.nD Cert.QuWRefIdeal.τ).loc Cert.QuWRefIdeal.main_arg2) = m ((c.tc : Thread Cert.QuWIdeal.nD Cert.QuWIdeal.τ).loc Cert.QuWIdeal.main_arg2)
      ∧ m' ((c.tc : Thread Cert.QuWRefIdeal.nD Cert.QuWRefIdeal.τ).loc Cert.QuWRefIdeal.main_arg3) = m ((c.tc : Thread Cert.QuWIdeal.nD Cert.QuWIdeal.τ).loc Cert.QuWIdeal.main_arg3)
      ∧ m' ((c.tc : Thread Cert.QuWRefIdeal.nD Cert.QuWRefIdeal.τ).loc Cert.QuWRefIdeal.main_arg4) = m ((c.tc : Thread Cert.QuWIdeal.nD Cert.QuWIdeal.τ).loc Cert.QuWIdeal.main_arg4)
      ∧ m' ((c.tc : Thread Cert.QuWRefIdeal.nD Cert.QuWRefIdeal.τ).loc Cert.QuWRefIdeal.main_arg5) = m ((c.tc : Thread Cert.QuWIdeal.nD Cert.QuWIdeal.τ).loc Cert.QuWIdeal.main_arg5)) →
    ∃ (v0 : (c : Dev Cert.QuWIdeal.nD) → Buf (Elt Ideal) ((c.tc : Thread Cert.QuWIdeal.nD Cert.QuWIdeal.τ).loc Cert.QuWIdeal.main_v24)),
      θ_run (Cert.QuWIdeal.defs (F := Ideal)) (onTc (τ := Cert.QuWIdeal.τ) (Cert.QuWIdeal.main (F := Ideal))) ⟨m, fun _ => 0, g⟩ (fun r => ∀ c : Dev Cert.QuWIdeal.nD,
          r.2.mem ((c.tc : Thread Cert.QuWIdeal.nD Cert.QuWIdeal.τ).loc Cert.QuWIdeal.main_v24) = v0 c
          ∧ r.2.mem ((c.tc : Thread Cert.QuWIdeal.nD Cert.QuWIdeal.τ).loc Cert.QuWIdeal.main_arg0) = m ((c.tc : Thread Cert.QuWIdeal.nD Cert.QuWIdeal.τ).loc Cert.QuWIdeal.main_arg0)
          ∧ r.2.mem ((c.tc : Thread Cert.QuWIdeal.nD Cert.QuWIdeal.τ).loc Cert.QuWIdeal.main_arg1) = m ((c.tc : Thread Cert.QuWIdeal.nD Cert.QuWIdeal.τ).loc Cert.QuWIdeal.main_arg1)
          ∧ r.2.mem ((c.tc : Thread Cert.QuWIdeal.nD Cert.QuWIdeal.τ).loc Cert.QuWIdeal.main_arg2) = m ((c.tc : Thread Cert.QuWIdeal.nD Cert.QuWIdeal.τ).loc Cert.QuWIdeal.main_arg2)
          ∧ r.2.mem ((c.tc : Thread Cert.QuWIdeal.nD Cert.QuWIdeal.τ).loc Cert.QuWIdeal.main_arg3) = m ((c.tc : Thread Cert.QuWIdeal.nD Cert.QuWIdeal.τ).loc Cert.QuWIdeal.main_arg3)
          ∧ r.2.mem ((c.tc : Thread Cert.QuWIdeal.nD Cert.QuWIdeal.τ).loc Cert.QuWIdeal.main_arg4) = m ((c.tc : Thread Cert.QuWIdeal.nD Cert.QuWIdeal.τ).loc Cert.QuWIdeal.main_arg4)
          ∧ r.2.mem ((c.tc : Thread Cert.QuWIdeal.nD Cert.QuWIdeal.τ).loc Cert.QuWIdeal.main_arg5) = m ((c.tc : Thread Cert.QuWIdeal.nD Cert.QuWIdeal.τ).loc Cert.QuWIdeal.main_arg5))
      ∧ θ_run (Cert.QuWRefIdeal.defs (F := Ideal)) (onTc (τ := Cert.QuWRefIdeal.τ) (Cert.QuWRefIdeal.main (F := Ideal))) ⟨m', fun _ => 0, g'⟩ (fun r => ∀ c : Dev Cert.QuWRefIdeal.nD,
          r.2.mem ((c.tc : Thread Cert.QuWRefIdeal.nD Cert.QuWRefIdeal.τ).loc Cert.QuWRefIdeal.main_v40) = v0 c
          ∧ r.2.mem ((c.tc : Thread Cert.QuWRefIdeal.nD Cert.QuWRefIdeal.τ).loc Cert.QuWRefIdeal.main_arg0) = m' ((c.tc : Thread Cert.QuWRefIdeal.nD Cert.QuWRefIdeal.τ).loc Cert.QuWRefIdeal.main_arg0)
          ∧ r.2.mem ((c.tc : Thread Cert.QuWRefIdeal.nD Cert.QuWRefIdeal.τ).loc Cert.QuWRefIdeal.main_arg1) = m' ((c.tc : Thread Cert.QuWRefIdeal.nD Cert.QuWRefIdeal.τ).loc Cert.QuWRefIdeal.main_arg1)
          ∧ r.2.mem ((c.tc : Thread Cert.QuWRefIdeal.nD Cert.QuWRefIdeal.τ).loc Cert.QuWRefIdeal.main_arg2) = m' ((c.tc : Thread Cert.QuWRefIdeal.nD Cert.QuWRefIdeal.τ).loc Cert.QuWRefIdeal.main_arg2)
          ∧ r.2.mem ((c.tc : Thread Cert.QuWRefIdeal.nD Cert.QuWRefIdeal.τ).loc Cert.QuWRefIdeal.main_arg3) = m' ((c.tc : Thread Cert.QuWRefIdeal.nD Cert.QuWRefIdeal.τ).loc Cert.QuWRefIdeal.main_arg3)
          ∧ r.2.mem ((c.tc : Thread Cert.QuWRefIdeal.nD Cert.QuWRefIdeal.τ).loc Cert.QuWRefIdeal.main_arg4) = m' ((c.tc : Thread Cert.QuWRefIdeal.nD Cert.QuWRefIdeal.τ).loc Cert.QuWRefIdeal.main_arg4)
          ∧ r.2.mem ((c.tc : Thread Cert.QuWRefIdeal.nD Cert.QuWRefIdeal.τ).loc Cert.QuWRefIdeal.main_arg5) = m' ((c.tc : Thread Cert.QuWRefIdeal.nD Cert.QuWRefIdeal.τ).loc Cert.QuWRefIdeal.main_arg5))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hWGate : Cert.WGate.Facts) (hWGateIdeal : Cert.WGateIdeal.Facts) (hWGateRefIdeal : Cert.WGateRefIdeal.Facts) (hWUp : Cert.WUp.Facts) (hWUpIdeal : Cert.WUpIdeal.Facts) (hWUpRefIdeal : Cert.WUpRefIdeal.Facts) (hHnGate : Cert.HnGate.Facts) (hHnGateIdeal : Cert.HnGateIdeal.Facts) (hHnGateRefIdeal : Cert.HnGateRefIdeal.Facts) (hHnUp : Cert.HnUp.Facts) (hHnUpIdeal : Cert.HnUpIdeal.Facts) (hHnUpRefIdeal : Cert.HnUpRefIdeal.Facts) (hFGate : Cert.FGate.Facts) (hFGateIdeal : Cert.FGateIdeal.Facts) (hFGateRefIdeal : Cert.FGateRefIdeal.Facts) (hFUp : Cert.FUp.Facts) (hFUpIdeal : Cert.FUpIdeal.Facts) (hFUpRefIdeal : Cert.FUpRefIdeal.Facts) (hFDown : Cert.FDown.Facts) (hFDownIdeal : Cert.FDownIdeal.Facts) (hFDownRefIdeal : Cert.FDownRefIdeal.Facts) (hOut : Cert.Out.Facts) (hOutIdeal : Cert.OutIdeal.Facts) (hOutRefIdeal : Cert.OutRefIdeal.Facts) (hDMixed : Cert.DMixed.Facts) (hDMixedIdeal : Cert.DMixedIdeal.Facts) (hDMixedRefIdeal : Cert.DMixedRefIdeal.Facts) (hDwoA : Cert.DwoA.Facts) (hDwoAIdeal : Cert.DwoAIdeal.Facts) (hDwoARefIdeal : Cert.DwoARefIdeal.Facts) (hDwoG : Cert.DwoG.Facts) (hDwoGIdeal : Cert.DwoGIdeal.Facts) (hDwoGRefIdeal : Cert.DwoGRefIdeal.Facts) (hUv : Cert.Uv.Facts) (hUvIdeal : Cert.UvIdeal.Facts) (hUvRefIdeal : Cert.UvRefIdeal.Facts) (hUvW : Cert.UvW.Facts) (hUvWIdeal : Cert.UvWIdeal.Facts) (hUvWRefIdeal : Cert.UvWRefIdeal.Facts) (hUvX : Cert.UvX.Facts) (hUvXIdeal : Cert.UvXIdeal.Facts) (hUvXRefIdeal : Cert.UvXRefIdeal.Facts) (hKv : Cert.Kv.Facts) (hKvIdeal : Cert.KvIdeal.Facts) (hKvRefIdeal : Cert.KvRefIdeal.Facts) (hKvX : Cert.KvX.Facts) (hKvXIdeal : Cert.KvXIdeal.Facts) (hKvXRefIdeal : Cert.KvXRefIdeal.Facts) (hKvW : Cert.KvW.Facts) (hKvWIdeal : Cert.KvWIdeal.Facts) (hKvWRefIdeal : Cert.KvWRefIdeal.Facts) (hCol : Cert.Col.Facts) (hColIdeal : Cert.ColIdeal.Facts) (hColRefIdeal : Cert.ColRefIdeal.Facts) (hColX : Cert.ColX.Facts) (hColXIdeal : Cert.ColXIdeal.Facts) (hColXRefIdeal : Cert.ColXRefIdeal.Facts) (hColW : Cert.ColW.Facts) (hColWIdeal : Cert.ColWIdeal.Facts) (hColWRefIdeal : Cert.ColWRefIdeal.Facts) (hQu : Cert.Qu.Facts) (hQuIdeal : Cert.QuIdeal.Facts) (hQuRefIdeal : Cert.QuRefIdeal.Facts) (hQuX : Cert.QuX.Facts) (hQuXIdeal : Cert.QuXIdeal.Facts) (hQuXRefIdeal : Cert.QuXRefIdeal.Facts) (hQuW : Cert.QuW.Facts) (hQuWIdeal : Cert.QuWIdeal.Facts) (hQuWRefIdeal : Cert.QuWRefIdeal.Facts) (hPre_finite : Cert.Pre_finite.Facts) (hPre_finite_gate : Cert.Pre_finite_gate.Facts) (hPre_finite_columns : Cert.Pre_finite_columns.Facts) (hPre_finite_columns_input : Cert.Pre_finite_columns_input.Facts) (hPre_finite_columns_weight : Cert.Pre_finite_columns_weight.Facts) (hPre_finite_queries : Cert.Pre_finite_queries.Facts) (hPre_finite_queries_input : Cert.Pre_finite_queries_input.Facts) (hPre_finite_queries_weight : Cert.Pre_finite_queries_weight.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Down (hDown := hDown)
    ∧ quiescent_DownIdeal (hDownIdeal := hDownIdeal)
    ∧ quiescent_DownRefIdeal (hDownRefIdeal := hDownRefIdeal)
    ∧ quiescent_WGate (hWGate := hWGate)
    ∧ quiescent_WGateIdeal (hWGateIdeal := hWGateIdeal)
    ∧ quiescent_WGateRefIdeal (hWGateRefIdeal := hWGateRefIdeal)
    ∧ quiescent_WUp (hWUp := hWUp)
    ∧ quiescent_WUpIdeal (hWUpIdeal := hWUpIdeal)
    ∧ quiescent_WUpRefIdeal (hWUpRefIdeal := hWUpRefIdeal)
    ∧ quiescent_HnGate (hHnGate := hHnGate)
    ∧ quiescent_HnGateIdeal (hHnGateIdeal := hHnGateIdeal)
    ∧ quiescent_HnGateRefIdeal (hHnGateRefIdeal := hHnGateRefIdeal)
    ∧ quiescent_HnUp (hHnUp := hHnUp)
    ∧ quiescent_HnUpIdeal (hHnUpIdeal := hHnUpIdeal)
    ∧ quiescent_HnUpRefIdeal (hHnUpRefIdeal := hHnUpRefIdeal)
    ∧ quiescent_FGate (hFGate := hFGate)
    ∧ quiescent_FGateIdeal (hFGateIdeal := hFGateIdeal)
    ∧ quiescent_FGateRefIdeal (hFGateRefIdeal := hFGateRefIdeal)
    ∧ quiescent_FUp (hFUp := hFUp)
    ∧ quiescent_FUpIdeal (hFUpIdeal := hFUpIdeal)
    ∧ quiescent_FUpRefIdeal (hFUpRefIdeal := hFUpRefIdeal)
    ∧ quiescent_FDown (hFDown := hFDown)
    ∧ quiescent_FDownIdeal (hFDownIdeal := hFDownIdeal)
    ∧ quiescent_FDownRefIdeal (hFDownRefIdeal := hFDownRefIdeal)
    ∧ quiescent_Out (hOut := hOut)
    ∧ quiescent_OutIdeal (hOutIdeal := hOutIdeal)
    ∧ quiescent_OutRefIdeal (hOutRefIdeal := hOutRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DwoA (hDwoA := hDwoA)
    ∧ quiescent_DwoAIdeal (hDwoAIdeal := hDwoAIdeal)
    ∧ quiescent_DwoARefIdeal (hDwoARefIdeal := hDwoARefIdeal)
    ∧ quiescent_DwoG (hDwoG := hDwoG)
    ∧ quiescent_DwoGIdeal (hDwoGIdeal := hDwoGIdeal)
    ∧ quiescent_DwoGRefIdeal (hDwoGRefIdeal := hDwoGRefIdeal)
    ∧ quiescent_Uv (hUv := hUv)
    ∧ quiescent_UvIdeal (hUvIdeal := hUvIdeal)
    ∧ quiescent_UvRefIdeal (hUvRefIdeal := hUvRefIdeal)
    ∧ quiescent_UvW (hUvW := hUvW)
    ∧ quiescent_UvWIdeal (hUvWIdeal := hUvWIdeal)
    ∧ quiescent_UvWRefIdeal (hUvWRefIdeal := hUvWRefIdeal)
    ∧ quiescent_UvX (hUvX := hUvX)
    ∧ quiescent_UvXIdeal (hUvXIdeal := hUvXIdeal)
    ∧ quiescent_UvXRefIdeal (hUvXRefIdeal := hUvXRefIdeal)
    ∧ quiescent_Kv (hKv := hKv)
    ∧ quiescent_KvIdeal (hKvIdeal := hKvIdeal)
    ∧ quiescent_KvRefIdeal (hKvRefIdeal := hKvRefIdeal)
    ∧ quiescent_KvX (hKvX := hKvX)
    ∧ quiescent_KvXIdeal (hKvXIdeal := hKvXIdeal)
    ∧ quiescent_KvXRefIdeal (hKvXRefIdeal := hKvXRefIdeal)
    ∧ quiescent_KvW (hKvW := hKvW)
    ∧ quiescent_KvWIdeal (hKvWIdeal := hKvWIdeal)
    ∧ quiescent_KvWRefIdeal (hKvWRefIdeal := hKvWRefIdeal)
    ∧ quiescent_Col (hCol := hCol)
    ∧ quiescent_ColIdeal (hColIdeal := hColIdeal)
    ∧ quiescent_ColIdeal_pre_finite_columns (hColIdeal := hColIdeal) (hPre_finite_columns := hPre_finite_columns)
    ∧ quiescent_ColRefIdeal (hColRefIdeal := hColRefIdeal)
    ∧ quiescent_ColRefIdeal_pre_finite_columns (hColRefIdeal := hColRefIdeal) (hPre_finite_columns := hPre_finite_columns)
    ∧ quiescent_ColX (hColX := hColX)
    ∧ quiescent_ColXIdeal (hColXIdeal := hColXIdeal)
    ∧ quiescent_ColXIdeal_pre_finite_columns_input (hColXIdeal := hColXIdeal) (hPre_finite_columns_input := hPre_finite_columns_input)
    ∧ quiescent_ColXRefIdeal (hColXRefIdeal := hColXRefIdeal)
    ∧ quiescent_ColXRefIdeal_pre_finite_columns_input (hColXRefIdeal := hColXRefIdeal) (hPre_finite_columns_input := hPre_finite_columns_input)
    ∧ quiescent_ColW (hColW := hColW)
    ∧ quiescent_ColWIdeal (hColWIdeal := hColWIdeal)
    ∧ quiescent_ColWIdeal_pre_finite_columns_weight (hColWIdeal := hColWIdeal) (hPre_finite_columns_weight := hPre_finite_columns_weight)
    ∧ quiescent_ColWRefIdeal (hColWRefIdeal := hColWRefIdeal)
    ∧ quiescent_ColWRefIdeal_pre_finite_columns_weight (hColWRefIdeal := hColWRefIdeal) (hPre_finite_columns_weight := hPre_finite_columns_weight)
    ∧ quiescent_Qu (hQu := hQu)
    ∧ quiescent_QuIdeal (hQuIdeal := hQuIdeal)
    ∧ quiescent_QuIdeal_pre_finite_queries (hQuIdeal := hQuIdeal) (hPre_finite_queries := hPre_finite_queries)
    ∧ quiescent_QuRefIdeal (hQuRefIdeal := hQuRefIdeal)
    ∧ quiescent_QuRefIdeal_pre_finite_queries (hQuRefIdeal := hQuRefIdeal) (hPre_finite_queries := hPre_finite_queries)
    ∧ quiescent_QuX (hQuX := hQuX)
    ∧ quiescent_QuXIdeal (hQuXIdeal := hQuXIdeal)
    ∧ quiescent_QuXIdeal_pre_finite_queries_input (hQuXIdeal := hQuXIdeal) (hPre_finite_queries_input := hPre_finite_queries_input)
    ∧ quiescent_QuXRefIdeal (hQuXRefIdeal := hQuXRefIdeal)
    ∧ quiescent_QuXRefIdeal_pre_finite_queries_input (hQuXRefIdeal := hQuXRefIdeal) (hPre_finite_queries_input := hPre_finite_queries_input)
    ∧ quiescent_QuW (hQuW := hQuW)
    ∧ quiescent_QuWIdeal (hQuWIdeal := hQuWIdeal)
    ∧ quiescent_QuWIdeal_pre_finite_queries_weight (hQuWIdeal := hQuWIdeal) (hPre_finite_queries_weight := hPre_finite_queries_weight)
    ∧ quiescent_QuWRefIdeal (hQuWRefIdeal := hQuWRefIdeal)
    ∧ quiescent_QuWRefIdeal_pre_finite_queries_weight (hQuWRefIdeal := hQuWRefIdeal) (hPre_finite_queries_weight := hPre_finite_queries_weight)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Down_DownIdeal
    ∧ algebraic_DownIdeal_DownRefIdeal (hDownIdeal := hDownIdeal) (hDownRefIdeal := hDownRefIdeal)
    ∧ preserves_WGate_WGateIdeal
    ∧ algebraic_WGateIdeal_WGateRefIdeal (hWGateIdeal := hWGateIdeal) (hWGateRefIdeal := hWGateRefIdeal)
    ∧ preserves_WUp_WUpIdeal
    ∧ algebraic_WUpIdeal_WUpRefIdeal (hWUpIdeal := hWUpIdeal) (hWUpRefIdeal := hWUpRefIdeal)
    ∧ preserves_HnGate_HnGateIdeal
    ∧ algebraic_HnGateIdeal_HnGateRefIdeal (hHnGateIdeal := hHnGateIdeal) (hHnGateRefIdeal := hHnGateRefIdeal)
    ∧ preserves_HnUp_HnUpIdeal
    ∧ algebraic_HnUpIdeal_HnUpRefIdeal (hHnUpIdeal := hHnUpIdeal) (hHnUpRefIdeal := hHnUpRefIdeal)
    ∧ preserves_FGate_FGateIdeal
    ∧ algebraic_FGateIdeal_FGateRefIdeal (hFGateIdeal := hFGateIdeal) (hFGateRefIdeal := hFGateRefIdeal)
    ∧ preserves_FUp_FUpIdeal
    ∧ algebraic_FUpIdeal_FUpRefIdeal (hFUpIdeal := hFUpIdeal) (hFUpRefIdeal := hFUpRefIdeal)
    ∧ preserves_FDown_FDownIdeal
    ∧ algebraic_FDownIdeal_FDownRefIdeal (hFDownIdeal := hFDownIdeal) (hFDownRefIdeal := hFDownRefIdeal)
    ∧ preserves_Out_OutIdeal
    ∧ algebraic_OutIdeal_OutRefIdeal (hOutIdeal := hOutIdeal) (hOutRefIdeal := hOutRefIdeal)
    ∧ preserves_DMixed_DMixedIdeal
    ∧ algebraic_DMixedIdeal_DMixedRefIdeal (hDMixedIdeal := hDMixedIdeal) (hDMixedRefIdeal := hDMixedRefIdeal)
    ∧ preserves_DwoA_DwoAIdeal
    ∧ algebraic_DwoAIdeal_DwoARefIdeal (hDwoAIdeal := hDwoAIdeal) (hDwoARefIdeal := hDwoARefIdeal)
    ∧ preserves_DwoG_DwoGIdeal
    ∧ algebraic_DwoGIdeal_DwoGRefIdeal (hDwoGIdeal := hDwoGIdeal) (hDwoGRefIdeal := hDwoGRefIdeal)
    ∧ preserves_Uv_UvIdeal
    ∧ algebraic_UvIdeal_UvRefIdeal (hUvIdeal := hUvIdeal) (hUvRefIdeal := hUvRefIdeal)
    ∧ preserves_UvW_UvWIdeal
    ∧ algebraic_UvWIdeal_UvWRefIdeal (hUvWIdeal := hUvWIdeal) (hUvWRefIdeal := hUvWRefIdeal)
    ∧ preserves_UvX_UvXIdeal
    ∧ algebraic_UvXIdeal_UvXRefIdeal (hUvXIdeal := hUvXIdeal) (hUvXRefIdeal := hUvXRefIdeal)
    ∧ preserves_Kv_KvIdeal
    ∧ algebraic_KvIdeal_KvRefIdeal (hKvIdeal := hKvIdeal) (hKvRefIdeal := hKvRefIdeal)
    ∧ preserves_KvX_KvXIdeal
    ∧ algebraic_KvXIdeal_KvXRefIdeal (hKvXIdeal := hKvXIdeal) (hKvXRefIdeal := hKvXRefIdeal)
    ∧ preserves_KvW_KvWIdeal
    ∧ algebraic_KvWIdeal_KvWRefIdeal (hKvWIdeal := hKvWIdeal) (hKvWRefIdeal := hKvWRefIdeal)
    ∧ preserves_Col_ColIdeal
    ∧ algebraic_ColIdeal_ColRefIdeal_pre_finite_columns (hColIdeal := hColIdeal) (hColRefIdeal := hColRefIdeal) (hPre_finite_columns := hPre_finite_columns)
    ∧ preserves_ColX_ColXIdeal
    ∧ algebraic_ColXIdeal_ColXRefIdeal_pre_finite_columns_input (hColXIdeal := hColXIdeal) (hColXRefIdeal := hColXRefIdeal) (hPre_finite_columns_input := hPre_finite_columns_input)
    ∧ preserves_ColW_ColWIdeal
    ∧ algebraic_ColWIdeal_ColWRefIdeal_pre_finite_columns_weight (hColWIdeal := hColWIdeal) (hColWRefIdeal := hColWRefIdeal) (hPre_finite_columns_weight := hPre_finite_columns_weight)
    ∧ preserves_Qu_QuIdeal
    ∧ algebraic_QuIdeal_QuRefIdeal_pre_finite_queries (hQuIdeal := hQuIdeal) (hQuRefIdeal := hQuRefIdeal) (hPre_finite_queries := hPre_finite_queries)
    ∧ preserves_QuX_QuXIdeal
    ∧ algebraic_QuXIdeal_QuXRefIdeal_pre_finite_queries_input (hQuXIdeal := hQuXIdeal) (hQuXRefIdeal := hQuXRefIdeal) (hPre_finite_queries_input := hPre_finite_queries_input)
    ∧ preserves_QuW_QuWIdeal
    ∧ algebraic_QuWIdeal_QuWRefIdeal_pre_finite_queries_weight (hQuWIdeal := hQuWIdeal) (hQuWRefIdeal := hQuWRefIdeal) (hPre_finite_queries_weight := hPre_finite_queries_weight)
-- ==== Pre_finite.lean ====
abbrev S4096x3072 : Shape := ⟨2, ![4096, 3072]⟩
abbrev S4096x4096 : Shape := ⟨2, ![4096, 4096]⟩
abbrev S4096x64 : Shape := ⟨2, ![4096, 64]⟩
abbrev S4096x32 : Shape := ⟨2, ![4096, 32]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  bcast_S_S4096x4096 : S_.BroadcastsInDim S4096x4096 (![] : Fin 0 → Fin S4096x4096.rank)
  bcast_S_S4096x64 : S_.BroadcastsInDim S4096x64 (![] : Fin 0 → Fin S4096x64.rank)
  bcast_S_S4096x32 : S_.BroadcastsInDim S4096x32 (![] : Fin 0 → Fin S4096x32.rank)
  bcast_S_S4096x2048 : S_.BroadcastsInDim S4096x2048 (![] : Fin 0 → Fin S4096x2048.rank)

variable [Facts]

def fn {F : FTy → Type} [FloatOps F] (main_arg0 : FVec F S4096x3072 .f32) (main_arg1 : FVec F S4096x4096 .f32) (main_arg2 : FVec F S4096x64 .f32) (main_arg3 : FVec F S4096x32 .f32) (main_arg4 : FVec F S4096x32 .f32) (main_arg5 : FVec F S4096x2048 .f32) : IVec S4096x3072 1 × IVec S4096x4096 1 × IVec S4096x64 1 × IVec S4096x32 1 × IVec S4096x32 1 × IVec S4096x2048 1 :=
  let main_v0 : FVec F S4096x3072 .f32 := subf main_arg0 main_arg0
  let main_cst : FVec F S_ .f32 := constant S_ .f32 0x00000000#32
  let main_v1 : FVec F S4096x3072 .f32 := broadcastInDim S4096x3072 ![] bcast_S_S4096x3072 main_cst
  let main_v2 : IVec S4096x3072 1 := cmpf .oeq main_v0 main_v1
  let main_v3 : FVec F S4096x4096 .f32 := subf main_arg1 main_arg1
  let main_cst_0 : FVec F S_ .f32 := constant S_ .f32 0x00000000#32
  let main_v4 : FVec F S4096x4096 .f32 := broadcastInDim S4096x4096 ![] bcast_S_S4096x4096 main_cst_0
  let main_v5 : IVec S4096x4096 1 := cmpf .oeq main_v3 main_v4
  let main_v6 : FVec F S4096x64 .f32 := subf main_arg2 main_arg2
  let main_cst_1 : FVec F S_ .f32 := constant S_ .f32 0x00000000#32
  let main_v7 : FVec F S4096x64 .f32 := broadcastInDim S4096x64 ![] bcast_S_S4096x64 main_cst_1
  let main_v8 : IVec S4096x64 1 := cmpf .oeq main_v6 main_v7
  let main_v9 : FVec F S4096x32 .f32 := subf main_arg3 main_arg3
  let main_cst_2 : FVec F S_ .f32 := constant S_ .f32 0x00000000#32
  let main_v10 : FVec F S4096x32 .f32 := broadcastInDim S4096x32 ![] bcast_S_S4096x32 main_cst_2
  let main_v11 : IVec S4096x32 1 := cmpf .oeq main_v9 main_v10
  let main_v12 : FVec F S4096x32 .f32 := subf main_arg4 main_arg4
  let main_cst_3 : FVec F S_ .f32 := constant S_ .f32 0x00000000#32
  let main_v13 : FVec F S4096x32 .f32 := broadcastInDim S4096x32 ![] bcast_S_S4096x32 main_cst_3
  let main_v14 : IVec S4096x32 1 := cmpf .oeq main_v12 main_v13
  let main_v15 : FVec F S4096x2048 .f32 := subf main_arg5 main_arg5
  let main_cst_4 : FVec F S_ .f32 := constant S_ .f32 0x00000000#32
  let main_v16 : FVec F S4096x2048 .f32 := broadcastInDim S4096x2048 ![] bcast_S_S4096x2048 main_cst_4
  let main_v17 : IVec S4096x2048 1 := cmpf .oeq main_v15 main_v16
  (main_v2, main_v5, main_v8, main_v11, main_v14, main_v17)
-- ==== Pre_finite_columns.lean ====
abbrev S4096x4096 : Shape := ⟨2, ![4096, 4096]⟩
abbrev S4096x1600 : Shape := ⟨2, ![4096, 1600]⟩
abbrev S4096x32 : Shape := ⟨2, ![4096, 32]⟩
abbrev S_ : Shape := ⟨0, ![]⟩

class Facts : Prop where
  bcast_S_S4096x4096 : S_.BroadcastsInDim S4096x4096 (![] : Fin 0 → Fin S4096x4096.rank)
  bcast_S_S4096x1600 : S_.BroadcastsInDim S4096x1600 (![] : Fin 0 → Fin S4096x1600.rank)

variable [Facts]

def fn {F : FTy → Type} [FloatOps F] (main_arg0 : FVec F S4096x4096 .f32) (main_arg1 : FVec F S4096x1600 .f32) (main_arg2 : FVec F S4096x32 .f32) (main_arg3 : FVec F S4096x32 .f32) : IVec S4096x4096 1 × IVec S4096x1600 1 :=
  let main_v0 : FVec F S4096x4096 .f32 := subf main_arg0 main_arg0
  let main_cst : FVec F S_ .f32 := constant S_ .f32 0x00000000#32
  let main_v1 : FVec F S4096x4096 .f32 := broadcastInDim S4096x4096 ![] bcast_S_S4096x4096 main_cst
  let main_v2 : IVec S4096x4096 1 := cmpf .oeq main_v0 main_v1
  let main_v3 : FVec F S4096x1600 .f32 := subf main_arg1 main_arg1
  let main_cst_0 : FVec F S_ .f32 := constant S_ .f32 0x00000000#32
  let main_v4 : FVec F S4096x1600 .f32 := broadcastInDim S4096x1600 ![] bcast_S_S4096x1600 main_cst_0
  let main_v5 : IVec S4096x1600 1 := cmpf .oeq main_v3 main_v4
  (main_v2, main_v5)
-- ==== Pre_finite_columns_input.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩
abbrev S_ : Shape := ⟨0, ![]⟩

class Facts : Prop where
  bcast_S_S4096x1600 : S_.BroadcastsInDim S4096x1600 (![] : Fin 0 → Fin S4096x1600.rank)
  bcast_S_S4096x32 : S_.BroadcastsInDim S4096x32 (![] : Fin 0 → Fin S4096x32.rank)
  bcast_S_S4096x64 : S_.BroadcastsInDim S4096x64 (![] : Fin 0 → Fin S4096x64.rank)

variable [Facts]

def fn {F : FTy → Type} [FloatOps F] (main_arg0 : FVec F S4096x4096 .f32) (main_arg1 : FVec F S4096x1600 .f32) (main_arg2 : FVec F S4096x32 .f32) (main_arg3 : FVec F S4096x32 .f32) (main_arg4 : FVec F S4096x1536 .f32) (main_arg5 : FVec F S4096x64 .f32) : IVec S4096x1600 1 × IVec S4096x32 1 × IVec S4096x32 1 × IVec S4096x64 1 :=
  let main_v0 : FVec F S4096x1600 .f32 := subf main_arg1 main_arg1
  let main_cst : FVec F S_ .f32 := constant S_ .f32 0x00000000#32
  let main_v1 : FVec F S4096x1600 .f32 := broadcastInDim S4096x1600 ![] bcast_S_S4096x1600 main_cst
  let main_v2 : IVec S4096x1600 1 := cmpf .oeq main_v0 main_v1
  let main_v3 : FVec F S4096x32 .f32 := subf main_arg2 main_arg2
  let main_cst_0 : FVec F S_ .f32 := constant S_ .f32 0x00000000#32
  let main_v4 : FVec F S4096x32 .f32 := broadcastInDim S4096x32 ![] bcast_S_S4096x32 main_cst_0
  let main_v5 : IVec S4096x32 1 := cmpf .oeq main_v3 main_v4
  let main_v6 : FVec F S4096x32 .f32 := subf main_arg3 main_arg3
  let main_cst_1 : FVec F S_ .f32 := constant S_ .f32 0x00000000#32
  let main_v7 : FVec F S4096x32 .f32 := broadcastInDim S4096x32 ![] bcast_S_S4096x32 main_cst_1
  let main_v8 : IVec S4096x32 1 := cmpf .oeq main_v6 main_v7
  let main_v9 : FVec F S4096x64 .f32 := subf main_arg5 main_arg5
  let main_cst_2 : FVec F S_ .f32 := constant S_ .f32 0x00000000#32
  let main_v10 : FVec F S4096x64 .f32 := broadcastInDim S4096x64 ![] bcast_S_S4096x64 main_cst_2
  let main_v11 : IVec S4096x64 1 := cmpf .oeq main_v9 main_v10
  (main_v2, main_v5, main_v8, main_v11)
-- ==== Pre_finite_columns_weight.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩
abbrev S_ : Shape := ⟨0, ![]⟩

class Facts : Prop where
  bcast_S_S4096x4096 : S_.BroadcastsInDim S4096x4096 (![] : Fin 0 → Fin S4096x4096.rank)
  bcast_S_S4096x32 : S_.BroadcastsInDim S4096x32 (![] : Fin 0 → Fin S4096x32.rank)
  bcast_S_S4096x64 : S_.BroadcastsInDim S4096x64 (![] : Fin 0 → Fin S4096x64.rank)

variable [Facts]

def fn {F : FTy → Type} [FloatOps F] (main_arg0 : FVec F S4096x4096 .f32) (main_arg1 : FVec F S4096x1600 .f32) (main_arg2 : FVec F S4096x32 .f32) (main_arg3 : FVec F S4096x32 .f32) (main_arg4 : FVec F S4096x1536 .f32) (main_arg5 : FVec F S4096x64 .f32) : IVec S4096x4096 1 × IVec S4096x32 1 × IVec S4096x32 1 × IVec S4096x64 1 :=
  let main_v0 : FVec F S4096x4096 .f32 := subf main_arg0 main_arg0
  let main_cst : FVec F S_ .f32 := constant S_ .f32 0x00000000#32
  let main_v1 : FVec F S4096x4096 .f32 := broadcastInDim S4096x4096 ![] bcast_S_S4096x4096 main_cst
  let main_v2 : IVec S4096x4096 1 := cmpf .oeq main_v0 main_v1
  let main_v3 : FVec F S4096x32 .f32 := subf main_arg2 main_arg2
  let main_cst_0 : FVec F S_ .f32 := constant S_ .f32 0x00000000#32
  let main_v4 : FVec F S4096x32 .f32 := broadcastInDim S4096x32 ![] bcast_S_S4096x32 main_cst_0
  let main_v5 : IVec S4096x32 1 := cmpf .oeq main_v3 main_v4
  let main_v6 : FVec F S4096x32 .f32 := subf main_arg3 main_arg3
  let main_cst_1 : FVec F S_ .f32 := constant S_ .f32 0x00000000#32
  let main_v7 : FVec F S4096x32 .f32 := broadcastInDim S4096x32 ![] bcast_S_S4096x32 main_cst_1
  let main_v8 : IVec S4096x32 1 := cmpf .oeq main_v6 main_v7
  let main_v9 : FVec F S4096x64 .f32 := subf main_arg5 main_arg5
  let main_cst_2 : FVec F S_ .f32 := constant S_ .f32 0x00000000#32
  let main_v10 : FVec F S4096x64 .f32 := broadcastInDim S4096x64 ![] bcast_S_S4096x64 main_cst_2
  let main_v11 : IVec S4096x64 1 := cmpf .oeq main_v9 main_v10
  (main_v2, main_v5, main_v8, main_v11)
-- ==== Pre_finite_gate.lean ====
abbrev S4096x11008 : Shape := ⟨2, ![4096, 11008]⟩
abbrev S11008x4096 : Shape := ⟨2, ![11008, 4096]⟩
abbrev S4096x4096 : Shape := ⟨2, ![4096, 4096]⟩
abbrev S_ : Shape := ⟨0, ![]⟩

class Facts : Prop where
  bcast_S_S4096x11008 : S_.BroadcastsInDim S4096x11008 (![] : Fin 0 → Fin S4096x11008.rank)
  bcast_S_S11008x4096 : S_.BroadcastsInDim S11008x4096 (![] : Fin 0 → Fin S11008x4096.rank)
  bcast_S_S4096x4096 : S_.BroadcastsInDim S4096x4096 (![] : Fin 0 → Fin S4096x4096.rank)

variable [Facts]

def fn {F : FTy → Type} [FloatOps F] (main_arg0 : FVec F S4096x11008 .f32) (main_arg1 : FVec F S4096x11008 .f32) (main_arg2 : FVec F S11008x4096 .f32) (main_arg3 : FVec F S4096x4096 .f32) : IVec S4096x11008 1 × IVec S11008x4096 1 × IVec S4096x4096 1 :=
  let main_v0 : FVec F S4096x11008 .f32 := subf main_arg1 main_arg1
  let main_cst : FVec F S_ .f32 := constant S_ .f32 0x00000000#32
  let main_v1 : FVec F S4096x11008 .f32 := broadcastInDim S4096x11008 ![] bcast_S_S4096x11008 main_cst
  let main_v2 : IVec S4096x11008 1 := cmpf .oeq main_v0 main_v1
  let main_v3 : FVec F S11008x4096 .f32 := subf main_arg2 main_arg2
  let main_cst_0 : FVec F S_ .f32 := constant S_ .f32 0x00000000#32
  let main_v4 : FVec F S11008x4096 .f32 := broadcastInDim S11008x4096 ![] bcast_S_S11008x4096 main_cst_0
  let main_v5 : IVec S11008x4096 1 := cmpf .oeq main_v3 main_v4
  let main_v6 : FVec F S4096x4096 .f32 := subf main_arg3 main_arg3
  let main_cst_1 : FVec F S_ .f32 := constant S_ .f32 0x00000000#32
  let main_v7 : FVec F S4096x4096 .f32 := broadcastInDim S4096x4096 ![] bcast_S_S4096x4096 main_cst_1
  let main_v8 : IVec S4096x4096 1 := cmpf .oeq main_v6 main_v7
  (main_v2, main_v5, main_v8)
-- ==== Pre_finite_queries.lean ====
abbrev S4096x1024 : Shape := ⟨2, ![4096, 1024]⟩
abbrev S1024x3072 : Shape := ⟨2, ![1024, 3072]⟩
abbrev S4096x32 : Shape := ⟨2, ![4096, 32]⟩
abbrev S_ : Shape := ⟨0, ![]⟩

class Facts : Prop where
  bcast_S_S4096x1024 : S_.BroadcastsInDim S4096x1024 (![] : Fin 0 → Fin S4096x1024.rank)
  bcast_S_S1024x3072 : S_.BroadcastsInDim S1024x3072 (![] : Fin 0 → Fin S1024x3072.rank)

variable [Facts]

def fn {F : FTy → Type} [FloatOps F] (main_arg0 : FVec F S4096x1024 .f32) (main_arg1 : FVec F S1024x3072 .f32) (main_arg2 : FVec F S4096x32 .f32) (main_arg3 : FVec F S4096x32 .f32) : IVec S4096x1024 1 × IVec S1024x3072 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S1024x3072 .f32 := subf main_arg1 main_arg1
  let main_cst_0 : FVec F S_ .f32 := constant S_ .f32 0x00000000#32
  let main_v4 : FVec F S1024x3072 .f32 := broadcastInDim S1024x3072 ![] bcast_S_S1024x3072 main_cst_0
  let main_v5 : IVec S1024x3072 1 := cmpf .oeq main_v3 main_v4
  (main_v2, main_v5)
-- ==== Pre_finite_queries_input.lean ====
abbrev S4096x1024 : Shape := ⟨2, ![4096, 1024]⟩
abbrev S1024x3072 : Shape := ⟨2, ![1024, 3072]⟩
abbrev S4096x32 : Shape := ⟨2, ![4096, 32]⟩
abbrev S4096x16x128 : Shape := ⟨3, ![4096, 16, 128]⟩
abbrev S4096x16x64 : Shape := ⟨3, ![4096, 16, 64]⟩
abbrev S_ : Shape := ⟨0, ![]⟩

class Facts : Prop where
  bcast_S_S1024x3072 : S_.BroadcastsInDim S1024x3072 (![] : Fin 0 → Fin S1024x3072.rank)
  bcast_S_S4096x32 : S_.BroadcastsInDim S4096x32 (![] : Fin 0 → Fin S4096x32.rank)
  bcast_S_S4096x16x64 : S_.BroadcastsInDim S4096x16x64 (![] : Fin 0 → Fin S4096x16x64.rank)

variable [Facts]

def fn {F : FTy → Type} [FloatOps F] (main_arg0 : FVec F S4096x1024 .f32) (main_arg1 : FVec F S1024x3072 .f32) (main_arg2 : FVec F S4096x32 .f32) (main_arg3 : FVec F S4096x32 .f32) (main_arg4 : FVec F S4096x16x128 .f32) (main_arg5 : FVec F S4096x16x64 .f32) : IVec S1024x3072 1 × IVec S4096x32 1 × IVec S4096x32 1 × IVec S4096x16x64 1 :=
  let main_v0 : FVec F S1024x3072 .f32 := subf main_arg1 main_arg1
  let main_cst : FVec F S_ .f32 := constant S_ .f32 0x00000000#32
  let main_v1 : FVec F S1024x3072 .f32 := broadcastInDim S1024x3072 ![] bcast_S_S1024x3072 main_cst
  let main_v2 : IVec S1024x3072 1 := cmpf .oeq main_v0 main_v1
  let main_v3 : FVec F S4096x32 .f32 := subf main_arg2 main_arg2
  let main_cst_0 : FVec F S_ .f32 := constant S_ .f32 0x00000000#32
  let main_v4 : FVec F S4096x32 .f32 := broadcastInDim S4096x32 ![] bcast_S_S4096x32 main_cst_0
  let main_v5 : IVec S4096x32 1 := cmpf .oeq main_v3 main_v4
  let main_v6 : FVec F S4096x32 .f32 := subf main_arg3 main_arg3
  let main_cst_1 : FVec F S_ .f32 := constant S_ .f32 0x00000000#32
  let main_v7 : FVec F S4096x32 .f32 := broadcastInDim S4096x32 ![] bcast_S_S4096x32 main_cst_1
  let main_v8 : IVec S4096x32 1 := cmpf .oeq main_v6 main_v7
  let main_v9 : FVec F S4096x16x64 .f32 := subf main_arg5 main_arg5
  let main_cst_2 : FVec F S_ .f32 := constant S_ .f32 0x00000000#32
  let main_v10 : FVec F S4096x16x64 .f32 := broadcastInDim S4096x16x64 ![] bcast_S_S4096x16x64 main_cst_2
  let main_v11 : IVec S4096x16x64 1 := cmpf .oeq main_v9 main_v10
  (main_v2, main_v5, main_v8, main_v11)
-- ==== Pre_finite_queries_weight.lean ====
abbrev S4096x1024 : Shape := ⟨2, ![4096, 1024]⟩
abbrev S1024x3072 : Shape := ⟨2, ![1024, 3072]⟩
abbrev S4096x32 : Shape := ⟨2, ![4096, 32]⟩
abbrev S4096x16x128 : Shape := ⟨3, ![4096, 16, 128]⟩
abbrev S4096x16x64 : Shape := ⟨3, ![4096, 16, 64]⟩
abbrev S_ : Shape := ⟨0, ![]⟩

class Facts : Prop where
  bcast_S_S4096x1024 : S_.BroadcastsInDim S4096x1024 (![] : Fin 0 → Fin S4096x1024.rank)
  bcast_S_S4096x32 : S_.BroadcastsInDim S4096x32 (![] : Fin 0 → Fin S4096x32.rank)
  bcast_S_S4096x16x64 : S_.BroadcastsInDim S4096x16x64 (![] : Fin 0 → Fin S4096x16x64.rank)

variable [Facts]

def fn {F : FTy → Type} [FloatOps F] (main_arg0 : FVec F S4096x1024 .f32) (main_arg1 : FVec F S1024x3072 .f32) (main_arg2 : FVec F S4096x32 .f32) (main_arg3 : FVec F S4096x32 .f32) (main_arg4 : FVec F S4096x16x128 .f32) (main_arg5 : FVec F S4096x16x64 .f32) : IVec S4096x1024 1 × IVec S4096x32 1 × IVec S4096x32 1 × IVec S4096x16x64 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S4096x32 .f32 := subf main_arg2 main_arg2
  let main_cst_0 : FVec F S_ .f32 := constant S_ .f32 0x00000000#32
  let main_v4 : FVec F S4096x32 .f32 := broadcastInDim S4096x32 ![] bcast_S_S4096x32 main_cst_0
  let main_v5 : IVec S4096x32 1 := cmpf .oeq main_v3 main_v4
  let main_v6 : FVec F S4096x32 .f32 := subf main_arg3 main_arg3
  let main_cst_1 : FVec F S_ .f32 := constant S_ .f32 0x00000000#32
  let main_v7 : FVec F S4096x32 .f32 := broadcastInDim S4096x32 ![] bcast_S_S4096x32 main_cst_1
  let main_v8 : IVec S4096x32 1 := cmpf .oeq main_v6 main_v7
  let main_v9 : FVec F S4096x16x64 .f32 := subf main_arg5 main_arg5
  let main_cst_2 : FVec F S_ .f32 := constant S_ .f32 0x00000000#32
  let main_v10 : FVec F S4096x16x64 .f32 := broadcastInDim S4096x16x64 ![] bcast_S_S4096x16x64 main_cst_2
  let main_v11 : IVec S4096x16x64 1 := cmpf .oeq main_v9 main_v10
  (main_v2, main_v5, main_v8, main_v11)
-- ==== Kernel.lean ====
abbrev S4096x3072 : Shape := ⟨2, ![4096, 3072]⟩
abbrev S4096x4096 : Shape := ⟨2, ![4096, 4096]⟩
abbrev S4096x64 : Shape := ⟨2, ![4096, 64]⟩
abbrev S4096x32 : Shape := ⟨2, ![4096, 32]⟩
abbrev S4096x2048 : Shape := ⟨2, ![4096, 2048]⟩
abbrev S_ : Shape := ⟨0, ![]⟩
abbrev S4096x128 : Shape := ⟨2, ![4096, 128]⟩
abbrev S4096x16x192 : Shape := ⟨3, ![4096, 16, 192]⟩
abbrev S4096x16x64 : Shape := ⟨3, ![4096, 16, 64]⟩
abbrev S4096x16x128 : Shape := ⟨3, ![4096, 16, 128]⟩
abbrev S4096x16x32 : Shape := ⟨3, ![4096, 16, 32]⟩
abbrev S4096x16x384 : Shape := ⟨3, ![4096, 16, 384]⟩
abbrev S4096x6144 : Shape := ⟨2, ![4096, 6144]⟩
abbrev S4096x256 : Shape := ⟨2, ![4096, 256]⟩
abbrev S4096x16x256 : Shape := ⟨3, ![4096, 16, 256]⟩
abbrev S4096x1x128 : Shape := ⟨3, ![4096, 1, 128]⟩
abbrev S16x4096x256 : Shape := ⟨3, ![16, 4096, 256]⟩
abbrev S4096x1x32 : Shape := ⟨3, ![4096, 1, 32]⟩
abbrev S16x4096x4096 : Shape := ⟨3, ![16, 4096, 4096]⟩
abbrev S4096x4096x16 : Shape := ⟨3, ![4096, 4096, 16]⟩
abbrev S16x4096 : Shape := ⟨2, ![16, 4096]⟩
abbrev S16x4096x1 : Shape := ⟨3, ![16, 4096, 1]⟩
abbrev S16x128x4096 : Shape := ⟨3, ![16, 128, 4096]⟩
abbrev S16x1x4096 : Shape := ⟨3, ![16, 1, 4096]⟩
abbrev S2048x384 : Shape := ⟨2, ![2048, 384]⟩
abbrev S2048x128 : Shape := ⟨2, ![2048, 128]⟩
abbrev S1x4096x256 : Shape := ⟨3, ![1, 4096, 256]⟩
abbrev S1x1x2048 : Shape := ⟨3, ![1, 1, 2048]⟩
abbrev S2048x256 : Shape := ⟨2, ![2048, 256]⟩
abbrev S1x2048 : Shape := ⟨2, ![1, 2048]⟩
abbrev S8x128 : Shape := ⟨2, ![8, 128]⟩
abbrev S8x2048 : Shape := ⟨2, ![8, 2048]⟩
abbrev S1x512x256 : Shape := ⟨3, ![1, 512, 256]⟩
abbrev S512x256 : Shape := ⟨2, ![512, 256]⟩
abbrev S512x2048 : Shape := ⟨2, ![512, 2048]⟩
abbrev S1x512x128 : Shape := ⟨3, ![1, 512, 128]⟩
abbrev S512x128 : Shape := ⟨2, ![512, 128]⟩

abbrev nBuf : Space → Nat
  | .hbm => 137
  | .vmem => 25
  | .smem => 0
  | _ => 0

abbrev hbmTy0_0 (i : Nat) : BufTy := match i % 128 with
  | 0 => ⟨S4096x3072, .f32⟩
  | 1 => ⟨S4096x4096, .f32⟩
  | 2 => ⟨S4096x64, .f32⟩
  | 3 => ⟨S4096x32, .f32⟩
  | 4 => ⟨S4096x32, .f32⟩
  | 5 => ⟨S4096x2048, .f32⟩
  | 6 => ⟨S_, .f32⟩
  | 7 => ⟨S4096x64, .f32⟩
  | 8 => ⟨S4096x128, .f32⟩
  | 9 => ⟨S4096x128, .f32⟩
  | 10 => ⟨S4096x16x192, .f32⟩
  | 11 => ⟨S_, .f32⟩
  | 12 => ⟨S4096x16x64, .f32⟩
  | 13 => ⟨S4096x16x128, .f32⟩
  | 14 => ⟨S4096x16x64, .f32⟩
  | 15 => ⟨S4096x16x64, .f32⟩
  | 16 => ⟨S4096x16x32, .f32⟩
  | 17 => ⟨S4096x16x32, .f32⟩
  | 18 => ⟨S4096x16x32, .f32⟩
  | 19 => ⟨S4096x16x64, .f32⟩
  | 20 => ⟨S4096x16x384, .f32⟩
  | 21 => ⟨S4096x6144, .f32⟩
  | 22 => ⟨S4096x32, .f32⟩
  | 23 => ⟨S4096x32, .f32⟩
  | 24 => ⟨S4096x32, .f32⟩
  | 25 => ⟨S4096x64, .f32⟩
  | 26 => ⟨S4096x256, .f32⟩
  | 27 => ⟨S4096x128, .f32⟩
  | 28 => ⟨S4096x128, .f32⟩
  | 29 => ⟨S4096x128, .f32⟩
  | 30 => ⟨S4096x128, .f32⟩
  | 31 => ⟨S4096x128, .f32⟩
  | 32 => ⟨S4096x16x256, .f32⟩
  | 33 => ⟨S4096x16x128, .f32⟩
  | 34 => ⟨S4096x1x128, .f32⟩
  | 35 => ⟨S4096x16x128, .f32⟩
  | 36 => ⟨S4096x16x256, .f32⟩
  | 37 => ⟨S16x4096x256, .f32⟩
  | 38 => ⟨S16x4096x256, .bf16⟩
  | 39 => ⟨S4096x16x128, .f32⟩
  | 40 => ⟨S_, .f32⟩
  | 41 => ⟨S4096x16x128, .f32⟩
  | 42 => ⟨S4096x16x256, .f32⟩
  | 43 => ⟨S16x4096x256, .f32⟩
  | 44 => ⟨S16x4096x256, .bf16⟩
  | 45 => ⟨S4096x16x192, .f32⟩
  | 46 => ⟨S4096x16x256, .f32⟩
  | 47 => ⟨S4096x16x128, .f32⟩
  | 48 => ⟨S4096x16x128, .f32⟩
  | 49 => ⟨S4096x16x64, .f32⟩
  | 50 => ⟨S4096x1x32, .f32⟩
  | 51 => ⟨S4096x1x32, .f32⟩
  | 52 => ⟨S4096x16x32, .f32⟩
  | 53 => ⟨S4096x16x32, .f32⟩
  | 54 => ⟨S4096x16x32, .f32⟩
  | 55 => ⟨S4096x16x32, .f32⟩
  | 56 => ⟨S4096x16x32, .f32⟩
  | 57 => ⟨S4096x16x32, .f32⟩
  | 58 => ⟨S4096x16x32, .f32⟩
  | 59 => ⟨S4096x16x32, .f32⟩
  | 60 => ⟨S4096x16x32, .f32⟩
  | 61 => ⟨S4096x16x32, .f32⟩
  | 62 => ⟨S4096x16x32, .f32⟩
  | 63 => ⟨S4096x16x32, .f32⟩
  | 64 => ⟨S4096x16x64, .f32⟩
  | 65 => ⟨S4096x32, .f32⟩
  | 66 => ⟨S4096x32, .f32⟩
  | 67 => ⟨S4096x32, .f32⟩
  | 68 => ⟨S4096x32, .f32⟩
  | 69 => ⟨S4096x32, .f32⟩
  | 70 => ⟨S4096x32, .f32⟩
  | 71 => ⟨S4096x32, .f32⟩
  | 72 => ⟨S4096x32, .f32⟩
  | 73 => ⟨S4096x64, .f32⟩
  | 74 => ⟨S16x4096x4096, .f32⟩
  | 75 => ⟨S4096x4096x16, .f32⟩
  | 76 => ⟨S16x4096x4096, .f32⟩
  | 77 => ⟨S16x4096x4096, .f32⟩
  | 78 => ⟨S_, .f32⟩
  | 79 => ⟨S_, .f32⟩
  | 80 => ⟨S_, .f32⟩
  | 81 => ⟨S_, .f32⟩
  | 82 => ⟨S16x4096x4096, .f32⟩
  | 83 => ⟨S16x4096x4096, .f32⟩
  | 84 => ⟨S_, .f32⟩
  | 85 => ⟨S16x4096, .f32⟩
  | 86 => ⟨S16x4096x1, .f32⟩
  | 87 => ⟨S16x4096x4096, .f32⟩
  | 88 => ⟨S16x4096x4096, .f32⟩
  | 89 => ⟨S16x4096x4096, .f32⟩
  | 90 => ⟨S_, .f32⟩
  | 91 => ⟨S16x4096, .f32⟩
  | 92 => ⟨S16x4096, .f32⟩
  | 93 => ⟨S16x4096, .f32⟩
  | 94 => ⟨S_, .f32⟩
  | 95 => ⟨S_, .f32⟩
  | 96 => ⟨S_, .f32⟩
  | 97 => ⟨S_, .f32⟩
  | 98 => ⟨S16x4096, .f32⟩
  | 99 => ⟨S16x4096, .f32⟩
  | 100 => ⟨S16x4096x1, .f32⟩
  | 101 => ⟨S16x4096x4096, .f32⟩
  | 102 => ⟨S16x4096x4096, .f32⟩
  | 103 => ⟨S16x4096x4096, .f32⟩
  | 104 => ⟨S16x4096x1, .f32⟩
  | 105 => ⟨S16x4096x4096, .f32⟩
  | 106 => ⟨S16x4096x4096, .f32⟩
  | 107 => ⟨S4096x16x256, .f32⟩
  | 108 => ⟨S4096x16x128, .f32⟩
  | 109 => ⟨S16x128x4096, .f32⟩
  | 110 => ⟨S4096x16x128, .f32⟩
  | 111 => ⟨S4096x2048, .f32⟩
  | 112 => ⟨S4096x2048, .bf16⟩
  | 113 => ⟨S16x1x4096, .f32⟩
  | 114 => ⟨S4096x6144, .bf16⟩
  | 115 => ⟨S4096x4096, .bf16⟩
  | 116 => ⟨S4096x256, .f32⟩
  | 117 => ⟨S4096x6144, .f32⟩
  | 118 => ⟨S4096x16x384, .f32⟩
  | 119 => ⟨S4096x16x128, .f32⟩
  | 120 => ⟨S4096x16x64, .f32⟩
  | 121 => ⟨S4096x16x64, .f32⟩
  | 122 => ⟨S4096x16x32, .f32⟩
  | 123 => ⟨S4096x16x32, .f32⟩
  | 124 => ⟨S4096x16x32, .f32⟩
  | 125 => ⟨S4096x16x64, .f32⟩
  | 126 => ⟨S4096x16x64, .f32⟩
  | 127 => ⟨S4096x16x192, .f32⟩
  | _ => ⟨S4096x3072, .f32⟩

abbrev hbmTy0_1 (i : Nat) : BufTy := match i % 128 with
  | 0 => ⟨S4096x64, .f32⟩
  | 1 => ⟨S4096x64, .f32⟩
  | 2 => ⟨S4096x32, .f32⟩
  | 3 => ⟨S4096x32, .f32⟩
  | 4 => ⟨S4096x32, .f32⟩
  | 5 => ⟨S4096x64, .f32⟩
  | 6 => ⟨S4096x64, .f32⟩
  | 7 => ⟨S4096x3072, .f32⟩
  | 8 => ⟨S4096x4096, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S2048x384, .f32⟩
  | .local _ .vmem, ⟨1, _⟩ => ⟨S2048x384, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S1x1x2048, .f32⟩
  | .local _ .vmem, ⟨15, _⟩ => ⟨S1x1x2048, .f32⟩
  | .local _ .vmem, ⟨16, _⟩ => ⟨S4096x128, .f32⟩
  | .local _ .vmem, ⟨17, _⟩ => ⟨S4096x128, .f32⟩
  | .local _ .vmem, ⟨18, _⟩ => ⟨S2048x384, .bf16⟩
  | .local _ .vmem, ⟨19, _⟩ => ⟨S2048x384, .bf16⟩
  | .local _ .vmem, ⟨20, _⟩ => ⟨S4096x256, .bf16⟩
  | .local _ .vmem, ⟨21, _⟩ => ⟨S4096x256, .bf16⟩
  | .local _ .vmem, ⟨22, _⟩ => ⟨S4096x256, .f32⟩
  | .local _ .vmem, ⟨23, _⟩ => ⟨S4096x256, .f32⟩
  | .local _ .vmem, ⟨24, _⟩ => ⟨S4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_2 : Ref sig .tc := ⟨.hbm, 78, rfl⟩
abbrev main_v69 : Ref sig .tc := ⟨.hbm, 79, rfl⟩
abbrev main_cst_3 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_cst_7 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99_0 : Ref sig .tc := ⟨.hbm, 114, rfl⟩
abbrev main_v99_1 : Ref sig .tc := ⟨.hbm, 115, rfl⟩
abbrev main_v99_2 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v264 : BitVec 1 := Scalar.cmpi .eq arg1 c1_i32
  let v265 : BitVec 32 := Scalar.extui v264
  let c0_i32_164 : BitVec 32 := 0#32
  let v266 : BitVec 1 := Scalar.cmpi .ne v265 c0_i32_164
  v266

def k0_cond3 (i : grid0.Coords) : BitVec 1 :=
  let arg0 : BitVec 32 := BitVec.ofNat 32 (i 0).val
  let c0_i32_176 : BitVec 32 := 0#32
  let v283 : BitVec 1 := Scalar.cmpi .eq arg0 c0_i32_176
  let v284 : BitVec 32 := Scalar.extui v283
  let c0_i32_177 : BitVec 32 := 0#32
  let v285 : BitVec 1 := Scalar.cmpi .ne v284 c0_i32_177
  v285

def k0_cond4 (i : grid0.Coords) : BitVec 1 :=
  let arg0 : BitVec 32 := BitVec.ofNat 32 (i 0).val
  let c0_i32_178 : BitVec 32 := 0#32
  let v286 : BitVec 1 := Scalar.cmpi .ne arg0 c0_i32_178
  let v287 : BitVec 32 := Scalar.extui v286
  let c0_i32_179 : BitVec 32 := 0#32
  let v288 : BitVec 1 := Scalar.cmpi .ne v287 c0_i32_179
  v288

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S4096x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "ln2" => some ((Real.log 2 : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x3072 : Shape := ⟨2, ![4096, 3072]⟩
abbrev S4096x4096 : Shape := ⟨2, ![4096, 4096]⟩
abbrev S4096x64 : Shape := ⟨2, ![4096, 64]⟩
abbrev S4096x32 : Shape := ⟨2, ![4096, 32]⟩
abbrev S4096x2048 : Shape := ⟨2, ![4096, 2048]⟩
abbrev S4096x16x192 : Shape := ⟨3, ![4096, 16, 192]⟩
abbrev S4096x16x256 : Shape := ⟨3, ![4096, 16, 256]⟩
abbrev S4096x16x128 : Shape := ⟨3, ![4096, 16, 128]⟩
abbrev S4096x16x64 : Shape := ⟨3, ![4096, 16, 64]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩

abbrev nBuf : Space → Nat
  | .hbm => 161
  | .vmem => 0
  | .smem => 0
  | _ => 0

abbrev hbmTy0_0 (i : Nat) : BufTy := match i % 128 with
  | 0 => ⟨S4096x3072, .f32⟩
  | 1 => ⟨S4096x4096, .f32⟩
  | 2 => ⟨S4096x64, .f32⟩
  | 3 => ⟨S4096x32, .f32⟩
  | 4 => ⟨S4096x32, .f32⟩
  | 5 => ⟨S4096x2048, .f32⟩
  | 6 => ⟨S4096x16x192, .f32⟩
  | 7 => ⟨S4096x16x256, .f32⟩
  | 8 => ⟨S4096x16x128, .f32⟩
  | 9 => ⟨S4096x16x128, .f32⟩
  | 10 => ⟨S4096x16x64, .f32⟩
  | 11 => ⟨S4096x1x32, .f32⟩
  | 12 => ⟨S4096x1x32, .f32⟩
  | 13 => ⟨S4096x16x32, .f32⟩
  | 14 => ⟨S4096x16x32, .f32⟩
  | 15 => ⟨S4096x16x32, .f32⟩
  | 16 => ⟨S4096x16x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x32, .f32⟩
  | 24 => ⟨S4096x16x32, .f32⟩
  | 25 => ⟨S4096x16x64, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S4096x32, .f32⟩
  | 34 => ⟨S4096x64, .f32⟩
  | 35 => ⟨S16x4096x4096, .f32⟩
  | 36 => ⟨S4096x4096x16, .f32⟩
  | 37 => ⟨S16x4096x4096, .f32⟩
  | 38 => ⟨S16x4096x4096, .f32⟩
  | 39 => ⟨S_, .f32⟩
  | 40 => ⟨S_, .f32⟩
  | 41 => ⟨S_, .f32⟩
  | 42 => ⟨S_, .f32⟩
  | 43 => ⟨S16x4096x4096, .f32⟩
  | 44 => ⟨S16x4096x4096, .f32⟩
  | 45 => ⟨S_, .f32⟩
  | 46 => ⟨S16x4096, .f32⟩
  | 47 => ⟨S16x4096x1, .f32⟩
  | 48 => ⟨S16x4096x4096, .f32⟩
  | 49 => ⟨S16x4096x4096, .i1⟩
  | 50 => ⟨S16x4096x4096, .f32⟩
  | 51 => ⟨S_, .f32⟩
  | 52 => ⟨S16x4096, .f32⟩
  | 53 => ⟨S_, .f32⟩
  | 54 => ⟨S16x4096, .f32⟩
  | 55 => ⟨S16x4096, .f32⟩
  | 56 => ⟨S_, .f32⟩
  | 57 => ⟨S16x4096, .f32⟩
  | 58 => ⟨S16x4096, .i1⟩
  | 59 => ⟨S_, .f32⟩
  | 60 => ⟨S16x4096, .f32⟩
  | 61 => ⟨S16x4096, .i1⟩
  | 62 => ⟨S_, .f32⟩
  | 63 => ⟨S16x4096, .f32⟩
  | 64 => ⟨S_, .f32⟩
  | 65 => ⟨S16x4096, .f32⟩
  | 66 => ⟨S_, .f32⟩
  | 67 => ⟨S16x4096, .f32⟩
  | 68 => ⟨S16x4096, .f32⟩
  | 69 => ⟨S16x4096, .f32⟩
  | 70 => ⟨S16x4096x1, .f32⟩
  | 71 => ⟨S16x4096x4096, .f32⟩
  | 72 => ⟨S16x4096x4096, .f32⟩
  | 73 => ⟨S16x4096x4096, .f32⟩
  | 74 => ⟨S_, .f32⟩
  | 75 => ⟨S16x4096, .f32⟩
  | 76 => ⟨S16x4096x1, .f32⟩
  | 77 => ⟨S16x4096x4096, .f32⟩
  | 78 => ⟨S16x4096x4096, .f32⟩
  | 79 => ⟨S16x4096x1, .f32⟩
  | 80 => ⟨S_, .f32⟩
  | 81 => ⟨S16x4096x1, .f32⟩
  | 82 => ⟨S16x4096x1, .f32⟩
  | 83 => ⟨S4096x16x256, .f32⟩
  | 84 => ⟨S4096x16x128, .f32⟩
  | 85 => ⟨S16x128x4096, .f32⟩
  | 86 => ⟨S4096x16x128, .f32⟩
  | 87 => ⟨S4096x2048, .f32⟩
  | 88 => ⟨S4096x16x128, .f32⟩
  | 89 => ⟨S16x128x4096, .f32⟩
  | 90 => ⟨S16x4096x4096, .f32⟩
  | 91 => ⟨S16x128x4096, .f32⟩
  | 92 => ⟨S4096x16x128, .f32⟩
  | 93 => ⟨S_, .f32⟩
  | 94 => ⟨S4096x16x256, .f32⟩
  | 95 => ⟨S4096x4096, .f32⟩
  | 96 => ⟨S16x4096x4096, .f32⟩
  | 97 => ⟨S16x4096x4096, .f32⟩
  | 98 => ⟨S16x4096x4096, .f32⟩
  | 99 => ⟨S_, .f32⟩
  | 100 => ⟨S16x4096, .f32⟩
  | 101 => ⟨S16x4096x1, .f32⟩
  | 102 => ⟨S16x4096x1, .f32⟩
  | 103 => ⟨S16x4096x4096, .f32⟩
  | 104 => ⟨S16x4096x4096, .f32⟩
  | 105 => ⟨S_, .f32⟩
  | 106 => ⟨S16x4096, .f32⟩
  | 107 => ⟨S16x4096x4096, .f32⟩
  | 108 => ⟨S16x4096x4096, .f32⟩
  | 109 => ⟨S16x4096x4096, .f32⟩
  | 110 => ⟨S16x4096x4096, .f32⟩
  | 111 => ⟨S16x4096x4096, .f32⟩
  | 112 => ⟨S4096x4096x16, .f32⟩
  | 113 => ⟨S4096x16x64, .f32⟩
  | 114 => ⟨S4096x64, .f32⟩
  | 115 => ⟨S16x4096x128, .f32⟩
  | 116 => ⟨S4096x16x128, .f32⟩
  | 117 => ⟨S16x4096x128, .f32⟩
  | 118 => ⟨S4096x16x128, .f32⟩
  | 119 => ⟨S4096x32, .f32⟩
  | 120 => ⟨S4096x32, .f32⟩
  | 121 => ⟨S4096x32, .f32⟩
  | 122 => ⟨S4096x32, .f32⟩
  | 123 => ⟨S4096x32, .f32⟩
  | 124 => ⟨S4096x32, .f32⟩
  | 125 => ⟨S4096x32, .f32⟩
  | 126 => ⟨S4096x32, .f32⟩
  | 127 => ⟨S4096x32, .f32⟩
  | _ => ⟨S4096x3072, .f32⟩

abbrev hbmTy0_1 (i : Nat) : BufTy := match i % 128 with
  | 0 => ⟨S_, .f32⟩
  | 1 => ⟨S4096x64, .f32⟩
  | 2 => ⟨S_, .f32⟩
  | 3 => ⟨S4096x64, .f32⟩
  | 4 => ⟨S4096x64, .f32⟩
  | 5 => ⟨S4096x16x32, .f32⟩
  | 6 => ⟨S4096x16x32, .f32⟩
  | 7 => ⟨S4096x16x32, .f32⟩
  | 8 => ⟨S4096x16x32, .f32⟩
  | 9 => ⟨S4096x16x32, .f32⟩
  | 10 => ⟨S4096x16x32, .f32⟩
  | 11 => ⟨S4096x16x32, .f32⟩
  | 12 => ⟨S4096x16x32, .f32⟩
  | 13 => ⟨S4096x16x32, .f32⟩
  | 14 => ⟨S4096x16x32, .f32⟩
  | 15 => ⟨S4096x16x32, .f32⟩
  | 16 => ⟨S4096x16x32, .f32⟩
  | 17 => ⟨S4096x16x32, .f32⟩
  | 18 => ⟨S_, .f32⟩
  | 19 => ⟨S4096x16x64, .f32⟩
  | 20 => ⟨S_, .f32⟩
  | 21 => ⟨S4096x16x64, .f32⟩
  | 22 => ⟨S4096x16x64, .f32⟩
  | 23 => ⟨S_, .f32⟩
  | 24 => ⟨S4096x16x192, .f32⟩
  | 25 => ⟨S_, .f32⟩
  | 26 => ⟨S4096x16x192, .f32⟩
  | 27 => ⟨S4096x16x192, .f32⟩
  | 28 => ⟨S_, .f32⟩
  | 29 => ⟨S4096x16x256, .f32⟩
  | 30 => ⟨S4096x4096, .f32⟩
  | 31 => ⟨S4096x4096, .f32⟩
  | 32 => ⟨S4096x3072, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_14 : Ref sig .tc := ⟨.hbm, 128, rfl⟩
abbrev main_v107 : Ref sig .tc := ⟨.hbm, 129, rfl⟩
abbrev main_cst_15 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_16 : Ref sig .tc := ⟨.hbm, 146, rfl⟩
abbrev main_v123 : Ref sig .tc := ⟨.hbm, 147, rfl⟩
abbrev main_cst_17 : Ref sig .tc := ⟨.hbm, 148, rfl⟩
abbrev main_v124 : Ref sig .tc := ⟨.hbm, 149, rfl⟩
abbrev main_v125 : Ref sig .tc := ⟨.hbm, 150, rfl⟩
abbrev main_cst_18 : Ref sig .tc := ⟨.hbm, 151, rfl⟩
abbrev main_v126 : Ref sig .tc := ⟨.hbm, 152, rfl⟩
abbrev main_cst_19 : Ref sig .tc := ⟨.hbm, 153, rfl⟩
abbrev main_v127 : Ref sig .tc := ⟨.hbm, 154, rfl⟩
abbrev main_v128 : Ref sig .tc := ⟨.hbm, 155, rfl⟩
abbrev main_cst_20 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩

abbrev nD : Nat := 1
abbrev τ : Topo := Topo.v7x

variable {F : FTy → Type} [FloatOps F]
-- ==== Gate.lean ====
abbrev S4096x11008 : Shape := ⟨2, ![4096, 11008]⟩
abbrev S11008x4096 : Shape := ⟨2, ![11008, 4096]⟩
abbrev S4096x4096 : Shape := ⟨2, ![4096, 4096]⟩
abbrev S8x1376x4096 : Shape := ⟨3, ![8, 1376, 4096]⟩
abbrev S_ : Shape := ⟨0, ![]⟩
abbrev S8x1408x4096 : Shape := ⟨3, ![8, 1408, 4096]⟩
abbrev S11264x4096 : Shape := ⟨2, ![11264, 4096]⟩
abbrev S4096x8x1376 : Shape := ⟨3, ![4096, 8, 1376]⟩
abbrev S4096x8x1408 : Shape := ⟨3, ![4096, 8, 1408]⟩
abbrev S4096x11264 : Shape := ⟨2, ![4096, 11264]⟩
abbrev S1024x2048 : Shape := ⟨2, ![1024, 2048]⟩
abbrev S1408x2048 : Shape := ⟨2, ![1408, 2048]⟩
abbrev S1024x1408 : Shape := ⟨2, ![1024, 1408]⟩
abbrev S256x2048 : Shape := ⟨2, ![256, 2048]⟩
abbrev S256x1408 : Shape := ⟨2, ![256, 1408]⟩

abbrev nBuf : Space → Nat
  | .hbm => 33
  | .vmem => 13
  | .smem => 0
  | _ => 0

abbrev bufTy : (tb : Table) → Fin (tcTables nBuf tb) → BufTy
  | .hbm, ⟨0, _⟩ => ⟨S4096x11008, .f32⟩
  | .hbm, ⟨1, _⟩ => ⟨S4096x11008, .f32⟩
  | .hbm, ⟨2, _⟩ => ⟨S11008x4096, .f32⟩
  | .hbm, ⟨3, _⟩ => ⟨S4096x4096, .f32⟩
  | .hbm, ⟨4, _⟩ => ⟨S4096x4096, .bf16⟩
  | .hbm, ⟨5, _⟩ => ⟨S8x1376x4096, .f32⟩
  | .hbm, ⟨6, _⟩ => ⟨S_, .i32⟩
  | .hbm, ⟨7, _⟩ => ⟨S_, .f32⟩
  | .hbm, ⟨8, _⟩ => ⟨S8x1408x4096, .f32⟩
  | .hbm, ⟨9, _⟩ => ⟨S11264x4096, .f32⟩
  | .hbm, ⟨10, _⟩ => ⟨S11264x4096, .bf16⟩
  | .hbm, ⟨11, _⟩ => ⟨S4096x8x1376, .f32⟩
  | .hbm, ⟨12, _⟩ => ⟨S_, .i32⟩
  | .hbm, ⟨13, _⟩ => ⟨S_, .f32⟩
  | .hbm, ⟨14, _⟩ => ⟨S4096x8x1408, .f32⟩
  | .hbm, ⟨15, _⟩ => ⟨S4096x11264, .f32⟩
  | .hbm, ⟨16, _⟩ => ⟨S4096x11264, .bf16⟩
  | .hbm, ⟨17, _⟩ => ⟨S4096x8x1376, .f32⟩
  | .hbm, ⟨18, _⟩ => ⟨S_, .i32⟩
  | .hbm, ⟨19, _⟩ => ⟨S_, .f32⟩
  | .hbm, ⟨20, _⟩ => ⟨S4096x8x1408, .f32⟩
  | .hbm, ⟨21, _⟩ => ⟨S4096x11264, .f32⟩
  | .hbm, ⟨22, _⟩ => ⟨S4096x11264, .bf16⟩
  | .hbm, ⟨23, _⟩ => ⟨S4096x11264, .bf16⟩
  | .hbm, ⟨24, _⟩ => ⟨S4096x11264, .bf16⟩
  | .hbm, ⟨25, _⟩ => ⟨S4096x11264, .f32⟩
  | .hbm, ⟨26, _⟩ => ⟨S4096x8x1408, .f32⟩
  | .hbm, ⟨27, _⟩ => ⟨S4096x8x1376, .f32⟩
  | .hbm, ⟨28, _⟩ => ⟨S4096x11008, .f32⟩
  | .hbm, ⟨29, _⟩ => ⟨S4096x11264, .f32⟩
  | .hbm, ⟨30, _⟩ => ⟨S4096x8x1408, .f32⟩
  | .hbm, ⟨31, _⟩ => ⟨S4096x8x1376, .f32⟩
  | .hbm, ⟨32, _⟩ => ⟨S4096x11008, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S4096x11008 : Shape := ⟨2, ![4096, 11008]⟩
abbrev S11008x4096 : Shape := ⟨2, ![11008, 4096]⟩
abbrev S4096x4096 : Shape := ⟨2, ![4096, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S4096x11008, .f32⟩
  | .hbm, ⟨2, _⟩ => ⟨S11008x4096, .f32⟩
  | .hbm, ⟨3, _⟩ => ⟨S4096x4096, .f32⟩
  | .hbm, ⟨4, _⟩ => ⟨S4096x11008, .f32⟩
  | .hbm, ⟨5, _⟩ => ⟨S4096x11008, .f32⟩
  | .hbm, ⟨6, _⟩ => ⟨S_, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S_, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x11008, .f32⟩
  | .hbm, ⟨18, _⟩ => ⟨S4096x4096, .f32⟩
  | .hbm, ⟨19, _⟩ => ⟨S4096x11008, .f32⟩
  | .hbm, ⟨20, _⟩ => ⟨S4096x11008, .f32⟩
  | .hbm, ⟨21, _⟩ => ⟨S4096x11008, .f32⟩
  | .hbm, ⟨22, _⟩ => ⟨S4096x11008, .f32⟩
  | .hbm, ⟨23, _⟩ => ⟨S4096x11008, .f32⟩
  | .hbm, ⟨24, _⟩ => ⟨S4096x11008, .f32⟩
  | .hbm, ⟨25, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Down.lean ====
abbrev S4096x11008 : Shape := ⟨2, ![4096, 11008]⟩
abbrev S11008x4096 : Shape := ⟨2, ![11008, 4096]⟩
abbrev S4096x4096 : Shape := ⟨2, ![4096, 4096]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S11264x4096 : Shape := ⟨2, ![11264, 4096]⟩
abbrev S1024x2816 : Shape := ⟨2, ![1024, 2816]⟩
abbrev S1024x1024 : Shape := ⟨2, ![1024, 1024]⟩
abbrev S2816x1024 : Shape := ⟨2, ![2816, 1024]⟩
abbrev S8x1408x4096 : Shape := ⟨3, ![8, 1408, 4096]⟩
abbrev S8x1376x4096 : Shape := ⟨3, ![8, 1376, 4096]⟩

abbrev nBuf : Space → Nat
  | .hbm => 15
  | .vmem => 7
  | .smem => 0
  | _ => 0

abbrev bufTy : (tb : Table) → Fin (tcTables nBuf tb) → BufTy
  | .hbm, ⟨0, _⟩ => ⟨S4096x11008, .f32⟩
  | .hbm, ⟨1, _⟩ => ⟨S11008x4096, .f32⟩
  | .hbm, ⟨2, _⟩ => ⟨S4096x4096, .f32⟩
  | .hbm, ⟨3, _⟩ => ⟨S4096x8x1376, .f32⟩
  | .hbm, ⟨4, _⟩ => ⟨S_, .i32⟩
  | .hbm, ⟨5, _⟩ => ⟨S_, .f32⟩
  | .hbm, ⟨6, _⟩ => ⟨S4096x8x1408, .f32⟩
  | .hbm, ⟨7, _⟩ => ⟨S4096x11264, .f32⟩
  | .hbm, ⟨8, _⟩ => ⟨S4096x11264, .bf16⟩
  | .hbm, ⟨9, _⟩ => ⟨S4096x4096, .bf16⟩
  | .hbm, ⟨10, _⟩ => ⟨S11264x4096, .bf16⟩
  | .hbm, ⟨11, _⟩ => ⟨S8x1408x4096, .bf16⟩
  | .hbm, ⟨12, _⟩ => ⟨S8x1408x4096, .f32⟩
  | .hbm, ⟨13, _⟩ => ⟨S8x1376x4096, .f32⟩
  | .hbm, ⟨14, _⟩ => ⟨S11008x4096, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S11008x4096, .f32⟩
  | .hbm, ⟨2, _⟩ => ⟨S4096x4096, .f32⟩
  | .hbm, ⟨3, _⟩ => ⟨S4096x4096, .f32⟩
  | .hbm, ⟨4, _⟩ => ⟨S4096x11008, .f32⟩
  | .hbm, ⟨5, _⟩ => ⟨S11008x4096, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== WGate.lean ====
abbrev S4096x4096 : Shape := ⟨2, ![4096, 4096]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S11264x4096 : Shape := ⟨2, ![11264, 4096]⟩
abbrev S1024x2816 : Shape := ⟨2, ![1024, 2816]⟩
abbrev S1024x1024 : Shape := ⟨2, ![1024, 1024]⟩
abbrev S2816x1024 : Shape := ⟨2, ![2816, 1024]⟩
abbrev S8x1408x4096 : Shape := ⟨3, ![8, 1408, 4096]⟩
abbrev S8x1376x4096 : Shape := ⟨3, ![8, 1376, 4096]⟩
abbrev S11008x4096 : Shape := ⟨2, ![11008, 4096]⟩

abbrev nBuf : Space → Nat
  | .hbm => 16
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x8x1376, .f32⟩
  | .hbm, ⟨4, _⟩ => ⟨S_, .i32⟩
  | .hbm, ⟨5, _⟩ => ⟨S_, .f32⟩
  | .hbm, ⟨6, _⟩ => ⟨S4096x8x1408, .f32⟩
  | .hbm, ⟨7, _⟩ => ⟨S4096x11264, .f32⟩
  | .hbm, ⟨8, _⟩ => ⟨S4096x11264, .bf16⟩
  | .hbm, ⟨9, _⟩ => ⟨S4096x4096, .bf16⟩
  | .hbm, ⟨10, _⟩ => ⟨S11264x4096, .bf16⟩
  | .hbm, ⟨11, _⟩ => ⟨S8x1408x4096, .bf16⟩
  | .hbm, ⟨12, _⟩ => ⟨S8x1408x4096, .f32⟩
  | .hbm, ⟨13, _⟩ => ⟨S8x1376x4096, .f32⟩
  | .hbm, ⟨14, _⟩ => ⟨S11008x4096, .f32⟩
  | .hbm, ⟨15, _⟩ => ⟨S4096x11008, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGateRefIdeal.lean ====
abbrev S4096x4096 : Shape := ⟨2, ![4096, 4096]⟩
abbrev S4096x11008 : Shape := ⟨2, ![4096, 11008]⟩
abbrev S11008x4096 : Shape := ⟨2, ![11008, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== WUp.lean ====
abbrev S4096x4096 : Shape := ⟨2, ![4096, 4096]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S11264x4096 : Shape := ⟨2, ![11264, 4096]⟩
abbrev S1024x2816 : Shape := ⟨2, ![1024, 2816]⟩
abbrev S1024x1024 : Shape := ⟨2, ![1024, 1024]⟩
abbrev S2816x1024 : Shape := ⟨2, ![2816, 1024]⟩
abbrev S8x1408x4096 : Shape := ⟨3, ![8, 1408, 4096]⟩
abbrev S8x1376x4096 : Shape := ⟨3, ![8, 1376, 4096]⟩
abbrev S11008x4096 : Shape := ⟨2, ![11008, 4096]⟩

abbrev nBuf : Space → Nat
  | .hbm => 16
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x8x1376, .f32⟩
  | .hbm, ⟨4, _⟩ => ⟨S_, .i32⟩
  | .hbm, ⟨5, _⟩ => ⟨S_, .f32⟩
  | .hbm, ⟨6, _⟩ => ⟨S4096x8x1408, .f32⟩
  | .hbm, ⟨7, _⟩ => ⟨S4096x11264, .f32⟩
  | .hbm, ⟨8, _⟩ => ⟨S4096x11264, .bf16⟩
  | .hbm, ⟨9, _⟩ => ⟨S4096x4096, .bf16⟩
  | .hbm, ⟨10, _⟩ => ⟨S11264x4096, .bf16⟩
  | .hbm, ⟨11, _⟩ => ⟨S8x1408x4096, .bf16⟩
  | .hbm, ⟨12, _⟩ => ⟨S8x1408x4096, .f32⟩
  | .hbm, ⟨13, _⟩ => ⟨S8x1376x4096, .f32⟩
  | .hbm, ⟨14, _⟩ => ⟨S11008x4096, .f32⟩
  | .hbm, ⟨15, _⟩ => ⟨S4096x11008, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpRefIdeal.lean ====
abbrev S4096x4096 : Shape := ⟨2, ![4096, 4096]⟩
abbrev S4096x11008 : Shape := ⟨2, ![4096, 11008]⟩
abbrev S11008x4096 : Shape := ⟨2, ![11008, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== HnGate.lean ====
abbrev S4096x4096 : Shape := ⟨2, ![4096, 4096]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S11008x4096 : Shape := ⟨2, ![11008, 4096]⟩
abbrev S8x1376x4096 : Shape := ⟨3, ![8, 1376, 4096]⟩
abbrev S8x1408x4096 : Shape := ⟨3, ![8, 1408, 4096]⟩
abbrev S11264x4096 : Shape := ⟨2, ![11264, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x8x1376, .f32⟩
  | .hbm, ⟨4, _⟩ => ⟨S_, .i32⟩
  | .hbm, ⟨5, _⟩ => ⟨S_, .f32⟩
  | .hbm, ⟨6, _⟩ => ⟨S4096x8x1408, .f32⟩
  | .hbm, ⟨7, _⟩ => ⟨S4096x11264, .f32⟩
  | .hbm, ⟨8, _⟩ => ⟨S4096x11264, .bf16⟩
  | .hbm, ⟨9, _⟩ => ⟨S11008x4096, .f32⟩
  | .hbm, ⟨10, _⟩ => ⟨S8x1376x4096, .f32⟩
  | .hbm, ⟨11, _⟩ => ⟨S_, .i32⟩
  | .hbm, ⟨12, _⟩ => ⟨S_, .f32⟩
  | .hbm, ⟨13, _⟩ => ⟨S8x1408x4096, .f32⟩
  | .hbm, ⟨14, _⟩ => ⟨S11264x4096, .f32⟩
  | .hbm, ⟨15, _⟩ => ⟨S11264x4096, .bf16⟩
  | .hbm, ⟨16, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HnGateRefIdeal.lean ====
abbrev S4096x4096 : Shape := ⟨2, ![4096, 4096]⟩
abbrev S4096x11008 : Shape := ⟨2, ![4096, 11008]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x11008, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== HnUp.lean ====
abbrev S4096x4096 : Shape := ⟨2, ![4096, 4096]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S11008x4096 : Shape := ⟨2, ![11008, 4096]⟩
abbrev S8x1376x4096 : Shape := ⟨3, ![8, 1376, 4096]⟩
abbrev S8x1408x4096 : Shape := ⟨3, ![8, 1408, 4096]⟩
abbrev S11264x4096 : Shape := ⟨2, ![11264, 4096]⟩
abbrev S1024x2816 : Shape := ⟨2, ![1024, 2816]⟩
abbrev S2816x1024 : Shape := ⟨2, ![2816, 1024]⟩
abbrev S1024x1024 : Shape := ⟨2, ![1024, 1024]⟩
abbrev S256x2816 : Shape := ⟨2, ![256, 2816]⟩
abbrev S256x1024 : Shape := ⟨2, ![256, 1024]⟩

abbrev nBuf : Space → Nat
  | .hbm => 18
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x4096, .f32⟩
  | .hbm, ⟨4, _⟩ => ⟨S4096x8x1376, .f32⟩
  | .hbm, ⟨5, _⟩ => ⟨S_, .i32⟩
  | .hbm, ⟨6, _⟩ => ⟨S_, .f32⟩
  | .hbm, ⟨7, _⟩ => ⟨S4096x8x1408, .f32⟩
  | .hbm, ⟨8, _⟩ => ⟨S4096x11264, .f32⟩
  | .hbm, ⟨9, _⟩ => ⟨S4096x11264, .bf16⟩
  | .hbm, ⟨10, _⟩ => ⟨S11008x4096, .f32⟩
  | .hbm, ⟨11, _⟩ => ⟨S8x1376x4096, .f32⟩
  | .hbm, ⟨12, _⟩ => ⟨S_, .i32⟩
  | .hbm, ⟨13, _⟩ => ⟨S_, .f32⟩
  | .hbm, ⟨14, _⟩ => ⟨S8x1408x4096, .f32⟩
  | .hbm, ⟨15, _⟩ => ⟨S11264x4096, .f32⟩
  | .hbm, ⟨16, _⟩ => ⟨S11264x4096, .bf16⟩
  | .hbm, ⟨17, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HnUpRefIdeal.lean ====
abbrev S4096x4096 : Shape := ⟨2, ![4096, 4096]⟩
abbrev S4096x11008 : Shape := ⟨2, ![4096, 11008]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x4096, .f32⟩
  | .hbm, ⟨4, _⟩ => ⟨S4096x11008, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== FGate.lean ====
abbrev S4096x4096 : Shape := ⟨2, ![4096, 4096]⟩
abbrev S4096x11008 : Shape := ⟨2, ![4096, 11008]⟩
abbrev S11008x4096 : Shape := ⟨2, ![11008, 4096]⟩
abbrev S8x1376x4096 : Shape := ⟨3, ![8, 1376, 4096]⟩
abbrev S_ : Shape := ⟨0, ![]⟩
abbrev S8x1408x4096 : Shape := ⟨3, ![8, 1408, 4096]⟩
abbrev S11264x4096 : Shape := ⟨2, ![11264, 4096]⟩
abbrev S4096x11264 : Shape := ⟨2, ![4096, 11264]⟩
abbrev S1024x1024 : Shape := ⟨2, ![1024, 1024]⟩
abbrev S2816x1024 : Shape := ⟨2, ![2816, 1024]⟩
abbrev S1024x2816 : Shape := ⟨2, ![1024, 2816]⟩
abbrev S4096x8x1408 : Shape := ⟨3, ![4096, 8, 1408]⟩
abbrev S4096x8x1376 : Shape := ⟨3, ![4096, 8, 1376]⟩

abbrev nBuf : Space → Nat
  | .hbm => 15
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x4096, .bf16⟩
  | .hbm, ⟨3, _⟩ => ⟨S11008x4096, .f32⟩
  | .hbm, ⟨4, _⟩ => ⟨S8x1376x4096, .f32⟩
  | .hbm, ⟨5, _⟩ => ⟨S_, .i32⟩
  | .hbm, ⟨6, _⟩ => ⟨S_, .f32⟩
  | .hbm, ⟨7, _⟩ => ⟨S8x1408x4096, .f32⟩
  | .hbm, ⟨8, _⟩ => ⟨S11264x4096, .f32⟩
  | .hbm, ⟨9, _⟩ => ⟨S11264x4096, .bf16⟩
  | .hbm, ⟨10, _⟩ => ⟨S4096x11264, .bf16⟩
  | .hbm, ⟨11, _⟩ => ⟨S4096x11264, .f32⟩
  | .hbm, ⟨12, _⟩ => ⟨S4096x8x1408, .f32⟩
  | .hbm, ⟨13, _⟩ => ⟨S4096x8x1376, .f32⟩
  | .hbm, ⟨14, _⟩ => ⟨S4096x11008, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FGateRefIdeal.lean ====
abbrev S4096x4096 : Shape := ⟨2, ![4096, 4096]⟩
abbrev S4096x11008 : Shape := ⟨2, ![4096, 11008]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FUp.lean ====
abbrev S4096x4096 : Shape := ⟨2, ![4096, 4096]⟩
abbrev S4096x11008 : Shape := ⟨2, ![4096, 11008]⟩
abbrev S11008x4096 : Shape := ⟨2, ![11008, 4096]⟩
abbrev S8x1376x4096 : Shape := ⟨3, ![8, 1376, 4096]⟩
abbrev S_ : Shape := ⟨0, ![]⟩
abbrev S8x1408x4096 : Shape := ⟨3, ![8, 1408, 4096]⟩
abbrev S11264x4096 : Shape := ⟨2, ![11264, 4096]⟩
abbrev S4096x8x1376 : Shape := ⟨3, ![4096, 8, 1376]⟩
abbrev S4096x8x1408 : Shape := ⟨3, ![4096, 8, 1408]⟩
abbrev S4096x11264 : Shape := ⟨2, ![4096, 11264]⟩
abbrev S1024x2048 : Shape := ⟨2, ![1024, 2048]⟩
abbrev S1408x2048 : Shape := ⟨2, ![1408, 2048]⟩
abbrev S1024x1408 : Shape := ⟨2, ![1024, 1408]⟩
abbrev S256x2048 : Shape := ⟨2, ![256, 2048]⟩
abbrev S256x1408 : Shape := ⟨2, ![256, 1408]⟩

abbrev nBuf : Space → Nat
  | .hbm => 27
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x4096, .bf16⟩
  | .hbm, ⟨4, _⟩ => ⟨S11008x4096, .f32⟩
  | .hbm, ⟨5, _⟩ => ⟨S8x1376x4096, .f32⟩
  | .hbm, ⟨6, _⟩ => ⟨S_, .i32⟩
  | .hbm, ⟨7, _⟩ => ⟨S_, .f32⟩
  | .hbm, ⟨8, _⟩ => ⟨S8x1408x4096, .f32⟩
  | .hbm, ⟨9, _⟩ => ⟨S11264x4096, .f32⟩
  | .hbm, ⟨10, _⟩ => ⟨S11264x4096, .bf16⟩
  | .hbm, ⟨11, _⟩ => ⟨S4096x8x1376, .f32⟩
  | .hbm, ⟨12, _⟩ => ⟨S_, .i32⟩
  | .hbm, ⟨13, _⟩ => ⟨S_, .f32⟩
  | .hbm, ⟨14, _⟩ => ⟨S4096x8x1408, .f32⟩
  | .hbm, ⟨15, _⟩ => ⟨S4096x11264, .f32⟩
  | .hbm, ⟨16, _⟩ => ⟨S4096x11264, .bf16⟩
  | .hbm, ⟨17, _⟩ => ⟨S4096x11264, .bf16⟩
  | .hbm, ⟨18, _⟩ => ⟨S4096x11264, .bf16⟩
  | .hbm, ⟨19, _⟩ => ⟨S4096x11264, .f32⟩
  | .hbm, ⟨20, _⟩ => ⟨S4096x8x1408, .f32⟩
  | .hbm, ⟨21, _⟩ => ⟨S4096x8x1376, .f32⟩
  | .hbm, ⟨22, _⟩ => ⟨S4096x11008, .f32⟩
  | .hbm, ⟨23, _⟩ => ⟨S4096x11264, .f32⟩
  | .hbm, ⟨24, _⟩ => ⟨S4096x8x1408, .f32⟩
  | .hbm, ⟨25, _⟩ => ⟨S4096x8x1376, .f32⟩
  | .hbm, ⟨26, _⟩ => ⟨S4096x11008, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FUpRefIdeal.lean ====
abbrev S4096x4096 : Shape := ⟨2, ![4096, 4096]⟩
abbrev S4096x11008 : Shape := ⟨2, ![4096, 11008]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S_, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S4096x11008, .f32⟩
  | .hbm, ⟨13, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== FDown.lean ====
abbrev S4096x11008 : Shape := ⟨2, ![4096, 11008]⟩
abbrev S11008x4096 : Shape := ⟨2, ![11008, 4096]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S8x1376x4096 : Shape := ⟨3, ![8, 1376, 4096]⟩
abbrev S8x1408x4096 : Shape := ⟨3, ![8, 1408, 4096]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S4096x11008, .f32⟩
  | .hbm, ⟨1, _⟩ => ⟨S11008x4096, .f32⟩
  | .hbm, ⟨2, _⟩ => ⟨S4096x8x1376, .f32⟩
  | .hbm, ⟨3, _⟩ => ⟨S_, .i32⟩
  | .hbm, ⟨4, _⟩ => ⟨S_, .f32⟩
  | .hbm, ⟨5, _⟩ => ⟨S4096x8x1408, .f32⟩
  | .hbm, ⟨6, _⟩ => ⟨S4096x11264, .f32⟩
  | .hbm, ⟨7, _⟩ => ⟨S4096x11264, .bf16⟩
  | .hbm, ⟨8, _⟩ => ⟨S8x1376x4096, .f32⟩
  | .hbm, ⟨9, _⟩ => ⟨S_, .i32⟩
  | .hbm, ⟨10, _⟩ => ⟨S_, .f32⟩
  | .hbm, ⟨11, _⟩ => ⟨S8x1408x4096, .f32⟩
  | .hbm, ⟨12, _⟩ => ⟨S11264x4096, .f32⟩
  | .hbm, ⟨13, _⟩ => ⟨S11264x4096, .bf16⟩
  | .hbm, ⟨14, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FDownRefIdeal.lean ====
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S11008x4096, .f32⟩
  | .hbm, ⟨2, _⟩ => ⟨S4096x4096, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S4096x2048 : Shape := ⟨2, ![4096, 2048]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x2048, .bf16⟩
  | .hbm, ⟨4, _⟩ => ⟨S4096x2048, .bf16⟩
  | .hbm, ⟨5, _⟩ => ⟨S4096x4096, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S4096x2048 : Shape := ⟨2, ![4096, 2048]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DMixed.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwoA.lean ====
abbrev S4096x2048 : Shape := ⟨2, ![4096, 2048]⟩
abbrev S2048x4096 : Shape := ⟨2, ![2048, 4096]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x2048, .bf16⟩
  | .hbm, ⟨4, _⟩ => ⟨S4096x4096, .bf16⟩
  | .hbm, ⟨5, _⟩ => ⟨S2048x4096, .bf16⟩
  | .hbm, ⟨6, _⟩ => ⟨S2048x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoARefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .f32⟩
  | .hbm, ⟨4, _⟩ => ⟨S4096x2048, .f32⟩
  | .hbm, ⟨5, _⟩ => ⟨S2048x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwoG.lean ====
abbrev S4096x2048 : Shape := ⟨2, ![4096, 2048]⟩
abbrev S2048x4096 : Shape := ⟨2, ![2048, 4096]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x2048, .bf16⟩
  | .hbm, ⟨4, _⟩ => ⟨S4096x4096, .bf16⟩
  | .hbm, ⟨5, _⟩ => ⟨S2048x4096, .bf16⟩
  | .hbm, ⟨6, _⟩ => ⟨S2048x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoGRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .f32⟩
  | .hbm, ⟨4, _⟩ => ⟨S4096x2048, .f32⟩
  | .hbm, ⟨5, _⟩ => ⟨S2048x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Uv.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .f32⟩
  | .hbm, ⟨4, _⟩ => ⟨S4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UvRefIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UvW.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UvWRefIdeal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UvX.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .f32⟩
  | .hbm, ⟨5, _⟩ => ⟨S4096x4096, .bf16⟩
  | .hbm, ⟨6, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UvXRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kv.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x512, .bf16⟩
  | .hbm, ⟨3, _⟩ => ⟨S512x4096, .bf16⟩
  | .hbm, ⟨4, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KvX.lean ====
abbrev S4096x512 : Shape := ⟨2, ![4096, 512]⟩
abbrev S512x4096 : Shape := ⟨2, ![512, 4096]⟩
abbrev S4096x4096 : Shape := ⟨2, ![4096, 4096]⟩
abbrev S1024x4096 : Shape := ⟨2, ![1024, 4096]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .bf16⟩
  | .hbm, ⟨4, _⟩ => ⟨S512x4096, .bf16⟩
  | .hbm, ⟨5, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvXRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KvW.lean ====
abbrev S4096x512 : Shape := ⟨2, ![4096, 512]⟩
abbrev S512x4096 : Shape := ⟨2, ![512, 4096]⟩
abbrev S4096x4096 : Shape := ⟨2, ![4096, 4096]⟩
abbrev S4096x1024 : Shape := ⟨2, ![4096, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x512, .bf16⟩
  | .hbm, ⟨4, _⟩ => ⟨S4096x4096, .bf16⟩
  | .hbm, ⟨5, _⟩ => ⟨S512x4096, .bf16⟩
  | .hbm, ⟨6, _⟩ => ⟨S512x4096, .f32⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | .hbm, ⟨5, _⟩ => ⟨S512x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Col.lean ====
abbrev S4096x4096 : Shape := ⟨2, ![4096, 4096]⟩
abbrev S4096x1600 : Shape := ⟨2, ![4096, 1600]⟩
abbrev S4096x32 : Shape := ⟨2, ![4096, 32]⟩
abbrev S1600x4096 : Shape := ⟨2, ![1600, 4096]⟩
abbrev S_ : Shape := ⟨0, ![]⟩
abbrev S64x4096 : Shape := ⟨2, ![64, 4096]⟩
abbrev S1536x4096 : Shape := ⟨2, ![1536, 4096]⟩
abbrev S32x4096 : Shape := ⟨2, ![32, 4096]⟩
abbrev S1792x4096 : Shape := ⟨2, ![1792, 4096]⟩
abbrev S4096x1792 : Shape := ⟨2, ![4096, 1792]⟩
abbrev S1024x2048 : Shape := ⟨2, ![1024, 2048]⟩
abbrev S1792x2048 : Shape := ⟨2, ![1792, 2048]⟩
abbrev S1024x1792 : Shape := ⟨2, ![1024, 1792]⟩
abbrev S4096x64 : Shape := ⟨2, ![4096, 64]⟩
abbrev S4096x1536 : Shape := ⟨2, ![4096, 1536]⟩

abbrev nBuf : Space → Nat
  | .hbm => 26
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1600, .f32⟩
  | .hbm, ⟨2, _⟩ => ⟨S4096x32, .f32⟩
  | .hbm, ⟨3, _⟩ => ⟨S4096x32, .f32⟩
  | .hbm, ⟨4, _⟩ => ⟨S1600x4096, .f32⟩
  | .hbm, ⟨5, _⟩ => ⟨S_, .f32⟩
  | .hbm, ⟨6, _⟩ => ⟨S64x4096, .f32⟩
  | .hbm, ⟨7, _⟩ => ⟨S1536x4096, .f32⟩
  | .hbm, ⟨8, _⟩ => ⟨S64x4096, .f32⟩
  | .hbm, ⟨9, _⟩ => ⟨S64x4096, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S64x4096, .f32⟩
  | .hbm, ⟨14, _⟩ => ⟨S1792x4096, .f32⟩
  | .hbm, ⟨15, _⟩ => ⟨S1792x4096, .bf16⟩
  | .hbm, ⟨16, _⟩ => ⟨S4096x4096, .bf16⟩
  | .hbm, ⟨17, _⟩ => ⟨S4096x1792, .f32⟩
  | .hbm, ⟨18, _⟩ => ⟨S4096x64, .f32⟩
  | .hbm, ⟨19, _⟩ => ⟨S4096x64, .f32⟩
  | .hbm, ⟨20, _⟩ => ⟨S4096x1536, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .local _ .vmem, ⟨0, _⟩ => ⟨S1024x2048, .bf16⟩
  | .local _ .vmem, ⟨1, _⟩ => ⟨S1024x2048, .bf16⟩
  | .local _ .vmem, ⟨2, _⟩ => ⟨S1792x2048, .bf16⟩
  | .local _ .vmem, ⟨3, _⟩ => ⟨S1792x2048, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColRefIdeal.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1600, .f32⟩
  | .hbm, ⟨2, _⟩ => ⟨S4096x32, .f32⟩
  | .hbm, ⟨3, _⟩ => ⟨S4096x32, .f32⟩
  | .hbm, ⟨4, _⟩ => ⟨S4096x1600, .f32⟩
  | .hbm, ⟨5, _⟩ => ⟨S4096x1536, .f32⟩
  | .hbm, ⟨6, _⟩ => ⟨S4096x64, .f32⟩
  | .hbm, ⟨7, _⟩ => ⟨S4096x32, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== ColX.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩
abbrev S_ : Shape := ⟨0, ![]⟩
abbrev S4096x1792 : Shape := ⟨2, ![4096, 1792]⟩
abbrev S1600x4096 : Shape := ⟨2, ![1600, 4096]⟩
abbrev S64x4096 : Shape := ⟨2, ![64, 4096]⟩
abbrev S1536x4096 : Shape := ⟨2, ![1536, 4096]⟩
abbrev S32x4096 : Shape := ⟨2, ![32, 4096]⟩
abbrev S1792x4096 : Shape := ⟨2, ![1792, 4096]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1600, .f32⟩
  | .hbm, ⟨2, _⟩ => ⟨S4096x32, .f32⟩
  | .hbm, ⟨3, _⟩ => ⟨S4096x32, .f32⟩
  | .hbm, ⟨4, _⟩ => ⟨S4096x1536, .f32⟩
  | .hbm, ⟨5, _⟩ => ⟨S4096x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x1792, .f32⟩
  | .hbm, ⟨13, _⟩ => ⟨S4096x1792, .bf16⟩
  | .hbm, ⟨14, _⟩ => ⟨S1600x4096, .f32⟩
  | .hbm, ⟨15, _⟩ => ⟨S_, .f32⟩
  | .hbm, ⟨16, _⟩ => ⟨S64x4096, .f32⟩
  | .hbm, ⟨17, _⟩ => ⟨S1536x4096, .f32⟩
  | .hbm, ⟨18, _⟩ => ⟨S64x4096, .f32⟩
  | .hbm, ⟨19, _⟩ => ⟨S64x4096, .f32⟩
  | .hbm, ⟨20, _⟩ => ⟨S32x4096, .f32⟩
  | .hbm, ⟨21, _⟩ => ⟨S32x4096, .f32⟩
  | .hbm, ⟨22, _⟩ => ⟨S32x4096, .f32⟩
  | .hbm, ⟨23, _⟩ => ⟨S64x4096, .f32⟩
  | .hbm, ⟨24, _⟩ => ⟨S1792x4096, .f32⟩
  | .hbm, ⟨25, _⟩ => ⟨S1792x4096, .bf16⟩
  | .hbm, ⟨26, _⟩ => ⟨S4096x4096, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColXRefIdeal.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1600, .f32⟩
  | .hbm, ⟨2, _⟩ => ⟨S4096x32, .f32⟩
  | .hbm, ⟨3, _⟩ => ⟨S4096x32, .f32⟩
  | .hbm, ⟨4, _⟩ => ⟨S4096x1536, .f32⟩
  | .hbm, ⟨5, _⟩ => ⟨S4096x64, .f32⟩
  | .hbm, ⟨6, _⟩ => ⟨S4096x1600, .f32⟩
  | .hbm, ⟨7, _⟩ => ⟨S4096x1536, .f32⟩
  | .hbm, ⟨8, _⟩ => ⟨S4096x64, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x64, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096x1600, .f32⟩
  | .hbm, ⟨34, _⟩ => ⟨S_, .f32⟩
  | .hbm, ⟨35, _⟩ => ⟨S4096x1600, .f32⟩
  | .hbm, ⟨36, _⟩ => ⟨S4096x1600, .f32⟩
  | .hbm, ⟨37, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ColW.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩
abbrev S_ : Shape := ⟨0, ![]⟩
abbrev S4096x1792 : Shape := ⟨2, ![4096, 1792]⟩
abbrev S1792x4096 : Shape := ⟨2, ![1792, 4096]⟩
abbrev S2048x1792 : Shape := ⟨2, ![2048, 1792]⟩
abbrev S2048x1024 : Shape := ⟨2, ![2048, 1024]⟩
abbrev S1792x1024 : Shape := ⟨2, ![1792, 1024]⟩
abbrev S64x4096 : Shape := ⟨2, ![64, 4096]⟩
abbrev S32x4096 : Shape := ⟨2, ![32, 4096]⟩
abbrev S1536x4096 : Shape := ⟨2, ![1536, 4096]⟩
abbrev S1600x4096 : Shape := ⟨2, ![1600, 4096]⟩

abbrev nBuf : Space → Nat
  | .hbm => 26
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1600, .f32⟩
  | .hbm, ⟨2, _⟩ => ⟨S4096x32, .f32⟩
  | .hbm, ⟨3, _⟩ => ⟨S4096x32, .f32⟩
  | .hbm, ⟨4, _⟩ => ⟨S4096x1536, .f32⟩
  | .hbm, ⟨5, _⟩ => ⟨S4096x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x1792, .f32⟩
  | .hbm, ⟨13, _⟩ => ⟨S4096x1792, .bf16⟩
  | .hbm, ⟨14, _⟩ => ⟨S4096x4096, .bf16⟩
  | .hbm, ⟨15, _⟩ => ⟨S1792x4096, .f32⟩
  | .hbm, ⟨16, _⟩ => ⟨S64x4096, .f32⟩
  | .hbm, ⟨17, _⟩ => ⟨S64x4096, .f32⟩
  | .hbm, ⟨18, _⟩ => ⟨S32x4096, .f32⟩
  | .hbm, ⟨19, _⟩ => ⟨S32x4096, .f32⟩
  | .hbm, ⟨20, _⟩ => ⟨S32x4096, .f32⟩
  | .hbm, ⟨21, _⟩ => ⟨S64x4096, .f32⟩
  | .hbm, ⟨22, _⟩ => ⟨S64x4096, .f32⟩
  | .hbm, ⟨23, _⟩ => ⟨S1536x4096, .f32⟩
  | .hbm, ⟨24, _⟩ => ⟨S1600x4096, .f32⟩
  | .hbm, ⟨25, _⟩ => ⟨S4096x1600, .f32⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1792x1024, .f32⟩
  | .local _ .vmem, ⟨5, _⟩ => ⟨S1792x1024, .f32⟩
  | .local _ .vmem, ⟨6, _⟩ => ⟨S1792x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColWRefIdeal.lean ====
abbrev S4096x4096 : Shape := ⟨2, ![4096, 4096]⟩
abbrev S4096x1600 : Shape := ⟨2, ![4096, 1600]⟩
abbrev S4096x32 : Shape := ⟨2, ![4096, 32]⟩
abbrev S4096x1536 : Shape := ⟨2, ![4096, 1536]⟩
abbrev S4096x64 : Shape := ⟨2, ![4096, 64]⟩
abbrev S_ : Shape := ⟨0, ![]⟩
abbrev S1600x4096 : Shape := ⟨2, ![1600, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1600, .f32⟩
  | .hbm, ⟨2, _⟩ => ⟨S4096x32, .f32⟩
  | .hbm, ⟨3, _⟩ => ⟨S4096x32, .f32⟩
  | .hbm, ⟨4, _⟩ => ⟨S4096x1536, .f32⟩
  | .hbm, ⟨5, _⟩ => ⟨S4096x64, .f32⟩
  | .hbm, ⟨6, _⟩ => ⟨S4096x1600, .f32⟩
  | .hbm, ⟨7, _⟩ => ⟨S4096x1536, .f32⟩
  | .hbm, ⟨8, _⟩ => ⟨S4096x64, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x64, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096x1600, .f32⟩
  | .hbm, ⟨34, _⟩ => ⟨S_, .f32⟩
  | .hbm, ⟨35, _⟩ => ⟨S4096x1600, .f32⟩
  | .hbm, ⟨36, _⟩ => ⟨S4096x1600, .f32⟩
  | .hbm, ⟨37, _⟩ => ⟨S1600x4096, .f32⟩
  | .hbm, ⟨38, _⟩ => ⟨S4096x1600, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Qu.lean ====
abbrev S4096x1024 : Shape := ⟨2, ![4096, 1024]⟩
abbrev S1024x3072 : Shape := ⟨2, ![1024, 3072]⟩
abbrev S4096x32 : Shape := ⟨2, ![4096, 32]⟩
abbrev S1024x16x192 : Shape := ⟨3, ![1024, 16, 192]⟩
abbrev S_ : Shape := ⟨0, ![]⟩
abbrev S1024x16x64 : Shape := ⟨3, ![1024, 16, 64]⟩
abbrev S1024x16x128 : Shape := ⟨3, ![1024, 16, 128]⟩
abbrev S1024x16x32 : Shape := ⟨3, ![1024, 16, 32]⟩
abbrev S1024x16x384 : Shape := ⟨3, ![1024, 16, 384]⟩
abbrev S1024x6144 : Shape := ⟨2, ![1024, 6144]⟩
abbrev S4096x6144 : Shape := ⟨2, ![4096, 6144]⟩
abbrev S1024x1024 : Shape := ⟨2, ![1024, 1024]⟩
abbrev S4096x16x384 : Shape := ⟨3, ![4096, 16, 384]⟩
abbrev S4096x64 : Shape := ⟨2, ![4096, 64]⟩
abbrev S4096x1x64 : Shape := ⟨3, ![4096, 1, 64]⟩
abbrev S4096x16x128 : Shape := ⟨3, ![4096, 16, 128]⟩
abbrev S4096x16x64 : Shape := ⟨3, ![4096, 16, 64]⟩

abbrev nBuf : Space → Nat
  | .hbm => 32
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x1024, .bf16⟩
  | .hbm, ⟨5, _⟩ => ⟨S1024x16x192, .f32⟩
  | .hbm, ⟨6, _⟩ => ⟨S_, .f32⟩
  | .hbm, ⟨7, _⟩ => ⟨S1024x16x64, .f32⟩
  | .hbm, ⟨8, _⟩ => ⟨S1024x16x128, .f32⟩
  | .hbm, ⟨9, _⟩ => ⟨S1024x16x64, .f32⟩
  | .hbm, ⟨10, _⟩ => ⟨S1024x16x64, .f32⟩
  | .hbm, ⟨11, _⟩ => ⟨S1024x16x32, .f32⟩
  | .hbm, ⟨12, _⟩ => ⟨S1024x16x32, .f32⟩
  | .hbm, ⟨13, _⟩ => ⟨S1024x16x32, .f32⟩
  | .hbm, ⟨14, _⟩ => ⟨S1024x16x64, .f32⟩
  | .hbm, ⟨15, _⟩ => ⟨S1024x16x384, .f32⟩
  | .hbm, ⟨16, _⟩ => ⟨S1024x6144, .f32⟩
  | .hbm, ⟨17, _⟩ => ⟨S1024x6144, .bf16⟩
  | .hbm, ⟨18, _⟩ => ⟨S4096x6144, .f32⟩
  | .hbm, ⟨19, _⟩ => ⟨S4096x16x384, .f32⟩
  | .hbm, ⟨20, _⟩ => ⟨S4096x64, .f32⟩
  | .hbm, ⟨21, _⟩ => ⟨S4096x1x64, .f32⟩
  | .hbm, ⟨22, _⟩ => ⟨S4096x64, .f32⟩
  | .hbm, ⟨23, _⟩ => ⟨S4096x1x64, .f32⟩
  | .hbm, ⟨24, _⟩ => ⟨S4096x16x128, .f32⟩
  | .hbm, ⟨25, _⟩ => ⟨S4096x16x64, .f32⟩
  | .hbm, ⟨26, _⟩ => ⟨S4096x16x64, .f32⟩
  | .hbm, ⟨27, _⟩ => ⟨S4096x16x64, .f32⟩
  | .hbm, ⟨28, _⟩ => ⟨S4096x16x64, .f32⟩
  | .hbm, ⟨29, _⟩ => ⟨S4096x16x64, .f32⟩
  | .hbm, ⟨30, _⟩ => ⟨S4096x16x64, .f32⟩
  | .hbm, ⟨31, _⟩ => ⟨S4096x16x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QuRefIdeal.lean ====
abbrev S4096x1024 : Shape := ⟨2, ![4096, 1024]⟩
abbrev S1024x3072 : Shape := ⟨2, ![1024, 3072]⟩
abbrev S4096x32 : Shape := ⟨2, ![4096, 32]⟩
abbrev S4096x3072 : Shape := ⟨2, ![4096, 3072]⟩
abbrev S4096x16x192 : Shape := ⟨3, ![4096, 16, 192]⟩
abbrev S4096x16x128 : Shape := ⟨3, ![4096, 16, 128]⟩
abbrev S4096x16x64 : Shape := ⟨3, ![4096, 16, 64]⟩
abbrev S4096x1x32 : Shape := ⟨3, ![4096, 1, 32]⟩
abbrev S4096x16x32 : Shape := ⟨3, ![4096, 16, 32]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x3072, .f32⟩
  | .hbm, ⟨5, _⟩ => ⟨S4096x16x192, .f32⟩
  | .hbm, ⟨6, _⟩ => ⟨S4096x16x128, .f32⟩
  | .hbm, ⟨7, _⟩ => ⟨S4096x16x64, .f32⟩
  | .hbm, ⟨8, _⟩ => ⟨S4096x1x32, .f32⟩
  | .hbm, ⟨9, _⟩ => ⟨S4096x1x32, .f32⟩
  | .hbm, ⟨10, _⟩ => ⟨S4096x16x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== QuX.lean ====
abbrev S4096x1024 : Shape := ⟨2, ![4096, 1024]⟩
abbrev S1024x3072 : Shape := ⟨2, ![1024, 3072]⟩
abbrev S4096x32 : Shape := ⟨2, ![4096, 32]⟩
abbrev S4096x16x128 : Shape := ⟨3, ![4096, 16, 128]⟩
abbrev S4096x16x64 : Shape := ⟨3, ![4096, 16, 64]⟩
abbrev S_ : Shape := ⟨0, ![]⟩
abbrev S4096x64 : Shape := ⟨2, ![4096, 64]⟩
abbrev S4096x1x64 : Shape := ⟨3, ![4096, 1, 64]⟩
abbrev S4096x16x384 : Shape := ⟨3, ![4096, 16, 384]⟩
abbrev S4096x6144 : Shape := ⟨2, ![4096, 6144]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x16x32 : Shape := ⟨3, ![1024, 16, 32]⟩
abbrev S1024x16x384 : Shape := ⟨3, ![1024, 16, 384]⟩
abbrev S1024x6144 : Shape := ⟨2, ![1024, 6144]⟩
abbrev S1024x1024 : Shape := ⟨2, ![1024, 1024]⟩

abbrev nBuf : Space → Nat
  | .hbm => 33
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x16x128, .f32⟩
  | .hbm, ⟨5, _⟩ => ⟨S4096x16x64, .f32⟩
  | .hbm, ⟨6, _⟩ => ⟨S_, .f32⟩
  | .hbm, ⟨7, _⟩ => ⟨S4096x16x64, .f32⟩
  | .hbm, ⟨8, _⟩ => ⟨S4096x64, .f32⟩
  | .hbm, ⟨9, _⟩ => ⟨S4096x1x64, .f32⟩
  | .hbm, ⟨10, _⟩ => ⟨S4096x64, .f32⟩
  | .hbm, ⟨11, _⟩ => ⟨S4096x1x64, .f32⟩
  | .hbm, ⟨12, _⟩ => ⟨S4096x16x64, .f32⟩
  | .hbm, ⟨13, _⟩ => ⟨S4096x16x64, .f32⟩
  | .hbm, ⟨14, _⟩ => ⟨S4096x16x64, .f32⟩
  | .hbm, ⟨15, _⟩ => ⟨S4096x16x64, .f32⟩
  | .hbm, ⟨16, _⟩ => ⟨S4096x16x384, .f32⟩
  | .hbm, ⟨17, _⟩ => ⟨S4096x6144, .f32⟩
  | .hbm, ⟨18, _⟩ => ⟨S4096x6144, .bf16⟩
  | .hbm, ⟨19, _⟩ => ⟨S1024x16x192, .f32⟩
  | .hbm, ⟨20, _⟩ => ⟨S_, .f32⟩
  | .hbm, ⟨21, _⟩ => ⟨S1024x16x64, .f32⟩
  | .hbm, ⟨22, _⟩ => ⟨S1024x16x128, .f32⟩
  | .hbm, ⟨23, _⟩ => ⟨S1024x16x64, .f32⟩
  | .hbm, ⟨24, _⟩ => ⟨S1024x16x64, .f32⟩
  | .hbm, ⟨25, _⟩ => ⟨S1024x16x32, .f32⟩
  | .hbm, ⟨26, _⟩ => ⟨S1024x16x32, .f32⟩
  | .hbm, ⟨27, _⟩ => ⟨S1024x16x32, .f32⟩
  | .hbm, ⟨28, _⟩ => ⟨S1024x16x64, .f32⟩
  | .hbm, ⟨29, _⟩ => ⟨S1024x16x384, .f32⟩
  | .hbm, ⟨30, _⟩ => ⟨S1024x6144, .f32⟩
  | .hbm, ⟨31, _⟩ => ⟨S1024x6144, .bf16⟩
  | .hbm, ⟨32, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QuXRefIdeal.lean ====
abbrev S4096x1024 : Shape := ⟨2, ![4096, 1024]⟩
abbrev S1024x3072 : Shape := ⟨2, ![1024, 3072]⟩
abbrev S4096x32 : Shape := ⟨2, ![4096, 32]⟩
abbrev S4096x16x128 : Shape := ⟨3, ![4096, 16, 128]⟩
abbrev S4096x16x64 : Shape := ⟨3, ![4096, 16, 64]⟩
abbrev S4096x3072 : Shape := ⟨2, ![4096, 3072]⟩
abbrev S4096x16x192 : Shape := ⟨3, ![4096, 16, 192]⟩
abbrev S4096x1x32 : Shape := ⟨3, ![4096, 1, 32]⟩
abbrev S4096x16x32 : Shape := ⟨3, ![4096, 16, 32]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x16x128, .f32⟩
  | .hbm, ⟨5, _⟩ => ⟨S4096x16x64, .f32⟩
  | .hbm, ⟨6, _⟩ => ⟨S4096x3072, .f32⟩
  | .hbm, ⟨7, _⟩ => ⟨S4096x16x192, .f32⟩
  | .hbm, ⟨8, _⟩ => ⟨S4096x16x128, .f32⟩
  | .hbm, ⟨9, _⟩ => ⟨S4096x16x64, .f32⟩
  | .hbm, ⟨10, _⟩ => ⟨S4096x1x32, .f32⟩
  | .hbm, ⟨11, _⟩ => ⟨S4096x1x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x64, .f32⟩
  | .hbm, ⟨25, _⟩ => ⟨S4096x16x32, .f32⟩
  | .hbm, ⟨26, _⟩ => ⟨S4096x16x32, .f32⟩
  | .hbm, ⟨27, _⟩ => ⟨S4096x16x32, .f32⟩
  | .hbm, ⟨28, _⟩ => ⟨S4096x16x32, .f32⟩
  | .hbm, ⟨29, _⟩ => ⟨S4096x16x32, .f32⟩
  | .hbm, ⟨30, _⟩ => ⟨S4096x16x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S_, .f32⟩
  | .hbm, ⟨39, _⟩ => ⟨S4096x16x64, .f32⟩
  | .hbm, ⟨40, _⟩ => ⟨S_, .f32⟩
  | .hbm, ⟨41, _⟩ => ⟨S4096x16x64, .f32⟩
  | .hbm, ⟨42, _⟩ => ⟨S4096x16x64, .f32⟩
  | .hbm, ⟨43, _⟩ => ⟨S_, .f32⟩
  | .hbm, ⟨44, _⟩ => ⟨S4096x16x192, .f32⟩
  | .hbm, ⟨45, _⟩ => ⟨S_, .f32⟩
  | .hbm, ⟨46, _⟩ => ⟨S4096x16x192, .f32⟩
  | .hbm, ⟨47, _⟩ => ⟨S4096x16x192, .f32⟩
  | .hbm, ⟨48, _⟩ => ⟨S4096x3072, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== QuW.lean ====
abbrev S4096x1024 : Shape := ⟨2, ![4096, 1024]⟩
abbrev S1024x3072 : Shape := ⟨2, ![1024, 3072]⟩
abbrev S4096x32 : Shape := ⟨2, ![4096, 32]⟩
abbrev S4096x16x128 : Shape := ⟨3, ![4096, 16, 128]⟩
abbrev S4096x16x64 : Shape := ⟨3, ![4096, 16, 64]⟩
abbrev S_ : Shape := ⟨0, ![]⟩
abbrev S4096x64 : Shape := ⟨2, ![4096, 64]⟩
abbrev S4096x1x64 : Shape := ⟨3, ![4096, 1, 64]⟩
abbrev S4096x16x384 : Shape := ⟨3, ![4096, 16, 384]⟩
abbrev S4096x6144 : Shape := ⟨2, ![4096, 6144]⟩
abbrev S1024x6144 : Shape := ⟨2, ![1024, 6144]⟩
abbrev S1024x1024 : Shape := ⟨2, ![1024, 1024]⟩
abbrev S1024x16x384 : Shape := ⟨3, ![1024, 16, 384]⟩
abbrev S1024x16x128 : Shape := ⟨3, ![1024, 16, 128]⟩
abbrev S1024x16x64 : Shape := ⟨3, ![1024, 16, 64]⟩
abbrev S1024x16x32 : Shape := ⟨3, ![1024, 16, 32]⟩
abbrev S1024x16x192 : Shape := ⟨3, ![1024, 16, 192]⟩

abbrev nBuf : Space → Nat
  | .hbm => 32
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x16x128, .f32⟩
  | .hbm, ⟨5, _⟩ => ⟨S4096x16x64, .f32⟩
  | .hbm, ⟨6, _⟩ => ⟨S4096x1024, .bf16⟩
  | .hbm, ⟨7, _⟩ => ⟨S_, .f32⟩
  | .hbm, ⟨8, _⟩ => ⟨S4096x16x64, .f32⟩
  | .hbm, ⟨9, _⟩ => ⟨S4096x64, .f32⟩
  | .hbm, ⟨10, _⟩ => ⟨S4096x1x64, .f32⟩
  | .hbm, ⟨11, _⟩ => ⟨S4096x64, .f32⟩
  | .hbm, ⟨12, _⟩ => ⟨S4096x1x64, .f32⟩
  | .hbm, ⟨13, _⟩ => ⟨S4096x16x64, .f32⟩
  | .hbm, ⟨14, _⟩ => ⟨S4096x16x64, .f32⟩
  | .hbm, ⟨15, _⟩ => ⟨S4096x16x64, .f32⟩
  | .hbm, ⟨16, _⟩ => ⟨S4096x16x64, .f32⟩
  | .hbm, ⟨17, _⟩ => ⟨S4096x16x384, .f32⟩
  | .hbm, ⟨18, _⟩ => ⟨S4096x6144, .f32⟩
  | .hbm, ⟨19, _⟩ => ⟨S4096x6144, .bf16⟩
  | .hbm, ⟨20, _⟩ => ⟨S1024x6144, .f32⟩
  | .hbm, ⟨21, _⟩ => ⟨S1024x16x384, .f32⟩
  | .hbm, ⟨22, _⟩ => ⟨S1024x16x128, .f32⟩
  | .hbm, ⟨23, _⟩ => ⟨S1024x16x64, .f32⟩
  | .hbm, ⟨24, _⟩ => ⟨S1024x16x64, .f32⟩
  | .hbm, ⟨25, _⟩ => ⟨S1024x16x32, .f32⟩
  | .hbm, ⟨26, _⟩ => ⟨S1024x16x32, .f32⟩
  | .hbm, ⟨27, _⟩ => ⟨S1024x16x32, .f32⟩
  | .hbm, ⟨28, _⟩ => ⟨S1024x16x64, .f32⟩
  | .hbm, ⟨29, _⟩ => ⟨S1024x16x64, .f32⟩
  | .hbm, ⟨30, _⟩ => ⟨S1024x16x192, .f32⟩
  | .hbm, ⟨31, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QuWRefIdeal.lean ====
abbrev S4096x1024 : Shape := ⟨2, ![4096, 1024]⟩
abbrev S1024x3072 : Shape := ⟨2, ![1024, 3072]⟩
abbrev S4096x32 : Shape := ⟨2, ![4096, 32]⟩
abbrev S4096x16x128 : Shape := ⟨3, ![4096, 16, 128]⟩
abbrev S4096x16x64 : Shape := ⟨3, ![4096, 16, 64]⟩
abbrev S4096x3072 : Shape := ⟨2, ![4096, 3072]⟩
abbrev S4096x16x192 : Shape := ⟨3, ![4096, 16, 192]⟩
abbrev S4096x1x32 : Shape := ⟨3, ![4096, 1, 32]⟩
abbrev S4096x16x32 : Shape := ⟨3, ![4096, 16, 32]⟩
abbrev S_ : Shape := ⟨0, ![]⟩
abbrev S3072x1024 : Shape := ⟨2, ![3072, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x16x128, .f32⟩
  | .hbm, ⟨5, _⟩ => ⟨S4096x16x64, .f32⟩
  | .hbm, ⟨6, _⟩ => ⟨S4096x3072, .f32⟩
  | .hbm, ⟨7, _⟩ => ⟨S4096x16x192, .f32⟩
  | .hbm, ⟨8, _⟩ => ⟨S4096x16x128, .f32⟩
  | .hbm, ⟨9, _⟩ => ⟨S4096x16x64, .f32⟩
  | .hbm, ⟨10, _⟩ => ⟨S4096x1x32, .f32⟩
  | .hbm, ⟨11, _⟩ => ⟨S4096x1x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x64, .f32⟩
  | .hbm, ⟨25, _⟩ => ⟨S4096x16x32, .f32⟩
  | .hbm, ⟨26, _⟩ => ⟨S4096x16x32, .f32⟩
  | .hbm, ⟨27, _⟩ => ⟨S4096x16x32, .f32⟩
  | .hbm, ⟨28, _⟩ => ⟨S4096x16x32, .f32⟩
  | .hbm, ⟨29, _⟩ => ⟨S4096x16x32, .f32⟩
  | .hbm, ⟨30, _⟩ => ⟨S4096x16x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S_, .f32⟩
  | .hbm, ⟨39, _⟩ => ⟨S4096x16x64, .f32⟩
  | .hbm, ⟨40, _⟩ => ⟨S_, .f32⟩
  | .hbm, ⟨41, _⟩ => ⟨S4096x16x64, .f32⟩
  | .hbm, ⟨42, _⟩ => ⟨S4096x16x64, .f32⟩
  | .hbm, ⟨43, _⟩ => ⟨S_, .f32⟩
  | .hbm, ⟨44, _⟩ => ⟨S4096x16x192, .f32⟩
  | .hbm, ⟨45, _⟩ => ⟨S_, .f32⟩
  | .hbm, ⟨46, _⟩ => ⟨S4096x16x192, .f32⟩
  | .hbm, ⟨47, _⟩ => ⟨S4096x16x192, .f32⟩
  | .hbm, ⟨48, _⟩ => ⟨S4096x3072, .f32⟩
  | .hbm, ⟨49, _⟩ => ⟨S3072x1024, .f32⟩
  | .hbm, ⟨50, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Proof.Tile.lean ====
/- One grid point of the kernel, read element by element over the extended reals.

   A grid point (head, query tile) walks the 4096 keys in eight unrolled chunks of 512. Here the quantities of one
   point are written over the whole key axis: `probT` the recomputed probability of key `r` at query `x`, `dsT` the
   score gradient, `dqT` the query gradient summed over all keys. The lemmas read the chunk payloads as these. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL Cert.KernelIdeal.Gen

/-- The constant the queries are scaled by: 1/√192 · 1/log 2. -/
abbrev kSL : EReal := Named.named (F := Ideal) κ "scale_log2e" (φ := .f32) 0x3DD53B95#32
/-- The constant the query gradient is scaled by: 1/√192. -/
abbrev kS : EReal := Named.named (F := Ideal) κ "scale" (φ := .f32) 0x3D93CD3A#32
/-- The constant the key gradient is scaled by: log 2. -/
abbrev kL2 : EReal := Named.named (F := Ideal) κ "ln2" (φ := .f32) 0x3F317218#32

variable (X0 : Vec Ideal S2048x384 .f32) (X1 X2 : Vec Ideal S2048x128 .f32) (X3 X4 : Vec Ideal S1x4096x256 .bf16)
  (X5 : Vec Ideal S2048x128 .bf16) (X6 : Vec Ideal S2048x128 .f32) (X7 : Vec Ideal S1x1x2048 .f32)

/-- The scaled query row the scores are taken with: 128 plain columns, then 128 rotated ones. -/
def qT (x : Fin 2048) (f : Fin 256) : EReal :=
  (if h : f.val < 128 then X0 (ix2 x ⟨f.val, by omega⟩)
   else X0 (ix2 x ⟨128 + (f.val - 128), by omega⟩) * X1 (ix2 x ⟨f.val - 128, by omega⟩)
     + X0 (ix2 x ⟨256 + (f.val - 128), by omega⟩) * X2 (ix2 x ⟨f.val - 128, by omega⟩)) * kSL

/-- The recomputed probability of key `r` at query `x`. -/
def probT (r : Fin 4096) (x : Fin 2048) : EReal :=
  FloatOps.exp2 (F := Ideal) (φ := .f32) (∑ d : Fin 128, X3 (ix3 0 r ⟨d.val, by omega⟩) * (X0 (ix2 x ⟨d.val, by omega⟩) * kSL)
    + ∑ d : Fin 128, X3 (ix3 0 r ⟨128 + d.val, by omega⟩)
        * ((X0 (ix2 x ⟨128 + d.val, by omega⟩) * X1 (ix2 x d) + X0 (ix2 x ⟨256 + d.val, by omega⟩) * X2 (ix2 x d)) * kSL)
    - X7 (ix3 0 0 x))

/-- The score gradient of key `r` at query `x`. -/
def dsT (r : Fin 4096) (x : Fin 2048) : EReal :=
  probT X0 X1 X2 X3 X7 r x
    * (∑ d : Fin 128, X4 (ix3 0 r ⟨d.val, by omega⟩) * X5 (ix2 x d) - ∑ d : Fin 128, X5 (ix2 x d) * X6 (ix2 x d))

/-- The unscaled query gradient: summed over all keys. -/
def dqT (x : Fin 2048) (f : Fin 256) : EReal :=
  ∑ r : Fin 4096, dsT X0 X1 X2 X3 X4 X5 X6 X7 r x * X3 (ix3 0 r f)

/-- What the point adds to the value gradient. -/
def dvT (r : Fin 4096) (d : Fin 128) : EReal := ∑ x : Fin 2048, probT X0 X1 X2 X3 X7 r x * X5 (ix2 x d)

/-- What the point adds to the key gradient. -/
def dkT (r : Fin 4096) (f : Fin 256) : EReal :=
  ∑ x : Fin 2048, dsT X0 X1 X2 X3 X4 X5 X6 X7 r x * qT X0 X1 X2 x f

/-- A rectangle of whole rows from row `o` puts row `a` at row `o + a`. -/
theorem emb_rows {k n mm : ℕ} (o : ℕ) (inb : ∀ a, (![o, 0] : Fin 2 → ℕ) a + (![k, n] : Fin 2 → ℕ) a ≤ (⟨2, ![mm, n]⟩ : Shape).size a)
    (a : Fin k) (b : Fin n) (i : Fin mm) (hi : i.val = o + a.val) :
    (Rect.unit (s := (⟨2, ![mm, n]⟩ : Shape)) ![o, 0] ![k, n] inb).emb (ix2 a b) = ix2 i b := by
  funext c
  apply Fin.ext
  refine (Rect.idx_unit_val _ _ _ _ _).trans ?_
  match c with
  | ⟨0, _⟩ => exact hi.symm
  | ⟨1, _⟩ => exact Nat.zero_add _

/-- A sum over 4096 keys in eight chunks of 512. -/
theorem sum8 {M : Type*} [AddCommMonoid M] (f : Fin 4096 → M) :
    (∑ r : Fin 512, f ⟨r.val, by omega⟩) + (∑ r : Fin 512, f ⟨512 + r.val, by omega⟩) + (∑ r : Fin 512, f ⟨1024 + r.val, by omega⟩)
      + (∑ r : Fin 512, f ⟨1536 + r.val, by omega⟩) + (∑ r : Fin 512, f ⟨2048 + r.val, by omega⟩)
      + (∑ r : Fin 512, f ⟨2560 + r.val, by omega⟩) + (∑ r : Fin 512, f ⟨3072 + r.val, by omega⟩)
      + (∑ r : Fin 512, f ⟨3584 + r.val, by omega⟩) = ∑ r : Fin 4096, f r := by
  have hs : ∀ (a b : ℕ) (g : Fin (a + b) → M), (∑ i : Fin (a + b), g i)
      = (∑ i : Fin a, g ⟨i.val, by omega⟩) + ∑ i : Fin b, g ⟨a + i.val, by omega⟩ := fun a b g => Fin.sum_univ_add g
  rw [hs 3584 512 f, hs 3072 512, hs 2560 512, hs 2048 512, hs 1536 512, hs 1024 512, hs 512 512]

/-- The last payload of the query gradient, with the accumulator and the last chunk left as they are. -/
theorem pay3_apply (v4 v6 : Vec Ideal S2048x128 .f32) (v226 : Vec Ideal S2048x256 .f32) (v228 : Vec Ideal S512x256 .bf16)
    (v239 : Vec Ideal S512x2048 .bf16) (x : Fin 2048) (y : Fin 384) :
    k0_pay3 (F := Ideal) v4 v6 v226 v228 v239 (ix2 x y)
      = (if h : y.val < 128 then v226 (ix2 x ⟨y.val, by omega⟩) + ∑ r : Fin 512, v239 (ix2 r x) * v228 (ix2 r ⟨y.val, by omega⟩)
         else if h : y.val - 128 < 128 then
          (v226 (ix2 x ⟨128 + (y.val - 128), by omega⟩) + ∑ r : Fin 512, v239 (ix2 r x) * v228 (ix2 r ⟨128 + (y.val - 128), by omega⟩))
            * v4 (ix2 x ⟨y.val - 128, by omega⟩)
         else
          (v226 (ix2 x ⟨128 + (y.val - 128 - 128), by omega⟩)
              + ∑ r : Fin 512, v239 (ix2 r x) * v228 (ix2 r ⟨128 + (y.val - 128 - 128), by omega⟩))
            * v6 (ix2 x ⟨y.val - 128 - 128, by omega⟩)) * kS := by
  pointwise [k0_pay3]

theorem pay23_apply (v20 : Vec Ideal S2048x128 .bf16) (v22 v29 : Vec Ideal S1x2048 .f32) (v30 : Vec Ideal S2048x256 .f32) (v32 : Vec Ideal S512x256 .bf16) (v33 : Vec Ideal S512x2048 .f32) (v37 : Vec Ideal S1x512x128 .bf16) (x : Fin 2048) (f : Fin 256) :
    k0_pay23 (F := Ideal) v20 v22 v29 v30 v32 v33 v37 (ix2 x f) = v30 (ix2 x f) + ∑ r : Fin 512, k0_pay20 (F := Ideal) v20 v22 v29 v33 v37 (ix2 r x) * v32 (ix2 r f) := by
  pointwise [k0_pay23]

theorem pay31_apply (v58 : Vec Ideal S2048x256 .f32) (v60 : Vec Ideal S512x256 .bf16) (v64 v67 v68 : Vec Ideal S512x2048 .f32) (x : Fin 2048) (f : Fin 256) :
    k0_pay31 (F := Ideal) v58 v60 v64 v67 v68 (ix2 x f) = v58 (ix2 x f) + ∑ r : Fin 512, k0_pay28 (F := Ideal) v64 v67 v68 (ix2 r x) * v60 (ix2 r f) := by
  pointwise [k0_pay31]

theorem pay38_apply (v86 : Vec Ideal S2048x256 .f32) (v88 : Vec Ideal S512x256 .bf16) (v99 : Vec Ideal S512x2048 .bf16) (x : Fin 2048) (f : Fin 256) :
    k0_pay38 (F := Ideal) v86 v88 v99 (ix2 x f) = v86 (ix2 x f) + ∑ r : Fin 512, v99 (ix2 r x) * v88 (ix2 r f) := by
  pointwise [k0_pay38]

theorem pay56_apply (v18 : Vec Ideal S2048x256 .bf16) (v20 : Vec Ideal S2048x128 .bf16) (v22 v29 : Vec Ideal S1x2048 .f32) (v170 : Vec Ideal S2048x256 .f32) (v171 : Vec Ideal S1x512x256 .bf16) (v177 : Vec Ideal S1x512x128 .bf16) (x : Fin 2048) (f : Fin 256) :
    k0_pay56 (F := Ideal) v18 v20 v22 v29 v170 v171 v177 (ix2 x f) = v170 (ix2 x f) + ∑ r : Fin 512, k0_pay53 (F := Ideal) v18 v20 v22 v29 v171 v177 (ix2 r x) * v171 (ix3 0 r f) := by
  pointwise [k0_pay56, k0_pay51]

theorem pay62_apply (v20 : Vec Ideal S2048x128 .bf16) (v29 : Vec Ideal S1x2048 .f32) (v198 : Vec Ideal S2048x256 .f32) (v200 : Vec Ideal S512x256 .bf16) (v204 : Vec Ideal S512x2048 .f32) (v205 : Vec Ideal S1x512x128 .bf16) (x : Fin 2048) (f : Fin 256) :
    k0_pay62 (F := Ideal) v20 v29 v198 v200 v204 v205 (ix2 x f) = v198 (ix2 x f) + ∑ r : Fin 512, k0_pay59 (F := Ideal) v20 v29 v204 v205 (ix2 r x) * v200 (ix2 r f) := by
  pointwise [k0_pay62]

theorem pay50_apply (v18 : Vec Ideal S2048x256 .bf16) (v20 : Vec Ideal S2048x128 .bf16) (v22 v29 : Vec Ideal S1x2048 .f32) (v114 : Vec Ideal S2048x256 .f32) (v116 : Vec Ideal S512x256 .bf16) (v127 : Vec Ideal S512x2048 .bf16)
    (v143 : Vec Ideal S1x512x256 .bf16) (v149 : Vec Ideal S1x512x128 .bf16) (x : Fin 2048) (f : Fin 256) :
    k0_pay50 (F := Ideal) v18 v20 v22 v29 v114 v116 v127 v143 v149 (ix2 x f) = v114 (ix2 x f) + (∑ r : Fin 512, v127 (ix2 r x) * v116 (ix2 r f))
      + ∑ r : Fin 512, k0_pay47 (F := Ideal) v18 v20 v22 v29 v143 v149 (ix2 r x) * v143 (ix3 0 r f) := by
  pointwise [k0_pay50, k0_pay45]

/-- Chunk 0's score gradient. -/
theorem ds0_apply (r : Fin 512) (x : Fin 2048) :
    (k0_pay20 (k0_pay13 X5) (k0_pay14 X7) (k0_pay15 X5 X6) (k0_pay18 X1 X2 X0 (View.ld X3 (Rect.unit ![0, 0, 0] ![1, 512, 256] inb_S1x4096x256_S1x512x256_0_0_0))) (View.ld X4 (Rect.unit ![0, 0, 0] ![1, 512, 128] inb_S1x4096x256_S1x512x128_0_0_0)) : Vec Ideal S512x2048 .bf16) (ix2 r x) = dsT X0 X1 X2 X3 X4 X5 X6 X7 ⟨r.val, by omega⟩ x := by
  unfold_payloads
  pointwise
  rfl

theorem key0_apply (r : Fin 512) (f : Fin 256) : (k0_pay17 (View.ld X3 (Rect.unit ![0, 0, 0] ![1, 512, 256] inb_S1x4096x256_S1x512x256_0_0_0)) : Vec Ideal S512x256 .bf16) (ix2 r f) = X3 (ix3 0 ⟨r.val, by omega⟩ f) := by
  pointwise [k0_pay17]

/-- Chunk 1's score gradient. -/
theorem ds1_apply (r : Fin 512) (x : Fin 2048) :
    (k0_pay28 (k0_pay25 (k0_pay12 X1 X2 X0) (k0_pay14 X7) (View.ld X3 (Rect.unit ![0, 512, 0] ![1, 512, 256] inb_S1x4096x256_S1x512x256_0_512_0))) (k0_pay26 (k0_pay13 X5) (View.ld X4 (Rect.unit ![0, 512, 0] ![1, 512, 128] inb_S1x4096x256_S1x512x128_0_512_0))) (k0_pay27 (k0_pay15 X5 X6)) : Vec Ideal S512x2048 .bf16) (ix2 r x) = dsT X0 X1 X2 X3 X4 X5 X6 X7 ⟨512 + r.val, by omega⟩ x := by
  unfold_payloads
  pointwise
  rfl

theorem key1_apply (r : Fin 512) (f : Fin 256) : (k0_pay24 (View.ld X3 (Rect.unit ![0, 512, 0] ![1, 512, 256] inb_S1x4096x256_S1x512x256_0_512_0)) : Vec Ideal S512x256 .bf16) (ix2 r f) = X3 (ix3 0 ⟨512 + r.val, by omega⟩ f) := by
  pointwise [k0_pay24]

/-- Chunk 2's score gradient. -/
theorem ds2_apply (r : Fin 512) (x : Fin 2048) :
    (k0_pay34 (k0_pay12 X1 X2 X0) (k0_pay13 X5) (k0_pay14 X7) (k0_pay15 X5 X6) (View.ld X3 (Rect.unit ![0, 1024, 0] ![1, 512, 256] inb_S1x4096x256_S1x512x256_0_1024_0)) (View.ld X4 (Rect.unit ![0, 1024, 0] ![1, 512, 128] inb_S1x4096x256_S1x512x128_0_1024_0)) : Vec Ideal S512x2048 .bf16) (ix2 r x) = dsT X0 X1 X2 X3 X4 X5 X6 X7 ⟨1024 + r.val, by omega⟩ x := by
  unfold_payloads
  pointwise
  rfl

theorem key2_apply (r : Fin 512) (f : Fin 256) : (k0_pay32 (View.ld X3 (Rect.unit ![0, 1024, 0] ![1, 512, 256] inb_S1x4096x256_S1x512x256_0_1024_0)) : Vec Ideal S512x256 .bf16) (ix2 r f) = X3 (ix3 0 ⟨1024 + r.val, by omega⟩ f) := by
  pointwise [k0_pay32]

/-- Chunk 3's score gradient. -/
theorem ds3_apply (r : Fin 512) (x : Fin 2048) :
    (k0_pay41 (k0_pay12 X1 X2 X0) (k0_pay13 X5) (k0_pay14 X7) (k0_pay15 X5 X6) (View.ld X3 (Rect.unit ![0, 1536, 0] ![1, 512, 256] inb_S1x4096x256_S1x512x256_0_1536_0)) (View.ld X4 (Rect.unit ![0, 1536, 0] ![1, 512, 128] inb_S1x4096x256_S1x512x128_0_1536_0)) : Vec Ideal S512x2048 .bf16) (ix2 r x) = dsT X0 X1 X2 X3 X4 X5 X6 X7 ⟨1536 + r.val, by omega⟩ x := by
  unfold_payloads
  pointwise
  rfl

theorem key3_apply (r : Fin 512) (f : Fin 256) : (k0_pay39 (View.ld X3 (Rect.unit ![0, 1536, 0] ![1, 512, 256] inb_S1x4096x256_S1x512x256_0_1536_0)) : Vec Ideal S512x256 .bf16) (ix2 r f) = X3 (ix3 0 ⟨1536 + r.val, by omega⟩ f) := by
  pointwise [k0_pay39]

/-- Chunk 4's score gradient. -/
theorem ds4_apply (r : Fin 512) (x : Fin 2048) :
    (k0_pay47 (k0_pay12 X1 X2 X0) (k0_pay13 X5) (k0_pay14 X7) (k0_pay15 X5 X6) (View.ld X3 (Rect.unit ![0, 2048, 0] ![1, 512, 256] inb_S1x4096x256_S1x512x256_0_2048_0)) (View.ld X4 (Rect.unit ![0, 2048, 0] ![1, 512, 128] inb_S1x4096x256_S1x512x128_0_2048_0)) : Vec Ideal S512x2048 .bf16) (ix2 r x) = dsT X0 X1 X2 X3 X4 X5 X6 X7 ⟨2048 + r.val, by omega⟩ x := by
  unfold_payloads
  pointwise
  rfl

theorem ld4_apply (r : Fin 512) (f : Fin 256) : ((View.ld X3 (Rect.unit ![0, 2048, 0] ![1, 512, 256] inb_S1x4096x256_S1x512x256_0_2048_0)) : Vec Ideal S1x512x256 .bf16) (ix3 0 r f) = X3 (ix3 0 ⟨2048 + r.val, by omega⟩ f) := by
  pointwise

/-- Chunk 5's score gradient. -/
theorem ds5_apply (r : Fin 512) (x : Fin 2048) :
    (k0_pay53 (k0_pay12 X1 X2 X0) (k0_pay13 X5) (k0_pay14 X7) (k0_pay15 X5 X6) (View.ld X3 (Rect.unit ![0, 2560, 0] ![1, 512, 256] inb_S1x4096x256_S1x512x256_0_2560_0)) (View.ld X4 (Rect.unit ![0, 2560, 0] ![1, 512, 128] inb_S1x4096x256_S1x512x128_0_2560_0)) : Vec Ideal S512x2048 .bf16) (ix2 r x) = dsT X0 X1 X2 X3 X4 X5 X6 X7 ⟨2560 + r.val, by omega⟩ x := by
  unfold_payloads
  pointwise
  rfl

theorem ld5_apply (r : Fin 512) (f : Fin 256) : ((View.ld X3 (Rect.unit ![0, 2560, 0] ![1, 512, 256] inb_S1x4096x256_S1x512x256_0_2560_0)) : Vec Ideal S1x512x256 .bf16) (ix3 0 r f) = X3 (ix3 0 ⟨2560 + r.val, by omega⟩ f) := by
  pointwise

/-- Chunk 6's score gradient. -/
theorem ds6_apply (r : Fin 512) (x : Fin 2048) :
    (k0_pay59 (k0_pay13 X5) (k0_pay15 X5 X6) (k0_pay58 (k0_pay12 X1 X2 X0) (k0_pay14 X7) (View.ld X3 (Rect.unit ![0, 3072, 0] ![1, 512, 256] inb_S1x4096x256_S1x512x256_0_3072_0))) (View.ld X4 (Rect.unit ![0, 3072, 0] ![1, 512, 128] inb_S1x4096x256_S1x512x128_0_3072_0)) : Vec Ideal S512x2048 .bf16) (ix2 r x) = dsT X0 X1 X2 X3 X4 X5 X6 X7 ⟨3072 + r.val, by omega⟩ x := by
  unfold_payloads
  pointwise
  rfl

theorem key6_apply (r : Fin 512) (f : Fin 256) : (k0_pay57 (View.ld X3 (Rect.unit ![0, 3072, 0] ![1, 512, 256] inb_S1x4096x256_S1x512x256_0_3072_0)) : Vec Ideal S512x256 .bf16) (ix2 r f) = X3 (ix3 0 ⟨3072 + r.val, by omega⟩ f) := by
  pointwise [k0_pay57]

/-- Chunk 7's score gradient. -/
theorem ds7_apply (r : Fin 512) (x : Fin 2048) :
    (k0_pay65 (k0_pay12 X1 X2 X0) (k0_pay13 X5) (k0_pay14 X7) (k0_pay15 X5 X6) (View.ld X3 (Rect.unit ![0, 3584, 0] ![1, 512, 256] inb_S1x4096x256_S1x512x256_0_3584_0)) (View.ld X4 (Rect.unit ![0, 3584, 0] ![1, 512, 128] inb_S1x4096x256_S1x512x128_0_3584_0)) : Vec Ideal S512x2048 .bf16) (ix2 r x) = dsT X0 X1 X2 X3 X4 X5 X6 X7 ⟨3584 + r.val, by omega⟩ x := by
  unfold_payloads
  pointwise
  rfl

theorem key7_apply (r : Fin 512) (f : Fin 256) : (k0_pay63 (View.ld X3 (Rect.unit ![0, 3584, 0] ![1, 512, 256] inb_S1x4096x256_S1x512x256_0_3584_0)) : Vec Ideal S512x256 .bf16) (ix2 r f) = X3 (ix3 0 ⟨3584 + r.val, by omega⟩ f) := by
  pointwise [k0_pay63]

/-- The query gradient's accumulator after seven chunks, plus the last chunk: the sum over all keys. -/
theorem dqAcc_apply (x : Fin 2048) (f : Fin 256) :
    (k0_pay62 (k0_pay13 X5) (k0_pay15 X5 X6) (k0_pay56 (k0_pay12 X1 X2 X0) (k0_pay13 X5) (k0_pay14 X7) (k0_pay15 X5 X6) (k0_pay50 (k0_pay12 X1 X2 X0) (k0_pay13 X5) (k0_pay14 X7) (k0_pay15 X5 X6) (k0_pay38 (k0_pay31 (k0_pay23 (k0_pay13 X5) (k0_pay14 X7) (k0_pay15 X5 X6) (k0_pay16 (F := Ideal)) (k0_pay17 (View.ld X3 (Rect.unit ![0, 0, 0] ![1, 512, 256] inb_S1x4096x256_S1x512x256_0_0_0))) (k0_pay18 X1 X2 X0 (View.ld X3 (Rect.unit ![0, 0, 0] ![1, 512, 256] inb_S1x4096x256_S1x512x256_0_0_0))) (View.ld X4 (Rect.unit ![0, 0, 0] ![1, 512, 128] inb_S1x4096x256_S1x512x128_0_0_0)))
        (k0_pay24 (View.ld X3 (Rect.unit ![0, 512, 0] ![1, 512, 256] inb_S1x4096x256_S1x512x256_0_512_0))) (k0_pay25 (k0_pay12 X1 X2 X0) (k0_pay14 X7) (View.ld X3 (Rect.unit ![0, 512, 0] ![1, 512, 256] inb_S1x4096x256_S1x512x256_0_512_0))) (k0_pay26 (k0_pay13 X5) (View.ld X4 (Rect.unit ![0, 512, 0] ![1, 512, 128] inb_S1x4096x256_S1x512x128_0_512_0))) (k0_pay27 (k0_pay15 X5 X6))) (k0_pay32 (View.ld X3 (Rect.unit ![0, 1024, 0] ![1, 512, 256] inb_S1x4096x256_S1x512x256_0_1024_0))) (k0_pay34 (k0_pay12 X1 X2 X0) (k0_pay13 X5) (k0_pay14 X7) (k0_pay15 X5 X6) (View.ld X3 (Rect.unit ![0, 1024, 0] ![1, 512, 256] inb_S1x4096x256_S1x512x256_0_1024_0)) (View.ld X4 (Rect.unit ![0, 1024, 0] ![1, 512, 128] inb_S1x4096x256_S1x512x128_0_1024_0)))) (k0_pay39 (View.ld X3 (Rect.unit ![0, 1536, 0] ![1, 512, 256] inb_S1x4096x256_S1x512x256_0_1536_0))) (k0_pay41 (k0_pay12 X1 X2 X0) (k0_pay13 X5) (k0_pay14 X7) (k0_pay15 X5 X6) (View.ld X3 (Rect.unit ![0, 1536, 0] ![1, 512, 256] inb_S1x4096x256_S1x512x256_0_1536_0)) (View.ld X4 (Rect.unit ![0, 1536, 0] ![1, 512, 128] inb_S1x4096x256_S1x512x128_0_1536_0))) (View.ld X3 (Rect.unit ![0, 2048, 0] ![1, 512, 256] inb_S1x4096x256_S1x512x256_0_2048_0)) (View.ld X4 (Rect.unit ![0, 2048, 0] ![1, 512, 128] inb_S1x4096x256_S1x512x128_0_2048_0)))
        (View.ld X3 (Rect.unit ![0, 2560, 0] ![1, 512, 256] inb_S1x4096x256_S1x512x256_0_2560_0)) (View.ld X4 (Rect.unit ![0, 2560, 0] ![1, 512, 128] inb_S1x4096x256_S1x512x128_0_2560_0))) (k0_pay57 (View.ld X3 (Rect.unit ![0, 3072, 0] ![1, 512, 256] inb_S1x4096x256_S1x512x256_0_3072_0))) (k0_pay58 (k0_pay12 X1 X2 X0) (k0_pay14 X7) (View.ld X3 (Rect.unit ![0, 3072, 0] ![1, 512, 256] inb_S1x4096x256_S1x512x256_0_3072_0))) (View.ld X4 (Rect.unit ![0, 3072, 0] ![1, 512, 128] inb_S1x4096x256_S1x512x128_0_3072_0)) : Vec Ideal S2048x256 .f32) (ix2 x f)
      + ∑ r : Fin 512, (k0_pay65 (k0_pay12 X1 X2 X0) (k0_pay13 X5) (k0_pay14 X7) (k0_pay15 X5 X6) (View.ld X3 (Rect.unit ![0, 3584, 0] ![1, 512, 256] inb_S1x4096x256_S1x512x256_0_3584_0)) (View.ld X4 (Rect.unit ![0, 3584, 0] ![1, 512, 128] inb_S1x4096x256_S1x512x128_0_3584_0)) : Vec Ideal S512x2048 .bf16) (ix2 r x) * (k0_pay63 (View.ld X3 (Rect.unit ![0, 3584, 0] ![1, 512, 256] inb_S1x4096x256_S1x512x256_0_3584_0)) : Vec Ideal S512x256 .bf16) (ix2 r f)
      = dqT X0 X1 X2 X3 X4 X5 X6 X7 x f := by
  have h16 : k0_pay16 (F := Ideal) (ix2 x f) = 0 := by pointwise [k0_pay16]
  rw [pay62_apply, pay56_apply, pay50_apply, pay38_apply, pay31_apply, pay23_apply, h16, zero_add]
  simp only [ds0_apply, ds1_apply, ds2_apply, ds3_apply, ds4_apply, ds5_apply, ds6_apply, ds7_apply, ld4_apply, ld5_apply, key0_apply, key1_apply, key2_apply, key3_apply, key6_apply, key7_apply]
  refine Eq.trans (congrArg₂ _ (congrArg₂ _ (congrArg₂ _ (congrArg₂ _ rfl (Finset.sum_congr rfl fun r _ => congrArg _ (ld4_apply X3 r f)))
    (Finset.sum_congr rfl fun r _ => congrArg _ (ld5_apply X3 r f))) rfl) rfl) (sum8 fun r => dsT X0 X1 X2 X3 X4 X5 X6 X7 r x * X3 (ix3 0 r f))

/-- The whole query-gradient block of one point. -/
def dqBlk (x : Fin 2048) (y : Fin 384) : EReal :=
  (if h : y.val < 128 then dqT X0 X1 X2 X3 X4 X5 X6 X7 x ⟨y.val, by omega⟩
   else if h : y.val - 128 < 128 then
    dqT X0 X1 X2 X3 X4 X5 X6 X7 x ⟨128 + (y.val - 128), by omega⟩ * X1 (ix2 x ⟨y.val - 128, by omega⟩)
   else dqT X0 X1 X2 X3 X4 X5 X6 X7 x ⟨128 + (y.val - 128 - 128), by omega⟩ * X2 (ix2 x ⟨y.val - 128 - 128, by omega⟩)) * kS

theorem dqBlk_apply (x : Fin 2048) (y : Fin 384) :
    (k0_pay3 (k0_pay10 X1) (k0_pay11 X2) (k0_pay62 (k0_pay13 X5) (k0_pay15 X5 X6) (k0_pay56 (k0_pay12 X1 X2 X0) (k0_pay13 X5) (k0_pay14 X7) (k0_pay15 X5 X6) (k0_pay50 (k0_pay12 X1 X2 X0) (k0_pay13 X5) (k0_pay14 X7) (k0_pay15 X5 X6) (k0_pay38 (k0_pay31 (k0_pay23 (k0_pay13 X5) (k0_pay14 X7) (k0_pay15 X5 X6) (k0_pay16 (F := Ideal)) (k0_pay17 (View.ld X3 (Rect.unit ![0, 0, 0] ![1, 512, 256] inb_S1x4096x256_S1x512x256_0_0_0))) (k0_pay18 X1 X2 X0 (View.ld X3 (Rect.unit ![0, 0, 0] ![1, 512, 256] inb_S1x4096x256_S1x512x256_0_0_0))) (View.ld X4 (Rect.unit ![0, 0, 0] ![1, 512, 128] inb_S1x4096x256_S1x512x128_0_0_0)))
        (k0_pay24 (View.ld X3 (Rect.unit ![0, 512, 0] ![1, 512, 256] inb_S1x4096x256_S1x512x256_0_512_0))) (k0_pay25 (k0_pay12 X1 X2 X0) (k0_pay14 X7) (View.ld X3 (Rect.unit ![0, 512, 0] ![1, 512, 256] inb_S1x4096x256_S1x512x256_0_512_0))) (k0_pay26 (k0_pay13 X5) (View.ld X4 (Rect.unit ![0, 512, 0] ![1, 512, 128] inb_S1x4096x256_S1x512x128_0_512_0))) (k0_pay27 (k0_pay15 X5 X6))) (k0_pay32 (View.ld X3 (Rect.unit ![0, 1024, 0] ![1, 512, 256] inb_S1x4096x256_S1x512x256_0_1024_0))) (k0_pay34 (k0_pay12 X1 X2 X0) (k0_pay13 X5) (k0_pay14 X7) (k0_pay15 X5 X6) (View.ld X3 (Rect.unit ![0, 1024, 0] ![1, 512, 256] inb_S1x4096x256_S1x512x256_0_1024_0)) (View.ld X4 (Rect.unit ![0, 1024, 0] ![1, 512, 128] inb_S1x4096x256_S1x512x128_0_1024_0)))) (k0_pay39 (View.ld X3 (Rect.unit ![0, 1536, 0] ![1, 512, 256] inb_S1x4096x256_S1x512x256_0_1536_0))) (k0_pay41 (k0_pay12 X1 X2 X0) (k0_pay13 X5) (k0_pay14 X7) (k0_pay15 X5 X6) (View.ld X3 (Rect.unit ![0, 1536, 0] ![1, 512, 256] inb_S1x4096x256_S1x512x256_0_1536_0)) (View.ld X4 (Rect.unit ![0, 1536, 0] ![1, 512, 128] inb_S1x4096x256_S1x512x128_0_1536_0))) (View.ld X3 (Rect.unit ![0, 2048, 0] ![1, 512, 256] inb_S1x4096x256_S1x512x256_0_2048_0)) (View.ld X4 (Rect.unit ![0, 2048, 0] ![1, 512, 128] inb_S1x4096x256_S1x512x128_0_2048_0)))
        (View.ld X3 (Rect.unit ![0, 2560, 0] ![1, 512, 256] inb_S1x4096x256_S1x512x256_0_2560_0)) (View.ld X4 (Rect.unit ![0, 2560, 0] ![1, 512, 128] inb_S1x4096x256_S1x512x128_0_2560_0))) (k0_pay57 (View.ld X3 (Rect.unit ![0, 3072, 0] ![1, 512, 256] inb_S1x4096x256_S1x512x256_0_3072_0))) (k0_pay58 (k0_pay12 X1 X2 X0) (k0_pay14 X7) (View.ld X3 (Rect.unit ![0, 3072, 0] ![1, 512, 256] inb_S1x4096x256_S1x512x256_0_3072_0))) (View.ld X4 (Rect.unit ![0, 3072, 0] ![1, 512, 128] inb_S1x4096x256_S1x512x128_0_3072_0))) (k0_pay63 (View.ld X3 (Rect.unit ![0, 3584, 0] ![1, 512, 256] inb_S1x4096x256_S1x512x256_0_3584_0))) (k0_pay65 (k0_pay12 X1 X2 X0) (k0_pay13 X5) (k0_pay14 X7) (k0_pay15 X5 X6) (View.ld X3 (Rect.unit ![0, 3584, 0] ![1, 512, 256] inb_S1x4096x256_S1x512x256_0_3584_0)) (View.ld X4 (Rect.unit ![0, 3584, 0] ![1, 512, 128] inb_S1x4096x256_S1x512x128_0_3584_0))) : Vec Ideal S2048x384 .bf16) (ix2 x y)
      = dqBlk X0 X1 X2 X3 X4 X5 X6 X7 x y := by
  have h10 : ∀ i, (k0_pay10 X1 : Vec Ideal S2048x128 .f32) i = X1 i := fun i => by idx_vars i; pointwise [k0_pay10]
  have h11 : ∀ i, (k0_pay11 X2 : Vec Ideal S2048x128 .f32) i = X2 i := fun i => by idx_vars i; pointwise [k0_pay11]
  rw [pay3_apply]
  simp only [dqAcc_apply, h10, h11]
  rfl

end Cert.KernelIdeal.Val

end
-- ==== Proof.Points.lean ====
/- What every grid point leaves in its buffers, in closed form.

   The grid is (head, query tile), two tiles a head. A point of the first tile starts the key and value accumulators
   from zero, a point of the second adds to what the first left and writes them out; the shared rotary-key gradient is
   written at the first head and added to at every later one. -/
module

public import proofs.«01_k».proof.Proof.Tile

@[expose] public section

set_option maxRecDepth 16384

noncomputable section

namespace Cert.KernelIdeal.Val

open Idealize.ShloMosaic Idealize.ShloMosaic.TcCoe Idealize.SL Cert.KernelIdeal.Gen

variable (m : (ℓ : Loc nD τ sig) → Buf (Elt Ideal) ℓ)

/-- A load of a whole buffer after stores that cover it reads the buffer. -/
theorem readCov_all {sp : Space} {a b : ℕ} {e : EltTy} (v : View sig .tc sp (⟨2, ![a, b]⟩ : Shape) e)
    (L : List (View.Piece (Elt Ideal) (⟨2, ![a, b]⟩ : Shape) e)) (inb : ∀ x, (![0, 0] : Fin 2 → ℕ) x + (⟨2, ![a, b]⟩ : Shape).size x ≤ (⟨2, ![a, b]⟩ : Shape).size x) :
    v.readCov L (Rect.unit (s := (⟨2, ![a, b]⟩ : Shape)) ![0, 0] (⟨2, ![a, b]⟩ : Shape).size inb).toLoadRect = View.canon L := by
  rw [View.readCov_eq_canon']
  exact View.ld_unit_lit inb (View.canon L) fun x => match x with | ⟨0, _⟩ => rfl | ⟨1, _⟩ => rfl

/-- The query-gradient block of point `t`. -/
abbrev dqP (c : Dev nD) (t : Fin cfg0.N) : Fin 2048 → Fin 384 → EReal :=
  dqBlk (iblk m c 0 t) (iblk m c 1 t) (iblk m c 2 t) (iblk m c 3 t) (iblk m c 4 t) (iblk m c 5 t) (iblk m c 6 t) (iblk m c 7 t)
/-- What point `t` adds to the key gradient. -/
abbrev dkP (c : Dev nD) (t : Fin cfg0.N) : Fin 4096 → Fin 256 → EReal :=
  dkT (iblk m c 0 t) (iblk m c 1 t) (iblk m c 2 t) (iblk m c 3 t) (iblk m c 4 t) (iblk m c 5 t) (iblk m c 6 t) (iblk m c 7 t)
/-- What point `t` adds to the value gradient. -/
abbrev dvP (c : Dev nD) (t : Fin cfg0.N) : Fin 4096 → Fin 128 → EReal :=
  dvT (iblk m c 0 t) (iblk m c 1 t) (iblk m c 2 t) (iblk m c 3 t) (iblk m c 5 t) (iblk m c 7 t)

set_option maxHeartbeats 1000000

end Cert.KernelIdeal.Val

end
-- ==== Proof.PointsA.lean ====
/- What a grid point leaves, first tile of a head: the accumulators start from zero. -/
module

public import proofs.«01_k».proof.Proof.Points

@[expose] public section

set_option maxRecDepth 16384

noncomputable section

namespace Cert.KernelIdeal.Val

open Idealize.ShloMosaic Idealize.ShloMosaic.TcCoe Idealize.SL Cert.KernelIdeal.Gen

variable (m : (ℓ : Loc nD τ sig) → Buf (Elt Ideal) ℓ)

set_option maxHeartbeats 1000000

theorem dk_A (c : Dev nD) (t : Fin cfg0.N) (h0 : t.val % 2 = 0) (h1 : ¬t.val % 2 = 1) (y : (⟨2, ![4096, 256]⟩ : Shape).Idx) :
    (outsAt0 m c t.val t.isLt).2.2.2.1 y = dkP m c t (y 0) (y 1) := by
  let G : (⟨2, ![4096, 256]⟩ : Shape).Idx → EReal := fun y => dkP m c t (y 0) (y 1)
  rw [outsAt0_A m c t h0 h1]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [_] [_, _, _, _, _, _, _, _] ⟨?_, ?_, ?_, ?_, ?_, ?_, ?_, ?_, trivial⟩ y ?_
  · intro x; idx_vars x; unfold_payloads; refine Eq.trans ?_ (congrArg G (emb_rows 3584 _ x0 x1 ⟨3584 + x0.val, by omega⟩ rfl)).symm; pointwise; rfl
  · intro x; idx_vars x; unfold_payloads; refine Eq.trans ?_ (congrArg G (emb_rows 3072 _ x0 x1 ⟨3072 + x0.val, by omega⟩ rfl)).symm; pointwise; rfl
  · intro x; idx_vars x; unfold_payloads; refine Eq.trans ?_ (congrArg G (emb_rows 2560 _ x0 x1 ⟨2560 + x0.val, by omega⟩ rfl)).symm; pointwise; rfl
  · intro x; idx_vars x; unfold_payloads; refine Eq.trans ?_ (congrArg G (emb_rows 2048 _ x0 x1 ⟨2048 + x0.val, by omega⟩ rfl)).symm; pointwise; rfl
  · intro x; idx_vars x; unfold_payloads; refine Eq.trans ?_ (congrArg G (emb_rows 1536 _ x0 x1 ⟨1536 + x0.val, by omega⟩ rfl)).symm; pointwise; rfl
  · intro x; idx_vars x; unfold_payloads; refine Eq.trans ?_ (congrArg G (emb_rows 1024 _ x0 x1 ⟨1024 + x0.val, by omega⟩ rfl)).symm; pointwise; rfl
  · intro x; idx_vars x; unfold_payloads; refine Eq.trans ?_ (congrArg G (emb_rows 512 _ x0 x1 ⟨512 + x0.val, by omega⟩ rfl)).symm; pointwise; rfl
  · intro x; idx_vars x; unfold_payloads; refine Eq.trans ?_ (congrArg G (emb_rows 0 _ x0 x1 ⟨x0.val, by omega⟩ (Nat.zero_add _).symm)).symm; pointwise; rfl
  · exact View.cover_of_tiledL _ ![512, 256] (by sl_kernel_rfl) y

theorem dv_A (c : Dev nD) (t : Fin cfg0.N) (h0 : t.val % 2 = 0) (h1 : ¬t.val % 2 = 1) (y : (⟨2, ![4096, 128]⟩ : Shape).Idx) :
    (outsAt0 m c t.val t.isLt).2.2.2.2 y = dvP m c t (y 0) (y 1) := by
  let G : (⟨2, ![4096, 128]⟩ : Shape).Idx → EReal := fun y => dvP m c t (y 0) (y 1)
  rw [outsAt0_A m c t h0 h1]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [_] [_, _, _, _, _, _, _, _] ⟨?_, ?_, ?_, ?_, ?_, ?_, ?_, ?_, trivial⟩ y ?_
  · intro x; idx_vars x; unfold_payloads; refine Eq.trans ?_ (congrArg G (emb_rows 3584 _ x0 x1 ⟨3584 + x0.val, by omega⟩ rfl)).symm; pointwise; rfl
  · intro x; idx_vars x; unfold_payloads; refine Eq.trans ?_ (congrArg G (emb_rows 3072 _ x0 x1 ⟨3072 + x0.val, by omega⟩ rfl)).symm; pointwise; rfl
  · intro x; idx_vars x; unfold_payloads; refine Eq.trans ?_ (congrArg G (emb_rows 2560 _ x0 x1 ⟨2560 + x0.val, by omega⟩ rfl)).symm; pointwise; rfl
  · intro x; idx_vars x; unfold_payloads; refine Eq.trans ?_ (congrArg G (emb_rows 2048 _ x0 x1 ⟨2048 + x0.val, by omega⟩ rfl)).symm; pointwise; rfl
  · intro x; idx_vars x; unfold_payloads; refine Eq.trans ?_ (congrArg G (emb_rows 1536 _ x0 x1 ⟨1536 + x0.val, by omega⟩ rfl)).symm; pointwise; rfl
  · intro x; idx_vars x; unfold_payloads; refine Eq.trans ?_ (congrArg G (emb_rows 1024 _ x0 x1 ⟨1024 + x0.val, by omega⟩ rfl)).symm; pointwise; rfl
  · intro x; idx_vars x; unfold_payloads; refine Eq.trans ?_ (congrArg G (emb_rows 512 _ x0 x1 ⟨512 + x0.val, by omega⟩ rfl)).symm; pointwise; rfl
  · intro x; idx_vars x; unfold_payloads; refine Eq.trans ?_ (congrArg G (emb_rows 0 _ x0 x1 ⟨x0.val, by omega⟩ (Nat.zero_add _).symm)).symm; pointwise; rfl
  · exact View.cover_of_tiledL _ ![512, 128] (by sl_kernel_rfl) y

theorem dq_A (c : Dev nD) (t : Fin cfg0.N) (h0 : t.val % 2 = 0) (h1 : ¬t.val % 2 = 1) (x : Fin 2048) (y : Fin 384) :
    (outsAt0 m c t.val t.isLt).1 (ix2 x y) = dqP m c t x y := by
  rw [outsAt0_A m c t h0 h1]
  frame_open
  simp (disch := decide) only [↓ View.readCov_skip, ↓ View.readCov_cons_toLoadRect, ↓ View.readCov_fill]
  frame_out
  try simp only [read_unread_whole]
  exact dqBlk_apply _ _ _ _ _ _ _ _ x y

end Cert.KernelIdeal.Val

end
-- ==== Proof.PointsB.lean ====
/- What a grid point leaves, second tile of the first head: the results are written. -/
module

public import proofs.«01_k».proof.Proof.Points

@[expose] public section

set_option maxRecDepth 16384

noncomputable section

namespace Cert.KernelIdeal.Val

open Idealize.ShloMosaic Idealize.ShloMosaic.TcCoe Idealize.SL Cert.KernelIdeal.Gen

variable (m : (ℓ : Loc nD τ sig) → Buf (Elt Ideal) ℓ)

set_option maxHeartbeats 1000000

theorem dk_B (c : Dev nD) (t : Fin cfg0.N) (h0 : ¬t.val % 2 = 0) (h1 : t.val % 2 = 1) (h2 : t.val < 2) (h3 : ¬2 ≤ t.val) (y : (⟨2, ![4096, 256]⟩ : Shape).Idx) :
    (outsAt0 m c t.val t.isLt).2.2.2.1 y = (outsAt0 m c (t.val - 1) (Nat.lt_of_le_of_lt (Nat.sub_le _ _) t.isLt)).2.2.2.1 y + dkP m c t (y 0) (y 1) := by
  let G : (⟨2, ![4096, 256]⟩ : Shape).Idx → EReal := fun y => (outsAt0 m c (t.val - 1) (Nat.lt_of_le_of_lt (Nat.sub_le _ _) t.isLt)).2.2.2.1 y + dkP m c t (y 0) (y 1)
  rw [outsAt0_B m c t h0 h1 h2 h3]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [] [_, _, _, _, _, _, _, _] ⟨?_, ?_, ?_, ?_, ?_, ?_, ?_, ?_, trivial⟩ y ?_
  · intro x; idx_vars x; unfold_payloads; refine Eq.trans ?_ (congrArg G (emb_rows 3584 _ x0 x1 ⟨3584 + x0.val, by omega⟩ rfl)).symm; pointwise; rfl
  · intro x; idx_vars x; unfold_payloads; refine Eq.trans ?_ (congrArg G (emb_rows 3072 _ x0 x1 ⟨3072 + x0.val, by omega⟩ rfl)).symm; pointwise; rfl
  · intro x; idx_vars x; unfold_payloads; refine Eq.trans ?_ (congrArg G (emb_rows 2560 _ x0 x1 ⟨2560 + x0.val, by omega⟩ rfl)).symm; pointwise; rfl
  · intro x; idx_vars x; unfold_payloads; refine Eq.trans ?_ (congrArg G (emb_rows 2048 _ x0 x1 ⟨2048 + x0.val, by omega⟩ rfl)).symm; pointwise; rfl
  · intro x; idx_vars x; unfold_payloads; refine Eq.trans ?_ (congrArg G (emb_rows 1536 _ x0 x1 ⟨1536 + x0.val, by omega⟩ rfl)).symm; pointwise; rfl
  · intro x; idx_vars x; unfold_payloads; refine Eq.trans ?_ (congrArg G (emb_rows 1024 _ x0 x1 ⟨1024 + x0.val, by omega⟩ rfl)).symm; pointwise; rfl
  · intro x; idx_vars x; unfold_payloads; refine Eq.trans ?_ (congrArg G (emb_rows 512 _ x0 x1 ⟨512 + x0.val, by omega⟩ rfl)).symm; pointwise; rfl
  · intro x; idx_vars x; unfold_payloads; refine Eq.trans ?_ (congrArg G (emb_rows 0 _ x0 x1 ⟨x0.val, by omega⟩ (Nat.zero_add _).symm)).symm; pointwise; rfl
  · exact View.cover_of_tiledL _ ![512, 256] (by sl_kernel_rfl) y

theorem dv_B (c : Dev nD) (t : Fin cfg0.N) (h0 : ¬t.val % 2 = 0) (h1 : t.val % 2 = 1) (h2 : t.val < 2) (h3 : ¬2 ≤ t.val) (y : (⟨2, ![4096, 128]⟩ : Shape).Idx) :
    (outsAt0 m c t.val t.isLt).2.2.2.2 y = (outsAt0 m c (t.val - 1) (Nat.lt_of_le_of_lt (Nat.sub_le _ _) t.isLt)).2.2.2.2 y + dvP m c t (y 0) (y 1) := by
  let G : (⟨2, ![4096, 128]⟩ : Shape).Idx → EReal := fun y => (outsAt0 m c (t.val - 1) (Nat.lt_of_le_of_lt (Nat.sub_le _ _) t.isLt)).2.2.2.2 y + dvP m c t (y 0) (y 1)
  rw [outsAt0_B m c t h0 h1 h2 h3]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [] [_, _, _, _, _, _, _, _] ⟨?_, ?_, ?_, ?_, ?_, ?_, ?_, ?_, trivial⟩ y ?_
  · intro x; idx_vars x; unfold_payloads; refine Eq.trans ?_ (congrArg G (emb_rows 3584 _ x0 x1 ⟨3584 + x0.val, by omega⟩ rfl)).symm; pointwise; rfl
  · intro x; idx_vars x; unfold_payloads; refine Eq.trans ?_ (congrArg G (emb_rows 3072 _ x0 x1 ⟨3072 + x0.val, by omega⟩ rfl)).symm; pointwise; rfl
  · intro x; idx_vars x; unfold_payloads; refine Eq.trans ?_ (congrArg G (emb_rows 2560 _ x0 x1 ⟨2560 + x0.val, by omega⟩ rfl)).symm; pointwise; rfl
  · intro x; idx_vars x; unfold_payloads; refine Eq.trans ?_ (congrArg G (emb_rows 2048 _ x0 x1 ⟨2048 + x0.val, by omega⟩ rfl)).symm; pointwise; rfl
  · intro x; idx_vars x; unfold_payloads; refine Eq.trans ?_ (congrArg G (emb_rows 1536 _ x0 x1 ⟨1536 + x0.val, by omega⟩ rfl)).symm; pointwise; rfl
  · intro x; idx_vars x; unfold_payloads; refine Eq.trans ?_ (congrArg G (emb_rows 1024 _ x0 x1 ⟨1024 + x0.val, by omega⟩ rfl)).symm; pointwise; rfl
  · intro x; idx_vars x; unfold_payloads; refine Eq.trans ?_ (congrArg G (emb_rows 512 _ x0 x1 ⟨512 + x0.val, by omega⟩ rfl)).symm; pointwise; rfl
  · intro x; idx_vars x; unfold_payloads; refine Eq.trans ?_ (congrArg G (emb_rows 0 _ x0 x1 ⟨x0.val, by omega⟩ (Nat.zero_add _).symm)).symm; pointwise; rfl
  · exact View.cover_of_tiledL _ ![512, 128] (by sl_kernel_rfl) y

theorem dq_B (c : Dev nD) (t : Fin cfg0.N) (h0 : ¬t.val % 2 = 0) (h1 : t.val % 2 = 1) (h2 : t.val < 2) (h3 : ¬2 ≤ t.val) (x : Fin 2048) (y : Fin 384) :
    (outsAt0 m c t.val t.isLt).1 (ix2 x y) = dqP m c t x y := by
  rw [outsAt0_B m c t h0 h1 h2 h3]
  frame_open
  simp (disch := decide) only [↓ View.readCov_skip, ↓ View.readCov_cons_toLoadRect, ↓ View.readCov_fill]
  frame_out
  try simp only [read_unread_whole]
  exact dqBlk_apply _ _ _ _ _ _ _ _ x y

theorem o11_B (c : Dev nD) (t : Fin cfg0.N) (h0 : ¬t.val % 2 = 0) (h1 : t.val % 2 = 1) (h2 : t.val < 2) (h3 : ¬2 ≤ t.val) :
    (outsAt0 m c t.val t.isLt).2.1 = k0_pay5 (outsAt0 m c t.val t.isLt).2.2.2.1 (outsAt0 m c t.val t.isLt).2.2.2.2 := by
  rw [outsAt0_B m c t h0 h1 h2 h3]
  frame_open
  simp (disch := decide) only [↓ View.readCov_skip, ↓ View.readCov_cons_toLoadRect, ↓ View.readCov_fill]
  frame_out
  try simp only [read_unread_whole]
  congr 1 <;> exact readCov_all _ _ _

theorem o12_B (c : Dev nD) (t : Fin cfg0.N) (h0 : ¬t.val % 2 = 0) (h1 : t.val % 2 = 1) (h2 : t.val < 2) (h3 : ¬2 ≤ t.val) :
    (outsAt0 m c t.val t.isLt).2.2.1 = k0_pay6 (outsAt0 m c t.val t.isLt).2.2.2.1 (iblk m c 8 t) (iblk m c 9 t) := by
  rw [outsAt0_B m c t h0 h1 h2 h3]
  frame_open
  simp (disch := decide) only [↓ View.readCov_skip, ↓ View.readCov_cons_toLoadRect, ↓ View.readCov_fill]
  frame_out
  try simp only [read_unread_whole]
  congr 1 <;> exact readCov_all _ _ _

end Cert.KernelIdeal.Val

end
-- ==== Proof.PointsC.lean ====
/- What a grid point leaves, second tile of a later head: the results are written, the shared one is added to. -/
module

public import proofs.«01_k».proof.Proof.Points

@[expose] public section

set_option maxRecDepth 16384

noncomputable section

namespace Cert.KernelIdeal.Val

open Idealize.ShloMosaic Idealize.ShloMosaic.TcCoe Idealize.SL Cert.KernelIdeal.Gen

variable (m : (ℓ : Loc nD τ sig) → Buf (Elt Ideal) ℓ)

set_option maxHeartbeats 1000000

theorem dk_C (c : Dev nD) (t : Fin cfg0.N) (h0 : ¬t.val % 2 = 0) (h1 : t.val % 2 = 1) (h2 : ¬t.val < 2) (h3 : 2 ≤ t.val) (y : (⟨2, ![4096, 256]⟩ : Shape).Idx) :
    (outsAt0 m c t.val t.isLt).2.2.2.1 y = (outsAt0 m c (t.val - 1) (Nat.lt_of_le_of_lt (Nat.sub_le _ _) t.isLt)).2.2.2.1 y + dkP m c t (y 0) (y 1) := by
  let G : (⟨2, ![4096, 256]⟩ : Shape).Idx → EReal := fun y => (outsAt0 m c (t.val - 1) (Nat.lt_of_le_of_lt (Nat.sub_le _ _) t.isLt)).2.2.2.1 y + dkP m c t (y 0) (y 1)
  rw [outsAt0_C m c t h0 h1 h2 h3]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [] [_, _, _, _, _, _, _, _] ⟨?_, ?_, ?_, ?_, ?_, ?_, ?_, ?_, trivial⟩ y ?_
  · intro x; idx_vars x; unfold_payloads; refine Eq.trans ?_ (congrArg G (emb_rows 3584 _ x0 x1 ⟨3584 + x0.val, by omega⟩ rfl)).symm; pointwise; rfl
  · intro x; idx_vars x; unfold_payloads; refine Eq.trans ?_ (congrArg G (emb_rows 3072 _ x0 x1 ⟨3072 + x0.val, by omega⟩ rfl)).symm; pointwise; rfl
  · intro x; idx_vars x; unfold_payloads; refine Eq.trans ?_ (congrArg G (emb_rows 2560 _ x0 x1 ⟨2560 + x0.val, by omega⟩ rfl)).symm; pointwise; rfl
  · intro x; idx_vars x; unfold_payloads; refine Eq.trans ?_ (congrArg G (emb_rows 2048 _ x0 x1 ⟨2048 + x0.val, by omega⟩ rfl)).symm; pointwise; rfl
  · intro x; idx_vars x; unfold_payloads; refine Eq.trans ?_ (congrArg G (emb_rows 1536 _ x0 x1 ⟨1536 + x0.val, by omega⟩ rfl)).symm; pointwise; rfl
  · intro x; idx_vars x; unfold_payloads; refine Eq.trans ?_ (congrArg G (emb_rows 1024 _ x0 x1 ⟨1024 + x0.val, by omega⟩ rfl)).symm; pointwise; rfl
  · intro x; idx_vars x; unfold_payloads; refine Eq.trans ?_ (congrArg G (emb_rows 512 _ x0 x1 ⟨512 + x0.val, by omega⟩ rfl)).symm; pointwise; rfl
  · intro x; idx_vars x; unfold_payloads; refine Eq.trans ?_ (congrArg G (emb_rows 0 _ x0 x1 ⟨x0.val, by omega⟩ (Nat.zero_add _).symm)).symm; pointwise; rfl
  · exact View.cover_of_tiledL _ ![512, 256] (by sl_kernel_rfl) y

theorem dv_C (c : Dev nD) (t : Fin cfg0.N) (h0 : ¬t.val % 2 = 0) (h1 : t.val % 2 = 1) (h2 : ¬t.val < 2) (h3 : 2 ≤ t.val) (y : (⟨2, ![4096, 128]⟩ : Shape).Idx) :
    (outsAt0 m c t.val t.isLt).2.2.2.2 y = (outsAt0 m c (t.val - 1) (Nat.lt_of_le_of_lt (Nat.sub_le _ _) t.isLt)).2.2.2.2 y + dvP m c t (y 0) (y 1) := by
  let G : (⟨2, ![4096, 128]⟩ : Shape).Idx → EReal := fun y => (outsAt0 m c (t.val - 1) (Nat.lt_of_le_of_lt (Nat.sub_le _ _) t.isLt)).2.2.2.2 y + dvP m c t (y 0) (y 1)
  rw [outsAt0_C m c t h0 h1 h2 h3]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [] [_, _, _, _, _, _, _, _] ⟨?_, ?_, ?_, ?_, ?_, ?_, ?_, ?_, trivial⟩ y ?_
  · intro x; idx_vars x; unfold_payloads; refine Eq.trans ?_ (congrArg G (emb_rows 3584 _ x0 x1 ⟨3584 + x0.val, by omega⟩ rfl)).symm; pointwise; rfl
  · intro x; idx_vars x; unfold_payloads; refine Eq.trans ?_ (congrArg G (emb_rows 3072 _ x0 x1 ⟨3072 + x0.val, by omega⟩ rfl)).symm; pointwise; rfl
  · intro x; idx_vars x; unfold_payloads; refine Eq.trans ?_ (congrArg G (emb_rows 2560 _ x0 x1 ⟨2560 + x0.val, by omega⟩ rfl)).symm; pointwise; rfl
  · intro x; idx_vars x; unfold_payloads; refine Eq.trans ?_ (congrArg G (emb_rows 2048 _ x0 x1 ⟨2048 + x0.val, by omega⟩ rfl)).symm; pointwise; rfl
  · intro x; idx_vars x; unfold_payloads; refine Eq.trans ?_ (congrArg G (emb_rows 1536 _ x0 x1 ⟨1536 + x0.val, by omega⟩ rfl)).symm; pointwise; rfl
  · intro x; idx_vars x; unfold_payloads; refine Eq.trans ?_ (congrArg G (emb_rows 1024 _ x0 x1 ⟨1024 + x0.val, by omega⟩ rfl)).symm; pointwise; rfl
  · intro x; idx_vars x; unfold_payloads; refine Eq.trans ?_ (congrArg G (emb_rows 512 _ x0 x1 ⟨512 + x0.val, by omega⟩ rfl)).symm; pointwise; rfl
  · intro x; idx_vars x; unfold_payloads; refine Eq.trans ?_ (congrArg G (emb_rows 0 _ x0 x1 ⟨x0.val, by omega⟩ (Nat.zero_add _).symm)).symm; pointwise; rfl
  · exact View.cover_of_tiledL _ ![512, 128] (by sl_kernel_rfl) y

theorem dq_C (c : Dev nD) (t : Fin cfg0.N) (h0 : ¬t.val % 2 = 0) (h1 : t.val % 2 = 1) (h2 : ¬t.val < 2) (h3 : 2 ≤ t.val) (x : Fin 2048) (y : Fin 384) :
    (outsAt0 m c t.val t.isLt).1 (ix2 x y) = dqP m c t x y := by
  rw [outsAt0_C m c t h0 h1 h2 h3]
  frame_open
  simp (disch := decide) only [↓ View.readCov_skip, ↓ View.readCov_cons_toLoadRect, ↓ View.readCov_fill]
  frame_out
  try simp only [read_unread_whole]
  exact dqBlk_apply _ _ _ _ _ _ _ _ x y

theorem o11_C (c : Dev nD) (t : Fin cfg0.N) (h0 : ¬t.val % 2 = 0) (h1 : t.val % 2 = 1) (h2 : ¬t.val < 2) (h3 : 2 ≤ t.val) :
    (outsAt0 m c t.val t.isLt).2.1 = k0_pay5 (outsAt0 m c t.val t.isLt).2.2.2.1 (outsAt0 m c t.val t.isLt).2.2.2.2 := by
  rw [outsAt0_C m c t h0 h1 h2 h3]
  frame_open
  simp (disch := decide) only [↓ View.readCov_skip, ↓ View.readCov_cons_toLoadRect, ↓ View.readCov_fill]
  frame_out
  try simp only [read_unread_whole]
  congr 1 <;> exact readCov_all _ _ _

theorem o12_C (c : Dev nD) (t : Fin cfg0.N) (h0 : ¬t.val % 2 = 0) (h1 : t.val % 2 = 1) (h2 : ¬t.val < 2) (h3 : 2 ≤ t.val) :
    (outsAt0 m c t.val t.isLt).2.2.1 = k0_pay7 (outsAt0 m c t.val t.isLt).2.2.2.1 (iblk m c 8 t) (iblk m c 9 t) (outsAt0 m c (t.val - 1) (Nat.lt_of_le_of_lt (Nat.sub_le _ _) t.isLt)).2.2.1 := by
  rw [outsAt0_C m c t h0 h1 h2 h3]
  frame_open
  simp (disch := decide) only [↓ View.readCov_skip, ↓ View.readCov_cons_toLoadRect, ↓ View.readCov_fill]
  frame_out
  try simp only [read_unread_whole]
  congr 1 <;> exact readCov_all _ _ _
end Cert.KernelIdeal.Val

end
-- ==== Proof.BlocksA.lean ====
/- Where every input block lies in its array. Grid point `t` is head `h`, query tile `p`, with `t = 2 h + p`. -/
module

public import proofs.«01_k».proof.Proof.Points

@[expose] public section

set_option maxRecDepth 16384

noncomputable section

namespace Cert.KernelIdeal.Val

open Idealize.ShloMosaic Idealize.ShloMosaic.TcCoe Idealize.SL Cert.KernelIdeal.Gen

theorem idx0 : ∀ t : Fin cfg0.N, win0_0.index t = ![t.val % 2, t.val / 2] := by decide +kernel

theorem rd0 (c : Dev nD) (A : Buf (Elt Ideal) ((c : Thread nD τ).loc main_v13)) (t : Fin cfg0.N) (h : Fin 16) (p : Fin 2) (ht : t.val = 2 * h.val + p.val) (x : Fin 2048) (y : Fin 384) :
    ((cfg0.win 0).blk t).view.read (Elt Ideal) A (ix2 x y) = A (ix2 ⟨p.val * 2048 + x.val, by omega⟩ ⟨h.val * 384 + y.val, by omega⟩) := by
  blk_ext [idx0 t]

theorem b0 (m : (ℓ : Loc nD τ sig) → Buf (Elt Ideal) ℓ) (c : Dev nD) (t : Fin cfg0.N) (h : Fin 16) (p : Fin 2) (ht : t.val = 2 * h.val + p.val) (x : Fin 2048) (y : Fin 384) :
    iblk m c 0 t (ix2 x y) = V m c main_v13 (ix2 ⟨p.val * 2048 + x.val, by omega⟩ ⟨h.val * 384 + y.val, by omega⟩) :=
  rd0 c (V m c main_v13) t h p ht x y

theorem idx1 : ∀ t : Fin cfg0.N, win0_1.index t = ![t.val % 2, 0] := by decide +kernel

theorem rd1 (c : Dev nD) (A : Buf (Elt Ideal) ((c : Thread nD τ).loc main_v1)) (t : Fin cfg0.N) (h : Fin 16) (p : Fin 2) (ht : t.val = 2 * h.val + p.val) (x : Fin 2048) (y : Fin 128) :
    ((cfg0.win 1).blk t).view.read (Elt Ideal) A (ix2 x y) = A (ix2 ⟨p.val * 2048 + x.val, by omega⟩ y) := by
  blk_ext [idx1 t]

theorem b1 (m : (ℓ : Loc nD τ sig) → Buf (Elt Ideal) ℓ) (c : Dev nD) (t : Fin cfg0.N) (h : Fin 16) (p : Fin 2) (ht : t.val = 2 * h.val + p.val) (x : Fin 2048) (y : Fin 128) :
    iblk m c 1 t (ix2 x y) = V m c main_v1 (ix2 ⟨p.val * 2048 + x.val, by omega⟩ y) :=
  rd1 c (V m c main_v1) t h p ht x y

theorem idx2 : ∀ t : Fin cfg0.N, win0_2.index t = ![t.val % 2, 0] := by decide +kernel

theorem rd2 (c : Dev nD) (A : Buf (Elt Ideal) ((c : Thread nD τ).loc main_v2)) (t : Fin cfg0.N) (h : Fin 16) (p : Fin 2) (ht : t.val = 2 * h.val + p.val) (x : Fin 2048) (y : Fin 128) :
    ((cfg0.win 2).blk t).view.read (Elt Ideal) A (ix2 x y) = A (ix2 ⟨p.val * 2048 + x.val, by omega⟩ y) := by
  blk_ext [idx2 t]

theorem b2 (m : (ℓ : Loc nD τ sig) → Buf (Elt Ideal) ℓ) (c : Dev nD) (t : Fin cfg0.N) (h : Fin 16) (p : Fin 2) (ht : t.val = 2 * h.val + p.val) (x : Fin 2048) (y : Fin 128) :
    iblk m c 2 t (ix2 x y) = V m c main_v2 (ix2 ⟨p.val * 2048 + x.val, by omega⟩ y) :=
  rd2 c (V m c main_v2) t h p ht x y

theorem idx3 : ∀ t : Fin cfg0.N, win0_3.index t = ![t.val / 2, 0, 0] := by decide +kernel

theorem rd3 (c : Dev nD) (A : Buf (Elt Ideal) ((c : Thread nD τ).loc main_v30)) (t : Fin cfg0.N) (h : Fin 16) (p : Fin 2) (ht : t.val = 2 * h.val + p.val) (x : Fin 4096) (y : Fin 256) (a : Fin 1) :
    ((cfg0.win 3).blk t).view.read (Elt Ideal) A (ix3 a x y) = A (ix3 h x y) := by
  blk_ext [idx3 t]

theorem b3 (m : (ℓ : Loc nD τ sig) → Buf (Elt Ideal) ℓ) (c : Dev nD) (t : Fin cfg0.N) (h : Fin 16) (p : Fin 2) (ht : t.val = 2 * h.val + p.val) (x : Fin 4096) (y : Fin 256) (a : Fin 1) :
    iblk m c 3 t (ix3 a x y) = V m c main_v30 (ix3 h x y) :=
  rd3 c (V m c main_v30) t h p ht x y a

theorem idx4 : ∀ t : Fin cfg0.N, win0_4.index t = ![t.val / 2, 0, 0] := by decide +kernel

theorem rd4 (c : Dev nD) (A : Buf (Elt Ideal) ((c : Thread nD τ).loc main_v35)) (t : Fin cfg0.N) (h : Fin 16) (p : Fin 2) (ht : t.val = 2 * h.val + p.val) (x : Fin 4096) (y : Fin 256) (a : Fin 1) :
    ((cfg0.win 4).blk t).view.read (Elt Ideal) A (ix3 a x y) = A (ix3 h x y) := by
  blk_ext [idx4 t]

theorem b4 (m : (ℓ : Loc nD τ sig) → Buf (Elt Ideal) ℓ) (c : Dev nD) (t : Fin cfg0.N) (h : Fin 16) (p : Fin 2) (ht : t.val = 2 * h.val + p.val) (x : Fin 4096) (y : Fin 256) (a : Fin 1) :
    iblk m c 4 t (ix3 a x y) = V m c main_v35 (ix3 h x y) :=
  rd4 c (V m c main_v35) t h p ht x y a

end Cert.KernelIdeal.Val

end
-- ==== Proof.BlocksB.lean ====
/- Where every input block lies in its array. Grid point `t` is head `h`, query tile `p`, with `t = 2 h + p`. -/
module

public import proofs.«01_k».proof.Proof.Points

@[expose] public section

set_option maxRecDepth 16384

noncomputable section

namespace Cert.KernelIdeal.Val

open Idealize.ShloMosaic Idealize.ShloMosaic.TcCoe Idealize.SL Cert.KernelIdeal.Gen

theorem idx5 : ∀ t : Fin cfg0.N, win0_5.index t = ![t.val % 2, t.val / 2] := by decide +kernel

theorem rd5 (c : Dev nD) (A : Buf (Elt Ideal) ((c : Thread nD τ).loc main_v97)) (t : Fin cfg0.N) (h : Fin 16) (p : Fin 2) (ht : t.val = 2 * h.val + p.val) (x : Fin 2048) (y : Fin 128) :
    ((cfg0.win 5).blk t).view.read (Elt Ideal) A (ix2 x y) = A (ix2 ⟨p.val * 2048 + x.val, by omega⟩ ⟨h.val * 128 + y.val, by omega⟩) := by
  blk_ext [idx5 t]

theorem b5 (m : (ℓ : Loc nD τ sig) → Buf (Elt Ideal) ℓ) (c : Dev nD) (t : Fin cfg0.N) (h : Fin 16) (p : Fin 2) (ht : t.val = 2 * h.val + p.val) (x : Fin 2048) (y : Fin 128) :
    iblk m c 5 t (ix2 x y) = V m c main_v97 (ix2 ⟨p.val * 2048 + x.val, by omega⟩ ⟨h.val * 128 + y.val, by omega⟩) :=
  rd5 c (V m c main_v97) t h p ht x y

theorem idx6 : ∀ t : Fin cfg0.N, win0_6.index t = ![t.val % 2, t.val / 2] := by decide +kernel

theorem rd6 (c : Dev nD) (A : Buf (Elt Ideal) ((c : Thread nD τ).loc main_v96)) (t : Fin cfg0.N) (h : Fin 16) (p : Fin 2) (ht : t.val = 2 * h.val + p.val) (x : Fin 2048) (y : Fin 128) :
    ((cfg0.win 6).blk t).view.read (Elt Ideal) A (ix2 x y) = A (ix2 ⟨p.val * 2048 + x.val, by omega⟩ ⟨h.val * 128 + y.val, by omega⟩) := by
  blk_ext [idx6 t]

theorem b6 (m : (ℓ : Loc nD τ sig) → Buf (Elt Ideal) ℓ) (c : Dev nD) (t : Fin cfg0.N) (h : Fin 16) (p : Fin 2) (ht : t.val = 2 * h.val + p.val) (x : Fin 2048) (y : Fin 128) :
    iblk m c 6 t (ix2 x y) = V m c main_v96 (ix2 ⟨p.val * 2048 + x.val, by omega⟩ ⟨h.val * 128 + y.val, by omega⟩) :=
  rd6 c (V m c main_v96) t h p ht x y

theorem idx7 : ∀ t : Fin cfg0.N, win0_7.index t = ![t.val / 2, 0, t.val % 2] := by decide +kernel

theorem rd7 (c : Dev nD) (A : Buf (Elt Ideal) ((c : Thread nD τ).loc main_v98)) (t : Fin cfg0.N) (h : Fin 16) (p : Fin 2) (ht : t.val = 2 * h.val + p.val) (x : Fin 2048) (a b u : Fin 1) :
    ((cfg0.win 7).blk t).view.read (Elt Ideal) A (ix3 a b x) = A (ix3 h u ⟨p.val * 2048 + x.val, by omega⟩) := by
  blk_ext [idx7 t]

theorem b7 (m : (ℓ : Loc nD τ sig) → Buf (Elt Ideal) ℓ) (c : Dev nD) (t : Fin cfg0.N) (h : Fin 16) (p : Fin 2) (ht : t.val = 2 * h.val + p.val) (x : Fin 2048) (a b u : Fin 1) :
    iblk m c 7 t (ix3 a b x) = V m c main_v98 (ix3 h u ⟨p.val * 2048 + x.val, by omega⟩) :=
  rd7 c (V m c main_v98) t h p ht x a b u

theorem idx8 : ∀ t : Fin cfg0.N, win0_8.index t = ![0, 0] := by decide +kernel

theorem rd8 (c : Dev nD) (A : Buf (Elt Ideal) ((c : Thread nD τ).loc main_v1)) (t : Fin cfg0.N) (x : Fin 4096) (y : Fin 128) :
    ((cfg0.win 8).blk t).view.read (Elt Ideal) A (ix2 x y) = A (ix2 x y) := by
  blk_ext [idx8 t]

theorem b8 (m : (ℓ : Loc nD τ sig) → Buf (Elt Ideal) ℓ) (c : Dev nD) (t : Fin cfg0.N) (x : Fin 4096) (y : Fin 128) :
    iblk m c 8 t (ix2 x y) = V m c main_v1 (ix2 x y) :=
  rd8 c (V m c main_v1) t x y

theorem idx9 : ∀ t : Fin cfg0.N, win0_9.index t = ![0, 0] := by decide +kernel

theorem rd9 (c : Dev nD) (A : Buf (Elt Ideal) ((c : Thread nD τ).loc main_v2)) (t : Fin cfg0.N) (x : Fin 4096) (y : Fin 128) :
    ((cfg0.win 9).blk t).view.read (Elt Ideal) A (ix2 x y) = A (ix2 x y) := by
  blk_ext [idx9 t]

theorem b9 (m : (ℓ : Loc nD τ sig) → Buf (Elt Ideal) ℓ) (c : Dev nD) (t : Fin cfg0.N) (x : Fin 4096) (y : Fin 128) :
    iblk m c 9 t (ix2 x y) = V m c main_v2 (ix2 x y) :=
  rd9 c (V m c main_v2) t x y

end Cert.KernelIdeal.Val

end
-- ==== Proof.HostTerms.lean ====
/- The arrays the host code prepares for the kernel, as functions of the program's arguments. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL Cert.KernelIdeal.Gen

/-- The cosines, doubled and padded to 128 columns. -/
def h_v1 (a3 : (⟨S4096x32, .f32⟩ : BufTy).Contents (Elt Ideal)) : (⟨S4096x128, .f32⟩ : BufTy).Contents (Elt Ideal) :=
  (concatenate S4096x128 1 [⟨S4096x32, a3⟩, ⟨S4096x32, a3⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩] concatenates_S4096x32_S4096x32_S4096x64_S4096x128_d1 : (⟨S4096x128, .f32⟩ : BufTy).Contents (Elt Ideal))

/-- The sines, doubled and padded to 128 columns. -/
def h_v2 (a4 : (⟨S4096x32, .f32⟩ : BufTy).Contents (Elt Ideal)) : (⟨S4096x128, .f32⟩ : BufTy).Contents (Elt Ideal) :=
  (concatenate S4096x128 1 [⟨S4096x32, a4⟩, ⟨S4096x32, a4⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩] concatenates_S4096x32_S4096x32_S4096x64_S4096x128_d1 : (⟨S4096x128, .f32⟩ : BufTy).Contents (Elt Ideal))

/-- The query rows with their rotated halves beside them, 384 columns a head. -/
def h_v13 (a0 : (⟨S4096x3072, .f32⟩ : BufTy).Contents (Elt Ideal)) : (⟨S4096x6144, .f32⟩ : BufTy).Contents (Elt Ideal) :=
  (shapeCast _ (concatenate S4096x16x384 2 [⟨S4096x16x128, (extractStridedSlice S4096x16x128 ![0, 0, 0] (shapeCast _ a0 shapeCasts_S4096x3072_S4096x16x192) slices_S4096x16x192_S4096x16x128_0_0_0)⟩, ⟨S4096x16x64, (extractStridedSlice S4096x16x64 ![0, 0, 128] (shapeCast _ a0 shapeCasts_S4096x3072_S4096x16x192) slices_S4096x16x192_S4096x16x64_0_0_128)⟩, ⟨S4096x16x64, (broadcastInDim S4096x16x64 ![] bcast_S_S4096x16x64 ((constant (F := Ideal) S_ .f32 0x00000000#32) : (⟨S_, .f32⟩ : BufTy).Contents (Elt Ideal)) : (⟨S4096x16x64, .f32⟩ : BufTy).Contents (Elt Ideal))⟩, ⟨S4096x16x64, (concatenate S4096x16x64 2 [⟨S4096x16x32, (Host.negf (F := Ideal) (φ := .f32) (extractStridedSlice S4096x16x32 ![0, 0, 32] (extractStridedSlice S4096x16x64 ![0, 0, 128] (shapeCast _ a0 shapeCasts_S4096x3072_S4096x16x192) slices_S4096x16x192_S4096x16x64_0_0_128) slices_S4096x16x64_S4096x16x32_0_0_32))⟩, ⟨S4096x16x32, (extractStridedSlice S4096x16x32 ![0, 0, 0] (extractStridedSlice S4096x16x64 ![0, 0, 128] (shapeCast _ a0 shapeCasts_S4096x3072_S4096x16x192) slices_S4096x16x192_S4096x16x64_0_0_128) slices_S4096x16x64_S4096x16x32_0_0_0)⟩] concatenates_S4096x16x32_S4096x16x32_S4096x16x64_d2)⟩, ⟨S4096x16x64, (broadcastInDim S4096x16x64 ![] bcast_S_S4096x16x64 ((constant (F := Ideal) S_ .f32 0x00000000#32) : (⟨S_, .f32⟩ : BufTy).Contents (Elt Ideal)) : (⟨S4096x16x64, .f32⟩ : BufTy).Contents (Elt Ideal))⟩] concatenates_S4096x16x128_S4096x16x64_S4096x16x64_S4096x16x64_S4096x16x64_S4096x16x384_d2 : (⟨S4096x16x384, .f32⟩ : BufTy).Contents (Elt Ideal)) shapeCasts_S4096x16x384_S4096x6144)

/-- The rotary key, rotated. -/
def h_v23 (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S4096x128, .f32⟩ : BufTy).Contents (Elt Ideal) :=
  (addf (F := Ideal) (φ := .f32) (mulf (F := Ideal) (φ := .f32) (extractStridedSlice S4096x128 ![0, 0] (concatenate S4096x256 1 [⟨S4096x64, a2⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩, ⟨S4096x64, (concatenate S4096x64 1 [⟨S4096x32, (Host.negf (F := Ideal) (φ := .f32) (extractStridedSlice S4096x32 ![0, 32] a2 slices_S4096x64_S4096x32_0_32))⟩, ⟨S4096x32, (extractStridedSlice S4096x32 ![0, 0] a2 slices_S4096x64_S4096x32_0_0)⟩] concatenates_S4096x32_S4096x32_S4096x64_d1)⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩] concatenates_S4096x64_S4096x64_S4096x64_S4096x64_S4096x256_d1 : (⟨S4096x256, .f32⟩ : BufTy).Contents (Elt Ideal)) slices_S4096x256_S4096x128_0_0) (h_v1  a3)) (mulf (F := Ideal) (φ := .f32) (extractStridedSlice S4096x128 ![0, 128] (concatenate S4096x256 1 [⟨S4096x64, a2⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩, ⟨S4096x64, (concatenate S4096x64 1 [⟨S4096x32, (Host.negf (F := Ideal) (φ := .f32) (extractStridedSlice S4096x32 ![0, 32] a2 slices_S4096x64_S4096x32_0_32))⟩, ⟨S4096x32, (extractStridedSlice S4096x32 ![0, 0] a2 slices_S4096x64_S4096x32_0_0)⟩] concatenates_S4096x32_S4096x32_S4096x64_d1)⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩] concatenates_S4096x64_S4096x64_S4096x64_S4096x64_S4096x256_d1 : (⟨S4096x256, .f32⟩ : BufTy).Contents (Elt Ideal)) slices_S4096x256_S4096x128_0_128) (h_v2  a4)))

/-- The keys of every head: the plain half and the shared rotated one. -/
def h_v30 (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S16x4096x256, .bf16⟩ : BufTy).Contents (Elt Ideal) :=
  (truncf (F := Ideal) .bf16 (transpose S16x4096x256 [1, 0, 2] (concatenate S4096x16x256 2 [⟨S4096x16x128, (extractStridedSlice S4096x16x128 ![0, 0, 0] (shapeCast _ a1 shapeCasts_S4096x4096_S4096x16x256) slices_S4096x16x256_S4096x16x128_0_0_0)⟩, ⟨S4096x16x128, (broadcastInDim S4096x16x128 ![0, 1, 2] bcast_S4096x1x128_S4096x16x128_0_1_2 (broadcastInDim S4096x1x128 ![0, 2] bcast_S4096x128_S4096x1x128_0_2 (h_v23  a2 a3 a4) : (⟨S4096x1x128, .f32⟩ : BufTy).Contents (Elt Ideal)) : (⟨S4096x16x128, .f32⟩ : BufTy).Contents (Elt Ideal))⟩] concatenates_S4096x16x128_S4096x16x128_S4096x16x256_d2) transposes_S4096x16x256_S16x4096x256_1_0_2) bitsLt_bf16_f32)

/-- The values of every head, with ones beside them. -/
def h_v35 (a1 : (⟨S4096x4096, .f32⟩ : BufTy).Contents (Elt Ideal)) : (⟨S16x4096x256, .bf16⟩ : BufTy).Contents (Elt Ideal) :=
  (truncf (F := Ideal) .bf16 (transpose S16x4096x256 [1, 0, 2] (concatenate S4096x16x256 2 [⟨S4096x16x128, (extractStridedSlice S4096x16x128 ![0, 0, 128] (shapeCast _ a1 shapeCasts_S4096x4096_S4096x16x256) slices_S4096x16x256_S4096x16x128_0_0_128)⟩, ⟨S4096x16x128, (broadcastInDim S4096x16x128 ![] bcast_S_S4096x16x128 ((constant (F := Ideal) S_ .f32 0x3F800000#32) : (⟨S_, .f32⟩ : BufTy).Contents (Elt Ideal)) : (⟨S4096x16x128, .f32⟩ : BufTy).Contents (Elt Ideal))⟩] concatenates_S4096x16x128_S4096x16x128_S4096x16x256_d2) transposes_S4096x16x256_S16x4096x256_1_0_2) bitsLt_bf16_f32)

/-- The rotary queries, rotated. -/
def h_v55 (a0 : (⟨S4096x3072, .f32⟩ : BufTy).Contents (Elt Ideal)) (a3 : (⟨S4096x32, .f32⟩ : BufTy).Contents (Elt Ideal)) (a4 : (⟨S4096x32, .f32⟩ : BufTy).Contents (Elt Ideal)) : (⟨S4096x16x64, .f32⟩ : BufTy).Contents (Elt Ideal) :=
  (concatenate S4096x16x64 2 [⟨S4096x16x32, (subf (F := Ideal) (φ := .f32) (mulf (F := Ideal) (φ := .f32) (extractStridedSlice S4096x16x32 ![0, 0, 0] (extractStridedSlice S4096x16x64 ![0, 0, 128] (shapeCast _ a0 shapeCasts_S4096x3072_S4096x16x192) slices_S4096x16x192_S4096x16x64_0_0_128) slices_S4096x16x64_S4096x16x32_0_0_0) (broadcastInDim S4096x16x32 ![0, 1, 2] bcast_S4096x1x32_S4096x16x32_0_1_2 (broadcastInDim S4096x1x32 ![0, 2] bcast_S4096x32_S4096x1x32_0_2 a3 : (⟨S4096x1x32, .f32⟩ : BufTy).Contents (Elt Ideal)) : (⟨S4096x16x32, .f32⟩ : BufTy).Contents (Elt Ideal))) (mulf (F := Ideal) (φ := .f32) (extractStridedSlice S4096x16x32 ![0, 0, 32] (extractStridedSlice S4096x16x64 ![0, 0, 128] (shapeCast _ a0 shapeCasts_S4096x3072_S4096x16x192) slices_S4096x16x192_S4096x16x64_0_0_128) slices_S4096x16x64_S4096x16x32_0_0_32) (broadcastInDim S4096x16x32 ![0, 1, 2] bcast_S4096x1x32_S4096x16x32_0_1_2 (broadcastInDim S4096x1x32 ![0, 2] bcast_S4096x32_S4096x1x32_0_2 a4 : (⟨S4096x1x32, .f32⟩ : BufTy).Contents (Elt Ideal)) : (⟨S4096x16x32, .f32⟩ : BufTy).Contents (Elt Ideal))))⟩, ⟨S4096x16x32, (addf (F := Ideal) (φ := .f32) (mulf (F := Ideal) (φ := .f32) (extractStridedSlice S4096x16x32 ![0, 0, 32] (extractStridedSlice S4096x16x64 ![0, 0, 128] (shapeCast _ a0 shapeCasts_S4096x3072_S4096x16x192) slices_S4096x16x192_S4096x16x64_0_0_128) slices_S4096x16x64_S4096x16x32_0_0_32) (broadcastInDim S4096x16x32 ![0, 1, 2] bcast_S4096x1x32_S4096x16x32_0_1_2 (broadcastInDim S4096x1x32 ![0, 2] bcast_S4096x32_S4096x1x32_0_2 a3 : (⟨S4096x1x32, .f32⟩ : BufTy).Contents (Elt Ideal)) : (⟨S4096x16x32, .f32⟩ : BufTy).Contents (Elt Ideal))) (mulf (F := Ideal) (φ := .f32) (extractStridedSlice S4096x16x32 ![0, 0, 0] (extractStridedSlice S4096x16x64 ![0, 0, 128] (shapeCast _ a0 shapeCasts_S4096x3072_S4096x16x192) slices_S4096x16x192_S4096x16x64_0_0_128) slices_S4096x16x64_S4096x16x32_0_0_0) (broadcastInDim S4096x16x32 ![0, 1, 2] bcast_S4096x1x32_S4096x16x32_0_1_2 (broadcastInDim S4096x1x32 ![0, 2] bcast_S4096x32_S4096x1x32_0_2 a4 : (⟨S4096x1x32, .f32⟩ : BufTy).Contents (Elt Ideal)) : (⟨S4096x16x32, .f32⟩ : BufTy).Contents (Elt Ideal))))⟩] concatenates_S4096x16x32_S4096x16x32_S4096x16x64_d2)

/-- The rotary key, rotated (as the scores take it). -/
def h_v64 (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S4096x64, .f32⟩ : BufTy).Contents (Elt Ideal) :=
  (concatenate S4096x64 1 [⟨S4096x32, (subf (F := Ideal) (φ := .f32) (mulf (F := Ideal) (φ := .f32) (extractStridedSlice S4096x32 ![0, 0] a2 slices_S4096x64_S4096x32_0_0) a3) (mulf (F := Ideal) (φ := .f32) (extractStridedSlice S4096x32 ![0, 32] a2 slices_S4096x64_S4096x32_0_32) a4))⟩, ⟨S4096x32, (addf (F := Ideal) (φ := .f32) (mulf (F := Ideal) (φ := .f32) (extractStridedSlice S4096x32 ![0, 32] a2 slices_S4096x64_S4096x32_0_32) a3) (mulf (F := Ideal) (φ := .f32) (extractStridedSlice S4096x32 ![0, 0] a2 slices_S4096x64_S4096x32_0_0) a4))⟩] concatenates_S4096x32_S4096x32_S4096x64_d1)

/-- The scaled scores. -/
def h_v72 (a0 : (⟨S4096x3072, .f32⟩ : BufTy).Contents (Elt Ideal)) (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S16x4096x4096, .f32⟩ : BufTy).Contents (Elt Ideal) :=
  (mulf (F := Ideal) (φ := .f32) (addf (F := Ideal) (φ := .f32) (((fun l r => Host.dotGeneral (F := Ideal) (φ₁ := .f32) (φ₂ := .f32) dot_S4096x16x128_S4096x16x128_S16x4096x4096_2_2_0_0_1_1 none l r) : (⟨S4096x16x128, .f32⟩ : BufTy).Contents (Elt Ideal) → (⟨S4096x16x128, .f32⟩ : BufTy).Contents (Elt Ideal) → (⟨S16x4096x4096, .f32⟩ : BufTy).Contents (Elt Ideal)) (extractStridedSlice S4096x16x128 ![0, 0, 0] (shapeCast _ a0 shapeCasts_S4096x3072_S4096x16x192) slices_S4096x16x192_S4096x16x128_0_0_0) (extractStridedSlice S4096x16x128 ![0, 0, 0] (shapeCast _ a1 shapeCasts_S4096x4096_S4096x16x256) slices_S4096x16x256_S4096x16x128_0_0_0)) (transpose S16x4096x4096 [2, 1, 0] (((fun l r => Host.dotGeneral (F := Ideal) (φ₁ := .f32) (φ₂ := .f32) dot_S4096x64_S4096x16x64_S4096x4096x16_1_2_0_01_n_n none l r) : (⟨S4096x64, .f32⟩ : BufTy).Contents (Elt Ideal) → (⟨S4096x16x64, .f32⟩ : BufTy).Contents (Elt Ideal) → (⟨S4096x4096x16, .f32⟩ : BufTy).Contents (Elt Ideal)) (h_v64  a2 a3 a4) (h_v55  a0 a3 a4)) transposes_S4096x4096x16_S16x4096x4096_2_1_0)) (broadcastInDim S16x4096x4096 ![] bcast_S_S16x4096x4096 (Host.divf (F := Ideal) (φ := .f32) ((constant (F := Ideal) S_ .f32 0x3F800000#32) : (⟨S_, .f32⟩ : BufTy).Contents (Elt Ideal)) (Host.sqrt (F := Ideal) (φ := .f32) ((constant (F := Ideal) S_ .f32 0x43400000#32) : (⟨S_, .f32⟩ : BufTy).Contents (Elt Ideal)))) : (⟨S16x4096x4096, .f32⟩ : BufTy).Contents (Elt Ideal)))

/-- The greatest score of each row. -/
def h_v73 (a0 : (⟨S4096x3072, .f32⟩ : BufTy).Contents (Elt Ideal)) (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S16x4096, .f32⟩ : BufTy).Contents (Elt Ideal) :=
  (Host.reduce (FloatOps.maximumf (F := Ideal) (φ := .f32)) (h_v72  a0 a1 a2 a3 a4) ((constant (F := Ideal) S_ .f32 0xFF800000#32) : (⟨S_, .f32⟩ : BufTy).Contents (Elt Ideal)) reducesTo_S16x4096x4096_S16x4096_d2 h_S_)

/-- The exponentials of the scores less their row's greatest. -/
def h_v77 (a0 : (⟨S4096x3072, .f32⟩ : BufTy).Contents (Elt Ideal)) (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S16x4096x4096, .f32⟩ : BufTy).Contents (Elt Ideal) :=
  (Host.exp (F := Ideal) (φ := .f32) (subf (F := Ideal) (φ := .f32) (h_v72  a0 a1 a2 a3 a4) (broadcastInDim S16x4096x4096 ![0, 1, 2] bcast_S16x4096x1_S16x4096x4096_0_1_2 (broadcastInDim S16x4096x1 ![0, 1] bcast_S16x4096_S16x4096x1_0_1 (h_v73  a0 a1 a2 a3 a4) : (⟨S16x4096x1, .f32⟩ : BufTy).Contents (Elt Ideal)) : (⟨S16x4096x4096, .f32⟩ : BufTy).Contents (Elt Ideal))))

/-- Their row sums. -/
def h_v78 (a0 : (⟨S4096x3072, .f32⟩ : BufTy).Contents (Elt Ideal)) (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S16x4096, .f32⟩ : BufTy).Contents (Elt Ideal) :=
  (Host.reduceAdd (F := Ideal) (h_v77  a0 a1 a2 a3 a4) ((constant (F := Ideal) S_ .f32 0x00000000#32) : (⟨S_, .f32⟩ : BufTy).Contents (Elt Ideal)) reducesTo_S16x4096x4096_S16x4096_d2 h_S_)

/-- The attention's output. -/
def h_v96 (a0 : (⟨S4096x3072, .f32⟩ : BufTy).Contents (Elt Ideal)) (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S4096x2048, .f32⟩ : BufTy).Contents (Elt Ideal) :=
  (shapeCast _ (transpose S4096x16x128 [2, 0, 1] (((fun l r => Host.dotGeneral (F := Ideal) (φ₁ := .f32) (φ₂ := .f32) dot_S4096x16x128_S16x4096x4096_S16x128x4096_0_2_2_1_1_0 none l r) : (⟨S4096x16x128, .f32⟩ : BufTy).Contents (Elt Ideal) → (⟨S16x4096x4096, .f32⟩ : BufTy).Contents (Elt Ideal) → (⟨S16x128x4096, .f32⟩ : BufTy).Contents (Elt Ideal)) (extractStridedSlice S4096x16x128 ![0, 0, 128] (shapeCast _ a1 shapeCasts_S4096x4096_S4096x16x256) slices_S4096x16x256_S4096x16x128_0_0_128) (Host.divf (F := Ideal) (φ := .f32) (Host.exp (F := Ideal) (φ := .f32) (subf (F := Ideal) (φ := .f32) (h_v72  a0 a1 a2 a3 a4) (broadcastInDim S16x4096x4096 ![0, 1, 2] bcast_S16x4096x1_S16x4096x4096_0_1_2 (broadcastInDim S16x4096x1 ![0, 1] bcast_S16x4096_S16x4096x1_0_1 (h_v73  a0 a1 a2 a3 a4) : (⟨S16x4096x1, .f32⟩ : BufTy).Contents (Elt Ideal)) : (⟨S16x4096x4096, .f32⟩ : BufTy).Contents (Elt Ideal)))) (broadcastInDim S16x4096x4096 ![0, 1, 2] bcast_S16x4096x1_S16x4096x4096_0_1_2 (broadcastInDim S16x4096x1 ![0, 1] bcast_S16x4096_S16x4096x1_0_1 (h_v78  a0 a1 a2 a3 a4) : (⟨S16x4096x1, .f32⟩ : BufTy).Contents (Elt Ideal)) : (⟨S16x4096x4096, .f32⟩ : BufTy).Contents (Elt Ideal)))) transposes_S16x128x4096_S4096x16x128_2_0_1) shapeCasts_S4096x16x128_S4096x2048)

/-- The output's gradient. -/
def h_v97 (a5 : (⟨S4096x2048, .f32⟩ : BufTy).Contents (Elt Ideal)) : (⟨S4096x2048, .bf16⟩ : BufTy).Contents (Elt Ideal) :=
  (truncf (F := Ideal) .bf16 a5 bitsLt_bf16_f32)

/-- The base-2 logarithm of each row's sum of exponentials. -/
def h_v98 (a0 : (⟨S4096x3072, .f32⟩ : BufTy).Contents (Elt Ideal)) (a1 : (⟨S4096x4096, .f32⟩ : BufTy).Contents (Elt Ideal)) (a2 : (⟨S4096x64, .f32⟩ : BufTy).Contents (Elt Ideal)) (a3 : (⟨S4096x32, .f32⟩ : BufTy).Contents (Elt Ideal)) (a4 : (⟨S4096x32, .f32⟩ : BufTy).Contents (Elt Ideal)) : (⟨S16x1x4096, .f32⟩ : BufTy).Contents (Elt Ideal) :=
  (shapeCast _ (mulf (F := Ideal) (φ := .f32) (addf (F := Ideal) (φ := .f32) (h_v73  a0 a1 a2 a3 a4) (Host.log (F := Ideal) (φ := .f32) (h_v78  a0 a1 a2 a3 a4))) (broadcastInDim S16x4096 ![] bcast_S_S16x4096 (Host.divf (F := Ideal) (φ := .f32) ((constant (F := Ideal) S_ .f32 0x3F800000#32) : (⟨S_, .f32⟩ : BufTy).Contents (Elt Ideal)) (Host.log (F := Ideal) (φ := .f32) ((constant (F := Ideal) S_ .f32 0x40000000#32) : (⟨S_, .f32⟩ : BufTy).Contents (Elt Ideal)))) : (⟨S16x4096, .f32⟩ : BufTy).Contents (Elt Ideal))) shapeCasts_S16x4096_S16x1x4096)

end Cert.KernelIdeal.Val

end
-- ==== Proof.Entry.lean ====
/- What the buffers the kernel reads hold when it starts. -/
module

public import proofs.«01_k».proof.Proof.HostTerms
public import Idealize.ShloMosaic.Lib.StableHlo.RunRead

@[expose] public section

set_option maxRecDepth 16384

noncomputable section

namespace Cert.KernelIdeal.Val

open Idealize.ShloMosaic Idealize.ShloMosaic.TcCoe Idealize.SL Cert.KernelIdeal.Gen

variable (m : (ℓ : Loc nD τ sig) → Buf (Elt Ideal) ℓ)

set_option maxHeartbeats 4000000

theorem V_v1 (c : Dev nD) : V m c main_v1 = h_v1 (m ((c : Thread nD τ).loc main_arg3)) := by
  simp only [V, V0, List.flatten_cons, List.flatten_nil, List.append_nil]
  after_results
  rfl

theorem V_v2 (c : Dev nD) : V m c main_v2 = h_v2 (m ((c : Thread nD τ).loc main_arg4)) := by
  simp only [V, V0, List.flatten_cons, List.flatten_nil, List.append_nil]
  after_results
  rfl

theorem V_v13 (c : Dev nD) : V m c main_v13 = h_v13 (m ((c : Thread nD τ).loc main_arg0)) := by
  simp only [V, V0, List.flatten_cons, List.flatten_nil, List.append_nil]
  after_results
  rfl

theorem V_v30 (c : Dev nD) : V m c main_v30 = h_v30 (m ((c : Thread nD τ).loc main_arg1)) (m ((c : Thread nD τ).loc main_arg2)) (m ((c : Thread nD τ).loc main_arg3)) (m ((c : Thread nD τ).loc main_arg4)) := by
  simp only [V, V0, List.flatten_cons, List.flatten_nil, List.append_nil]
  after_results
  rfl

theorem V_v35 (c : Dev nD) : V m c main_v35 = h_v35 (m ((c : Thread nD τ).loc main_arg1)) := by
  simp only [V, V0, List.flatten_cons, List.flatten_nil, List.append_nil]
  after_results
  rfl

theorem V_v96 (c : Dev nD) : V m c main_v96 = h_v96 (m ((c : Thread nD τ).loc main_arg0)) (m ((c : Thread nD τ).loc main_arg1)) (m ((c : Thread nD τ).loc main_arg2)) (m ((c : Thread nD τ).loc main_arg3)) (m ((c : Thread nD τ).loc main_arg4)) := by
  simp only [V, V0, List.flatten_cons, List.flatten_nil, List.append_nil]
  after_results
  rfl

theorem V_v97 (c : Dev nD) : V m c main_v97 = h_v97 (m ((c : Thread nD τ).loc main_arg5)) := by
  simp only [V, V0, List.flatten_cons, List.flatten_nil, List.append_nil]
  after_results
  rfl

theorem V_v98 (c : Dev nD) : V m c main_v98 = h_v98 (m ((c : Thread nD τ).loc main_arg0)) (m ((c : Thread nD τ).loc main_arg1)) (m ((c : Thread nD τ).loc main_arg2)) (m ((c : Thread nD τ).loc main_arg3)) (m ((c : Thread nD τ).loc main_arg4)) := by
  simp only [V, V0, List.flatten_cons, List.flatten_nil, List.append_nil]
  after_results
  rfl

end Cert.KernelIdeal.Val

end
-- ==== Proof.Spec.lean ====
/- The attention's gradient in real numbers, and the few facts that carry it to the extended reals.

   `I` holds one device's six arguments as real functions. Heads are `h`, query rows `i`, key rows `j`; `qn`, `kn` are
   the plain halves of the queries and keys, `qro`, `kro` the rotated ones. `P` is the probability, `DS` the gradient of
   the scaled score, and `dq`, `dkv`, `dkr` the three results. -/
module

public import Idealize.ShloMosaic.Lib.Pointwise

@[expose] public section

noncomputable section

namespace Cert.Spec

open Idealize.ShloMosaic

/-- One device's arguments. -/
structure In where
  q : Fin 4096 → Fin 3072 → ℝ
  kv : Fin 4096 → Fin 4096 → ℝ
  kr : Fin 4096 → Fin 64 → ℝ
  cs : Fin 4096 → Fin 32 → ℝ
  sn : Fin 4096 → Fin 32 → ℝ
  g : Fin 4096 → Fin 2048 → ℝ

/-- A real matrix as an array of extended reals. -/
def arr {a b : ℕ} (f : Fin a → Fin b → ℝ) : Vec Ideal (⟨2, ![a, b]⟩ : Shape) .f32 := fun i => ((f (i 0) (i 1) : ℝ) : EReal)

theorem arr_ix2 {a b : ℕ} (f : Fin a → Fin b → ℝ) (i : Fin a) (j : Fin b) : arr f (ix2 i j) = ((f i j : ℝ) : EReal) := rfl

/-- Rotation by the angles of one row. -/
def rope (c s : Fin 32 → ℝ) (x : Fin 64 → ℝ) (e : Fin 64) : ℝ :=
  if h : e.val < 32 then x ⟨e.val, by omega⟩ * c ⟨e.val, h⟩ - x ⟨32 + e.val, by omega⟩ * s ⟨e.val, h⟩
  else x ⟨e.val, by omega⟩ * c ⟨e.val - 32, by omega⟩ + x ⟨e.val - 32, by omega⟩ * s ⟨e.val - 32, by omega⟩

/-- Rotation back: the adjoint of `rope`. -/
def ropeT (c s : Fin 32 → ℝ) (y : Fin 64 → ℝ) (e : Fin 64) : ℝ :=
  if h : e.val < 32 then y ⟨e.val, by omega⟩ * c ⟨e.val, h⟩ + y ⟨32 + e.val, by omega⟩ * s ⟨e.val, h⟩
  else y ⟨e.val, by omega⟩ * c ⟨e.val - 32, by omega⟩ - y ⟨e.val - 32, by omega⟩ * s ⟨e.val - 32, by omega⟩

/-- The scale of the scores. -/
def c : ℝ := (Real.sqrt 192)⁻¹

variable (I : In)

def qn (h : Fin 16) (i : Fin 4096) (d : Fin 128) : ℝ := I.q i ⟨h.val * 192 + d.val, by omega⟩
def qr (h : Fin 16) (i : Fin 4096) (e : Fin 64) : ℝ := I.q i ⟨h.val * 192 + (128 + e.val), by omega⟩
def kn (h : Fin 16) (j : Fin 4096) (d : Fin 128) : ℝ := I.kv j ⟨h.val * 256 + d.val, by omega⟩
def v (h : Fin 16) (j : Fin 4096) (d : Fin 128) : ℝ := I.kv j ⟨h.val * 256 + (128 + d.val), by omega⟩
def gh (h : Fin 16) (i : Fin 4096) (d : Fin 128) : ℝ := I.g i ⟨h.val * 128 + d.val, by omega⟩
def qro (h : Fin 16) (i : Fin 4096) : Fin 64 → ℝ := rope (I.cs i) (I.sn i) (qr I h i)
def kro (j : Fin 4096) : Fin 64 → ℝ := rope (I.cs j) (I.sn j) (I.kr j)

/-- The scaled score of query `i` and key `j`. -/
def s (h : Fin 16) (i j : Fin 4096) : ℝ :=
  (∑ d : Fin 128, qn I h i d * kn I h j d + ∑ e : Fin 64, kro I j e * qro I h i e) * c
/-- The sum of the row's exponentials. -/
def Z (h : Fin 16) (i : Fin 4096) : ℝ := ∑ j : Fin 4096, Real.exp (s I h i j)
/-- The probability. -/
def P (h : Fin 16) (i j : Fin 4096) : ℝ := Real.exp (s I h i j) / Z I h i
/-- The gradient of the probability. -/
def dp (h : Fin 16) (i j : Fin 4096) : ℝ := ∑ d : Fin 128, v I h j d * gh I h i d
/-- The attention's output. -/
def o (h : Fin 16) (i : Fin 4096) (d : Fin 128) : ℝ := ∑ j : Fin 4096, v I h j d * P I h i j
/-- The row's mean probability gradient. -/
def Dl (h : Fin 16) (i : Fin 4096) : ℝ := ∑ j : Fin 4096, P I h i j * dp I h i j
/-- The gradient of the scaled score. -/
def DS (h : Fin 16) (i j : Fin 4096) : ℝ := P I h i j * (dp I h i j - Dl I h i)

def dv (h : Fin 16) (j : Fin 4096) (d : Fin 128) : ℝ := ∑ i : Fin 4096, P I h i j * gh I h i d
def dkn (h : Fin 16) (j : Fin 4096) (d : Fin 128) : ℝ := (∑ i : Fin 4096, DS I h i j * qn I h i d) * c
def dkro (j : Fin 4096) (e : Fin 64) : ℝ := ∑ h : Fin 16, (∑ i : Fin 4096, DS I h i j * qro I h i e) * c
def dqn (h : Fin 16) (i : Fin 4096) (d : Fin 128) : ℝ := (∑ j : Fin 4096, DS I h i j * kn I h j d) * c
def dqro (h : Fin 16) (i : Fin 4096) (e : Fin 64) : ℝ := (∑ j : Fin 4096, DS I h i j * kro I j e) * c

/-- The gradient of one head's query row. -/
def dqh (h : Fin 16) (i : Fin 4096) (y : Fin 192) : ℝ :=
  if hy : y.val < 128 then dqn I h i ⟨y.val, hy⟩ else ropeT (I.cs i) (I.sn i) (dqro I h i) ⟨y.val - 128, by omega⟩
/-- The gradient of one head's key and value row. -/
def dkvh (h : Fin 16) (j : Fin 4096) (y : Fin 256) : ℝ :=
  if hy : y.val < 128 then dkn I h j ⟨y.val, hy⟩ else dv I h j ⟨y.val - 128, by omega⟩

/-- The gradient of the queries. -/
def dq (i : Fin 4096) (y : Fin 3072) : ℝ := dqh I ⟨y.val / 192, by omega⟩ i ⟨y.val % 192, by omega⟩
/-- The gradient of the keys and values. -/
def dkv (j : Fin 4096) (y : Fin 4096) : ℝ := dkvh I ⟨y.val / 256, by omega⟩ j ⟨y.val % 256, by omega⟩
/-- The gradient of the rotary key. -/
def dkr (j : Fin 4096) (e : Fin 64) : ℝ := ropeT (I.cs j) (I.sn j) (dkro I j) e

/-! ### Facts about these numbers -/

theorem Z_pos (h : Fin 16) (i : Fin 4096) : 0 < Z I h i :=
  Finset.sum_pos (fun j _ => Real.exp_pos _) ⟨0, Finset.mem_univ _⟩

/-- The row's mean probability gradient, taken from the output. -/
theorem Dl_eq (h : Fin 16) (i : Fin 4096) : ∑ d : Fin 128, gh I h i d * o I h i d = Dl I h i := by
  unfold Dl o dp
  simp only [Finset.mul_sum]
  rw [Finset.sum_comm]
  exact Finset.sum_congr rfl fun j _ => Finset.sum_congr rfl fun d _ => by ring

/-- The probability from the row's base-2 logarithm. -/
theorem P_eq (h : Fin 16) (i j : Fin 4096) (x : ℝ) (hx : x = s I h i j * (Real.log 2)⁻¹) :
    Real.rpow 2 (x - Real.log (Z I h i) * (Real.log 2)⁻¹) = P I h i j := by
  have h2 : Real.log 2 ≠ 0 := (Real.log_pos one_lt_two).ne'
  rw [hx, ← sub_mul]
  refine (Real.rpow_def_of_pos two_pos _).trans ?_
  rw [mul_comm (_ - _), ← mul_assoc, mul_inv_cancel₀ h2, one_mul, Real.exp_sub, Real.exp_log (Z_pos I h i)]
  rfl

/-- The softmax of a row shifted by any number is the softmax. -/
theorem shift_sum (h : Fin 16) (i : Fin 4096) (M : ℝ) : ∑ j : Fin 4096, Real.exp (s I h i j - M) = Z I h i / Real.exp M := by
  simp only [Real.exp_sub, Z, Finset.sum_div]

theorem shift_P (h : Fin 16) (i j : Fin 4096) (M : ℝ) : Real.exp (s I h i j - M) / (Z I h i / Real.exp M) = P I h i j := by
  have := (Real.exp_pos M).ne'
  have := (Z_pos I h i).ne'
  rw [Real.exp_sub, P]
  field_simp

theorem shift_log (h : Fin 16) (i : Fin 4096) (M : ℝ) : M + Real.log (Z I h i / Real.exp M) = Real.log (Z I h i) := by
  rw [Real.log_div (Z_pos I h i).ne' (Real.exp_pos M).ne', Real.log_exp]
  ring

/-! ### Real numbers among the extended ones -/

/-- A sum of reals is real. -/
theorem coe_sum {ι : Type*} (t : Finset ι) (f : ι → ℝ) : ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The greatest of finitely many reals, started from −∞, is real. -/
theorem fold_max_coe (f : Fin 4096 → ℝ) : ∃ M : ℝ, Finset.univ.fold max (⊥ : EReal) (fun k => ((f k : ℝ) : EReal)) = (M : EReal) := by
  suffices ∀ t : Finset (Fin 4096), t.Nonempty → ∃ M : ℝ, t.fold max (⊥ : EReal) (fun k => ((f k : ℝ) : EReal)) = (M : EReal) from
    this _ ⟨0, Finset.mem_univ _⟩
  intro t ht
  classical
  induction ht using Finset.Nonempty.cons_induction with
  | singleton a => exact ⟨f a, by simp⟩
  | cons a t ha _ ih =>
    obtain ⟨M, hM⟩ := ih
    exact ⟨max (f a) M, by rw [Finset.fold_cons, hM]; exact (EReal.coe_strictMono.monotone.map_max).symm⟩

/-- A sum over 128 columns of which the last 64 hold nothing. -/
theorem sum_pad (f : Fin 128 → ℝ) (k : Fin 64 → ℝ) (h : ∀ d : Fin 128, f d = if hd : d.val < 64 then k ⟨d.val, hd⟩ else 0) :
    ∑ d, f d = ∑ e, k e := by
  refine (Fin.sum_univ_add (a := 64) (b := 64) f).trans ?_
  rw [Finset.sum_eq_zero (s := Finset.univ) (f := fun i : Fin 64 => f (Fin.natAdd 64 i)), add_zero]
  · exact Finset.sum_congr rfl fun e _ => by rw [h]; exact dif_pos e.isLt
  · intro e _
    rw [h]
    exact dif_neg (by simp)

end Cert.Spec

end
-- ==== Proof.HostRead.lean ====
/- The arrays the host code prepares, read element by element for real arguments.

   `csP`, `snP`, `qroP`, `kroP` are the doubled and padded angles and the padded rotated rows. -/
module

public import proofs.«01_k».proof.Proof.HostTerms
public import proofs.«01_k».proof.Proof.Spec

@[expose] public section

set_option maxRecDepth 16384

noncomputable section

namespace Cert.KernelIdeal.Val

open Idealize.ShloMosaic Idealize.ShloMosaic.TcCoe Idealize.SL Cert.Spec Cert.KernelIdeal.Gen

/-- A row of 32 angles twice over, then nothing. -/
def padP (a : Fin 32 → ℝ) (d : Fin 128) : ℝ :=
  if h : d.val < 32 then a ⟨d.val, h⟩ else if h : d.val - 32 < 32 then a ⟨d.val - 32, h⟩ else 0
/-- A row of 64 columns, then nothing. -/
def pad64 (a : Fin 64 → ℝ) (d : Fin 128) : ℝ := if h : d.val < 64 then a ⟨d.val, h⟩ else 0

variable (I : In)

theorem v1_at (i : Fin 4096) (d : Fin 128) : h_v1 (arr I.cs) (ix2 i d) = ((padP (I.cs i) d : ℝ) : EReal) := by
  refine Eq.trans (b := if h : d.val < 32 then arr I.cs (ix2 i ⟨d.val, h⟩) else if h : d.val - 32 < 32 then arr I.cs (ix2 i ⟨d.val - 32, h⟩) else 0) ?_ ?_
  · pointwise [h_v1]
  · unfold padP; split_ifs <;> rfl

theorem v2_at (i : Fin 4096) (d : Fin 128) : h_v2 (arr I.sn) (ix2 i d) = ((padP (I.sn i) d : ℝ) : EReal) := by
  refine Eq.trans (b := if h : d.val < 32 then arr I.sn (ix2 i ⟨d.val, h⟩) else if h : d.val - 32 < 32 then arr I.sn (ix2 i ⟨d.val - 32, h⟩) else 0) ?_ ?_
  · pointwise [h_v2]
  · unfold padP; split_ifs <;> rfl

theorem v13_at (h : Fin 16) (i : Fin 4096) (d : Fin 384) : h_v13 (arr I.q) (ix2 i ⟨h.val * 384 + d.val, by omega⟩)
    = if h_1 : d.val < 128 then arr I.q (ix2 i ⟨h.val * 192 + d.val, by omega⟩)
      else if h_2 : d.val - 128 < 64 then arr I.q (ix2 i ⟨h.val * 192 + (128 + (d.val - 128)), by omega⟩)
      else if _h : d.val - 128 - 64 < 64 then 0
      else if h_3 : d.val - 128 - 64 - 64 < 64 then
        if h_4 : d.val - 128 - 64 - 64 < 32 then - arr I.q (ix2 i ⟨h.val * 192 + (128 + (32 + (d.val - 128 - 64 - 64))), by omega⟩)
        else arr I.q (ix2 i ⟨h.val * 192 + (128 + (d.val - 128 - 64 - 64 - 32)), by omega⟩)
      else 0 := by
  pointwise [h_v13]

/-- The plain columns of the query row. -/
theorem q_nope (h : Fin 16) (i : Fin 4096) (d : Fin 128) (k : Fin 6144) (hk : k.val = h.val * 384 + d.val) :
    h_v13 (arr I.q) (ix2 i k) = ((qn I h i d : ℝ) : EReal) := by
  obtain rfl : k = ⟨h.val * 384 + d.val, by clear hk; omega⟩ := Fin.ext hk
  rw [v13_at I h i ⟨d.val, by omega⟩]
  simp (disch := omega) only [dif_pos]
  rfl

/-- The rotated columns of the query row, as the kernel makes them. -/
theorem q_rot (h : Fin 16) (i : Fin 4096) (d : Fin 128) (k k' : Fin 6144) (hk : k.val = h.val * 384 + (128 + d.val))
    (hk' : k'.val = h.val * 384 + (256 + d.val)) :
    h_v13 (arr I.q) (ix2 i k) * h_v1 (arr I.cs) (ix2 i d) + h_v13 (arr I.q) (ix2 i k') * h_v2 (arr I.sn) (ix2 i d)
      = ((pad64 (qro I h i) d : ℝ) : EReal) := by
  obtain rfl : k = ⟨h.val * 384 + (128 + d.val), by clear hk; omega⟩ := Fin.ext hk
  obtain rfl : k' = ⟨h.val * 384 + (256 + d.val), by clear hk hk'; omega⟩ := Fin.ext hk'
  rw [v13_at I h i ⟨128 + d.val, by omega⟩, v13_at I h i ⟨256 + d.val, by omega⟩, v1_at, v2_at]
  unfold padP pad64 qro rope qr
  rcases Nat.lt_or_ge d.val 32 with h1 | h1
  · simp (disch := omega) only [dif_pos, dif_neg, if_pos, if_neg, Nat.sub_sub, Nat.reduceAdd, Nat.add_sub_cancel_left, arr_ix2]
    rw [← EReal.coe_neg, ← EReal.coe_mul, ← EReal.coe_mul, ← EReal.coe_add]
    exact congrArg _ (by ring)
  · rcases Nat.lt_or_ge d.val 64 with h2 | h2
    · simp (disch := omega) only [dif_pos, dif_neg, if_pos, if_neg, Nat.sub_sub, Nat.reduceAdd, Nat.add_sub_cancel_left, arr_ix2]
      rw [← EReal.coe_mul, ← EReal.coe_mul, ← EReal.coe_add]
    · simp (disch := omega) only [dif_pos, dif_neg, if_pos, if_neg, Nat.sub_sub, Nat.reduceAdd, Nat.add_sub_cancel_left, arr_ix2]
      simp

theorem v23_at (j : Fin 4096) (d : Fin 128) : h_v23 (arr I.kr) (arr I.cs) (arr I.sn) (ix2 j d) = ((pad64 (kro I j) d : ℝ) : EReal) := by
  refine Eq.trans (b := (if h : d.val < 64 then arr I.kr (ix2 j ⟨d.val, by omega⟩)
        else if _h : d.val - 64 < 64 then 0
        else if h : d.val - 64 - 64 < 64 then
          if h_1 : d.val - 64 - 64 < 32 then -arr I.kr (ix2 j ⟨32 + (d.val - 64 - 64), by omega⟩)
          else arr I.kr (ix2 j ⟨d.val - 64 - 64 - 32, by omega⟩)
        else 0) * h_v1 (arr I.cs) (ix2 j d)
      + (if h : 128 + d.val < 64 then arr I.kr (ix2 j ⟨128 + d.val, by omega⟩)
        else if _h : 128 + d.val - 64 < 64 then 0
        else if h : 128 + d.val - 64 - 64 < 64 then
          if h_1 : 128 + d.val - 64 - 64 < 32 then -arr I.kr (ix2 j ⟨32 + (128 + d.val - 64 - 64), by omega⟩)
          else arr I.kr (ix2 j ⟨128 + d.val - 64 - 64 - 32, by omega⟩)
        else 0) * h_v2 (arr I.sn) (ix2 j d)) ?_ ?_
  · pointwise [h_v23]
  rw [v1_at, v2_at]
  unfold padP pad64 kro rope
  rcases Nat.lt_or_ge d.val 32 with h1 | h1
  · simp (disch := omega) only [dif_pos, dif_neg, if_pos, if_neg, Nat.sub_sub, Nat.reduceAdd, Nat.add_sub_cancel_left, arr_ix2]
    rw [← EReal.coe_neg, ← EReal.coe_mul, ← EReal.coe_mul, ← EReal.coe_add]
    exact congrArg _ (by ring)
  · rcases Nat.lt_or_ge d.val 64 with h2 | h2
    · simp (disch := omega) only [dif_pos, dif_neg, if_pos, if_neg, Nat.sub_sub, Nat.reduceAdd, Nat.add_sub_cancel_left, arr_ix2]
      rw [← EReal.coe_mul, ← EReal.coe_mul, ← EReal.coe_add]
    · simp (disch := omega) only [dif_pos, dif_neg, if_pos, if_neg, Nat.sub_sub, Nat.reduceAdd, Nat.add_sub_cancel_left, arr_ix2]
      simp

/-- The plain columns of the key row. -/
theorem k_nope (h : Fin 16) (j : Fin 4096) (d : Fin 128) :
    h_v30 (arr I.kv) (arr I.kr) (arr I.cs) (arr I.sn) (ix3 h j ⟨d.val, by omega⟩) = ((kn I h j d : ℝ) : EReal) := by
  refine Eq.trans (b := arr I.kv (ix2 j ⟨h.val * 256 + d.val, by omega⟩)) ?_ rfl
  pointwise [h_v30]
  all_goals first | omega | (simp (disch := omega) only [dif_pos])

/-- The rotated columns of the key row. -/
theorem k_rot (h : Fin 16) (j : Fin 4096) (d : Fin 128) :
    h_v30 (arr I.kv) (arr I.kr) (arr I.cs) (arr I.sn) (ix3 h j ⟨128 + d.val, by omega⟩) = ((pad64 (kro I j) d : ℝ) : EReal) := by
  refine Eq.trans (b := h_v23 (arr I.kr) (arr I.cs) (arr I.sn) (ix2 j d)) ?_ (v23_at I j d)
  pointwise [h_v30]
  all_goals first | omega | (simp (disch := omega) only [dif_neg, Nat.add_sub_cancel_left])

/-- The value row. -/
theorem v_at (h : Fin 16) (j : Fin 4096) (d : Fin 128) :
    h_v35 (arr I.kv) (ix3 h j ⟨d.val, by omega⟩) = ((v I h j d : ℝ) : EReal) := by
  refine Eq.trans (b := arr I.kv (ix2 j ⟨h.val * 256 + (128 + d.val), by omega⟩)) ?_ rfl
  pointwise [h_v35]
  all_goals first | omega | (simp (disch := omega) only [dif_pos])

/-- The output's gradient. -/
theorem g_at (h : Fin 16) (i : Fin 4096) (d : Fin 128) (k : Fin 2048) (hk : k.val = h.val * 128 + d.val) :
    h_v97 (arr I.g) (ix2 i k) = ((gh I h i d : ℝ) : EReal) := by
  obtain rfl : k = ⟨h.val * 128 + d.val, by clear hk; omega⟩ := Fin.ext hk
  refine Eq.trans (b := arr I.g (ix2 i ⟨h.val * 128 + d.val, by omega⟩)) ?_ rfl
  pointwise [h_v97]

end Cert.KernelIdeal.Val

end
-- ==== Proof.Consts.lean ====
/- The programs' constants as numbers, and the scale both programs compute from them. -/
module

public import Idealize.ShloMosaic.Lib.Pointwise
public import Idealize.ShloMosaic.Lib.IdealHost
public import proofs.«01_k».proof.Proof.Spec

@[expose] public section

noncomputable section

namespace Cert.Spec

open Idealize.ShloMosaic

theorem ofBits_192 : Ideal.ofBits .f32 0x43400000#32 = ((192 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_neg_inf : Ideal.ofBits .f32 0xFF800000#32 = ⊥ := by
  simp [Ideal.ofBits, Ideal.ieee, -EReal.coe_mul]

/-- The scale as both programs compute it on the host. -/
theorem scale_host : Ideal.div 1 (Ideal.sqrt (Ideal.ofBits .f32 0x43400000#32)) = ((c : ℝ) : EReal) := by
  have h : ¬ (192 : ℝ) < 0 := by norm_num
  have h' : Real.sqrt 192 ≠ 0 := (Real.sqrt_pos.mpr (by norm_num)).ne'
  rw [ofBits_192, Ideal.sqrt_coe, if_neg h, Ideal.div_coe h', one_mul, one_div]
  rfl

/-- One over the logarithm of two, as the host computes it. -/
theorem log2_host : Ideal.div 1 (Ideal.log (Ideal.ofBits .f32 0x40000000#32)) = (((Real.log 2)⁻¹ : ℝ) : EReal) := by
  have h : ¬ (2 : ℝ) ≤ 0 := by norm_num
  have h' : Real.log 2 ≠ 0 := (Real.log_pos one_lt_two).ne'
  rw [ofBits_2, Ideal.log_coe, if_neg h, Ideal.div_coe h', one_mul, one_div]

end Cert.Spec

end
-- ==== Proof.HostSoft.lean ====
/- The scores, their softmax, the output and the row logarithms of the host code, for real arguments. -/
module

public import proofs.«01_k».proof.Proof.HostRead
public import proofs.«01_k».proof.Proof.Consts

@[expose] public section

set_option maxRecDepth 16384

noncomputable section

namespace Cert.KernelIdeal.Val

open Idealize.ShloMosaic Idealize.ShloMosaic.TcCoe Idealize.SL Cert.Spec Cert.KernelIdeal.Gen

variable (I : In)

theorem v64_at (j : Fin 4096) (e : Fin 64) : h_v64 (arr I.kr) (arr I.cs) (arr I.sn) (ix2 j e) = ((kro I j e : ℝ) : EReal) := by
  refine Eq.trans (b := if h : e.val < 32 then
      arr I.kr (ix2 j ⟨e.val, by omega⟩) * arr I.cs (ix2 j ⟨e.val, h⟩) - arr I.kr (ix2 j ⟨32 + e.val, by omega⟩) * arr I.sn (ix2 j ⟨e.val, h⟩)
    else arr I.kr (ix2 j ⟨32 + (e.val - 32), by omega⟩) * arr I.cs (ix2 j ⟨e.val - 32, by omega⟩)
      + arr I.kr (ix2 j ⟨e.val - 32, by omega⟩) * arr I.sn (ix2 j ⟨e.val - 32, by omega⟩)) ?_ ?_
  · pointwise [h_v64]
  · unfold kro rope
    rcases Nat.lt_or_ge e.val 32 with h1 | h1
    · simp (disch := omega) only [dif_pos, arr_ix2]; rfl
    · simp (disch := omega) only [dif_neg, arr_ix2, Nat.add_sub_cancel']; rfl

theorem v55_at (h : Fin 16) (i : Fin 4096) (e : Fin 64) : h_v55 (arr I.q) (arr I.cs) (arr I.sn) (ix3 i h e) = ((qro I h i e : ℝ) : EReal) := by
  refine Eq.trans (b := if h_1 : e.val < 32 then
      arr I.q (ix2 i ⟨h.val * 192 + (128 + e.val), by omega⟩) * arr I.cs (ix2 i ⟨e.val, by omega⟩)
        - arr I.q (ix2 i ⟨h.val * 192 + (128 + (32 + e.val)), by omega⟩) * arr I.sn (ix2 i ⟨e.val, by omega⟩)
    else arr I.q (ix2 i ⟨h.val * 192 + (128 + (32 + (e.val - 32))), by omega⟩) * arr I.cs (ix2 i ⟨e.val - 32, by omega⟩)
      + arr I.q (ix2 i ⟨h.val * 192 + (128 + (e.val - 32)), by omega⟩) * arr I.sn (ix2 i ⟨e.val - 32, by omega⟩)) ?_ ?_
  · pointwise [h_v55]
  · unfold qro rope qr
    rcases Nat.lt_or_ge e.val 32 with h1 | h1
    · simp (disch := omega) only [dif_pos, arr_ix2]; rfl
    · simp (disch := omega) only [dif_neg, arr_ix2, Nat.add_sub_cancel']; rfl

/-- The scaled scores. -/
theorem v72_at (h : Fin 16) (i j : Fin 4096) :
    h_v72 (arr I.q) (arr I.kv) (arr I.kr) (arr I.cs) (arr I.sn) (ix3 h i j) = ((s I h i j : ℝ) : EReal) := by
  refine Eq.trans (b := (∑ x : Fin 128, arr I.q (ix2 i ⟨h.val * 192 + x.val, by omega⟩) * arr I.kv (ix2 j ⟨h.val * 256 + x.val, by omega⟩)
      + ∑ x : Fin 64, h_v64 (arr I.kr) (arr I.cs) (arr I.sn) (ix2 j x) * h_v55 (arr I.q) (arr I.cs) (arr I.sn) (ix3 i h x))
      * Ideal.div 1 (Ideal.sqrt (Ideal.ofBits FTy.f32 0x43400000#32))) ?_ ?_
  · pointwise [h_v72]
  · rw [scale_host]
    simp only [v64_at, v55_at, arr_ix2, s, EReal.coe_mul, EReal.coe_add, coe_sum]
    rfl

/-- The row's greatest score is a real number. -/
theorem v73_at (h : Fin 16) (i : Fin 4096) :
    ∃ M : ℝ, h_v73 (arr I.q) (arr I.kv) (arr I.kr) (arr I.cs) (arr I.sn) (ix2 h i) = (M : EReal) := by
  obtain ⟨M, hM⟩ := fold_max_coe (s I h i)
  refine ⟨M, Eq.trans ?_ hM⟩
  refine Eq.trans (b := Finset.fold max (Ideal.ofBits FTy.f32 0xFF800000#32)
    (fun x => h_v72 (arr I.q) (arr I.kv) (arr I.kr) (arr I.cs) (arr I.sn) (ix3 h i x)) Finset.univ) ?_ ?_
  · pointwise [h_v73]
  · rw [ofBits_neg_inf]
    simp only [v72_at]

theorem v77_at (h : Fin 16) (i j : Fin 4096) :
    h_v77 (arr I.q) (arr I.kv) (arr I.kr) (arr I.cs) (arr I.sn) (ix3 h i j)
      = Ideal.exp (h_v72 (arr I.q) (arr I.kv) (arr I.kr) (arr I.cs) (arr I.sn) (ix3 h i j)
        - h_v73 (arr I.q) (arr I.kv) (arr I.kr) (arr I.cs) (arr I.sn) (ix2 h i)) := by
  pointwise [h_v77]

theorem v78_at (h : Fin 16) (i : Fin 4096) (M : ℝ)
    (hM : h_v73 (arr I.q) (arr I.kv) (arr I.kr) (arr I.cs) (arr I.sn) (ix2 h i) = (M : EReal)) :
    h_v78 (arr I.q) (arr I.kv) (arr I.kr) (arr I.cs) (arr I.sn) (ix2 h i) = ((Z I h i / Real.exp M : ℝ) : EReal) := by
  refine Eq.trans (b := ∑ j : Fin 4096, h_v77 (arr I.q) (arr I.kv) (arr I.kr) (arr I.cs) (arr I.sn) (ix3 h i j)) ?_ ?_
  · pointwise [h_v78]
  · simp only [v77_at, hM, v72_at, ← EReal.coe_sub, Ideal.exp_coe]
    rw [← coe_sum, shift_sum]

theorem v98_form (a b : Vec Ideal S16x4096 .f32) (one two : Vec Ideal S_ .f32) (h : Fin 16) (i : Fin 4096) :
    (shapeCast S16x1x4096 (mulf (F := Ideal) (φ := .f32) (addf (F := Ideal) (φ := .f32) a (Host.log (F := Ideal) (φ := .f32) b))
      (broadcastInDim S16x4096 ![] bcast_S_S16x4096 (Host.divf (F := Ideal) (φ := .f32) one (Host.log (F := Ideal) (φ := .f32) two)))) shapeCasts_S16x4096_S16x1x4096) (ix3 h 0 i)
      = (a (ix2 h i) + Ideal.log (b (ix2 h i))) * Ideal.div (one ix0) (Ideal.log (two ix0)) := by
  pointwise

/-- The row's base-2 logarithm. -/
theorem v98_at (h : Fin 16) (i : Fin 4096) :
    h_v98 (arr I.q) (arr I.kv) (arr I.kr) (arr I.cs) (arr I.sn) (ix3 h 0 i) = ((Real.log (Z I h i) * (Real.log 2)⁻¹ : ℝ) : EReal) := by
  obtain ⟨M, hM⟩ := v73_at I h i
  refine (v98_form (h_v73 (arr I.q) (arr I.kv) (arr I.kr) (arr I.cs) (arr I.sn)) (h_v78 (arr I.q) (arr I.kv) (arr I.kr) (arr I.cs) (arr I.sn))
    (constant (F := Ideal) S_ .f32 0x3F800000#32) (constant (F := Ideal) S_ .f32 0x40000000#32) h i).trans ?_
  have hc : Ideal.div (constant (F := Ideal) S_ .f32 0x3F800000#32 ix0) (Ideal.log (constant (F := Ideal) S_ .f32 0x40000000#32 ix0))
      = (((Real.log 2)⁻¹ : ℝ) : EReal) := (congrArg (fun x => Ideal.div x _) Ideal.ofBits_one_f32).trans log2_host
  have hp : ¬ Z I h i / Real.exp M ≤ 0 := not_le.mpr (div_pos (Z_pos I h i) (Real.exp_pos M))
  rw [hc, v78_at I h i M hM, hM, Ideal.log_coe, if_neg hp, ← EReal.coe_add, shift_log, ← EReal.coe_mul]

/-- The attention's output. -/
theorem o_at (h : Fin 16) (i : Fin 4096) (d : Fin 128) (k : Fin 2048) (hk : k.val = h.val * 128 + d.val) :
    h_v96 (arr I.q) (arr I.kv) (arr I.kr) (arr I.cs) (arr I.sn) (ix2 i k) = ((o I h i d : ℝ) : EReal) := by
  obtain rfl : k = ⟨h.val * 128 + d.val, by clear hk; omega⟩ := Fin.ext hk
  obtain ⟨M, hM⟩ := v73_at I h i
  refine Eq.trans (b := ∑ x : Fin 4096, arr I.kv (ix2 x ⟨h.val * 256 + (128 + d.val), by omega⟩)
    * Ideal.div (Ideal.exp (h_v72 (arr I.q) (arr I.kv) (arr I.kr) (arr I.cs) (arr I.sn) (ix3 h i x)
        - h_v73 (arr I.q) (arr I.kv) (arr I.kr) (arr I.cs) (arr I.sn) (ix2 h i))) (h_v78 (arr I.q) (arr I.kv) (arr I.kr) (arr I.cs) (arr I.sn) (ix2 h i))) ?_ ?_
  · pointwise [h_v96]
  · have hp : Z I h i / Real.exp M ≠ 0 := (div_pos (Z_pos I h i) (Real.exp_pos M)).ne'
    rw [v78_at I h i M hM, hM]
    simp only [v72_at, ← EReal.coe_sub, Ideal.exp_coe, Ideal.div_coe hp, ← EReal.coe_mul, arr_ix2]
    rw [← coe_sum]
    refine congrArg _ (Finset.sum_congr rfl fun j _ => ?_)
    rw [mul_one_div, shift_P]
    rfl

end Cert.KernelIdeal.Val

end
-- ==== Proof.TileReal.lean ====
/- One grid point in real numbers.

   `Reads` says what the point's eight input blocks hold: head `h`'s queries, keys, values, cotangent, output and
   base-2 row logarithms, the query rows being `row`. From it the quantities of Tile.lean are the real ones of Spec.lean. -/
module

public import proofs.«01_k».proof.Proof.Tile
public import proofs.«01_k».proof.Proof.HostRead

@[expose] public section

set_option maxRecDepth 16384

noncomputable section

namespace Cert.KernelIdeal.Val

open Idealize.ShloMosaic Idealize.ShloMosaic.TcCoe Idealize.SL Cert.Spec Cert.KernelIdeal.Gen

theorem kS_val : kS = ((c : ℝ) : EReal) := IdealRules.named_const.ideal_named_scalar _ _ _ _ rfl
theorem kSL_val : kSL = ((c * (Real.log 2)⁻¹ : ℝ) : EReal) := IdealRules.named_const.ideal_named_scalar _ _ _ _ rfl
theorem kL2_val : kL2 = ((Real.log 2 : ℝ) : EReal) := IdealRules.named_const.ideal_named_scalar _ _ _ _ rfl

theorem pad64_mul (f g : Fin 64 → ℝ) (d : Fin 128) :
    pad64 f d * pad64 g d = if hd : d.val < 64 then f ⟨d.val, hd⟩ * g ⟨d.val, hd⟩ else 0 := by
  unfold pad64; split_ifs <;> simp

variable (I : In) (h : Fin 16) (row : Fin 2048 → Fin 4096)
variable {X0 : Vec Ideal S2048x384 .f32} {X1 X2 : Vec Ideal S2048x128 .f32} {X3 X4 : Vec Ideal S1x4096x256 .bf16}
  {X5 : Vec Ideal S2048x128 .bf16} {X6 : Vec Ideal S2048x128 .f32} {X7 : Vec Ideal S1x1x2048 .f32}

/-- What the point's blocks hold. -/
structure Reads (X0 : Vec Ideal S2048x384 .f32) (X1 X2 : Vec Ideal S2048x128 .f32) (X3 X4 : Vec Ideal S1x4096x256 .bf16)
    (X5 : Vec Ideal S2048x128 .bf16) (X6 : Vec Ideal S2048x128 .f32) (X7 : Vec Ideal S1x1x2048 .f32) : Prop where
  rqn : ∀ x (d : Fin 128), X0 (ix2 x ⟨d.val, by omega⟩) = ((qn I h (row x) d : ℝ) : EReal)
  rqr : ∀ x (d : Fin 128), X0 (ix2 x ⟨128 + d.val, by omega⟩) * X1 (ix2 x d) + X0 (ix2 x ⟨256 + d.val, by omega⟩) * X2 (ix2 x d)
    = ((pad64 (qro I h (row x)) d : ℝ) : EReal)
  rcs : ∀ x d, X1 (ix2 x d) = ((padP (I.cs (row x)) d : ℝ) : EReal)
  rsn : ∀ x d, X2 (ix2 x d) = ((padP (I.sn (row x)) d : ℝ) : EReal)
  rkn : ∀ r (d : Fin 128), X3 (ix3 0 r ⟨d.val, by omega⟩) = ((kn I h r d : ℝ) : EReal)
  rkr : ∀ r (d : Fin 128), X3 (ix3 0 r ⟨128 + d.val, by omega⟩) = ((pad64 (kro I r) d : ℝ) : EReal)
  rv : ∀ r (d : Fin 128), X4 (ix3 0 r ⟨d.val, by omega⟩) = ((v I h r d : ℝ) : EReal)
  rg : ∀ x d, X5 (ix2 x d) = ((gh I h (row x) d : ℝ) : EReal)
  ro : ∀ x d, X6 (ix2 x d) = ((o I h (row x) d : ℝ) : EReal)
  rl : ∀ x, X7 (ix3 0 0 x) = ((Real.log (Z I h (row x)) * (Real.log 2)⁻¹ : ℝ) : EReal)

variable {I h row} (R : Reads I h row X0 X1 X2 X3 X4 X5 X6 X7)
include R

theorem prob_real (r : Fin 4096) (x : Fin 2048) : probT X0 X1 X2 X3 X7 r x = ((P I h (row x) r : ℝ) : EReal) := by
  unfold probT
  simp only [R.rqn, R.rqr, R.rkn, R.rkr, R.rl, kSL_val, ← EReal.coe_mul, ← coe_sum, ← EReal.coe_add, ← EReal.coe_sub]
  refine (Ideal.exp2_coe _).trans ?_
  have hpad := sum_pad (fun d => pad64 (kro I r) d * (pad64 (qro I h (row x)) d * (c * (Real.log 2)⁻¹)))
    (fun e => kro I r e * qro I h (row x) e * (c * (Real.log 2)⁻¹)) fun d => by
      rw [← mul_assoc, pad64_mul]
      split_ifs <;> simp
  rw [hpad, P_eq]
  simp only [s, add_mul, Finset.sum_mul]
  exact congrArg₂ (· + ·) (Finset.sum_congr rfl fun d _ => by ring) (Finset.sum_congr rfl fun e _ => by ring)

theorem ds_real (r : Fin 4096) (x : Fin 2048) : dsT X0 X1 X2 X3 X4 X5 X6 X7 r x = ((DS I h (row x) r : ℝ) : EReal) := by
  unfold dsT
  rw [prob_real R]
  simp only [R.rv, R.rg, R.ro, ← EReal.coe_mul, ← coe_sum, ← EReal.coe_sub, Dl_eq]
  rfl

theorem dv_real (r : Fin 4096) (d : Fin 128) :
    dvT X0 X1 X2 X3 X5 X7 r d = ((∑ x, P I h (row x) r * gh I h (row x) d : ℝ) : EReal) := by
  unfold dvT
  simp only [prob_real R, R.rg, ← EReal.coe_mul, ← coe_sum]

theorem qTn_real (x : Fin 2048) (d : Fin 128) :
    qT X0 X1 X2 x ⟨d.val, by omega⟩ = ((qn I h (row x) d * (c * (Real.log 2)⁻¹) : ℝ) : EReal) := by
  unfold qT
  rw [dif_pos d.isLt, R.rqn, kSL_val, ← EReal.coe_mul]

theorem qTr_real (x : Fin 2048) (d : Fin 128) :
    qT X0 X1 X2 x ⟨128 + d.val, by omega⟩ = ((pad64 (qro I h (row x)) d * (c * (Real.log 2)⁻¹) : ℝ) : EReal) := by
  unfold qT
  simp (disch := omega) only [dif_neg, Nat.add_sub_cancel_left]
  rw [R.rqr, kSL_val, ← EReal.coe_mul]

theorem dkn_real (r : Fin 4096) (d : Fin 128) :
    dkT X0 X1 X2 X3 X4 X5 X6 X7 r ⟨d.val, by omega⟩
      = ((∑ x, DS I h (row x) r * (qn I h (row x) d * (c * (Real.log 2)⁻¹)) : ℝ) : EReal) := by
  unfold dkT
  simp only [ds_real R, qTn_real R, ← EReal.coe_mul, ← coe_sum]

theorem dkr_real (r : Fin 4096) (d : Fin 128) :
    dkT X0 X1 X2 X3 X4 X5 X6 X7 r ⟨128 + d.val, by omega⟩
      = ((∑ x, DS I h (row x) r * (pad64 (qro I h (row x)) d * (c * (Real.log 2)⁻¹)) : ℝ) : EReal) := by
  unfold dkT
  simp only [ds_real R, qTr_real R, ← EReal.coe_mul, ← coe_sum]

theorem dqn_real (x : Fin 2048) (d : Fin 128) :
    dqT X0 X1 X2 X3 X4 X5 X6 X7 x ⟨d.val, by omega⟩ = ((∑ r, DS I h (row x) r * kn I h r d : ℝ) : EReal) := by
  unfold dqT
  simp only [ds_real R, R.rkn, ← EReal.coe_mul, ← coe_sum]

theorem dqr_real (x : Fin 2048) (d : Fin 128) :
    dqT X0 X1 X2 X3 X4 X5 X6 X7 x ⟨128 + d.val, by omega⟩ = ((∑ r, DS I h (row x) r * pad64 (kro I r) d : ℝ) : EReal) := by
  unfold dqT
  simp only [ds_real R, R.rkr, ← EReal.coe_mul, ← coe_sum]

/-- The plain columns of the written query gradient. -/
theorem dqBlk_n (x : Fin 2048) (d : Fin 128) :
    dqBlk X0 X1 X2 X3 X4 X5 X6 X7 x ⟨d.val, by omega⟩ = (((∑ r, DS I h (row x) r * kn I h r d) * c : ℝ) : EReal) := by
  unfold dqBlk
  rw [dif_pos d.isLt, dqn_real R, kS_val, ← EReal.coe_mul]

/-- Its columns times the cosines. -/
theorem dqBlk_c (x : Fin 2048) (d : Fin 128) :
    dqBlk X0 X1 X2 X3 X4 X5 X6 X7 x ⟨128 + d.val, by omega⟩
      = (((∑ r, DS I h (row x) r * pad64 (kro I r) d) * padP (I.cs (row x)) d * c : ℝ) : EReal) := by
  unfold dqBlk
  simp (disch := omega) only [dif_neg, dif_pos, Nat.add_sub_cancel_left]
  rw [dqr_real R, R.rcs, kS_val, ← EReal.coe_mul, ← EReal.coe_mul]

/-- Its columns times the sines. -/
theorem dqBlk_s (x : Fin 2048) (d : Fin 128) :
    dqBlk X0 X1 X2 X3 X4 X5 X6 X7 x ⟨256 + d.val, by omega⟩
      = (((∑ r, DS I h (row x) r * pad64 (kro I r) d) * padP (I.sn (row x)) d * c : ℝ) : EReal) := by
  unfold dqBlk
  simp (disch := omega) only [dif_neg, Nat.sub_sub, Nat.reduceAdd, Nat.add_sub_cancel_left]
  rw [dqr_real R, R.rsn, kS_val, ← EReal.coe_mul, ← EReal.coe_mul]

end Cert.KernelIdeal.Val

end
-- ==== Proof.Reads.lean ====
/- What every grid point's input blocks hold, from the arguments: the hypothesis `Reads` of TileReal.lean at each point. -/
module

public import proofs.«01_k».proof.Proof.BlocksA
public import proofs.«01_k».proof.Proof.BlocksB
public import proofs.«01_k».proof.Proof.Entry
public import proofs.«01_k».proof.Proof.HostSoft
public import proofs.«01_k».proof.Proof.TileReal

@[expose] public section

set_option maxRecDepth 16384

noncomputable section

namespace Cert.KernelIdeal.Val

open Idealize.ShloMosaic Idealize.ShloMosaic.TcCoe Idealize.SL Cert.Spec Cert.KernelIdeal.Gen

/-- Device `c`'s six arguments are the real arrays `I`. -/
structure ArgsAt (m : (ℓ : Loc nD τ sig) → Buf (Elt Ideal) ℓ) (c : Dev nD) (I : In) : Prop where
  a0 : m ((c : Thread nD τ).loc main_arg0) = arr I.q
  a1 : m ((c : Thread nD τ).loc main_arg1) = arr I.kv
  a2 : m ((c : Thread nD τ).loc main_arg2) = arr I.kr
  a3 : m ((c : Thread nD τ).loc main_arg3) = arr I.cs
  a4 : m ((c : Thread nD τ).loc main_arg4) = arr I.sn
  a5 : m ((c : Thread nD τ).loc main_arg5) = arr I.g

variable {m : (ℓ : Loc nD τ sig) → Buf (Elt Ideal) ℓ} {c : Dev nD} {I : In} (A : ArgsAt m c I)
include A

theorem e1 : V m c main_v1 = h_v1 (arr I.cs) := by rw [V_v1, A.a3]
theorem e2 : V m c main_v2 = h_v2 (arr I.sn) := by rw [V_v2, A.a4]
theorem e13 : V m c main_v13 = h_v13 (arr I.q) := by rw [V_v13, A.a0]
theorem e30 : V m c main_v30 = h_v30 (arr I.kv) (arr I.kr) (arr I.cs) (arr I.sn) := by rw [V_v30, A.a1, A.a2, A.a3, A.a4]
theorem e35 : V m c main_v35 = h_v35 (arr I.kv) := by rw [V_v35, A.a1]
theorem e96 : V m c main_v96 = h_v96 (arr I.q) (arr I.kv) (arr I.kr) (arr I.cs) (arr I.sn) := by rw [V_v96, A.a0, A.a1, A.a2, A.a3, A.a4]
theorem e97 : V m c main_v97 = h_v97 (arr I.g) := by rw [V_v97, A.a5]
theorem e98 : V m c main_v98 = h_v98 (arr I.q) (arr I.kv) (arr I.kr) (arr I.cs) (arr I.sn) := by rw [V_v98, A.a0, A.a1, A.a2, A.a3, A.a4]

omit A in
/-- The query rows of tile `p`. -/
def rowOf (p : Fin 2) (x : Fin 2048) : Fin 4096 := ⟨p.val * 2048 + x.val, by omega⟩

variable (t : Fin cfg0.N) (h : Fin 16) (p : Fin 2) (ht : t.val = 2 * h.val + p.val)
include ht

theorem reads_at : Reads I h (rowOf p) (iblk m c 0 t) (iblk m c 1 t) (iblk m c 2 t) (iblk m c 3 t) (iblk m c 4 t) (iblk m c 5 t) (iblk m c 6 t) (iblk m c 7 t) where
  rqn x d := (b0 m c t h p ht x ⟨d.val, by omega⟩).trans ((congrFun (e13 A) _).trans (q_nope I h (rowOf p x) d _ rfl))
  rqr x d := by
    refine Eq.trans (congrArg₂ (· + ·) (congrArg₂ (· * ·) ((b0 m c t h p ht x ⟨128 + d.val, by omega⟩).trans (congrFun (e13 A) _)) ((b1 m c t h p ht x d).trans (congrFun (e1 A) _)))
      (congrArg₂ (· * ·) ((b0 m c t h p ht x ⟨256 + d.val, by omega⟩).trans (congrFun (e13 A) _)) ((b2 m c t h p ht x d).trans (congrFun (e2 A) _)))) ?_
    exact q_rot I h (rowOf p x) d _ _ rfl rfl
  rcs x d := (b1 m c t h p ht x d).trans ((congrFun (e1 A) _).trans (v1_at I (rowOf p x) d))
  rsn x d := (b2 m c t h p ht x d).trans ((congrFun (e2 A) _).trans (v2_at I (rowOf p x) d))
  rkn r d := (b3 m c t h p ht r ⟨d.val, by omega⟩ 0).trans ((congrFun (e30 A) _).trans (k_nope I h r d))
  rkr r d := (b3 m c t h p ht r ⟨128 + d.val, by omega⟩ 0).trans ((congrFun (e30 A) _).trans (k_rot I h r d))
  rv r d := (b4 m c t h p ht r ⟨d.val, by omega⟩ 0).trans ((congrFun (e35 A) _).trans (v_at I h r d))
  rg x d := (b5 m c t h p ht x d).trans ((congrFun (e97 A) _).trans (g_at I h (rowOf p x) d _ rfl))
  ro x d := (b6 m c t h p ht x d).trans ((congrFun (e96 A) _).trans (o_at I h (rowOf p x) d _ rfl))
  rl x := (b7 m c t h p ht x 0 0 0).trans ((congrFun (e98 A) _).trans (v98_at I h (rowOf p x)))

omit ht in
theorem cos_at (j : Fin 4096) (d : Fin 128) : iblk m c 8 t (ix2 j d) = ((padP (I.cs j) d : ℝ) : EReal) :=
  (b8 m c t j d).trans ((congrFun (e1 A) _).trans (v1_at I j d))

omit ht in
theorem sin_at (j : Fin 4096) (d : Fin 128) : iblk m c 9 t (ix2 j d) = ((padP (I.sn j) d : ℝ) : EReal) :=
  (b9 m c t j d).trans ((congrFun (e2 A) _).trans (v2_at I j d))

end Cert.KernelIdeal.Val

end
-- ==== Proof.Grid.lean ====
/- What the grid leaves, point after point, in real numbers.

   The second point of a head leaves the head's whole key and value gradients in the accumulators and in the written
   block; the rotary-key block holds, after head `h`, the sum over the heads up to `h`. -/
module

public import proofs.«01_k».proof.Proof.PointsA
public import proofs.«01_k».proof.Proof.PointsB
public import proofs.«01_k».proof.Proof.PointsC
public import proofs.«01_k».proof.Proof.Reads

@[expose] public section

set_option maxRecDepth 16384

noncomputable section

namespace Cert.KernelIdeal.Val

open Idealize.ShloMosaic Idealize.ShloMosaic.TcCoe Idealize.SL Cert.Spec Cert.KernelIdeal.Gen

/-- A sum over the query rows is the sum over the two tiles. -/
theorem sum_rows (f : Fin 4096 → ℝ) : (∑ x, f (rowOf 0 x)) + (∑ x, f (rowOf 1 x)) = ∑ i, f i := by
  refine Eq.trans ?_ (Fin.sum_univ_add (a := 2048) (b := 2048) f).symm
  refine congrArg₂ (· + ·) (Finset.sum_congr rfl fun x _ => congrArg f (Fin.ext ?_)) (Finset.sum_congr rfl fun x _ => congrArg f (Fin.ext ?_))
  · exact (congrArg (· + x.val) (Nat.zero_mul 2048)).trans (Nat.zero_add _)
  · exact congrArg (· + x.val) (Nat.one_mul 2048)

theorem pay5_at (a : Vec Ideal S4096x256 .f32) (b : Vec Ideal S4096x128 .f32) (j : Fin 4096) (y : Fin 256) :
    k0_pay5 (F := Ideal) a b (ix2 j y) = if h : y.val < 128 then a (ix2 j y) * kL2 else b (ix2 j ⟨y.val - 128, by omega⟩) := by
  pointwise [k0_pay5, k0_pay4]

theorem pay6_at (a : Vec Ideal S4096x256 .f32) (x8 x9 : Vec Ideal S4096x128 .f32) (j : Fin 4096) (y : Fin 256) :
    k0_pay6 (F := Ideal) a x8 x9 (ix2 j y) = if h : y.val < 128 then a (ix2 j ⟨128 + y.val, by omega⟩) * kL2 * x8 (ix2 j ⟨y.val, h⟩)
      else a (ix2 j ⟨128 + (y.val - 128), by omega⟩) * kL2 * x9 (ix2 j ⟨y.val - 128, by omega⟩) := by
  pointwise [k0_pay6, k0_pay4]

theorem pay7_at (a : Vec Ideal S4096x256 .f32) (x8 x9 : Vec Ideal S4096x128 .f32) (q : Vec Ideal S4096x256 .f32) (j : Fin 4096) (y : Fin 256) :
    k0_pay7 (F := Ideal) a x8 x9 q (ix2 j y) = q (ix2 j y) + k0_pay6 (F := Ideal) a x8 x9 (ix2 j y) := by
  pointwise [k0_pay7]

/-- One head's part of the extended rotary-key gradient: its columns times the cosines, then times the sines. -/
def krX (I : In) (h : Fin 16) (j : Fin 4096) (y : Fin 256) : ℝ :=
  if hy : y.val < 128 then (∑ i, DS I h i j * pad64 (qro I h i) ⟨y.val, hy⟩) * c * padP (I.cs j) ⟨y.val, hy⟩
  else (∑ i, DS I h i j * pad64 (qro I h i) ⟨y.val - 128, by omega⟩) * c * padP (I.sn j) ⟨y.val - 128, by omega⟩

variable {m : (ℓ : Loc nD τ sig) → Buf (Elt Ideal) ℓ} {c' : Dev nD} {I : In} (A : ArgsAt m c' I)

/-- The point before. -/
abbrev prev (t : Fin cfg0.N) : Fin cfg0.N := ⟨t.val - 1, Nat.lt_of_le_of_lt (Nat.sub_le _ _) t.isLt⟩

section
variable (t : Fin cfg0.N) (h : Fin 16) (ht : t.val = 2 * h.val + 1)
include ht

/-- After a head's second tile the key accumulator holds both tiles' parts. -/
theorem dk_two (m : (ℓ : Loc nD τ sig) → Buf (Elt Ideal) ℓ) (c' : Dev nD) (j : Fin 4096) (f : Fin 256) :
    (outsAt0 m c' t.val t.isLt).2.2.2.1 (ix2 j f) = dkP m c' (prev t) j f + dkP m c' t j f := by
  have e := dk_A m c' (prev t) (by show (t.val - 1) % 2 = 0; omega) (by show ¬(t.val - 1) % 2 = 1; omega) (ix2 j f)
  by_cases h2 : t.val < 2
  · exact (dk_B m c' t (by omega) (by omega) h2 (by omega) (ix2 j f)).trans (congrArg (· + _) e)
  · exact (dk_C m c' t (by omega) (by omega) h2 (by omega) (ix2 j f)).trans (congrArg (· + _) e)

theorem dv_two (m : (ℓ : Loc nD τ sig) → Buf (Elt Ideal) ℓ) (c' : Dev nD) (j : Fin 4096) (f : Fin 128) :
    (outsAt0 m c' t.val t.isLt).2.2.2.2 (ix2 j f) = dvP m c' (prev t) j f + dvP m c' t j f := by
  have e := dv_A m c' (prev t) (by show (t.val - 1) % 2 = 0; omega) (by show ¬(t.val - 1) % 2 = 1; omega) (ix2 j f)
  by_cases h2 : t.val < 2
  · exact (dv_B m c' t (by omega) (by omega) h2 (by omega) (ix2 j f)).trans (congrArg (· + _) e)
  · exact (dv_C m c' t (by omega) (by omega) h2 (by omega) (ix2 j f)).trans (congrArg (· + _) e)

theorem o11_two (m : (ℓ : Loc nD τ sig) → Buf (Elt Ideal) ℓ) (c' : Dev nD) :
    (outsAt0 m c' t.val t.isLt).2.1 = k0_pay5 (outsAt0 m c' t.val t.isLt).2.2.2.1 (outsAt0 m c' t.val t.isLt).2.2.2.2 := by
  by_cases h2 : t.val < 2
  · exact o11_B m c' t (by omega) (by omega) h2 (by omega)
  · exact o11_C m c' t (by omega) (by omega) h2 (by omega)

include A

theorem dkn_two (j : Fin 4096) (d : Fin 128) :
    (outsAt0 m c' t.val t.isLt).2.2.2.1 (ix2 j ⟨d.val, by omega⟩)
      = ((∑ i, DS I h i j * (qn I h i d * (c * (Real.log 2)⁻¹)) : ℝ) : EReal) := by
  rw [dk_two t h ht]
  refine (congrArg₂ (· + ·) (dkn_real (reads_at A (prev t) h 0 (by show t.val - 1 = 2 * h.val + 0; omega)) j d)
    (dkn_real (reads_at A t h 1 ht) j d)).trans ?_
  rw [← EReal.coe_add]
  exact congrArg _ (sum_rows fun i => DS I h i j * (qn I h i d * (c * (Real.log 2)⁻¹)))

theorem dkr_two (j : Fin 4096) (d : Fin 128) :
    (outsAt0 m c' t.val t.isLt).2.2.2.1 (ix2 j ⟨128 + d.val, by omega⟩)
      = ((∑ i, DS I h i j * (pad64 (qro I h i) d * (c * (Real.log 2)⁻¹)) : ℝ) : EReal) := by
  rw [dk_two t h ht]
  refine (congrArg₂ (· + ·) (dkr_real (reads_at A (prev t) h 0 (by show t.val - 1 = 2 * h.val + 0; omega)) j d)
    (dkr_real (reads_at A t h 1 ht) j d)).trans ?_
  rw [← EReal.coe_add]
  exact congrArg _ (sum_rows fun i => DS I h i j * (pad64 (qro I h i) d * (c * (Real.log 2)⁻¹)))

theorem dvv_two (j : Fin 4096) (d : Fin 128) : (outsAt0 m c' t.val t.isLt).2.2.2.2 (ix2 j d) = ((dv I h j d : ℝ) : EReal) := by
  rw [dv_two t h ht]
  refine (congrArg₂ (· + ·) (dv_real (reads_at A (prev t) h 0 (by show t.val - 1 = 2 * h.val + 0; omega)) j d)
    (dv_real (reads_at A t h 1 ht) j d)).trans ?_
  rw [← EReal.coe_add]
  exact congrArg _ (sum_rows fun i => P I h i j * gh I h i d)

omit A ht in
theorem ln2_cancel (f g : Fin 4096 → ℝ) :
    (∑ i, f i * (g i * (c * (Real.log 2)⁻¹))) * Real.log 2 = (∑ i, f i * g i) * c := by
  have h2 : Real.log 2 ≠ 0 := (Real.log_pos one_lt_two).ne'
  rw [Finset.sum_mul, Finset.sum_mul]
  refine Finset.sum_congr rfl fun i _ => ?_
  field_simp

/-- The block of a head's key and value gradients, as written. -/
theorem o11_real (j : Fin 4096) (y : Fin 256) : (outsAt0 m c' t.val t.isLt).2.1 (ix2 j y) = ((dkvh I h j y : ℝ) : EReal) := by
  rw [o11_two t h ht, pay5_at, dkvh]
  split_ifs with hy
  · rw [show ix2 j y = ix2 j (⟨(⟨y.val, hy⟩ : Fin 128).val, by omega⟩ : Fin 256) from rfl, dkn_two A t h ht j ⟨y.val, hy⟩, kL2_val, ← EReal.coe_mul,
      ln2_cancel (fun i => DS I h i j) (fun i => qn I h i ⟨y.val, hy⟩)]
    rfl
  · exact dvv_two A t h ht j _

/-- What a head adds to the rotary-key block. -/
theorem pay6_real (j : Fin 4096) (y : Fin 256) :
    k0_pay6 (outsAt0 m c' t.val t.isLt).2.2.2.1 (iblk m c' 8 t) (iblk m c' 9 t) (ix2 j y) = ((krX I h j y : ℝ) : EReal) := by
  refine (pay6_at _ _ _ j y).trans ?_
  unfold krX
  split_ifs with hy
  · rw [dkr_two A t h ht j ⟨y.val, hy⟩, cos_at A, kL2_val, ← EReal.coe_mul, ← EReal.coe_mul,
      ln2_cancel (fun i => DS I h i j) (fun i => pad64 (qro I h i) ⟨y.val, hy⟩)]
  · rw [dkr_two A t h ht j ⟨y.val - 128, by omega⟩, sin_at A, kL2_val, ← EReal.coe_mul, ← EReal.coe_mul,
      ln2_cancel (fun i => DS I h i j) (fun i => pad64 (qro I h i) ⟨y.val - 128, by omega⟩)]

end

/-- A first tile leaves the rotary-key block alone. -/
theorem o12_A (m : (ℓ : Loc nD τ sig) → Buf (Elt Ideal) ℓ) (c' : Dev nD) (t : Fin cfg0.N) (h0 : t.val % 2 = 0) (h1 : ¬t.val % 2 = 1) :
    (outsAt0 m c' t.val t.isLt).2.2.1 = (outsAt0 m c' (t.val - 1) (Nat.lt_of_le_of_lt (Nat.sub_le _ _) t.isLt)).2.2.1 := by
  rw [outsAt0_A m c' t h0 h1]
  dsimp only
  unfold out0_A_12
  rfl

include A in
/-- After head `n` the rotary-key block holds the sum over the heads up to it. -/
theorem o12_real (n : ℕ) (hn : n < 16) : ∀ (t : Fin cfg0.N), t.val = 2 * n + 1 → ∀ (j : Fin 4096) (y : Fin 256),
    (outsAt0 m c' t.val t.isLt).2.2.1 (ix2 j y) = ((∑ h : Fin (n + 1), krX I ⟨h.val, by omega⟩ j y : ℝ) : EReal) := by
  induction n with
  | zero =>
    intro t ht j y
    rw [o12_B m c' t (by omega) (by omega) (by omega) (by omega), pay6_real A t ⟨0, by omega⟩ ht, Fin.sum_univ_one]
    rfl
  | succ n ih =>
    intro t ht j y
    have e2 := ih (by omega) (prev (prev t)) (by show t.val - 1 - 1 = 2 * n + 1; omega) j y
    have e1 := (congrFun (o12_A m c' (prev t) (by show (t.val - 1) % 2 = 0; omega) (by show ¬(t.val - 1) % 2 = 1; omega)) (ix2 j y)).trans e2
    rw [o12_C m c' t (by omega) (by omega) (by omega) (by omega), pay7_at, pay6_real A t ⟨n + 1, hn⟩ ht]
    refine (congrArg (· + _) e1).trans ?_
    rw [← EReal.coe_add, Fin.sum_univ_castSucc (n := n + 1)]
    rfl

end Cert.KernelIdeal.Val

end
-- ==== Proof.Arrays.lean ====
/- The three arrays the kernel writes, in real numbers. -/
module

public import proofs.«01_k».proof.Proof.Grid

@[expose] public section

set_option maxRecDepth 16384

noncomputable section

namespace Cert.KernelIdeal.Val

open Idealize.ShloMosaic Idealize.ShloMosaic.TcCoe Idealize.SL Cert.Spec Cert.KernelIdeal.Gen

/-- One head's extended query gradient: the plain columns, then those times the cosines, then those times the sines. -/
def dqX (I : In) (h : Fin 16) (i : Fin 4096) (y : Fin 384) : ℝ :=
  if h1 : y.val < 128 then (∑ r, DS I h i r * kn I h r ⟨y.val, h1⟩) * c
  else if h2 : y.val - 128 < 128 then (∑ r, DS I h i r * pad64 (kro I r) ⟨y.val - 128, h2⟩) * padP (I.cs i) ⟨y.val - 128, h2⟩ * c
  else (∑ r, DS I h i r * pad64 (kro I r) ⟨y.val - 256, by omega⟩) * padP (I.sn i) ⟨y.val - 256, by omega⟩ * c

/-- The three arrays. -/
def gQ (I : In) : (⟨S4096x6144, .bf16⟩ : BufTy).Contents (Elt Ideal) :=
  fun y => ((dqX I ⟨(y 1).val / 384, by have : (y 1).val < 6144 := (y 1).isLt; omega⟩ (y 0) ⟨(y 1).val % 384, by omega⟩ : ℝ) : EReal)
def gKV (I : In) : (⟨S4096x4096, .bf16⟩ : BufTy).Contents (Elt Ideal) :=
  fun y => ((dkv I (y 0) (y 1) : ℝ) : EReal)
def gKR (I : In) : (⟨S4096x256, .f32⟩ : BufTy).Contents (Elt Ideal) :=
  fun y => ((∑ h : Fin 16, krX I h (y 0) (y 1) : ℝ) : EReal)

theorem gQ_at (I : In) (h : Fin 16) (i : Fin 4096) (y : Fin 384) (k : Fin 6144) (hk : k.val = h.val * 384 + y.val) :
    gQ I (ix2 i k) = ((dqX I h i y : ℝ) : EReal) := by
  have e1 : (⟨k.val / 384, by omega⟩ : Fin 16) = h := Fin.ext (by show k.val / 384 = h.val; omega)
  have e2 : (⟨k.val % 384, by omega⟩ : Fin 384) = y := Fin.ext (by show k.val % 384 = y.val; omega)
  exact congrArg₂ (fun a b => ((dqX I a i b : ℝ) : EReal)) e1 e2

theorem gKV_at (I : In) (h : Fin 16) (j : Fin 4096) (y : Fin 256) (k : Fin 4096) (hk : k.val = h.val * 256 + y.val) :
    gKV I (ix2 j k) = ((dkvh I h j y : ℝ) : EReal) := by
  have e1 : (⟨k.val / 256, by omega⟩ : Fin 16) = h := Fin.ext (by show k.val / 256 = h.val; omega)
  have e2 : (⟨k.val % 256, by omega⟩ : Fin 256) = y := Fin.ext (by show k.val % 256 = y.val; omega)
  exact congrArg₂ (fun a b => ((dkvh I a j b : ℝ) : EReal)) e1 e2

variable {m : (ℓ : Loc nD τ sig) → Buf (Elt Ideal) ℓ} {c' : Dev nD} {I : In} (A : ArgsAt m c' I)

include A in
/-- The query-gradient block every point writes. -/
theorem o10_real (t : Fin cfg0.N) (h : Fin 16) (p : Fin 2) (ht : t.val = 2 * h.val + p.val) (x : Fin 2048) (y : Fin 384) :
    (outsAt0 m c' t.val t.isLt).1 (ix2 x y) = ((dqX I h (rowOf p x) y : ℝ) : EReal) := by
  have R := reads_at A t h p ht
  have e : (outsAt0 m c' t.val t.isLt).1 (ix2 x y) = dqP m c' t x y := by
    by_cases h0 : t.val % 2 = 0
    · exact dq_A m c' t h0 (by omega) x y
    · by_cases h2 : t.val < 2
      · exact dq_B m c' t h0 (by omega) h2 (by omega) x y
      · exact dq_C m c' t h0 (by omega) h2 (by omega) x y
  rw [e]
  unfold dqX
  split_ifs with h1 h2
  · exact dqBlk_n R x ⟨y.val, h1⟩
  · have := dqBlk_c R x ⟨y.val - 128, h2⟩
    rwa [show (⟨128 + (⟨y.val - 128, h2⟩ : Fin 128).val, by omega⟩ : Fin 384) = y from Fin.ext (by show 128 + (y.val - 128) = y.val; omega)] at this
  · have := dqBlk_s R x ⟨y.val - 256, by omega⟩
    rwa [show (⟨256 + (⟨y.val - 256, by omega⟩ : Fin 128).val, by show 256 + (y.val - 256) < 384; omega⟩ : Fin 384) = y from Fin.ext (by show 256 + (y.val - 256) = y.val; omega)] at this

theorem idx10 : ∀ t : Fin cfg0.N, win0_10.index t = ![t.val % 2, t.val / 2] := by decide +kernel
theorem idx11 : ∀ t : Fin cfg0.N, win0_11.index t = ![0, t.val / 2] := by decide +kernel
theorem flush11 : ∀ t : Fin cfg0.N, (cfg0.win 11).flush t = true → t.val % 2 = 1 := by decide +kernel

theorem pt (t : Fin cfg0.N) : t.val < 32 := lt_of_lt_of_eq t.isLt (show cfg0.N = 32 from N_0)

theorem emb10 (t : Fin cfg0.N) (h : Fin 16) (p : Fin 2) (ht : t.val = 2 * h.val + p.val) (x : Fin 2048) (y : Fin 384) :
    (((cfg0.win 10).blk t).view.emb (ix2 x y) : S4096x6144.Idx) = ix2 (rowOf p x) ⟨h.val * 384 + y.val, by omega⟩ := by
  unfold rowOf
  blk_ext [idx10 t]

theorem emb11 (t : Fin cfg0.N) (h : Fin 16) (ht : t.val = 2 * h.val + 1) (x : Fin 4096) (y : Fin 256) :
    (((cfg0.win 11).blk t).view.emb (ix2 x y) : S4096x4096.Idx) = ix2 x ⟨h.val * 256 + y.val, by omega⟩ := by
  blk_ext [idx11 t]

include A

theorem arr10 : (dats m 0 c').arrAt 10 cfg0.N = gQ I :=
  (dats m 0 c').arrAt_eq_of_covers 10 _ (by decide +kernel) fun t _ y => by
    blk_simp
    rw [after0_10]
    have hN := pt t
    obtain ⟨a, b, rfl⟩ : ∃ (a : Fin 2048) (b : Fin 384), y = ix2 a b := ⟨y 0, y 1, funext fun k => match k with | ⟨0, _⟩ => rfl | ⟨1, _⟩ => rfl⟩
    have ht : t.val = 2 * (⟨t.val / 2, by omega⟩ : Fin 16).val + (⟨t.val % 2, by omega⟩ : Fin 2).val := by
      show t.val = 2 * (t.val / 2) + t.val % 2; omega
    exact (o10_real A t _ _ ht a b).trans ((congrArg (gQ I) (emb10 t _ _ ht a b)).trans (gQ_at I _ _ b _ rfl)).symm

theorem arr11 : (dats m 0 c').arrAt 11 cfg0.N = gKV I :=
  (dats m 0 c').arrAt_eq_of_covers 11 _ (by decide +kernel) fun t hf y => by
    have h1 := flush11 t hf
    blk_simp
    rw [after0_11]
    have hN := pt t
    obtain ⟨a, b, rfl⟩ : ∃ (a : Fin 4096) (b : Fin 256), y = ix2 a b := ⟨y 0, y 1, funext fun k => match k with | ⟨0, _⟩ => rfl | ⟨1, _⟩ => rfl⟩
    have ht : t.val = 2 * (⟨t.val / 2, by omega⟩ : Fin 16).val + 1 := by
      show t.val = 2 * (t.val / 2) + 1; omega
    exact (o11_real A t _ ht a b).trans ((congrArg (gKV I) (emb11 t _ ht a b)).trans (gKV_at I _ _ b _ rfl)).symm

theorem arr12 : (dats m 0 c').arrAt 12 cfg0.N = gKR I :=
  (dats m 0 c').arrAt_eq_of_after_last 12 ⟨31, by decide⟩ (by decide +kernel) _ fun j => by
    rw [after0_12]
    obtain ⟨a, b, rfl⟩ : ∃ (a : Fin 4096) (b : Fin 256), j = ix2 a b := ⟨j 0, j 1, funext fun k => match k with | ⟨0, _⟩ => rfl | ⟨1, _⟩ => rfl⟩
    exact o12_real A 15 (by omega) ⟨31, by decide⟩ rfl a b

end Cert.KernelIdeal.Val

end
-- ==== Proof.Tail.lean ====
/- What the host code after the kernel makes of the three arrays the kernel writes. -/
module

public import proofs.«01_k».proof.Proof.HostTerms
public import Idealize.ShloMosaic.Lib.StableHlo.RunRead

@[expose] public section

set_option maxRecDepth 16384

noncomputable section

namespace Cert.KernelIdeal.Val

open Idealize.ShloMosaic Idealize.ShloMosaic.TcCoe Idealize.SL Cert.KernelIdeal.Gen

/-- The query gradient: the fold of the extended one, head by head. -/
def t_v118 (y : (⟨S4096x6144, .bf16⟩ : BufTy).Contents (Elt Ideal)) : (⟨S4096x3072, .f32⟩ : BufTy).Contents (Elt Ideal) :=
  (shapeCast _ (concatenate S4096x16x192 2 [⟨S4096x16x128, (extractStridedSlice S4096x16x128 ![0, 0, 0] (shapeCast _ (extf (F := Ideal) .f32 y bitsLt_bf16_f32) shapeCasts_S4096x6144_S4096x16x384) slices_S4096x16x384_S4096x16x128_0_0_0)⟩, ⟨S4096x16x64, (addf (F := Ideal) (φ := .f32) (extractStridedSlice S4096x16x64 ![0, 0, 128] (shapeCast _ (extf (F := Ideal) .f32 y bitsLt_bf16_f32) shapeCasts_S4096x6144_S4096x16x384) slices_S4096x16x384_S4096x16x64_0_0_128) (concatenate S4096x16x64 2 [⟨S4096x16x32, (extractStridedSlice S4096x16x32 ![0, 0, 32] (extractStridedSlice S4096x16x64 ![0, 0, 256] (shapeCast _ (extf (F := Ideal) .f32 y bitsLt_bf16_f32) shapeCasts_S4096x6144_S4096x16x384) slices_S4096x16x384_S4096x16x64_0_0_256) slices_S4096x16x64_S4096x16x32_0_0_32)⟩, ⟨S4096x16x32, (Host.negf (F := Ideal) (φ := .f32) (extractStridedSlice S4096x16x32 ![0, 0, 0] (extractStridedSlice S4096x16x64 ![0, 0, 256] (shapeCast _ (extf (F := Ideal) .f32 y bitsLt_bf16_f32) shapeCasts_S4096x6144_S4096x16x384) slices_S4096x16x384_S4096x16x64_0_0_256) slices_S4096x16x64_S4096x16x32_0_0_0))⟩] concatenates_S4096x16x32_S4096x16x32_S4096x16x64_d2))⟩] concatenates_S4096x16x128_S4096x16x64_S4096x16x192_d2) shapeCasts_S4096x16x192_S4096x3072)

/-- The key and value gradient. -/
def t_v119 (y : (⟨S4096x4096, .bf16⟩ : BufTy).Contents (Elt Ideal)) : (⟨S4096x4096, .f32⟩ : BufTy).Contents (Elt Ideal) :=
  (extf (F := Ideal) .f32 y bitsLt_bf16_f32)

/-- The rotary key's gradient: the fold of the extended one. -/
def t_v117 (y : (⟨S4096x256, .f32⟩ : BufTy).Contents (Elt Ideal)) : (⟨S4096x64, .f32⟩ : BufTy).Contents (Elt Ideal) :=
  (addf (F := Ideal) (φ := .f32) (extractStridedSlice S4096x64 ![0, 0] y slices_S4096x256_S4096x64_0_0) (concatenate S4096x64 1 [⟨S4096x32, (extractStridedSlice S4096x32 ![0, 32] (extractStridedSlice S4096x64 ![0, 128] y slices_S4096x256_S4096x64_0_128) slices_S4096x64_S4096x32_0_32)⟩, ⟨S4096x32, (Host.negf (F := Ideal) (φ := .f32) (extractStridedSlice S4096x32 ![0, 0] (extractStridedSlice S4096x64 ![0, 128] y slices_S4096x256_S4096x64_0_128) slices_S4096x64_S4096x32_0_0))⟩] concatenates_S4096x32_S4096x32_S4096x64_d1))

variable (m : (ℓ : Loc nD τ sig) → Buf (Elt Ideal) ℓ)

/-- The three arrays the kernel writes, as the host code after it finds them. -/
theorem arrays_read (c : Dev nD) (w : Fin cfg0.W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr_shared _ c _ _ ((dats m 0 c).arrAt_sharedIn sharedIn0 (V0 m c) (A_eq m c) _) w

set_option maxHeartbeats 4000000

theorem tail_v118 (W : Valuation τ sig (Elt Ideal)) : StableHlo.after hostOps1 W (Proc.devRef .tc main_v118) = t_v118 (W (Proc.devRef .tc main_v99_0)) := by
  after_results
  rfl

theorem ends_v118 (c : Dev nD) : Pipeline.afterTail₀ cfgs (dats m) 0 (V0 m) [hostOps1] c main_v118 = t_v118 ((dats m 0 c).arrAt 10 cfg0.N) := by
  unfold Pipeline.afterTail₀
  simp only [List.flatten_cons, List.flatten_nil, List.append_nil]
  rw [tail_v118]
  exact congrArg t_v118 (arrays_read m c 10)

theorem tail_v119 (W : Valuation τ sig (Elt Ideal)) : StableHlo.after hostOps1 W (Proc.devRef .tc main_v119) = t_v119 (W (Proc.devRef .tc main_v99_1)) := by
  after_results
  rfl

theorem ends_v119 (c : Dev nD) : Pipeline.afterTail₀ cfgs (dats m) 0 (V0 m) [hostOps1] c main_v119 = t_v119 ((dats m 0 c).arrAt 11 cfg0.N) := by
  unfold Pipeline.afterTail₀
  simp only [List.flatten_cons, List.flatten_nil, List.append_nil]
  rw [tail_v119]
  exact congrArg t_v119 (arrays_read m c 11)

theorem tail_v117 (W : Valuation τ sig (Elt Ideal)) : StableHlo.after hostOps1 W (Proc.devRef .tc main_v117) = t_v117 (W (Proc.devRef .tc main_v99_2)) := by
  after_results
  rfl

theorem ends_v117 (c : Dev nD) : Pipeline.afterTail₀ cfgs (dats m) 0 (V0 m) [hostOps1] c main_v117 = t_v117 ((dats m 0 c).arrAt 12 cfg0.N) := by
  unfold Pipeline.afterTail₀
  simp only [List.flatten_cons, List.flatten_nil, List.append_nil]
  rw [tail_v117]
  exact congrArg t_v117 (arrays_read m c 12)

end Cert.KernelIdeal.Val

end
-- ==== Proof.TailRead.lean ====
/- The three arrays the host code after the kernel returns, element by element. -/
module

public import proofs.«01_k».proof.Proof.Tail

@[expose] public section

set_option maxRecDepth 16384

noncomputable section

namespace Cert.KernelIdeal.Val

open Idealize.ShloMosaic Idealize.ShloMosaic.TcCoe Idealize.SL Cert.KernelIdeal.Gen

theorem t_v118_at (y : (⟨S4096x6144, .bf16⟩ : BufTy).Contents (Elt Ideal)) (i : Fin 4096) (h : Fin 16) (k : Fin 192) :
    t_v118 y (ix2 i ⟨h.val * 192 + k.val, by omega⟩)
      = if h_1 : k.val < 128 then y (ix2 i ⟨h.val * 384 + k.val, by omega⟩)
        else y (ix2 i ⟨h.val * 384 + (128 + (k.val - 128)), by omega⟩)
          + if h_2 : k.val - 128 < 32 then y (ix2 i ⟨h.val * 384 + (256 + (32 + (k.val - 128))), by omega⟩)
            else -y (ix2 i ⟨h.val * 384 + (256 + (k.val - 128 - 32)), by omega⟩) := by
  pointwise [t_v118]

theorem t_v117_at (y : (⟨S4096x256, .f32⟩ : BufTy).Contents (Elt Ideal)) (i : Fin 4096) (k : Fin 64) :
    t_v117 y (ix2 i k) = y (ix2 i ⟨k.val, by omega⟩)
      + if h : k.val < 32 then y (ix2 i ⟨128 + (32 + k.val), by omega⟩) else -y (ix2 i ⟨128 + (k.val - 32), by omega⟩) := by
  pointwise [t_v117]

theorem t_v119_at (y : (⟨S4096x4096, .bf16⟩ : BufTy).Contents (Elt Ideal)) (i k : Fin 4096) : t_v119 y (ix2 i k) = y (ix2 i k) := by
  pointwise [t_v119]

end Cert.KernelIdeal.Val

end
-- ==== Proof.Results.lean ====
/- The kernel's three results, after the fold of the doubled columns, are the real gradients of Spec.lean. -/
module

public import proofs.«01_k».proof.Proof.Arrays
public import proofs.«01_k».proof.Proof.TailRead

@[expose] public section

set_option maxRecDepth 16384

noncomputable section

namespace Cert.KernelIdeal.Val

open Idealize.ShloMosaic Idealize.ShloMosaic.TcCoe Idealize.SL Cert.Spec Cert.KernelIdeal.Gen

variable (I : In)

theorem pad64_at (a : Fin 64 → ℝ) (e : Fin 64) : pad64 a ⟨e.val, by omega⟩ = a e := by
  simp only [pad64, dif_pos e.isLt]

/-- A rotary column of one head's extended query gradient: the cosine copy. -/
theorem dqX_c (h : Fin 16) (i : Fin 4096) (e : Fin 64) (k : Fin 384) (hk : k.val = 128 + e.val) :
    dqX I h i k = (∑ r, DS I h i r * kro I r e) * padP (I.cs i) ⟨e.val, by omega⟩ * c := by
  obtain rfl : k = ⟨128 + e.val, by clear hk; omega⟩ := Fin.ext hk
  have e1 : (⟨128 + e.val - 128, by omega⟩ : Fin 128) = ⟨e.val, by omega⟩ := Fin.ext (by show 128 + e.val - 128 = e.val; omega)
  have a1 : ¬ 128 + e.val < 128 := by omega
  have a2 : 128 + e.val - 128 < 128 := by omega
  simp only [dqX, dif_neg a1, dif_pos a2, e1, pad64_at]

/-- The sine copy. -/
theorem dqX_s (h : Fin 16) (i : Fin 4096) (e : Fin 64) (k : Fin 384) (hk : k.val = 256 + e.val) :
    dqX I h i k = (∑ r, DS I h i r * kro I r e) * padP (I.sn i) ⟨e.val, by omega⟩ * c := by
  obtain rfl : k = ⟨256 + e.val, by clear hk; omega⟩ := Fin.ext hk
  have e1 : (⟨256 + e.val - 256, by omega⟩ : Fin 128) = ⟨e.val, by omega⟩ := Fin.ext (by show 256 + e.val - 256 = e.val; omega)
  have a1 : ¬ 256 + e.val < 128 := by omega
  have a2 : ¬ 256 + e.val - 128 < 128 := by omega
  simp only [dqX, dif_neg a1, dif_neg a2, e1, pad64_at]

/-- A rotary column of one head's key gradient: the cosine copy and the sine copy. -/
theorem krX_c (h : Fin 16) (j : Fin 4096) (e : Fin 64) (k : Fin 256) (hk : k.val = e.val) :
    krX I h j k = (∑ i, DS I h i j * qro I h i e) * c * padP (I.cs j) ⟨e.val, by omega⟩ := by
  obtain rfl : k = ⟨e.val, by clear hk; omega⟩ := Fin.ext hk
  have a1 : e.val < 128 := by omega
  simp only [krX, dif_pos a1, pad64_at]
theorem krX_s (h : Fin 16) (j : Fin 4096) (e : Fin 64) (k : Fin 256) (hk : k.val = 128 + e.val) :
    krX I h j k = (∑ i, DS I h i j * qro I h i e) * c * padP (I.sn j) ⟨e.val, by omega⟩ := by
  obtain rfl : k = ⟨128 + e.val, by clear hk; omega⟩ := Fin.ext hk
  have e1 : (⟨128 + e.val - 128, by omega⟩ : Fin 128) = ⟨e.val, by omega⟩ := Fin.ext (by show 128 + e.val - 128 = e.val; omega)
  have a1 : ¬ 128 + e.val < 128 := by omega
  simp only [krX, dif_neg a1, e1, pad64_at]

theorem padP_lo (a : Fin 32 → ℝ) (d : Fin 128) (h : d.val < 32) : padP a d = a ⟨d.val, h⟩ := by
  simp only [padP, dif_pos h]
theorem padP_hi (a : Fin 32 → ℝ) (d : Fin 128) (e : Fin 32) (h : d.val = 32 + e.val) : padP a d = a e := by
  obtain rfl : d = ⟨32 + e.val, by clear h; omega⟩ := Fin.ext h
  have e1 : (⟨32 + e.val - 32, by omega⟩ : Fin 32) = e := Fin.ext (by show 32 + e.val - 32 = e.val; omega)
  have a1 : ¬ 32 + e.val < 32 := by omega
  have a2 : 32 + e.val - 32 < 32 := by omega
  simp only [padP, dif_neg a1, dif_pos a2, e1]

/-- The fold of one head's rotary query columns: the rotation back of the gradient of the rotated columns. -/
theorem fold_q (h : Fin 16) (i : Fin 4096) (e : Fin 64) :
    dqX I h i ⟨128 + e.val, by omega⟩
      + (if h1 : e.val < 32 then dqX I h i ⟨256 + (32 + e.val), by omega⟩ else - dqX I h i ⟨256 + (e.val - 32), by omega⟩)
      = ropeT (I.cs i) (I.sn i) (dqro I h i) e := by
  rw [dqX_c I h i e _ rfl]
  by_cases h1 : e.val < 32
  · rw [dif_pos h1, dqX_s I h i ⟨32 + e.val, by omega⟩ _ rfl, padP_lo _ _ h1, padP_hi (I.sn i) _ ⟨e.val, h1⟩ rfl]
    simp only [ropeT, dif_pos h1, dqro]
    ring
  · rw [dif_neg h1, dqX_s I h i ⟨e.val - 32, by omega⟩ _ rfl, padP_hi (I.cs i) _ ⟨e.val - 32, by omega⟩ (by show e.val = 32 + (e.val - 32); omega),
      padP_lo (I.sn i) ⟨e.val - 32, by omega⟩ (by show e.val - 32 < 32; omega)]
    simp only [ropeT, dif_neg h1, dqro]
    ring

/-- The fold of the key's columns, summed over the heads. -/
theorem fold_k (j : Fin 4096) (e : Fin 64) :
    (∑ h, krX I h j ⟨e.val, by omega⟩)
      + (if h1 : e.val < 32 then (∑ h, krX I h j ⟨128 + (32 + e.val), by omega⟩) else - ∑ h, krX I h j ⟨128 + (e.val - 32), by omega⟩)
      = dkr I j e := by
  have k1 : ∀ h, krX I h j ⟨e.val, by omega⟩ = (∑ i, DS I h i j * qro I h i e) * c * padP (I.cs j) ⟨e.val, by omega⟩ := fun h => krX_c I h j e _ rfl
  simp only [k1, ← Finset.sum_mul]
  by_cases h1 : e.val < 32
  · have k2 : ∀ h, krX I h j ⟨128 + (32 + e.val), by omega⟩ = (∑ i, DS I h i j * qro I h i ⟨32 + e.val, by omega⟩) * c * padP (I.sn j) ⟨32 + e.val, by omega⟩ :=
      fun h => krX_s I h j ⟨32 + e.val, by omega⟩ _ rfl
    simp only [dif_pos h1, k2, ← Finset.sum_mul]
    rw [padP_lo _ _ h1, padP_hi (I.sn j) _ ⟨e.val, h1⟩ rfl]
    simp only [dkr, ropeT, dif_pos h1, dkro, Finset.sum_mul]
  · have k2 : ∀ h, krX I h j ⟨128 + (e.val - 32), by omega⟩ = (∑ i, DS I h i j * qro I h i ⟨e.val - 32, by omega⟩) * c * padP (I.sn j) ⟨e.val - 32, by omega⟩ :=
      fun h => krX_s I h j ⟨e.val - 32, by omega⟩ _ rfl
    simp only [dif_neg h1, k2, ← Finset.sum_mul]
    rw [padP_hi (I.cs j) _ ⟨e.val - 32, by omega⟩ (by show e.val = 32 + (e.val - 32); omega),
      padP_lo (I.sn j) ⟨e.val - 32, by omega⟩ (by show e.val - 32 < 32; omega)]
    simp only [dkr, ropeT, dif_neg h1, dkro, Finset.sum_mul, sub_eq_add_neg]

/-- A column of the queries' gradient by its head. -/
theorem dq_at (i : Fin 4096) (h : Fin 16) (x : Fin 192) : dq I i ⟨h.val * 192 + x.val, by omega⟩ = dqh I h i x := by
  have e1 : (⟨(h.val * 192 + x.val) / 192, by omega⟩ : Fin 16) = h := Fin.ext (by show (h.val * 192 + x.val) / 192 = h.val; omega)
  have e2 : (⟨(h.val * 192 + x.val) % 192, by omega⟩ : Fin 192) = x := Fin.ext (by show (h.val * 192 + x.val) % 192 = x.val; omega)
  exact congrArg₂ (fun a b => dqh I a i b) e1 e2

/-- The queries' gradient. -/
theorem res_q : t_v118 (gQ I) = arr (dq I) := by
  funext y
  obtain ⟨i, k, rfl⟩ : ∃ (i : Fin 4096) (k : Fin 3072), y = ix2 i k := ⟨y 0, y 1, by funext d; fin_cases d <;> rfl⟩
  obtain ⟨h, x, rfl⟩ : ∃ (h : Fin 16) (x : Fin 192), k = ⟨h.val * 192 + x.val, by omega⟩ :=
    ⟨⟨k.val / 192, by omega⟩, ⟨k.val % 192, by omega⟩, Fin.ext (by show k.val = k.val / 192 * 192 + k.val % 192; omega)⟩
  rw [arr_ix2, dq_at]
  rw [t_v118_at]
  by_cases h1 : x.val < 128
  · rw [dif_pos h1, gQ_at I h i ⟨x.val, by omega⟩ _ rfl]
    simp only [dqX, dqh, dif_pos h1, dqn]
  · rw [dif_neg h1, gQ_at I h i ⟨128 + (x.val - 128), by omega⟩ _ rfl]
    rw [dqh, dif_neg h1, ← fold_q]
    rw [EReal.coe_add]
    congr 1
    by_cases h2 : x.val - 128 < 32
    · rw [dif_pos h2, dif_pos h2, gQ_at I h i ⟨256 + (32 + (x.val - 128)), by omega⟩ _ rfl]
    · rw [dif_neg h2, dif_neg h2, gQ_at I h i ⟨256 + (x.val - 128 - 32), by omega⟩ _ rfl]
      rfl

/-- The keys' and values' gradient. -/
theorem res_kv : t_v119 (gKV I) = arr (dkv I) := by
  funext y
  obtain ⟨i, k, rfl⟩ : ∃ (i : Fin 4096) (k : Fin 4096), y = ix2 i k := ⟨y 0, y 1, by funext d; fin_cases d <;> rfl⟩
  rw [t_v119_at]
  rfl

/-- The rotary key's gradient. -/
theorem res_kr : t_v117 (gKR I) = arr (dkr I) := by
  funext y
  obtain ⟨i, e, rfl⟩ : ∃ (i : Fin 4096) (e : Fin 64), y = ix2 i e := ⟨y 0, y 1, by funext d; fin_cases d <;> rfl⟩
  rw [t_v117_at, arr_ix2, ← fold_k, EReal.coe_add]
  congr 1
  by_cases h2 : e.val < 32
  · rw [dif_pos h2, dif_pos h2]; rfl
  · rw [dif_neg h2, dif_neg h2]; rfl

end Cert.KernelIdeal.Val

end
-- ==== Proof.RefSoft.lean ====
/- The reference up to the gradient of the scores, stage by stage, at real arguments. -/
module

public import proofs.«01_k».proof.Proof.Gen.ReferenceIdeal.Read
public import proofs.«01_k».proof.Proof.Consts
public import Idealize.ShloMosaic.Lib.Pointwise

@[expose] public section

set_option maxRecDepth 16384

noncomputable section

namespace Cert.ReferenceIdeal.Val

open Idealize.ShloMosaic Idealize.ShloMosaic.TcCoe Idealize.SL Cert.Spec Cert.ReferenceIdeal Cert.ReferenceIdeal.Gen Cert.ReferenceIdeal.Read

set_option maxHeartbeats 1000000

variable (I : In)

theorem r28 (j : Fin 4096) (e : Fin 64) : val_main_v28 (arr I.kr) (arr I.cs) (arr I.sn) (ix2 j e) = ((kro I j e : ℝ) : EReal) := by
  refine Eq.trans (b := if h : e.val < 32 then
      arr I.kr (ix2 j ⟨e.val, by omega⟩) * arr I.cs (ix2 j ⟨e.val, h⟩) - arr I.kr (ix2 j ⟨32 + e.val, by omega⟩) * arr I.sn (ix2 j ⟨e.val, h⟩)
    else arr I.kr (ix2 j ⟨32 + (e.val - 32), by omega⟩) * arr I.cs (ix2 j ⟨e.val - 32, by omega⟩)
      + arr I.kr (ix2 j ⟨e.val - 32, by omega⟩) * arr I.sn (ix2 j ⟨e.val - 32, by omega⟩)) ?_ ?_
  · pointwise [val_main_v20, val_main_v21, val_main_v22, val_main_v23, val_main_v24, val_main_v25, val_main_v26, val_main_v27, val_main_v28]
  · unfold kro rope
    rcases Nat.lt_or_ge e.val 32 with h1 | h1
    · simp (disch := omega) only [dif_pos, arr_ix2]; rfl
    · simp (disch := omega) only [dif_neg, arr_ix2, Nat.add_sub_cancel']; rfl

theorem r19 (h : Fin 16) (i : Fin 4096) (e : Fin 64) : val_main_v19 (arr I.q) (arr I.cs) (arr I.sn) (ix3 i h e) = ((qro I h i e : ℝ) : EReal) := by
  refine Eq.trans (b := if h_1 : e.val < 32 then
      arr I.q (ix2 i ⟨h.val * 192 + (128 + e.val), by omega⟩) * arr I.cs (ix2 i ⟨e.val, by omega⟩)
        - arr I.q (ix2 i ⟨h.val * 192 + (128 + (32 + e.val)), by omega⟩) * arr I.sn (ix2 i ⟨e.val, by omega⟩)
    else arr I.q (ix2 i ⟨h.val * 192 + (128 + (32 + (e.val - 32))), by omega⟩) * arr I.cs (ix2 i ⟨e.val - 32, by omega⟩)
      + arr I.q (ix2 i ⟨h.val * 192 + (128 + (e.val - 32)), by omega⟩) * arr I.sn (ix2 i ⟨e.val - 32, by omega⟩)) ?_ ?_
  · pointwise [val_main_v0, val_main_v4, val_main_v5, val_main_v6, val_main_v7, val_main_v8, val_main_v9, val_main_v10, val_main_v11, val_main_v12, val_main_v13, val_main_v14, val_main_v15, val_main_v16, val_main_v17, val_main_v18, val_main_v19]
  · unfold qro rope qr
    rcases Nat.lt_or_ge e.val 32 with h1 | h1
    · simp (disch := omega) only [dif_pos, arr_ix2]; rfl
    · simp (disch := omega) only [dif_neg, arr_ix2, Nat.add_sub_cancel']; rfl

/-- The scaled scores. -/
theorem r36 (h : Fin 16) (i j : Fin 4096) : val_main_v36 (arr I.q) (arr I.kv) (arr I.kr) (arr I.cs) (arr I.sn) (ix3 h i j) = ((s I h i j : ℝ) : EReal) := by
  refine Eq.trans (b := (∑ x : Fin 128, arr I.q (ix2 i ⟨h.val * 192 + x.val, by omega⟩) * arr I.kv (ix2 j ⟨h.val * 256 + x.val, by omega⟩)
      + ∑ x : Fin 64, val_main_v28 (arr I.kr) (arr I.cs) (arr I.sn) (ix2 j x) * val_main_v19 (arr I.q) (arr I.cs) (arr I.sn) (ix3 i h x))
      * Ideal.div 1 (Ideal.sqrt (Ideal.ofBits FTy.f32 0x43400000#32))) ?_ ?_
  · pointwise [val_main_v0, val_main_v1, val_main_v2, val_main_v3, val_main_v29, val_main_v30, val_main_v31, val_main_v32, val_main_v33, val_main_v34, val_main_v35, val_main_v36, val_main_cst, val_main_cst_0]
  · rw [scale_host]
    simp only [r19, r28, arr_ix2, s, EReal.coe_mul, EReal.coe_add, coe_sum]
    rfl

/-- The row's greatest score is a real number. -/
theorem r44 (h : Fin 16) (i : Fin 4096) : ∃ M : ℝ, val_main_v44 (arr I.q) (arr I.kv) (arr I.kr) (arr I.cs) (arr I.sn) (ix2 h i) = (M : EReal) := by
  obtain ⟨M, hM⟩ := fold_max_coe (s I h i)
  refine ⟨M, Eq.trans ?_ hM⟩
  refine Eq.trans (b := max (Ideal.ofBits FTy.f32 0xFF800000#32) (Finset.fold max (Ideal.ofBits FTy.f32 0xFF800000#32)
    (fun x => val_main_v36 (arr I.q) (arr I.kv) (arr I.kr) (arr I.cs) (arr I.sn) (ix3 h i x)) Finset.univ)) ?_ ?_
  · rw [val_main_v44_apply]
    refine congrArg₂ max ?_ ?_
    · rw [val_main_v43_apply]
      rfl
    · pointwise [val_main_v37, val_main_cst_1]
  · rw [ofBits_neg_inf, max_eq_right bot_le]
    simp only [r36]

theorem r57 (h : Fin 16) (i j : Fin 4096) : val_main_v57 (arr I.q) (arr I.kv) (arr I.kr) (arr I.cs) (arr I.sn) (ix3 h i j) = Ideal.exp (val_main_v36 (arr I.q) (arr I.kv) (arr I.kr) (arr I.cs) (arr I.sn) (ix3 h i j) - val_main_v44 (arr I.q) (arr I.kv) (arr I.kr) (arr I.cs) (arr I.sn) (ix2 h i)) := by
  pointwise [val_main_v54, val_main_v55, val_main_v56, val_main_v57]

variable (h : Fin 16) (i : Fin 4096) (M : ℝ) (hM : val_main_v44 (arr I.q) (arr I.kv) (arr I.kr) (arr I.cs) (arr I.sn) (ix2 h i) = (M : EReal))
include hM

theorem e_real (j : Fin 4096) : val_main_v57 (arr I.q) (arr I.kv) (arr I.kr) (arr I.cs) (arr I.sn) (ix3 h i j) = ((Real.exp (s I h i j - M) : ℝ) : EReal) := by
  rw [r57, hM, r36, ← EReal.coe_sub, Ideal.exp_coe]

/-- The row's sum of shifted exponentials. -/
theorem r58 : val_main_v58 (arr I.q) (arr I.kv) (arr I.kr) (arr I.cs) (arr I.sn) (ix2 h i) = ((Z I h i / Real.exp M : ℝ) : EReal) := by
  refine Eq.trans (b := ∑ j : Fin 4096, val_main_v57 (arr I.q) (arr I.kv) (arr I.kr) (arr I.cs) (arr I.sn) (ix3 h i j)) ?_ ?_
  · pointwise [val_main_v58, val_main_cst_9]
  · simp only [e_real I h i M hM]
    rw [← coe_sum, shift_sum]

omit hM in
/-- The probabilities. -/
theorem r61 (h : Fin 16) (i j : Fin 4096) : val_main_v61 (arr I.q) (arr I.kv) (arr I.kr) (arr I.cs) (arr I.sn) (ix3 h i j) = ((P I h i j : ℝ) : EReal) := by
  obtain ⟨M, hM⟩ := r44 I h i
  have hp : Z I h i / Real.exp M ≠ 0 := (div_pos (Z_pos I h i) (Real.exp_pos M)).ne'
  refine Eq.trans (b := Ideal.div (val_main_v57 (arr I.q) (arr I.kv) (arr I.kr) (arr I.cs) (arr I.sn) (ix3 h i j)) (val_main_v58 (arr I.q) (arr I.kv) (arr I.kr) (arr I.cs) (arr I.sn) (ix2 h i))) ?_ ?_
  · pointwise [val_main_v59, val_main_v60, val_main_v61]
  · rw [e_real I h i M hM, r58 I h i M hM, Ideal.div_coe hp, ← EReal.coe_mul, mul_one_div, shift_P]

omit hM in
/-- The probability gradients. -/
theorem r72 (h : Fin 16) (i j : Fin 4096) : val_main_v72 (arr I.kv) (arr I.g) (ix3 h i j) = ((dp I h i j : ℝ) : EReal) := by
  refine Eq.trans (b := ∑ d : Fin 128, arr I.g (ix2 i ⟨h.val * 128 + d.val, by omega⟩) * arr I.kv (ix2 j ⟨h.val * 256 + (128 + d.val), by omega⟩)) ?_ ?_
  · pointwise [val_main_v65, val_main_v66, val_main_v70, val_main_v71, val_main_v72]
  · simp only [arr_ix2, ← EReal.coe_mul]
    rw [← coe_sum]
    exact congrArg _ (Finset.sum_congr rfl fun d _ => mul_comm _ _)

omit hM in
/-- The score gradients. -/
theorem r90 (h : Fin 16) (i j : Fin 4096) : val_main_v90 (arr I.q) (arr I.kv) (arr I.kr) (arr I.cs) (arr I.sn) (arr I.g) (ix3 h i j) = ((DS I h i j * c : ℝ) : EReal) := by
  obtain ⟨M, hM⟩ := r44 I h i
  have hp : Z I h i / Real.exp M ≠ 0 := (div_pos (Z_pos I h i) (Real.exp_pos M)).ne'
  refine Eq.trans (b := (Ideal.div (val_main_v72 (arr I.kv) (arr I.g) (ix3 h i j)) (val_main_v58 (arr I.q) (arr I.kv) (arr I.kr) (arr I.cs) (arr I.sn) (ix2 h i))
      + ∑ _y : Fin 1, -(∑ x : Fin 4096, val_main_v72 (arr I.kv) (arr I.g) (ix3 h i x) * Ideal.div 1 (val_main_v58 (arr I.q) (arr I.kv) (arr I.kr) (arr I.cs) (arr I.sn) (ix2 h i) * val_main_v58 (arr I.q) (arr I.kv) (arr I.kr) (arr I.cs) (arr I.sn) (ix2 h i)) * val_main_v57 (arr I.q) (arr I.kv) (arr I.kr) (arr I.cs) (arr I.sn) (ix3 h i x)))
      * val_main_v57 (arr I.q) (arr I.kv) (arr I.kr) (arr I.cs) (arr I.sn) (ix3 h i j) * Ideal.div 1 (Ideal.sqrt (Ideal.ofBits FTy.f32 0x43400000#32))) ?_ ?_
  · pointwise [val_main_v33, val_main_v34, val_main_cst, val_main_cst_0, val_main_v59, val_main_v62, val_main_v63, val_main_v64, val_main_cst_10, val_main_v77, val_main_v78, val_main_v79, val_main_v80, val_main_v81, val_main_v82, val_main_v83, val_main_v84, val_main_v85, val_main_v86, val_main_v87, val_main_v88, val_main_v89, val_main_v90, val_main_cst_12, val_main_cst_13]
  · rw [scale_host, r58 I h i M hM, Fin.sum_univ_one]
    have hpp : Z I h i / Real.exp M * (Z I h i / Real.exp M) ≠ 0 := mul_ne_zero hp hp
    simp only [e_real I h i M hM, r72, ← EReal.coe_mul, Ideal.div_coe hp, Ideal.div_coe hpp, one_mul]
    rw [← coe_sum, ← EReal.coe_neg, ← EReal.coe_add, ← EReal.coe_mul, ← EReal.coe_mul]
    refine congrArg (fun x : ℝ => ((x * c : ℝ) : EReal)) ?_
    have hP : ∀ x, Real.exp (s I h i x - M) = P I h i x * (Z I h i / Real.exp M) := fun x => by
      rw [← shift_P I h i x M, div_mul_cancel₀ _ hp]
    have hs : ∑ x : Fin 4096, dp I h i x * (1 / (Z I h i / Real.exp M * (Z I h i / Real.exp M))) * Real.exp (s I h i x - M)
        = Dl I h i * (1 / (Z I h i / Real.exp M)) := by
      rw [Dl, Finset.sum_mul]
      refine Finset.sum_congr rfl fun x _ => ?_
      rw [hP]
      field_simp
    rw [hs, hP, DS]
    generalize Z I h i / Real.exp M = L at hp
    field_simp
    ring

end Cert.ReferenceIdeal.Val

end
-- ==== Proof.RefGrad.lean ====
/- The three results of the reference are the real gradients of Spec.lean. -/
module

public import proofs.«01_k».proof.Proof.Gen.ReferenceIdeal.Read
public import proofs.«01_k».proof.Proof.Consts
public import Idealize.ShloMosaic.Lib.Pointwise
public import proofs.«01_k».proof.Proof.RefSoft

@[expose] public section

set_option maxRecDepth 16384

noncomputable section

namespace Cert.ReferenceIdeal.Val

open Idealize.ShloMosaic Idealize.ShloMosaic.TcCoe Idealize.SL Cert.Spec Cert.ReferenceIdeal Cert.ReferenceIdeal.Gen Cert.ReferenceIdeal.Read

set_option maxHeartbeats 1000000

variable (I : In)

/-- The gradient of the rotated queries. -/
theorem r92 (h : Fin 16) (i : Fin 4096) (e : Fin 64) : val_main_v92 (arr I.q) (arr I.kv) (arr I.kr) (arr I.cs) (arr I.sn) (arr I.g) (ix3 i h e) = ((dqro I h i e : ℝ) : EReal) := by
  refine Eq.trans (b := ∑ x : Fin 4096, val_main_v90 (arr I.q) (arr I.kv) (arr I.kr) (arr I.cs) (arr I.sn) (arr I.g) (ix3 h i x) * val_main_v28 (arr I.kr) (arr I.cs) (arr I.sn) (ix2 x e)) ?_ ?_
  · pointwise [val_main_v91, val_main_v92]
  · simp only [r90, r28, ← EReal.coe_mul]
    rw [← coe_sum, dqro, Finset.sum_mul]
    exact congrArg _ (Finset.sum_congr rfl fun x _ => by ring)

/-- The gradient of the rotated key. -/
theorem r93 (j : Fin 4096) (e : Fin 64) : val_main_v93 (arr I.q) (arr I.kv) (arr I.kr) (arr I.cs) (arr I.sn) (arr I.g) (ix2 j e) = ((dkro I j e : ℝ) : EReal) := by
  refine Eq.trans (b := ∑ i : Fin 4096, ∑ h : Fin 16, val_main_v90 (arr I.q) (arr I.kv) (arr I.kr) (arr I.cs) (arr I.sn) (arr I.g) (ix3 h i j) * val_main_v19 (arr I.q) (arr I.cs) (arr I.sn) (ix3 i h e)) ?_ ?_
  · pointwise [val_main_v91, val_main_v93]
  · simp only [r90, r19, ← EReal.coe_mul, ← coe_sum]
    rw [Finset.sum_comm]
    refine congrArg _ (Finset.sum_congr rfl fun h _ => ?_)
    rw [Finset.sum_mul]
    exact Finset.sum_congr rfl fun x _ => by ring

/-- The rotary key's gradient. -/
theorem ref_dkr (j : Fin 4096) (e : Fin 64) : val_main_v109 (arr I.q) (arr I.kv) (arr I.kr) (arr I.cs) (arr I.sn) (arr I.g) (ix2 j e) = ((dkr I j e : ℝ) : EReal) := by
  refine Eq.trans (b := (if h : 32 ≤ e.val ∧ e.val - 32 < 32 then
        val_main_v93 (arr I.q) (arr I.kv) (arr I.kr) (arr I.cs) (arr I.sn) (arr I.g) (ix2 j ⟨32 + (e.val - 32), by omega⟩) * arr I.cs (ix2 j ⟨e.val - 32, by omega⟩)
          + -val_main_v93 (arr I.q) (arr I.kv) (arr I.kr) (arr I.cs) (arr I.sn) (arr I.g) (ix2 j ⟨e.val - 32, by omega⟩) * arr I.sn (ix2 j ⟨e.val - 32, by omega⟩)
      else 0)
      + if h : e.val < 32 then
        val_main_v93 (arr I.q) (arr I.kv) (arr I.kr) (arr I.cs) (arr I.sn) (arr I.g) (ix2 j ⟨32 + e.val, by omega⟩) * arr I.sn (ix2 j ⟨e.val, h⟩)
          + val_main_v93 (arr I.q) (arr I.kv) (arr I.kr) (arr I.cs) (arr I.sn) (arr I.g) (ix2 j e) * arr I.cs (ix2 j ⟨e.val, h⟩)
      else 0) ?_ ?_
  · pointwise [val_main_v98, val_main_v99, val_main_v100, val_main_v101, val_main_v102, val_main_v103, val_main_v104, val_main_v105, val_main_v106, val_main_v107, val_main_v108, val_main_v109, val_main_cst_14, val_main_cst_15]
  · unfold dkr ropeT
    simp only [r93, arr_ix2, ← EReal.coe_mul, ← EReal.coe_add, ← EReal.coe_neg]
    rcases Nat.lt_or_ge e.val 32 with h1 | h1
    · rw [dif_neg (by omega), dif_pos h1, dif_pos h1, zero_add]
      exact congrArg _ (add_comm _ _)
    · rw [dif_pos ⟨h1, by omega⟩, dif_neg (by omega), dif_neg (by omega), add_zero]
      simp only [Nat.add_sub_cancel' h1]
      exact congrArg _ (by ring)

/-- The query gradient. -/
theorem ref_dq (i : Fin 4096) (h : Fin 16) (y : Fin 192) :
    val_main_v132 (arr I.q) (arr I.kv) (arr I.kr) (arr I.cs) (arr I.sn) (arr I.g) (ix2 i ⟨h.val * 192 + y.val, by omega⟩) = ((dqh I h i y : ℝ) : EReal) := by
  refine Eq.trans (b := (if h_1 : 128 ≤ y.val ∧ y.val - 128 < 64 then
        (if h_2 : 32 ≤ y.val - 128 ∧ y.val - 128 - 32 < 32 then
            val_main_v92 (arr I.q) (arr I.kv) (arr I.kr) (arr I.cs) (arr I.sn) (arr I.g) (ix3 i h ⟨32 + (y.val - 128 - 32), by omega⟩) * arr I.cs (ix2 i ⟨y.val - 128 - 32, by omega⟩)
              + -val_main_v92 (arr I.q) (arr I.kv) (arr I.kr) (arr I.cs) (arr I.sn) (arr I.g) (ix3 i h ⟨y.val - 128 - 32, by omega⟩) * arr I.sn (ix2 i ⟨y.val - 128 - 32, by omega⟩)
          else 0)
          + if h_2 : y.val - 128 < 32 then
            val_main_v92 (arr I.q) (arr I.kv) (arr I.kr) (arr I.cs) (arr I.sn) (arr I.g) (ix3 i h ⟨32 + (y.val - 128), by omega⟩) * arr I.sn (ix2 i ⟨y.val - 128, by omega⟩)
              + val_main_v92 (arr I.q) (arr I.kv) (arr I.kr) (arr I.cs) (arr I.sn) (arr I.g) (ix3 i h ⟨y.val - 128, by omega⟩) * arr I.cs (ix2 i ⟨y.val - 128, by omega⟩)
          else 0
      else 0)
      + if h_1 : y.val < 128 then ∑ x : Fin 4096, val_main_v90 (arr I.q) (arr I.kv) (arr I.kr) (arr I.cs) (arr I.sn) (arr I.g) (ix3 h i x) * arr I.kv (ix2 x ⟨h.val * 256 + y.val, by omega⟩) else 0) ?_ ?_
  · pointwise [val_main_v5, val_main_v6, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v96, val_main_v97, val_main_v1, val_main_v2, val_main_cst_16, val_main_cst_17, val_main_cst_18, val_main_cst_19]
  · unfold dqh ropeT
    simp only [r92, r90, arr_ix2, ← EReal.coe_mul, ← EReal.coe_add, ← EReal.coe_neg, ← coe_sum]
    rcases Nat.lt_or_ge y.val 128 with h0 | h0
    · rw [dif_neg (by omega), dif_pos h0, dif_pos h0, zero_add, dqn, Finset.sum_mul]
      exact congrArg _ (Finset.sum_congr rfl fun x _ => mul_right_comm _ _ _)
    · have a1 : 128 ≤ y.val ∧ y.val - 128 < 64 := by omega
      have a2 : ¬ y.val < 128 := by omega
      rw [dif_pos a1, dif_neg a2, dif_neg a2, add_zero]
      rcases Nat.lt_or_ge (y.val - 128) 32 with h1 | h1
      · have b1 : ¬ (32 ≤ y.val - 128 ∧ y.val - 128 - 32 < 32) := by omega
        rw [dif_neg b1, dif_pos h1, dif_pos h1, zero_add]
        exact congrArg _ (add_comm _ _)
      · have b1 : 32 ≤ y.val - 128 ∧ y.val - 128 - 32 < 32 := by omega
        have b2 : ¬ y.val - 128 < 32 := by omega
        rw [dif_pos b1, dif_neg b2, dif_neg b2, add_zero]
        simp only [Nat.add_sub_cancel' h1]
        exact congrArg _ (by ring)

/-- The key and value gradient. -/
theorem ref_dkv (j : Fin 4096) (h : Fin 16) (y : Fin 256) :
    val_main_v131 (arr I.q) (arr I.kv) (arr I.kr) (arr I.cs) (arr I.sn) (arr I.g) (ix2 j ⟨h.val * 256 + y.val, by omega⟩) = ((dkvh I h j y : ℝ) : EReal) := by
  refine Eq.trans (b := (if h_1 : 128 ≤ y.val ∧ y.val - 128 < 128 then
        ∑ x : Fin 4096, arr I.g (ix2 x ⟨h.val * 128 + (y.val - 128), by omega⟩) * val_main_v61 (arr I.q) (arr I.kv) (arr I.kr) (arr I.cs) (arr I.sn) (ix3 h x j) else 0)
      + if h_1 : y.val < 128 then ∑ x : Fin 4096, val_main_v90 (arr I.q) (arr I.kv) (arr I.kr) (arr I.cs) (arr I.sn) (arr I.g) (ix3 h x j) * arr I.q (ix2 x ⟨h.val * 192 + y.val, by omega⟩) else 0) ?_ ?_
  · pointwise [val_main_v65, val_main_v66, val_main_v70, val_main_v71, val_main_v73, val_main_v74, val_main_v75, val_main_v76, val_main_v94, val_main_v95, val_main_v129, val_main_v130, val_main_v131, val_main_v0, val_main_v3, val_main_cst_11, val_main_cst_20]
  · unfold dkvh
    simp only [r61, r90, arr_ix2, ← EReal.coe_mul, ← coe_sum]
    rcases Nat.lt_or_ge y.val 128 with h0 | h0
    · rw [dif_neg (by omega), dif_pos h0, dif_pos h0, zero_add, dkn, Finset.sum_mul]
      exact congrArg _ (Finset.sum_congr rfl fun x _ => mul_right_comm _ _ _)
    · rw [dif_pos ⟨h0, by omega⟩, dif_neg (by omega), dif_neg (by omega), add_zero, dv]
      exact congrArg _ (Finset.sum_congr rfl fun x _ => mul_comm _ _)

end Cert.ReferenceIdeal.Val

end
-- ==== Proof.Ends.lean ====
/- The two runs: what the kernel's program and the reference's leave in their result arrays. -/
module

public import proofs.«01_k».proof.Proof.Results
public import proofs.«01_k».proof.Proof.Tail
public import proofs.«01_k».proof.Proof.RefGrad
public import proofs.«01_k».proof.Proof.Gen.ReferenceIdeal.Run
public import Idealize.ShloMosaic.Lib.Claim

@[expose] public section

set_option maxRecDepth 16384

noncomputable section

namespace Cert.KernelIdeal.Val

open Idealize.ShloMosaic Idealize.ShloMosaic.TcCoe Idealize.SL Idealize.SL.Sem Cert.Spec Cert.KernelIdeal.Gen

/-- From arrays of reals the kernel's program ends with the three gradients. -/
theorem ends (m : (ℓ : Loc nD τ sig) → Buf (Elt Ideal) ℓ) (ρ : Dev nD → PrngReg) (I : Dev nD → In) (A : ∀ c, ArgsAt m c (I c)) :
    θ_run defs (onTc (τ := τ) (main (F := Ideal))) ⟨m, fun _ => 0, ρ⟩ (fun r => ∀ c : Dev nD,
      r.2.mem ((c.tc : Thread nD τ).loc main_v118) = arr (dq (I c))
      ∧ r.2.mem ((c.tc : Thread nD τ).loc main_v119) = arr (dkv (I c))
      ∧ r.2.mem ((c.tc : Thread nD τ).loc main_v117) = arr (dkr (I c))) :=
  (θ_run defs _ _).mono (fun _ h c =>
    ⟨(((h c).2 main_v118 (Pipeline.mem_restRefs_of main_v118 (by decide) (by decide))).trans
        ((ends_v118 m c).trans ((congrArg t_v118 (arr10 (A c))).trans (res_q (I c))))),
     (((h c).2 main_v119 (Pipeline.mem_restRefs_of main_v119 (by decide) (by decide))).trans
        ((ends_v119 m c).trans ((congrArg t_v119 (arr11 (A c))).trans (res_kv (I c))))),
     (((h c).2 main_v117 (Pipeline.mem_restRefs_of main_v117 (by decide) (by decide))).trans
        ((ends_v117 m c).trans ((congrArg t_v117 (arr12 (A c))).trans (res_kr (I c)))))⟩) (run_main m ρ)

end Cert.KernelIdeal.Val

namespace Cert.ReferenceIdeal.Val

open Idealize.ShloMosaic Idealize.ShloMosaic.TcCoe Idealize.SL Idealize.SL.Sem Cert.Spec Cert.ReferenceIdeal.Gen Cert.ReferenceIdeal.Read

/-- The reference's three results as arrays. -/
theorem all_q (I : In) : val_main_v132 (arr I.q) (arr I.kv) (arr I.kr) (arr I.cs) (arr I.sn) (arr I.g) = arr (dq I) := by
  funext y
  obtain ⟨i, k, rfl⟩ : ∃ (i : Fin 4096) (k : Fin 3072), y = ix2 i k := ⟨y 0, y 1, by funext d; fin_cases d <;> rfl⟩
  obtain ⟨h, x, rfl⟩ : ∃ (h : Fin 16) (x : Fin 192), k = ⟨h.val * 192 + x.val, by omega⟩ :=
    ⟨⟨k.val / 192, by omega⟩, ⟨k.val % 192, by omega⟩, Fin.ext (by show k.val = k.val / 192 * 192 + k.val % 192; omega)⟩
  rw [ref_dq, arr_ix2, Cert.KernelIdeal.Val.dq_at]

theorem all_kv (I : In) : val_main_v131 (arr I.q) (arr I.kv) (arr I.kr) (arr I.cs) (arr I.sn) (arr I.g) = arr (dkv I) := by
  funext y
  obtain ⟨i, k, rfl⟩ : ∃ (i : Fin 4096) (k : Fin 4096), y = ix2 i k := ⟨y 0, y 1, by funext d; fin_cases d <;> rfl⟩
  obtain ⟨h, x, rfl⟩ : ∃ (h : Fin 16) (x : Fin 256), k = ⟨h.val * 256 + x.val, by omega⟩ :=
    ⟨⟨k.val / 256, by omega⟩, ⟨k.val % 256, by omega⟩, Fin.ext (by show k.val = k.val / 256 * 256 + k.val % 256; omega)⟩
  rw [ref_dkv]
  exact (Cert.KernelIdeal.Val.gKV_at I h i x _ rfl).symm

theorem all_kr (I : In) : val_main_v109 (arr I.q) (arr I.kv) (arr I.kr) (arr I.cs) (arr I.sn) (arr I.g) = arr (dkr I) := by
  funext y
  obtain ⟨i, k, rfl⟩ : ∃ (i : Fin 4096) (k : Fin 64), y = ix2 i k := ⟨y 0, y 1, by funext d; fin_cases d <;> rfl⟩
  rw [ref_dkr, arr_ix2]

/-- Every argument array of the reference's program holds reals. -/
structure ArgsAt (m : (ℓ : Loc nD τ sig) → Buf (Elt Ideal) ℓ) (c : Dev nD) (I : In) : Prop where
  a0 : m ((c : Thread nD τ).loc main_arg0) = arr I.q
  a1 : m ((c : Thread nD τ).loc main_arg1) = arr I.kv
  a2 : m ((c : Thread nD τ).loc main_arg2) = arr I.kr
  a3 : m ((c : Thread nD τ).loc main_arg3) = arr I.cs
  a4 : m ((c : Thread nD τ).loc main_arg4) = arr I.sn
  a5 : m ((c : Thread nD τ).loc main_arg5) = arr I.g

/-- One result at six arguments is the result at the six real arrays. -/
theorem at_args {β : Type} (f : FVec Ideal S4096x3072 .f32 → FVec Ideal S4096x4096 .f32 → FVec Ideal S4096x64 .f32 → FVec Ideal S4096x32 .f32 → FVec Ideal S4096x32 .f32 → FVec Ideal S4096x2048 .f32 → β)
    {m : (ℓ : Loc nD τ sig) → Buf (Elt Ideal) ℓ} {c : Dev nD} {I : In} (A : ArgsAt m c I) :
    f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = f (arr I.q) (arr I.kv) (arr I.kr) (arr I.cs) (arr I.sn) (arr I.g) := by
  rw [A.a0, A.a1, A.a2, A.a3, A.a4, A.a5]

/-- From arrays of reals the reference's program ends with the three gradients, its arguments unchanged. -/
theorem ends (m : (ℓ : Loc nD τ sig) → Buf (Elt Ideal) ℓ) (ρ : Dev nD → PrngReg) (I : Dev nD → In) (A : ∀ c, ArgsAt m c (I c)) :
    θ_run defs (onTc (τ := τ) (main (F := Ideal))) ⟨m, fun _ => 0, ρ⟩ (fun r => ∀ c : Dev nD,
      r.2.mem ((c.tc : Thread nD τ).loc main_v132) = arr (dq (I c))
      ∧ r.2.mem ((c.tc : Thread nD τ).loc main_v131) = arr (dkv (I c))
      ∧ r.2.mem ((c.tc : Thread nD τ).loc main_v109) = arr (dkr (I c))) :=
  (θ_run defs _ _).mono (fun _ h c =>
    ⟨(h c).1.trans ((val_main_v132_eq (StableHlo.launchContents m c)).trans ((at_args (β := FVec Ideal S4096x3072 .f32) (fun a b d e f g => val_main_v132 (F := Ideal) a b d e f g) (A c)).trans (all_q (I c)))),
     (h c).2.1.trans ((val_main_v131_eq (StableHlo.launchContents m c)).trans ((at_args (β := FVec Ideal S4096x4096 .f32) (fun a b d e f g => val_main_v131 (F := Ideal) a b d e f g) (A c)).trans (all_kv (I c)))),
     (h c).2.2.1.trans ((val_main_v109_eq (StableHlo.launchContents m c)).trans ((at_args (β := FVec Ideal S4096x64 .f32) (fun a b d e f g => val_main_v109 (F := Ideal) a b d e f g) (A c)).trans (all_kr (I c))))⟩)
    (Cert.ReferenceIdeal.Value.run m ρ)

/-- The frame: the arguments unchanged, every counter at zero (the program has no semaphore). -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2, sem_eq_zero_of_no_sems (by decide) r.2⟩) (Cert.ReferenceIdeal.Value.run m ρ)

end Cert.ReferenceIdeal.Val

end
-- ==== Proof.Finite.lean ====
/- What the precondition says: every argument array holds real numbers. -/
module

public import proofs.«01_k».proof.Proof.Gen.Pre_finite
public import proofs.«01_k».proof.Proof.Spec
public import Idealize.ShloMosaic.Lib.Pointwise

@[expose] public section

noncomputable section

namespace Cert.Finite

open Idealize.ShloMosaic Cert.Spec Cert.Pre_finite

/-- An extended real whose difference with itself is zero is a real number. -/
theorem coe_of_sub (x : EReal) (h : x - x = 0) : ((x.toReal : ℝ) : EReal) = x := by
  refine EReal.coe_toReal ?_ ?_
  · rintro rfl; exact absurd h (by simp)
  · rintro rfl; exact absurd h (by simp)

/-- The matrix of real numbers an array holds. -/
def rl {a b : ℕ} (X : Vec Ideal (⟨2, ![a, b]⟩ : Shape) .f32) (i : Fin a) (j : Fin b) : ℝ := EReal.toReal (X (ix2 i j))

/-- One comparison of the precondition: the array is an array of reals. -/
theorem arr_of {a b : ℕ} (X : FVec Ideal (⟨2, ![a, b]⟩ : Shape) .f32) (hb : S_.BroadcastsInDim (⟨2, ![a, b]⟩ : Shape) (![] : Fin 0 → Fin 2))
    (h : cmpf .oeq (subf X X) (broadcastInDim (⟨2, ![a, b]⟩ : Shape) ![] hb (constant S_ .f32 0x00000000#32)) = fun _ => 1#1) :
    X = arr (rl X) := by
  funext y
  have hy := congrFun h y
  obtain ⟨i, k, rfl⟩ : ∃ (i : Fin a) (k : Fin b), y = ix2 i k := ⟨y 0, y 1, by funext d; fin_cases d <;> rfl⟩
  have e : BitVec.ofBool (decide (X (ix2 i k) - X (ix2 i k) = 0)) = 1#1 := by
    refine Eq.trans ?_ hy
    pointwise []
  have e2 : X (ix2 i k) - X (ix2 i k) = 0 := by
    by_contra hne
    rw [decide_eq_false hne] at e
    exact absurd e (by decide)
  exact (coe_of_sub _ e2).symm

end Cert.Finite

end
-- ==== Proof.FfnSum.lean ====
/- Sums taken a tile at a time, and sums over padded columns. -/
module

public import Idealize.ShloMosaic.Lib.Pointwise
public import Idealize.ShloMosaic.PureOps.Ideal.Laws

@[expose] public section

noncomputable section

namespace Cert.Ffn

open Idealize.ShloMosaic

/-- A sum over `4 n` terms, `n` at a time. -/
theorem sum_four {n N : ℕ} (hN : N = n + n + n + n) (f : Fin N → EReal) :
    ((∑ x : Fin n, f ⟨0 * n + x.val, by omega⟩ + ∑ x : Fin n, f ⟨1 * n + x.val, by omega⟩)
      + ∑ x : Fin n, f ⟨2 * n + x.val, by omega⟩) + ∑ x : Fin n, f ⟨3 * n + x.val, by omega⟩ = ∑ i, f i := by
  subst hN
  refine Eq.trans ?_ (Fin.sum_univ_add (a := n + n + n) (b := n) f).symm
  refine congrArg₂ (· + ·) ?_ (Finset.sum_congr rfl fun x _ => congrArg f (Fin.ext (by show 3 * n + x.val = n + n + n + x.val; omega)))
  refine Eq.trans ?_ (Fin.sum_univ_add (a := n + n) (b := n) fun i => f (Fin.castAdd n i)).symm
  refine congrArg₂ (· + ·) ?_ (Finset.sum_congr rfl fun x _ => congrArg f (Fin.ext (by show 2 * n + x.val = n + n + x.val; omega)))
  refine Eq.trans ?_ (Fin.sum_univ_add (a := n) (b := n) fun i => f (Fin.castAdd n (Fin.castAdd n i))).symm
  exact congrArg₂ (· + ·) (Finset.sum_congr rfl fun x _ => congrArg f (Fin.ext (by show 0 * n + x.val = x.val; omega)))
    (Finset.sum_congr rfl fun x _ => congrArg f (Fin.ext (by show 1 * n + x.val = n + x.val; omega)))

/-- A sum over `2 n` terms, `n` at a time. -/
theorem sum_two {n N : ℕ} (hN : N = n + n) (f : Fin N → EReal) :
    ∑ x : Fin n, f ⟨0 * n + x.val, by omega⟩ + ∑ x : Fin n, f ⟨1 * n + x.val, by omega⟩ = ∑ i, f i := by
  subst hN
  refine Eq.trans ?_ (Fin.sum_univ_add (a := n) (b := n) f).symm
  exact congrArg₂ (· + ·) (Finset.sum_congr rfl fun x _ => congrArg f (Fin.ext (by show 0 * n + x.val = x.val; omega)))
    (Finset.sum_congr rfl fun x _ => congrArg f (Fin.ext (by show 1 * n + x.val = n + x.val; omega)))

/-- A sum over eight shards of `p` terms each is the double sum. -/
theorem sum_shards {p N : ℕ} (hN : N = 8 * p) (f : Fin N → EReal) :
    ∑ i, f i = ∑ s : Fin 8, ∑ r : Fin p, f ⟨s.val * p + r.val, by
      have := s.isLt; have := r.isLt
      calc s.val * p + r.val < s.val * p + p := by omega
        _ = (s.val + 1) * p := by ring
        _ ≤ 8 * p := Nat.mul_le_mul_right p (by omega)
        _ = N := hN.symm⟩ := by
  subst hN
  rw [← Fintype.sum_prod_type']
  refine (Fintype.sum_equiv finProdFinEquiv _ _ fun x => ?_).symm
  exact congrArg f (Fin.ext (by show x.1.val * p + x.2.val = x.2.val + p * x.1.val; ring))

/-- A sum over the padded columns is the sum over the columns when the padding adds zeros. -/
theorem sum_pad (f : Fin 11264 → EReal) (g : Fin 11008 → EReal)
    (h : ∀ (s : Fin 8) (r : Fin 1376), f ⟨s.val * 1408 + r.val, by omega⟩ = g ⟨s.val * 1376 + r.val, by omega⟩)
    (z : ∀ (s : Fin 8) (r : Fin 32), f ⟨s.val * 1408 + (1376 + r.val), by omega⟩ = 0) : ∑ i, f i = ∑ i, g i := by
  rw [sum_shards (p := 1408) rfl f, sum_shards (p := 1376) rfl g]
  refine Finset.sum_congr rfl fun s _ => ?_
  refine (Fin.sum_univ_add (a := 1376) (b := 32) fun r => f ⟨s.val * 1408 + r.val, by omega⟩).trans ?_
  refine (congrArg₂ (· + ·) (Finset.sum_congr rfl fun r _ => h s r) (Finset.sum_eq_zero fun r _ => z s r)).trans ?_
  exact add_zero _

end Cert.Ffn

end
-- ==== Proof.FfnFinite.lean ====
/- What the precondition of the gate's gradient says: the up product, the weights and the down product's gradient hold real
   numbers, and so does the product of the last two. -/
module

public import proofs.«01_k».proof.Proof.Finite
public import proofs.«01_k».proof.Proof.Gen.Pre_finite_gate
public import proofs.«01_k».proof.Proof.Gen.GateRefIdeal.Read

@[expose] public section

noncomputable section

namespace Cert.FfnFinite

open Idealize.ShloMosaic Cert.Pre_finite_gate

/-- One comparison of the precondition: the array's entries are real. -/
theorem real_of {a b : ℕ} (X : FVec Ideal (⟨2, ![a, b]⟩ : Shape) .f32) (hb : S_.BroadcastsInDim (⟨2, ![a, b]⟩ : Shape) (![] : Fin 0 → Fin 2))
    (h : cmpf .oeq (subf X X) (broadcastInDim (⟨2, ![a, b]⟩ : Shape) ![] hb (constant S_ .f32 0x00000000#32)) = fun _ => 1#1) (y : (⟨2, ![a, b]⟩ : Shape).Idx) :
    ∃ d : ℝ, X y = (d : EReal) := by
  have hy := congrFun h y
  obtain ⟨i, k, rfl⟩ : ∃ (i : Fin a) (k : Fin b), y = ix2 i k := ⟨y 0, y 1, by funext d; fin_cases d <;> rfl⟩
  have e : BitVec.ofBool (decide (X (ix2 i k) - X (ix2 i k) = 0)) = 1#1 := by
    refine Eq.trans ?_ hy
    pointwise []
  have e2 : X (ix2 i k) - X (ix2 i k) = 0 := by
    by_contra hne
    rw [decide_eq_false hne] at e
    exact absurd e (by decide)
  exact ⟨_, (Cert.Finite.coe_of_sub _ e2).symm⟩

variable (g u : FVec Ideal S4096x11008 .f32) (w : FVec Ideal S11008x4096 .f32) (d : FVec Ideal S4096x4096 .f32)

theorem up_real (h : (fn (F := Ideal) g u w d).1 = (fun _ => 1#1) ∧ (fn (F := Ideal) g u w d).2.1 = (fun _ => 1#1) ∧ (fn (F := Ideal) g u w d).2.2 = (fun _ => 1#1))
    (y : S4096x11008.Idx) : ∃ r : ℝ, u y = (r : EReal) := real_of u _ h.1 y

/-- The product of two arrays of reals is one. -/
theorem product_real (h : (fn (F := Ideal) g u w d).1 = (fun _ => 1#1) ∧ (fn (F := Ideal) g u w d).2.1 = (fun _ => 1#1) ∧ (fn (F := Ideal) g u w d).2.2 = (fun _ => 1#1))
    (y : S4096x11008.Idx) : ∃ r : ℝ, Cert.GateRefIdeal.Read.val_main_v3 (F := Ideal) w d y = (r : EReal) := by
  choose wr hw using real_of w _ h.2.1
  choose dr hd using real_of d _ h.2.2
  refine ⟨∑ k : Fin 4096, dr (Cert.GateRefIdeal.Read.lidx_main_v3 y k) * wr (Cert.GateRefIdeal.Read.ridx_main_v3 y k), ?_⟩
  rw [Cert.GateRefIdeal.Read.val_main_v3_apply, Cert.Spec.coe_sum]
  refine Finset.sum_congr rfl fun k _ => ?_
  rw [hd, hw, EReal.coe_mul]

end Cert.FfnFinite

end
-- ==== Proof.FfnTile.lean ====
/- Tiles written a slab of rows at a time. -/
module

public import Idealize.ShloMosaic.Lib.Pipeline.ValueKit
public import Idealize.ShloMosaic.Lib.Pipeline.ReadBack
public import Idealize.ShloMosaic.Lib.Pointwise

@[expose] public section

noncomputable section

namespace Cert.Ffn

open Idealize.ShloMosaic

/-- Row `a` of a slab that starts at row `o` is row `o + a`. -/
theorem emb_rows {k n mm : ℕ} (o : ℕ) (inb : ∀ a, (![o, 0] : Fin 2 → ℕ) a + (![k, n] : Fin 2 → ℕ) a ≤ (⟨2, ![mm, n]⟩ : Shape).size a)
    (a : Fin k) (b : Fin n) (i : Fin mm) (hi : i.val = o + a.val) :
    (Rect.unit (s := (⟨2, ![mm, n]⟩ : Shape)) ![o, 0] ![k, n] inb).emb (ix2 a b) = ix2 i b := by
  funext c
  apply Fin.ext
  refine (Rect.idx_unit_val _ _ _ _ _).trans ?_
  match c with
  | ⟨0, _⟩ => exact hi.symm
  | ⟨1, _⟩ => exact Nat.zero_add _

end Cert.Ffn

end
-- ==== Proof.FfnGate.lean ====
/- The logistic function as the kernels compute it, from the hyperbolic tangent, and the gradient of the gated product. -/
module

public import proofs.«01_k».proof.Proof.Consts

@[expose] public section

noncomputable section

namespace Cert.Ffn

open Idealize.ShloMosaic

/-- The logistic function from the hyperbolic tangent, as the kernels write it. -/
def sg (g : EReal) : EReal :=
  Ideal.ofBits .f32 0x3F000000#32 * Ideal.tanh (Ideal.ofBits .f32 0x3F000000#32 * g) + Ideal.ofBits .f32 0x3F000000#32

theorem half_tanh (r : ℝ) : 1 / 2 * Real.tanh (1 / 2 * r) + 1 / 2 = (1 + Real.exp (-r))⁻¹ := by
  rw [Real.tanh_eq_sinh_div_cosh, Real.sinh_eq, Real.cosh_eq]
  have h : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, ← Real.exp_zero]; congr 1; ring
  have p := Real.exp_pos (1 / 2 * r)
  have q := Real.exp_pos (-(1 / 2 * r))
  rw [h]
  generalize Real.exp (1 / 2 * r) = u at *
  generalize Real.exp (-(1 / 2 * r)) = v at *
  have hs : u + v ≠ 0 := (add_pos p q).ne'
  have ht : 1 + v * v ≠ 0 := (add_pos one_pos (mul_pos q q)).ne'
  field_simp
  linear_combination (2 * v) * h2

theorem sg_bot : sg ⊥ = 0 := by
  unfold sg
  rw [Cert.Spec.ofBits_half, EReal.coe_mul_bot_of_pos (by norm_num), Ideal.tanh_bot]
  rw [show ((-1 : EReal)) = ((-1 : ℝ) : EReal) from rfl, ← EReal.coe_mul, ← EReal.coe_add]
  norm_num

theorem sg_top : sg ⊤ = 1 := by
  unfold sg
  rw [Cert.Spec.ofBits_half, EReal.coe_mul_top_of_pos (by norm_num), Ideal.tanh_top, mul_one]
  norm_cast; norm_num

theorem sg_coe (r : ℝ) : sg (r : EReal) = (((1 + Real.exp (-r))⁻¹ : ℝ) : EReal) := by
  unfold sg
  rw [Cert.Spec.ofBits_half, ← EReal.coe_mul, Ideal.tanh_coe, ← EReal.coe_mul, ← EReal.coe_add, half_tanh]

/-- It is the logistic function, at the infinities too. -/
theorem sg_eq (g : EReal) : sg g = Ideal.logistic g := by
  induction g using EReal.rec with
  | bot => rw [sg_bot, Ideal.logistic_bot]
  | top => rw [sg_top, Ideal.logistic_top]
  | coe r => rw [sg_coe, Ideal.logistic_coe]

/-- The gradient at the gate: the kernel's arrangement against the derivative's, for real factors and any gate. -/
theorem gate_grad (g : EReal) (d u : ℝ) :
    ((d : EReal) * u * sg g) * (1 + g * (1 - sg g))
      = ((d : EReal) * u) * sg g + (g * ((d : EReal) * u)) * (sg g * (1 - sg g)) := by
  induction g using EReal.rec with
  | bot => rw [sg_bot]; simp
  | top =>
    rw [sg_top]
    have h : (1 : EReal) - 1 = 0 := by
      show ((1 : ℝ) : EReal) - ((1 : ℝ) : EReal) = 0
      rw [← EReal.coe_sub, sub_self]; rfl
    simp [h]
  | coe r =>
    rw [sg_coe]
    norm_cast
    ring

end Cert.Ffn

end
-- ==== Proof.GatePoints.lean ====
/- The gradient at the gate and at the up product, one grid point at a time.

   The grid is (row tile i, column tile j, step k): point `t = 16 i + 2 j + k` adds the product over 2048 columns, the
   first step to the tile's accumulator, the second writing the two gradients out in four slabs of rows. -/
module

public import proofs.«01_k».proof.Proof.Gen.GateIdeal.Frame
public import proofs.«01_k».proof.Proof.FfnTile
public import proofs.«01_k».proof.Proof.FfnGate
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateIdeal.Val

open Idealize.ShloMosaic Idealize.ShloMosaic.TcCoe Idealize.SL Cert.GateIdeal.Gen

/-- The product of one step: the sum over its 2048 columns. -/
def stepDot (a : Vec Ideal S1024x2048 .bf16) (b : Vec Ideal S1408x2048 .bf16) (x : Fin 1024) (y : Fin 1408) : EReal :=
  ∑ k : Fin 2048, a (ix2 x k) * b (ix2 y k)

theorem pay1_at (a : Vec Ideal S1024x2048 .bf16) (b : Vec Ideal S1408x2048 .bf16) (x : Fin 1024) (y : Fin 1408) :
    k0_pay1 (F := Ideal) a b (ix2 x y) = stepDot a b x y := by
  unfold stepDot
  pointwise [k0_pay1]

/-- The product's two steps. -/
def lastP (s : Vec Ideal S1024x1408 .f32) (a : Vec Ideal S1024x2048 .bf16) (b : Vec Ideal S1408x2048 .bf16) (x : Fin 1024) (y : Fin 1408) : EReal :=
  s (ix2 x y) + stepDot a b x y

/-- The gradient at the gate. -/
def lastG (s : Vec Ideal S1024x1408 .f32) (a : Vec Ideal S1024x2048 .bf16) (b : Vec Ideal S1408x2048 .bf16) (g u : Vec Ideal S1024x1408 .bf16) (x : Fin 1024) (y : Fin 1408) : EReal :=
  (lastP s a b x y * u (ix2 x y) * Cert.Ffn.sg (g (ix2 x y))) * (1 + g (ix2 x y) * (1 - Cert.Ffn.sg (g (ix2 x y))))

/-- The gradient at the up product. -/
def lastU (s : Vec Ideal S1024x1408 .f32) (a : Vec Ideal S1024x2048 .bf16) (b : Vec Ideal S1408x2048 .bf16) (g : Vec Ideal S1024x1408 .bf16) (x : Fin 1024) (y : Fin 1408) : EReal :=
  lastP s a b x y * g (ix2 x y) * Cert.Ffn.sg (g (ix2 x y))

variable (m : (ℓ : Loc nD τ sig) → Buf (Elt Ideal) ℓ) (c : Dev nD)

set_option maxHeartbeats 4000000

/-- The first step starts the accumulator. -/
theorem acc_first (t : Fin cfg0.N) (h : t.val % 2 = 0) :
    (outsAt0 m c t.val t.isLt).2.2 = k0_pay1 (iblk m c 0 t) (iblk m c 1 t) := by
  rw [outsAt0_A m c t h (by omega)]
  frame_open
  frame_out
  try simp only [read_unread_whole]

/-- The second step writes the gradient at the gate out. -/
theorem out_gate (t : Fin cfg0.N) (h : t.val % 2 = 1) (y : (⟨2, ![1024, 1408]⟩ : Shape).Idx) :
    (outsAt0 m c t.val t.isLt).1 y
      = lastG (outsAt0 m c (t.val - 1) (Nat.lt_of_le_of_lt (Nat.sub_le _ _) t.isLt)).2.2 (iblk m c 0 t) (iblk m c 1 t) (iblk m c 2 t) (iblk m c 3 t) (y 0) (y 1) := by
  let G : (⟨2, ![1024, 1408]⟩ : Shape).Idx → EReal := fun y =>
    lastG (outsAt0 m c (t.val - 1) (Nat.lt_of_le_of_lt (Nat.sub_le _ _) t.isLt)).2.2 (iblk m c 0 t) (iblk m c 1 t) (iblk m c 2 t) (iblk m c 3 t) (y 0) (y 1)
  rw [outsAt0_B m c t (by omega) h]
  frame_open
  simp (disch := decide) only [↓ View.readCov_skip, ↓ View.readCov_cons_toLoadRect, ↓ View.readCov_fill]
  frame_out
  try simp only [read_unread_whole]
  refine View.canon_append_of_piecesOf (Val := Elt Ideal) (e := .bf16) G [] [_, _, _, _] ⟨?_, ?_, ?_, ?_, trivial⟩ y ?_
  · intro x; idx_vars x; unfold_payloads; refine Eq.trans ?_ (congrArg G (Cert.Ffn.emb_rows 768 _ x0 x1 ⟨768 + x0.val, by omega⟩ rfl)).symm; pointwise; rfl
  · intro x; idx_vars x; unfold_payloads; refine Eq.trans ?_ (congrArg G (Cert.Ffn.emb_rows 512 _ x0 x1 ⟨512 + x0.val, by omega⟩ rfl)).symm; pointwise; rfl
  · intro x; idx_vars x; unfold_payloads; refine Eq.trans ?_ (congrArg G (Cert.Ffn.emb_rows 256 _ x0 x1 ⟨256 + x0.val, by omega⟩ rfl)).symm; pointwise; rfl
  · intro x; idx_vars x; unfold_payloads; refine Eq.trans ?_ (congrArg G (Cert.Ffn.emb_rows 0 _ x0 x1 ⟨x0.val, by omega⟩ (Nat.zero_add _).symm)).symm; pointwise; rfl
  · exact View.cover_of_tiledL _ ![256, 1408] (by sl_kernel_rfl) y

/-- The second step writes the gradient at the up product out. -/
theorem out_up (t : Fin cfg0.N) (h : t.val % 2 = 1) (y : (⟨2, ![1024, 1408]⟩ : Shape).Idx) :
    (outsAt0 m c t.val t.isLt).2.1 y
      = lastU (outsAt0 m c (t.val - 1) (Nat.lt_of_le_of_lt (Nat.sub_le _ _) t.isLt)).2.2 (iblk m c 0 t) (iblk m c 1 t) (iblk m c 2 t) (y 0) (y 1) := by
  let G : (⟨2, ![1024, 1408]⟩ : Shape).Idx → EReal := fun y =>
    lastU (outsAt0 m c (t.val - 1) (Nat.lt_of_le_of_lt (Nat.sub_le _ _) t.isLt)).2.2 (iblk m c 0 t) (iblk m c 1 t) (iblk m c 2 t) (y 0) (y 1)
  rw [outsAt0_B m c t (by omega) h]
  frame_open
  simp (disch := decide) only [↓ View.readCov_skip, ↓ View.readCov_cons_toLoadRect, ↓ View.readCov_fill]
  frame_out
  try simp only [read_unread_whole]
  refine View.canon_append_of_piecesOf (Val := Elt Ideal) (e := .bf16) G [] [_, _, _, _] ⟨?_, ?_, ?_, ?_, trivial⟩ y ?_
  · intro x; idx_vars x; unfold_payloads; refine Eq.trans ?_ (congrArg G (Cert.Ffn.emb_rows 768 _ x0 x1 ⟨768 + x0.val, by omega⟩ rfl)).symm; pointwise; rfl
  · intro x; idx_vars x; unfold_payloads; refine Eq.trans ?_ (congrArg G (Cert.Ffn.emb_rows 512 _ x0 x1 ⟨512 + x0.val, by omega⟩ rfl)).symm; pointwise; rfl
  · intro x; idx_vars x; unfold_payloads; refine Eq.trans ?_ (congrArg G (Cert.Ffn.emb_rows 256 _ x0 x1 ⟨256 + x0.val, by omega⟩ rfl)).symm; pointwise; rfl
  · intro x; idx_vars x; unfold_payloads; refine Eq.trans ?_ (congrArg G (Cert.Ffn.emb_rows 0 _ x0 x1 ⟨x0.val, by omega⟩ (Nat.zero_add _).symm)).symm; pointwise; rfl
  · exact View.cover_of_tiledL _ ![256, 1408] (by sl_kernel_rfl) y

end Cert.GateIdeal.Val

end
-- ==== Proof.GateEntry.lean ====
/- The arrays the gradient at the gate reads, where its tiles lie in them, and the host code around it. -/
module

public import proofs.«01_k».proof.Proof.Gen.GateIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateIdeal.Val

open Idealize.ShloMosaic Idealize.ShloMosaic.TcCoe Idealize.SL Cert.GateIdeal.Gen

/-- The gradient of the down product's result. -/
def h_v0 (a0 : (⟨S4096x4096, .f32⟩ : BufTy).Contents (Elt Ideal)) : (⟨S4096x4096, .bf16⟩ : BufTy).Contents (Elt Ideal) :=
  truncf (F := Ideal) .bf16 a0 bitsLt_bf16_f32

/-- The weights, each shard's 1376 rows padded to 1408. -/
def h_v4 (b : (⟨S11008x4096, .f32⟩ : BufTy).Contents (Elt Ideal)) : (⟨S11264x4096, .bf16⟩ : BufTy).Contents (Elt Ideal) :=
  truncf (F := Ideal) .bf16 (shapeCast _ (pad S8x1408x4096 ![0, 0, 0] ![0, 32, 0] ![0, 0, 0] (shapeCast _ b shapeCasts_S11008x4096_S8x1376x4096 : (⟨S8x1376x4096, .f32⟩ : BufTy).Contents (Elt Ideal))
    (sitofp (F := Ideal) .f32 (constantI S_ 32 0#32) : (⟨S_, .f32⟩ : BufTy).Contents (Elt Ideal)) pads_S8x1376x4096_S8x1408x4096_000_0320_000 h_S_) shapeCasts_S8x1408x4096_S11264x4096 : (⟨S11264x4096, .f32⟩ : BufTy).Contents (Elt Ideal)) bitsLt_bf16_f32

/-- The gate, each shard's 1376 columns padded to 1408. -/
def h_v8 (a : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The up product, each shard's 1376 columns padded to 1408. -/
def h_v12 (a : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The host code after the product: the padding columns dropped. -/
def t_v10 (y : (⟨S4096x11264, .bf16⟩ : BufTy).Contents (Elt Ideal)) : (⟨S4096x11008, .f32⟩ : BufTy).Contents (Elt Ideal) :=
  shapeCast _ (extractStridedSlice S4096x8x1376 ![0, 0, 0] (shapeCast _ (extf (F := Ideal) .f32 y bitsLt_bf16_f32) shapeCasts_S4096x11264_S4096x8x1408 : (⟨S4096x8x1408, .f32⟩ : BufTy).Contents (Elt Ideal)) slices_S4096x8x1408_S4096x8x1376_0_0_0) shapeCasts_S4096x8x1376_S4096x11008

theorem h_v0_at (a0 : (⟨S4096x4096, .f32⟩ : BufTy).Contents (Elt Ideal)) (x y : Fin 4096) : h_v0 a0 (ix2 x y) = a0 (ix2 x y) := by
  pointwise [h_v0]

theorem h_v4_at (b : (⟨S11008x4096, .f32⟩ : BufTy).Contents (Elt Ideal)) (s : Fin 8) (r : Fin 1376) (x : Fin 4096) :
    h_v4 b (ix2 ⟨s.val * 1408 + r.val, by omega⟩ x) = b (ix2 ⟨s.val * 1376 + r.val, by omega⟩ x) := by
  pointwise [h_v4]
  have e : (s.val * 1408 + r.val) % 1408 = r.val := by omega
  simp only [e]
  exact dif_pos r.isLt

theorem h_v8_at (a : (⟨S4096x11008, .f32⟩ : BufTy).Contents (Elt Ideal)) (x : Fin 4096) (s : Fin 8) (r : Fin 1376) :
    h_v8 a (ix2 x ⟨s.val * 1408 + r.val, by omega⟩) = a (ix2 x ⟨s.val * 1376 + r.val, by omega⟩) := by
  pointwise [h_v8]
  have e : (s.val * 1408 + r.val) % 1408 = r.val := by omega
  simp only [e]
  exact dif_pos r.isLt

theorem h_v12_at (a : (⟨S4096x11008, .f32⟩ : BufTy).Contents (Elt Ideal)) (x : Fin 4096) (s : Fin 8) (r : Fin 1376) :
    h_v12 a (ix2 x ⟨s.val * 1408 + r.val, by omega⟩) = a (ix2 x ⟨s.val * 1376 + r.val, by omega⟩) := by
  pointwise [h_v12]
  have e : (s.val * 1408 + r.val) % 1408 = r.val := by omega
  simp only [e]
  exact dif_pos r.isLt

theorem t_v10_at (y : (⟨S4096x11264, .bf16⟩ : BufTy).Contents (Elt Ideal)) (x : Fin 4096) (s : Fin 8) (r : Fin 1376) :
    t_v10 y (ix2 x ⟨s.val * 1376 + r.val, by omega⟩) = y (ix2 x ⟨s.val * 1408 + r.val, by omega⟩) := by
  pointwise [t_v10]

variable (m : (ℓ : Loc nD τ sig) → Buf (Elt Ideal) ℓ) (c : Dev nD)

set_option maxHeartbeats 4000000

theorem V_v0 : V m c main_v0 = h_v0 (m ((c : Thread nD τ).loc main_arg3)) := by
  simp only [V, V0, hostOps0, hostOps0_1, hostOps0_2, hostOps0_3, hostOps0_4, hostOps0_5, hostOps0_6, List.flatten_cons, List.flatten_nil, List.append_nil, List.cons_append, List.nil_append]
  after_results <;> rfl

theorem V_v4 : V m c main_v4 = h_v4 (m ((c : Thread nD τ).loc main_arg2)) := by
  simp only [V, V0, hostOps0, hostOps0_1, hostOps0_2, hostOps0_3, hostOps0_4, hostOps0_5, hostOps0_6, List.flatten_cons, List.flatten_nil, List.append_nil, List.cons_append, List.nil_append]
  after_results <;> rfl

theorem V_v8 : V m c main_v8 = h_v8 (m ((c : Thread nD τ).loc main_arg0)) := by
  simp only [V, V0, hostOps0, hostOps0_1, hostOps0_2, hostOps0_3, hostOps0_4, hostOps0_5, hostOps0_6, List.flatten_cons, List.flatten_nil, List.append_nil, List.cons_append, List.nil_append]
  after_results <;> rfl

theorem V_v12 : V m c main_v12 = h_v12 (m ((c : Thread nD τ).loc main_arg1)) := by
  simp only [V, V0, hostOps0, hostOps0_1, hostOps0_2, hostOps0_3, hostOps0_4, hostOps0_5, hostOps0_6, List.flatten_cons, List.flatten_nil, List.append_nil, List.cons_append, List.nil_append]
  after_results <;> rfl

theorem idx0 : ∀ t : Fin cfg0.N, win0_0.index t = ![t.val / 16, t.val % 2] := by decide +kernel
theorem idx1 : ∀ t : Fin cfg0.N, win0_1.index t = ![t.val / 2 % 8, t.val % 2] := by decide +kernel
theorem idx2 : ∀ t : Fin cfg0.N, win0_2.index t = ![t.val / 16, t.val / 2 % 8] := by decide +kernel
theorem idx3 : ∀ t : Fin cfg0.N, win0_3.index t = ![t.val / 16, t.val / 2 % 8] := by decide +kernel
theorem idx4 : ∀ t : Fin cfg0.N, win0_4.index t = ![t.val / 16, t.val / 2 % 8] := by decide +kernel
theorem idx5 : ∀ t : Fin cfg0.N, win0_5.index t = ![t.val / 16, t.val / 2 % 8] := by decide +kernel
theorem flush4 : ∀ t : Fin cfg0.N, (cfg0.win 4).flush t = true → t.val % 2 = 1 := by decide +kernel
theorem flush5 : ∀ t : Fin cfg0.N, (cfg0.win 5).flush t = true → t.val % 2 = 1 := by decide +kernel

theorem rd0 (A : Buf (Elt Ideal) ((c : Thread nD τ).loc main_v0)) (t : Fin cfg0.N) (i : Fin 4) (j : Fin 8) (k : Fin 2) (ht : t.val = 16 * i.val + 2 * j.val + k.val) (x : Fin 1024) (y : Fin 2048) :
    ((cfg0.win 0).blk t).view.read (Elt Ideal) A (ix2 x y) = A (ix2 ⟨i.val * 1024 + x.val, by omega⟩ ⟨k.val * 2048 + y.val, by omega⟩) := by
  blk_ext [idx0 t]

theorem rd1 (A : Buf (Elt Ideal) ((c : Thread nD τ).loc main_v4)) (t : Fin cfg0.N) (i : Fin 4) (j : Fin 8) (k : Fin 2) (ht : t.val = 16 * i.val + 2 * j.val + k.val) (x : Fin 1408) (y : Fin 2048) :
    ((cfg0.win 1).blk t).view.read (Elt Ideal) A (ix2 x y) = A (ix2 ⟨j.val * 1408 + x.val, by omega⟩ ⟨k.val * 2048 + y.val, by omega⟩) := by
  blk_ext [idx1 t]

theorem rd2 (A : Buf (Elt Ideal) ((c : Thread nD τ).loc main_v8)) (t : Fin cfg0.N) (i : Fin 4) (j : Fin 8) (k : Fin 2) (ht : t.val = 16 * i.val + 2 * j.val + k.val) (x : Fin 1024) (y : Fin 1408) :
    ((cfg0.win 2).blk t).view.read (Elt Ideal) A (ix2 x y) = A (ix2 ⟨i.val * 1024 + x.val, by omega⟩ ⟨j.val * 1408 + y.val, by omega⟩) := by
  blk_ext [idx2 t]

theorem rd3 (A : Buf (Elt Ideal) ((c : Thread nD τ).loc main_v12)) (t : Fin cfg0.N) (i : Fin 4) (j : Fin 8) (k : Fin 2) (ht : t.val = 16 * i.val + 2 * j.val + k.val) (x : Fin 1024) (y : Fin 1408) :
    ((cfg0.win 3).blk t).view.read (Elt Ideal) A (ix2 x y) = A (ix2 ⟨i.val * 1024 + x.val, by omega⟩ ⟨j.val * 1408 + y.val, by omega⟩) := by
  blk_ext [idx3 t]

theorem emb4 (t : Fin cfg0.N) (i : Fin 4) (j : Fin 8) (k : Fin 2) (ht : t.val = 16 * i.val + 2 * j.val + k.val) (x : Fin 1024) (y : Fin 1408) :
    (((cfg0.win 4).blk t).view.emb (ix2 x y) : S4096x11264.Idx) = ix2 ⟨i.val * 1024 + x.val, by omega⟩ ⟨j.val * 1408 + y.val, by omega⟩ := by
  blk_ext [idx4 t]

theorem emb5 (t : Fin cfg0.N) (i : Fin 4) (j : Fin 8) (k : Fin 2) (ht : t.val = 16 * i.val + 2 * j.val + k.val) (x : Fin 1024) (y : Fin 1408) :
    (((cfg0.win 5).blk t).view.emb (ix2 x y) : S4096x11264.Idx) = ix2 ⟨i.val * 1024 + x.val, by omega⟩ ⟨j.val * 1408 + y.val, by omega⟩ := by
  blk_ext [idx5 t]

end Cert.GateIdeal.Val

end
-- ==== Proof.GateEnds.lean ====
/- The gradients at the gate and at the up product as a whole: what its arrays hold, and what the two programs return. -/
module

public import proofs.«01_k».proof.Defs
public import proofs.«01_k».proof.Proof.FfnSum
public import proofs.«01_k».proof.Proof.FfnFinite
public import proofs.«01_k».proof.Proof.GatePoints
public import proofs.«01_k».proof.Proof.GateEntry
public import proofs.«01_k».proof.Proof.Gen.GateIdeal.Run
public import proofs.«01_k».proof.Proof.Gen.GateRefIdeal.Run
public import proofs.«01_k».proof.Proof.Gen.GateRefIdeal.Read
public import Idealize.ShloMosaic.Lib.Claim

@[expose] public section

set_option maxRecDepth 16384

noncomputable section

namespace Cert.GateIdeal.Val

open Idealize.ShloMosaic Idealize.ShloMosaic.TcCoe Idealize.SL Idealize.SL.Sem Cert.GateIdeal.Gen

variable (m : (ℓ : Loc nD τ sig) → Buf (Elt Ideal) ℓ) (c : Dev nD)

/-- Row `y 0`, column `y 1` of the product, over the padded columns. -/
def gP (a : (⟨S4096x4096, .f32⟩ : BufTy).Contents (Elt Ideal)) (b : (⟨S11008x4096, .f32⟩ : BufTy).Contents (Elt Ideal)) : (⟨S4096x11264, .bf16⟩ : BufTy).Contents (Elt Ideal) :=
  fun y => ∑ k : Fin 4096, h_v0 a (ix2 (y 0) k) * h_v4 b (ix2 (y 1) k)

/-- The gradient at the gate. -/
def gG (g u : (⟨S4096x11008, .f32⟩ : BufTy).Contents (Elt Ideal)) (b : (⟨S11008x4096, .f32⟩ : BufTy).Contents (Elt Ideal)) (a : (⟨S4096x4096, .f32⟩ : BufTy).Contents (Elt Ideal)) : (⟨S4096x11264, .bf16⟩ : BufTy).Contents (Elt Ideal) :=
  fun y => (gP a b y * h_v12 u y * Cert.Ffn.sg (h_v8 g y)) * (1 + h_v8 g y * (1 - Cert.Ffn.sg (h_v8 g y)))

/-- The gradient at the up product. -/
def gU (g : (⟨S4096x11008, .f32⟩ : BufTy).Contents (Elt Ideal)) (b : (⟨S11008x4096, .f32⟩ : BufTy).Contents (Elt Ideal)) (a : (⟨S4096x4096, .f32⟩ : BufTy).Contents (Elt Ideal)) : (⟨S4096x11264, .bf16⟩ : BufTy).Contents (Elt Ideal) :=
  fun y => gP a b y * h_v8 g y * Cert.Ffn.sg (h_v8 g y)

theorem pt (t : Fin cfg0.N) : t.val < 64 := lt_of_lt_of_eq t.isLt (show cfg0.N = 64 from N_0)

/-- What a step adds, from the arguments. -/
theorem step_at (t : Fin cfg0.N) (i : Fin 4) (j : Fin 8) (k : Fin 2) (ht : t.val = 16 * i.val + 2 * j.val + k.val) (x : Fin 1024) (y : Fin 1408) :
    stepDot (iblk m c 0 t) (iblk m c 1 t) x y
      = ∑ r : Fin 2048, h_v0 (m ((c : Thread nD τ).loc main_arg3)) (ix2 ⟨i.val * 1024 + x.val, by omega⟩ ⟨k.val * 2048 + r.val, by omega⟩) * h_v4 (m ((c : Thread nD τ).loc main_arg2)) (ix2 ⟨j.val * 1408 + y.val, by omega⟩ ⟨k.val * 2048 + r.val, by omega⟩) := by
  unfold stepDot
  refine Finset.sum_congr rfl fun r _ => congrArg₂ (· * ·) ?_ ?_
  · exact (rd0 c (V m c main_v0) t i j k ht x r).trans (congrFun (V_v0 m c) _)
  · exact (rd1 c (V m c main_v4) t i j k ht y r).trans (congrFun (V_v4 m c) _)

/-- The two steps of a tile. -/
theorem two_steps (i : Fin 4) (j : Fin 8) (t : Fin cfg0.N) (ht : t.val = 16 * i.val + 2 * j.val + 1) (x : Fin 1024) (y : Fin 1408) :
    lastP (outsAt0 m c (t.val - 1) (Nat.lt_of_le_of_lt (Nat.sub_le _ _) t.isLt)).2.2 (iblk m c 0 t) (iblk m c 1 t) x y
      = gP (m ((c : Thread nD τ).loc main_arg3)) (m ((c : Thread nD τ).loc main_arg2)) (ix2 ⟨i.val * 1024 + x.val, by omega⟩ ⟨j.val * 1408 + y.val, by omega⟩) := by
  have hN := pt t
  have h0 := acc_first m c ⟨t.val - 1, by have := t.isLt; omega⟩ (by show (t.val - 1) % 2 = 0; omega)
  have e0 := (congrFun h0 (ix2 x y)).trans ((pay1_at _ _ x y).trans (step_at m c _ i j 0 (by show t.val - 1 = 16 * i.val + 2 * j.val + 0; omega) x y))
  have e1 := congrArg₂ (· + ·) e0 (step_at m c t i j 1 (by show t.val = 16 * i.val + 2 * j.val + 1; omega) x y)
  exact e1.trans (Cert.Ffn.sum_two (n := 2048) rfl fun k => h_v0 (m ((c : Thread nD τ).loc main_arg3)) (ix2 ⟨i.val * 1024 + x.val, by omega⟩ k) * h_v4 (m ((c : Thread nD τ).loc main_arg2)) (ix2 ⟨j.val * 1408 + y.val, by omega⟩ k))

theorem in2 (i : Fin 4) (j : Fin 8) (t : Fin cfg0.N) (ht : t.val = 16 * i.val + 2 * j.val + 1) (x : Fin 1024) (y : Fin 1408) :
    iblk m c 2 t (ix2 x y) = h_v8 (m ((c : Thread nD τ).loc main_arg0)) (ix2 ⟨i.val * 1024 + x.val, by omega⟩ ⟨j.val * 1408 + y.val, by omega⟩) :=
  (rd2 c (V m c main_v8) t i j 1 ht x y).trans (congrFun (V_v8 m c) _)

theorem in3 (i : Fin 4) (j : Fin 8) (t : Fin cfg0.N) (ht : t.val = 16 * i.val + 2 * j.val + 1) (x : Fin 1024) (y : Fin 1408) :
    iblk m c 3 t (ix2 x y) = h_v12 (m ((c : Thread nD τ).loc main_arg1)) (ix2 ⟨i.val * 1024 + x.val, by omega⟩ ⟨j.val * 1408 + y.val, by omega⟩) :=
  (rd3 c (V m c main_v12) t i j 1 ht x y).trans (congrFun (V_v12 m c) _)

/-- The array the region leaves in its window 4. -/
theorem arr4 : (dats m 0 c).arrAt 4 cfg0.N = gG (m ((c : Thread nD τ).loc main_arg0)) (m ((c : Thread nD τ).loc main_arg1)) (m ((c : Thread nD τ).loc main_arg2)) (m ((c : Thread nD τ).loc main_arg3)) :=
  (dats m 0 c).arrAt_eq_of_covers 4 _ (by decide +kernel) fun t hf y => by
    have h3 := flush4 t hf
    blk_simp
    rw [after0_4]
    have hN := pt t
    obtain ⟨a, b, rfl⟩ : ∃ (a : Fin 1024) (b : Fin 1408), y = ix2 a b := ⟨y 0, y 1, funext fun k => match k with | ⟨0, _⟩ => rfl | ⟨1, _⟩ => rfl⟩
    have ht : t.val = 16 * (⟨t.val / 16, by omega⟩ : Fin 4).val + 2 * (⟨t.val / 2 % 8, by omega⟩ : Fin 8).val + 1 := by
      show t.val = 16 * (t.val / 16) + 2 * (t.val / 2 % 8) + 1; omega
    refine Eq.trans ?_ (congrArg (gG (m ((c : Thread nD τ).loc main_arg0)) (m ((c : Thread nD τ).loc main_arg1)) (m ((c : Thread nD τ).loc main_arg2)) (m ((c : Thread nD τ).loc main_arg3))) (emb4 t _ _ 1 ht a b)).symm
    refine (out_gate m c t h3 (ix2 a b)).trans ?_
    have e := two_steps m c _ _ t ht a b
    have eg := in2 m c _ _ t ht a b
    have eu := in3 m c _ _ t ht a b
    exact congrArg₂ (· * ·) (congrArg₂ (· * ·) (congrArg₂ (· * ·) e eu) (congrArg Cert.Ffn.sg eg))
      (congrArg₂ (· + ·) rfl (congrArg₂ (· * ·) eg (congrArg (fun z => 1 - Cert.Ffn.sg z) eg)))

/-- The array the region leaves in its window 5. -/
theorem arr5 : (dats m 0 c).arrAt 5 cfg0.N = gU (m ((c : Thread nD τ).loc main_arg0)) (m ((c : Thread nD τ).loc main_arg2)) (m ((c : Thread nD τ).loc main_arg3)) :=
  (dats m 0 c).arrAt_eq_of_covers 5 _ (by decide +kernel) fun t hf y => by
    have h3 := flush5 t hf
    blk_simp
    rw [after0_5]
    have hN := pt t
    obtain ⟨a, b, rfl⟩ : ∃ (a : Fin 1024) (b : Fin 1408), y = ix2 a b := ⟨y 0, y 1, funext fun k => match k with | ⟨0, _⟩ => rfl | ⟨1, _⟩ => rfl⟩
    have ht : t.val = 16 * (⟨t.val / 16, by omega⟩ : Fin 4).val + 2 * (⟨t.val / 2 % 8, by omega⟩ : Fin 8).val + 1 := by
      show t.val = 16 * (t.val / 16) + 2 * (t.val / 2 % 8) + 1; omega
    refine Eq.trans ?_ (congrArg (gU (m ((c : Thread nD τ).loc main_arg0)) (m ((c : Thread nD τ).loc main_arg2)) (m ((c : Thread nD τ).loc main_arg3))) (emb5 t _ _ 1 ht a b)).symm
    refine (out_up m c t h3 (ix2 a b)).trans ?_
    have e := two_steps m c _ _ t ht a b
    have eg := in2 m c _ _ t ht a b
    exact congrArg₂ (· * ·) (congrArg₂ (· * ·) e eg) (congrArg Cert.Ffn.sg eg)

/-- The product is the reference's. -/
theorem same_p (a : (⟨S4096x4096, .f32⟩ : BufTy).Contents (Elt Ideal)) (b : (⟨S11008x4096, .f32⟩ : BufTy).Contents (Elt Ideal)) (x : Fin 4096) (s : Fin 8) (r : Fin 1376) :
    gP a b (ix2 x ⟨s.val * 1408 + r.val, by omega⟩) = Cert.GateRefIdeal.Read.val_main_v3 (F := Ideal) b a (ix2 x ⟨s.val * 1376 + r.val, by omega⟩) := by
  rw [Cert.GateRefIdeal.Read.val_main_v3_apply]
  refine Finset.sum_congr rfl fun k _ => ?_
  refine congrArg₂ (· * ·) ((h_v0_at a x k).trans (congrArg a ?_)) ((h_v4_at b s r k).trans (congrArg b ?_))
  · funext d; fin_cases d <;> rfl
  · funext d; fin_cases d <;> rfl

/-- The reference's logistic function. -/
theorem ref_sg (g : (⟨S4096x11008, .f32⟩ : BufTy).Contents (Elt Ideal)) (y : S4096x11008.Idx) :
    Cert.GateRefIdeal.Read.val_main_v0_2 (F := Ideal) g y = Ideal.logistic (g y) := by
  idx_vars y
  unfold Ideal.logistic
  pointwise [Cert.GateRefIdeal.Read.val_main_v0_2, Cert.GateRefIdeal.Read.val_main_call0_v4, Cert.GateRefIdeal.Read.val_main_call0_v3, Cert.GateRefIdeal.Read.val_main_call0_v2, Cert.GateRefIdeal.Read.val_main_call0_v1, Cert.GateRefIdeal.Read.val_main_call0_v0, Cert.GateRefIdeal.Read.val_main_call0_cst, Cert.GateRefIdeal.Read.val_main_call0_cst_0]

/-- The gradient at the up product is the reference's. -/
theorem same_up (g : (⟨S4096x11008, .f32⟩ : BufTy).Contents (Elt Ideal)) (b : (⟨S11008x4096, .f32⟩ : BufTy).Contents (Elt Ideal)) (a : (⟨S4096x4096, .f32⟩ : BufTy).Contents (Elt Ideal)) :
    t_v10 (gU g b a) = Cert.GateRefIdeal.Read.val_main_v4 (F := Ideal) g b a := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v10_at]
  have eg := h_v8_at g x s r
  refine (congrArg₂ (· * ·) (congrArg₂ (· * ·) (same_p a b x s r) eg) ((congrArg Cert.Ffn.sg eg).trans ((Cert.Ffn.sg_eq _).trans (ref_sg g _).symm))).trans ?_
  exact (mul_assoc _ _ _).trans (mul_comm _ _)

/-- The gradient at the gate is the reference's, where the product and the up product are real. -/
theorem same_gate (g u : (⟨S4096x11008, .f32⟩ : BufTy).Contents (Elt Ideal)) (b : (⟨S11008x4096, .f32⟩ : BufTy).Contents (Elt Ideal)) (a : (⟨S4096x4096, .f32⟩ : BufTy).Contents (Elt Ideal))
    (hp : ∀ y, ∃ d : ℝ, Cert.GateRefIdeal.Read.val_main_v3 (F := Ideal) b a y = (d : EReal)) (hu : ∀ y, ∃ d : ℝ, u y = (d : EReal)) :
    t_v10 (gG g u b a) = Cert.GateRefIdeal.Read.val_main_v6 (F := Ideal) g u b a := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v10_at]
  have eg := h_v8_at g x s r
  have eu := h_v12_at u x s r
  have ep := same_p a b x s r
  obtain ⟨d, hd⟩ := hp (ix2 x ⟨s.val * 1376 + r.val, by omega⟩)
  obtain ⟨v, hv⟩ := hu (ix2 x ⟨s.val * 1376 + r.val, by omega⟩)
  have er := (ref_sg g (ix2 x ⟨s.val * 1376 + r.val, by omega⟩)).trans (Cert.Ffn.sg_eq _).symm
  refine Eq.trans ?_ ((Cert.Ffn.gate_grad (g (ix2 x ⟨s.val * 1376 + r.val, by omega⟩)) d v).trans ?_)
  · exact congrArg₂ (· * ·) (congrArg₂ (· * ·) (congrArg₂ (· * ·) (ep.trans hd) (eu.trans hv)) (congrArg Cert.Ffn.sg eg))
      (congrArg₂ (· + ·) rfl (congrArg₂ (· * ·) eg (congrArg (fun z => 1 - Cert.Ffn.sg z) eg)))
  · rw [Cert.GateRefIdeal.Read.val_main_v6_apply]
    have one : Cert.GateRefIdeal.Read.val_main_call0_v6 (F := Ideal) (ix2 x ⟨s.val * 1376 + r.val, by omega⟩) = (1 : EReal) := by
      pointwise [Cert.GateRefIdeal.Read.val_main_call0_v6, Cert.GateRefIdeal.Read.val_main_call0_cst_1]
    have ev := congrArg₂ (· * ·) hd.symm hv.symm
    exact congrArg₂ (· + ·) (congrArg₂ (· * ·) ev er.symm)
      (congrArg₂ (· * ·) (congrArg₂ (· * ·) rfl ev) (congrArg₂ (· * ·) er.symm (congrArg₂ (· - ·) one.symm er.symm)))

/-- The run of the kernel's program: the reference's values, the arguments unchanged. -/
theorem ends (ρ : Dev nD → PrngReg)
    (hp : ∀ (c : Dev nD) (y : S4096x11008.Idx), ∃ d : ℝ, Cert.GateRefIdeal.Read.val_main_v3 (F := Ideal) (m ((c.tc : Thread nD τ).loc main_arg2)) (m ((c.tc : Thread nD τ).loc main_arg3)) y = (d : EReal))
    (hu : ∀ (c : Dev nD) (y : S4096x11008.Idx), ∃ d : ℝ, (m ((c.tc : Thread nD τ).loc main_arg1) : (⟨S4096x11008, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v17)
          = Cert.GateRefIdeal.Read.val_main_v6 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21)
          = Cert.GateRefIdeal.Read.val_main_v4 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((congrArg t_v10 (arr4 m c)).trans (same_gate _ _ _ _ (hp c) (hu c))),
    (h c).2.1.trans ((congrArg t_v10 (arr5 m c)).trans (same_up _ _ _)), (h c).2.2⟩) (Cert.GateIdeal.Value.run m ρ)

end Cert.GateIdeal.Val

namespace Cert.GateRefIdeal.Val

open Idealize.ShloMosaic Idealize.ShloMosaic.TcCoe Idealize.SL Idealize.SL.Sem Cert.GateRefIdeal.Gen Cert.GateRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Cert.GateRefIdeal.Value.run m ρ)

end Cert.GateRefIdeal.Val

namespace Cert.Proof

open Idealize.ShloMosaic Idealize.SL Idealize.SL.Sem

/-- The kernel's two gradients are the reference's, when the down product's gradient, its weights and the up product are real. -/
theorem gate_algebraic : Cert.algebraic_GateIdeal_GateRefIdeal_pre_finite_gate := by
  intro m g m' g' hpre hagree
  refine ⟨fun c => Cert.GateRefIdeal.Read.val_main_v6 (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)),
    fun c => Cert.GateRefIdeal.Read.val_main_v4 (F := Ideal) (m ((c.tc : Thread Cert.GateIdeal.nD Cert.GateIdeal.τ).loc Cert.GateIdeal.main_arg0)) (m ((c.tc : Thread Cert.GateIdeal.nD Cert.GateIdeal.τ).loc Cert.GateIdeal.main_arg2)) (m ((c.tc : Thread Cert.GateIdeal.nD Cert.GateIdeal.τ).loc Cert.GateIdeal.main_arg3)),
    Cert.GateIdeal.Val.ends m g (fun c => Cert.FfnFinite.product_real _ _ _ _ (hpre c)) (fun c => Cert.FfnFinite.up_real _ _ _ _ (hpre c)), ?_⟩
  refine (θ_run _ _ _).mono (fun r h c => ⟨(h c).1.trans ((Cert.GateRefIdeal.Read.val_main_v6_eq _ _ _ _ ).trans ?_), (h c).2.1.trans ((Cert.GateRefIdeal.Read.val_main_v4_eq _ _ _ ).trans ?_), (h c).2.2⟩) (Cert.GateRefIdeal.Value.run m' g')
  · exact (congrArg₂ (fun a b => Cert.GateRefIdeal.Read.val_main_v6 (F := Ideal) a b _ _) (hagree c).1 (hagree c).2.1).trans
      (congrArg₂ (fun a b => Cert.GateRefIdeal.Read.val_main_v6 (F := Ideal) _ _ a b) (hagree c).2.2.1 (hagree c).2.2.2)
  · exact (congrArg (fun a => Cert.GateRefIdeal.Read.val_main_v4 (F := Ideal) a _ _) (hagree c).1).trans
      (congrArg₂ (fun a b => Cert.GateRefIdeal.Read.val_main_v4 (F := Ideal) _ a b) (hagree c).2.2.1 (hagree c).2.2.2)

end Cert.Proof

end
-- ==== Proof.DownPoints.lean ====
/- The weight-gradient product, one grid point at a time.

   The grid is (row tile i, column tile j, step k), four of each: point `t = 16 i + 4 j + k` adds the product of 1024
   token rows to the tile's accumulator, the first step starting it and the last one writing it out. -/
module

public import proofs.«01_k».proof.Proof.Gen.DownIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownIdeal.Val

open Idealize.ShloMosaic Idealize.ShloMosaic.TcCoe Idealize.SL Cert.DownIdeal.Gen

/-- The product of one step: the sum over its 1024 token rows. -/
def stepDot (a : Vec Ideal S1024x2816 .bf16) (b : Vec Ideal S1024x1024 .bf16) (x : Fin 2816) (y : Fin 1024) : EReal :=
  ∑ k : Fin 1024, a (ix2 k x) * b (ix2 k y)

theorem pay1_at (a : Vec Ideal S1024x2816 .bf16) (b : Vec Ideal S1024x1024 .bf16) (x : Fin 2816) (y : Fin 1024) :
    k0_pay1 (F := Ideal) a b (ix2 x y) = stepDot a b x y := by
  unfold stepDot
  pointwise [k0_pay1]

theorem pay2_at (s : Vec Ideal S2816x1024 .f32) (a : Vec Ideal S1024x2816 .bf16) (b : Vec Ideal S1024x1024 .bf16) (x : Fin 2816) (y : Fin 1024) :
    k0_pay2 (F := Ideal) s a b (ix2 x y) = s (ix2 x y) + stepDot a b x y := by
  unfold stepDot
  pointwise [k0_pay2]

theorem pay3_at (s : Vec Ideal S2816x1024 .f32) (x : Fin 2816) (y : Fin 1024) :
    k0_pay3 (F := Ideal) s (ix2 x y) = s (ix2 x y) := by
  pointwise [k0_pay3]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A later step adds to what the step before left. -/
theorem acc_next (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]
    frame_open
    frame_out
    try simp only [read_unread_whole]
  · rw [outsAt0_B m c t h (by omega) h3]
    frame_open
    frame_out
    try simp only [read_unread_whole]

/-- The last step writes the accumulator out. -/
theorem out_last (t : Fin cfg0.N) (h : t.val % 4 = 3) :
    (outsAt0 m c t.val t.isLt).1 = k0_pay3 (outsAt0 m c t.val t.isLt).2 := by
  rw [outsAt0_C m c t (by omega) (by omega) h]
  frame_open
  simp (disch := decide) only [↓ View.readCov_skip, ↓ View.readCov_cons_toLoadRect, ↓ View.readCov_fill]
  frame_out
  try simp only [read_unread_whole]

end Cert.DownIdeal.Val

end
-- ==== Proof.DownEntry.lean ====
/- The arrays the weight-gradient product reads, where its tiles lie in them, and the host code around it. -/
module

public import proofs.«01_k».proof.Proof.Gen.DownIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownIdeal.Val

open Idealize.ShloMosaic Idealize.ShloMosaic.TcCoe Idealize.SL Cert.DownIdeal.Gen

/-- The activations, each shard's 1376 columns padded to 1408. -/
def h_v3 (a0 : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a0 shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The gradient of the block's output. -/
def h_v4 (a2 : (⟨S4096x4096, .f32⟩ : BufTy).Contents (Elt Ideal)) : (⟨S4096x4096, .bf16⟩ : BufTy).Contents (Elt Ideal) :=
  truncf (F := Ideal) .bf16 a2 bitsLt_bf16_f32

/-- The host code after the product: the padding rows dropped. -/
def t_v9 (y : (⟨S11264x4096, .bf16⟩ : BufTy).Contents (Elt Ideal)) : (⟨S11008x4096, .f32⟩ : BufTy).Contents (Elt Ideal) :=
  shapeCast _ (extractStridedSlice S8x1376x4096 ![0, 0, 0] (extf (F := Ideal) .f32 (shapeCast _ y shapeCasts_S11264x4096_S8x1408x4096 : (⟨S8x1408x4096, .bf16⟩ : BufTy).Contents (Elt Ideal)) bitsLt_bf16_f32) slices_S8x1408x4096_S8x1376x4096_0_0_0) shapeCasts_S8x1376x4096_S11008x4096

theorem h_v3_at (a0 : (⟨S4096x11008, .f32⟩ : BufTy).Contents (Elt Ideal)) (x : Fin 4096) (s : Fin 8) (r : Fin 1376) :
    h_v3 a0 (ix2 x ⟨s.val * 1408 + r.val, by omega⟩) = a0 (ix2 x ⟨s.val * 1376 + r.val, by omega⟩) := by
  pointwise [h_v3]
  have e : (s.val * 1408 + r.val) % 1408 = r.val := by omega
  simp only [e]
  exact dif_pos r.isLt

theorem h_v4_at (a2 : (⟨S4096x4096, .f32⟩ : BufTy).Contents (Elt Ideal)) (x y : Fin 4096) : h_v4 a2 (ix2 x y) = a2 (ix2 x y) := by
  pointwise [h_v4]

theorem t_v9_at (y : (⟨S11264x4096, .bf16⟩ : BufTy).Contents (Elt Ideal)) (s : Fin 8) (r : Fin 1376) (x : Fin 4096) :
    t_v9 y (ix2 ⟨s.val * 1376 + r.val, by omega⟩ x) = y (ix2 ⟨s.val * 1408 + r.val, by omega⟩ x) := by
  pointwise [t_v9]

variable (m : (ℓ : Loc nD τ sig) → Buf (Elt Ideal) ℓ) (c : Dev nD)

set_option maxHeartbeats 4000000

theorem V_v3 : V m c main_v3 = h_v3 (m ((c : Thread nD τ).loc main_arg0)) := by
  simp only [V, V0, hostOps0, hostOps0_1, hostOps0_2, List.flatten_cons, List.flatten_nil, List.append_nil, List.cons_append, List.nil_append]
  after_results <;> rfl

theorem V_v4 : V m c main_v4 = h_v4 (m ((c : Thread nD τ).loc main_arg2)) := by
  simp only [V, V0, hostOps0, hostOps0_1, hostOps0_2, List.flatten_cons, List.flatten_nil, List.append_nil, List.cons_append, List.nil_append]
  after_results <;> rfl

theorem idx0 : ∀ t : Fin cfg0.N, win0_0.index t = ![t.val % 4, t.val / 16] := by decide +kernel
theorem idx1 : ∀ t : Fin cfg0.N, win0_1.index t = ![t.val % 4, t.val / 4 % 4] := by decide +kernel
theorem idx2 : ∀ t : Fin cfg0.N, win0_2.index t = ![t.val / 16, t.val / 4 % 4] := by decide +kernel
theorem flush2 : ∀ t : Fin cfg0.N, (cfg0.win 2).flush t = true → t.val % 4 = 3 := by decide +kernel

theorem rd0 (A : Buf (Elt Ideal) ((c : Thread nD τ).loc main_v3)) (t : Fin cfg0.N) (i j k : Fin 4) (ht : t.val = 16 * i.val + 4 * j.val + k.val) (x : Fin 1024) (y : Fin 2816) :
    ((cfg0.win 0).blk t).view.read (Elt Ideal) A (ix2 x y) = A (ix2 ⟨k.val * 1024 + x.val, by omega⟩ ⟨i.val * 2816 + y.val, by omega⟩) := by
  blk_ext [idx0 t]

theorem rd1 (A : Buf (Elt Ideal) ((c : Thread nD τ).loc main_v4)) (t : Fin cfg0.N) (i j k : Fin 4) (ht : t.val = 16 * i.val + 4 * j.val + k.val) (x : Fin 1024) (y : Fin 1024) :
    ((cfg0.win 1).blk t).view.read (Elt Ideal) A (ix2 x y) = A (ix2 ⟨k.val * 1024 + x.val, by omega⟩ ⟨j.val * 1024 + y.val, by omega⟩) := by
  blk_ext [idx1 t]

theorem emb2 (t : Fin cfg0.N) (i j k : Fin 4) (ht : t.val = 16 * i.val + 4 * j.val + k.val) (x : Fin 2816) (y : Fin 1024) :
    (((cfg0.win 2).blk t).view.emb (ix2 x y) : S11264x4096.Idx) = ix2 ⟨i.val * 2816 + x.val, by omega⟩ ⟨j.val * 1024 + y.val, by omega⟩ := by
  blk_ext [idx2 t]

end Cert.DownIdeal.Val

end
-- ==== Proof.DownEnds.lean ====
/- The weight-gradient product as a whole: what its array holds, and what the two programs return. -/
module

public import proofs.«01_k».proof.Defs
public import proofs.«01_k».proof.Proof.FfnSum
public import proofs.«01_k».proof.Proof.DownPoints
public import proofs.«01_k».proof.Proof.DownEntry
public import proofs.«01_k».proof.Proof.Gen.DownIdeal.Run
public import proofs.«01_k».proof.Proof.Gen.DownRefIdeal.Run
public import proofs.«01_k».proof.Proof.Gen.DownRefIdeal.Read
public import Idealize.ShloMosaic.Lib.Claim

@[expose] public section

set_option maxRecDepth 16384

noncomputable section

namespace Cert.DownIdeal.Val

open Idealize.ShloMosaic Idealize.ShloMosaic.TcCoe Idealize.SL Idealize.SL.Sem Cert.DownIdeal.Gen

variable (m : (ℓ : Loc nD τ sig) → Buf (Elt Ideal) ℓ) (c : Dev nD)

/-- Padded row `f`, column `y` of the weight gradient: the sum over the tokens. -/
def gW (a0 : (⟨S4096x11008, .f32⟩ : BufTy).Contents (Elt Ideal)) (a2 : (⟨S4096x4096, .f32⟩ : BufTy).Contents (Elt Ideal)) : (⟨S11264x4096, .bf16⟩ : BufTy).Contents (Elt Ideal) :=
  fun y => ∑ k : Fin 4096, h_v3 a0 (ix2 k (y 0)) * h_v4 a2 (ix2 k (y 1))

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 2816) (y : Fin 1024) :
    stepDot (iblk m c 0 t) (iblk m c 1 t) x y
      = ∑ r : Fin 1024, h_v3 (m ((c : Thread nD τ).loc main_arg0)) (ix2 ⟨k.val * 1024 + r.val, by omega⟩ ⟨i.val * 2816 + x.val, by omega⟩)
          * h_v4 (m ((c : Thread nD τ).loc main_arg2)) (ix2 ⟨k.val * 1024 + r.val, by omega⟩ ⟨j.val * 1024 + y.val, by omega⟩) := by
  unfold stepDot
  refine Finset.sum_congr rfl fun r _ => congrArg₂ (· * ·) ?_ ?_
  · exact (rd0 c (V m c main_v3) t i j k ht r x).trans (congrFun (V_v3 m c) _)
  · exact (rd1 c (V m c main_v4) t i j k ht r y).trans (congrFun (V_v4 m c) _)

/-- The four steps of a tile. -/
theorem acc_four (i j : Fin 4) (t : Fin cfg0.N) (ht : t.val = 16 * i.val + 4 * j.val + 3) (x : Fin 2816) (y : Fin 1024) :
    (outsAt0 m c t.val t.isLt).2 (ix2 x y)
      = gW (m ((c : Thread nD τ).loc main_arg0)) (m ((c : Thread nD τ).loc main_arg2)) (ix2 ⟨i.val * 2816 + x.val, by omega⟩ ⟨j.val * 1024 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show ¬(t.val - 1 - 1) % 4 = 0; omega)
  have h2 := acc_next m c ⟨t.val - 1, by have := t.isLt; omega⟩ (by show ¬(t.val - 1) % 4 = 0; omega)
  have h3 := acc_next m c t (by omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := (congrFun h3 (ix2 x y)).trans ((pay2_at _ _ _ x y).trans (congrArg₂ (· + ·) e2 (step_at m c _ i j 3 (by show t.val = 16 * i.val + 4 * j.val + 3; omega) x y)))
  exact e3.trans (Cert.Ffn.sum_four (n := 1024) rfl fun k => h_v3 (m ((c : Thread nD τ).loc main_arg0)) (ix2 k ⟨i.val * 2816 + x.val, by omega⟩) * h_v4 (m ((c : Thread nD τ).loc main_arg2)) (ix2 k ⟨j.val * 1024 + y.val, by omega⟩))

/-- The array the product leaves. -/
theorem arr2 : (dats m 0 c).arrAt 2 cfg0.N = gW (m ((c : Thread nD τ).loc main_arg0)) (m ((c : Thread nD τ).loc main_arg2)) :=
  (dats m 0 c).arrAt_eq_of_covers 2 _ (by decide +kernel) fun t hf y => by
    have h3 := flush2 t hf
    blk_simp
    rw [after0_2]
    have hN := pt t
    obtain ⟨a, b, rfl⟩ : ∃ (a : Fin 2816) (b : Fin 1024), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    rw [out_last m c t h3, pay3_at, acc_four m c _ _ t ht a b]
    exact (congrArg (gW (m ((c : Thread nD τ).loc main_arg0)) (m ((c : Thread nD τ).loc main_arg2))) (emb2 t _ _ 3 ht a b)).symm

/-- The kernel's result is the reference's. -/
theorem same (a0 : (⟨S4096x11008, .f32⟩ : BufTy).Contents (Elt Ideal)) (a2 : (⟨S4096x4096, .f32⟩ : BufTy).Contents (Elt Ideal)) :
    t_v9 (gW a0 a2) = Cert.DownRefIdeal.Read.val_main_v2 (F := Ideal) a0 a2 := by
  funext y
  obtain ⟨f, x, rfl⟩ : ∃ (f : Fin 11008) (x : Fin 4096), y = ix2 f x := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v9_at, Cert.DownRefIdeal.Read.val_main_v2_apply, Cert.DownRefIdeal.Read.val_main_v1_apply]
  refine Finset.sum_congr rfl fun k _ => ?_
  rw [mul_comm]
  refine congrArg₂ (· * ·) ((h_v4_at a2 k x).trans (congrArg a2 ?_)) ((h_v3_at a0 k s r).trans (congrArg a0 ?_))
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v9)
          = Cert.DownRefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_v9 (arr2 m c)).trans (same _ _)), (h c).2⟩) (Cert.DownIdeal.Value.run m ρ)

end Cert.DownIdeal.Val

namespace Cert.DownRefIdeal.Val

open Idealize.ShloMosaic Idealize.ShloMosaic.TcCoe Idealize.SL Idealize.SL.Sem Cert.DownRefIdeal.Gen Cert.DownRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.DownRefIdeal.Value.run m ρ)

end Cert.DownRefIdeal.Val

namespace Cert.Proof

open Idealize.ShloMosaic Idealize.SL Idealize.SL.Sem

/-- The kernel's weight gradient is the reference's, from any arguments. -/
theorem down_algebraic : Cert.algebraic_DownIdeal_DownRefIdeal := by
  intro m g m' g' _ hagree
  refine ⟨fun c => Cert.DownRefIdeal.Read.val_main_v2 (F := Ideal) (m ((c.tc : Thread Cert.DownIdeal.nD Cert.DownIdeal.τ).loc Cert.DownIdeal.main_arg0)) (m ((c.tc : Thread Cert.DownIdeal.nD Cert.DownIdeal.τ).loc Cert.DownIdeal.main_arg2)),
    Cert.DownIdeal.Val.ends m g, ?_⟩
  refine (θ_run _ _ _).mono (fun r h c => ⟨(h c).1.trans ((Cert.DownRefIdeal.Read.val_main_v2_eq _ _).trans ?_), (h c).2⟩) (Cert.DownRefIdeal.Value.run m' g')
  exact congrArg₂ (fun a b => Cert.DownRefIdeal.Read.val_main_v2 (F := Ideal) a b) (hagree c).1 (hagree c).2.2

end Cert.Proof

end
-- ==== Proof.WGatePoints.lean ====
/- The weight-gradient product of the gate product, one grid point at a time.

   The grid is (row tile i, column tile j, step k), four of each: point `t = 16 i + 4 j + k` adds the product of 1024
   token rows to the tile's accumulator, the first step starting it and the last one writing it out. -/
module

public import proofs.«01_k».proof.Proof.Gen.WGateIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WGateIdeal.Val

open Idealize.ShloMosaic Idealize.ShloMosaic.TcCoe Idealize.SL Cert.WGateIdeal.Gen

/-- The product of one step: the sum over its 1024 token rows. -/
def stepDot (a : Vec Ideal S1024x2816 .bf16) (b : Vec Ideal S1024x1024 .bf16) (x : Fin 2816) (y : Fin 1024) : EReal :=
  ∑ k : Fin 1024, a (ix2 k x) * b (ix2 k y)

theorem pay1_at (a : Vec Ideal S1024x2816 .bf16) (b : Vec Ideal S1024x1024 .bf16) (x : Fin 2816) (y : Fin 1024) :
    k0_pay1 (F := Ideal) a b (ix2 x y) = stepDot a b x y := by
  unfold stepDot
  pointwise [k0_pay1]

theorem pay2_at (s : Vec Ideal S2816x1024 .f32) (a : Vec Ideal S1024x2816 .bf16) (b : Vec Ideal S1024x1024 .bf16) (x : Fin 2816) (y : Fin 1024) :
    k0_pay2 (F := Ideal) s a b (ix2 x y) = s (ix2 x y) + stepDot a b x y := by
  unfold stepDot
  pointwise [k0_pay2]

theorem pay3_at (s : Vec Ideal S2816x1024 .f32) (x : Fin 2816) (y : Fin 1024) :
    k0_pay3 (F := Ideal) s (ix2 x y) = s (ix2 x y) := by
  pointwise [k0_pay3]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A later step adds to what the step before left. -/
theorem acc_next (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]
    frame_open
    frame_out
    try simp only [read_unread_whole]
  · rw [outsAt0_B m c t h (by omega) h3]
    frame_open
    frame_out
    try simp only [read_unread_whole]

/-- The last step writes the accumulator out. -/
theorem out_last (t : Fin cfg0.N) (h : t.val % 4 = 3) :
    (outsAt0 m c t.val t.isLt).1 = k0_pay3 (outsAt0 m c t.val t.isLt).2 := by
  rw [outsAt0_C m c t (by omega) (by omega) h]
  frame_open
  simp (disch := decide) only [↓ View.readCov_skip, ↓ View.readCov_cons_toLoadRect, ↓ View.readCov_fill]
  frame_out
  try simp only [read_unread_whole]

end Cert.WGateIdeal.Val

end
-- ==== Proof.WGateEntry.lean ====
/- The arrays the weight-gradient product of the gate product reads, where its tiles lie in them, and the host code around it. -/
module

public import proofs.«01_k».proof.Proof.Gen.WGateIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WGateIdeal.Val

open Idealize.ShloMosaic Idealize.ShloMosaic.TcCoe Idealize.SL Cert.WGateIdeal.Gen

/-- The gradient of the product's result, each shard's 1376 columns padded to 1408. -/
def h_v3 (a0 : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a0 shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The product's input. -/
def h_v4 (a2 : (⟨S4096x4096, .f32⟩ : BufTy).Contents (Elt Ideal)) : (⟨S4096x4096, .bf16⟩ : BufTy).Contents (Elt Ideal) :=
  truncf (F := Ideal) .bf16 a2 bitsLt_bf16_f32

/-- The host code after the product: the padding rows dropped, and the transpose. -/
def t_v10 (y : (⟨S11264x4096, .bf16⟩ : BufTy).Contents (Elt Ideal)) : (⟨S4096x11008, .f32⟩ : BufTy).Contents (Elt Ideal) :=
  transpose S4096x11008 [1, 0] (shapeCast _ (extractStridedSlice S8x1376x4096 ![0, 0, 0] (extf (F := Ideal) .f32 (shapeCast _ y shapeCasts_S11264x4096_S8x1408x4096 : (⟨S8x1408x4096, .bf16⟩ : BufTy).Contents (Elt Ideal)) bitsLt_bf16_f32) slices_S8x1408x4096_S8x1376x4096_0_0_0) shapeCasts_S8x1376x4096_S11008x4096 : (⟨S11008x4096, .f32⟩ : BufTy).Contents (Elt Ideal)) transposes_S11008x4096_S4096x11008_1_0

theorem h_v3_at (a0 : (⟨S4096x11008, .f32⟩ : BufTy).Contents (Elt Ideal)) (x : Fin 4096) (s : Fin 8) (r : Fin 1376) :
    h_v3 a0 (ix2 x ⟨s.val * 1408 + r.val, by omega⟩) = a0 (ix2 x ⟨s.val * 1376 + r.val, by omega⟩) := by
  pointwise [h_v3]
  have e : (s.val * 1408 + r.val) % 1408 = r.val := by omega
  simp only [e]
  exact dif_pos r.isLt

theorem h_v4_at (a2 : (⟨S4096x4096, .f32⟩ : BufTy).Contents (Elt Ideal)) (x y : Fin 4096) : h_v4 a2 (ix2 x y) = a2 (ix2 x y) := by
  pointwise [h_v4]

theorem t_v10_at (y : (⟨S11264x4096, .bf16⟩ : BufTy).Contents (Elt Ideal)) (s : Fin 8) (r : Fin 1376) (x : Fin 4096) :
    t_v10 y (ix2 x ⟨s.val * 1376 + r.val, by omega⟩) = y (ix2 ⟨s.val * 1408 + r.val, by omega⟩ x) := by
  pointwise [t_v10]

variable (m : (ℓ : Loc nD τ sig) → Buf (Elt Ideal) ℓ) (c : Dev nD)

set_option maxHeartbeats 4000000

theorem V_v3 : V m c main_v3 = h_v3 (m ((c : Thread nD τ).loc main_arg2)) := by
  simp only [V, V0, hostOps0, hostOps0_1, hostOps0_2, List.flatten_cons, List.flatten_nil, List.append_nil, List.cons_append, List.nil_append]
  after_results <;> rfl

theorem V_v4 : V m c main_v4 = h_v4 (m ((c : Thread nD τ).loc main_arg0)) := by
  simp only [V, V0, hostOps0, hostOps0_1, hostOps0_2, List.flatten_cons, List.flatten_nil, List.append_nil, List.cons_append, List.nil_append]
  after_results <;> rfl

theorem idx0 : ∀ t : Fin cfg0.N, win0_0.index t = ![t.val % 4, t.val / 16] := by decide +kernel
theorem idx1 : ∀ t : Fin cfg0.N, win0_1.index t = ![t.val % 4, t.val / 4 % 4] := by decide +kernel
theorem idx2 : ∀ t : Fin cfg0.N, win0_2.index t = ![t.val / 16, t.val / 4 % 4] := by decide +kernel
theorem flush2 : ∀ t : Fin cfg0.N, (cfg0.win 2).flush t = true → t.val % 4 = 3 := by decide +kernel

theorem rd0 (A : Buf (Elt Ideal) ((c : Thread nD τ).loc main_v3)) (t : Fin cfg0.N) (i j k : Fin 4) (ht : t.val = 16 * i.val + 4 * j.val + k.val) (x : Fin 1024) (y : Fin 2816) :
    ((cfg0.win 0).blk t).view.read (Elt Ideal) A (ix2 x y) = A (ix2 ⟨k.val * 1024 + x.val, by omega⟩ ⟨i.val * 2816 + y.val, by omega⟩) := by
  blk_ext [idx0 t]

theorem rd1 (A : Buf (Elt Ideal) ((c : Thread nD τ).loc main_v4)) (t : Fin cfg0.N) (i j k : Fin 4) (ht : t.val = 16 * i.val + 4 * j.val + k.val) (x : Fin 1024) (y : Fin 1024) :
    ((cfg0.win 1).blk t).view.read (Elt Ideal) A (ix2 x y) = A (ix2 ⟨k.val * 1024 + x.val, by omega⟩ ⟨j.val * 1024 + y.val, by omega⟩) := by
  blk_ext [idx1 t]

theorem emb2 (t : Fin cfg0.N) (i j k : Fin 4) (ht : t.val = 16 * i.val + 4 * j.val + k.val) (x : Fin 2816) (y : Fin 1024) :
    (((cfg0.win 2).blk t).view.emb (ix2 x y) : S11264x4096.Idx) = ix2 ⟨i.val * 2816 + x.val, by omega⟩ ⟨j.val * 1024 + y.val, by omega⟩ := by
  blk_ext [idx2 t]

end Cert.WGateIdeal.Val

end
-- ==== Proof.WGateEnds.lean ====
/- The weight-gradient product of the gate product as a whole: what its array holds, and what the two programs return. -/
module

public import proofs.«01_k».proof.Defs
public import proofs.«01_k».proof.Proof.FfnSum
public import proofs.«01_k».proof.Proof.WGatePoints
public import proofs.«01_k».proof.Proof.WGateEntry
public import proofs.«01_k».proof.Proof.Gen.WGateIdeal.Run
public import proofs.«01_k».proof.Proof.Gen.WGateRefIdeal.Run
public import proofs.«01_k».proof.Proof.Gen.WGateRefIdeal.Read
public import Idealize.ShloMosaic.Lib.Claim

@[expose] public section

set_option maxRecDepth 16384

noncomputable section

namespace Cert.WGateIdeal.Val

open Idealize.ShloMosaic Idealize.ShloMosaic.TcCoe Idealize.SL Idealize.SL.Sem Cert.WGateIdeal.Gen

variable (m : (ℓ : Loc nD τ sig) → Buf (Elt Ideal) ℓ) (c : Dev nD)

/-- Padded row `f`, column `y` of the weight gradient: the sum over the tokens. -/
def gW (a0 : (⟨S4096x11008, .f32⟩ : BufTy).Contents (Elt Ideal)) (a2 : (⟨S4096x4096, .f32⟩ : BufTy).Contents (Elt Ideal)) : (⟨S11264x4096, .bf16⟩ : BufTy).Contents (Elt Ideal) :=
  fun y => ∑ k : Fin 4096, h_v3 a0 (ix2 k (y 0)) * h_v4 a2 (ix2 k (y 1))

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 2816) (y : Fin 1024) :
    stepDot (iblk m c 0 t) (iblk m c 1 t) x y
      = ∑ r : Fin 1024, h_v3 (m ((c : Thread nD τ).loc main_arg2)) (ix2 ⟨k.val * 1024 + r.val, by omega⟩ ⟨i.val * 2816 + x.val, by omega⟩)
          * h_v4 (m ((c : Thread nD τ).loc main_arg0)) (ix2 ⟨k.val * 1024 + r.val, by omega⟩ ⟨j.val * 1024 + y.val, by omega⟩) := by
  unfold stepDot
  refine Finset.sum_congr rfl fun r _ => congrArg₂ (· * ·) ?_ ?_
  · exact (rd0 c (V m c main_v3) t i j k ht r x).trans (congrFun (V_v3 m c) _)
  · exact (rd1 c (V m c main_v4) t i j k ht r y).trans (congrFun (V_v4 m c) _)

/-- The four steps of a tile. -/
theorem acc_four (i j : Fin 4) (t : Fin cfg0.N) (ht : t.val = 16 * i.val + 4 * j.val + 3) (x : Fin 2816) (y : Fin 1024) :
    (outsAt0 m c t.val t.isLt).2 (ix2 x y)
      = gW (m ((c : Thread nD τ).loc main_arg2)) (m ((c : Thread nD τ).loc main_arg0)) (ix2 ⟨i.val * 2816 + x.val, by omega⟩ ⟨j.val * 1024 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show ¬(t.val - 1 - 1) % 4 = 0; omega)
  have h2 := acc_next m c ⟨t.val - 1, by have := t.isLt; omega⟩ (by show ¬(t.val - 1) % 4 = 0; omega)
  have h3 := acc_next m c t (by omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := (congrFun h3 (ix2 x y)).trans ((pay2_at _ _ _ x y).trans (congrArg₂ (· + ·) e2 (step_at m c _ i j 3 (by show t.val = 16 * i.val + 4 * j.val + 3; omega) x y)))
  exact e3.trans (Cert.Ffn.sum_four (n := 1024) rfl fun k => h_v3 (m ((c : Thread nD τ).loc main_arg2)) (ix2 k ⟨i.val * 2816 + x.val, by omega⟩) * h_v4 (m ((c : Thread nD τ).loc main_arg0)) (ix2 k ⟨j.val * 1024 + y.val, by omega⟩))

/-- The array the product leaves. -/
theorem arr2 : (dats m 0 c).arrAt 2 cfg0.N = gW (m ((c : Thread nD τ).loc main_arg2)) (m ((c : Thread nD τ).loc main_arg0)) :=
  (dats m 0 c).arrAt_eq_of_covers 2 _ (by decide +kernel) fun t hf y => by
    have h3 := flush2 t hf
    blk_simp
    rw [after0_2]
    have hN := pt t
    obtain ⟨a, b, rfl⟩ : ∃ (a : Fin 2816) (b : Fin 1024), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    rw [out_last m c t h3, pay3_at, acc_four m c _ _ t ht a b]
    exact (congrArg (gW (m ((c : Thread nD τ).loc main_arg2)) (m ((c : Thread nD τ).loc main_arg0))) (emb2 t _ _ 3 ht a b)).symm

/-- The kernel's result is the reference's. -/
theorem same (a0 : (⟨S4096x11008, .f32⟩ : BufTy).Contents (Elt Ideal)) (a2 : (⟨S4096x4096, .f32⟩ : BufTy).Contents (Elt Ideal)) :
    t_v10 (gW a0 a2) = Cert.WGateRefIdeal.Read.val_main_v2 (F := Ideal) a2 a0 := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v10_at, Cert.WGateRefIdeal.Read.val_main_v2_apply, Cert.WGateRefIdeal.Read.val_main_v1_apply]
  refine Finset.sum_congr rfl fun k _ => ?_
  refine congrArg₂ (· * ·) ((h_v3_at a0 k s r).trans (congrArg a0 ?_)) ((h_v4_at a2 k x).trans (congrArg a2 ?_))
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v10)
          = Cert.WGateRefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_v10 (arr2 m c)).trans (same _ _)), (h c).2⟩) (Cert.WGateIdeal.Value.run m ρ)

end Cert.WGateIdeal.Val

namespace Cert.WGateRefIdeal.Val

open Idealize.ShloMosaic Idealize.ShloMosaic.TcCoe Idealize.SL Idealize.SL.Sem Cert.WGateRefIdeal.Gen Cert.WGateRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.WGateRefIdeal.Value.run m ρ)

end Cert.WGateRefIdeal.Val

namespace Cert.Proof

open Idealize.ShloMosaic Idealize.SL Idealize.SL.Sem

/-- The kernel's weight gradient is the reference's, from any arguments. -/
theorem wgate_algebraic : Cert.algebraic_WGateIdeal_WGateRefIdeal := by
  intro m g m' g' _ hagree
  refine ⟨fun c => Cert.WGateRefIdeal.Read.val_main_v2 (F := Ideal) (m ((c.tc : Thread Cert.WGateIdeal.nD Cert.WGateIdeal.τ).loc Cert.WGateIdeal.main_arg0)) (m ((c.tc : Thread Cert.WGateIdeal.nD Cert.WGateIdeal.τ).loc Cert.WGateIdeal.main_arg2)),
    Cert.WGateIdeal.Val.ends m g, ?_⟩
  refine (θ_run _ _ _).mono (fun r h c => ⟨(h c).1.trans ((Cert.WGateRefIdeal.Read.val_main_v2_eq _ _).trans ?_), (h c).2⟩) (Cert.WGateRefIdeal.Value.run m' g')
  exact congrArg₂ (fun a b => Cert.WGateRefIdeal.Read.val_main_v2 (F := Ideal) a b) (hagree c).1 (hagree c).2.2

end Cert.Proof

end
-- ==== Proof.WUpPoints.lean ====
/- The weight-gradient product of the up product, one grid point at a time.

   The grid is (row tile i, column tile j, step k), four of each: point `t = 16 i + 4 j + k` adds the product of 1024
   token rows to the tile's accumulator, the first step starting it and the last one writing it out. -/
module

public import proofs.«01_k».proof.Proof.Gen.WUpIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WUpIdeal.Val

open Idealize.ShloMosaic Idealize.ShloMosaic.TcCoe Idealize.SL Cert.WUpIdeal.Gen

/-- The product of one step: the sum over its 1024 token rows. -/
def stepDot (a : Vec Ideal S1024x2816 .bf16) (b : Vec Ideal S1024x1024 .bf16) (x : Fin 2816) (y : Fin 1024) : EReal :=
  ∑ k : Fin 1024, a (ix2 k x) * b (ix2 k y)

theorem pay1_at (a : Vec Ideal S1024x2816 .bf16) (b : Vec Ideal S1024x1024 .bf16) (x : Fin 2816) (y : Fin 1024) :
    k0_pay1 (F := Ideal) a b (ix2 x y) = stepDot a b x y := by
  unfold stepDot
  pointwise [k0_pay1]

theorem pay2_at (s : Vec Ideal S2816x1024 .f32) (a : Vec Ideal S1024x2816 .bf16) (b : Vec Ideal S1024x1024 .bf16) (x : Fin 2816) (y : Fin 1024) :
    k0_pay2 (F := Ideal) s a b (ix2 x y) = s (ix2 x y) + stepDot a b x y := by
  unfold stepDot
  pointwise [k0_pay2]

theorem pay3_at (s : Vec Ideal S2816x1024 .f32) (x : Fin 2816) (y : Fin 1024) :
    k0_pay3 (F := Ideal) s (ix2 x y) = s (ix2 x y) := by
  pointwise [k0_pay3]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A later step adds to what the step before left. -/
theorem acc_next (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]
    frame_open
    frame_out
    try simp only [read_unread_whole]
  · rw [outsAt0_B m c t h (by omega) h3]
    frame_open
    frame_out
    try simp only [read_unread_whole]

/-- The last step writes the accumulator out. -/
theorem out_last (t : Fin cfg0.N) (h : t.val % 4 = 3) :
    (outsAt0 m c t.val t.isLt).1 = k0_pay3 (outsAt0 m c t.val t.isLt).2 := by
  rw [outsAt0_C m c t (by omega) (by omega) h]
  frame_open
  simp (disch := decide) only [↓ View.readCov_skip, ↓ View.readCov_cons_toLoadRect, ↓ View.readCov_fill]
  frame_out
  try simp only [read_unread_whole]

end Cert.WUpIdeal.Val

end
-- ==== Proof.WUpEntry.lean ====
/- The arrays the weight-gradient product of the up product reads, where its tiles lie in them, and the host code around it. -/
module

public import proofs.«01_k».proof.Proof.Gen.WUpIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WUpIdeal.Val

open Idealize.ShloMosaic Idealize.ShloMosaic.TcCoe Idealize.SL Cert.WUpIdeal.Gen

/-- The gradient of the product's result, each shard's 1376 columns padded to 1408. -/
def h_v3 (a0 : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a0 shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The product's input. -/
def h_v4 (a2 : (⟨S4096x4096, .f32⟩ : BufTy).Contents (Elt Ideal)) : (⟨S4096x4096, .bf16⟩ : BufTy).Contents (Elt Ideal) :=
  truncf (F := Ideal) .bf16 a2 bitsLt_bf16_f32

/-- The host code after the product: the padding rows dropped, and the transpose. -/
def t_v10 (y : (⟨S11264x4096, .bf16⟩ : BufTy).Contents (Elt Ideal)) : (⟨S4096x11008, .f32⟩ : BufTy).Contents (Elt Ideal) :=
  transpose S4096x11008 [1, 0] (shapeCast _ (extractStridedSlice S8x1376x4096 ![0, 0, 0] (extf (F := Ideal) .f32 (shapeCast _ y shapeCasts_S11264x4096_S8x1408x4096 : (⟨S8x1408x4096, .bf16⟩ : BufTy).Contents (Elt Ideal)) bitsLt_bf16_f32) slices_S8x1408x4096_S8x1376x4096_0_0_0) shapeCasts_S8x1376x4096_S11008x4096 : (⟨S11008x4096, .f32⟩ : BufTy).Contents (Elt Ideal)) transposes_S11008x4096_S4096x11008_1_0

theorem h_v3_at (a0 : (⟨S4096x11008, .f32⟩ : BufTy).Contents (Elt Ideal)) (x : Fin 4096) (s : Fin 8) (r : Fin 1376) :
    h_v3 a0 (ix2 x ⟨s.val * 1408 + r.val, by omega⟩) = a0 (ix2 x ⟨s.val * 1376 + r.val, by omega⟩) := by
  pointwise [h_v3]
  have e : (s.val * 1408 + r.val) % 1408 = r.val := by omega
  simp only [e]
  exact dif_pos r.isLt

theorem h_v4_at (a2 : (⟨S4096x4096, .f32⟩ : BufTy).Contents (Elt Ideal)) (x y : Fin 4096) : h_v4 a2 (ix2 x y) = a2 (ix2 x y) := by
  pointwise [h_v4]

theorem t_v10_at (y : (⟨S11264x4096, .bf16⟩ : BufTy).Contents (Elt Ideal)) (s : Fin 8) (r : Fin 1376) (x : Fin 4096) :
    t_v10 y (ix2 x ⟨s.val * 1376 + r.val, by omega⟩) = y (ix2 ⟨s.val * 1408 + r.val, by omega⟩ x) := by
  pointwise [t_v10]

variable (m : (ℓ : Loc nD τ sig) → Buf (Elt Ideal) ℓ) (c : Dev nD)

set_option maxHeartbeats 4000000

theorem V_v3 : V m c main_v3 = h_v3 (m ((c : Thread nD τ).loc main_arg2)) := by
  simp only [V, V0, hostOps0, hostOps0_1, hostOps0_2, List.flatten_cons, List.flatten_nil, List.append_nil, List.cons_append, List.nil_append]
  after_results <;> rfl

theorem V_v4 : V m c main_v4 = h_v4 (m ((c : Thread nD τ).loc main_arg0)) := by
  simp only [V, V0, hostOps0, hostOps0_1, hostOps0_2, List.flatten_cons, List.flatten_nil, List.append_nil, List.cons_append, List.nil_append]
  after_results <;> rfl

theorem idx0 : ∀ t : Fin cfg0.N, win0_0.index t = ![t.val % 4, t.val / 16] := by decide +kernel
theorem idx1 : ∀ t : Fin cfg0.N, win0_1.index t = ![t.val % 4, t.val / 4 % 4] := by decide +kernel
theorem idx2 : ∀ t : Fin cfg0.N, win0_2.index t = ![t.val / 16, t.val / 4 % 4] := by decide +kernel
theorem flush2 : ∀ t : Fin cfg0.N, (cfg0.win 2).flush t = true → t.val % 4 = 3 := by decide +kernel

theorem rd0 (A : Buf (Elt Ideal) ((c : Thread nD τ).loc main_v3)) (t : Fin cfg0.N) (i j k : Fin 4) (ht : t.val = 16 * i.val + 4 * j.val + k.val) (x : Fin 1024) (y : Fin 2816) :
    ((cfg0.win 0).blk t).view.read (Elt Ideal) A (ix2 x y) = A (ix2 ⟨k.val * 1024 + x.val, by omega⟩ ⟨i.val * 2816 + y.val, by omega⟩) := by
  blk_ext [idx0 t]

theorem rd1 (A : Buf (Elt Ideal) ((c : Thread nD τ).loc main_v4)) (t : Fin cfg0.N) (i j k : Fin 4) (ht : t.val = 16 * i.val + 4 * j.val + k.val) (x : Fin 1024) (y : Fin 1024) :
    ((cfg0.win 1).blk t).view.read (Elt Ideal) A (ix2 x y) = A (ix2 ⟨k.val * 1024 + x.val, by omega⟩ ⟨j.val * 1024 + y.val, by omega⟩) := by
  blk_ext [idx1 t]

theorem emb2 (t : Fin cfg0.N) (i j k : Fin 4) (ht : t.val = 16 * i.val + 4 * j.val + k.val) (x : Fin 2816) (y : Fin 1024) :
    (((cfg0.win 2).blk t).view.emb (ix2 x y) : S11264x4096.Idx) = ix2 ⟨i.val * 2816 + x.val, by omega⟩ ⟨j.val * 1024 + y.val, by omega⟩ := by
  blk_ext [idx2 t]

end Cert.WUpIdeal.Val

end
-- ==== Proof.WUpEnds.lean ====
/- The weight-gradient product of the up product as a whole: what its array holds, and what the two programs return. -/
module

public import proofs.«01_k».proof.Defs
public import proofs.«01_k».proof.Proof.FfnSum
public import proofs.«01_k».proof.Proof.WUpPoints
public import proofs.«01_k».proof.Proof.WUpEntry
public import proofs.«01_k».proof.Proof.Gen.WUpIdeal.Run
public import proofs.«01_k».proof.Proof.Gen.WUpRefIdeal.Run
public import proofs.«01_k».proof.Proof.Gen.WUpRefIdeal.Read
public import Idealize.ShloMosaic.Lib.Claim

@[expose] public section

set_option maxRecDepth 16384

noncomputable section

namespace Cert.WUpIdeal.Val

open Idealize.ShloMosaic Idealize.ShloMosaic.TcCoe Idealize.SL Idealize.SL.Sem Cert.WUpIdeal.Gen

variable (m : (ℓ : Loc nD τ sig) → Buf (Elt Ideal) ℓ) (c : Dev nD)

/-- Padded row `f`, column `y` of the weight gradient: the sum over the tokens. -/
def gW (a0 : (⟨S4096x11008, .f32⟩ : BufTy).Contents (Elt Ideal)) (a2 : (⟨S4096x4096, .f32⟩ : BufTy).Contents (Elt Ideal)) : (⟨S11264x4096, .bf16⟩ : BufTy).Contents (Elt Ideal) :=
  fun y => ∑ k : Fin 4096, h_v3 a0 (ix2 k (y 0)) * h_v4 a2 (ix2 k (y 1))

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 2816) (y : Fin 1024) :
    stepDot (iblk m c 0 t) (iblk m c 1 t) x y
      = ∑ r : Fin 1024, h_v3 (m ((c : Thread nD τ).loc main_arg2)) (ix2 ⟨k.val * 1024 + r.val, by omega⟩ ⟨i.val * 2816 + x.val, by omega⟩)
          * h_v4 (m ((c : Thread nD τ).loc main_arg0)) (ix2 ⟨k.val * 1024 + r.val, by omega⟩ ⟨j.val * 1024 + y.val, by omega⟩) := by
  unfold stepDot
  refine Finset.sum_congr rfl fun r _ => congrArg₂ (· * ·) ?_ ?_
  · exact (rd0 c (V m c main_v3) t i j k ht r x).trans (congrFun (V_v3 m c) _)
  · exact (rd1 c (V m c main_v4) t i j k ht r y).trans (congrFun (V_v4 m c) _)

/-- The four steps of a tile. -/
theorem acc_four (i j : Fin 4) (t : Fin cfg0.N) (ht : t.val = 16 * i.val + 4 * j.val + 3) (x : Fin 2816) (y : Fin 1024) :
    (outsAt0 m c t.val t.isLt).2 (ix2 x y)
      = gW (m ((c : Thread nD τ).loc main_arg2)) (m ((c : Thread nD τ).loc main_arg0)) (ix2 ⟨i.val * 2816 + x.val, by omega⟩ ⟨j.val * 1024 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show ¬(t.val - 1 - 1) % 4 = 0; omega)
  have h2 := acc_next m c ⟨t.val - 1, by have := t.isLt; omega⟩ (by show ¬(t.val - 1) % 4 = 0; omega)
  have h3 := acc_next m c t (by omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := (congrFun h3 (ix2 x y)).trans ((pay2_at _ _ _ x y).trans (congrArg₂ (· + ·) e2 (step_at m c _ i j 3 (by show t.val = 16 * i.val + 4 * j.val + 3; omega) x y)))
  exact e3.trans (Cert.Ffn.sum_four (n := 1024) rfl fun k => h_v3 (m ((c : Thread nD τ).loc main_arg2)) (ix2 k ⟨i.val * 2816 + x.val, by omega⟩) * h_v4 (m ((c : Thread nD τ).loc main_arg0)) (ix2 k ⟨j.val * 1024 + y.val, by omega⟩))

/-- The array the product leaves. -/
theorem arr2 : (dats m 0 c).arrAt 2 cfg0.N = gW (m ((c : Thread nD τ).loc main_arg2)) (m ((c : Thread nD τ).loc main_arg0)) :=
  (dats m 0 c).arrAt_eq_of_covers 2 _ (by decide +kernel) fun t hf y => by
    have h3 := flush2 t hf
    blk_simp
    rw [after0_2]
    have hN := pt t
    obtain ⟨a, b, rfl⟩ : ∃ (a : Fin 2816) (b : Fin 1024), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    rw [out_last m c t h3, pay3_at, acc_four m c _ _ t ht a b]
    exact (congrArg (gW (m ((c : Thread nD τ).loc main_arg2)) (m ((c : Thread nD τ).loc main_arg0))) (emb2 t _ _ 3 ht a b)).symm

/-- The kernel's result is the reference's. -/
theorem same (a0 : (⟨S4096x11008, .f32⟩ : BufTy).Contents (Elt Ideal)) (a2 : (⟨S4096x4096, .f32⟩ : BufTy).Contents (Elt Ideal)) :
    t_v10 (gW a0 a2) = Cert.WUpRefIdeal.Read.val_main_v2 (F := Ideal) a2 a0 := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v10_at, Cert.WUpRefIdeal.Read.val_main_v2_apply, Cert.WUpRefIdeal.Read.val_main_v1_apply]
  refine Finset.sum_congr rfl fun k _ => ?_
  refine congrArg₂ (· * ·) ((h_v3_at a0 k s r).trans (congrArg a0 ?_)) ((h_v4_at a2 k x).trans (congrArg a2 ?_))
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v10)
          = Cert.WUpRefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_v10 (arr2 m c)).trans (same _ _)), (h c).2⟩) (Cert.WUpIdeal.Value.run m ρ)

end Cert.WUpIdeal.Val

namespace Cert.WUpRefIdeal.Val

open Idealize.ShloMosaic Idealize.ShloMosaic.TcCoe Idealize.SL Idealize.SL.Sem Cert.WUpRefIdeal.Gen Cert.WUpRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.WUpRefIdeal.Value.run m ρ)

end Cert.WUpRefIdeal.Val

namespace Cert.Proof

open Idealize.ShloMosaic Idealize.SL Idealize.SL.Sem

/-- The kernel's weight gradient is the reference's, from any arguments. -/
theorem wup_algebraic : Cert.algebraic_WUpIdeal_WUpRefIdeal := by
  intro m g m' g' _ hagree
  refine ⟨fun c => Cert.WUpRefIdeal.Read.val_main_v2 (F := Ideal) (m ((c.tc : Thread Cert.WUpIdeal.nD Cert.WUpIdeal.τ).loc Cert.WUpIdeal.main_arg0)) (m ((c.tc : Thread Cert.WUpIdeal.nD Cert.WUpIdeal.τ).loc Cert.WUpIdeal.main_arg2)),
    Cert.WUpIdeal.Val.ends m g, ?_⟩
  refine (θ_run _ _ _).mono (fun r h c => ⟨(h c).1.trans ((Cert.WUpRefIdeal.Read.val_main_v2_eq _ _).trans ?_), (h c).2⟩) (Cert.WUpRefIdeal.Value.run m' g')
  exact congrArg₂ (fun a b => Cert.WUpRefIdeal.Read.val_main_v2 (F := Ideal) a b) (hagree c).1 (hagree c).2.2

end Cert.Proof

end
-- ==== Proof.HnGatePoints.lean ====
/- The input gradient of the gate product, one grid point at a time.

   The grid is (row tile i, column tile j, step k), four of each: point `t = 16 i + 4 j + k` adds the product over 2816
   padded columns to the tile's accumulator, the first step starting it and the last one writing it out. -/
module

public import proofs.«01_k».proof.Proof.Gen.HnGateIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HnGateIdeal.Val

open Idealize.ShloMosaic Idealize.ShloMosaic.TcCoe Idealize.SL Cert.HnGateIdeal.Gen

/-- The product of one step: the sum over its 2816 padded columns. -/
def stepDot (a : Vec Ideal S1024x2816 .bf16) (b : Vec Ideal S2816x1024 .bf16) (x y : Fin 1024) : EReal :=
  ∑ k : Fin 2816, a (ix2 x k) * b (ix2 k y)

theorem pay1_at (a : Vec Ideal S1024x2816 .bf16) (b : Vec Ideal S2816x1024 .bf16) (x y : Fin 1024) :
    k0_pay1 (F := Ideal) a b (ix2 x y) = stepDot a b x y := by
  unfold stepDot
  pointwise [k0_pay1]

theorem pay2_at (s : Vec Ideal S1024x1024 .f32) (a : Vec Ideal S1024x2816 .bf16) (b : Vec Ideal S2816x1024 .bf16) (x y : Fin 1024) :
    k0_pay2 (F := Ideal) s a b (ix2 x y) = s (ix2 x y) + stepDot a b x y := by
  unfold stepDot
  pointwise [k0_pay2]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A later step adds to what the step before left. -/
theorem acc_next (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]
    frame_open
    frame_out
    try simp only [read_unread_whole]
  · rw [outsAt0_B m c t h (by omega) h3]
    frame_open
    frame_out
    try simp only [read_unread_whole]

/-- The last step writes the accumulator out. -/
theorem out_last (t : Fin cfg0.N) (h : t.val % 4 = 3) :
    (outsAt0 m c t.val t.isLt).1 = (outsAt0 m c t.val t.isLt).2 := by
  rw [outsAt0_C m c t (by omega) (by omega) h]
  frame_open
  simp (disch := decide) only [↓ View.readCov_skip, ↓ View.readCov_cons_toLoadRect, ↓ View.readCov_fill]
  frame_out
  try simp only [read_unread_whole]

end Cert.HnGateIdeal.Val

end
-- ==== Proof.HnGateEntry.lean ====
/- The arrays the input gradient of the gate product reads, where its tiles lie in them, and the host code around it. -/
module

public import proofs.«01_k».proof.Proof.Gen.HnGateIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HnGateIdeal.Val

open Idealize.ShloMosaic Idealize.ShloMosaic.TcCoe Idealize.SL Cert.HnGateIdeal.Gen

/-- The gradient of the product's result, each shard's 1376 columns padded to 1408. -/
def h_v3 (a : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The weights, transposed, each shard's 1376 rows padded to 1408. -/
def h_v8 (b : (⟨S4096x11008, .f32⟩ : BufTy).Contents (Elt Ideal)) : (⟨S11264x4096, .bf16⟩ : BufTy).Contents (Elt Ideal) :=
  truncf (F := Ideal) .bf16 (shapeCast _ (pad S8x1408x4096 ![0, 0, 0] ![0, 32, 0] ![0, 0, 0] (shapeCast _ (transpose S11008x4096 [1, 0] b transposes_S4096x11008_S11008x4096_1_0 : (⟨S11008x4096, .f32⟩ : BufTy).Contents (Elt Ideal)) shapeCasts_S11008x4096_S8x1376x4096 : (⟨S8x1376x4096, .f32⟩ : BufTy).Contents (Elt Ideal))
    (sitofp (F := Ideal) .f32 (constantI S_ 32 0#32) : (⟨S_, .f32⟩ : BufTy).Contents (Elt Ideal)) pads_S8x1376x4096_S8x1408x4096_000_0320_000 h_S_) shapeCasts_S8x1408x4096_S11264x4096 : (⟨S11264x4096, .f32⟩ : BufTy).Contents (Elt Ideal)) bitsLt_bf16_f32

theorem h_v3_at (a : (⟨S4096x11008, .f32⟩ : BufTy).Contents (Elt Ideal)) (x : Fin 4096) (s : Fin 8) (r : Fin 1376) :
    h_v3 a (ix2 x ⟨s.val * 1408 + r.val, by omega⟩) = a (ix2 x ⟨s.val * 1376 + r.val, by omega⟩) := by
  pointwise [h_v3]
  have e : (s.val * 1408 + r.val) % 1408 = r.val := by omega
  simp only [e]
  exact dif_pos r.isLt

/-- The padding columns are zero. -/
theorem h_v3_pad (a : (⟨S4096x11008, .f32⟩ : BufTy).Contents (Elt Ideal)) (x : Fin 4096) (s : Fin 8) (r : Fin 32) :
    h_v3 a (ix2 x ⟨s.val * 1408 + (1376 + r.val), by omega⟩) = 0 := by
  pointwise [h_v3]
  have e : (s.val * 1408 + (1376 + r.val)) % 1408 = 1376 + r.val := by omega
  simp only [e]
  refine (dif_neg (by omega)).trans ?_
  show ((((0#32 : BitVec 32).toInt : ℤ) : ℝ) : EReal) = 0
  simp

theorem h_v8_at (b : (⟨S4096x11008, .f32⟩ : BufTy).Contents (Elt Ideal)) (s : Fin 8) (r : Fin 1376) (x : Fin 4096) :
    h_v8 b (ix2 ⟨s.val * 1408 + r.val, by omega⟩ x) = b (ix2 x ⟨s.val * 1376 + r.val, by omega⟩) := by
  pointwise [h_v8]
  have e : (s.val * 1408 + r.val) % 1408 = r.val := by omega
  simp only [e]
  exact dif_pos r.isLt

variable (m : (ℓ : Loc nD τ sig) → Buf (Elt Ideal) ℓ) (c : Dev nD)

set_option maxHeartbeats 4000000

theorem V_v3 : V m c main_v3 = h_v3 (m ((c : Thread nD τ).loc main_arg2)) := by
  simp only [V, hostOps0, hostOps0_1, hostOps0_2, hostOps0_3, hostOps0_4, List.flatten_cons, List.flatten_nil, List.append_nil, List.cons_append, List.nil_append]
  after_results <;> rfl

theorem V_v8 : V m c main_v8 = h_v8 (m ((c : Thread nD τ).loc main_arg1)) := by
  simp only [V, hostOps0, hostOps0_1, hostOps0_2, hostOps0_3, hostOps0_4, List.flatten_cons, List.flatten_nil, List.append_nil, List.cons_append, List.nil_append]
  after_results <;> rfl

theorem idx0 : ∀ t : Fin cfg0.N, win0_0.index t = ![t.val / 16, t.val % 4] := by decide +kernel
theorem idx1 : ∀ t : Fin cfg0.N, win0_1.index t = ![t.val % 4, t.val / 4 % 4] := by decide +kernel
theorem idx2 : ∀ t : Fin cfg0.N, win0_2.index t = ![t.val / 16, t.val / 4 % 4] := by decide +kernel
theorem flush2 : ∀ t : Fin cfg0.N, (cfg0.win 2).flush t = true → t.val % 4 = 3 := by decide +kernel

theorem rd0 (A : Buf (Elt Ideal) ((c : Thread nD τ).loc main_v3)) (t : Fin cfg0.N) (i j k : Fin 4) (ht : t.val = 16 * i.val + 4 * j.val + k.val) (x : Fin 1024) (y : Fin 2816) :
    ((cfg0.win 0).blk t).view.read (Elt Ideal) A (ix2 x y) = A (ix2 ⟨i.val * 1024 + x.val, by omega⟩ ⟨k.val * 2816 + y.val, by omega⟩) := by
  blk_ext [idx0 t]

theorem rd1 (A : Buf (Elt Ideal) ((c : Thread nD τ).loc main_v8)) (t : Fin cfg0.N) (i j k : Fin 4) (ht : t.val = 16 * i.val + 4 * j.val + k.val) (x : Fin 2816) (y : Fin 1024) :
    ((cfg0.win 1).blk t).view.read (Elt Ideal) A (ix2 x y) = A (ix2 ⟨k.val * 2816 + x.val, by omega⟩ ⟨j.val * 1024 + y.val, by omega⟩) := by
  blk_ext [idx1 t]

theorem emb2 (t : Fin cfg0.N) (i j k : Fin 4) (ht : t.val = 16 * i.val + 4 * j.val + k.val) (x y : Fin 1024) :
    (((cfg0.win 2).blk t).view.emb (ix2 x y) : S4096x4096.Idx) = ix2 ⟨i.val * 1024 + x.val, by omega⟩ ⟨j.val * 1024 + y.val, by omega⟩ := by
  blk_ext [idx2 t]

end Cert.HnGateIdeal.Val

end
-- ==== Proof.HnGateEnds.lean ====
/- The input gradient of the gate product as a whole: what its array holds, and what the two programs return. -/
module

public import proofs.«01_k».proof.Defs
public import proofs.«01_k».proof.Proof.FfnSum
public import proofs.«01_k».proof.Proof.HnGatePoints
public import proofs.«01_k».proof.Proof.HnGateEntry
public import proofs.«01_k».proof.Proof.Gen.HnGateIdeal.Value
public import proofs.«01_k».proof.Proof.Gen.HnGateRefIdeal.Run
public import proofs.«01_k».proof.Proof.Gen.HnGateRefIdeal.Read
public import Idealize.ShloMosaic.Lib.Claim

@[expose] public section

set_option maxRecDepth 16384

noncomputable section

namespace Cert.HnGateIdeal.Val

open Idealize.ShloMosaic Idealize.ShloMosaic.TcCoe Idealize.SL Idealize.SL.Sem Cert.HnGateIdeal.Gen

variable (m : (ℓ : Loc nD τ sig) → Buf (Elt Ideal) ℓ) (c : Dev nD)

/-- Row `y 0`, column `y 1` of the product. -/
def gW (a : (⟨S4096x11008, .f32⟩ : BufTy).Contents (Elt Ideal)) (b : (⟨S4096x11008, .f32⟩ : BufTy).Contents (Elt Ideal)) : (⟨S4096x4096, .f32⟩ : BufTy).Contents (Elt Ideal) :=
  fun y => ∑ k : Fin 11264, h_v3 a (ix2 (y 0) k) * h_v8 b (ix2 k (y 1))

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 1024) (y : Fin 1024) :
    stepDot (iblk m c 0 t) (iblk m c 1 t) x y
      = ∑ r : Fin 2816, h_v3 (m ((c : Thread nD τ).loc main_arg2)) (ix2 ⟨i.val * 1024 + x.val, by omega⟩ ⟨k.val * 2816 + r.val, by omega⟩) * h_v8 (m ((c : Thread nD τ).loc main_arg1)) (ix2 ⟨k.val * 2816 + r.val, by omega⟩ ⟨j.val * 1024 + y.val, by omega⟩) := by
  unfold stepDot
  refine Finset.sum_congr rfl fun r _ => congrArg₂ (· * ·) ?_ ?_
  · exact (rd0 c (V m c main_v3) t i j k ht x r).trans (congrFun (V_v3 m c) _)
  · exact (rd1 c (V m c main_v8) t i j k ht r y).trans (congrFun (V_v8 m c) _)

/-- The four steps of a tile. -/
theorem acc_four (i j : Fin 4) (t : Fin cfg0.N) (ht : t.val = 16 * i.val + 4 * j.val + 3) (x : Fin 1024) (y : Fin 1024) :
    (outsAt0 m c t.val t.isLt).2 (ix2 x y)
      = gW (m ((c : Thread nD τ).loc main_arg2)) (m ((c : Thread nD τ).loc main_arg1)) (ix2 ⟨i.val * 1024 + x.val, by omega⟩ ⟨j.val * 1024 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show ¬(t.val - 1 - 1) % 4 = 0; omega)
  have h2 := acc_next m c ⟨t.val - 1, by have := t.isLt; omega⟩ (by show ¬(t.val - 1) % 4 = 0; omega)
  have h3 := acc_next m c t (by omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := (congrFun h3 (ix2 x y)).trans ((pay2_at _ _ _ x y).trans (congrArg₂ (· + ·) e2 (step_at m c _ i j 3 (by show t.val = 16 * i.val + 4 * j.val + 3; omega) x y)))
  exact e3.trans (Cert.Ffn.sum_four (n := 2816) rfl fun k => h_v3 (m ((c : Thread nD τ).loc main_arg2)) (ix2 ⟨i.val * 1024 + x.val, by omega⟩ k) * h_v8 (m ((c : Thread nD τ).loc main_arg1)) (ix2 k ⟨j.val * 1024 + y.val, by omega⟩))

/-- The array the product leaves. -/
theorem arr2 : (dats m 0 c).arrAt 2 cfg0.N = gW (m ((c : Thread nD τ).loc main_arg2)) (m ((c : Thread nD τ).loc main_arg1)) :=
  (dats m 0 c).arrAt_eq_of_covers 2 _ (by decide +kernel) fun t hf y => by
    have h3 := flush2 t hf
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    rw [out_last m c t h3, acc_four m c _ _ t ht a b]
    exact (congrArg (gW (m ((c : Thread nD τ).loc main_arg2)) (m ((c : Thread nD τ).loc main_arg1))) (emb2 t _ _ 3 ht a b)).symm

/-- The kernel's result is the reference's: the padding adds zeros. -/
theorem same (a : (⟨S4096x11008, .f32⟩ : BufTy).Contents (Elt Ideal)) (b : (⟨S4096x11008, .f32⟩ : BufTy).Contents (Elt Ideal)) :
    gW a b = Cert.HnGateRefIdeal.Read.val_main_v1 (F := Ideal) b a := by
  funext y
  obtain ⟨x, z, rfl⟩ : ∃ (x z : Fin 4096), y = ix2 x z := ⟨y 0, y 1, by funext d; fin_cases d <;> rfl⟩
  rw [Cert.HnGateRefIdeal.Read.val_main_v1_apply]
  refine Cert.Ffn.sum_pad (fun k => h_v3 a (ix2 x k) * h_v8 b (ix2 k z)) _ (fun s r => ?_) fun s r => ?_
  · refine congrArg₂ (· * ·) ((h_v3_at a x s r).trans (congrArg a ?_)) ((h_v8_at b s r z).trans (congrArg b ?_))
    · funext d; fin_cases d <;> rfl
    · funext d; fin_cases d <;> rfl
  · exact (congrArg (· * h_v8 b _) (h_v3_pad a x s r)).trans (zero_mul _)

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v9)
          = Cert.HnGateRefIdeal.Read.val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((Cert.HnGateIdeal.Value.final2 m c).symm.trans ((arr2 m c).trans (same _ _))), (h c).2⟩) (Cert.HnGateIdeal.Value.run m ρ)

end Cert.HnGateIdeal.Val

namespace Cert.HnGateRefIdeal.Val

open Idealize.ShloMosaic Idealize.ShloMosaic.TcCoe Idealize.SL Idealize.SL.Sem Cert.HnGateRefIdeal.Gen Cert.HnGateRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.HnGateRefIdeal.Value.run m ρ)

end Cert.HnGateRefIdeal.Val

namespace Cert.Proof

open Idealize.ShloMosaic Idealize.SL Idealize.SL.Sem

/-- The kernel's product is the reference's, from any arguments. -/
theorem hngate_algebraic : Cert.algebraic_HnGateIdeal_HnGateRefIdeal := by
  intro m g m' g' _ hagree
  refine ⟨fun c => Cert.HnGateRefIdeal.Read.val_main_v1 (F := Ideal) (m ((c.tc : Thread Cert.HnGateIdeal.nD Cert.HnGateIdeal.τ).loc Cert.HnGateIdeal.main_arg1)) (m ((c.tc : Thread Cert.HnGateIdeal.nD Cert.HnGateIdeal.τ).loc Cert.HnGateIdeal.main_arg2)),
    Cert.HnGateIdeal.Val.ends m g, ?_⟩
  refine (θ_run _ _ _).mono (fun r h c => ⟨(h c).1.trans ((Cert.HnGateRefIdeal.Read.val_main_v1_eq _ _).trans ?_), (h c).2⟩) (Cert.HnGateRefIdeal.Value.run m' g')
  exact congrArg₂ (fun a b => Cert.HnGateRefIdeal.Read.val_main_v1 (F := Ideal) a b) (hagree c).2.1 (hagree c).2.2

end Cert.Proof

end
-- ==== Proof.HnUpPoints.lean ====
/- The input gradient of the up product, one grid point at a time.

   The grid is (row tile i, column tile j, step k), four of each: point `t = 16 i + 4 j + k` adds the product over 2816
   padded columns to the tile's accumulator, the first step starting it, the last one adding the other gradient and
   writing the sum out in four slabs of rows. -/
module

public import proofs.«01_k».proof.Proof.Gen.HnUpIdeal.Frame
public import proofs.«01_k».proof.Proof.FfnTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HnUpIdeal.Val

open Idealize.ShloMosaic Idealize.ShloMosaic.TcCoe Idealize.SL Cert.HnUpIdeal.Gen

/-- The product of one step: the sum over its 2816 padded columns. -/
def stepDot (a : Vec Ideal S1024x2816 .bf16) (b : Vec Ideal S2816x1024 .bf16) (x y : Fin 1024) : EReal :=
  ∑ k : Fin 2816, a (ix2 x k) * b (ix2 k y)

theorem pay1_at (a : Vec Ideal S1024x2816 .bf16) (b : Vec Ideal S2816x1024 .bf16) (x y : Fin 1024) :
    k0_pay1 (F := Ideal) a b (ix2 x y) = stepDot a b x y := by
  unfold stepDot
  pointwise [k0_pay1]

theorem pay2_at (s : Vec Ideal S1024x1024 .f32) (a : Vec Ideal S1024x2816 .bf16) (b : Vec Ideal S2816x1024 .bf16) (x y : Fin 1024) :
    k0_pay2 (F := Ideal) s a b (ix2 x y) = s (ix2 x y) + stepDot a b x y := by
  unfold stepDot
  pointwise [k0_pay2]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A middle step adds to what the step before left. -/
theorem acc_next (t : Fin cfg0.N) (h : 1 ≤ t.val % 4 ∧ t.val % 4 ≤ 2) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t (by omega) h (by omega)]
  frame_open
  frame_out
  try simp only [read_unread_whole]

/-- The last step's tile. -/
def lastAt (s : Vec Ideal S1024x1024 .f32) (a : Vec Ideal S1024x2816 .bf16) (b : Vec Ideal S2816x1024 .bf16) (e : Vec Ideal S1024x1024 .f32) (x y : Fin 1024) : EReal :=
  s (ix2 x y) + stepDot a b x y + e (ix2 x y)

/-- The last step writes the accumulator, its own product and the other gradient out. -/
theorem out_last (t : Fin cfg0.N) (h : t.val % 4 = 3) (y : (⟨2, ![1024, 1024]⟩ : Shape).Idx) :
    (outsAt0 m c t.val t.isLt).1 y
      = lastAt (outsAt0 m c (t.val - 1) (Nat.lt_of_le_of_lt (Nat.sub_le _ _) t.isLt)).2 (iblk m c 0 t) (iblk m c 1 t) (iblk m c 2 t) (y 0) (y 1) := by
  let G : (⟨2, ![1024, 1024]⟩ : Shape).Idx → EReal := fun y =>
    lastAt (outsAt0 m c (t.val - 1) (Nat.lt_of_le_of_lt (Nat.sub_le _ _) t.isLt)).2 (iblk m c 0 t) (iblk m c 1 t) (iblk m c 2 t) (y 0) (y 1)
  rw [outsAt0_C m c t (by omega) (by omega) h]
  frame_open
  simp (disch := decide) only [↓ View.readCov_skip, ↓ View.readCov_cons_toLoadRect, ↓ View.readCov_fill]
  frame_out
  try simp only [read_unread_whole]
  refine View.canon_append_of_piecesOf (Val := Elt Ideal) (e := .f32) G [] [_, _, _, _] ⟨?_, ?_, ?_, ?_, trivial⟩ y ?_
  · intro x; idx_vars x; unfold_payloads; refine Eq.trans ?_ (congrArg G (Cert.Ffn.emb_rows 768 _ x0 x1 ⟨768 + x0.val, by omega⟩ rfl)).symm; pointwise; rfl
  · intro x; idx_vars x; unfold_payloads; refine Eq.trans ?_ (congrArg G (Cert.Ffn.emb_rows 512 _ x0 x1 ⟨512 + x0.val, by omega⟩ rfl)).symm; pointwise; rfl
  · intro x; idx_vars x; unfold_payloads; refine Eq.trans ?_ (congrArg G (Cert.Ffn.emb_rows 256 _ x0 x1 ⟨256 + x0.val, by omega⟩ rfl)).symm; pointwise; rfl
  · intro x; idx_vars x; unfold_payloads; refine Eq.trans ?_ (congrArg G (Cert.Ffn.emb_rows 0 _ x0 x1 ⟨x0.val, by omega⟩ (Nat.zero_add _).symm)).symm; pointwise; rfl
  · exact View.cover_of_tiledL _ ![256, 1024] (by sl_kernel_rfl) y

end Cert.HnUpIdeal.Val

end
-- ==== Proof.HnUpEntry.lean ====
/- The arrays the input gradient of the up product reads, where its tiles lie in them, and the host code around it. -/
module

public import proofs.«01_k».proof.Proof.Gen.HnUpIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HnUpIdeal.Val

open Idealize.ShloMosaic Idealize.ShloMosaic.TcCoe Idealize.SL Cert.HnUpIdeal.Gen

/-- The gradient of the product's result, each shard's 1376 columns padded to 1408. -/
def h_v3 (a : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The weights, transposed, each shard's 1376 rows padded to 1408. -/
def h_v8 (b : (⟨S4096x11008, .f32⟩ : BufTy).Contents (Elt Ideal)) : (⟨S11264x4096, .bf16⟩ : BufTy).Contents (Elt Ideal) :=
  truncf (F := Ideal) .bf16 (shapeCast _ (pad S8x1408x4096 ![0, 0, 0] ![0, 32, 0] ![0, 0, 0] (shapeCast _ (transpose S11008x4096 [1, 0] b transposes_S4096x11008_S11008x4096_1_0 : (⟨S11008x4096, .f32⟩ : BufTy).Contents (Elt Ideal)) shapeCasts_S11008x4096_S8x1376x4096 : (⟨S8x1376x4096, .f32⟩ : BufTy).Contents (Elt Ideal))
    (sitofp (F := Ideal) .f32 (constantI S_ 32 0#32) : (⟨S_, .f32⟩ : BufTy).Contents (Elt Ideal)) pads_S8x1376x4096_S8x1408x4096_000_0320_000 h_S_) shapeCasts_S8x1408x4096_S11264x4096 : (⟨S11264x4096, .f32⟩ : BufTy).Contents (Elt Ideal)) bitsLt_bf16_f32

theorem h_v3_at (a : (⟨S4096x11008, .f32⟩ : BufTy).Contents (Elt Ideal)) (x : Fin 4096) (s : Fin 8) (r : Fin 1376) :
    h_v3 a (ix2 x ⟨s.val * 1408 + r.val, by omega⟩) = a (ix2 x ⟨s.val * 1376 + r.val, by omega⟩) := by
  pointwise [h_v3]
  have e : (s.val * 1408 + r.val) % 1408 = r.val := by omega
  simp only [e]
  exact dif_pos r.isLt

/-- The padding columns are zero. -/
theorem h_v3_pad (a : (⟨S4096x11008, .f32⟩ : BufTy).Contents (Elt Ideal)) (x : Fin 4096) (s : Fin 8) (r : Fin 32) :
    h_v3 a (ix2 x ⟨s.val * 1408 + (1376 + r.val), by omega⟩) = 0 := by
  pointwise [h_v3]
  have e : (s.val * 1408 + (1376 + r.val)) % 1408 = 1376 + r.val := by omega
  simp only [e]
  refine (dif_neg (by omega)).trans ?_
  show ((((0#32 : BitVec 32).toInt : ℤ) : ℝ) : EReal) = 0
  simp

theorem h_v8_at (b : (⟨S4096x11008, .f32⟩ : BufTy).Contents (Elt Ideal)) (s : Fin 8) (r : Fin 1376) (x : Fin 4096) :
    h_v8 b (ix2 ⟨s.val * 1408 + r.val, by omega⟩ x) = b (ix2 x ⟨s.val * 1376 + r.val, by omega⟩) := by
  pointwise [h_v8]
  have e : (s.val * 1408 + r.val) % 1408 = r.val := by omega
  simp only [e]
  exact dif_pos r.isLt

variable (m : (ℓ : Loc nD τ sig) → Buf (Elt Ideal) ℓ) (c : Dev nD)

set_option maxHeartbeats 4000000

theorem V_v3 : V m c main_v3 = h_v3 (m ((c : Thread nD τ).loc main_arg2)) := by
  simp only [V, hostOps0, hostOps0_1, hostOps0_2, hostOps0_3, hostOps0_4, List.flatten_cons, List.flatten_nil, List.append_nil, List.cons_append, List.nil_append]
  after_results <;> rfl

theorem V_v8 : V m c main_v8 = h_v8 (m ((c : Thread nD τ).loc main_arg1)) := by
  simp only [V, hostOps0, hostOps0_1, hostOps0_2, hostOps0_3, hostOps0_4, List.flatten_cons, List.flatten_nil, List.append_nil, List.cons_append, List.nil_append]
  after_results <;> rfl

theorem idx0 : ∀ t : Fin cfg0.N, win0_0.index t = ![t.val / 16, t.val % 4] := by decide +kernel
theorem idx1 : ∀ t : Fin cfg0.N, win0_1.index t = ![t.val % 4, t.val / 4 % 4] := by decide +kernel
theorem idx2 : ∀ t : Fin cfg0.N, win0_2.index t = ![t.val / 16, t.val / 4 % 4] := by decide +kernel
theorem idx3 : ∀ t : Fin cfg0.N, win0_3.index t = ![t.val / 16, t.val / 4 % 4] := by decide +kernel
theorem flush3 : ∀ t : Fin cfg0.N, (cfg0.win 3).flush t = true → t.val % 4 = 3 := by decide +kernel

theorem rd0 (A : Buf (Elt Ideal) ((c : Thread nD τ).loc main_v3)) (t : Fin cfg0.N) (i j k : Fin 4) (ht : t.val = 16 * i.val + 4 * j.val + k.val) (x : Fin 1024) (y : Fin 2816) :
    ((cfg0.win 0).blk t).view.read (Elt Ideal) A (ix2 x y) = A (ix2 ⟨i.val * 1024 + x.val, by omega⟩ ⟨k.val * 2816 + y.val, by omega⟩) := by
  blk_ext [idx0 t]

theorem rd1 (A : Buf (Elt Ideal) ((c : Thread nD τ).loc main_v8)) (t : Fin cfg0.N) (i j k : Fin 4) (ht : t.val = 16 * i.val + 4 * j.val + k.val) (x : Fin 2816) (y : Fin 1024) :
    ((cfg0.win 1).blk t).view.read (Elt Ideal) A (ix2 x y) = A (ix2 ⟨k.val * 2816 + x.val, by omega⟩ ⟨j.val * 1024 + y.val, by omega⟩) := by
  blk_ext [idx1 t]

theorem rd2 (A : Buf (Elt Ideal) ((c : Thread nD τ).loc main_arg3)) (t : Fin cfg0.N) (i j k : Fin 4) (ht : t.val = 16 * i.val + 4 * j.val + k.val) (x y : Fin 1024) :
    ((cfg0.win 2).blk t).view.read (Elt Ideal) A (ix2 x y) = A (ix2 ⟨i.val * 1024 + x.val, by omega⟩ ⟨j.val * 1024 + y.val, by omega⟩) := by
  blk_ext [idx2 t]

theorem emb3 (t : Fin cfg0.N) (i j k : Fin 4) (ht : t.val = 16 * i.val + 4 * j.val + k.val) (x y : Fin 1024) :
    (((cfg0.win 3).blk t).view.emb (ix2 x y) : S4096x4096.Idx) = ix2 ⟨i.val * 1024 + x.val, by omega⟩ ⟨j.val * 1024 + y.val, by omega⟩ := by
  blk_ext [idx3 t]

end Cert.HnUpIdeal.Val

end
-- ==== Proof.HnUpEnds.lean ====
/- The input gradient of the up product as a whole: what its array holds, and what the two programs return. -/
module

public import proofs.«01_k».proof.Defs
public import proofs.«01_k».proof.Proof.FfnSum
public import proofs.«01_k».proof.Proof.HnUpPoints
public import proofs.«01_k».proof.Proof.HnUpEntry
public import proofs.«01_k».proof.Proof.Gen.HnUpIdeal.Value
public import proofs.«01_k».proof.Proof.Gen.HnUpRefIdeal.Run
public import proofs.«01_k».proof.Proof.Gen.HnUpRefIdeal.Read
public import Idealize.ShloMosaic.Lib.Claim

@[expose] public section

set_option maxRecDepth 16384

noncomputable section

namespace Cert.HnUpIdeal.Val

open Idealize.ShloMosaic Idealize.ShloMosaic.TcCoe Idealize.SL Idealize.SL.Sem Cert.HnUpIdeal.Gen

variable (m : (ℓ : Loc nD τ sig) → Buf (Elt Ideal) ℓ) (c : Dev nD)

/-- Row `y 0`, column `y 1` of the product. -/
def gW (a : (⟨S4096x11008, .f32⟩ : BufTy).Contents (Elt Ideal)) (b : (⟨S4096x11008, .f32⟩ : BufTy).Contents (Elt Ideal)) : (⟨S4096x4096, .f32⟩ : BufTy).Contents (Elt Ideal) :=
  fun y => ∑ k : Fin 11264, h_v3 a (ix2 (y 0) k) * h_v8 b (ix2 k (y 1))

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 1024) (y : Fin 1024) :
    stepDot (iblk m c 0 t) (iblk m c 1 t) x y
      = ∑ r : Fin 2816, h_v3 (m ((c : Thread nD τ).loc main_arg2)) (ix2 ⟨i.val * 1024 + x.val, by omega⟩ ⟨k.val * 2816 + r.val, by omega⟩) * h_v8 (m ((c : Thread nD τ).loc main_arg1)) (ix2 ⟨k.val * 2816 + r.val, by omega⟩ ⟨j.val * 1024 + y.val, by omega⟩) := by
  unfold stepDot
  refine Finset.sum_congr rfl fun r _ => congrArg₂ (· * ·) ?_ ?_
  · exact (rd0 c (V m c main_v3) t i j k ht x r).trans (congrFun (V_v3 m c) _)
  · exact (rd1 c (V m c main_v8) t i j k ht r y).trans (congrFun (V_v8 m c) _)

/-- The array the product leaves. -/
def gOut (a b : (⟨S4096x11008, .f32⟩ : BufTy).Contents (Elt Ideal)) (e : (⟨S4096x4096, .f32⟩ : BufTy).Contents (Elt Ideal)) : (⟨S4096x4096, .f32⟩ : BufTy).Contents (Elt Ideal) :=
  fun y => gW a b y + e y

/-- The four steps of a tile, and the other gradient. -/
theorem last_four (i j : Fin 4) (t : Fin cfg0.N) (ht : t.val = 16 * i.val + 4 * j.val + 3) (x y : Fin 1024) :
    lastAt (outsAt0 m c (t.val - 1) (Nat.lt_of_le_of_lt (Nat.sub_le _ _) t.isLt)).2 (iblk m c 0 t) (iblk m c 1 t) (iblk m c 2 t) x y
      = gOut (m ((c : Thread nD τ).loc main_arg2)) (m ((c : Thread nD τ).loc main_arg1)) (m ((c : Thread nD τ).loc main_arg3)) (ix2 ⟨i.val * 1024 + x.val, by omega⟩ ⟨j.val * 1024 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show 1 ≤ (t.val - 1 - 1) % 4 ∧ (t.val - 1 - 1) % 4 ≤ 2; omega)
  have h2 := acc_next m c ⟨t.val - 1, by have := t.isLt; omega⟩ (by show 1 ≤ (t.val - 1) % 4 ∧ (t.val - 1) % 4 ≤ 2; omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := congrArg₂ (· + ·) e2 (step_at m c t i j 3 (by show t.val = 16 * i.val + 4 * j.val + 3; omega) x y)
  refine congrArg₂ (· + ·) (e3.trans (Cert.Ffn.sum_four (n := 2816) rfl fun k => h_v3 (m ((c : Thread nD τ).loc main_arg2)) (ix2 ⟨i.val * 1024 + x.val, by omega⟩ k) * h_v8 (m ((c : Thread nD τ).loc main_arg1)) (ix2 k ⟨j.val * 1024 + y.val, by omega⟩))) ?_
  exact (rd2 c (V m c main_arg3) t i j 3 ht x y).trans (congrFun (V_main_arg3 m c) _)

/-- The array the product leaves. -/
theorem arr3 : (dats m 0 c).arrAt 3 cfg0.N = gOut (m ((c : Thread nD τ).loc main_arg2)) (m ((c : Thread nD τ).loc main_arg1)) (m ((c : Thread nD τ).loc main_arg3)) :=
  (dats m 0 c).arrAt_eq_of_covers 3 _ (by decide +kernel) fun t hf y => by
    have h3 := flush3 t hf
    blk_simp
    rw [after0_3]
    have hN := pt t
    obtain ⟨a, b, rfl⟩ : ∃ (a b : Fin 1024), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    refine (out_last m c t h3 (ix2 a b)).trans ((last_four m c _ _ t ht a b).trans ?_)
    exact (congrArg (gOut (m ((c : Thread nD τ).loc main_arg2)) (m ((c : Thread nD τ).loc main_arg1)) (m ((c : Thread nD τ).loc main_arg3))) (emb3 t _ _ 3 ht a b)).symm

/-- The kernel's result is the reference's: the padding adds zeros. -/
theorem same (a b : (⟨S4096x11008, .f32⟩ : BufTy).Contents (Elt Ideal)) (e : (⟨S4096x4096, .f32⟩ : BufTy).Contents (Elt Ideal)) :
    gOut a b e = Cert.HnUpRefIdeal.Read.val_main_v2 (F := Ideal) b a e := by
  funext y
  rw [Cert.HnUpRefIdeal.Read.val_main_v2_apply]
  refine congrArg (· + e y) ?_
  obtain ⟨x, z, rfl⟩ : ∃ (x z : Fin 4096), y = ix2 x z := ⟨y 0, y 1, by funext d; fin_cases d <;> rfl⟩
  rw [Cert.HnUpRefIdeal.Read.val_main_v1_apply]
  refine Cert.Ffn.sum_pad (fun k => h_v3 a (ix2 x k) * h_v8 b (ix2 k z)) _ (fun s r => ?_) fun s r => ?_
  · refine congrArg₂ (· * ·) ((h_v3_at a x s r).trans (congrArg a ?_)) ((h_v8_at b s r z).trans (congrArg b ?_))
    · funext d; fin_cases d <;> rfl
    · funext d; fin_cases d <;> rfl
  · exact (congrArg (· * h_v8 b _) (h_v3_pad a x s r)).trans (zero_mul _)

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v9)
          = Cert.HnUpRefIdeal.Read.val_main_v2 (F := Ideal) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((Cert.HnUpIdeal.Value.final3 m c).symm.trans ((arr3 m c).trans (same _ _ _))), (h c).2⟩) (Cert.HnUpIdeal.Value.run m ρ)

end Cert.HnUpIdeal.Val

namespace Cert.HnUpRefIdeal.Val

open Idealize.ShloMosaic Idealize.ShloMosaic.TcCoe Idealize.SL Idealize.SL.Sem Cert.HnUpRefIdeal.Gen Cert.HnUpRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.HnUpRefIdeal.Value.run m ρ)

end Cert.HnUpRefIdeal.Val

namespace Cert.Proof

open Idealize.ShloMosaic Idealize.SL Idealize.SL.Sem

/-- The kernel's product is the reference's, from any arguments. -/
theorem hnup_algebraic : Cert.algebraic_HnUpIdeal_HnUpRefIdeal := by
  intro m g m' g' _ hagree
  refine ⟨fun c => Cert.HnUpRefIdeal.Read.val_main_v2 (F := Ideal) (m ((c.tc : Thread Cert.HnUpIdeal.nD Cert.HnUpIdeal.τ).loc Cert.HnUpIdeal.main_arg1)) (m ((c.tc : Thread Cert.HnUpIdeal.nD Cert.HnUpIdeal.τ).loc Cert.HnUpIdeal.main_arg2)) (m ((c.tc : Thread Cert.HnUpIdeal.nD Cert.HnUpIdeal.τ).loc Cert.HnUpIdeal.main_arg3)),
    Cert.HnUpIdeal.Val.ends m g, ?_⟩
  refine (θ_run _ _ _).mono (fun r h c => ⟨(h c).1.trans ((Cert.HnUpRefIdeal.Read.val_main_v2_eq _ _ _).trans ?_), (h c).2⟩) (Cert.HnUpRefIdeal.Value.run m' g')
  exact (congrArg (fun a => Cert.HnUpRefIdeal.Read.val_main_v2 (F := Ideal) a _ _) (hagree c).2.1).trans
    (congrArg₂ (fun a b => Cert.HnUpRefIdeal.Read.val_main_v2 (F := Ideal) _ a b) (hagree c).2.2.1 (hagree c).2.2.2)

end Cert.Proof

end
-- ==== Proof.FGatePoints.lean ====
/- The gate product, one grid point at a time.

   The grid is (row tile i, column tile j, step k), four of each: point `t = 16 i + 4 j + k` adds the product over 1024
   columns to the tile's accumulator, the first step starting it and the last one writing it out. -/
module

public import proofs.«01_k».proof.Proof.Gen.FGateIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FGateIdeal.Val

open Idealize.ShloMosaic Idealize.ShloMosaic.TcCoe Idealize.SL Cert.FGateIdeal.Gen

/-- The product of one step: the sum over its 1024 columns. -/
def stepDot (a : Vec Ideal S1024x1024 .bf16) (b : Vec Ideal S2816x1024 .bf16) (x : Fin 1024) (y : Fin 2816) : EReal :=
  ∑ k : Fin 1024, a (ix2 x k) * b (ix2 y k)

theorem pay1_at (a : Vec Ideal S1024x1024 .bf16) (b : Vec Ideal S2816x1024 .bf16) (x : Fin 1024) (y : Fin 2816) :
    k0_pay1 (F := Ideal) a b (ix2 x y) = stepDot a b x y := by
  unfold stepDot
  pointwise [k0_pay1]

theorem pay2_at (s : Vec Ideal S1024x2816 .f32) (a : Vec Ideal S1024x1024 .bf16) (b : Vec Ideal S2816x1024 .bf16) (x : Fin 1024) (y : Fin 2816) :
    k0_pay2 (F := Ideal) s a b (ix2 x y) = s (ix2 x y) + stepDot a b x y := by
  unfold stepDot
  pointwise [k0_pay2]

theorem pay3_at (s : Vec Ideal S1024x2816 .f32) (x : Fin 1024) (y : Fin 2816) :
    k0_pay3 (F := Ideal) s (ix2 x y) = s (ix2 x y) := by
  pointwise [k0_pay3]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A later step adds to what the step before left. -/
theorem acc_next (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]
    frame_open
    frame_out
    try simp only [read_unread_whole]
  · rw [outsAt0_B m c t h (by omega) h3]
    frame_open
    frame_out
    try simp only [read_unread_whole]

/-- The last step writes the accumulator out. -/
theorem out_last (t : Fin cfg0.N) (h : t.val % 4 = 3) :
    (outsAt0 m c t.val t.isLt).1 = k0_pay3 (outsAt0 m c t.val t.isLt).2 := by
  rw [outsAt0_C m c t (by omega) (by omega) h]
  frame_open
  simp (disch := decide) only [↓ View.readCov_skip, ↓ View.readCov_cons_toLoadRect, ↓ View.readCov_fill]
  frame_out
  try simp only [read_unread_whole]

end Cert.FGateIdeal.Val

end
-- ==== Proof.FGateEntry.lean ====
/- The arrays the gate product reads, where its tiles lie in them, and the host code around it. -/
module

public import proofs.«01_k».proof.Proof.Gen.FGateIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FGateIdeal.Val

open Idealize.ShloMosaic Idealize.ShloMosaic.TcCoe Idealize.SL Cert.FGateIdeal.Gen

/-- The product's input. -/
def h_v0 (a0 : (⟨S4096x4096, .f32⟩ : BufTy).Contents (Elt Ideal)) : (⟨S4096x4096, .bf16⟩ : BufTy).Contents (Elt Ideal) :=
  truncf (F := Ideal) .bf16 a0 bitsLt_bf16_f32

/-- The weights, transposed, each shard's 1376 rows padded to 1408. -/
def h_v5 (a1 : (⟨S4096x11008, .f32⟩ : BufTy).Contents (Elt Ideal)) : (⟨S11264x4096, .bf16⟩ : BufTy).Contents (Elt Ideal) :=
  truncf (F := Ideal) .bf16 (shapeCast _ (pad S8x1408x4096 ![0, 0, 0] ![0, 32, 0] ![0, 0, 0] (shapeCast _ (transpose S11008x4096 [1, 0] a1 transposes_S4096x11008_S11008x4096_1_0 : (⟨S11008x4096, .f32⟩ : BufTy).Contents (Elt Ideal)) shapeCasts_S11008x4096_S8x1376x4096 : (⟨S8x1376x4096, .f32⟩ : BufTy).Contents (Elt Ideal))
    (sitofp (F := Ideal) .f32 (constantI S_ 32 0#32) : (⟨S_, .f32⟩ : BufTy).Contents (Elt Ideal)) pads_S8x1376x4096_S8x1408x4096_000_0320_000 h_S_) shapeCasts_S8x1408x4096_S11264x4096 : (⟨S11264x4096, .f32⟩ : BufTy).Contents (Elt Ideal)) bitsLt_bf16_f32

/-- The host code after the product: the padding columns dropped. -/
def t_v10 (y : (⟨S4096x11264, .bf16⟩ : BufTy).Contents (Elt Ideal)) : (⟨S4096x11008, .f32⟩ : BufTy).Contents (Elt Ideal) :=
  shapeCast _ (extractStridedSlice S4096x8x1376 ![0, 0, 0] (shapeCast _ (extf (F := Ideal) .f32 y bitsLt_bf16_f32) shapeCasts_S4096x11264_S4096x8x1408 : (⟨S4096x8x1408, .f32⟩ : BufTy).Contents (Elt Ideal)) slices_S4096x8x1408_S4096x8x1376_0_0_0) shapeCasts_S4096x8x1376_S4096x11008

theorem h_v0_at (a0 : (⟨S4096x4096, .f32⟩ : BufTy).Contents (Elt Ideal)) (x y : Fin 4096) : h_v0 a0 (ix2 x y) = a0 (ix2 x y) := by
  pointwise [h_v0]

theorem h_v5_at (a1 : (⟨S4096x11008, .f32⟩ : BufTy).Contents (Elt Ideal)) (s : Fin 8) (r : Fin 1376) (x : Fin 4096) :
    h_v5 a1 (ix2 ⟨s.val * 1408 + r.val, by omega⟩ x) = a1 (ix2 x ⟨s.val * 1376 + r.val, by omega⟩) := by
  pointwise [h_v5]
  have e : (s.val * 1408 + r.val) % 1408 = r.val := by omega
  simp only [e]
  exact dif_pos r.isLt

theorem t_v10_at (y : (⟨S4096x11264, .bf16⟩ : BufTy).Contents (Elt Ideal)) (x : Fin 4096) (s : Fin 8) (r : Fin 1376) :
    t_v10 y (ix2 x ⟨s.val * 1376 + r.val, by omega⟩) = y (ix2 x ⟨s.val * 1408 + r.val, by omega⟩) := by
  pointwise [t_v10]

variable (m : (ℓ : Loc nD τ sig) → Buf (Elt Ideal) ℓ) (c : Dev nD)

set_option maxHeartbeats 4000000

theorem V_v0 : V m c main_v0 = h_v0 (m ((c : Thread nD τ).loc main_arg0)) := by
  simp only [V, V0, hostOps0, hostOps0_1, hostOps0_2, List.flatten_cons, List.flatten_nil, List.append_nil, List.cons_append, List.nil_append]
  after_results <;> rfl

theorem V_v5 : V m c main_v5 = h_v5 (m ((c : Thread nD τ).loc main_arg1)) := by
  simp only [V, V0, hostOps0, hostOps0_1, hostOps0_2, List.flatten_cons, List.flatten_nil, List.append_nil, List.cons_append, List.nil_append]
  after_results <;> rfl

theorem idx0 : ∀ t : Fin cfg0.N, win0_0.index t = ![t.val / 16, t.val % 4] := by decide +kernel
theorem idx1 : ∀ t : Fin cfg0.N, win0_1.index t = ![t.val / 4 % 4, t.val % 4] := by decide +kernel
theorem idx2 : ∀ t : Fin cfg0.N, win0_2.index t = ![t.val / 16, t.val / 4 % 4] := by decide +kernel
theorem flush2 : ∀ t : Fin cfg0.N, (cfg0.win 2).flush t = true → t.val % 4 = 3 := by decide +kernel

theorem rd0 (A : Buf (Elt Ideal) ((c : Thread nD τ).loc main_v0)) (t : Fin cfg0.N) (i j k : Fin 4) (ht : t.val = 16 * i.val + 4 * j.val + k.val) (x y : Fin 1024) :
    ((cfg0.win 0).blk t).view.read (Elt Ideal) A (ix2 x y) = A (ix2 ⟨i.val * 1024 + x.val, by omega⟩ ⟨k.val * 1024 + y.val, by omega⟩) := by
  blk_ext [idx0 t]

theorem rd1 (A : Buf (Elt Ideal) ((c : Thread nD τ).loc main_v5)) (t : Fin cfg0.N) (i j k : Fin 4) (ht : t.val = 16 * i.val + 4 * j.val + k.val) (x : Fin 2816) (y : Fin 1024) :
    ((cfg0.win 1).blk t).view.read (Elt Ideal) A (ix2 x y) = A (ix2 ⟨j.val * 2816 + x.val, by omega⟩ ⟨k.val * 1024 + y.val, by omega⟩) := by
  blk_ext [idx1 t]

theorem emb2 (t : Fin cfg0.N) (i j k : Fin 4) (ht : t.val = 16 * i.val + 4 * j.val + k.val) (x : Fin 1024) (y : Fin 2816) :
    (((cfg0.win 2).blk t).view.emb (ix2 x y) : S4096x11264.Idx) = ix2 ⟨i.val * 1024 + x.val, by omega⟩ ⟨j.val * 2816 + y.val, by omega⟩ := by
  blk_ext [idx2 t]

end Cert.FGateIdeal.Val

end
-- ==== Proof.FGateEnds.lean ====
/- The gate product as a whole: what its array holds, and what the two programs return. -/
module

public import proofs.«01_k».proof.Defs
public import proofs.«01_k».proof.Proof.FfnSum
public import proofs.«01_k».proof.Proof.FGatePoints
public import proofs.«01_k».proof.Proof.FGateEntry
public import proofs.«01_k».proof.Proof.Gen.FGateIdeal.Run
public import proofs.«01_k».proof.Proof.Gen.FGateRefIdeal.Run
public import proofs.«01_k».proof.Proof.Gen.FGateRefIdeal.Read
public import Idealize.ShloMosaic.Lib.Claim

@[expose] public section

set_option maxRecDepth 16384

noncomputable section

namespace Cert.FGateIdeal.Val

open Idealize.ShloMosaic Idealize.ShloMosaic.TcCoe Idealize.SL Idealize.SL.Sem Cert.FGateIdeal.Gen

variable (m : (ℓ : Loc nD τ sig) → Buf (Elt Ideal) ℓ) (c : Dev nD)

/-- Row `y 0`, column `y 1` of the product. -/
def gW (a : (⟨S4096x4096, .f32⟩ : BufTy).Contents (Elt Ideal)) (b : (⟨S4096x11008, .f32⟩ : BufTy).Contents (Elt Ideal)) : (⟨S4096x11264, .bf16⟩ : BufTy).Contents (Elt Ideal) :=
  fun y => ∑ k : Fin 4096, h_v0 a (ix2 (y 0) k) * h_v5 b (ix2 (y 1) k)

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 1024) (y : Fin 2816) :
    stepDot (iblk m c 0 t) (iblk m c 1 t) x y
      = ∑ r : Fin 1024, h_v0 (m ((c : Thread nD τ).loc main_arg0)) (ix2 ⟨i.val * 1024 + x.val, by omega⟩ ⟨k.val * 1024 + r.val, by omega⟩) * h_v5 (m ((c : Thread nD τ).loc main_arg1)) (ix2 ⟨j.val * 2816 + y.val, by omega⟩ ⟨k.val * 1024 + r.val, by omega⟩) := by
  unfold stepDot
  refine Finset.sum_congr rfl fun r _ => congrArg₂ (· * ·) ?_ ?_
  · exact (rd0 c (V m c main_v0) t i j k ht x r).trans (congrFun (V_v0 m c) _)
  · exact (rd1 c (V m c main_v5) t i j k ht y r).trans (congrFun (V_v5 m c) _)

/-- The four steps of a tile. -/
theorem acc_four (i j : Fin 4) (t : Fin cfg0.N) (ht : t.val = 16 * i.val + 4 * j.val + 3) (x : Fin 1024) (y : Fin 2816) :
    (outsAt0 m c t.val t.isLt).2 (ix2 x y)
      = gW (m ((c : Thread nD τ).loc main_arg0)) (m ((c : Thread nD τ).loc main_arg1)) (ix2 ⟨i.val * 1024 + x.val, by omega⟩ ⟨j.val * 2816 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show ¬(t.val - 1 - 1) % 4 = 0; omega)
  have h2 := acc_next m c ⟨t.val - 1, by have := t.isLt; omega⟩ (by show ¬(t.val - 1) % 4 = 0; omega)
  have h3 := acc_next m c t (by omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := (congrFun h3 (ix2 x y)).trans ((pay2_at _ _ _ x y).trans (congrArg₂ (· + ·) e2 (step_at m c _ i j 3 (by show t.val = 16 * i.val + 4 * j.val + 3; omega) x y)))
  exact e3.trans (Cert.Ffn.sum_four (n := 1024) rfl fun k => h_v0 (m ((c : Thread nD τ).loc main_arg0)) (ix2 ⟨i.val * 1024 + x.val, by omega⟩ k) * h_v5 (m ((c : Thread nD τ).loc main_arg1)) (ix2 ⟨j.val * 2816 + y.val, by omega⟩ k))

/-- The array the product leaves. -/
theorem arr2 : (dats m 0 c).arrAt 2 cfg0.N = gW (m ((c : Thread nD τ).loc main_arg0)) (m ((c : Thread nD τ).loc main_arg1)) :=
  (dats m 0 c).arrAt_eq_of_covers 2 _ (by decide +kernel) fun t hf y => by
    have h3 := flush2 t hf
    blk_simp
    rw [after0_2]
    have hN := pt t
    obtain ⟨a, b, rfl⟩ : ∃ (a : Fin 1024) (b : Fin 2816), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    rw [out_last m c t h3, pay3_at, acc_four m c _ _ t ht a b]
    exact (congrArg (gW (m ((c : Thread nD τ).loc main_arg0)) (m ((c : Thread nD τ).loc main_arg1))) (emb2 t _ _ 3 ht a b)).symm

/-- The kernel's result is the reference's. -/
theorem same (a : (⟨S4096x4096, .f32⟩ : BufTy).Contents (Elt Ideal)) (b : (⟨S4096x11008, .f32⟩ : BufTy).Contents (Elt Ideal)) :
    t_v10 (gW a b) = Cert.FGateRefIdeal.Read.val_main_v0 (F := Ideal) a b := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v10_at, Cert.FGateRefIdeal.Read.val_main_v0_apply]
  refine Finset.sum_congr rfl fun k _ => ?_
  refine congrArg₂ (· * ·) ((h_v0_at a x k).trans (congrArg a ?_)) ((h_v5_at b s r k).trans (congrArg b ?_))
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v10)
          = Cert.FGateRefIdeal.Read.val_main_v0 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((congrArg t_v10 (arr2 m c)).trans (same _ _)), (h c).2⟩) (Cert.FGateIdeal.Value.run m ρ)

end Cert.FGateIdeal.Val

namespace Cert.FGateRefIdeal.Val

open Idealize.ShloMosaic Idealize.ShloMosaic.TcCoe Idealize.SL Idealize.SL.Sem Cert.FGateRefIdeal.Gen Cert.FGateRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.FGateRefIdeal.Value.run m ρ)

end Cert.FGateRefIdeal.Val

namespace Cert.Proof

open Idealize.ShloMosaic Idealize.SL Idealize.SL.Sem

/-- The kernel's product is the reference's, from any arguments. -/
theorem fgate_algebraic : Cert.algebraic_FGateIdeal_FGateRefIdeal := by
  intro m g m' g' _ hagree
  refine ⟨fun c => Cert.FGateRefIdeal.Read.val_main_v0 (F := Ideal) (m ((c.tc : Thread Cert.FGateIdeal.nD Cert.FGateIdeal.τ).loc Cert.FGateIdeal.main_arg0)) (m ((c.tc : Thread Cert.FGateIdeal.nD Cert.FGateIdeal.τ).loc Cert.FGateIdeal.main_arg1)),
    Cert.FGateIdeal.Val.ends m g, ?_⟩
  refine (θ_run _ _ _).mono (fun r h c => ⟨(h c).1.trans ((Cert.FGateRefIdeal.Read.val_main_v0_eq _ _).trans ?_), (h c).2⟩) (Cert.FGateRefIdeal.Value.run m' g')
  exact congrArg₂ (fun a b => Cert.FGateRefIdeal.Read.val_main_v0 (F := Ideal) a b) (hagree c).1 (hagree c).2

end Cert.Proof

end
-- ==== Proof.FUpPoints.lean ====
/- The up product and the activation, one grid point at a time.

   The grid is (row tile i, column tile j, step k): point `t = 16 i + 2 j + k` adds the product over 2048 columns, the
   first step to the tile's accumulator, the second writing the product and the activation out in four slabs of rows. -/
module

public import proofs.«01_k».proof.Proof.Gen.FUpIdeal.Frame
public import proofs.«01_k».proof.Proof.FfnTile
public import proofs.«01_k».proof.Proof.FfnGate
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FUpIdeal.Val

open Idealize.ShloMosaic Idealize.ShloMosaic.TcCoe Idealize.SL Cert.FUpIdeal.Gen

/-- The product of one step: the sum over its 2048 columns. -/
def stepDot (a : Vec Ideal S1024x2048 .bf16) (b : Vec Ideal S1408x2048 .bf16) (x : Fin 1024) (y : Fin 1408) : EReal :=
  ∑ k : Fin 2048, a (ix2 x k) * b (ix2 y k)

theorem pay1_at (a : Vec Ideal S1024x2048 .bf16) (b : Vec Ideal S1408x2048 .bf16) (x : Fin 1024) (y : Fin 1408) :
    k0_pay1 (F := Ideal) a b (ix2 x y) = stepDot a b x y := by
  unfold stepDot
  pointwise [k0_pay1]

/-- The product's two steps. -/
def lastP (s : Vec Ideal S1024x1408 .f32) (a : Vec Ideal S1024x2048 .bf16) (b : Vec Ideal S1408x2048 .bf16) (x : Fin 1024) (y : Fin 1408) : EReal :=
  s (ix2 x y) + stepDot a b x y

/-- The activation: the gate times its logistic function, times the product. -/
def lastA (s : Vec Ideal S1024x1408 .f32) (a : Vec Ideal S1024x2048 .bf16) (b : Vec Ideal S1408x2048 .bf16) (g : Vec Ideal S1024x1408 .bf16) (x : Fin 1024) (y : Fin 1408) : EReal :=
  g (ix2 x y) * Cert.Ffn.sg (g (ix2 x y)) * lastP s a b x y

variable (m : (ℓ : Loc nD τ sig) → Buf (Elt Ideal) ℓ) (c : Dev nD)

set_option maxHeartbeats 4000000

/-- The first step starts the accumulator. -/
theorem acc_first (t : Fin cfg0.N) (h : t.val % 2 = 0) :
    (outsAt0 m c t.val t.isLt).2.2 = k0_pay1 (iblk m c 0 t) (iblk m c 1 t) := by
  rw [outsAt0_A m c t h (by omega)]
  frame_open
  frame_out
  try simp only [read_unread_whole]

/-- The second step writes the product out. -/
theorem out_up (t : Fin cfg0.N) (h : t.val % 2 = 1) (y : (⟨2, ![1024, 1408]⟩ : Shape).Idx) :
    (outsAt0 m c t.val t.isLt).1 y
      = lastP (outsAt0 m c (t.val - 1) (Nat.lt_of_le_of_lt (Nat.sub_le _ _) t.isLt)).2.2 (iblk m c 0 t) (iblk m c 1 t) (y 0) (y 1) := by
  let G : (⟨2, ![1024, 1408]⟩ : Shape).Idx → EReal := fun y =>
    lastP (outsAt0 m c (t.val - 1) (Nat.lt_of_le_of_lt (Nat.sub_le _ _) t.isLt)).2.2 (iblk m c 0 t) (iblk m c 1 t) (y 0) (y 1)
  rw [outsAt0_B m c t (by omega) h]
  frame_open
  simp (disch := decide) only [↓ View.readCov_skip, ↓ View.readCov_cons_toLoadRect, ↓ View.readCov_fill]
  frame_out
  try simp only [read_unread_whole]
  refine View.canon_append_of_piecesOf (Val := Elt Ideal) (e := .bf16) G [] [_, _, _, _] ⟨?_, ?_, ?_, ?_, trivial⟩ y ?_
  · intro x; idx_vars x; unfold_payloads; refine Eq.trans ?_ (congrArg G (Cert.Ffn.emb_rows 768 _ x0 x1 ⟨768 + x0.val, by omega⟩ rfl)).symm; pointwise; rfl
  · intro x; idx_vars x; unfold_payloads; refine Eq.trans ?_ (congrArg G (Cert.Ffn.emb_rows 512 _ x0 x1 ⟨512 + x0.val, by omega⟩ rfl)).symm; pointwise; rfl
  · intro x; idx_vars x; unfold_payloads; refine Eq.trans ?_ (congrArg G (Cert.Ffn.emb_rows 256 _ x0 x1 ⟨256 + x0.val, by omega⟩ rfl)).symm; pointwise; rfl
  · intro x; idx_vars x; unfold_payloads; refine Eq.trans ?_ (congrArg G (Cert.Ffn.emb_rows 0 _ x0 x1 ⟨x0.val, by omega⟩ (Nat.zero_add _).symm)).symm; pointwise; rfl
  · exact View.cover_of_tiledL _ ![256, 1408] (by sl_kernel_rfl) y

/-- The second step writes the activation out. -/
theorem out_act (t : Fin cfg0.N) (h : t.val % 2 = 1) (y : (⟨2, ![1024, 1408]⟩ : Shape).Idx) :
    (outsAt0 m c t.val t.isLt).2.1 y
      = lastA (outsAt0 m c (t.val - 1) (Nat.lt_of_le_of_lt (Nat.sub_le _ _) t.isLt)).2.2 (iblk m c 0 t) (iblk m c 1 t) (iblk m c 2 t) (y 0) (y 1) := by
  let G : (⟨2, ![1024, 1408]⟩ : Shape).Idx → EReal := fun y =>
    lastA (outsAt0 m c (t.val - 1) (Nat.lt_of_le_of_lt (Nat.sub_le _ _) t.isLt)).2.2 (iblk m c 0 t) (iblk m c 1 t) (iblk m c 2 t) (y 0) (y 1)
  rw [outsAt0_B m c t (by omega) h]
  frame_open
  simp (disch := decide) only [↓ View.readCov_skip, ↓ View.readCov_cons_toLoadRect, ↓ View.readCov_fill]
  frame_out
  try simp only [read_unread_whole]
  refine View.canon_append_of_piecesOf (Val := Elt Ideal) (e := .bf16) G [] [_, _, _, _] ⟨?_, ?_, ?_, ?_, trivial⟩ y ?_
  · intro x; idx_vars x; unfold_payloads; refine Eq.trans ?_ (congrArg G (Cert.Ffn.emb_rows 768 _ x0 x1 ⟨768 + x0.val, by omega⟩ rfl)).symm; pointwise; rfl
  · intro x; idx_vars x; unfold_payloads; refine Eq.trans ?_ (congrArg G (Cert.Ffn.emb_rows 512 _ x0 x1 ⟨512 + x0.val, by omega⟩ rfl)).symm; pointwise; rfl
  · intro x; idx_vars x; unfold_payloads; refine Eq.trans ?_ (congrArg G (Cert.Ffn.emb_rows 256 _ x0 x1 ⟨256 + x0.val, by omega⟩ rfl)).symm; pointwise; rfl
  · intro x; idx_vars x; unfold_payloads; refine Eq.trans ?_ (congrArg G (Cert.Ffn.emb_rows 0 _ x0 x1 ⟨x0.val, by omega⟩ (Nat.zero_add _).symm)).symm; pointwise; rfl
  · exact View.cover_of_tiledL _ ![256, 1408] (by sl_kernel_rfl) y

end Cert.FUpIdeal.Val

end
-- ==== Proof.FUpEntry.lean ====
/- The arrays the up product reads, where its tiles lie in them, and the host code around it. -/
module

public import proofs.«01_k».proof.Proof.Gen.FUpIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FUpIdeal.Val

open Idealize.ShloMosaic Idealize.ShloMosaic.TcCoe Idealize.SL Cert.FUpIdeal.Gen

/-- The product's input. -/
def h_v0 (a0 : (⟨S4096x4096, .f32⟩ : BufTy).Contents (Elt Ideal)) : (⟨S4096x4096, .bf16⟩ : BufTy).Contents (Elt Ideal) :=
  truncf (F := Ideal) .bf16 a0 bitsLt_bf16_f32

/-- The weights, transposed, each shard's 1376 rows padded to 1408. -/
def h_v5 (a1 : (⟨S4096x11008, .f32⟩ : BufTy).Contents (Elt Ideal)) : (⟨S11264x4096, .bf16⟩ : BufTy).Contents (Elt Ideal) :=
  truncf (F := Ideal) .bf16 (shapeCast _ (pad S8x1408x4096 ![0, 0, 0] ![0, 32, 0] ![0, 0, 0] (shapeCast _ (transpose S11008x4096 [1, 0] a1 transposes_S4096x11008_S11008x4096_1_0 : (⟨S11008x4096, .f32⟩ : BufTy).Contents (Elt Ideal)) shapeCasts_S11008x4096_S8x1376x4096 : (⟨S8x1376x4096, .f32⟩ : BufTy).Contents (Elt Ideal))
    (sitofp (F := Ideal) .f32 (constantI S_ 32 0#32) : (⟨S_, .f32⟩ : BufTy).Contents (Elt Ideal)) pads_S8x1376x4096_S8x1408x4096_000_0320_000 h_S_) shapeCasts_S8x1408x4096_S11264x4096 : (⟨S11264x4096, .f32⟩ : BufTy).Contents (Elt Ideal)) bitsLt_bf16_f32

/-- The gate, each shard's 1376 columns padded to 1408. -/
def h_v9 (a : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The host code after the product: the padding columns dropped. -/
def t_v10 (y : (⟨S4096x11264, .bf16⟩ : BufTy).Contents (Elt Ideal)) : (⟨S4096x11008, .f32⟩ : BufTy).Contents (Elt Ideal) :=
  shapeCast _ (extractStridedSlice S4096x8x1376 ![0, 0, 0] (shapeCast _ (extf (F := Ideal) .f32 y bitsLt_bf16_f32) shapeCasts_S4096x11264_S4096x8x1408 : (⟨S4096x8x1408, .f32⟩ : BufTy).Contents (Elt Ideal)) slices_S4096x8x1408_S4096x8x1376_0_0_0) shapeCasts_S4096x8x1376_S4096x11008

theorem h_v0_at (a0 : (⟨S4096x4096, .f32⟩ : BufTy).Contents (Elt Ideal)) (x y : Fin 4096) : h_v0 a0 (ix2 x y) = a0 (ix2 x y) := by
  pointwise [h_v0]

theorem h_v5_at (a1 : (⟨S4096x11008, .f32⟩ : BufTy).Contents (Elt Ideal)) (s : Fin 8) (r : Fin 1376) (x : Fin 4096) :
    h_v5 a1 (ix2 ⟨s.val * 1408 + r.val, by omega⟩ x) = a1 (ix2 x ⟨s.val * 1376 + r.val, by omega⟩) := by
  pointwise [h_v5]
  have e : (s.val * 1408 + r.val) % 1408 = r.val := by omega
  simp only [e]
  exact dif_pos r.isLt

theorem h_v9_at (a : (⟨S4096x11008, .f32⟩ : BufTy).Contents (Elt Ideal)) (x : Fin 4096) (s : Fin 8) (r : Fin 1376) :
    h_v9 a (ix2 x ⟨s.val * 1408 + r.val, by omega⟩) = a (ix2 x ⟨s.val * 1376 + r.val, by omega⟩) := by
  pointwise [h_v9]
  have e : (s.val * 1408 + r.val) % 1408 = r.val := by omega
  simp only [e]
  exact dif_pos r.isLt

theorem t_v10_at (y : (⟨S4096x11264, .bf16⟩ : BufTy).Contents (Elt Ideal)) (x : Fin 4096) (s : Fin 8) (r : Fin 1376) :
    t_v10 y (ix2 x ⟨s.val * 1376 + r.val, by omega⟩) = y (ix2 x ⟨s.val * 1408 + r.val, by omega⟩) := by
  pointwise [t_v10]

variable (m : (ℓ : Loc nD τ sig) → Buf (Elt Ideal) ℓ) (c : Dev nD)

set_option maxHeartbeats 4000000

theorem V_v0 : V m c main_v0 = h_v0 (m ((c : Thread nD τ).loc main_arg0)) := by
  simp only [V, V0, hostOps0, hostOps0_1, hostOps0_2, hostOps0_3, hostOps0_4, List.flatten_cons, List.flatten_nil, List.append_nil, List.cons_append, List.nil_append]
  after_results <;> rfl

theorem V_v5 : V m c main_v5 = h_v5 (m ((c : Thread nD τ).loc main_arg1)) := by
  simp only [V, V0, hostOps0, hostOps0_1, hostOps0_2, hostOps0_3, hostOps0_4, List.flatten_cons, List.flatten_nil, List.append_nil, List.cons_append, List.nil_append]
  after_results <;> rfl

theorem V_v9 : V m c main_v9 = h_v9 (m ((c : Thread nD τ).loc main_arg2)) := by
  simp only [V, V0, hostOps0, hostOps0_1, hostOps0_2, hostOps0_3, hostOps0_4, List.flatten_cons, List.flatten_nil, List.append_nil, List.cons_append, List.nil_append]
  after_results <;> rfl

theorem idx0 : ∀ t : Fin cfg0.N, win0_0.index t = ![t.val / 16, t.val % 2] := by decide +kernel
theorem idx1 : ∀ t : Fin cfg0.N, win0_1.index t = ![t.val / 2 % 8, t.val % 2] := by decide +kernel
theorem idx2 : ∀ t : Fin cfg0.N, win0_2.index t = ![t.val / 16, t.val / 2 % 8] := by decide +kernel
theorem idx3 : ∀ t : Fin cfg0.N, win0_3.index t = ![t.val / 16, t.val / 2 % 8] := by decide +kernel
theorem idx4 : ∀ t : Fin cfg0.N, win0_4.index t = ![t.val / 16, t.val / 2 % 8] := by decide +kernel
theorem flush3 : ∀ t : Fin cfg0.N, (cfg0.win 3).flush t = true → t.val % 2 = 1 := by decide +kernel
theorem flush4 : ∀ t : Fin cfg0.N, (cfg0.win 4).flush t = true → t.val % 2 = 1 := by decide +kernel

theorem rd0 (A : Buf (Elt Ideal) ((c : Thread nD τ).loc main_v0)) (t : Fin cfg0.N) (i : Fin 4) (j : Fin 8) (k : Fin 2) (ht : t.val = 16 * i.val + 2 * j.val + k.val) (x : Fin 1024) (y : Fin 2048) :
    ((cfg0.win 0).blk t).view.read (Elt Ideal) A (ix2 x y) = A (ix2 ⟨i.val * 1024 + x.val, by omega⟩ ⟨k.val * 2048 + y.val, by omega⟩) := by
  blk_ext [idx0 t]

theorem rd1 (A : Buf (Elt Ideal) ((c : Thread nD τ).loc main_v5)) (t : Fin cfg0.N) (i : Fin 4) (j : Fin 8) (k : Fin 2) (ht : t.val = 16 * i.val + 2 * j.val + k.val) (x : Fin 1408) (y : Fin 2048) :
    ((cfg0.win 1).blk t).view.read (Elt Ideal) A (ix2 x y) = A (ix2 ⟨j.val * 1408 + x.val, by omega⟩ ⟨k.val * 2048 + y.val, by omega⟩) := by
  blk_ext [idx1 t]

theorem rd2 (A : Buf (Elt Ideal) ((c : Thread nD τ).loc main_v9)) (t : Fin cfg0.N) (i : Fin 4) (j : Fin 8) (k : Fin 2) (ht : t.val = 16 * i.val + 2 * j.val + k.val) (x : Fin 1024) (y : Fin 1408) :
    ((cfg0.win 2).blk t).view.read (Elt Ideal) A (ix2 x y) = A (ix2 ⟨i.val * 1024 + x.val, by omega⟩ ⟨j.val * 1408 + y.val, by omega⟩) := by
  blk_ext [idx2 t]

theorem emb3 (t : Fin cfg0.N) (i : Fin 4) (j : Fin 8) (k : Fin 2) (ht : t.val = 16 * i.val + 2 * j.val + k.val) (x : Fin 1024) (y : Fin 1408) :
    (((cfg0.win 3).blk t).view.emb (ix2 x y) : S4096x11264.Idx) = ix2 ⟨i.val * 1024 + x.val, by omega⟩ ⟨j.val * 1408 + y.val, by omega⟩ := by
  blk_ext [idx3 t]

theorem emb4 (t : Fin cfg0.N) (i : Fin 4) (j : Fin 8) (k : Fin 2) (ht : t.val = 16 * i.val + 2 * j.val + k.val) (x : Fin 1024) (y : Fin 1408) :
    (((cfg0.win 4).blk t).view.emb (ix2 x y) : S4096x11264.Idx) = ix2 ⟨i.val * 1024 + x.val, by omega⟩ ⟨j.val * 1408 + y.val, by omega⟩ := by
  blk_ext [idx4 t]

end Cert.FUpIdeal.Val

end
-- ==== Proof.FUpEnds.lean ====
/- The up product and the activation as a whole: what its arrays hold, and what the two programs return. -/
module

public import proofs.«01_k».proof.Defs
public import proofs.«01_k».proof.Proof.FfnSum
public import proofs.«01_k».proof.Proof.FUpPoints
public import proofs.«01_k».proof.Proof.FUpEntry
public import proofs.«01_k».proof.Proof.Gen.FUpIdeal.Run
public import proofs.«01_k».proof.Proof.Gen.FUpRefIdeal.Run
public import proofs.«01_k».proof.Proof.Gen.FUpRefIdeal.Read
public import Idealize.ShloMosaic.Lib.Claim

@[expose] public section

set_option maxRecDepth 16384

noncomputable section

namespace Cert.FUpIdeal.Val

open Idealize.ShloMosaic Idealize.ShloMosaic.TcCoe Idealize.SL Idealize.SL.Sem Cert.FUpIdeal.Gen

variable (m : (ℓ : Loc nD τ sig) → Buf (Elt Ideal) ℓ) (c : Dev nD)

/-- Row `y 0`, column `y 1` of the product, over the padded columns. -/
def gP (a : (⟨S4096x4096, .f32⟩ : BufTy).Contents (Elt Ideal)) (b : (⟨S4096x11008, .f32⟩ : BufTy).Contents (Elt Ideal)) : (⟨S4096x11264, .bf16⟩ : BufTy).Contents (Elt Ideal) :=
  fun y => ∑ k : Fin 4096, h_v0 a (ix2 (y 0) k) * h_v5 b (ix2 (y 1) k)

/-- The activation. -/
def gA (a : (⟨S4096x4096, .f32⟩ : BufTy).Contents (Elt Ideal)) (b g : (⟨S4096x11008, .f32⟩ : BufTy).Contents (Elt Ideal)) : (⟨S4096x11264, .bf16⟩ : BufTy).Contents (Elt Ideal) :=
  fun y => h_v9 g y * Cert.Ffn.sg (h_v9 g y) * gP a b y

theorem pt (t : Fin cfg0.N) : t.val < 64 := lt_of_lt_of_eq t.isLt (show cfg0.N = 64 from N_0)

/-- What a step adds, from the arguments. -/
theorem step_at (t : Fin cfg0.N) (i : Fin 4) (j : Fin 8) (k : Fin 2) (ht : t.val = 16 * i.val + 2 * j.val + k.val) (x : Fin 1024) (y : Fin 1408) :
    stepDot (iblk m c 0 t) (iblk m c 1 t) x y
      = ∑ r : Fin 2048, h_v0 (m ((c : Thread nD τ).loc main_arg0)) (ix2 ⟨i.val * 1024 + x.val, by omega⟩ ⟨k.val * 2048 + r.val, by omega⟩) * h_v5 (m ((c : Thread nD τ).loc main_arg1)) (ix2 ⟨j.val * 1408 + y.val, by omega⟩ ⟨k.val * 2048 + r.val, by omega⟩) := by
  unfold stepDot
  refine Finset.sum_congr rfl fun r _ => congrArg₂ (· * ·) ?_ ?_
  · exact (rd0 c (V m c main_v0) t i j k ht x r).trans (congrFun (V_v0 m c) _)
  · exact (rd1 c (V m c main_v5) t i j k ht y r).trans (congrFun (V_v5 m c) _)

/-- The two steps of a tile. -/
theorem two_steps (i : Fin 4) (j : Fin 8) (t : Fin cfg0.N) (ht : t.val = 16 * i.val + 2 * j.val + 1) (x : Fin 1024) (y : Fin 1408) :
    lastP (outsAt0 m c (t.val - 1) (Nat.lt_of_le_of_lt (Nat.sub_le _ _) t.isLt)).2.2 (iblk m c 0 t) (iblk m c 1 t) x y
      = gP (m ((c : Thread nD τ).loc main_arg0)) (m ((c : Thread nD τ).loc main_arg1)) (ix2 ⟨i.val * 1024 + x.val, by omega⟩ ⟨j.val * 1408 + y.val, by omega⟩) := by
  have hN := pt t
  have h0 := acc_first m c ⟨t.val - 1, by have := t.isLt; omega⟩ (by show (t.val - 1) % 2 = 0; omega)
  have e0 := (congrFun h0 (ix2 x y)).trans ((pay1_at _ _ x y).trans (step_at m c _ i j 0 (by show t.val - 1 = 16 * i.val + 2 * j.val + 0; omega) x y))
  have e1 := congrArg₂ (· + ·) e0 (step_at m c t i j 1 (by show t.val = 16 * i.val + 2 * j.val + 1; omega) x y)
  exact e1.trans (Cert.Ffn.sum_two (n := 2048) rfl fun k => h_v0 (m ((c : Thread nD τ).loc main_arg0)) (ix2 ⟨i.val * 1024 + x.val, by omega⟩ k) * h_v5 (m ((c : Thread nD τ).loc main_arg1)) (ix2 ⟨j.val * 1408 + y.val, by omega⟩ k))

theorem in2 (i : Fin 4) (j : Fin 8) (t : Fin cfg0.N) (ht : t.val = 16 * i.val + 2 * j.val + 1) (x : Fin 1024) (y : Fin 1408) :
    iblk m c 2 t (ix2 x y) = h_v9 (m ((c : Thread nD τ).loc main_arg2)) (ix2 ⟨i.val * 1024 + x.val, by omega⟩ ⟨j.val * 1408 + y.val, by omega⟩) :=
  (rd2 c (V m c main_v9) t i j 1 ht x y).trans (congrFun (V_v9 m c) _)

/-- The array the region leaves in its window 3. -/
theorem arr3 : (dats m 0 c).arrAt 3 cfg0.N = gP (m ((c : Thread nD τ).loc main_arg0)) (m ((c : Thread nD τ).loc main_arg1)) :=
  (dats m 0 c).arrAt_eq_of_covers 3 _ (by decide +kernel) fun t hf y => by
    have h3 := flush3 t hf
    blk_simp
    rw [after0_3]
    have hN := pt t
    obtain ⟨a, b, rfl⟩ : ∃ (a : Fin 1024) (b : Fin 1408), y = ix2 a b := ⟨y 0, y 1, funext fun k => match k with | ⟨0, _⟩ => rfl | ⟨1, _⟩ => rfl⟩
    have ht : t.val = 16 * (⟨t.val / 16, by omega⟩ : Fin 4).val + 2 * (⟨t.val / 2 % 8, by omega⟩ : Fin 8).val + 1 := by
      show t.val = 16 * (t.val / 16) + 2 * (t.val / 2 % 8) + 1; omega
    refine Eq.trans ?_ (congrArg (gP (m ((c : Thread nD τ).loc main_arg0)) (m ((c : Thread nD τ).loc main_arg1))) (emb3 t _ _ 1 ht a b)).symm
    refine (out_up m c t h3 (ix2 a b)).trans ?_
    have e := two_steps m c _ _ t ht a b
    exact e

/-- The array the region leaves in its window 4. -/
theorem arr4 : (dats m 0 c).arrAt 4 cfg0.N = gA (m ((c : Thread nD τ).loc main_arg0)) (m ((c : Thread nD τ).loc main_arg1)) (m ((c : Thread nD τ).loc main_arg2)) :=
  (dats m 0 c).arrAt_eq_of_covers 4 _ (by decide +kernel) fun t hf y => by
    have h3 := flush4 t hf
    blk_simp
    rw [after0_4]
    have hN := pt t
    obtain ⟨a, b, rfl⟩ : ∃ (a : Fin 1024) (b : Fin 1408), y = ix2 a b := ⟨y 0, y 1, funext fun k => match k with | ⟨0, _⟩ => rfl | ⟨1, _⟩ => rfl⟩
    have ht : t.val = 16 * (⟨t.val / 16, by omega⟩ : Fin 4).val + 2 * (⟨t.val / 2 % 8, by omega⟩ : Fin 8).val + 1 := by
      show t.val = 16 * (t.val / 16) + 2 * (t.val / 2 % 8) + 1; omega
    refine Eq.trans ?_ (congrArg (gA (m ((c : Thread nD τ).loc main_arg0)) (m ((c : Thread nD τ).loc main_arg1)) (m ((c : Thread nD τ).loc main_arg2))) (emb4 t _ _ 1 ht a b)).symm
    refine (out_act m c t h3 (ix2 a b)).trans ?_
    have e := two_steps m c _ _ t ht a b
    have eg := in2 m c _ _ t ht a b
    exact congrArg₂ (· * ·) (congrArg₂ (· * ·) eg (congrArg Cert.Ffn.sg eg)) e

/-- The product is the reference's. -/
theorem same_up (a : (⟨S4096x4096, .f32⟩ : BufTy).Contents (Elt Ideal)) (b : (⟨S4096x11008, .f32⟩ : BufTy).Contents (Elt Ideal)) :
    t_v10 (gP a b) = Cert.FUpRefIdeal.Read.val_main_v0 (F := Ideal) a b := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  rw [t_v10_at, Cert.FUpRefIdeal.Read.val_main_v0_apply]
  refine Finset.sum_congr rfl fun k _ => ?_
  refine congrArg₂ (· * ·) ((h_v0_at a x k).trans (congrArg a ?_)) ((h_v5_at b s r k).trans (congrArg b ?_))
  · funext d; fin_cases d <;> rfl
  · funext d; fin_cases d <;> rfl

/-- The reference's logistic function. -/
theorem ref_sg (g : (⟨S4096x11008, .f32⟩ : BufTy).Contents (Elt Ideal)) (y : S4096x11008.Idx) :
    Cert.FUpRefIdeal.Read.val_main_call0_v5 (F := Ideal) g y = Ideal.logistic (g y) := by
  idx_vars y
  unfold Ideal.logistic
  pointwise [Cert.FUpRefIdeal.Read.val_main_call0_v5, Cert.FUpRefIdeal.Read.val_main_call0_v4, Cert.FUpRefIdeal.Read.val_main_call0_v3, Cert.FUpRefIdeal.Read.val_main_call0_v2, Cert.FUpRefIdeal.Read.val_main_call0_v1, Cert.FUpRefIdeal.Read.val_main_call0_v0, Cert.FUpRefIdeal.Read.val_main_call0_cst, Cert.FUpRefIdeal.Read.val_main_call0_cst_0]

/-- The activation is the reference's. -/
theorem same_act (a : (⟨S4096x4096, .f32⟩ : BufTy).Contents (Elt Ideal)) (b g : (⟨S4096x11008, .f32⟩ : BufTy).Contents (Elt Ideal)) :
    t_v10 (gA a b g) = Cert.FUpRefIdeal.Read.val_main_v2 (F := Ideal) a b g := by
  funext y
  obtain ⟨x, f, rfl⟩ : ∃ (x : Fin 4096) (f : Fin 11008), y = ix2 x f := ⟨y 0, y 1, by funext d; fin_cases d <;> rfl⟩
  obtain ⟨s, r, rfl⟩ : ∃ (s : Fin 8) (r : Fin 1376), f = ⟨s.val * 1376 + r.val, by omega⟩ :=
    ⟨⟨f.val / 1376, by omega⟩, ⟨f.val % 1376, by omega⟩, Fin.ext (by show f.val = f.val / 1376 * 1376 + f.val % 1376; omega)⟩
  have e := (t_v10_at (gP a b) x s r).symm.trans (congrFun (same_up a b) (ix2 x ⟨s.val * 1376 + r.val, by omega⟩))
  rw [t_v10_at]
  have eg := h_v9_at g x s r
  refine congrArg₂ (· * ·) (congrArg₂ (· * ·) eg ((congrArg Cert.Ffn.sg eg).trans ((Cert.Ffn.sg_eq _).trans (ref_sg g _).symm))) e

/-- The run of the kernel's program: the reference's values, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v14)
          = Cert.FUpRefIdeal.Read.val_main_v0 (F := Ideal) (m ((c.tc : Thread nD τ).loc main_arg0)) (m ((c.tc : Thread nD τ).loc main_arg1))
      ∧ r.2.mem ((c.tc : Thread nD τ).loc main_v18)
          = Cert.FUpRefIdeal.Read.val_main_v2 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_v10 (arr3 m c)).trans (same_up _ _)),
    (h c).2.1.trans ((congrArg t_v10 (arr4 m c)).trans (same_act _ _ _)), (h c).2.2⟩) (Cert.FUpIdeal.Value.run m ρ)

end Cert.FUpIdeal.Val

namespace Cert.FUpRefIdeal.Val

open Idealize.ShloMosaic Idealize.ShloMosaic.TcCoe Idealize.SL Idealize.SL.Sem Cert.FUpRefIdeal.Gen Cert.FUpRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (Cert.FUpRefIdeal.Value.run m ρ)

end Cert.FUpRefIdeal.Val

namespace Cert.Proof

open Idealize.ShloMosaic Idealize.SL Idealize.SL.Sem

/-- The kernel's product and activation are the reference's, from any arguments. -/
theorem fup_algebraic : Cert.algebraic_FUpIdeal_FUpRefIdeal := by
  intro m g m' g' _ hagree
  refine ⟨fun c => Cert.FUpRefIdeal.Read.val_main_v0 (F := Ideal) (m ((c.tc : Thread Cert.FUpIdeal.nD Cert.FUpIdeal.τ).loc Cert.FUpIdeal.main_arg0)) (m ((c.tc : Thread Cert.FUpIdeal.nD Cert.FUpIdeal.τ).loc Cert.FUpIdeal.main_arg1)),
    fun c => Cert.FUpRefIdeal.Read.val_main_v2 (F := Ideal) (m ((c.tc : Thread Cert.FUpIdeal.nD Cert.FUpIdeal.τ).loc Cert.FUpIdeal.main_arg0)) (m ((c.tc : Thread Cert.FUpIdeal.nD Cert.FUpIdeal.τ).loc Cert.FUpIdeal.main_arg1)) (m ((c.tc : Thread Cert.FUpIdeal.nD Cert.FUpIdeal.τ).loc Cert.FUpIdeal.main_arg2)),
    Cert.FUpIdeal.Val.ends m g, ?_⟩
  refine (θ_run _ _ _).mono (fun r h c => ⟨(h c).1.trans ((Cert.FUpRefIdeal.Read.val_main_v0_eq _ _ ).trans ?_), (h c).2.1.trans ((Cert.FUpRefIdeal.Read.val_main_v2_eq _ _ _ ).trans ?_), (h c).2.2⟩) (Cert.FUpRefIdeal.Value.run m' g')
  · exact congrArg₂ (fun a b => Cert.FUpRefIdeal.Read.val_main_v0 (F := Ideal) a b) (hagree c).1 (hagree c).2.1
  · exact (congrArg (fun a => Cert.FUpRefIdeal.Read.val_main_v2 (F := Ideal) a _ _) (hagree c).1).trans
      (congrArg₂ (fun a b => Cert.FUpRefIdeal.Read.val_main_v2 (F := Ideal) _ a b) (hagree c).2.1 (hagree c).2.2)

end Cert.Proof

end
-- ==== Proof.FDownPoints.lean ====
/- The down product, one grid point at a time.

   The grid is (row tile i, column tile j, step k), four of each: point `t = 16 i + 4 j + k` adds the product over 2816
   padded columns to the tile's accumulator, the first step starting it and the last one writing it out. -/
module

public import proofs.«01_k».proof.Proof.Gen.FDownIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FDownIdeal.Val

open Idealize.ShloMosaic Idealize.ShloMosaic.TcCoe Idealize.SL Cert.FDownIdeal.Gen

/-- The product of one step: the sum over its 2816 padded columns. -/
def stepDot (a : Vec Ideal S1024x2816 .bf16) (b : Vec Ideal S2816x1024 .bf16) (x y : Fin 1024) : EReal :=
  ∑ k : Fin 2816, a (ix2 x k) * b (ix2 k y)

theorem pay1_at (a : Vec Ideal S1024x2816 .bf16) (b : Vec Ideal S2816x1024 .bf16) (x y : Fin 1024) :
    k0_pay1 (F := Ideal) a b (ix2 x y) = stepDot a b x y := by
  unfold stepDot
  pointwise [k0_pay1]

theorem pay2_at (s : Vec Ideal S1024x1024 .f32) (a : Vec Ideal S1024x2816 .bf16) (b : Vec Ideal S2816x1024 .bf16) (x y : Fin 1024) :
    k0_pay2 (F := Ideal) s a b (ix2 x y) = s (ix2 x y) + stepDot a b x y := by
  unfold stepDot
  pointwise [k0_pay2]

variable (m : (ℓ : Loc nD τ sig) → Buf (Elt Ideal) ℓ) (c : Dev nD)

set_option maxHeartbeats 1000000

/-- The first step starts the accumulator. -/
theorem acc_first (t : Fin cfg0.N) (h : t.val % 4 = 0) :
    (outsAt0 m c t.val t.isLt).2 = k0_pay1 (iblk m c 0 t) (iblk m c 1 t) := by
  rw [outsAt0_A m c t h (by omega) (by omega)]
  frame_open
  frame_out
  try simp only [read_unread_whole]

/-- A later step adds to what the step before left. -/
theorem acc_next (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]
    frame_open
    frame_out
    try simp only [read_unread_whole]
  · rw [outsAt0_B m c t h (by omega) h3]
    frame_open
    frame_out
    try simp only [read_unread_whole]

/-- The last step writes the accumulator out. -/
theorem out_last (t : Fin cfg0.N) (h : t.val % 4 = 3) :
    (outsAt0 m c t.val t.isLt).1 = (outsAt0 m c t.val t.isLt).2 := by
  rw [outsAt0_C m c t (by omega) (by omega) h]
  frame_open
  simp (disch := decide) only [↓ View.readCov_skip, ↓ View.readCov_cons_toLoadRect, ↓ View.readCov_fill]
  frame_out
  try simp only [read_unread_whole]

end Cert.FDownIdeal.Val

end
-- ==== Proof.FDownEntry.lean ====
/- The arrays the down product reads, where its tiles lie in them, and the host code around it. -/
module

public import proofs.«01_k».proof.Proof.Gen.FDownIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FDownIdeal.Val

open Idealize.ShloMosaic Idealize.ShloMosaic.TcCoe Idealize.SL Cert.FDownIdeal.Gen

/-- The activations, each shard's 1376 columns padded to 1408. -/
def h_v3 (a : (⟨S4096x11008, .f32⟩ : BufTy).Contents (Elt Ideal)) : (⟨S4096x11264, .bf16⟩ : BufTy).Contents (Elt Ideal) :=
  truncf (F := Ideal) .bf16 (shapeCast _ (pad S4096x8x1408 ![0, 0, 0] ![0, 0, 32] ![0, 0, 0] (shapeCast _ a shapeCasts_S4096x11008_S4096x8x1376 : (⟨S4096x8x1376, .f32⟩ : BufTy).Contents (Elt Ideal))
    (sitofp (F := Ideal) .f32 (constantI S_ 32 0#32) : (⟨S_, .f32⟩ : BufTy).Contents (Elt Ideal)) pads_S4096x8x1376_S4096x8x1408_000_000_0320 h_S_) shapeCasts_S4096x8x1408_S4096x11264 : (⟨S4096x11264, .f32⟩ : BufTy).Contents (Elt Ideal)) bitsLt_bf16_f32

/-- The weights, each shard's 1376 rows padded to 1408. -/
def h_v7 (b : (⟨S11008x4096, .f32⟩ : BufTy).Contents (Elt Ideal)) : (⟨S11264x4096, .bf16⟩ : BufTy).Contents (Elt Ideal) :=
  truncf (F := Ideal) .bf16 (shapeCast _ (pad S8x1408x4096 ![0, 0, 0] ![0, 32, 0] ![0, 0, 0] (shapeCast _ b shapeCasts_S11008x4096_S8x1376x4096 : (⟨S8x1376x4096, .f32⟩ : BufTy).Contents (Elt Ideal))
    (sitofp (F := Ideal) .f32 (constantI S_ 32 0#32) : (⟨S_, .f32⟩ : BufTy).Contents (Elt Ideal)) pads_S8x1376x4096_S8x1408x4096_000_0320_000 h_S_) shapeCasts_S8x1408x4096_S11264x4096 : (⟨S11264x4096, .f32⟩ : BufTy).Contents (Elt Ideal)) bitsLt_bf16_f32

theorem h_v3_at (a : (⟨S4096x11008, .f32⟩ : BufTy).Contents (Elt Ideal)) (x : Fin 4096) (s : Fin 8) (r : Fin 1376) :
    h_v3 a (ix2 x ⟨s.val * 1408 + r.val, by omega⟩) = a (ix2 x ⟨s.val * 1376 + r.val, by omega⟩) := by
  pointwise [h_v3]
  have e : (s.val * 1408 + r.val) % 1408 = r.val := by omega
  simp only [e]
  exact dif_pos r.isLt

/-- The padding columns are zero. -/
theorem h_v3_pad (a : (⟨S4096x11008, .f32⟩ : BufTy).Contents (Elt Ideal)) (x : Fin 4096) (s : Fin 8) (r : Fin 32) :
    h_v3 a (ix2 x ⟨s.val * 1408 + (1376 + r.val), by omega⟩) = 0 := by
  pointwise [h_v3]
  have e : (s.val * 1408 + (1376 + r.val)) % 1408 = 1376 + r.val := by omega
  simp only [e]
  refine (dif_neg (by omega)).trans ?_
  show ((((0#32 : BitVec 32).toInt : ℤ) : ℝ) : EReal) = 0
  simp

theorem h_v7_at (b : (⟨S11008x4096, .f32⟩ : BufTy).Contents (Elt Ideal)) (s : Fin 8) (r : Fin 1376) (x : Fin 4096) :
    h_v7 b (ix2 ⟨s.val * 1408 + r.val, by omega⟩ x) = b (ix2 ⟨s.val * 1376 + r.val, by omega⟩ x) := by
  pointwise [h_v7]
  have e : (s.val * 1408 + r.val) % 1408 = r.val := by omega
  simp only [e]
  exact dif_pos r.isLt

variable (m : (ℓ : Loc nD τ sig) → Buf (Elt Ideal) ℓ) (c : Dev nD)

set_option maxHeartbeats 4000000

theorem V_v3 : V m c main_v3 = h_v3 (m ((c : Thread nD τ).loc main_arg0)) := by
  simp only [V, hostOps0, hostOps0_1, hostOps0_2, hostOps0_3, hostOps0_4, List.flatten_cons, List.flatten_nil, List.append_nil, List.cons_append, List.nil_append]
  after_results <;> rfl

theorem V_v7 : V m c main_v7 = h_v7 (m ((c : Thread nD τ).loc main_arg1)) := by
  simp only [V, hostOps0, hostOps0_1, hostOps0_2, hostOps0_3, hostOps0_4, List.flatten_cons, List.flatten_nil, List.append_nil, List.cons_append, List.nil_append]
  after_results <;> rfl

theorem idx0 : ∀ t : Fin cfg0.N, win0_0.index t = ![t.val / 16, t.val % 4] := by decide +kernel
theorem idx1 : ∀ t : Fin cfg0.N, win0_1.index t = ![t.val % 4, t.val / 4 % 4] := by decide +kernel
theorem idx2 : ∀ t : Fin cfg0.N, win0_2.index t = ![t.val / 16, t.val / 4 % 4] := by decide +kernel
theorem flush2 : ∀ t : Fin cfg0.N, (cfg0.win 2).flush t = true → t.val % 4 = 3 := by decide +kernel

theorem rd0 (A : Buf (Elt Ideal) ((c : Thread nD τ).loc main_v3)) (t : Fin cfg0.N) (i j k : Fin 4) (ht : t.val = 16 * i.val + 4 * j.val + k.val) (x : Fin 1024) (y : Fin 2816) :
    ((cfg0.win 0).blk t).view.read (Elt Ideal) A (ix2 x y) = A (ix2 ⟨i.val * 1024 + x.val, by omega⟩ ⟨k.val * 2816 + y.val, by omega⟩) := by
  blk_ext [idx0 t]

theorem rd1 (A : Buf (Elt Ideal) ((c : Thread nD τ).loc main_v7)) (t : Fin cfg0.N) (i j k : Fin 4) (ht : t.val = 16 * i.val + 4 * j.val + k.val) (x : Fin 2816) (y : Fin 1024) :
    ((cfg0.win 1).blk t).view.read (Elt Ideal) A (ix2 x y) = A (ix2 ⟨k.val * 2816 + x.val, by omega⟩ ⟨j.val * 1024 + y.val, by omega⟩) := by
  blk_ext [idx1 t]

theorem emb2 (t : Fin cfg0.N) (i j k : Fin 4) (ht : t.val = 16 * i.val + 4 * j.val + k.val) (x y : Fin 1024) :
    (((cfg0.win 2).blk t).view.emb (ix2 x y) : S4096x4096.Idx) = ix2 ⟨i.val * 1024 + x.val, by omega⟩ ⟨j.val * 1024 + y.val, by omega⟩ := by
  blk_ext [idx2 t]

end Cert.FDownIdeal.Val

end
-- ==== Proof.FDownEnds.lean ====
/- The down product as a whole: what its array holds, and what the two programs return. -/
module

public import proofs.«01_k».proof.Defs
public import proofs.«01_k».proof.Proof.FfnSum
public import proofs.«01_k».proof.Proof.FDownPoints
public import proofs.«01_k».proof.Proof.FDownEntry
public import proofs.«01_k».proof.Proof.Gen.FDownIdeal.Value
public import proofs.«01_k».proof.Proof.Gen.FDownRefIdeal.Run
public import proofs.«01_k».proof.Proof.Gen.FDownRefIdeal.Read
public import Idealize.ShloMosaic.Lib.Claim

@[expose] public section

set_option maxRecDepth 16384

noncomputable section

namespace Cert.FDownIdeal.Val

open Idealize.ShloMosaic Idealize.ShloMosaic.TcCoe Idealize.SL Idealize.SL.Sem Cert.FDownIdeal.Gen

variable (m : (ℓ : Loc nD τ sig) → Buf (Elt Ideal) ℓ) (c : Dev nD)

/-- Row `y 0`, column `y 1` of the product. -/
def gW (a : (⟨S4096x11008, .f32⟩ : BufTy).Contents (Elt Ideal)) (b : (⟨S11008x4096, .f32⟩ : BufTy).Contents (Elt Ideal)) : (⟨S4096x4096, .f32⟩ : BufTy).Contents (Elt Ideal) :=
  fun y => ∑ k : Fin 11264, h_v3 a (ix2 (y 0) k) * h_v7 b (ix2 k (y 1))

theorem pt (t : Fin cfg0.N) : t.val < 64 := lt_of_lt_of_eq t.isLt (show cfg0.N = 64 from N_0)

/-- What a step adds, from the arguments. -/
theorem step_at (t : Fin cfg0.N) (i j k : Fin 4) (ht : t.val = 16 * i.val + 4 * j.val + k.val) (x : Fin 1024) (y : Fin 1024) :
    stepDot (iblk m c 0 t) (iblk m c 1 t) x y
      = ∑ r : Fin 2816, h_v3 (m ((c : Thread nD τ).loc main_arg0)) (ix2 ⟨i.val * 1024 + x.val, by omega⟩ ⟨k.val * 2816 + r.val, by omega⟩) * h_v7 (m ((c : Thread nD τ).loc main_arg1)) (ix2 ⟨k.val * 2816 + r.val, by omega⟩ ⟨j.val * 1024 + y.val, by omega⟩) := by
  unfold stepDot
  refine Finset.sum_congr rfl fun r _ => congrArg₂ (· * ·) ?_ ?_
  · exact (rd0 c (V m c main_v3) t i j k ht x r).trans (congrFun (V_v3 m c) _)
  · exact (rd1 c (V m c main_v7) t i j k ht r y).trans (congrFun (V_v7 m c) _)

/-- The four steps of a tile. -/
theorem acc_four (i j : Fin 4) (t : Fin cfg0.N) (ht : t.val = 16 * i.val + 4 * j.val + 3) (x : Fin 1024) (y : Fin 1024) :
    (outsAt0 m c t.val t.isLt).2 (ix2 x y)
      = gW (m ((c : Thread nD τ).loc main_arg0)) (m ((c : Thread nD τ).loc main_arg1)) (ix2 ⟨i.val * 1024 + x.val, by omega⟩ ⟨j.val * 1024 + y.val, by omega⟩) := by
  have hN := pt t
  have h0 := acc_first m c ⟨t.val - 1 - 1 - 1, by have := t.isLt; omega⟩ (by show (t.val - 1 - 1 - 1) % 4 = 0; omega)
  have h1 := acc_next m c ⟨t.val - 1 - 1, by have := t.isLt; omega⟩ (by show ¬(t.val - 1 - 1) % 4 = 0; omega)
  have h2 := acc_next m c ⟨t.val - 1, by have := t.isLt; omega⟩ (by show ¬(t.val - 1) % 4 = 0; omega)
  have h3 := acc_next m c t (by omega)
  have e0 := (congrFun h0 (ix2 x y)).trans ((pay1_at _ _ x y).trans (step_at m c _ i j 0 (by show t.val - 1 - 1 - 1 = 16 * i.val + 4 * j.val + 0; omega) x y))
  have e1 := (congrFun h1 (ix2 x y)).trans ((pay2_at _ _ _ x y).trans (congrArg₂ (· + ·) e0 (step_at m c _ i j 1 (by show t.val - 1 - 1 = 16 * i.val + 4 * j.val + 1; omega) x y)))
  have e2 := (congrFun h2 (ix2 x y)).trans ((pay2_at _ _ _ x y).trans (congrArg₂ (· + ·) e1 (step_at m c _ i j 2 (by show t.val - 1 = 16 * i.val + 4 * j.val + 2; omega) x y)))
  have e3 := (congrFun h3 (ix2 x y)).trans ((pay2_at _ _ _ x y).trans (congrArg₂ (· + ·) e2 (step_at m c _ i j 3 (by show t.val = 16 * i.val + 4 * j.val + 3; omega) x y)))
  exact e3.trans (Cert.Ffn.sum_four (n := 2816) rfl fun k => h_v3 (m ((c : Thread nD τ).loc main_arg0)) (ix2 ⟨i.val * 1024 + x.val, by omega⟩ k) * h_v7 (m ((c : Thread nD τ).loc main_arg1)) (ix2 k ⟨j.val * 1024 + y.val, by omega⟩))

/-- The array the product leaves. -/
theorem arr2 : (dats m 0 c).arrAt 2 cfg0.N = gW (m ((c : Thread nD τ).loc main_arg0)) (m ((c : Thread nD τ).loc main_arg1)) :=
  (dats m 0 c).arrAt_eq_of_covers 2 _ (by decide +kernel) fun t hf y => by
    have h3 := flush2 t hf
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 16 * (⟨t.val / 16, by omega⟩ : Fin 4).val + 4 * (⟨t.val / 4 % 4, by omega⟩ : Fin 4).val + 3 := by
      show t.val = 16 * (t.val / 16) + 4 * (t.val / 4 % 4) + 3; omega
    rw [out_last m c t h3, acc_four m c _ _ t ht a b]
    exact (congrArg (gW (m ((c : Thread nD τ).loc main_arg0)) (m ((c : Thread nD τ).loc main_arg1))) (emb2 t _ _ 3 ht a b)).symm

/-- The kernel's result is the reference's: the padding adds zeros. -/
theorem same (a : (⟨S4096x11008, .f32⟩ : BufTy).Contents (Elt Ideal)) (b : (⟨S11008x4096, .f32⟩ : BufTy).Contents (Elt Ideal)) :
    gW a b = Cert.FDownRefIdeal.Read.val_main_v0 (F := Ideal) a b := by
  funext y
  obtain ⟨x, z, rfl⟩ : ∃ (x z : Fin 4096), y = ix2 x z := ⟨y 0, y 1, by funext d; fin_cases d <;> rfl⟩
  rw [Cert.FDownRefIdeal.Read.val_main_v0_apply]
  refine Cert.Ffn.sum_pad (fun k => h_v3 a (ix2 x k) * h_v7 b (ix2 k z)) _ (fun s r => ?_) fun s r => ?_
  · refine congrArg₂ (· * ·) ((h_v3_at a x s r).trans (congrArg a ?_)) ((h_v7_at b s r z).trans (congrArg b ?_))
    · funext d; fin_cases d <;> rfl
    · funext d; fin_cases d <;> rfl
  · exact (congrArg (· * h_v7 b _) (h_v3_pad a x s r)).trans (zero_mul _)

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v8)
          = Cert.FDownRefIdeal.Read.val_main_v0 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Cert.FDownIdeal.Value.final2 m c).symm.trans ((arr2 m c).trans (same _ _))), (h c).2⟩) (Cert.FDownIdeal.Value.run m ρ)

end Cert.FDownIdeal.Val

namespace Cert.FDownRefIdeal.Val

open Idealize.ShloMosaic Idealize.ShloMosaic.TcCoe Idealize.SL Idealize.SL.Sem Cert.FDownRefIdeal.Gen Cert.FDownRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.FDownRefIdeal.Value.run m ρ)

end Cert.FDownRefIdeal.Val

namespace Cert.Proof

open Idealize.ShloMosaic Idealize.SL Idealize.SL.Sem

/-- The kernel's product is the reference's, from any arguments. -/
theorem fdown_algebraic : Cert.algebraic_FDownIdeal_FDownRefIdeal := by
  intro m g m' g' _ hagree
  refine ⟨fun c => Cert.FDownRefIdeal.Read.val_main_v0 (F := Ideal) (m ((c.tc : Thread Cert.FDownIdeal.nD Cert.FDownIdeal.τ).loc Cert.FDownIdeal.main_arg0)) (m ((c.tc : Thread Cert.FDownIdeal.nD Cert.FDownIdeal.τ).loc Cert.FDownIdeal.main_arg1)),
    Cert.FDownIdeal.Val.ends m g, ?_⟩
  refine (θ_run _ _ _).mono (fun r h c => ⟨(h c).1.trans ((Cert.FDownRefIdeal.Read.val_main_v0_eq _ _).trans ?_), (h c).2⟩) (Cert.FDownRefIdeal.Value.run m' g')
  exact congrArg₂ (fun a b => Cert.FDownRefIdeal.Read.val_main_v0 (F := Ideal) a b) (hagree c).1 (hagree c).2

end Cert.Proof

end
-- ==== Proof.OutEnds.lean ====
/- The output product: what a tile is, what the array holds, and what the two programs return.

   The grid is (row tile i, column tile j), one step each: point `t = 4 i + j` computes its tile whole, the sum
   of one product per mixer. -/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.OutIdeal.Val

open Idealize.ShloMosaic Idealize.ShloMosaic.TcCoe Idealize.SL Idealize.SL.Sem Cert.OutIdeal.Gen

/-- The sum of the two products of a tile. -/
theorem pay1_at (a : Vec Ideal S1024x2048 .bf16) (u : Vec Ideal S2048x1024 .bf16) (b : Vec Ideal S1024x2048 .bf16) (v : Vec Ideal S2048x1024 .bf16) (x y : Fin 1024) :
    k0_pay1 (F := Ideal) a u b v (ix2 x y) = ∑ k : Fin 2048, a (ix2 x k) * u (ix2 k y) + ∑ k : Fin 2048, b (ix2 x k) * v (ix2 k y) := by
  pointwise [k0_pay1]

/-- A mixer's columns, as the host code prepares them. -/
def h_x (a : (⟨S4096x2048, .f32⟩ : BufTy).Contents (Elt Ideal)) : (⟨S4096x2048, .bf16⟩ : BufTy).Contents (Elt Ideal) :=
  truncf (F := Ideal) .bf16 a bitsLt_bf16_f32

/-- The weights, as the host code prepares them. -/
def h_w (a : (⟨S4096x4096, .f32⟩ : BufTy).Contents (Elt Ideal)) : (⟨S4096x4096, .bf16⟩ : BufTy).Contents (Elt Ideal) :=
  truncf (F := Ideal) .bf16 a bitsLt_bf16_f32

theorem h_x_at (a : (⟨S4096x2048, .f32⟩ : BufTy).Contents (Elt Ideal)) (x : Fin 4096) (k : Fin 2048) : h_x a (ix2 x k) = a (ix2 x k) := by
  pointwise [h_x]

theorem h_w_at (a : (⟨S4096x4096, .f32⟩ : BufTy).Contents (Elt Ideal)) (k y : Fin 4096) : h_w a (ix2 k y) = a (ix2 k y) := by
  pointwise [h_w]

/-- Row `y 0`, column `y 1` of the result: the first mixer's columns with the first rows of the weights, the second's with
    the others. -/
def gW (a b : (⟨S4096x2048, .f32⟩ : BufTy).Contents (Elt Ideal)) (w : (⟨S4096x4096, .f32⟩ : BufTy).Contents (Elt Ideal)) : (⟨S4096x4096, .f32⟩ : BufTy).Contents (Elt Ideal) :=
  fun y => ∑ k : Fin 2048, a (ix2 (y 0) k) * w (ix2 (⟨k.val, by omega⟩ : Fin 4096) (y 1))
    + ∑ k : Fin 2048, b (ix2 (y 0) k) * w (ix2 (⟨2048 + k.val, by omega⟩ : Fin 4096) (y 1))

variable (m : (ℓ : Loc nD τ sig) → Buf (Elt Ideal) ℓ) (c : Dev nD)

set_option maxHeartbeats 4000000

theorem V_a : V m c main_v0 = h_x (m ((c : Thread nD τ).loc main_arg0)) := by
  simp only [V, hostOps0, List.flatten_cons, List.flatten_nil, List.append_nil, List.cons_append, List.nil_append]
  after_results <;> rfl

theorem V_g : V m c main_v1 = h_x (m ((c : Thread nD τ).loc main_arg1)) := by
  simp only [V, hostOps0, List.flatten_cons, List.flatten_nil, List.append_nil, List.cons_append, List.nil_append]
  after_results <;> rfl

theorem V_w : V m c main_v2 = h_w (m ((c : Thread nD τ).loc main_arg2)) := by
  simp only [V, hostOps0, List.flatten_cons, List.flatten_nil, List.append_nil, List.cons_append, List.nil_append]
  after_results <;> rfl

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, 0] := by decide +kernel
theorem idx3 : ∀ t : Fin cfg0.N, win0_3.index t = ![1, t.val % 4] := by decide +kernel
theorem idx4 : ∀ t : Fin cfg0.N, win0_4.index t = ![t.val / 4, t.val % 4] := by decide +kernel

theorem rd0 (A : Buf (Elt Ideal) ((c : Thread nD τ).loc main_v0)) (t : Fin cfg0.N) (i j : Fin 4) (ht : t.val = 4 * i.val + j.val) (x : Fin 1024) (k : Fin 2048) :
    ((cfg0.win 0).blk t).view.read (Elt Ideal) A (ix2 x k) = A (ix2 ⟨i.val * 1024 + x.val, by omega⟩ k) := by
  blk_ext [idx0 t]

theorem rd2 (A : Buf (Elt Ideal) ((c : Thread nD τ).loc main_v1)) (t : Fin cfg0.N) (i j : Fin 4) (ht : t.val = 4 * i.val + j.val) (x : Fin 1024) (k : Fin 2048) :
    ((cfg0.win 2).blk t).view.read (Elt Ideal) A (ix2 x k) = A (ix2 ⟨i.val * 1024 + x.val, by omega⟩ k) := by
  blk_ext [idx2 t]

theorem rd1 (A : Buf (Elt Ideal) ((c : Thread nD τ).loc main_v2)) (t : Fin cfg0.N) (i j : Fin 4) (ht : t.val = 4 * i.val + j.val) (k : Fin 2048) (y : Fin 1024) :
    ((cfg0.win 1).blk t).view.read (Elt Ideal) A (ix2 k y) = A (ix2 ⟨k.val, by omega⟩ ⟨j.val * 1024 + y.val, by omega⟩) := by
  blk_ext [idx1 t]

theorem rd3 (A : Buf (Elt Ideal) ((c : Thread nD τ).loc main_v2)) (t : Fin cfg0.N) (i j : Fin 4) (ht : t.val = 4 * i.val + j.val) (k : Fin 2048) (y : Fin 1024) :
    ((cfg0.win 3).blk t).view.read (Elt Ideal) A (ix2 k y) = A (ix2 ⟨2048 + k.val, by omega⟩ ⟨j.val * 1024 + y.val, by omega⟩) := by
  blk_ext [idx3 t]

theorem emb4 (t : Fin cfg0.N) (i j : Fin 4) (ht : t.val = 4 * i.val + j.val) (x y : Fin 1024) :
    (((cfg0.win 4).blk t).view.emb (ix2 x y) : S4096x4096.Idx) = ix2 ⟨i.val * 1024 + x.val, by omega⟩ ⟨j.val * 1024 + y.val, by omega⟩ := by
  blk_ext [idx4 t]

theorem pt (t : Fin cfg0.N) : t.val < 16 := lt_of_lt_of_eq t.isLt (show cfg0.N = 16 from N_0)

/-- The block of a point is its payload. -/
theorem out_eq (t : Fin cfg0.N) : out0_4 (iblk m c 0 t) (iblk m c 1 t) (iblk m c 2 t) (iblk m c 3 t) = k0_pay1 (F := Ideal) (iblk m c 0 t) (iblk m c 1 t) (iblk m c 2 t) (iblk m c 3 t) := by
  unfold out0_4
  frame_out
  try simp only [read_unread_whole]

/-- What a point computes, from the arguments. -/
theorem tile_at (t : Fin cfg0.N) (i j : Fin 4) (ht : t.val = 4 * i.val + j.val) (x y : Fin 1024) :
    k0_pay1 (F := Ideal) (iblk m c 0 t) (iblk m c 1 t) (iblk m c 2 t) (iblk m c 3 t) (ix2 x y)
      = gW (m ((c : Thread nD τ).loc main_arg0)) (m ((c : Thread nD τ).loc main_arg1)) (m ((c : Thread nD τ).loc main_arg2)) (ix2 ⟨i.val * 1024 + x.val, by omega⟩ ⟨j.val * 1024 + y.val, by omega⟩) := by
  rw [pay1_at]
  refine congrArg₂ (· + ·) ?_ ?_
  · refine Finset.sum_congr rfl fun k _ => congrArg₂ (· * ·) ?_ ?_
    · exact (rd0 c (V m c main_v0) t i j ht x k).trans ((congrFun (V_a m c) _).trans (h_x_at _ _ _))
    · exact (rd1 c (V m c main_v2) t i j ht k y).trans ((congrFun (V_w m c) _).trans (h_w_at _ _ _))
  · refine Finset.sum_congr rfl fun k _ => congrArg₂ (· * ·) ?_ ?_
    · exact (rd2 c (V m c main_v1) t i j ht x k).trans ((congrFun (V_g m c) _).trans (h_x_at _ _ _))
    · exact (rd3 c (V m c main_v2) t i j ht k y).trans ((congrFun (V_w m c) _).trans (h_w_at _ _ _))

/-- The array the product leaves. -/
theorem arr4 : (dats m 0 c).arrAt 4 cfg0.N = gW (m ((c : Thread nD τ).loc main_arg0)) (m ((c : Thread nD τ).loc main_arg1)) (m ((c : Thread nD τ).loc main_arg2)) :=
  (dats m 0 c).arrAt_eq_of_covers 4 _ (by decide +kernel) fun t hf y => by
    blk_simp
    rw [after0_4]
    have hN := pt t
    obtain ⟨a, b, rfl⟩ : ∃ (a b : Fin 1024), y = ix2 a b := ⟨y 0, y 1, funext fun k => match k with | ⟨0, _⟩ => rfl | ⟨1, _⟩ => rfl⟩
    have ht : t.val = 4 * (⟨t.val / 4, by omega⟩ : Fin 4).val + (⟨t.val % 4, by omega⟩ : Fin 4).val := by
      show t.val = 4 * (t.val / 4) + t.val % 4; omega
    rw [out_eq, tile_at m c t _ _ ht a b]
    exact (congrArg (gW (m ((c : Thread nD τ).loc main_arg0)) (m ((c : Thread nD τ).loc main_arg1)) (m ((c : Thread nD τ).loc main_arg2))) (emb4 t _ _ ht a b)).symm

/-- The first columns of the mixers' concatenation are the first mixer's, -/
theorem cat_fst (a b : (⟨S4096x2048, .f32⟩ : BufTy).Contents (Elt Ideal)) (x : Fin 4096) (k : Fin 2048) :
    Cert.OutRefIdeal.Read.val_main_v0 (F := Ideal) a b (ix2 x (⟨k.val, by omega⟩ : Fin 4096)) = a (ix2 x k) := by
  pointwise [Cert.OutRefIdeal.Read.val_main_v0]

/-- the others the second's. -/
theorem cat_snd (a b : (⟨S4096x2048, .f32⟩ : BufTy).Contents (Elt Ideal)) (x : Fin 4096) (k : Fin 2048) :
    Cert.OutRefIdeal.Read.val_main_v0 (F := Ideal) a b (ix2 x (⟨2048 + k.val, by omega⟩ : Fin 4096)) = b (ix2 x k) := by
  pointwise [Cert.OutRefIdeal.Read.val_main_v0]

/-- The kernel's result is the reference's. -/
theorem same (a b : (⟨S4096x2048, .f32⟩ : BufTy).Contents (Elt Ideal)) (w : (⟨S4096x4096, .f32⟩ : BufTy).Contents (Elt Ideal)) :
    gW a b w = Cert.OutRefIdeal.Read.val_main_v1 (F := Ideal) a b w := by
  funext y
  obtain ⟨x, z, rfl⟩ : ∃ (x z : Fin 4096), y = ix2 x z := ⟨y 0, y 1, by funext d; fin_cases d <;> rfl⟩
  rw [Cert.OutRefIdeal.Read.val_main_v1_apply]
  refine Eq.trans ?_ (Fin.sum_univ_add (a := 2048) (b := 2048) fun k : Fin (2048 + 2048) =>
    Cert.OutRefIdeal.Read.val_main_v0 (F := Ideal) a b (Cert.OutRefIdeal.Read.lidx_main_v1 (ix2 x z) k) * w (Cert.OutRefIdeal.Read.ridx_main_v1 (ix2 x z) k)).symm
  refine congrArg₂ (· + ·) ?_ ?_
  · refine Finset.sum_congr rfl fun k _ => congrArg₂ (· * ·) ((cat_fst a b x k).symm.trans (congrArg _ ?_)) (congrArg w ?_)
    · funext d; fin_cases d <;> rfl
    · funext d; fin_cases d <;> rfl
  · refine Finset.sum_congr rfl fun k _ => congrArg₂ (· * ·) ((cat_snd a b x k).symm.trans (congrArg _ ?_)) (congrArg w ?_)
    · funext d; fin_cases d <;> rfl
    · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v3)
          = Cert.OutRefIdeal.Read.val_main_v1 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((arr4 m c).trans (same _ _ _)), (h c).2⟩) (Cert.OutIdeal.Value.run_blocks m ρ)

end Cert.OutIdeal.Val

namespace Cert.OutRefIdeal.Val

open Idealize.ShloMosaic Idealize.ShloMosaic.TcCoe Idealize.SL Idealize.SL.Sem Cert.OutRefIdeal.Gen Cert.OutRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.OutRefIdeal.Value.run m ρ)

end Cert.OutRefIdeal.Val

namespace Cert.Proof

open Idealize.ShloMosaic Idealize.SL Idealize.SL.Sem

/-- The kernel's product is the reference's, from any arguments. -/
theorem out_algebraic : Cert.algebraic_OutIdeal_OutRefIdeal := by
  intro m g m' g' _ hagree
  refine ⟨fun c => Cert.OutRefIdeal.Read.val_main_v1 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)),
    Cert.OutIdeal.Val.ends m g, ?_⟩
  refine (θ_run _ _ _).mono (fun r h c => ⟨(h c).1.trans ((Cert.OutRefIdeal.Read.val_main_v1_eq _ _ _).trans ?_), (h c).2⟩) (Cert.OutRefIdeal.Value.run m' g')
  exact (congrArg (fun a => Cert.OutRefIdeal.Read.val_main_v1 (F := Ideal) a _ _) (hagree c).1).trans
    (congrArg₂ (fun a b => Cert.OutRefIdeal.Read.val_main_v1 (F := Ideal) _ a b) (hagree c).2.1 (hagree c).2.2)

end Cert.Proof

end
-- ==== Proof.DMixedEnds.lean ====
/- The gradient of the output product's input: what a tile is, what the array holds, and what the two programs return.

   The grid is (row tile i, column tile j), one step each: point `t = 4 i + j` computes its tile whole. -/
module

public import proofs.«01_k».proof.Defs
public import proofs.«01_k».proof.Proof.Gen.DMixedIdeal.Value
public import proofs.«01_k».proof.Proof.Gen.DMixedRefIdeal.Run
public import proofs.«01_k».proof.Proof.Gen.DMixedRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DMixedIdeal.Val

open Idealize.ShloMosaic Idealize.ShloMosaic.TcCoe Idealize.SL Idealize.SL.Sem Cert.DMixedIdeal.Gen

/-- The product of a tile. -/
theorem pay1_at (a : Vec Ideal S1024x4096 .bf16) (b : Vec Ideal S1024x4096 .bf16) (x : Fin 1024) (y : Fin 1024) :
    k0_pay1 (F := Ideal) a b (ix2 x y) = ∑ k : Fin 4096, a (ix2 x k) * b (ix2 y k) := by
  pointwise [k0_pay1]

/-- The product's left operand, as the host code prepares it. -/
def h_l (a : (⟨S4096x4096, .f32⟩ : BufTy).Contents (Elt Ideal)) : (⟨S4096x4096, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 a bitsLt_bf16_f32

theorem h_l_at (a : (⟨S4096x4096, .f32⟩ : BufTy).Contents (Elt Ideal)) (x : Fin 4096) (k : Fin 4096) : h_l a (ix2 x k) = a (ix2 x k) := by
  pointwise [h_l]

theorem h_r_at (a : (⟨S4096x4096, .f32⟩ : BufTy).Contents (Elt Ideal)) (y : Fin 4096) (k : Fin 4096) : h_r a (ix2 y k) = a (ix2 y k) := by
  pointwise [h_r]

/-- Row `y 0`, column `y 1` of the product. -/
def gW (a : (⟨S4096x4096, .f32⟩ : BufTy).Contents (Elt Ideal)) (b : (⟨S4096x4096, .f32⟩ : BufTy).Contents (Elt Ideal)) : (⟨S4096x4096, .f32⟩ : BufTy).Contents (Elt Ideal) :=
  fun y => ∑ k : Fin 4096, a (ix2 (y 0) k) * b (ix2 (y 1) k)

variable (m : (ℓ : Loc nD τ sig) → Buf (Elt Ideal) ℓ) (c : Dev nD)

set_option maxHeartbeats 4000000

theorem V_l : V m c main_v0 = h_l (m ((c : Thread nD τ).loc main_arg2)) := by
  simp only [V, hostOps0, List.flatten_cons, List.flatten_nil, List.append_nil, List.cons_append, List.nil_append]
  after_results <;> rfl

theorem V_r : V m c main_v1 = h_r (m ((c : Thread nD τ).loc main_arg1)) := by
  simp only [V, hostOps0, List.flatten_cons, List.flatten_nil, List.append_nil, List.cons_append, List.nil_append]
  after_results <;> rfl

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 4) (j : Fin 4) (ht : t.val = 4 * i.val + j.val) (x : Fin 1024) (k : Fin 4096) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v1)) (t : Fin cfg0.N) (i : Fin 4) (j : Fin 4) (ht : t.val = 4 * i.val + j.val) (y : Fin 1024) (k : Fin 4096) :
    ((cfg0.win 1).blk t).view.read (Elt Ideal) A (ix2 y k) = A (ix2 ⟨j.val * 1024 + y.val, by omega⟩ k) := by
  blk_ext [idx1 t]

theorem emb2 (t : Fin cfg0.N) (i : Fin 4) (j : Fin 4) (ht : t.val = 4 * i.val + j.val) (x : Fin 1024) (y : Fin 1024) :
    (((cfg0.win 2).blk t).view.emb (ix2 x y) : S4096x4096.Idx) = ix2 ⟨i.val * 1024 + x.val, by omega⟩ ⟨j.val * 1024 + y.val, by omega⟩ := by
  blk_ext [idx2 t]

theorem pt (t : Fin cfg0.N) : t.val < 16 := lt_of_lt_of_eq t.isLt (show cfg0.N = 16 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 4) (j : Fin 4) (ht : t.val = 4 * i.val + j.val) (x : Fin 1024) (y : Fin 1024) :
    k0_pay1 (F := Ideal) (iblk m c 0 t) (iblk m c 1 t) (ix2 x y) = gW (m ((c : Thread nD τ).loc main_arg2)) (m ((c : Thread nD τ).loc main_arg1)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg2)) (m ((c : Thread nD τ).loc main_arg1)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 4).val + (⟨t.val % 4, by omega⟩ : Fin 4).val := by
      show t.val = 4 * (t.val / 4) + t.val % 4; omega
    rw [out_eq, tile_at m c t _ _ ht a b]
    exact (congrArg (gW (m ((c : Thread nD τ).loc main_arg2)) (m ((c : Thread nD τ).loc main_arg1))) (emb2 t _ _ ht a b)).symm

/-- The kernel's result is the reference's. -/
theorem same (a : (⟨S4096x4096, .f32⟩ : BufTy).Contents (Elt Ideal)) (b : (⟨S4096x4096, .f32⟩ : BufTy).Contents (Elt Ideal)) :
    gW a b = Cert.DMixedRefIdeal.Read.val_main_v1 (F := Ideal) b a := by
  funext y
  obtain ⟨x, z, rfl⟩ : ∃ (x : Fin 4096) (z : Fin 4096), y = ix2 x z := ⟨y 0, y 1, by funext d; fin_cases d <;> rfl⟩
  rw [Cert.DMixedRefIdeal.Read.val_main_v1_apply]
  refine Finset.sum_congr rfl fun k _ => ?_
  refine congrArg₂ (· * ·) (congrArg a ?_) (congrArg b ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v2)
          = Cert.DMixedRefIdeal.Read.val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((arr2 m c).trans (same _ _)), (h c).2⟩) (Cert.DMixedIdeal.Value.run_blocks m ρ)

end Cert.DMixedIdeal.Val

namespace Cert.DMixedRefIdeal.Val

open Idealize.ShloMosaic Idealize.ShloMosaic.TcCoe Idealize.SL Idealize.SL.Sem Cert.DMixedRefIdeal.Gen Cert.DMixedRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.DMixedRefIdeal.Value.run m ρ)

end Cert.DMixedRefIdeal.Val

namespace Cert.Proof

open Idealize.ShloMosaic Idealize.SL Idealize.SL.Sem

/-- The kernel's product is the reference's, from any arguments. -/
theorem dmixed_algebraic : Cert.algebraic_DMixedIdeal_DMixedRefIdeal := by
  intro m g m' g' _ hagree
  refine ⟨fun c => Cert.DMixedRefIdeal.Read.val_main_v1 (F := Ideal) (m ((c.tc : Thread Cert.DMixedIdeal.nD Cert.DMixedIdeal.τ).loc Cert.DMixedIdeal.main_arg1)) (m ((c.tc : Thread Cert.DMixedIdeal.nD Cert.DMixedIdeal.τ).loc Cert.DMixedIdeal.main_arg2)),
    Cert.DMixedIdeal.Val.ends m g, ?_⟩
  refine (θ_run _ _ _).mono (fun r h c => ⟨(h c).1.trans ((Cert.DMixedRefIdeal.Read.val_main_v1_eq _ _).trans ?_), (h c).2⟩) (Cert.DMixedRefIdeal.Value.run m' g')
  exact congrArg₂ (fun a b => Cert.DMixedRefIdeal.Read.val_main_v1 (F := Ideal) a b) (hagree c).2.1 (hagree c).2.2

end Cert.Proof

end
-- ==== Proof.DwoAEnds.lean ====
/- The gradient of the output product's weights, the rows of the first mixer: what a tile is, what the array holds, and what the two programs return.

   The grid is (row tile i, column tile j), one step each: point `t = 4 i + j` computes its tile whole. -/
module

public import proofs.«01_k».proof.Defs
public import proofs.«01_k».proof.Proof.Gen.DwoAIdeal.Run
public import proofs.«01_k».proof.Proof.Gen.DwoARefIdeal.Run
public import proofs.«01_k».proof.Proof.Gen.DwoARefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DwoAIdeal.Val

open Idealize.ShloMosaic Idealize.ShloMosaic.TcCoe Idealize.SL Idealize.SL.Sem Cert.DwoAIdeal.Gen

/-- The product of a tile. -/
theorem pay1_at (a : Vec Ideal S4096x1024 .bf16) (b : Vec Ideal S4096x1024 .bf16) (x : Fin 1024) (y : Fin 1024) :
    k0_pay1 (F := Ideal) a b (ix2 x y) = ∑ k : Fin 4096, a (ix2 k x) * b (ix2 k y) := by
  pointwise [k0_pay1]

/-- The product's left operand, as the host code prepares it. -/
def h_l (a : (⟨S4096x2048, .f32⟩ : BufTy).Contents (Elt Ideal)) : (⟨S4096x2048, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 a bitsLt_bf16_f32

theorem h_l_at (a : (⟨S4096x2048, .f32⟩ : BufTy).Contents (Elt Ideal)) (x : Fin 2048) (k : Fin 4096) : h_l a (ix2 k x) = a (ix2 k x) := by
  pointwise [h_l]

theorem h_r_at (a : (⟨S4096x4096, .f32⟩ : BufTy).Contents (Elt Ideal)) (y : Fin 4096) (k : Fin 4096) : h_r a (ix2 k y) = a (ix2 k y) := by
  pointwise [h_r]

/-- Row `y 0`, column `y 1` of the product. -/
def gW (a : (⟨S4096x2048, .f32⟩ : BufTy).Contents (Elt Ideal)) (b : (⟨S4096x4096, .f32⟩ : BufTy).Contents (Elt Ideal)) : (⟨S2048x4096, .bf16⟩ : BufTy).Contents (Elt Ideal) :=
  fun y => ∑ k : Fin 4096, a (ix2 k (y 0)) * b (ix2 k (y 1))

/-- The host code after the product. -/
def t_o (y : (⟨S2048x4096, .bf16⟩ : BufTy).Contents (Elt Ideal)) : (⟨S2048x4096, .f32⟩ : BufTy).Contents (Elt Ideal) :=
  extf (F := Ideal) .f32 y bitsLt_bf16_f32

theorem t_o_at (y : (⟨S2048x4096, .bf16⟩ : BufTy).Contents (Elt Ideal)) (a : Fin 2048) (b : Fin 4096) : t_o y (ix2 a b) = y (ix2 a b) := by
  pointwise [t_o]

variable (m : (ℓ : Loc nD τ sig) → Buf (Elt Ideal) ℓ) (c : Dev nD)

set_option maxHeartbeats 4000000

theorem V_l : V m c main_v0 = h_l (m ((c : Thread nD τ).loc main_arg0)) := by
  simp only [V, V0, hostOps0, List.flatten_cons, List.flatten_nil, List.append_nil, List.cons_append, List.nil_append]
  after_results <;> rfl

theorem V_r : V m c main_v1 = h_r (m ((c : Thread nD τ).loc main_arg2)) := by
  simp only [V, V0, hostOps0, List.flatten_cons, List.flatten_nil, List.append_nil, List.cons_append, List.nil_append]
  after_results <;> rfl

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 2) (j : Fin 4) (ht : t.val = 4 * i.val + j.val) (x : Fin 1024) (k : Fin 4096) :
    ((cfg0.win 0).blk t).view.read (Elt Ideal) A (ix2 k x) = A (ix2 k ⟨i.val * 1024 + x.val, by omega⟩) := by
  blk_ext [idx0 t]

theorem rd1 (A : Buf (Elt Ideal) ((c : Thread nD τ).loc main_v1)) (t : Fin cfg0.N) (i : Fin 2) (j : Fin 4) (ht : t.val = 4 * i.val + j.val) (y : Fin 1024) (k : Fin 4096) :
    ((cfg0.win 1).blk t).view.read (Elt Ideal) A (ix2 k y) = A (ix2 k ⟨j.val * 1024 + y.val, by omega⟩) := by
  blk_ext [idx1 t]

theorem emb2 (t : Fin cfg0.N) (i : Fin 2) (j : Fin 4) (ht : t.val = 4 * i.val + j.val) (x : Fin 1024) (y : Fin 1024) :
    (((cfg0.win 2).blk t).view.emb (ix2 x y) : S2048x4096.Idx) = ix2 ⟨i.val * 1024 + x.val, by omega⟩ ⟨j.val * 1024 + y.val, by omega⟩ := by
  blk_ext [idx2 t]

theorem pt (t : Fin cfg0.N) : t.val < 8 := lt_of_lt_of_eq t.isLt (show cfg0.N = 8 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 2) (j : Fin 4) (ht : t.val = 4 * i.val + j.val) (x : Fin 1024) (y : Fin 1024) :
    k0_pay1 (F := Ideal) (iblk m c 0 t) (iblk m c 1 t) (ix2 x y) = gW (m ((c : Thread nD τ).loc main_arg0)) (m ((c : Thread nD τ).loc main_arg2)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg0)) (m ((c : Thread nD τ).loc main_arg2)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 2).val + (⟨t.val % 4, by omega⟩ : Fin 4).val := by
      show t.val = 4 * (t.val / 4) + t.val % 4; omega
    rw [out_eq, tile_at m c t _ _ ht a b]
    exact (congrArg (gW (m ((c : Thread nD τ).loc main_arg0)) (m ((c : Thread nD τ).loc main_arg2))) (emb2 t _ _ ht a b)).symm

/-- The kernel's result is the reference's. -/
theorem same (a : (⟨S4096x2048, .f32⟩ : BufTy).Contents (Elt Ideal)) (b : (⟨S4096x4096, .f32⟩ : BufTy).Contents (Elt Ideal)) :
    t_o (gW a b) = Cert.DwoARefIdeal.Read.val_main_v2 (F := Ideal) a b := by
  funext y
  obtain ⟨x, z, rfl⟩ : ∃ (x : Fin 2048) (z : Fin 4096), y = ix2 x z := ⟨y 0, y 1, by funext d; fin_cases d <;> rfl⟩
  rw [t_o_at, Cert.DwoARefIdeal.Read.val_main_v2_apply, Cert.DwoARefIdeal.Read.val_main_v1_apply]
  refine Finset.sum_congr rfl fun k _ => ?_
  refine (mul_comm _ _).trans ?_
  refine congrArg₂ (· * ·) (congrArg b ?_) (congrArg a ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v3)
          = Cert.DwoARefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_o (arr2 m c)).trans (same _ _)), (h c).2⟩) (Cert.DwoAIdeal.Value.run m ρ)

end Cert.DwoAIdeal.Val

namespace Cert.DwoARefIdeal.Val

open Idealize.ShloMosaic Idealize.ShloMosaic.TcCoe Idealize.SL Idealize.SL.Sem Cert.DwoARefIdeal.Gen Cert.DwoARefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.DwoARefIdeal.Value.run m ρ)

end Cert.DwoARefIdeal.Val

namespace Cert.Proof

open Idealize.ShloMosaic Idealize.SL Idealize.SL.Sem

/-- The kernel's product is the reference's, from any arguments. -/
theorem dwoa_algebraic : Cert.algebraic_DwoAIdeal_DwoARefIdeal := by
  intro m g m' g' _ hagree
  refine ⟨fun c => Cert.DwoARefIdeal.Read.val_main_v2 (F := Ideal) (m ((c.tc : Thread Cert.DwoAIdeal.nD Cert.DwoAIdeal.τ).loc Cert.DwoAIdeal.main_arg0)) (m ((c.tc : Thread Cert.DwoAIdeal.nD Cert.DwoAIdeal.τ).loc Cert.DwoAIdeal.main_arg2)),
    Cert.DwoAIdeal.Val.ends m g, ?_⟩
  refine (θ_run _ _ _).mono (fun r h c => ⟨(h c).1.trans ((Cert.DwoARefIdeal.Read.val_main_v2_eq _ _).trans ?_), (h c).2⟩) (Cert.DwoARefIdeal.Value.run m' g')
  exact congrArg₂ (fun a b => Cert.DwoARefIdeal.Read.val_main_v2 (F := Ideal) a b) (hagree c).1 (hagree c).2.2

end Cert.Proof

end
-- ==== Proof.DwoGEnds.lean ====
/- The gradient of the output product's weights, the rows of the second mixer: what a tile is, what the array holds, and what the two programs return.

   The grid is (row tile i, column tile j), one step each: point `t = 4 i + j` computes its tile whole. -/
module

public import proofs.«01_k».proof.Defs
public import proofs.«01_k».proof.Proof.Gen.DwoGIdeal.Run
public import proofs.«01_k».proof.Proof.Gen.DwoGRefIdeal.Run
public import proofs.«01_k».proof.Proof.Gen.DwoGRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DwoGIdeal.Val

open Idealize.ShloMosaic Idealize.ShloMosaic.TcCoe Idealize.SL Idealize.SL.Sem Cert.DwoGIdeal.Gen

/-- The product of a tile. -/
theorem pay1_at (a : Vec Ideal S4096x1024 .bf16) (b : Vec Ideal S4096x1024 .bf16) (x : Fin 1024) (y : Fin 1024) :
    k0_pay1 (F := Ideal) a b (ix2 x y) = ∑ k : Fin 4096, a (ix2 k x) * b (ix2 k y) := by
  pointwise [k0_pay1]

/-- The product's left operand, as the host code prepares it. -/
def h_l (a : (⟨S4096x2048, .f32⟩ : BufTy).Contents (Elt Ideal)) : (⟨S4096x2048, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 a bitsLt_bf16_f32

theorem h_l_at (a : (⟨S4096x2048, .f32⟩ : BufTy).Contents (Elt Ideal)) (x : Fin 2048) (k : Fin 4096) : h_l a (ix2 k x) = a (ix2 k x) := by
  pointwise [h_l]

theorem h_r_at (a : (⟨S4096x4096, .f32⟩ : BufTy).Contents (Elt Ideal)) (y : Fin 4096) (k : Fin 4096) : h_r a (ix2 k y) = a (ix2 k y) := by
  pointwise [h_r]

/-- Row `y 0`, column `y 1` of the product. -/
def gW (a : (⟨S4096x2048, .f32⟩ : BufTy).Contents (Elt Ideal)) (b : (⟨S4096x4096, .f32⟩ : BufTy).Contents (Elt Ideal)) : (⟨S2048x4096, .bf16⟩ : BufTy).Contents (Elt Ideal) :=
  fun y => ∑ k : Fin 4096, a (ix2 k (y 0)) * b (ix2 k (y 1))

/-- The host code after the product. -/
def t_o (y : (⟨S2048x4096, .bf16⟩ : BufTy).Contents (Elt Ideal)) : (⟨S2048x4096, .f32⟩ : BufTy).Contents (Elt Ideal) :=
  extf (F := Ideal) .f32 y bitsLt_bf16_f32

theorem t_o_at (y : (⟨S2048x4096, .bf16⟩ : BufTy).Contents (Elt Ideal)) (a : Fin 2048) (b : Fin 4096) : t_o y (ix2 a b) = y (ix2 a b) := by
  pointwise [t_o]

variable (m : (ℓ : Loc nD τ sig) → Buf (Elt Ideal) ℓ) (c : Dev nD)

set_option maxHeartbeats 4000000

theorem V_l : V m c main_v0 = h_l (m ((c : Thread nD τ).loc main_arg0)) := by
  simp only [V, V0, hostOps0, List.flatten_cons, List.flatten_nil, List.append_nil, List.cons_append, List.nil_append]
  after_results <;> rfl

theorem V_r : V m c main_v1 = h_r (m ((c : Thread nD τ).loc main_arg2)) := by
  simp only [V, V0, hostOps0, List.flatten_cons, List.flatten_nil, List.append_nil, List.cons_append, List.nil_append]
  after_results <;> rfl

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 2) (j : Fin 4) (ht : t.val = 4 * i.val + j.val) (x : Fin 1024) (k : Fin 4096) :
    ((cfg0.win 0).blk t).view.read (Elt Ideal) A (ix2 k x) = A (ix2 k ⟨i.val * 1024 + x.val, by omega⟩) := by
  blk_ext [idx0 t]

theorem rd1 (A : Buf (Elt Ideal) ((c : Thread nD τ).loc main_v1)) (t : Fin cfg0.N) (i : Fin 2) (j : Fin 4) (ht : t.val = 4 * i.val + j.val) (y : Fin 1024) (k : Fin 4096) :
    ((cfg0.win 1).blk t).view.read (Elt Ideal) A (ix2 k y) = A (ix2 k ⟨j.val * 1024 + y.val, by omega⟩) := by
  blk_ext [idx1 t]

theorem emb2 (t : Fin cfg0.N) (i : Fin 2) (j : Fin 4) (ht : t.val = 4 * i.val + j.val) (x : Fin 1024) (y : Fin 1024) :
    (((cfg0.win 2).blk t).view.emb (ix2 x y) : S2048x4096.Idx) = ix2 ⟨i.val * 1024 + x.val, by omega⟩ ⟨j.val * 1024 + y.val, by omega⟩ := by
  blk_ext [idx2 t]

theorem pt (t : Fin cfg0.N) : t.val < 8 := lt_of_lt_of_eq t.isLt (show cfg0.N = 8 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 2) (j : Fin 4) (ht : t.val = 4 * i.val + j.val) (x : Fin 1024) (y : Fin 1024) :
    k0_pay1 (F := Ideal) (iblk m c 0 t) (iblk m c 1 t) (ix2 x y) = gW (m ((c : Thread nD τ).loc main_arg0)) (m ((c : Thread nD τ).loc main_arg2)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg0)) (m ((c : Thread nD τ).loc main_arg2)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 2).val + (⟨t.val % 4, by omega⟩ : Fin 4).val := by
      show t.val = 4 * (t.val / 4) + t.val % 4; omega
    rw [out_eq, tile_at m c t _ _ ht a b]
    exact (congrArg (gW (m ((c : Thread nD τ).loc main_arg0)) (m ((c : Thread nD τ).loc main_arg2))) (emb2 t _ _ ht a b)).symm

/-- The kernel's result is the reference's. -/
theorem same (a : (⟨S4096x2048, .f32⟩ : BufTy).Contents (Elt Ideal)) (b : (⟨S4096x4096, .f32⟩ : BufTy).Contents (Elt Ideal)) :
    t_o (gW a b) = Cert.DwoGRefIdeal.Read.val_main_v2 (F := Ideal) a b := by
  funext y
  obtain ⟨x, z, rfl⟩ : ∃ (x : Fin 2048) (z : Fin 4096), y = ix2 x z := ⟨y 0, y 1, by funext d; fin_cases d <;> rfl⟩
  rw [t_o_at, Cert.DwoGRefIdeal.Read.val_main_v2_apply, Cert.DwoGRefIdeal.Read.val_main_v1_apply]
  refine Finset.sum_congr rfl fun k _ => ?_
  refine (mul_comm _ _).trans ?_
  refine congrArg₂ (· * ·) (congrArg b ?_) (congrArg a ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v3)
          = Cert.DwoGRefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_o (arr2 m c)).trans (same _ _)), (h c).2⟩) (Cert.DwoGIdeal.Value.run m ρ)

end Cert.DwoGIdeal.Val

namespace Cert.DwoGRefIdeal.Val

open Idealize.ShloMosaic Idealize.ShloMosaic.TcCoe Idealize.SL Idealize.SL.Sem Cert.DwoGRefIdeal.Gen Cert.DwoGRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.DwoGRefIdeal.Value.run m ρ)

end Cert.DwoGRefIdeal.Val

namespace Cert.Proof

open Idealize.ShloMosaic Idealize.SL Idealize.SL.Sem

/-- The kernel's product is the reference's, from any arguments. -/
theorem dwog_algebraic : Cert.algebraic_DwoGIdeal_DwoGRefIdeal := by
  intro m g m' g' _ hagree
  refine ⟨fun c => Cert.DwoGRefIdeal.Read.val_main_v2 (F := Ideal) (m ((c.tc : Thread Cert.DwoGIdeal.nD Cert.DwoGIdeal.τ).loc Cert.DwoGIdeal.main_arg0)) (m ((c.tc : Thread Cert.DwoGIdeal.nD Cert.DwoGIdeal.τ).loc Cert.DwoGIdeal.main_arg2)),
    Cert.DwoGIdeal.Val.ends m g, ?_⟩
  refine (θ_run _ _ _).mono (fun r h c => ⟨(h c).1.trans ((Cert.DwoGRefIdeal.Read.val_main_v2_eq _ _).trans ?_), (h c).2⟩) (Cert.DwoGRefIdeal.Value.run m' g')
  exact congrArg₂ (fun a b => Cert.DwoGRefIdeal.Read.val_main_v2 (F := Ideal) a b) (hagree c).1 (hagree c).2.2

end Cert.Proof

end
-- ==== Proof.UvEnds.lean ====
/- The columns u and v of the input product: what a tile is, what the array holds, and what the two programs return.

   The grid is (row tile i, column tile j), one step each: point `t = 4 i + j` computes its tile whole. -/
module

public import proofs.«01_k».proof.Defs
public import proofs.«01_k».proof.Proof.Gen.UvIdeal.Value
public import proofs.«01_k».proof.Proof.Gen.UvRefIdeal.Run
public import proofs.«01_k».proof.Proof.Gen.UvRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.UvIdeal.Val

open Idealize.ShloMosaic Idealize.ShloMosaic.TcCoe Idealize.SL Idealize.SL.Sem Cert.UvIdeal.Gen

/-- The product of a tile. -/
theorem pay1_at (a : Vec Ideal S1024x4096 .bf16) (b : Vec Ideal S1024x4096 .bf16) (x : Fin 1024) (y : Fin 1024) :
    k0_pay1 (F := Ideal) a b (ix2 x y) = ∑ k : Fin 4096, a (ix2 x k) * b (ix2 y k) := by
  pointwise [k0_pay1]

/-- The product's left operand, as the host code prepares it. -/
def h_l (a : (⟨S4096x4096, .f32⟩ : BufTy).Contents (Elt Ideal)) : (⟨S4096x4096, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 (transpose S4096x4096 [1, 0] a transposes_S4096x4096_S4096x4096_1_0 : (⟨S4096x4096, .f32⟩ : BufTy).Contents (Elt Ideal)) bitsLt_bf16_f32

theorem h_l_at (a : (⟨S4096x4096, .f32⟩ : BufTy).Contents (Elt Ideal)) (x : Fin 4096) (k : Fin 4096) : h_l a (ix2 x k) = a (ix2 x k) := by
  pointwise [h_l]

theorem h_r_at (a : (⟨S4096x4096, .f32⟩ : BufTy).Contents (Elt Ideal)) (y : Fin 4096) (k : Fin 4096) : h_r a (ix2 y k) = a (ix2 k y) := by
  pointwise [h_r]

/-- Row `y 0`, column `y 1` of the product. -/
def gW (a : (⟨S4096x4096, .f32⟩ : BufTy).Contents (Elt Ideal)) (b : (⟨S4096x4096, .f32⟩ : BufTy).Contents (Elt Ideal)) : (⟨S4096x4096, .f32⟩ : BufTy).Contents (Elt Ideal) :=
  fun y => ∑ k : Fin 4096, a (ix2 (y 0) k) * b (ix2 k (y 1))

variable (m : (ℓ : Loc nD τ sig) → Buf (Elt Ideal) ℓ) (c : Dev nD)

set_option maxHeartbeats 4000000

theorem V_l : V m c main_v0 = h_l (m ((c : Thread nD τ).loc main_arg0)) := by
  simp only [V, hostOps0, List.flatten_cons, List.flatten_nil, List.append_nil, List.cons_append, List.nil_append]
  after_results <;> rfl

theorem V_r : V m c main_v2 = h_r (m ((c : Thread nD τ).loc main_arg1)) := by
  simp only [V, hostOps0, List.flatten_cons, List.flatten_nil, List.append_nil, List.cons_append, List.nil_append]
  after_results <;> rfl

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 4) (j : Fin 4) (ht : t.val = 4 * i.val + j.val) (x : Fin 1024) (k : Fin 4096) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v2)) (t : Fin cfg0.N) (i : Fin 4) (j : Fin 4) (ht : t.val = 4 * i.val + j.val) (y : Fin 1024) (k : Fin 4096) :
    ((cfg0.win 1).blk t).view.read (Elt Ideal) A (ix2 y k) = A (ix2 ⟨j.val * 1024 + y.val, by omega⟩ k) := by
  blk_ext [idx1 t]

theorem emb2 (t : Fin cfg0.N) (i : Fin 4) (j : Fin 4) (ht : t.val = 4 * i.val + j.val) (x : Fin 1024) (y : Fin 1024) :
    (((cfg0.win 2).blk t).view.emb (ix2 x y) : S4096x4096.Idx) = ix2 ⟨i.val * 1024 + x.val, by omega⟩ ⟨j.val * 1024 + y.val, by omega⟩ := by
  blk_ext [idx2 t]

theorem pt (t : Fin cfg0.N) : t.val < 16 := lt_of_lt_of_eq t.isLt (show cfg0.N = 16 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 4) (j : Fin 4) (ht : t.val = 4 * i.val + j.val) (x : Fin 1024) (y : Fin 1024) :
    k0_pay1 (F := Ideal) (iblk m c 0 t) (iblk m c 1 t) (ix2 x y) = gW (m ((c : Thread nD τ).loc main_arg0)) (m ((c : Thread nD τ).loc main_arg1)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v2) t i j ht y k).trans ((congrFun (V_r m c) _).trans (h_r_at _ _ _))

/-- The array the product leaves. -/
theorem arr2 : (dats m 0 c).arrAt 2 cfg0.N = gW (m ((c : Thread nD τ).loc main_arg0)) (m ((c : Thread nD τ).loc main_arg1)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 4).val + (⟨t.val % 4, by omega⟩ : Fin 4).val := by
      show t.val = 4 * (t.val / 4) + t.val % 4; omega
    rw [out_eq, tile_at m c t _ _ ht a b]
    exact (congrArg (gW (m ((c : Thread nD τ).loc main_arg0)) (m ((c : Thread nD τ).loc main_arg1))) (emb2 t _ _ ht a b)).symm

/-- The kernel's result is the reference's. -/
theorem same (a : (⟨S4096x4096, .f32⟩ : BufTy).Contents (Elt Ideal)) (b : (⟨S4096x4096, .f32⟩ : BufTy).Contents (Elt Ideal)) :
    gW a b = Cert.UvRefIdeal.Read.val_main_v0 (F := Ideal) a b := by
  funext y
  obtain ⟨x, z, rfl⟩ : ∃ (x : Fin 4096) (z : Fin 4096), y = ix2 x z := ⟨y 0, y 1, by funext d; fin_cases d <;> rfl⟩
  rw [Cert.UvRefIdeal.Read.val_main_v0_apply]
  refine Finset.sum_congr rfl fun k _ => ?_
  refine congrArg₂ (· * ·) (congrArg a ?_) (congrArg b ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v3)
          = Cert.UvRefIdeal.Read.val_main_v0 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((arr2 m c).trans (same _ _)), (h c).2⟩) (Cert.UvIdeal.Value.run_blocks m ρ)

end Cert.UvIdeal.Val

namespace Cert.UvRefIdeal.Val

open Idealize.ShloMosaic Idealize.ShloMosaic.TcCoe Idealize.SL Idealize.SL.Sem Cert.UvRefIdeal.Gen Cert.UvRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.UvRefIdeal.Value.run m ρ)

end Cert.UvRefIdeal.Val

namespace Cert.Proof

open Idealize.ShloMosaic Idealize.SL Idealize.SL.Sem

/-- The kernel's product is the reference's, from any arguments. -/
theorem uv_algebraic : Cert.algebraic_UvIdeal_UvRefIdeal := by
  intro m g m' g' _ hagree
  refine ⟨fun c => Cert.UvRefIdeal.Read.val_main_v0 (F := Ideal) (m ((c.tc : Thread Cert.UvIdeal.nD Cert.UvIdeal.τ).loc Cert.UvIdeal.main_arg0)) (m ((c.tc : Thread Cert.UvIdeal.nD Cert.UvIdeal.τ).loc Cert.UvIdeal.main_arg1)),
    Cert.UvIdeal.Val.ends m g, ?_⟩
  refine (θ_run _ _ _).mono (fun r h c => ⟨(h c).1.trans ((Cert.UvRefIdeal.Read.val_main_v0_eq _ _).trans ?_), (h c).2⟩) (Cert.UvRefIdeal.Value.run m' g')
  exact congrArg₂ (fun a b => Cert.UvRefIdeal.Read.val_main_v0 (F := Ideal) a b) (hagree c).1 (hagree c).2

end Cert.Proof

end
-- ==== Proof.UvWEnds.lean ====
/- The gradient of the input product's weights, the columns u and v: what a tile is, what the array holds, and what the two programs return.

   The grid is (row tile i, column tile j), one step each: point `t = 4 i + j` computes its tile whole. -/
module

public import proofs.«01_k».proof.Defs
public import proofs.«01_k».proof.Proof.Gen.UvWIdeal.Run
public import proofs.«01_k».proof.Proof.Gen.UvWRefIdeal.Run
public import proofs.«01_k».proof.Proof.Gen.UvWRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.UvWIdeal.Val

open Idealize.ShloMosaic Idealize.ShloMosaic.TcCoe Idealize.SL Idealize.SL.Sem Cert.UvWIdeal.Gen

/-- The product of a tile. -/
theorem pay1_at (a : Vec Ideal S4096x1024 .bf16) (b : Vec Ideal S4096x1024 .bf16) (x : Fin 1024) (y : Fin 1024) :
    k0_pay1 (F := Ideal) a b (ix2 x y) = ∑ k : Fin 4096, a (ix2 k x) * b (ix2 k y) := by
  pointwise [k0_pay1]

/-- The product's left operand, as the host code prepares it. -/
def h_l (a : (⟨S4096x4096, .f32⟩ : BufTy).Contents (Elt Ideal)) : (⟨S4096x4096, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 a bitsLt_bf16_f32

theorem h_l_at (a : (⟨S4096x4096, .f32⟩ : BufTy).Contents (Elt Ideal)) (x : Fin 4096) (k : Fin 4096) : h_l a (ix2 k x) = a (ix2 k x) := by
  pointwise [h_l]

theorem h_r_at (a : (⟨S4096x4096, .f32⟩ : BufTy).Contents (Elt Ideal)) (y : Fin 4096) (k : Fin 4096) : h_r a (ix2 k y) = a (ix2 k y) := by
  pointwise [h_r]

/-- Row `y 0`, column `y 1` of the product. -/
def gW (a : (⟨S4096x4096, .f32⟩ : BufTy).Contents (Elt Ideal)) (b : (⟨S4096x4096, .f32⟩ : BufTy).Contents (Elt Ideal)) : (⟨S4096x4096, .bf16⟩ : BufTy).Contents (Elt Ideal) :=
  fun y => ∑ k : Fin 4096, a (ix2 k (y 0)) * b (ix2 k (y 1))

/-- The host code after the product: the transpose. -/
def t_o (y : (⟨S4096x4096, .bf16⟩ : BufTy).Contents (Elt Ideal)) : (⟨S4096x4096, .f32⟩ : BufTy).Contents (Elt Ideal) :=
  transpose S4096x4096 [1, 0] (extf (F := Ideal) .f32 y bitsLt_bf16_f32 : (⟨S4096x4096, .f32⟩ : BufTy).Contents (Elt Ideal)) transposes_S4096x4096_S4096x4096_1_0

theorem t_o_at (y : (⟨S4096x4096, .bf16⟩ : BufTy).Contents (Elt Ideal)) (a : Fin 4096) (b : Fin 4096) : t_o y (ix2 a b) = y (ix2 b a) := by
  pointwise [t_o]

variable (m : (ℓ : Loc nD τ sig) → Buf (Elt Ideal) ℓ) (c : Dev nD)

set_option maxHeartbeats 4000000

theorem V_l : V m c main_v0 = h_l (m ((c : Thread nD τ).loc main_arg2)) := by
  simp only [V, V0, hostOps0, List.flatten_cons, List.flatten_nil, List.append_nil, List.cons_append, List.nil_append]
  after_results <;> rfl

theorem V_r : V m c main_v1 = h_r (m ((c : Thread nD τ).loc main_arg0)) := by
  simp only [V, V0, hostOps0, List.flatten_cons, List.flatten_nil, List.append_nil, List.cons_append, List.nil_append]
  after_results <;> rfl

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 4) (j : Fin 4) (ht : t.val = 4 * i.val + j.val) (x : Fin 1024) (k : Fin 4096) :
    ((cfg0.win 0).blk t).view.read (Elt Ideal) A (ix2 k x) = A (ix2 k ⟨i.val * 1024 + x.val, by omega⟩) := by
  blk_ext [idx0 t]

theorem rd1 (A : Buf (Elt Ideal) ((c : Thread nD τ).loc main_v1)) (t : Fin cfg0.N) (i : Fin 4) (j : Fin 4) (ht : t.val = 4 * i.val + j.val) (y : Fin 1024) (k : Fin 4096) :
    ((cfg0.win 1).blk t).view.read (Elt Ideal) A (ix2 k y) = A (ix2 k ⟨j.val * 1024 + y.val, by omega⟩) := by
  blk_ext [idx1 t]

theorem emb2 (t : Fin cfg0.N) (i : Fin 4) (j : Fin 4) (ht : t.val = 4 * i.val + j.val) (x : Fin 1024) (y : Fin 1024) :
    (((cfg0.win 2).blk t).view.emb (ix2 x y) : S4096x4096.Idx) = ix2 ⟨i.val * 1024 + x.val, by omega⟩ ⟨j.val * 1024 + y.val, by omega⟩ := by
  blk_ext [idx2 t]

theorem pt (t : Fin cfg0.N) : t.val < 16 := lt_of_lt_of_eq t.isLt (show cfg0.N = 16 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 4) (j : Fin 4) (ht : t.val = 4 * i.val + j.val) (x : Fin 1024) (y : Fin 1024) :
    k0_pay1 (F := Ideal) (iblk m c 0 t) (iblk m c 1 t) (ix2 x y) = gW (m ((c : Thread nD τ).loc main_arg2)) (m ((c : Thread nD τ).loc main_arg0)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg2)) (m ((c : Thread nD τ).loc main_arg0)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 4).val + (⟨t.val % 4, by omega⟩ : Fin 4).val := by
      show t.val = 4 * (t.val / 4) + t.val % 4; omega
    rw [out_eq, tile_at m c t _ _ ht a b]
    exact (congrArg (gW (m ((c : Thread nD τ).loc main_arg2)) (m ((c : Thread nD τ).loc main_arg0))) (emb2 t _ _ ht a b)).symm

/-- The kernel's result is the reference's. -/
theorem same (a : (⟨S4096x4096, .f32⟩ : BufTy).Contents (Elt Ideal)) (b : (⟨S4096x4096, .f32⟩ : BufTy).Contents (Elt Ideal)) :
    t_o (gW a b) = Cert.UvWRefIdeal.Read.val_main_v2 (F := Ideal) b a := by
  funext y
  obtain ⟨x, z, rfl⟩ : ∃ (x : Fin 4096) (z : Fin 4096), y = ix2 x z := ⟨y 0, y 1, by funext d; fin_cases d <;> rfl⟩
  rw [t_o_at, Cert.UvWRefIdeal.Read.val_main_v2_apply, Cert.UvWRefIdeal.Read.val_main_v1_apply]
  refine Finset.sum_congr rfl fun k _ => ?_
  refine congrArg₂ (· * ·) (congrArg a ?_) (congrArg b ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v4)
          = Cert.UvWRefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_o (arr2 m c)).trans (same _ _)), (h c).2⟩) (Cert.UvWIdeal.Value.run m ρ)

end Cert.UvWIdeal.Val

namespace Cert.UvWRefIdeal.Val

open Idealize.ShloMosaic Idealize.ShloMosaic.TcCoe Idealize.SL Idealize.SL.Sem Cert.UvWRefIdeal.Gen Cert.UvWRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.UvWRefIdeal.Value.run m ρ)

end Cert.UvWRefIdeal.Val

namespace Cert.Proof

open Idealize.ShloMosaic Idealize.SL Idealize.SL.Sem

/-- The kernel's product is the reference's, from any arguments. -/
theorem uvw_algebraic : Cert.algebraic_UvWIdeal_UvWRefIdeal := by
  intro m g m' g' _ hagree
  refine ⟨fun c => Cert.UvWRefIdeal.Read.val_main_v2 (F := Ideal) (m ((c.tc : Thread Cert.UvWIdeal.nD Cert.UvWIdeal.τ).loc Cert.UvWIdeal.main_arg0)) (m ((c.tc : Thread Cert.UvWIdeal.nD Cert.UvWIdeal.τ).loc Cert.UvWIdeal.main_arg2)),
    Cert.UvWIdeal.Val.ends m g, ?_⟩
  refine (θ_run _ _ _).mono (fun r h c => ⟨(h c).1.trans ((Cert.UvWRefIdeal.Read.val_main_v2_eq _ _).trans ?_), (h c).2⟩) (Cert.UvWRefIdeal.Value.run m' g')
  exact congrArg₂ (fun a b => Cert.UvWRefIdeal.Read.val_main_v2 (F := Ideal) a b) (hagree c).1 (hagree c).2.2

end Cert.Proof

end
-- ==== Proof.UvXEnds.lean ====
/- The gradient of the input product's input, the columns u and v: what a tile is, what the array holds, and what the two programs return.

   The grid is (row tile i, column tile j), one step each: point `t = 4 i + j` computes its tile whole. -/
module

public import proofs.«01_k».proof.Defs
public import proofs.«01_k».proof.Proof.Gen.UvXIdeal.Value
public import proofs.«01_k».proof.Proof.Gen.UvXRefIdeal.Run
public import proofs.«01_k».proof.Proof.Gen.UvXRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.UvXIdeal.Val

open Idealize.ShloMosaic Idealize.ShloMosaic.TcCoe Idealize.SL Idealize.SL.Sem Cert.UvXIdeal.Gen

/-- The product of a tile. -/
theorem pay1_at (a : Vec Ideal S1024x4096 .bf16) (b : Vec Ideal S4096x1024 .bf16) (x : Fin 1024) (y : Fin 1024) :
    k0_pay1 (F := Ideal) a b (ix2 x y) = ∑ k : Fin 4096, a (ix2 x k) * b (ix2 k y) := by
  pointwise [k0_pay1]

/-- The product's left operand, as the host code prepares it. -/
def h_l (a : (⟨S4096x4096, .f32⟩ : BufTy).Contents (Elt Ideal)) : (⟨S4096x4096, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 (transpose S4096x4096 [1, 0] a transposes_S4096x4096_S4096x4096_1_0 : (⟨S4096x4096, .f32⟩ : BufTy).Contents (Elt Ideal)) bitsLt_bf16_f32

theorem h_l_at (a : (⟨S4096x4096, .f32⟩ : BufTy).Contents (Elt Ideal)) (x : Fin 4096) (k : Fin 4096) : h_l a (ix2 x k) = a (ix2 x k) := by
  pointwise [h_l]

theorem h_r_at (a : (⟨S4096x4096, .f32⟩ : BufTy).Contents (Elt Ideal)) (y : Fin 4096) (k : Fin 4096) : h_r a (ix2 k y) = a (ix2 y k) := by
  pointwise [h_r]

/-- Row `y 0`, column `y 1` of the product. -/
def gW (a : (⟨S4096x4096, .f32⟩ : BufTy).Contents (Elt Ideal)) (b : (⟨S4096x4096, .f32⟩ : BufTy).Contents (Elt Ideal)) : (⟨S4096x4096, .f32⟩ : BufTy).Contents (Elt Ideal) :=
  fun y => ∑ k : Fin 4096, a (ix2 (y 0) k) * b (ix2 (y 1) k)

variable (m : (ℓ : Loc nD τ sig) → Buf (Elt Ideal) ℓ) (c : Dev nD)

set_option maxHeartbeats 4000000

theorem V_l : V m c main_v0 = h_l (m ((c : Thread nD τ).loc main_arg2)) := by
  simp only [V, hostOps0, List.flatten_cons, List.flatten_nil, List.append_nil, List.cons_append, List.nil_append]
  after_results <;> rfl

theorem V_r : V m c main_v2 = h_r (m ((c : Thread nD τ).loc main_arg1)) := by
  simp only [V, hostOps0, List.flatten_cons, List.flatten_nil, List.append_nil, List.cons_append, List.nil_append]
  after_results <;> rfl

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 4) (j : Fin 4) (ht : t.val = 4 * i.val + j.val) (x : Fin 1024) (k : Fin 4096) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v2)) (t : Fin cfg0.N) (i : Fin 4) (j : Fin 4) (ht : t.val = 4 * i.val + j.val) (y : Fin 1024) (k : Fin 4096) :
    ((cfg0.win 1).blk t).view.read (Elt Ideal) A (ix2 k y) = A (ix2 k ⟨j.val * 1024 + y.val, by omega⟩) := by
  blk_ext [idx1 t]

theorem emb2 (t : Fin cfg0.N) (i : Fin 4) (j : Fin 4) (ht : t.val = 4 * i.val + j.val) (x : Fin 1024) (y : Fin 1024) :
    (((cfg0.win 2).blk t).view.emb (ix2 x y) : S4096x4096.Idx) = ix2 ⟨i.val * 1024 + x.val, by omega⟩ ⟨j.val * 1024 + y.val, by omega⟩ := by
  blk_ext [idx2 t]

theorem pt (t : Fin cfg0.N) : t.val < 16 := lt_of_lt_of_eq t.isLt (show cfg0.N = 16 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 4) (j : Fin 4) (ht : t.val = 4 * i.val + j.val) (x : Fin 1024) (y : Fin 1024) :
    k0_pay1 (F := Ideal) (iblk m c 0 t) (iblk m c 1 t) (ix2 x y) = gW (m ((c : Thread nD τ).loc main_arg2)) (m ((c : Thread nD τ).loc main_arg1)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v2) t i j ht y k).trans ((congrFun (V_r m c) _).trans (h_r_at _ _ _))

/-- The array the product leaves. -/
theorem arr2 : (dats m 0 c).arrAt 2 cfg0.N = gW (m ((c : Thread nD τ).loc main_arg2)) (m ((c : Thread nD τ).loc main_arg1)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 4).val + (⟨t.val % 4, by omega⟩ : Fin 4).val := by
      show t.val = 4 * (t.val / 4) + t.val % 4; omega
    rw [out_eq, tile_at m c t _ _ ht a b]
    exact (congrArg (gW (m ((c : Thread nD τ).loc main_arg2)) (m ((c : Thread nD τ).loc main_arg1))) (emb2 t _ _ ht a b)).symm

/-- The kernel's result is the reference's. -/
theorem same (a : (⟨S4096x4096, .f32⟩ : BufTy).Contents (Elt Ideal)) (b : (⟨S4096x4096, .f32⟩ : BufTy).Contents (Elt Ideal)) :
    gW a b = Cert.UvXRefIdeal.Read.val_main_v1 (F := Ideal) b a := by
  funext y
  obtain ⟨x, z, rfl⟩ : ∃ (x : Fin 4096) (z : Fin 4096), y = ix2 x z := ⟨y 0, y 1, by funext d; fin_cases d <;> rfl⟩
  rw [Cert.UvXRefIdeal.Read.val_main_v1_apply]
  refine Finset.sum_congr rfl fun k _ => ?_
  refine congrArg₂ (· * ·) (congrArg a ?_) (congrArg b ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v3)
          = Cert.UvXRefIdeal.Read.val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((arr2 m c).trans (same _ _)), (h c).2⟩) (Cert.UvXIdeal.Value.run_blocks m ρ)

end Cert.UvXIdeal.Val

namespace Cert.UvXRefIdeal.Val

open Idealize.ShloMosaic Idealize.ShloMosaic.TcCoe Idealize.SL Idealize.SL.Sem Cert.UvXRefIdeal.Gen Cert.UvXRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.UvXRefIdeal.Value.run m ρ)

end Cert.UvXRefIdeal.Val

namespace Cert.Proof

open Idealize.ShloMosaic Idealize.SL Idealize.SL.Sem

/-- The kernel's product is the reference's, from any arguments. -/
theorem uvx_algebraic : Cert.algebraic_UvXIdeal_UvXRefIdeal := by
  intro m g m' g' _ hagree
  refine ⟨fun c => Cert.UvXRefIdeal.Read.val_main_v1 (F := Ideal) (m ((c.tc : Thread Cert.UvXIdeal.nD Cert.UvXIdeal.τ).loc Cert.UvXIdeal.main_arg1)) (m ((c.tc : Thread Cert.UvXIdeal.nD Cert.UvXIdeal.τ).loc Cert.UvXIdeal.main_arg2)),
    Cert.UvXIdeal.Val.ends m g, ?_⟩
  refine (θ_run _ _ _).mono (fun r h c => ⟨(h c).1.trans ((Cert.UvXRefIdeal.Read.val_main_v1_eq _ _).trans ?_), (h c).2⟩) (Cert.UvXRefIdeal.Value.run m' g')
  exact congrArg₂ (fun a b => Cert.UvXRefIdeal.Read.val_main_v1 (F := Ideal) a b) (hagree c).2.1 (hagree c).2.2

end Cert.Proof

end
-- ==== Proof.KvEnds.lean ====
/- The keys and values from the compressed ones: what a tile is, what the array holds, and what the two programs return.

   The grid is (row tile i, column tile j), one step each: point `t = 4 i + j` computes its tile whole. -/
module

public import proofs.«01_k».proof.Defs
public import proofs.«01_k».proof.Proof.Gen.KvIdeal.Value
public import proofs.«01_k».proof.Proof.Gen.KvRefIdeal.Run
public import proofs.«01_k».proof.Proof.Gen.KvRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KvIdeal.Val

open Idealize.ShloMosaic Idealize.ShloMosaic.TcCoe Idealize.SL Idealize.SL.Sem Cert.KvIdeal.Gen

/-- The product of a tile. -/
theorem pay1_at (a : Vec Ideal S1024x512 .bf16) (b : Vec Ideal S512x1024 .bf16) (x : Fin 1024) (y : Fin 1024) :
    k0_pay1 (F := Ideal) a b (ix2 x y) = ∑ k : Fin 512, a (ix2 x k) * b (ix2 k y) := by
  pointwise [k0_pay1]

/-- The product's left operand, as the host code prepares it. -/
def h_l (a : (⟨S4096x512, .f32⟩ : BufTy).Contents (Elt Ideal)) : (⟨S4096x512, .bf16⟩ : BufTy).Contents (Elt Ideal) :=
  truncf (F := Ideal) .bf16 a bitsLt_bf16_f32

/-- The product's right operand, as the host code prepares it. -/
def h_r (a : (⟨S512x4096, .f32⟩ : BufTy).Contents (Elt Ideal)) : (⟨S512x4096, .bf16⟩ : BufTy).Contents (Elt Ideal) :=
  truncf (F := Ideal) .bf16 a bitsLt_bf16_f32

theorem h_l_at (a : (⟨S4096x512, .f32⟩ : BufTy).Contents (Elt Ideal)) (x : Fin 4096) (k : Fin 512) : h_l a (ix2 x k) = a (ix2 x k) := by
  pointwise [h_l]

theorem h_r_at (a : (⟨S512x4096, .f32⟩ : BufTy).Contents (Elt Ideal)) (y : Fin 4096) (k : Fin 512) : h_r a (ix2 k y) = a (ix2 k y) := by
  pointwise [h_r]

/-- Row `y 0`, column `y 1` of the product. -/
def gW (a : (⟨S4096x512, .f32⟩ : BufTy).Contents (Elt Ideal)) (b : (⟨S512x4096, .f32⟩ : BufTy).Contents (Elt Ideal)) : (⟨S4096x4096, .f32⟩ : BufTy).Contents (Elt Ideal) :=
  fun y => ∑ k : Fin 512, a (ix2 (y 0) k) * b (ix2 k (y 1))

variable (m : (ℓ : Loc nD τ sig) → Buf (Elt Ideal) ℓ) (c : Dev nD)

set_option maxHeartbeats 4000000

theorem V_l : V m c main_v0 = h_l (m ((c : Thread nD τ).loc main_arg0)) := by
  simp only [V, hostOps0, List.flatten_cons, List.flatten_nil, List.append_nil, List.cons_append, List.nil_append]
  after_results <;> rfl

theorem V_r : V m c main_v1 = h_r (m ((c : Thread nD τ).loc main_arg1)) := by
  simp only [V, hostOps0, List.flatten_cons, List.flatten_nil, List.append_nil, List.cons_append, List.nil_append]
  after_results <;> rfl

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 4) (j : Fin 4) (ht : t.val = 4 * i.val + j.val) (x : Fin 1024) (k : Fin 512) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v1)) (t : Fin cfg0.N) (i : Fin 4) (j : Fin 4) (ht : t.val = 4 * i.val + j.val) (y : Fin 1024) (k : Fin 512) :
    ((cfg0.win 1).blk t).view.read (Elt Ideal) A (ix2 k y) = A (ix2 k ⟨j.val * 1024 + y.val, by omega⟩) := by
  blk_ext [idx1 t]

theorem emb2 (t : Fin cfg0.N) (i : Fin 4) (j : Fin 4) (ht : t.val = 4 * i.val + j.val) (x : Fin 1024) (y : Fin 1024) :
    (((cfg0.win 2).blk t).view.emb (ix2 x y) : S4096x4096.Idx) = ix2 ⟨i.val * 1024 + x.val, by omega⟩ ⟨j.val * 1024 + y.val, by omega⟩ := by
  blk_ext [idx2 t]

theorem pt (t : Fin cfg0.N) : t.val < 16 := lt_of_lt_of_eq t.isLt (show cfg0.N = 16 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 4) (j : Fin 4) (ht : t.val = 4 * i.val + j.val) (x : Fin 1024) (y : Fin 1024) :
    k0_pay1 (F := Ideal) (iblk m c 0 t) (iblk m c 1 t) (ix2 x y) = gW (m ((c : Thread nD τ).loc main_arg0)) (m ((c : Thread nD τ).loc main_arg1)) (ix2 ⟨i.val * 1024 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg0)) (m ((c : Thread nD τ).loc main_arg1)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 4).val + (⟨t.val % 4, by omega⟩ : Fin 4).val := by
      show t.val = 4 * (t.val / 4) + t.val % 4; omega
    rw [out_eq, tile_at m c t _ _ ht a b]
    exact (congrArg (gW (m ((c : Thread nD τ).loc main_arg0)) (m ((c : Thread nD τ).loc main_arg1))) (emb2 t _ _ ht a b)).symm

/-- The kernel's result is the reference's. -/
theorem same (a : (⟨S4096x512, .f32⟩ : BufTy).Contents (Elt Ideal)) (b : (⟨S512x4096, .f32⟩ : BufTy).Contents (Elt Ideal)) :
    gW a b = Cert.KvRefIdeal.Read.val_main_v0 (F := Ideal) a b := by
  funext y
  obtain ⟨x, z, rfl⟩ : ∃ (x : Fin 4096) (z : Fin 4096), y = ix2 x z := ⟨y 0, y 1, by funext d; fin_cases d <;> rfl⟩
  rw [Cert.KvRefIdeal.Read.val_main_v0_apply]
  refine Finset.sum_congr rfl fun k _ => ?_
  refine congrArg₂ (· * ·) (congrArg a ?_) (congrArg b ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v2)
          = Cert.KvRefIdeal.Read.val_main_v0 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((arr2 m c).trans (same _ _)), (h c).2⟩) (Cert.KvIdeal.Value.run_blocks m ρ)

end Cert.KvIdeal.Val

namespace Cert.KvRefIdeal.Val

open Idealize.ShloMosaic Idealize.ShloMosaic.TcCoe Idealize.SL Idealize.SL.Sem Cert.KvRefIdeal.Gen Cert.KvRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.KvRefIdeal.Value.run m ρ)

end Cert.KvRefIdeal.Val

namespace Cert.Proof

open Idealize.ShloMosaic Idealize.SL Idealize.SL.Sem

/-- The kernel's product is the reference's, from any arguments. -/
theorem kv_algebraic : Cert.algebraic_KvIdeal_KvRefIdeal := by
  intro m g m' g' _ hagree
  refine ⟨fun c => Cert.KvRefIdeal.Read.val_main_v0 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)),
    Cert.KvIdeal.Val.ends m g, ?_⟩
  refine (θ_run _ _ _).mono (fun r h c => ⟨(h c).1.trans ((Cert.KvRefIdeal.Read.val_main_v0_eq _ _).trans ?_), (h c).2⟩) (Cert.KvRefIdeal.Value.run m' g')
  exact congrArg₂ (fun a b => Cert.KvRefIdeal.Read.val_main_v0 (F := Ideal) a b) (hagree c).1 (hagree c).2

end Cert.Proof

end
-- ==== Proof.KvXEnds.lean ====
/- The gradient of the compressed keys and values: what a tile is, what the array holds, and what the two programs return.

   The grid is (row tile i, column tile j), one step each: point `t = 1 i + j` computes its tile whole. -/
module

public import proofs.«01_k».proof.Defs
public import proofs.«01_k».proof.Proof.Gen.KvXIdeal.Value
public import proofs.«01_k».proof.Proof.Gen.KvXRefIdeal.Run
public import proofs.«01_k».proof.Proof.Gen.KvXRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KvXIdeal.Val

open Idealize.ShloMosaic Idealize.ShloMosaic.TcCoe Idealize.SL Idealize.SL.Sem Cert.KvXIdeal.Gen

/-- The product of a tile. -/
theorem pay1_at (a : Vec Ideal S1024x4096 .bf16) (b : Vec Ideal S512x4096 .bf16) (x : Fin 1024) (y : Fin 512) :
    k0_pay1 (F := Ideal) a b (ix2 x y) = ∑ k : Fin 4096, a (ix2 x k) * b (ix2 y k) := by
  pointwise [k0_pay1]

/-- The product's left operand, as the host code prepares it. -/
def h_l (a : (⟨S4096x4096, .f32⟩ : BufTy).Contents (Elt Ideal)) : (⟨S4096x4096, .bf16⟩ : BufTy).Contents (Elt Ideal) :=
  truncf (F := Ideal) .bf16 a bitsLt_bf16_f32

/-- The product's right operand, as the host code prepares it. -/
def h_r (a : (⟨S512x4096, .f32⟩ : BufTy).Contents (Elt Ideal)) : (⟨S512x4096, .bf16⟩ : BufTy).Contents (Elt Ideal) :=
  truncf (F := Ideal) .bf16 a bitsLt_bf16_f32

theorem h_l_at (a : (⟨S4096x4096, .f32⟩ : BufTy).Contents (Elt Ideal)) (x : Fin 4096) (k : Fin 4096) : h_l a (ix2 x k) = a (ix2 x k) := by
  pointwise [h_l]

theorem h_r_at (a : (⟨S512x4096, .f32⟩ : BufTy).Contents (Elt Ideal)) (y : Fin 512) (k : Fin 4096) : h_r a (ix2 y k) = a (ix2 y k) := by
  pointwise [h_r]

/-- Row `y 0`, column `y 1` of the product. -/
def gW (a : (⟨S4096x4096, .f32⟩ : BufTy).Contents (Elt Ideal)) (b : (⟨S512x4096, .f32⟩ : BufTy).Contents (Elt Ideal)) : (⟨S4096x512, .f32⟩ : BufTy).Contents (Elt Ideal) :=
  fun y => ∑ k : Fin 4096, a (ix2 (y 0) k) * b (ix2 (y 1) k)

variable (m : (ℓ : Loc nD τ sig) → Buf (Elt Ideal) ℓ) (c : Dev nD)

set_option maxHeartbeats 4000000

theorem V_l : V m c main_v0 = h_l (m ((c : Thread nD τ).loc main_arg2)) := by
  simp only [V, hostOps0, List.flatten_cons, List.flatten_nil, List.append_nil, List.cons_append, List.nil_append]
  after_results <;> rfl

theorem V_r : V m c main_v1 = h_r (m ((c : Thread nD τ).loc main_arg1)) := by
  simp only [V, hostOps0, List.flatten_cons, List.flatten_nil, List.append_nil, List.cons_append, List.nil_append]
  after_results <;> rfl

theorem idx0 : ∀ t : Fin cfg0.N, win0_0.index t = ![t.val / 1, 0] := by decide +kernel
theorem idx1 : ∀ t : Fin cfg0.N, win0_1.index t = ![t.val % 1, 0] := by decide +kernel
theorem idx2 : ∀ t : Fin cfg0.N, win0_2.index t = ![t.val / 1, t.val % 1] := by decide +kernel

theorem rd0 (A : Buf (Elt Ideal) ((c : Thread nD τ).loc main_v0)) (t : Fin cfg0.N) (i : Fin 4) (j : Fin 1) (ht : t.val = 1 * i.val + j.val) (x : Fin 1024) (k : Fin 4096) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v1)) (t : Fin cfg0.N) (i : Fin 4) (j : Fin 1) (ht : t.val = 1 * i.val + j.val) (y : Fin 512) (k : Fin 4096) :
    ((cfg0.win 1).blk t).view.read (Elt Ideal) A (ix2 y k) = A (ix2 ⟨j.val * 512 + y.val, by omega⟩ k) := by
  blk_ext [idx1 t]

theorem emb2 (t : Fin cfg0.N) (i : Fin 4) (j : Fin 1) (ht : t.val = 1 * i.val + j.val) (x : Fin 1024) (y : Fin 512) :
    (((cfg0.win 2).blk t).view.emb (ix2 x y) : S4096x512.Idx) = ix2 ⟨i.val * 1024 + x.val, by omega⟩ ⟨j.val * 512 + y.val, by omega⟩ := by
  blk_ext [idx2 t]

theorem pt (t : Fin cfg0.N) : t.val < 4 := lt_of_lt_of_eq t.isLt (show cfg0.N = 4 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 4) (j : Fin 1) (ht : t.val = 1 * i.val + j.val) (x : Fin 1024) (y : Fin 512) :
    k0_pay1 (F := Ideal) (iblk m c 0 t) (iblk m c 1 t) (ix2 x y) = gW (m ((c : Thread nD τ).loc main_arg2)) (m ((c : Thread nD τ).loc main_arg1)) (ix2 ⟨i.val * 1024 + x.val, by omega⟩ ⟨j.val * 512 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg2)) (m ((c : Thread nD τ).loc main_arg1)) :=
  (dats m 0 c).arrAt_eq_of_covers 2 _ (by decide +kernel) fun t hf y => by
    blk_simp
    rw [after0_2]
    have hN := pt t
    obtain ⟨a, b, rfl⟩ : ∃ (a : Fin 1024) (b : Fin 512), y = ix2 a b := ⟨y 0, y 1, funext fun k => match k with | ⟨0, _⟩ => rfl | ⟨1, _⟩ => rfl⟩
    have ht : t.val = 1 * (⟨t.val / 1, by omega⟩ : Fin 4).val + (⟨t.val % 1, by omega⟩ : Fin 1).val := by
      show t.val = 1 * (t.val / 1) + t.val % 1; omega
    rw [out_eq, tile_at m c t _ _ ht a b]
    exact (congrArg (gW (m ((c : Thread nD τ).loc main_arg2)) (m ((c : Thread nD τ).loc main_arg1))) (emb2 t _ _ ht a b)).symm

/-- The kernel's result is the reference's. -/
theorem same (a : (⟨S4096x4096, .f32⟩ : BufTy).Contents (Elt Ideal)) (b : (⟨S512x4096, .f32⟩ : BufTy).Contents (Elt Ideal)) :
    gW a b = Cert.KvXRefIdeal.Read.val_main_v1 (F := Ideal) b a := by
  funext y
  obtain ⟨x, z, rfl⟩ : ∃ (x : Fin 4096) (z : Fin 512), y = ix2 x z := ⟨y 0, y 1, by funext d; fin_cases d <;> rfl⟩
  rw [Cert.KvXRefIdeal.Read.val_main_v1_apply]
  refine Finset.sum_congr rfl fun k _ => ?_
  refine congrArg₂ (· * ·) (congrArg a ?_) (congrArg b ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v2)
          = Cert.KvXRefIdeal.Read.val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((arr2 m c).trans (same _ _)), (h c).2⟩) (Cert.KvXIdeal.Value.run_blocks m ρ)

end Cert.KvXIdeal.Val

namespace Cert.KvXRefIdeal.Val

open Idealize.ShloMosaic Idealize.ShloMosaic.TcCoe Idealize.SL Idealize.SL.Sem Cert.KvXRefIdeal.Gen Cert.KvXRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.KvXRefIdeal.Value.run m ρ)

end Cert.KvXRefIdeal.Val

namespace Cert.Proof

open Idealize.ShloMosaic Idealize.SL Idealize.SL.Sem

/-- The kernel's product is the reference's, from any arguments. -/
theorem kvx_algebraic : Cert.algebraic_KvXIdeal_KvXRefIdeal := by
  intro m g m' g' _ hagree
  refine ⟨fun c => Cert.KvXRefIdeal.Read.val_main_v1 (F := Ideal) (m ((c.tc : Thread Cert.KvXIdeal.nD Cert.KvXIdeal.τ).loc Cert.KvXIdeal.main_arg1)) (m ((c.tc : Thread Cert.KvXIdeal.nD Cert.KvXIdeal.τ).loc Cert.KvXIdeal.main_arg2)),
    Cert.KvXIdeal.Val.ends m g, ?_⟩
  refine (θ_run _ _ _).mono (fun r h c => ⟨(h c).1.trans ((Cert.KvXRefIdeal.Read.val_main_v1_eq _ _).trans ?_), (h c).2⟩) (Cert.KvXRefIdeal.Value.run m' g')
  exact congrArg₂ (fun a b => Cert.KvXRefIdeal.Read.val_main_v1 (F := Ideal) a b) (hagree c).2.1 (hagree c).2.2

end Cert.Proof

end
-- ==== Proof.KvWEnds.lean ====
/- The gradient of the weights of the keys and values: what a tile is, what the array holds, and what the two programs return.

   The grid is (row tile i, column tile j), one step each: point `t = 4 i + j` computes its tile whole. -/
module

public import proofs.«01_k».proof.Defs
public import proofs.«01_k».proof.Proof.Gen.KvWIdeal.Run
public import proofs.«01_k».proof.Proof.Gen.KvWRefIdeal.Run
public import proofs.«01_k».proof.Proof.Gen.KvWRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KvWIdeal.Val

open Idealize.ShloMosaic Idealize.ShloMosaic.TcCoe Idealize.SL Idealize.SL.Sem Cert.KvWIdeal.Gen

/-- The product of a tile. -/
theorem pay1_at (a : Vec Ideal S4096x512 .bf16) (b : Vec Ideal S4096x1024 .bf16) (x : Fin 512) (y : Fin 1024) :
    k0_pay1 (F := Ideal) a b (ix2 x y) = ∑ k : Fin 4096, a (ix2 k x) * b (ix2 k y) := by
  pointwise [k0_pay1]

/-- The product's left operand, as the host code prepares it. -/
def h_l (a : (⟨S4096x512, .f32⟩ : BufTy).Contents (Elt Ideal)) : (⟨S4096x512, .bf16⟩ : BufTy).Contents (Elt Ideal) :=
  truncf (F := Ideal) .bf16 a bitsLt_bf16_f32

/-- The product's right operand, as the host code prepares it. -/
def h_r (a : (⟨S4096x4096, .f32⟩ : BufTy).Contents (Elt Ideal)) : (⟨S4096x4096, .bf16⟩ : BufTy).Contents (Elt Ideal) :=
  truncf (F := Ideal) .bf16 a bitsLt_bf16_f32

theorem h_l_at (a : (⟨S4096x512, .f32⟩ : BufTy).Contents (Elt Ideal)) (x : Fin 512) (k : Fin 4096) : h_l a (ix2 k x) = a (ix2 k x) := by
  pointwise [h_l]

theorem h_r_at (a : (⟨S4096x4096, .f32⟩ : BufTy).Contents (Elt Ideal)) (y : Fin 4096) (k : Fin 4096) : h_r a (ix2 k y) = a (ix2 k y) := by
  pointwise [h_r]

/-- Row `y 0`, column `y 1` of the product. -/
def gW (a : (⟨S4096x512, .f32⟩ : BufTy).Contents (Elt Ideal)) (b : (⟨S4096x4096, .f32⟩ : BufTy).Contents (Elt Ideal)) : (⟨S512x4096, .bf16⟩ : BufTy).Contents (Elt Ideal) :=
  fun y => ∑ k : Fin 4096, a (ix2 k (y 0)) * b (ix2 k (y 1))

/-- The host code after the product. -/
def t_o (y : (⟨S512x4096, .bf16⟩ : BufTy).Contents (Elt Ideal)) : (⟨S512x4096, .f32⟩ : BufTy).Contents (Elt Ideal) :=
  extf (F := Ideal) .f32 y bitsLt_bf16_f32

theorem t_o_at (y : (⟨S512x4096, .bf16⟩ : BufTy).Contents (Elt Ideal)) (a : Fin 512) (b : Fin 4096) : t_o y (ix2 a b) = y (ix2 a b) := by
  pointwise [t_o]

variable (m : (ℓ : Loc nD τ sig) → Buf (Elt Ideal) ℓ) (c : Dev nD)

set_option maxHeartbeats 4000000

theorem V_l : V m c main_v0 = h_l (m ((c : Thread nD τ).loc main_arg0)) := by
  simp only [V, V0, hostOps0, List.flatten_cons, List.flatten_nil, List.append_nil, List.cons_append, List.nil_append]
  after_results <;> rfl

theorem V_r : V m c main_v1 = h_r (m ((c : Thread nD τ).loc main_arg2)) := by
  simp only [V, V0, hostOps0, List.flatten_cons, List.flatten_nil, List.append_nil, List.cons_append, List.nil_append]
  after_results <;> rfl

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v0)) (t : Fin cfg0.N) (i : Fin 1) (j : Fin 4) (ht : t.val = 4 * i.val + j.val) (x : Fin 512) (k : Fin 4096) :
    ((cfg0.win 0).blk t).view.read (Elt Ideal) A (ix2 k x) = A (ix2 k ⟨i.val * 512 + x.val, by omega⟩) := by
  blk_ext [idx0 t]

theorem rd1 (A : Buf (Elt Ideal) ((c : Thread nD τ).loc main_v1)) (t : Fin cfg0.N) (i : Fin 1) (j : Fin 4) (ht : t.val = 4 * i.val + j.val) (y : Fin 1024) (k : Fin 4096) :
    ((cfg0.win 1).blk t).view.read (Elt Ideal) A (ix2 k y) = A (ix2 k ⟨j.val * 1024 + y.val, by omega⟩) := by
  blk_ext [idx1 t]

theorem emb2 (t : Fin cfg0.N) (i : Fin 1) (j : Fin 4) (ht : t.val = 4 * i.val + j.val) (x : Fin 512) (y : Fin 1024) :
    (((cfg0.win 2).blk t).view.emb (ix2 x y) : S512x4096.Idx) = ix2 ⟨i.val * 512 + x.val, by omega⟩ ⟨j.val * 1024 + y.val, by omega⟩ := by
  blk_ext [idx2 t]

theorem pt (t : Fin cfg0.N) : t.val < 4 := lt_of_lt_of_eq t.isLt (show cfg0.N = 4 from N_0)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- What a point computes, from the arguments. -/
theorem tile_at (t : Fin cfg0.N) (i : Fin 1) (j : Fin 4) (ht : t.val = 4 * i.val + j.val) (x : Fin 512) (y : Fin 1024) :
    k0_pay1 (F := Ideal) (iblk m c 0 t) (iblk m c 1 t) (ix2 x y) = gW (m ((c : Thread nD τ).loc main_arg0)) (m ((c : Thread nD τ).loc main_arg2)) (ix2 ⟨i.val * 512 + x.val, by omega⟩ ⟨j.val * 1024 + y.val, by omega⟩) := by
  rw [pay1_at]
  refine Finset.sum_congr rfl fun k _ => congrArg₂ (· * ·) ?_ ?_
  · exact (rd0 c (V m c main_v0) t i j ht x k).trans ((congrFun (V_l m c) _).trans (h_l_at _ _ _))
  · exact (rd1 c (V m c main_v1) t i j ht y k).trans ((congrFun (V_r m c) _).trans (h_r_at _ _ _))

/-- The array the product leaves. -/
theorem arr2 : (dats m 0 c).arrAt 2 cfg0.N = gW (m ((c : Thread nD τ).loc main_arg0)) (m ((c : Thread nD τ).loc main_arg2)) :=
  (dats m 0 c).arrAt_eq_of_covers 2 _ (by decide +kernel) fun t hf y => by
    blk_simp
    rw [after0_2]
    have hN := pt t
    obtain ⟨a, b, rfl⟩ : ∃ (a : Fin 512) (b : Fin 1024), y = ix2 a b := ⟨y 0, y 1, funext fun k => match k with | ⟨0, _⟩ => rfl | ⟨1, _⟩ => rfl⟩
    have ht : t.val = 4 * (⟨t.val / 4, by omega⟩ : Fin 1).val + (⟨t.val % 4, by omega⟩ : Fin 4).val := by
      show t.val = 4 * (t.val / 4) + t.val % 4; omega
    rw [out_eq, tile_at m c t _ _ ht a b]
    exact (congrArg (gW (m ((c : Thread nD τ).loc main_arg0)) (m ((c : Thread nD τ).loc main_arg2))) (emb2 t _ _ ht a b)).symm

/-- The kernel's result is the reference's. -/
theorem same (a : (⟨S4096x512, .f32⟩ : BufTy).Contents (Elt Ideal)) (b : (⟨S4096x4096, .f32⟩ : BufTy).Contents (Elt Ideal)) :
    t_o (gW a b) = Cert.KvWRefIdeal.Read.val_main_v2 (F := Ideal) a b := by
  funext y
  obtain ⟨x, z, rfl⟩ : ∃ (x : Fin 512) (z : Fin 4096), y = ix2 x z := ⟨y 0, y 1, by funext d; fin_cases d <;> rfl⟩
  rw [t_o_at, Cert.KvWRefIdeal.Read.val_main_v2_apply, Cert.KvWRefIdeal.Read.val_main_v1_apply]
  refine Finset.sum_congr rfl fun k _ => ?_
  refine (mul_comm _ _).trans ?_
  refine congrArg₂ (· * ·) (congrArg b ?_) (congrArg a ?_)
  · funext d; fin_cases d <;> rfl
  · funext d; fin_cases d <;> rfl

/-- The run of the kernel's program: the reference's value, the arguments unchanged. -/
theorem ends (ρ : Dev nD → PrngReg) :
    θ_run defs (onTc (τ := τ) (main (F := Ideal))) ⟨m, fun _ => 0, ρ⟩ fun r => ∀ c : Dev nD,
      r.2.mem ((c.tc : Thread nD τ).loc main_v3)
          = Cert.KvWRefIdeal.Read.val_main_v2 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((congrArg t_o (arr2 m c)).trans (same _ _)), (h c).2⟩) (Cert.KvWIdeal.Value.run m ρ)

end Cert.KvWIdeal.Val

namespace Cert.KvWRefIdeal.Val

open Idealize.ShloMosaic Idealize.ShloMosaic.TcCoe Idealize.SL Idealize.SL.Sem Cert.KvWRefIdeal.Gen Cert.KvWRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.KvWRefIdeal.Value.run m ρ)

end Cert.KvWRefIdeal.Val

namespace Cert.Proof

open Idealize.ShloMosaic Idealize.SL Idealize.SL.Sem

/-- The kernel's product is the reference's, from any arguments. -/
theorem kvw_algebraic : Cert.algebraic_KvWIdeal_KvWRefIdeal := by
  intro m g m' g' _ hagree
  refine ⟨fun c => Cert.KvWRefIdeal.Read.val_main_v2 (F := Ideal) (m ((c.tc : Thread Cert.KvWIdeal.nD Cert.KvWIdeal.τ).loc Cert.KvWIdeal.main_arg0)) (m ((c.tc : Thread Cert.KvWIdeal.nD Cert.KvWIdeal.τ).loc Cert.KvWIdeal.main_arg2)),
    Cert.KvWIdeal.Val.ends m g, ?_⟩
  refine (θ_run _ _ _).mono (fun r h c => ⟨(h c).1.trans ((Cert.KvWRefIdeal.Read.val_main_v2_eq _ _).trans ?_), (h c).2⟩) (Cert.KvWRefIdeal.Value.run m' g')
  exact congrArg₂ (fun a b => Cert.KvWRefIdeal.Read.val_main_v2 (F := Ideal) a b) (hagree c).1 (hagree c).2.2

end Cert.Proof

end
-- ==== Proof.ColArr.lean ====
/- The first columns of the input product: what the host code prepares for the product, and what the product leaves.

   The grid is (row tile i, column tile j), two steps each, the first of which starts the accumulator and the second adds to it and writes it out. -/
module

public import proofs.«01_k».proof.Defs
public import proofs.«01_k».proof.Proof.Gen.ColIdeal.Run
public import proofs.«01_k».proof.Proof.FfnSum
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ColIdeal.Val

open Idealize.ShloMosaic Idealize.ShloMosaic.TcCoe Idealize.SL Idealize.SL.Sem Cert.ColIdeal.Gen

/-- The product of one step. -/
def stepDot (a : Vec Ideal S1024x2048 .bf16) (b : Vec Ideal S1792x2048 .bf16) (x : Fin 1024) (y : Fin 1792) : EReal :=
  ∑ k : Fin 2048, a (ix2 x k) * b (ix2 y k)

theorem pay1_at (a : Vec Ideal S1024x2048 .bf16) (b : Vec Ideal S1792x2048 .bf16) (x : Fin 1024) (y : Fin 1792) :
    k0_pay1 (F := Ideal) a b (ix2 x y) = stepDot a b x y := by
  unfold stepDot
  pointwise [k0_pay1]

theorem pay2_at (s : Vec Ideal S1024x1792 .f32) (a : Vec Ideal S1024x2048 .bf16) (b : Vec Ideal S1792x2048 .bf16) (x : Fin 1024) (y : Fin 1792) :
    k0_pay2 (F := Ideal) s a b (ix2 x y) = s (ix2 x y) + stepDot a b x y := by
  unfold stepDot
  pointwise [k0_pay2]

/-- The product's left operand, as the host code prepares it. -/
def h_l (a0 : (⟨S4096x4096, .f32⟩ : BufTy).Contents (Elt Ideal)) : (⟨S4096x4096, .bf16⟩ : BufTy).Contents (Elt Ideal) :=
  (truncf (F := Ideal) .bf16 a0 bitsLt_bf16_f32)

/-- The product's right operand, as the host code prepares it. -/
def h_r (a1 : (⟨S4096x1600, .f32⟩ : BufTy).Contents (Elt Ideal)) : (⟨S1792x4096, .bf16⟩ : BufTy).Contents (Elt Ideal) :=
  (truncf (F := Ideal) .bf16 (concatenate S1792x4096 0 [⟨S1536x4096, (extractStridedSlice S1536x4096 ![0, 0] (transpose S1600x4096 [1, 0] a1 transposes_S4096x1600_S1600x4096_1_0) slices_S1600x4096_S1536x4096_0_0)⟩, ⟨S64x4096, (extractStridedSlice S64x4096 ![1536, 0] (transpose S1600x4096 [1, 0] a1 transposes_S4096x1600_S1600x4096_1_0) slices_S1600x4096_S64x4096_1536_0)⟩, ⟨S64x4096, (broadcastInDim S64x4096 ![] bcast_S_S64x4096 ((constant (F := Ideal) S_ .f32 0x00000000#32) : (⟨S_, .f32⟩ : BufTy).Contents (Elt Ideal)) : (⟨S64x4096, .f32⟩ : BufTy).Contents (Elt Ideal))⟩, ⟨S64x4096, (concatenate S64x4096 0 [⟨S32x4096, (Host.negf (F := Ideal) (φ := .f32) (extractStridedSlice S32x4096 ![32, 0] (extractStridedSlice S64x4096 ![1536, 0] (transpose S1600x4096 [1, 0] a1 transposes_S4096x1600_S1600x4096_1_0) slices_S1600x4096_S64x4096_1536_0) slices_S64x4096_S32x4096_32_0))⟩, ⟨S32x4096, (extractStridedSlice S32x4096 ![0, 0] (extractStridedSlice S64x4096 ![1536, 0] (transpose S1600x4096 [1, 0] a1 transposes_S4096x1600_S1600x4096_1_0) slices_S1600x4096_S64x4096_1536_0) slices_S64x4096_S32x4096_0_0)⟩] concatenates_S32x4096_S32x4096_S64x4096_d0)⟩, ⟨S64x4096, (broadcastInDim S64x4096 ![] bcast_S_S64x4096 ((constant (F := Ideal) S_ .f32 0x00000000#32) : (⟨S_, .f32⟩ : BufTy).Contents (Elt Ideal)) : (⟨S64x4096, .f32⟩ : BufTy).Contents (Elt Ideal))⟩] concatenates_S1536x4096_S64x4096_S64x4096_S64x4096_S64x4096_S1792x4096_d0 : (⟨S1792x4096, .f32⟩ : BufTy).Contents (Elt Ideal)) bitsLt_bf16_f32)

/-- Row `y 0`, column `y 1` of the product. -/
def gW (a : (⟨S4096x4096, .bf16⟩ : BufTy).Contents (Elt Ideal)) (b : (⟨S1792x4096, .bf16⟩ : BufTy).Contents (Elt Ideal)) : (⟨S4096x1792, .f32⟩ : BufTy).Contents (Elt Ideal) :=
  fun y => ∑ k : Fin 4096, a (ix2 (y 0) k) * b (ix2 (y 1) k)

variable (m : (ℓ : Loc nD τ sig) → Buf (Elt Ideal) ℓ) (c : Dev nD)

set_option maxHeartbeats 4000000

/-- The left operand of a memory. -/
abbrev pL := h_l (m ((c : Thread nD τ).loc main_arg0))

/-- The right operand of a memory. -/
abbrev pR := h_r (m ((c : Thread nD τ).loc main_arg1))

theorem V_l : V m c main_v11 = pL m c := by
  simp only [V, V0, hostOps0, List.flatten_cons, List.flatten_nil, List.append_nil, List.cons_append, List.nil_append]
  after_results <;> rfl

theorem V_r : V m c main_v10 = pR m c := by
  simp only [V, V0, hostOps0, List.flatten_cons, List.flatten_nil, List.append_nil, List.cons_append, List.nil_append]
  after_results <;> rfl

theorem idx0 : ∀ t : Fin cfg0.N, win0_0.index t = ![t.val / 2, t.val % 2] := by decide +kernel
theorem idx1 : ∀ t : Fin cfg0.N, win0_1.index t = ![0, t.val % 2] := by decide +kernel
theorem idx2 : ∀ t : Fin cfg0.N, win0_2.index t = ![t.val / 2, 0] := by decide +kernel

theorem rd0 (A : Buf (Elt Ideal) ((c : Thread nD τ).loc main_v11)) (t : Fin cfg0.N) (i : Fin 4) (j : Fin 1) (s : Fin 2) (ht : t.val = 2 * i.val + 2 * j.val + s.val) (x : Fin 1024) (k : Fin 2048) :
    ((cfg0.win 0).blk t).view.read (Elt Ideal) A (ix2 x k) = A (ix2 ⟨i.val * 1024 + x.val, by omega⟩ ⟨s.val * 2048 + k.val, by omega⟩) := by
  blk_ext [idx0 t]

theorem rd1 (A : Buf (Elt Ideal) ((c : Thread nD τ).loc main_v10)) (t : Fin cfg0.N) (i : Fin 4) (j : Fin 1) (s : Fin 2) (ht : t.val = 2 * i.val + 2 * j.val + s.val) (y : Fin 1792) (k : Fin 2048) :
    ((cfg0.win 1).blk t).view.read (Elt Ideal) A (ix2 y k) = A (ix2 ⟨j.val * 1792 + y.val, by omega⟩ ⟨s.val * 2048 + k.val, by omega⟩) := by
  blk_ext [idx1 t]

theorem emb2 (t : Fin cfg0.N) (i : Fin 4) (j : Fin 1) (s : Fin 2) (ht : t.val = 2 * i.val + 2 * j.val + s.val) (x : Fin 1024) (y : Fin 1792) :
    (((cfg0.win 2).blk t).view.emb (ix2 x y) : S4096x1792.Idx) = ix2 ⟨i.val * 1024 + x.val, by omega⟩ ⟨j.val * 1792 + y.val, by omega⟩ := by
  blk_ext [idx2 t]

theorem pt (t : Fin cfg0.N) : t.val < 8 := lt_of_lt_of_eq t.isLt (show cfg0.N = 8 from N_0)

/-- What a step computes, from the prepared operands. -/
theorem step_at (t : Fin cfg0.N) (i : Fin 4) (j : Fin 1) (s : Fin 2) (ht : t.val = 2 * i.val + 2 * j.val + s.val) (x : Fin 1024) (y : Fin 1792) :
    stepDot (iblk m c 0 t) (iblk m c 1 t) x y = ∑ k : Fin 2048, pL m c (ix2 ⟨i.val * 1024 + x.val, by omega⟩ ⟨s.val * 2048 + k.val, by omega⟩) * pR m c (ix2 ⟨j.val * 1792 + y.val, by omega⟩ ⟨s.val * 2048 + k.val, by omega⟩) := by
  unfold stepDot
  refine Finset.sum_congr rfl fun k _ => congrArg₂ (· * ·) ?_ ?_
  · exact (rd0 c (V m c main_v11) t i j s ht x k).trans (congrFun (V_l m c) _)
  · exact (rd1 c (V m c main_v10) t i j s ht y k).trans (congrFun (V_r m c) _)

theorem flush2 (t : Fin cfg0.N) : win0_2.flush t = true → t.val % 2 = 1 := by
  revert t; decide +kernel

/-- The first step starts the accumulator. -/
theorem acc_first (t : Fin cfg0.N) (h : t.val % 2 = 0) :
    (outsAt0 m c t.val t.isLt).2 = k0_pay1 (iblk m c 0 t) (iblk m c 1 t) := by
  rw [outsAt0_A m c t h (by omega) (by omega)]
  frame_open
  frame_out
  try simp only [read_unread_whole]

/-- The second step adds to it and writes the sum out. -/
theorem out_last (t : Fin cfg0.N) (h : t.val % 2 = 1) :
    (outsAt0 m c t.val t.isLt).1 = k0_pay2 (outsAt0 m c (t.val - 1) (Nat.lt_of_le_of_lt (Nat.sub_le _ _) t.isLt)).2 (iblk m c 0 t) (iblk m c 1 t) := by
  rw [outsAt0_B m c t (by omega) h h]
  frame_open
  frame_out
  try simp only [read_unread_whole]

/-- The two steps of a tile. -/
theorem out_two (i : Fin 4) (j : Fin 1) (t : Fin cfg0.N) (ht : t.val = 2 * i.val + 2 * j.val + 1) (x : Fin 1024) (y : Fin 1792) :
    (outsAt0 m c t.val t.isLt).1 (ix2 x y) = (gW (pL m c) (pR m c)) (ix2 ⟨i.val * 1024 + x.val, by omega⟩ ⟨j.val * 1792 + y.val, by omega⟩) := by
  have hN := pt t
  have h0 := acc_first m c ⟨t.val - 1, by have := t.isLt; omega⟩ (by show (t.val - 1) % 2 = 0; omega)
  have h1 := out_last m c t (by omega)
  have e0 := (congrFun h0 (ix2 x y)).trans ((pay1_at _ _ x y).trans (step_at m c _ i j 0 (by show t.val - 1 = 2 * i.val + 2 * j.val + 0; omega) x y))
  have e1 := (congrFun h1 (ix2 x y)).trans ((pay2_at _ _ _ x y).trans (congrArg₂ (· + ·) e0 (step_at m c _ i j 1 (by show t.val = 2 * i.val + 2 * j.val + 1; omega) x y)))
  exact e1.trans (Cert.Ffn.sum_two (n := 2048) rfl fun k => pL m c (ix2 ⟨i.val * 1024 + x.val, by omega⟩ k) * pR m c (ix2 ⟨j.val * 1792 + y.val, by omega⟩ k))

/-- The array the product leaves. -/
theorem arr2 : (dats m 0 c).arrAt 2 cfg0.N = (gW (pL m c) (pR m c)) :=
  (dats m 0 c).arrAt_eq_of_covers 2 _ (by decide +kernel) fun t hf y => by
    have h1 := flush2 t hf
    blk_simp
    rw [after0_2]
    have hN := pt t
    obtain ⟨a, b, rfl⟩ : ∃ (a : Fin 1024) (b : Fin 1792), y = ix2 a b := ⟨y 0, y 1, funext fun k => match k with | ⟨0, _⟩ => rfl | ⟨1, _⟩ => rfl⟩
    have ht : t.val = 2 * (⟨t.val / 2, by omega⟩ : Fin 4).val + 2 * (⟨t.val / 2 % 1, by omega⟩ : Fin 1).val + 1 := by
      show t.val = 2 * (t.val / 2) + 2 * (t.val / 2 % 1) + 1; omega
    rw [out_two m c _ _ t ht a b]
    exact (congrArg (gW (pL m c) (pR m c)) (emb2 t _ _ 1 ht a b)).symm

end Cert.ColIdeal.Val

end
-- ==== Proof.Rotary.lean ====
/- Sums over the columns of the rotary embedding.

   The kernel carries, beside a block's plain columns, 256 more: the 64 rotary ones and the 64 rotated ones, each followed by
   64 zeros. The reference carries the 64 rotary ones alone. -/
module

public import proofs.«01_k».proof.Proof.Spec
public import Idealize.ShloMosaic.PureOps

@[expose] public section

namespace Cert.Rotary

open Idealize.ShloMosaic

namespace Index

/-! Places of the columns in a head: 384 with the rotated columns, 192 without; and after 1536 plain columns. -/

theorem q1 (h : Fin 16) (j : Fin 32) : (h.val * 384 + (128 + j.val)) % 384 - 128 = j.val := by omega
theorem q2 (h : Fin 16) (j : Fin 32) : (h.val * 384 + (128 + (32 + j.val))) % 384 - 128 = 32 + j.val := by omega
theorem q3 (h : Fin 16) (j : Fin 32) : (h.val * 384 + (128 + (32 + j.val))) % 384 - 160 = j.val := by omega
theorem q4 (h : Fin 16) (j : Fin 32) : (h.val * 384 + (128 + (128 + j.val))) % 384 - 256 = j.val := by omega
theorem q5 (h : Fin 16) (j : Fin 32) : (h.val * 384 + (128 + (160 + j.val))) % 384 - 256 = 32 + j.val := by omega
theorem q6 (h : Fin 16) (j : Fin 32) : (h.val * 384 + (128 + (160 + j.val))) % 384 - 288 = j.val := by omega
theorem q7 (h : Fin 16) (j : Fin 32) : (h.val * 192 + (128 + j.val)) % 192 - 128 = j.val := by omega
theorem q8 (h : Fin 16) (j : Fin 32) : (h.val * 192 + (128 + (32 + j.val))) % 192 - 160 = j.val := by omega
theorem q9 (h : Fin 16) (j : Fin 32) : (h.val * 192 + (128 + (32 + j.val))) % 192 - 128 = 32 + j.val := by omega
theorem q10 (j : Fin 32) : 256 + (32 + j.val) = 128 + (160 + j.val) := by omega
theorem q11 (j : Fin 32) : 256 + j.val = 128 + (128 + j.val) := by omega
theorem q12 (h : Fin 16) (i : Fin 128) : (h.val * 384 + i.val) % 384 = i.val := by omega
theorem q13 (h : Fin 16) (i : Fin 128) : (h.val * 192 + i.val) % 192 = i.val := by omega
theorem q14 (j : Fin 32) : 160 + j.val - 128 = 32 + j.val := by omega
theorem q15 (j : Fin 32) : 1664 + (32 + j.val) = 1536 + (160 + j.val) := by omega
theorem q16 (j : Fin 32) : 1664 + j.val = 1536 + (128 + j.val) := by omega

end Index

/-- The sum over 256 columns whose second and fourth quarters are zero, two halves of a quarter at a time. -/
theorem sum_256 (f : Fin 256 → EReal) (z1 : ∀ j : Fin 64, f ⟨64 + j.val, by omega⟩ = 0) (z2 : ∀ j : Fin 64, f ⟨192 + j.val, by omega⟩ = 0) :
    ∑ i, f i = ∑ j : Fin 32, (f ⟨j.val, by omega⟩ + f ⟨32 + j.val, by omega⟩ + f ⟨128 + j.val, by omega⟩ + f ⟨160 + j.val, by omega⟩) := by
  have half (g : Fin 128 → EReal) (z : ∀ j : Fin 64, g ⟨64 + j.val, by omega⟩ = 0) :
      ∑ i, g i = ∑ j : Fin 32, g ⟨j.val, by omega⟩ + ∑ j : Fin 32, g ⟨32 + j.val, by omega⟩ := by
    refine (Fin.sum_univ_add (a := 64) (b := 64) g).trans ?_
    refine (congrArg₂ (· + ·) (Fin.sum_univ_add (a := 32) (b := 32) fun i : Fin 64 => g (Fin.castAdd 64 i)) (Finset.sum_eq_zero fun i _ => z i)).trans ?_
    exact add_zero _
  refine (Fin.sum_univ_add (a := 128) (b := 128) f).trans ?_
  refine (congrArg₂ (· + ·) (half (fun i => f (Fin.castAdd 128 i)) fun j => z1 j)
    (half (fun i => f (Fin.natAdd 128 i)) fun j => (congrArg f (Fin.ext (by show 128 + (64 + j.val) = 192 + j.val; omega))).trans (z2 j))).trans ?_
  rw [Finset.sum_add_distrib, Finset.sum_add_distrib, Finset.sum_add_distrib, ← add_assoc]
  refine congrArg₂ (· + ·) (congrArg₂ (· + ·) rfl rfl) ?_
  exact Finset.sum_congr rfl fun j _ => congrArg f (Fin.ext (by show 128 + (32 + j.val) = 160 + j.val; omega))

/-- The same beside `C` plain columns. -/
theorem sum_ext {C N : ℕ} (hN : N = C + 256) (f : Fin N → EReal) (z1 : ∀ j : Fin 64, f ⟨C + (64 + j.val), by omega⟩ = 0)
    (z2 : ∀ j : Fin 64, f ⟨C + (192 + j.val), by omega⟩ = 0) :
    ∑ i, f i = ∑ i : Fin C, f ⟨i.val, by omega⟩
      + ∑ j : Fin 32, (f ⟨C + j.val, by omega⟩ + f ⟨C + (32 + j.val), by omega⟩ + f ⟨C + (128 + j.val), by omega⟩ + f ⟨C + (160 + j.val), by omega⟩) := by
  subst hN
  refine (Fin.sum_univ_add (a := C) (b := 256) f).trans (congrArg₂ (· + ·) rfl ?_)
  exact sum_256 (fun i => f (Fin.natAdd C i)) z1 z2

/-- The reference's columns: `C` plain ones and the two halves of the rotary ones. -/
theorem sum_ref {C N : ℕ} (hN : N = C + 64) (f : Fin N → EReal) :
    ∑ i, f i = ∑ i : Fin C, f ⟨i.val, by omega⟩ + ∑ j : Fin 32, (f ⟨C + j.val, by omega⟩ + f ⟨C + (32 + j.val), by omega⟩) := by
  subst hN
  refine (Fin.sum_univ_add (a := C) (b := 64) f).trans (congrArg₂ (· + ·) rfl ?_)
  rw [Finset.sum_add_distrib]
  exact Fin.sum_univ_add (a := 32) (b := 32) fun i : Fin 64 => f (Fin.natAdd C i)

/-- A sum over the columns of sixteen heads, head by head. -/
theorem sum_heads {p N : ℕ} (hN : N = 16 * p) (f : Fin N → EReal) :
    ∑ i, f i = ∑ s : Fin 16, ∑ r : Fin p, f ⟨s.val * p + r.val, by
      have := s.isLt; have := r.isLt
      calc s.val * p + r.val < s.val * p + p := by omega
        _ = (s.val + 1) * p := by ring
        _ ≤ 16 * p := Nat.mul_le_mul_right p (by omega)
        _ = N := hN.symm⟩ := by
  subst hN
  rw [← Equiv.sum_comp finProdFinEquiv f, Fintype.sum_prod_type]
  refine Finset.sum_congr rfl fun s _ => Finset.sum_congr rfl fun r _ => congrArg f (Fin.ext ?_)
  show r.val + p * s.val = s.val * p + r.val
  ring

/-- One pair of rotary columns of a product with the weights: the kernel's four terms are the reference's two. -/
theorem pair (g1 g2 c s w1 w2 : ℝ) :
    (g1 : EReal) * c * w1 + (g2 : EReal) * c * w2 + (g1 : EReal) * s * -(w2 : EReal) + (g2 : EReal) * s * w1
      = ((g2 : EReal) * s + (g1 : EReal) * c) * w1 + ((g2 : EReal) * c + -(g1 : EReal) * s) * w2 := by
  simp only [← EReal.coe_neg, ← EReal.coe_mul, ← EReal.coe_add]
  exact congrArg _ (by ring)

/-- The first of a pair of rotary columns of a weight gradient. -/
theorem first {n : ℕ} (g1 g2 c s x : Fin n → ℝ) :
    ∑ t, (g1 t : EReal) * c t * x t + ∑ t, (g2 t : EReal) * s t * x t = ∑ t, ((g2 t : EReal) * s t + (g1 t : EReal) * c t) * x t := by
  rw [← Finset.sum_add_distrib]
  refine Finset.sum_congr rfl fun t _ => ?_
  simp only [← EReal.coe_mul, ← EReal.coe_add]
  exact congrArg _ (by ring)

/-- The second. -/
theorem second {n : ℕ} (g1 g2 c s x : Fin n → ℝ) :
    ∑ t, (g2 t : EReal) * c t * x t + -∑ t, (g1 t : EReal) * s t * x t = ∑ t, ((g2 t : EReal) * c t + -(g1 t : EReal) * s t) * x t := by
  simp only [← EReal.coe_neg, ← EReal.coe_mul, ← EReal.coe_add, ← Cert.Spec.coe_sum]
  refine congrArg _ ?_
  rw [← Finset.sum_neg_distrib, ← Finset.sum_add_distrib]
  exact Finset.sum_congr rfl fun t _ => by ring

/-- The sum of the negatives of reals is the negative of the sum. -/
theorem neg {n : ℕ} (x w : Fin n → ℝ) : ∑ t, (x t : EReal) * -(w t : EReal) = -∑ t, (x t : EReal) * w t := by
  simp only [← EReal.coe_neg, ← EReal.coe_mul, ← Cert.Spec.coe_sum]
  refine congrArg _ ?_
  rw [← Finset.sum_neg_distrib]
  exact Finset.sum_congr rfl fun t _ => by ring

end Cert.Rotary

end
-- ==== Proof.RotaryFinite.lean ====
/- What the preconditions of the rotary columns' products say: the arrays they name hold real numbers. -/
module

public import proofs.«01_k».proof.Proof.Finite

@[expose] public section

noncomputable section

namespace Cert.Rotary

open Idealize.ShloMosaic

/-- The shape of a scalar. -/
abbrev Scalar : Shape := ⟨0, ![]⟩

/-- One comparison of a precondition, for a matrix: the entries are real. -/
theorem real2 {a b : ℕ} (X : FVec Ideal (⟨2, ![a, b]⟩ : Shape) .f32) (hb : Scalar.BroadcastsInDim (⟨2, ![a, b]⟩ : Shape) (![] : Fin 0 → Fin 2))
    (h : cmpf .oeq (subf X X) (broadcastInDim (⟨2, ![a, b]⟩ : Shape) ![] hb (constant Scalar .f32 0x00000000#32)) = fun _ => 1#1) (y : (⟨2, ![a, b]⟩ : Shape).Idx) :
    ∃ d : ℝ, X y = (d : EReal) := by
  have hy := congrFun h y
  obtain ⟨i, k, rfl⟩ : ∃ (i : Fin a) (k : Fin b), y = ix2 i k := ⟨y 0, y 1, by funext d; fin_cases d <;> rfl⟩
  have e : BitVec.ofBool (decide (X (ix2 i k) - X (ix2 i k) = 0)) = 1#1 := by
    refine Eq.trans ?_ hy
    pointwise []
  have e2 : X (ix2 i k) - X (ix2 i k) = 0 := by
    by_contra hne
    rw [decide_eq_false hne] at e
    exact absurd e (by decide)
  exact ⟨_, (Cert.Finite.coe_of_sub _ e2).symm⟩

/-- The same for an array of three axes. -/
theorem real3 {a b c : ℕ} (X : FVec Ideal (⟨3, ![a, b, c]⟩ : Shape) .f32) (hb : Scalar.BroadcastsInDim (⟨3, ![a, b, c]⟩ : Shape) (![] : Fin 0 → Fin 3))
    (h : cmpf .oeq (subf X X) (broadcastInDim (⟨3, ![a, b, c]⟩ : Shape) ![] hb (constant Scalar .f32 0x00000000#32)) = fun _ => 1#1) (y : (⟨3, ![a, b, c]⟩ : Shape).Idx) :
    ∃ d : ℝ, X y = (d : EReal) := by
  have hy := congrFun h y
  obtain ⟨i, k, l, rfl⟩ : ∃ (i : Fin a) (k : Fin b) (l : Fin c), y = ix3 i k l := ⟨y 0, y 1, y 2, by funext d; fin_cases d <;> rfl⟩
  have e : BitVec.ofBool (decide (X (ix3 i k l) - X (ix3 i k l) = 0)) = 1#1 := by
    refine Eq.trans ?_ hy
    pointwise []
  have e2 : X (ix3 i k l) - X (ix3 i k l) = 0 := by
    by_contra hne
    rw [decide_eq_false hne] at e
    exact absurd e (by decide)
  exact ⟨_, (Cert.Finite.coe_of_sub _ e2).symm⟩

/-- A rotary row's entry is a plain column or lies in one of the two halves. -/
theorem cases {C N : ℕ} (hN : N = C + 64) (z : Fin N) :
    (∃ i : Fin C, z = ⟨i.val, by omega⟩) ∨ (∃ j : Fin 32, z = ⟨C + j.val, by omega⟩) ∨ ∃ j : Fin 32, z = ⟨C + (32 + j.val), by omega⟩ := by
  by_cases h : z.val < C
  · exact Or.inl ⟨⟨z.val, h⟩, rfl⟩
  · by_cases h2 : z.val < C + 32
    · exact Or.inr (Or.inl ⟨⟨z.val - C, by omega⟩, Fin.ext (by show z.val = C + (z.val - C); omega)⟩)
    · exact Or.inr (Or.inr ⟨⟨z.val - C - 32, by omega⟩, Fin.ext (by show z.val = C + (32 + (z.val - C - 32)); omega)⟩)

/-- A column of 16 blocks of `p` is column `r` of block `s`. -/
theorem blocks {p N : ℕ} (hN : N = 16 * p) (hp : 0 < p) (z : Fin N) : ∃ (s : Fin 16) (r : Fin p), z = ⟨s.val * p + r.val, by
    have := Nat.mul_le_mul_right p (show s.val + 1 ≤ 16 by omega)
    have := r.isLt
    rw [Nat.add_mul] at *; omega⟩ := by
  have hz := z.isLt
  refine ⟨⟨z.val / p, (Nat.div_lt_iff_lt_mul hp).2 (by omega)⟩, ⟨z.val % p, Nat.mod_lt _ hp⟩, Fin.ext ?_⟩
  show z.val = z.val / p * p + z.val % p
  rw [Nat.mul_comm]; exact (Nat.div_add_mod _ _).symm

end Cert.Rotary

end
-- ==== Proof.ColXArr.lean ====
/- The gradient of the input product's input, through its first columns: what the host code prepares for the product, and what the product leaves.

   The grid is (row tile i, column tile j), one step each. -/
module

public import proofs.«01_k».proof.Defs
public import proofs.«01_k».proof.Proof.Gen.ColXIdeal.Value
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ColXIdeal.Val

open Idealize.ShloMosaic Idealize.ShloMosaic.TcCoe Idealize.SL Idealize.SL.Sem Cert.ColXIdeal.Gen

/-- The product of one step. -/
def stepDot (a : Vec Ideal S1024x1792 .bf16) (b : Vec Ideal S1792x1024 .bf16) (x : Fin 1024) (y : Fin 1024) : EReal :=
  ∑ k : Fin 1792, a (ix2 x k) * b (ix2 k y)

theorem pay1_at (a : Vec Ideal S1024x1792 .bf16) (b : Vec Ideal S1792x1024 .bf16) (x : Fin 1024) (y : Fin 1024) :
    k0_pay1 (F := Ideal) a b (ix2 x y) = stepDot a b x y := by
  unfold stepDot
  pointwise [k0_pay1]

/-- The product's left operand, as the host code prepares it. -/
def h_l (a2 : (⟨S4096x32, .f32⟩ : BufTy).Contents (Elt Ideal)) (a3 : (⟨S4096x32, .f32⟩ : BufTy).Contents (Elt Ideal)) (a4 : (⟨S4096x1536, .f32⟩ : BufTy).Contents (Elt Ideal)) (a5 : (⟨S4096x64, .f32⟩ : BufTy).Contents (Elt Ideal)) : (⟨S4096x1792, .bf16⟩ : BufTy).Contents (Elt Ideal) :=
  (truncf (F := Ideal) .bf16 (concatenate S4096x1792 1 [⟨S4096x1536, a4⟩, ⟨S4096x64, (mulf (F := Ideal) (φ := .f32) a5 (concatenate S4096x64 1 [⟨S4096x32, a2⟩, ⟨S4096x32, a2⟩] concatenates_S4096x32_S4096x32_S4096x64_d1))⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩, ⟨S4096x64, (mulf (F := Ideal) (φ := .f32) a5 (concatenate S4096x64 1 [⟨S4096x32, a3⟩, ⟨S4096x32, a3⟩] concatenates_S4096x32_S4096x32_S4096x64_d1))⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩] concatenates_S4096x1536_S4096x64_S4096x64_S4096x64_S4096x64_S4096x1792_d1 : (⟨S4096x1792, .f32⟩ : BufTy).Contents (Elt Ideal)) bitsLt_bf16_f32)

/-- The product's right operand, as the host code prepares it. -/
def h_r (a1 : (⟨S4096x1600, .f32⟩ : BufTy).Contents (Elt Ideal)) : (⟨S1792x4096, .bf16⟩ : BufTy).Contents (Elt Ideal) :=
  (truncf (F := Ideal) .bf16 (concatenate S1792x4096 0 [⟨S1536x4096, (extractStridedSlice S1536x4096 ![0, 0] (transpose S1600x4096 [1, 0] a1 transposes_S4096x1600_S1600x4096_1_0) slices_S1600x4096_S1536x4096_0_0)⟩, ⟨S64x4096, (extractStridedSlice S64x4096 ![1536, 0] (transpose S1600x4096 [1, 0] a1 transposes_S4096x1600_S1600x4096_1_0) slices_S1600x4096_S64x4096_1536_0)⟩, ⟨S64x4096, (broadcastInDim S64x4096 ![] bcast_S_S64x4096 ((constant (F := Ideal) S_ .f32 0x00000000#32) : (⟨S_, .f32⟩ : BufTy).Contents (Elt Ideal)) : (⟨S64x4096, .f32⟩ : BufTy).Contents (Elt Ideal))⟩, ⟨S64x4096, (concatenate S64x4096 0 [⟨S32x4096, (Host.negf (F := Ideal) (φ := .f32) (extractStridedSlice S32x4096 ![32, 0] (extractStridedSlice S64x4096 ![1536, 0] (transpose S1600x4096 [1, 0] a1 transposes_S4096x1600_S1600x4096_1_0) slices_S1600x4096_S64x4096_1536_0) slices_S64x4096_S32x4096_32_0))⟩, ⟨S32x4096, (extractStridedSlice S32x4096 ![0, 0] (extractStridedSlice S64x4096 ![1536, 0] (transpose S1600x4096 [1, 0] a1 transposes_S4096x1600_S1600x4096_1_0) slices_S1600x4096_S64x4096_1536_0) slices_S64x4096_S32x4096_0_0)⟩] concatenates_S32x4096_S32x4096_S64x4096_d0)⟩, ⟨S64x4096, (broadcastInDim S64x4096 ![] bcast_S_S64x4096 ((constant (F := Ideal) S_ .f32 0x00000000#32) : (⟨S_, .f32⟩ : BufTy).Contents (Elt Ideal)) : (⟨S64x4096, .f32⟩ : BufTy).Contents (Elt Ideal))⟩] concatenates_S1536x4096_S64x4096_S64x4096_S64x4096_S64x4096_S1792x4096_d0 : (⟨S1792x4096, .f32⟩ : BufTy).Contents (Elt Ideal)) bitsLt_bf16_f32)

/-- Row `y 0`, column `y 1` of the product. -/
def gW (a : (⟨S4096x1792, .bf16⟩ : BufTy).Contents (Elt Ideal)) (b : (⟨S1792x4096, .bf16⟩ : BufTy).Contents (Elt Ideal)) : (⟨S4096x4096, .f32⟩ : BufTy).Contents (Elt Ideal) :=
  fun y => ∑ k : Fin 1792, a (ix2 (y 0) k) * b (ix2 k (y 1))

variable (m : (ℓ : Loc nD τ sig) → Buf (Elt Ideal) ℓ) (c : Dev nD)

set_option maxHeartbeats 4000000

/-- The left operand of a memory. -/
abbrev pL := h_l (m ((c : Thread nD τ).loc main_arg2)) (m ((c : Thread nD τ).loc main_arg3)) (m ((c : Thread nD τ).loc main_arg4)) (m ((c : Thread nD τ).loc main_arg5))

/-- The right operand of a memory. -/
abbrev pR := h_r (m ((c : Thread nD τ).loc main_arg1))

theorem V_l : V m c main_v6 = pL m c := by
  simp only [V, hostOps0, List.flatten_cons, List.flatten_nil, List.append_nil, List.cons_append, List.nil_append]
  after_results <;> rfl

theorem V_r : V m c main_v17 = pR m c := by
  simp only [V, hostOps0, List.flatten_cons, List.flatten_nil, List.append_nil, List.cons_append, List.nil_append]
  after_results <;> rfl

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel

theorem rd0 (A : Buf (Elt Ideal) ((c : Thread nD τ).loc main_v6)) (t : Fin cfg0.N) (i : Fin 4) (j : Fin 4) (ht : t.val = 4 * i.val + 1 * j.val) (x : Fin 1024) (k : Fin 1792) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v17)) (t : Fin cfg0.N) (i : Fin 4) (j : Fin 4) (ht : t.val = 4 * i.val + 1 * j.val) (y : Fin 1024) (k : Fin 1792) :
    ((cfg0.win 1).blk t).view.read (Elt Ideal) A (ix2 k y) = A (ix2 k ⟨j.val * 1024 + y.val, by omega⟩) := by
  blk_ext [idx1 t]

theorem emb2 (t : Fin cfg0.N) (i : Fin 4) (j : Fin 4) (ht : t.val = 4 * i.val + 1 * j.val) (x : Fin 1024) (y : Fin 1024) :
    (((cfg0.win 2).blk t).view.emb (ix2 x y) : S4096x4096.Idx) = ix2 ⟨i.val * 1024 + x.val, by omega⟩ ⟨j.val * 1024 + y.val, by omega⟩ := by
  blk_ext [idx2 t]

theorem pt (t : Fin cfg0.N) : t.val < 16 := lt_of_lt_of_eq t.isLt (show cfg0.N = 16 from N_0)

/-- What a step computes, from the prepared operands. -/
theorem step_at (t : Fin cfg0.N) (i : Fin 4) (j : Fin 4) (ht : t.val = 4 * i.val + 1 * j.val) (x : Fin 1024) (y : Fin 1024) :
    stepDot (iblk m c 0 t) (iblk m c 1 t) x y = ∑ k : Fin 1792, pL m c (ix2 ⟨i.val * 1024 + x.val, by omega⟩ k) * pR m c (ix2 k ⟨j.val * 1024 + y.val, by omega⟩) := by
  unfold stepDot
  refine Finset.sum_congr rfl fun k _ => congrArg₂ (· * ·) ?_ ?_
  · exact (rd0 c (V m c main_v6) t i j ht x k).trans (congrFun (V_l m c) _)
  · exact (rd1 c (V m c main_v17) t i j ht y k).trans (congrFun (V_r m c) _)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- The array the product leaves. -/
theorem arr2 : (dats m 0 c).arrAt 2 cfg0.N = (gW (pL m c) (pR m c)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 4 * (⟨t.val / 4, by omega⟩ : Fin 4).val + 1 * (⟨t.val % 4, by omega⟩ : Fin 4).val := by
      show t.val = 4 * (t.val / 4) + 1 * (t.val % 4); omega
    rw [out_eq, pay1_at, step_at m c t _ _ ht a b]
    exact (congrArg (gW (pL m c) (pR m c)) (emb2 t _ _ ht a b)).symm

end Cert.ColXIdeal.Val

end
-- ==== Proof.ColXEnds.lean ====
/- The gradient of the input product's input, through its first columns: what the product leaves is the reference's result.

   The kernel lays the rotary columns out twice, rotated the second time, and pads; the reference rotates the result. -/
module

public import proofs.«01_k».proof.Defs
public import proofs.«01_k».proof.Proof.ColXArr
public import proofs.«01_k».proof.Proof.Rotary
public import proofs.«01_k».proof.Proof.RotaryFinite
public import proofs.«01_k».proof.Proof.Gen.ColXRefIdeal.Read
public import proofs.«01_k».proof.Proof.Gen.Pre_finite_columns_input

@[expose] public section

set_option maxRecDepth 16384

noncomputable section

namespace Cert.ColXIdeal.Val

open Idealize.ShloMosaic Idealize.ShloMosaic.TcCoe Idealize.SL Idealize.SL.Sem Cert.ColXIdeal.Gen Cert.ColXRefIdeal.Read Cert.Rotary.Index

variable (a1 : (⟨S4096x1600, .f32⟩ : BufTy).Contents (Elt Ideal)) (a2 : (⟨S4096x32, .f32⟩ : BufTy).Contents (Elt Ideal)) (a3 : (⟨S4096x32, .f32⟩ : BufTy).Contents (Elt Ideal)) (a4 : (⟨S4096x1536, .f32⟩ : BufTy).Contents (Elt Ideal)) (a5 : (⟨S4096x64, .f32⟩ : BufTy).Contents (Elt Ideal))

/-! The prepared gradient, column by column. -/

theorem g_c (t : Fin 4096) (i : Fin 1536) :
    h_l a2 a3 a4 a5 (ix2 t ⟨i.val, by omega⟩) = a4 (ix2 t i) := by
  pointwise [h_l]
  all_goals simp (disch := omega) only [dif_pos, dif_neg, false_and, dite_false, Nat.sub_sub, Nat.reduceAdd, Nat.add_sub_cancel_left, add_zero, zero_add]

theorem g_1 (t : Fin 4096) (j : Fin 32) :
    h_l a2 a3 a4 a5 (ix2 t ⟨1536 + j.val, by omega⟩) = a5 (ix2 t ⟨j.val, by omega⟩) * a2 (ix2 t j) := by
  pointwise [h_l]
  all_goals simp (disch := omega) only [dif_pos, dif_neg, false_and, dite_false, Nat.sub_sub, Nat.reduceAdd, Nat.add_sub_cancel_left, q14, q15, q16, add_zero, zero_add]

theorem g_2 (t : Fin 4096) (j : Fin 32) :
    h_l a2 a3 a4 a5 (ix2 t ⟨1536 + (32 + j.val), by omega⟩) = a5 (ix2 t ⟨32 + j.val, by omega⟩) * a2 (ix2 t j) := by
  pointwise [h_l]
  all_goals simp (disch := omega) only [dif_pos, dif_neg, false_and, dite_false, Nat.sub_sub, Nat.reduceAdd, Nat.add_sub_cancel_left, q14, q15, q16, add_zero, zero_add]

theorem g_3 (t : Fin 4096) (j : Fin 32) :
    h_l a2 a3 a4 a5 (ix2 t ⟨1536 + (128 + j.val), by omega⟩) = a5 (ix2 t ⟨j.val, by omega⟩) * a3 (ix2 t j) := by
  pointwise [h_l]
  all_goals simp (disch := omega) only [dif_pos, dif_neg, false_and, dite_false, Nat.sub_sub, Nat.reduceAdd, Nat.add_sub_cancel_left, q14, q15, q16, add_zero, zero_add]

theorem g_4 (t : Fin 4096) (j : Fin 32) :
    h_l a2 a3 a4 a5 (ix2 t ⟨1536 + (160 + j.val), by omega⟩) = a5 (ix2 t ⟨32 + j.val, by omega⟩) * a3 (ix2 t j) := by
  pointwise [h_l]
  all_goals simp (disch := omega) only [dif_pos, dif_neg, false_and, dite_false, Nat.sub_sub, Nat.reduceAdd, Nat.add_sub_cancel_left, q14, q15, q16, add_zero, zero_add]

theorem g_z1 (t : Fin 4096) (j : Fin 64) :
    h_l a2 a3 a4 a5 (ix2 t ⟨1536 + (64 + j.val), by omega⟩) = 0 := by
  pointwise [h_l]
  all_goals simp (disch := omega) only [dif_pos, dif_neg, false_and, dite_false, Nat.sub_sub, Nat.reduceAdd, Nat.add_sub_cancel_left, add_zero, zero_add]

theorem g_z2 (t : Fin 4096) (j : Fin 64) :
    h_l a2 a3 a4 a5 (ix2 t ⟨1536 + (192 + j.val), by omega⟩) = 0 := by
  pointwise [h_l]
  all_goals simp (disch := omega) only [dif_pos, dif_neg, false_and, dite_false, Nat.sub_sub, Nat.reduceAdd, Nat.add_sub_cancel_left, add_zero, zero_add]

/-! The reference's gradient of the product, column by column. -/

theorem ref_c (t : Fin 4096) (i : Fin 1536) :
    val_main_v26 (F := Ideal) a2 a3 a4 a5 (ix2 t ⟨i.val, by omega⟩) = a4 (ix2 t i) := by
  pointwise [val_main_v26, val_main_v24, val_main_cst_1, val_main_v23, val_main_v21, val_main_cst, val_main_v18, val_main_v15, val_main_v13, val_main_v17, val_main_v16, val_main_v12, val_main_v22, val_main_cst_0, val_main_v20, val_main_v14, val_main_v19, val_main_v25, val_main_cst_2]
  all_goals simp (disch := omega) only [dif_pos, dif_neg, false_and, dite_false, Nat.sub_sub, Nat.reduceAdd, Nat.add_sub_cancel_left, add_zero, zero_add]

theorem ref_1 (t : Fin 4096) (j : Fin 32) :
    val_main_v26 (F := Ideal) a2 a3 a4 a5 (ix2 t ⟨1536 + j.val, by omega⟩) = a5 (ix2 t ⟨32 + j.val, by omega⟩) * a3 (ix2 t j) + a5 (ix2 t ⟨j.val, by omega⟩) * a2 (ix2 t j) := by
  pointwise [val_main_v26, val_main_v24, val_main_cst_1, val_main_v23, val_main_v21, val_main_cst, val_main_v18, val_main_v15, val_main_v13, val_main_v17, val_main_v16, val_main_v12, val_main_v22, val_main_cst_0, val_main_v20, val_main_v14, val_main_v19, val_main_v25, val_main_cst_2]
  all_goals simp (disch := omega) only [dif_pos, dif_neg, false_and, dite_false, Nat.sub_sub, Nat.reduceAdd, Nat.add_sub_cancel_left, q14, q15, q16, add_zero, zero_add]

theorem ref_2 (t : Fin 4096) (j : Fin 32) :
    val_main_v26 (F := Ideal) a2 a3 a4 a5 (ix2 t ⟨1536 + (32 + j.val), by omega⟩) = a5 (ix2 t ⟨32 + j.val, by omega⟩) * a2 (ix2 t j) + -a5 (ix2 t ⟨j.val, by omega⟩) * a3 (ix2 t j) := by
  pointwise [val_main_v26, val_main_v24, val_main_cst_1, val_main_v23, val_main_v21, val_main_cst, val_main_v18, val_main_v15, val_main_v13, val_main_v17, val_main_v16, val_main_v12, val_main_v22, val_main_cst_0, val_main_v20, val_main_v14, val_main_v19, val_main_v25, val_main_cst_2]
  all_goals simp (disch := omega) only [dif_pos, dif_neg, false_and, dite_false, Nat.sub_sub, Nat.reduceAdd, Nat.add_sub_cancel_left, q14, q15, q16, add_zero, zero_add]

/-! The prepared weights, column by column. -/

theorem w_c (d : Fin 4096) (i : Fin 1536) :
    h_r a1 (ix2 ⟨i.val, by omega⟩ d) = a1 (ix2 d ⟨i.val, by omega⟩) := by
  pointwise [h_r]
  all_goals simp (disch := omega) only [dif_pos, dif_neg, false_and, dite_false, Nat.sub_sub, Nat.reduceAdd, Nat.add_sub_cancel_left, add_zero, zero_add]

theorem w_1 (d : Fin 4096) (j : Fin 32) :
    h_r a1 (ix2 ⟨1536 + j.val, by omega⟩ d) = a1 (ix2 d ⟨1536 + j.val, by omega⟩) := by
  pointwise [h_r]
  all_goals simp (disch := omega) only [dif_pos, dif_neg, false_and, dite_false, Nat.sub_sub, Nat.reduceAdd, Nat.add_sub_cancel_left, q14, q15, q16, add_zero, zero_add]

theorem w_2 (d : Fin 4096) (j : Fin 32) :
    h_r a1 (ix2 ⟨1536 + (32 + j.val), by omega⟩ d) = a1 (ix2 d ⟨1536 + (32 + j.val), by omega⟩) := by
  pointwise [h_r]
  all_goals simp (disch := omega) only [dif_pos, dif_neg, false_and, dite_false, Nat.sub_sub, Nat.reduceAdd, Nat.add_sub_cancel_left, q14, q15, q16, add_zero, zero_add]

theorem w_3 (d : Fin 4096) (j : Fin 32) :
    h_r a1 (ix2 ⟨1536 + (128 + j.val), by omega⟩ d) = -a1 (ix2 d ⟨1536 + (32 + j.val), by omega⟩) := by
  pointwise [h_r]
  all_goals simp (disch := omega) only [dif_pos, dif_neg, false_and, dite_false, Nat.sub_sub, Nat.reduceAdd, Nat.add_sub_cancel_left, q14, q15, q16, add_zero, zero_add]

theorem w_4 (d : Fin 4096) (j : Fin 32) :
    h_r a1 (ix2 ⟨1536 + (160 + j.val), by omega⟩ d) = a1 (ix2 d ⟨1536 + j.val, by omega⟩) := by
  pointwise [h_r]
  all_goals simp (disch := omega) only [dif_pos, dif_neg, false_and, dite_false, Nat.sub_sub, Nat.reduceAdd, Nat.add_sub_cancel_left, q14, q15, q16, add_zero, zero_add]

/-- The product is the reference's. -/
theorem same (h1 : ∀ y : S4096x1600.Idx, ∃ r : ℝ, a1 y = (r : EReal)) (h2 : ∀ y : S4096x32.Idx, ∃ r : ℝ, a2 y = (r : EReal)) (h3 : ∀ y : S4096x32.Idx, ∃ r : ℝ, a3 y = (r : EReal)) (h5 : ∀ y : S4096x64.Idx, ∃ r : ℝ, a5 y = (r : EReal)) :
    gW (h_l a2 a3 a4 a5) (h_r a1) = val_main_v27 (F := Ideal) a1 a2 a3 a4 a5 := by
  choose v1 e1 using h1
  choose v2 e2 using h2
  choose v3 e3 using h3
  choose v5 e5 using h5
  funext y
  obtain ⟨x, z, rfl⟩ : ∃ (x : Fin 4096) (z : Fin 4096), y = ix2 x z := ⟨y 0, y 1, by funext d; fin_cases d <;> rfl⟩
  have el : ∀ k, lidx_main_v27 (ix2 x z) k = ix2 x k := fun k => by funext d; fin_cases d <;> rfl
  have er : ∀ k, ridx_main_v27 (ix2 x z) k = ix2 z k := fun k => by funext d; fin_cases d <;> rfl
  rw [val_main_v27_apply]
  simp only [el, er]
  show ∑ e, (fun e : Fin 1792 => h_l a2 a3 a4 a5 (ix2 x e) * h_r a1 (ix2 e z)) e = ∑ e, (fun e : Fin 1600 => val_main_v26 (F := Ideal) a2 a3 a4 a5 (ix2 x e) * a1 (ix2 z e)) e
  refine (Cert.Rotary.sum_ext (C := 1536) rfl (fun e : Fin 1792 => h_l a2 a3 a4 a5 (ix2 x e) * h_r a1 (ix2 e z)) (fun j => ?_) (fun j => ?_)).trans (Eq.trans ?_ (Cert.Rotary.sum_ref (C := 1536) rfl (fun e : Fin 1600 => val_main_v26 (F := Ideal) a2 a3 a4 a5 (ix2 x e) * a1 (ix2 z e))).symm)
  · exact (congrArg (· * _) (g_z1 a2 a3 a4 a5 x j)).trans (zero_mul _)
  · exact (congrArg (· * _) (g_z2 a2 a3 a4 a5 x j)).trans (zero_mul _)
  refine congrArg₂ (· + ·) (Finset.sum_congr rfl fun i _ => ?_) (Finset.sum_congr rfl fun j _ => ?_)
  · show h_l a2 a3 a4 a5 (ix2 x ⟨i.val, by omega⟩) * h_r a1 (ix2 ⟨i.val, by omega⟩ z) = _
    rw [g_c, w_c, ref_c]
  · show h_l a2 a3 a4 a5 (ix2 x ⟨1536 + j.val, by omega⟩) * h_r a1 (ix2 ⟨1536 + j.val, by omega⟩ z) + h_l a2 a3 a4 a5 (ix2 x ⟨1536 + (32 + j.val), by omega⟩) * h_r a1 (ix2 ⟨1536 + (32 + j.val), by omega⟩ z)
      + h_l a2 a3 a4 a5 (ix2 x ⟨1536 + (128 + j.val), by omega⟩) * h_r a1 (ix2 ⟨1536 + (128 + j.val), by omega⟩ z) + h_l a2 a3 a4 a5 (ix2 x ⟨1536 + (160 + j.val), by omega⟩) * h_r a1 (ix2 ⟨1536 + (160 + j.val), by omega⟩ z) = _
    rw [g_1, g_2, g_3, g_4, w_1, w_2, w_3, w_4, ref_1, ref_2]
    simp only [e1, e2, e3, e5]
    exact Cert.Rotary.pair _ _ _ _ _ _

variable (m : (ℓ : Loc nD τ sig) → Buf (Elt Ideal) ℓ)

/-- The reference's result, at the arguments of the kernel's memory. -/
abbrev out0 (c : Dev nD) := Cert.ColXRefIdeal.Read.val_main_v27 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The run of the kernel's program: the reference's values, the arguments unchanged. -/
theorem ends (ρ : Dev nD → PrngReg)
    (hr1 : ∀ (c : Dev nD) (y : S4096x1600.Idx), ∃ d : ℝ, (m ((c.tc : Thread nD τ).loc main_arg1) : (⟨S4096x1600, .f32⟩ : BufTy).Contents (Elt Ideal)) y = (d : EReal)) (hr2 : ∀ (c : Dev nD) (y : S4096x32.Idx), ∃ d : ℝ, (m ((c.tc : Thread nD τ).loc main_arg2) : (⟨S4096x32, .f32⟩ : BufTy).Contents (Elt Ideal)) y = (d : EReal)) (hr3 : ∀ (c : Dev nD) (y : S4096x32.Idx), ∃ d : ℝ, (m ((c.tc : Thread nD τ).loc main_arg3) : (⟨S4096x32, .f32⟩ : BufTy).Contents (Elt Ideal)) y = (d : EReal)) (hr5 : ∀ (c : Dev nD) (y : S4096x64.Idx), ∃ d : ℝ, (m ((c.tc : Thread nD τ).loc main_arg5) : (⟨S4096x64, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v18) = out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((arr2 m c).trans (same _ _ _ _ _ (hr1 c) (hr2 c) (hr3 c) (hr5 c))), (h c).2⟩) (Cert.ColXIdeal.Value.run_blocks m ρ)

end Cert.ColXIdeal.Val

namespace Cert.ColXRefIdeal.Val

open Idealize.ShloMosaic Idealize.ShloMosaic.TcCoe Idealize.SL Idealize.SL.Sem Cert.ColXRefIdeal.Gen Cert.ColXRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Cert.ColXRefIdeal.Value.run m ρ)

end Cert.ColXRefIdeal.Val

namespace Cert.Proof

open Idealize.ShloMosaic Idealize.SL Idealize.SL.Sem

/-- The kernel's result is the reference's, when the arrays of the precondition are real. -/
theorem colX_algebraic : Cert.algebraic_ColXIdeal_ColXRefIdeal_pre_finite_columns_input := by
  intro m g m' g' hpre hagree
  refine ⟨Cert.ColXIdeal.Val.out0 m,
    Cert.ColXIdeal.Val.ends m g (fun c => Cert.Rotary.real2 _ _ (hpre c).1) (fun c => Cert.Rotary.real2 _ _ (hpre c).2.1) (fun c => Cert.Rotary.real2 _ _ (hpre c).2.2.1) (fun c => Cert.Rotary.real2 _ _ (hpre c).2.2.2), ?_⟩
  refine (θ_run _ _ _).mono (fun r h c => ⟨(h c).1.trans ((Cert.ColXRefIdeal.Read.val_main_v27_eq _ _ _ _ _ ).trans ?_), (h c).2⟩) (Cert.ColXRefIdeal.Value.run m' g')
  · exact ((congrArg₂ (fun a b => Cert.ColXRefIdeal.Read.val_main_v27 (F := Ideal) a b _ _ _) (hagree c).2.1 (hagree c).2.2.1).trans ((congrArg₂ (fun a b => Cert.ColXRefIdeal.Read.val_main_v27 (F := Ideal) _ _ a b _) (hagree c).2.2.2.1 (hagree c).2.2.2.2.1).trans (congrArg (fun a => Cert.ColXRefIdeal.Read.val_main_v27 (F := Ideal) _ _ _ _ a) (hagree c).2.2.2.2.2)))

end Cert.Proof

end
-- ==== Proof.ColEnds.lean ====
/- The input product's first columns: what the product leaves is the reference's result.

   The kernel lays the rotary columns out twice, rotated the second time, and pads; the reference rotates the result. -/
module

public import proofs.«01_k».proof.Defs
public import proofs.«01_k».proof.Proof.ColArr
public import proofs.«01_k».proof.Proof.Rotary
public import proofs.«01_k».proof.Proof.RotaryFinite
public import proofs.«01_k».proof.Proof.ColXEnds
public import proofs.«01_k».proof.Proof.Gen.ColRefIdeal.Read
public import proofs.«01_k».proof.Proof.Gen.Pre_finite_columns

@[expose] public section

set_option maxRecDepth 16384

noncomputable section

namespace Cert.ColIdeal.Val

open Idealize.ShloMosaic Idealize.ShloMosaic.TcCoe Idealize.SL Idealize.SL.Sem Cert.ColIdeal.Gen Cert.ColRefIdeal.Read Cert.Rotary.Index

variable (a0 : (⟨S4096x4096, .f32⟩ : BufTy).Contents (Elt Ideal)) (a1 : (⟨S4096x1600, .f32⟩ : BufTy).Contents (Elt Ideal)) (a2 : (⟨S4096x32, .f32⟩ : BufTy).Contents (Elt Ideal)) (a3 : (⟨S4096x32, .f32⟩ : BufTy).Contents (Elt Ideal))

/-! The prepared weights, column by column. -/

theorem w_c (d : Fin 4096) (i : Fin 1536) :
    h_r a1 (ix2 ⟨i.val, by omega⟩ d) = a1 (ix2 d ⟨i.val, by omega⟩) :=
  Cert.ColXIdeal.Val.w_c a1 d i

theorem w_1 (d : Fin 4096) (j : Fin 32) :
    h_r a1 (ix2 ⟨1536 + j.val, by omega⟩ d) = a1 (ix2 d ⟨1536 + j.val, by omega⟩) :=
  Cert.ColXIdeal.Val.w_1 a1 d j

theorem w_2 (d : Fin 4096) (j : Fin 32) :
    h_r a1 (ix2 ⟨1536 + (32 + j.val), by omega⟩ d) = a1 (ix2 d ⟨1536 + (32 + j.val), by omega⟩) :=
  Cert.ColXIdeal.Val.w_2 a1 d j

theorem w_3 (d : Fin 4096) (j : Fin 32) :
    h_r a1 (ix2 ⟨1536 + (128 + j.val), by omega⟩ d) = -a1 (ix2 d ⟨1536 + (32 + j.val), by omega⟩) :=
  Cert.ColXIdeal.Val.w_3 a1 d j

theorem w_4 (d : Fin 4096) (j : Fin 32) :
    h_r a1 (ix2 ⟨1536 + (160 + j.val), by omega⟩ d) = a1 (ix2 d ⟨1536 + j.val, by omega⟩) :=
  Cert.ColXIdeal.Val.w_4 a1 d j

/-- The other operand is the array itself. -/
theorem x_at (t : Fin 4096) (x : Fin 4096) : h_l a0 (ix2 t x) = a0 (ix2 t x) := by
  pointwise [h_l]

/-- The plain columns of the product. -/
def t_o (y : (⟨S4096x1792, .f32⟩ : BufTy).Contents (Elt Ideal)) : (⟨S4096x1536, .f32⟩ : BufTy).Contents (Elt Ideal) :=
  extractStridedSlice S4096x1536 ![0, 0] y slices_S4096x1792_S4096x1536_0_0

/-- The rotary columns: the columns times the cosines, the rotated ones times the sines. -/
def t_r (y : (⟨S4096x1792, .f32⟩ : BufTy).Contents (Elt Ideal)) (a2 : (⟨S4096x32, .f32⟩ : BufTy).Contents (Elt Ideal)) (a3 : (⟨S4096x32, .f32⟩ : BufTy).Contents (Elt Ideal)) : (⟨S4096x64, .f32⟩ : BufTy).Contents (Elt Ideal) :=
  addf (F := Ideal) (φ := .f32) (mulf (F := Ideal) (φ := .f32) (extractStridedSlice S4096x64 ![0, 1536] y slices_S4096x1792_S4096x64_0_1536) (concatenate S4096x64 1 [⟨S4096x32, a2⟩, ⟨S4096x32, a2⟩] concatenates_S4096x32_S4096x32_S4096x64_d1)) (mulf (F := Ideal) (φ := .f32) (extractStridedSlice S4096x64 ![0, 1664] y slices_S4096x1792_S4096x64_0_1664) (concatenate S4096x64 1 [⟨S4096x32, a3⟩, ⟨S4096x32, a3⟩] concatenates_S4096x32_S4096x32_S4096x64_d1))

theorem t_c (y : (⟨S4096x1792, .f32⟩ : BufTy).Contents (Elt Ideal)) (x : Fin 4096) (i : Fin 1536) :
    t_o y (ix2 x i) = y (ix2 x ⟨i.val, by omega⟩) := by
  pointwise [t_o]
  all_goals simp (disch := omega) only [dif_pos, dif_neg, false_and, dite_false, Nat.sub_sub, Nat.reduceAdd, Nat.add_sub_cancel_left, add_zero, zero_add]

theorem t_1 (y : (⟨S4096x1792, .f32⟩ : BufTy).Contents (Elt Ideal)) (a2 : (⟨S4096x32, .f32⟩ : BufTy).Contents (Elt Ideal)) (a3 : (⟨S4096x32, .f32⟩ : BufTy).Contents (Elt Ideal)) (x : Fin 4096) (j : Fin 32) :
    t_r y a2 a3 (ix2 x ⟨j.val, by omega⟩) = y (ix2 x ⟨1536 + j.val, by omega⟩) * a2 (ix2 x j) + y (ix2 x ⟨1536 + (128 + j.val), by omega⟩) * a3 (ix2 x j) := by
  pointwise [t_r]
  all_goals simp (disch := omega) only [dif_pos, dif_neg, false_and, dite_false, Nat.sub_sub, Nat.reduceAdd, Nat.add_sub_cancel_left, q14, q15, q16, add_zero, zero_add]

theorem t_2 (y : (⟨S4096x1792, .f32⟩ : BufTy).Contents (Elt Ideal)) (a2 : (⟨S4096x32, .f32⟩ : BufTy).Contents (Elt Ideal)) (a3 : (⟨S4096x32, .f32⟩ : BufTy).Contents (Elt Ideal)) (x : Fin 4096) (j : Fin 32) :
    t_r y a2 a3 (ix2 x ⟨32 + j.val, by omega⟩) = y (ix2 x ⟨1536 + (32 + j.val), by omega⟩) * a2 (ix2 x j) + y (ix2 x ⟨1536 + (160 + j.val), by omega⟩) * a3 (ix2 x j) := by
  pointwise [t_r]
  all_goals simp (disch := omega) only [dif_pos, dif_neg, false_and, dite_false, Nat.sub_sub, Nat.reduceAdd, Nat.add_sub_cancel_left, q14, q15, q16, add_zero, zero_add]

theorem ref_c (x : Fin 4096) (i : Fin 1536) :
    val_main_v1 (F := Ideal) a0 a1 (ix2 x i) = val_main_v0 (F := Ideal) a0 a1 (ix2 x ⟨i.val, by omega⟩) := by
  pointwise [val_main_v1]
  all_goals simp (disch := omega) only [dif_pos, dif_neg, false_and, dite_false, Nat.sub_sub, Nat.reduceAdd, Nat.add_sub_cancel_left, add_zero, zero_add]

theorem ref_1 (x : Fin 4096) (j : Fin 32) :
    val_main_v11 (F := Ideal) a0 a1 a2 a3 (ix2 x ⟨j.val, by omega⟩) = val_main_v0 (F := Ideal) a0 a1 (ix2 x ⟨1536 + j.val, by omega⟩) * a2 (ix2 x j) - val_main_v0 (F := Ideal) a0 a1 (ix2 x ⟨1536 + (32 + j.val), by omega⟩) * a3 (ix2 x j) := by
  pointwise [val_main_v11, val_main_v10, val_main_v8, val_main_v4, val_main_v2, val_main_v9, val_main_v3, val_main_v7, val_main_v5, val_main_v6]
  all_goals simp (disch := omega) only [dif_pos, dif_neg, false_and, dite_false, Nat.sub_sub, Nat.reduceAdd, Nat.add_sub_cancel_left, q14, q15, q16, add_zero, zero_add]

theorem ref_2 (x : Fin 4096) (j : Fin 32) :
    val_main_v11 (F := Ideal) a0 a1 a2 a3 (ix2 x ⟨32 + j.val, by omega⟩) = val_main_v0 (F := Ideal) a0 a1 (ix2 x ⟨1536 + (32 + j.val), by omega⟩) * a2 (ix2 x j) + val_main_v0 (F := Ideal) a0 a1 (ix2 x ⟨1536 + j.val, by omega⟩) * a3 (ix2 x j) := by
  pointwise [val_main_v11, val_main_v10, val_main_v8, val_main_v4, val_main_v2, val_main_v9, val_main_v3, val_main_v7, val_main_v5, val_main_v6]
  all_goals simp (disch := omega) only [dif_pos, dif_neg, false_and, dite_false, Nat.sub_sub, Nat.reduceAdd, Nat.add_sub_cancel_left, q14, q15, q16, add_zero, zero_add]

/-- An entry of the reference's product. -/
theorem ref_at (x : Fin 4096) (e : Fin 1600) :
    val_main_v0 (F := Ideal) a0 a1 (ix2 x e) = ∑ k : Fin 4096, a0 (ix2 x k) * a1 (ix2 k e) := by
  have el : ∀ k, lidx_main_v0 (ix2 x e) k = ix2 x k := fun k => by funext d; fin_cases d <;> rfl
  have er : ∀ k, ridx_main_v0 (ix2 x e) k = ix2 k e := fun k => by funext d; fin_cases d <;> rfl
  rw [val_main_v0_apply]
  simp only [el, er]

/-- An entry of the kernel's product. -/
theorem gW_at (x : Fin 4096) (e : Fin 1792) :
    gW (h_l a0) (h_r a1) (ix2 x e) = ∑ k : Fin 4096, a0 (ix2 x k) * h_r a1 (ix2 e k) :=
  Finset.sum_congr rfl fun k _ => congrArg (· * _) (x_at a0 x k)

/-- The plain columns are the reference's. -/
theorem same_c : t_o (gW (h_l a0) (h_r a1)) = val_main_v1 (F := Ideal) a0 a1 := by
  funext y
  obtain ⟨x, i, rfl⟩ : ∃ (x : Fin 4096) (i : Fin 1536), y = (ix2 x i) := ⟨y 0, y 1, by funext d; fin_cases d <;> rfl⟩
  rw [t_c, ref_c, gW_at, ref_at]
  simp only [w_c]

/-- The rotary columns are the reference's. -/
theorem same_r (h0 : ∀ y : S4096x4096.Idx, ∃ r : ℝ, a0 y = (r : EReal)) (h1 : ∀ y : S4096x1600.Idx, ∃ r : ℝ, a1 y = (r : EReal)) :
    t_r (gW (h_l a0) (h_r a1)) a2 a3 = val_main_v11 (F := Ideal) a0 a1 a2 a3 := by
  choose v0 e0 using h0
  choose v1 e1 using h1
  funext y
  obtain ⟨x, z, rfl⟩ : ∃ (x : Fin 4096) (z : Fin 64), y = (ix2 x z) := ⟨y 0, y 1, by funext d; fin_cases d <;> rfl⟩
  obtain ⟨i, _⟩ | ⟨j, rfl⟩ | ⟨j, rfl⟩ := Cert.Rotary.cases (C := 0) rfl z
  · exact i.elim0
  · have ez : (⟨0 + j.val, by omega⟩ : Fin 64) = ⟨j.val, by omega⟩ := Fin.ext (Nat.zero_add _)
    rw [ez, t_1, ref_1, gW_at, gW_at, ref_at, ref_at]
    simp only [w_1, w_3]
    have e : (∑ k : Fin 4096, a0 (ix2 x k) * -a1 (ix2 k ⟨1536 + (32 + j.val), by omega⟩)) = -∑ k : Fin 4096, a0 (ix2 x k) * a1 (ix2 k ⟨1536 + (32 + j.val), by omega⟩) := by
      simp only [e0, e1]
      exact Cert.Rotary.neg (fun k => v0 (ix2 x k)) (fun k => v1 (ix2 k ⟨1536 + (32 + j.val), by omega⟩))
    rw [e, EReal.neg_mul, sub_eq_add_neg]
  · have ez : (⟨0 + (32 + j.val), by omega⟩ : Fin 64) = ⟨32 + j.val, by omega⟩ := Fin.ext (Nat.zero_add _)
    rw [ez, t_2, ref_2, gW_at, gW_at, ref_at, ref_at]
    simp only [w_2, w_4]

variable (m : (ℓ : Loc nD τ sig) → Buf (Elt Ideal) ℓ)

/-- The reference's result, at the arguments of the kernel's memory. -/
abbrev out0 (c : Dev nD) := Cert.ColRefIdeal.Read.val_main_v1 (F := Ideal) (m ((c.tc : Thread nD τ).loc main_arg0)) (m ((c.tc : Thread nD τ).loc main_arg1))

/-- The reference's result, at the arguments of the kernel's memory. -/
abbrev out1 (c : Dev nD) := Cert.ColRefIdeal.Read.val_main_v11 (F := Ideal) (m ((c.tc : Thread nD τ).loc main_arg0)) (m ((c.tc : Thread nD τ).loc main_arg1)) (m ((c.tc : Thread nD τ).loc main_arg2)) (m ((c.tc : Thread nD τ).loc main_arg3))

/-- The run of the kernel's program: the reference's values, the arguments unchanged. -/
theorem ends (ρ : Dev nD → PrngReg)
    (hr0 : ∀ (c : Dev nD) (y : S4096x4096.Idx), ∃ d : ℝ, (m ((c.tc : Thread nD τ).loc main_arg0) : (⟨S4096x4096, .f32⟩ : BufTy).Contents (Elt Ideal)) y = (d : EReal)) (hr1 : ∀ (c : Dev nD) (y : S4096x1600.Idx), ∃ d : ℝ, (m ((c.tc : Thread nD τ).loc main_arg1) : (⟨S4096x1600, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v15) = out0 m c
      ∧ r.2.mem ((c.tc : Thread nD τ).loc main_v20) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((congrArg t_o (arr2 m c)).trans (same_c _ _)),
    (h c).2.1.trans ((congrArg (fun y => t_r y (m ((c.tc : Thread nD τ).loc main_arg2)) (m ((c.tc : Thread nD τ).loc main_arg3))) (arr2 m c)).trans (same_r _ _ _ _ (hr0 c) (hr1 c))), (h c).2.2⟩) (Cert.ColIdeal.Value.run m ρ)

end Cert.ColIdeal.Val

namespace Cert.ColRefIdeal.Val

open Idealize.ShloMosaic Idealize.ShloMosaic.TcCoe Idealize.SL Idealize.SL.Sem Cert.ColRefIdeal.Gen Cert.ColRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Cert.ColRefIdeal.Value.run m ρ)

end Cert.ColRefIdeal.Val

namespace Cert.Proof

open Idealize.ShloMosaic Idealize.SL Idealize.SL.Sem

/-- The kernel's results are the reference's, when the arrays of the precondition are real. -/
theorem col_algebraic : Cert.algebraic_ColIdeal_ColRefIdeal_pre_finite_columns := by
  intro m g m' g' hpre hagree
  refine ⟨Cert.ColIdeal.Val.out0 m, Cert.ColIdeal.Val.out1 m,
    Cert.ColIdeal.Val.ends m g (fun c => Cert.Rotary.real2 _ _ (hpre c).1) (fun c => Cert.Rotary.real2 _ _ (hpre c).2), ?_⟩
  refine (θ_run _ _ _).mono (fun r h c => ⟨(h c).1.trans ((Cert.ColRefIdeal.Read.val_main_v1_eq _ _ ).trans ?_), (h c).2.1.trans ((Cert.ColRefIdeal.Read.val_main_v11_eq _ _ _ _ ).trans ?_), (h c).2.2⟩) (Cert.ColRefIdeal.Value.run m' g')
  · exact (congrArg₂ (fun a b => Cert.ColRefIdeal.Read.val_main_v1 (F := Ideal) a b) (hagree c).1 (hagree c).2.1)
  · exact ((congrArg₂ (fun a b => Cert.ColRefIdeal.Read.val_main_v11 (F := Ideal) a b _ _) (hagree c).1 (hagree c).2.1).trans (congrArg₂ (fun a b => Cert.ColRefIdeal.Read.val_main_v11 (F := Ideal) _ _ a b) (hagree c).2.2.1 (hagree c).2.2.2))

end Cert.Proof

end
-- ==== Proof.ColWArr.lean ====
/- The gradient of the weights of the input product's first columns: what the host code prepares for the product, and what the product leaves.

   The grid is (row tile i, column tile j), two steps each, the first of which starts the accumulator and the second adds to it and writes it out. -/
module

public import proofs.«01_k».proof.Defs
public import proofs.«01_k».proof.Proof.Gen.ColWIdeal.Run
public import proofs.«01_k».proof.Proof.FfnSum
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ColWIdeal.Val

open Idealize.ShloMosaic Idealize.ShloMosaic.TcCoe Idealize.SL Idealize.SL.Sem Cert.ColWIdeal.Gen

/-- The product of one step. -/
def stepDot (a : Vec Ideal S2048x1792 .bf16) (b : Vec Ideal S2048x1024 .bf16) (x : Fin 1792) (y : Fin 1024) : EReal :=
  ∑ k : Fin 2048, a (ix2 k x) * b (ix2 k y)

theorem pay1_at (a : Vec Ideal S2048x1792 .bf16) (b : Vec Ideal S2048x1024 .bf16) (x : Fin 1792) (y : Fin 1024) :
    k0_pay1 (F := Ideal) a b (ix2 x y) = stepDot a b x y := by
  unfold stepDot
  pointwise [k0_pay1]

theorem pay2_at (s : Vec Ideal S1792x1024 .f32) (a : Vec Ideal S2048x1792 .bf16) (b : Vec Ideal S2048x1024 .bf16) (x : Fin 1792) (y : Fin 1024) :
    k0_pay2 (F := Ideal) s a b (ix2 x y) = s (ix2 x y) + stepDot a b x y := by
  unfold stepDot
  pointwise [k0_pay2]

/-- The product's left operand, as the host code prepares it. -/
def h_l (a2 : (⟨S4096x32, .f32⟩ : BufTy).Contents (Elt Ideal)) (a3 : (⟨S4096x32, .f32⟩ : BufTy).Contents (Elt Ideal)) (a4 : (⟨S4096x1536, .f32⟩ : BufTy).Contents (Elt Ideal)) (a5 : (⟨S4096x64, .f32⟩ : BufTy).Contents (Elt Ideal)) : (⟨S4096x1792, .bf16⟩ : BufTy).Contents (Elt Ideal) :=
  (truncf (F := Ideal) .bf16 (concatenate S4096x1792 1 [⟨S4096x1536, a4⟩, ⟨S4096x64, (mulf (F := Ideal) (φ := .f32) a5 (concatenate S4096x64 1 [⟨S4096x32, a2⟩, ⟨S4096x32, a2⟩] concatenates_S4096x32_S4096x32_S4096x64_d1))⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩, ⟨S4096x64, (mulf (F := Ideal) (φ := .f32) a5 (concatenate S4096x64 1 [⟨S4096x32, a3⟩, ⟨S4096x32, a3⟩] concatenates_S4096x32_S4096x32_S4096x64_d1))⟩, ⟨S4096x64, (broadcastInDim S4096x64 ![] bcast_S_S4096x64 ((constant (F := Ideal) S_ .f32 0x00000000#32) : (⟨S_, .f32⟩ : BufTy).Contents (Elt Ideal)) : (⟨S4096x64, .f32⟩ : BufTy).Contents (Elt Ideal))⟩] concatenates_S4096x1536_S4096x64_S4096x64_S4096x64_S4096x64_S4096x1792_d1 : (⟨S4096x1792, .f32⟩ : BufTy).Contents (Elt Ideal)) bitsLt_bf16_f32)

/-- The product's right operand, as the host code prepares it. -/
def h_r (a0 : (⟨S4096x4096, .f32⟩ : BufTy).Contents (Elt Ideal)) : (⟨S4096x4096, .bf16⟩ : BufTy).Contents (Elt Ideal) :=
  (truncf (F := Ideal) .bf16 a0 bitsLt_bf16_f32)

/-- Row `y 0`, column `y 1` of the product. -/
def gW (a : (⟨S4096x1792, .bf16⟩ : BufTy).Contents (Elt Ideal)) (b : (⟨S4096x4096, .bf16⟩ : BufTy).Contents (Elt Ideal)) : (⟨S1792x4096, .f32⟩ : BufTy).Contents (Elt Ideal) :=
  fun y => ∑ k : Fin 4096, a (ix2 k (y 0)) * b (ix2 k (y 1))

variable (m : (ℓ : Loc nD τ sig) → Buf (Elt Ideal) ℓ) (c : Dev nD)

set_option maxHeartbeats 4000000

/-- The left operand of a memory. -/
abbrev pL := h_l (m ((c : Thread nD τ).loc main_arg2)) (m ((c : Thread nD τ).loc main_arg3)) (m ((c : Thread nD τ).loc main_arg4)) (m ((c : Thread nD τ).loc main_arg5))

/-- The right operand of a memory. -/
abbrev pR := h_r (m ((c : Thread nD τ).loc main_arg0))

theorem V_l : V m c main_v6 = pL m c := by
  simp only [V, V0, hostOps0, List.flatten_cons, List.flatten_nil, List.append_nil, List.cons_append, List.nil_append]
  after_results <;> rfl

theorem V_r : V m c main_v7 = pR m c := by
  simp only [V, V0, hostOps0, List.flatten_cons, List.flatten_nil, List.append_nil, List.cons_append, List.nil_append]
  after_results <;> rfl

theorem idx0 : ∀ t : Fin cfg0.N, win0_0.index t = ![t.val % 2, 0] := by decide +kernel
theorem idx1 : ∀ t : Fin cfg0.N, win0_1.index t = ![t.val % 2, t.val / 2 % 4] := by decide +kernel
theorem idx2 : ∀ t : Fin cfg0.N, win0_2.index t = ![0, t.val / 2 % 4] := by decide +kernel

theorem rd0 (A : Buf (Elt Ideal) ((c : Thread nD τ).loc main_v6)) (t : Fin cfg0.N) (i : Fin 1) (j : Fin 4) (s : Fin 2) (ht : t.val = 8 * i.val + 2 * j.val + s.val) (x : Fin 1792) (k : Fin 2048) :
    ((cfg0.win 0).blk t).view.read (Elt Ideal) A (ix2 k x) = A (ix2 ⟨s.val * 2048 + k.val, by omega⟩ ⟨i.val * 1792 + x.val, by omega⟩) := by
  blk_ext [idx0 t]

theorem rd1 (A : Buf (Elt Ideal) ((c : Thread nD τ).loc main_v7)) (t : Fin cfg0.N) (i : Fin 1) (j : Fin 4) (s : Fin 2) (ht : t.val = 8 * i.val + 2 * j.val + s.val) (y : Fin 1024) (k : Fin 2048) :
    ((cfg0.win 1).blk t).view.read (Elt Ideal) A (ix2 k y) = A (ix2 ⟨s.val * 2048 + k.val, by omega⟩ ⟨j.val * 1024 + y.val, by omega⟩) := by
  blk_ext [idx1 t]

theorem emb2 (t : Fin cfg0.N) (i : Fin 1) (j : Fin 4) (s : Fin 2) (ht : t.val = 8 * i.val + 2 * j.val + s.val) (x : Fin 1792) (y : Fin 1024) :
    (((cfg0.win 2).blk t).view.emb (ix2 x y) : S1792x4096.Idx) = ix2 ⟨i.val * 1792 + x.val, by omega⟩ ⟨j.val * 1024 + y.val, by omega⟩ := by
  blk_ext [idx2 t]

theorem pt (t : Fin cfg0.N) : t.val < 8 := lt_of_lt_of_eq t.isLt (show cfg0.N = 8 from N_0)

/-- What a step computes, from the prepared operands. -/
theorem step_at (t : Fin cfg0.N) (i : Fin 1) (j : Fin 4) (s : Fin 2) (ht : t.val = 8 * i.val + 2 * j.val + s.val) (x : Fin 1792) (y : Fin 1024) :
    stepDot (iblk m c 0 t) (iblk m c 1 t) x y = ∑ k : Fin 2048, pL m c (ix2 ⟨s.val * 2048 + k.val, by omega⟩ ⟨i.val * 1792 + x.val, by omega⟩) * pR m c (ix2 ⟨s.val * 2048 + k.val, by omega⟩ ⟨j.val * 1024 + y.val, by omega⟩) := by
  unfold stepDot
  refine Finset.sum_congr rfl fun k _ => congrArg₂ (· * ·) ?_ ?_
  · exact (rd0 c (V m c main_v6) t i j s ht x k).trans (congrFun (V_l m c) _)
  · exact (rd1 c (V m c main_v7) t i j s ht y k).trans (congrFun (V_r m c) _)

theorem flush2 (t : Fin cfg0.N) : win0_2.flush t = true → t.val % 2 = 1 := by
  revert t; decide +kernel

/-- The first step starts the accumulator. -/
theorem acc_first (t : Fin cfg0.N) (h : t.val % 2 = 0) :
    (outsAt0 m c t.val t.isLt).2 = k0_pay1 (iblk m c 0 t) (iblk m c 1 t) := by
  rw [outsAt0_A m c t h (by omega) (by omega)]
  frame_open
  frame_out
  try simp only [read_unread_whole]

/-- The second step adds to it and writes the sum out. -/
theorem out_last (t : Fin cfg0.N) (h : t.val % 2 = 1) :
    (outsAt0 m c t.val t.isLt).1 = k0_pay2 (outsAt0 m c (t.val - 1) (Nat.lt_of_le_of_lt (Nat.sub_le _ _) t.isLt)).2 (iblk m c 0 t) (iblk m c 1 t) := by
  rw [outsAt0_B m c t (by omega) h h]
  frame_open
  frame_out
  try simp only [read_unread_whole]

/-- The two steps of a tile. -/
theorem out_two (i : Fin 1) (j : Fin 4) (t : Fin cfg0.N) (ht : t.val = 8 * i.val + 2 * j.val + 1) (x : Fin 1792) (y : Fin 1024) :
    (outsAt0 m c t.val t.isLt).1 (ix2 x y) = (gW (pL m c) (pR m c)) (ix2 ⟨i.val * 1792 + x.val, by omega⟩ ⟨j.val * 1024 + y.val, by omega⟩) := by
  have hN := pt t
  have h0 := acc_first m c ⟨t.val - 1, by have := t.isLt; omega⟩ (by show (t.val - 1) % 2 = 0; omega)
  have h1 := out_last m c t (by omega)
  have e0 := (congrFun h0 (ix2 x y)).trans ((pay1_at _ _ x y).trans (step_at m c _ i j 0 (by show t.val - 1 = 8 * i.val + 2 * j.val + 0; omega) x y))
  have e1 := (congrFun h1 (ix2 x y)).trans ((pay2_at _ _ _ x y).trans (congrArg₂ (· + ·) e0 (step_at m c _ i j 1 (by show t.val = 8 * i.val + 2 * j.val + 1; omega) x y)))
  exact e1.trans (Cert.Ffn.sum_two (n := 2048) rfl fun k => pL m c (ix2 k ⟨i.val * 1792 + x.val, by omega⟩) * pR m c (ix2 k ⟨j.val * 1024 + y.val, by omega⟩))

/-- The array the product leaves. -/
theorem arr2 : (dats m 0 c).arrAt 2 cfg0.N = (gW (pL m c) (pR m c)) :=
  (dats m 0 c).arrAt_eq_of_covers 2 _ (by decide +kernel) fun t hf y => by
    have h1 := flush2 t hf
    blk_simp
    rw [after0_2]
    have hN := pt t
    obtain ⟨a, b, rfl⟩ : ∃ (a : Fin 1792) (b : Fin 1024), y = ix2 a b := ⟨y 0, y 1, funext fun k => match k with | ⟨0, _⟩ => rfl | ⟨1, _⟩ => rfl⟩
    have ht : t.val = 8 * (⟨t.val / 8, by omega⟩ : Fin 1).val + 2 * (⟨t.val / 2 % 4, by omega⟩ : Fin 4).val + 1 := by
      show t.val = 8 * (t.val / 8) + 2 * (t.val / 2 % 4) + 1; omega
    rw [out_two m c _ _ t ht a b]
    exact (congrArg (gW (pL m c) (pR m c)) (emb2 t _ _ 1 ht a b)).symm

end Cert.ColWIdeal.Val

end
-- ==== Proof.ColWEnds.lean ====
/- The gradient of the input product's first columns of weights: what the product leaves is the reference's result.

   The kernel lays the rotary columns out twice, rotated the second time, and pads; the reference rotates the result. -/
module

public import proofs.«01_k».proof.Defs
public import proofs.«01_k».proof.Proof.ColWArr
public import proofs.«01_k».proof.Proof.Rotary
public import proofs.«01_k».proof.Proof.RotaryFinite
public import proofs.«01_k».proof.Proof.ColXEnds
public import proofs.«01_k».proof.Proof.Gen.ColWRefIdeal.Read
public import proofs.«01_k».proof.Proof.Gen.Pre_finite_columns_weight

@[expose] public section

set_option maxRecDepth 16384

noncomputable section

namespace Cert.ColWIdeal.Val

open Idealize.ShloMosaic Idealize.ShloMosaic.TcCoe Idealize.SL Idealize.SL.Sem Cert.ColWIdeal.Gen Cert.ColWRefIdeal.Read Cert.Rotary.Index

variable (a0 : (⟨S4096x4096, .f32⟩ : BufTy).Contents (Elt Ideal)) (a2 : (⟨S4096x32, .f32⟩ : BufTy).Contents (Elt Ideal)) (a3 : (⟨S4096x32, .f32⟩ : BufTy).Contents (Elt Ideal)) (a4 : (⟨S4096x1536, .f32⟩ : BufTy).Contents (Elt Ideal)) (a5 : (⟨S4096x64, .f32⟩ : BufTy).Contents (Elt Ideal))

/-! The prepared gradient, column by column. -/

theorem g_c (t : Fin 4096) (i : Fin 1536) :
    h_l a2 a3 a4 a5 (ix2 t ⟨i.val, by omega⟩) = a4 (ix2 t i) :=
  Cert.ColXIdeal.Val.g_c a2 a3 a4 a5 t i

theorem g_1 (t : Fin 4096) (j : Fin 32) :
    h_l a2 a3 a4 a5 (ix2 t ⟨1536 + j.val, by omega⟩) = a5 (ix2 t ⟨j.val, by omega⟩) * a2 (ix2 t j) :=
  Cert.ColXIdeal.Val.g_1 a2 a3 a4 a5 t j

theorem g_2 (t : Fin 4096) (j : Fin 32) :
    h_l a2 a3 a4 a5 (ix2 t ⟨1536 + (32 + j.val), by omega⟩) = a5 (ix2 t ⟨32 + j.val, by omega⟩) * a2 (ix2 t j) :=
  Cert.ColXIdeal.Val.g_2 a2 a3 a4 a5 t j

theorem g_3 (t : Fin 4096) (j : Fin 32) :
    h_l a2 a3 a4 a5 (ix2 t ⟨1536 + (128 + j.val), by omega⟩) = a5 (ix2 t ⟨j.val, by omega⟩) * a3 (ix2 t j) :=
  Cert.ColXIdeal.Val.g_3 a2 a3 a4 a5 t j

theorem g_4 (t : Fin 4096) (j : Fin 32) :
    h_l a2 a3 a4 a5 (ix2 t ⟨1536 + (160 + j.val), by omega⟩) = a5 (ix2 t ⟨32 + j.val, by omega⟩) * a3 (ix2 t j) :=
  Cert.ColXIdeal.Val.g_4 a2 a3 a4 a5 t j

/-! The reference's gradient of the product, column by column. -/

theorem ref_c (t : Fin 4096) (i : Fin 1536) :
    val_main_v26 (F := Ideal) a2 a3 a4 a5 (ix2 t ⟨i.val, by omega⟩) = a4 (ix2 t i) :=
  Cert.ColXIdeal.Val.ref_c a2 a3 a4 a5 t i

theorem ref_1 (t : Fin 4096) (j : Fin 32) :
    val_main_v26 (F := Ideal) a2 a3 a4 a5 (ix2 t ⟨1536 + j.val, by omega⟩) = a5 (ix2 t ⟨32 + j.val, by omega⟩) * a3 (ix2 t j) + a5 (ix2 t ⟨j.val, by omega⟩) * a2 (ix2 t j) :=
  Cert.ColXIdeal.Val.ref_1 a2 a3 a4 a5 t j

theorem ref_2 (t : Fin 4096) (j : Fin 32) :
    val_main_v26 (F := Ideal) a2 a3 a4 a5 (ix2 t ⟨1536 + (32 + j.val), by omega⟩) = a5 (ix2 t ⟨32 + j.val, by omega⟩) * a2 (ix2 t j) + -a5 (ix2 t ⟨j.val, by omega⟩) * a3 (ix2 t j) :=
  Cert.ColXIdeal.Val.ref_2 a2 a3 a4 a5 t j

/-- The other operand is the array itself. -/
theorem x_at (t : Fin 4096) (x : Fin 4096) : h_r a0 (ix2 t x) = a0 (ix2 t x) := by
  pointwise [h_r]

/-- What the host code makes of the product: the rotary rows and the rotated ones, turned back, are added. -/
def t_o (y : (⟨S1792x4096, .f32⟩ : BufTy).Contents (Elt Ideal)) : (⟨S4096x1600, .f32⟩ : BufTy).Contents (Elt Ideal) :=
  transpose S4096x1600 [1, 0] (concatenate S1600x4096 0 [⟨S1536x4096, (extractStridedSlice S1536x4096 ![0, 0] y slices_S1792x4096_S1536x4096_0_0)⟩, ⟨S64x4096, (addf (F := Ideal) (φ := .f32) (extractStridedSlice S64x4096 ![1536, 0] y slices_S1792x4096_S64x4096_1536_0) (concatenate S64x4096 0 [⟨S32x4096, (extractStridedSlice S32x4096 ![32, 0] (extractStridedSlice S64x4096 ![1664, 0] y slices_S1792x4096_S64x4096_1664_0) slices_S64x4096_S32x4096_32_0)⟩, ⟨S32x4096, (Host.negf (F := Ideal) (φ := .f32) (extractStridedSlice S32x4096 ![0, 0] (extractStridedSlice S64x4096 ![1664, 0] y slices_S1792x4096_S64x4096_1664_0) slices_S64x4096_S32x4096_0_0))⟩] concatenates_S32x4096_S32x4096_S64x4096_d0))⟩] concatenates_S1536x4096_S64x4096_S1600x4096_d0) transposes_S1600x4096_S4096x1600_1_0

theorem t_c (y : (⟨S1792x4096, .f32⟩ : BufTy).Contents (Elt Ideal)) (d : Fin 4096) (i : Fin 1536) :
    t_o y (ix2 d ⟨i.val, by omega⟩) = y (ix2 ⟨i.val, by omega⟩ d) := by
  pointwise [t_o]
  all_goals simp (disch := omega) only [dif_pos, dif_neg, false_and, dite_false, Nat.sub_sub, Nat.reduceAdd, Nat.add_sub_cancel_left, add_zero, zero_add]

theorem t_1 (y : (⟨S1792x4096, .f32⟩ : BufTy).Contents (Elt Ideal)) (d : Fin 4096) (j : Fin 32) :
    t_o y (ix2 d ⟨1536 + j.val, by omega⟩) = y (ix2 ⟨1536 + j.val, by omega⟩ d) + y (ix2 ⟨1536 + (160 + j.val), by omega⟩ d) := by
  pointwise [t_o]
  all_goals simp (disch := omega) only [dif_pos, dif_neg, false_and, dite_false, Nat.sub_sub, Nat.reduceAdd, Nat.add_sub_cancel_left, q14, q15, q16, add_zero, zero_add]

theorem t_2 (y : (⟨S1792x4096, .f32⟩ : BufTy).Contents (Elt Ideal)) (d : Fin 4096) (j : Fin 32) :
    t_o y (ix2 d ⟨1536 + (32 + j.val), by omega⟩) = y (ix2 ⟨1536 + (32 + j.val), by omega⟩ d) + -y (ix2 ⟨1536 + (128 + j.val), by omega⟩ d) := by
  pointwise [t_o]
  all_goals simp (disch := omega) only [dif_pos, dif_neg, false_and, dite_false, Nat.sub_sub, Nat.reduceAdd, Nat.add_sub_cancel_left, q14, q15, q16, add_zero, zero_add]

/-- The result is the reference's. -/
theorem same (h0 : ∀ y : S4096x4096.Idx, ∃ r : ℝ, a0 y = (r : EReal)) (h2 : ∀ y : S4096x32.Idx, ∃ r : ℝ, a2 y = (r : EReal)) (h3 : ∀ y : S4096x32.Idx, ∃ r : ℝ, a3 y = (r : EReal)) (h5 : ∀ y : S4096x64.Idx, ∃ r : ℝ, a5 y = (r : EReal)) :
    t_o (gW (h_l a2 a3 a4 a5) (h_r a0)) = val_main_v28 (F := Ideal) a0 a2 a3 a4 a5 := by
  choose v0 e0 using h0
  choose v2 e2 using h2
  choose v3 e3 using h3
  choose v5 e5 using h5
  funext y
  obtain ⟨x, z, rfl⟩ : ∃ (x : Fin 4096) (z : Fin 1600), y = ix2 x z := ⟨y 0, y 1, by funext d; fin_cases d <;> rfl⟩
  have el : ∀ k, lidx_main_v27 (idx_main_v28 (ix2 x z)) k = ix2 k z := fun k => by funext d; fin_cases d <;> rfl
  have er : ∀ k, ridx_main_v27 (idx_main_v28 (ix2 x z)) k = ix2 k x := fun k => by funext d; fin_cases d <;> rfl
  rw [val_main_v28_apply, val_main_v27_apply]
  simp only [el, er]
  clear el er
  have eW : ∀ e, gW (h_l a2 a3 a4 a5) (h_r a0) (ix2 e x) = ∑ k : Fin 4096, h_l a2 a3 a4 a5 (ix2 k e) * h_r a0 (ix2 k x) := fun _ => rfl
  obtain ⟨i, rfl⟩ | ⟨j, rfl⟩ | ⟨j, rfl⟩ := Cert.Rotary.cases (C := 1536) rfl z
  · refine (t_c _ _ _).trans ?_
    rw [eW]
    exact Finset.sum_congr rfl fun k _ => congrArg₂ (· * ·) ((g_c _ _ _ _ _ _).trans (ref_c _ _ _ _ _ _).symm) (x_at _ _ _)
  · refine (t_1 _ _ _).trans ?_
    rw [eW, eW]
    refine Eq.trans ?_ (Finset.sum_congr rfl fun k _ => congrArg (· * a0 (ix2 k x)) (ref_1 a2 a3 a4 a5 k j).symm)
    simp only [g_1, g_4, x_at, e0, e2, e3, e5]
    exact Cert.Rotary.first (fun t => v5 (ix2 t ⟨j.val, by omega⟩)) (fun t => v5 (ix2 t ⟨32 + j.val, by omega⟩)) (fun t => v2 (ix2 t j)) (fun t => v3 (ix2 t j)) (fun t => v0 (ix2 t x))
  · refine (t_2 _ _ _).trans ?_
    rw [eW, eW]
    refine Eq.trans ?_ (Finset.sum_congr rfl fun k _ => congrArg (· * a0 (ix2 k x)) (ref_2 a2 a3 a4 a5 k j).symm)
    simp only [g_2, g_3, x_at, e0, e2, e3, e5]
    exact Cert.Rotary.second (fun t => v5 (ix2 t ⟨j.val, by omega⟩)) (fun t => v5 (ix2 t ⟨32 + j.val, by omega⟩)) (fun t => v2 (ix2 t j)) (fun t => v3 (ix2 t j)) (fun t => v0 (ix2 t x))

variable (m : (ℓ : Loc nD τ sig) → Buf (Elt Ideal) ℓ)

/-- The reference's result, at the arguments of the kernel's memory. -/
abbrev out0 (c : Dev nD) := Cert.ColWRefIdeal.Read.val_main_v28 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

/-- The run of the kernel's program: the reference's values, the arguments unchanged. -/
theorem ends (ρ : Dev nD → PrngReg)
    (hr0 : ∀ (c : Dev nD) (y : S4096x4096.Idx), ∃ d : ℝ, (m ((c.tc : Thread nD τ).loc main_arg0) : (⟨S4096x4096, .f32⟩ : BufTy).Contents (Elt Ideal)) y = (d : EReal)) (hr2 : ∀ (c : Dev nD) (y : S4096x32.Idx), ∃ d : ℝ, (m ((c.tc : Thread nD τ).loc main_arg2) : (⟨S4096x32, .f32⟩ : BufTy).Contents (Elt Ideal)) y = (d : EReal)) (hr3 : ∀ (c : Dev nD) (y : S4096x32.Idx), ∃ d : ℝ, (m ((c.tc : Thread nD τ).loc main_arg3) : (⟨S4096x32, .f32⟩ : BufTy).Contents (Elt Ideal)) y = (d : EReal)) (hr5 : ∀ (c : Dev nD) (y : S4096x64.Idx), ∃ d : ℝ, (m ((c.tc : Thread nD τ).loc main_arg5) : (⟨S4096x64, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v18) = out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((congrArg t_o (arr2 m c)).trans (same _ _ _ _ _ (hr0 c) (hr2 c) (hr3 c) (hr5 c))), (h c).2⟩) (Cert.ColWIdeal.Value.run m ρ)

end Cert.ColWIdeal.Val

namespace Cert.ColWRefIdeal.Val

open Idealize.ShloMosaic Idealize.ShloMosaic.TcCoe Idealize.SL Idealize.SL.Sem Cert.ColWRefIdeal.Gen Cert.ColWRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Cert.ColWRefIdeal.Value.run m ρ)

end Cert.ColWRefIdeal.Val

namespace Cert.Proof

open Idealize.ShloMosaic Idealize.SL Idealize.SL.Sem

/-- The kernel's result is the reference's, when the arrays of the precondition are real. -/
theorem colW_algebraic : Cert.algebraic_ColWIdeal_ColWRefIdeal_pre_finite_columns_weight := by
  intro m g m' g' hpre hagree
  refine ⟨Cert.ColWIdeal.Val.out0 m,
    Cert.ColWIdeal.Val.ends m g (fun c => Cert.Rotary.real2 _ _ (hpre c).1) (fun c => Cert.Rotary.real2 _ _ (hpre c).2.1) (fun c => Cert.Rotary.real2 _ _ (hpre c).2.2.1) (fun c => Cert.Rotary.real2 _ _ (hpre c).2.2.2), ?_⟩
  refine (θ_run _ _ _).mono (fun r h c => ⟨(h c).1.trans ((Cert.ColWRefIdeal.Read.val_main_v28_eq _ _ _ _ _ ).trans ?_), (h c).2⟩) (Cert.ColWRefIdeal.Value.run m' g')
  · exact ((congrArg₂ (fun a b => Cert.ColWRefIdeal.Read.val_main_v28 (F := Ideal) a b _ _ _) (hagree c).1 (hagree c).2.2.1).trans ((congrArg₂ (fun a b => Cert.ColWRefIdeal.Read.val_main_v28 (F := Ideal) _ _ a b _) (hagree c).2.2.2.1 (hagree c).2.2.2.2.1).trans (congrArg (fun a => Cert.ColWRefIdeal.Read.val_main_v28 (F := Ideal) _ _ _ _ a) (hagree c).2.2.2.2.2)))

end Cert.Proof

end
-- ==== Proof.QuArr.lean ====
/- The queries from the compressed ones: what the host code prepares for the product, and what the product leaves.

   The grid is (row tile i, column tile j), one step each. -/
module

public import proofs.«01_k».proof.Defs
public import proofs.«01_k».proof.Proof.Gen.QuIdeal.Run
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QuIdeal.Val

open Idealize.ShloMosaic Idealize.ShloMosaic.TcCoe Idealize.SL Idealize.SL.Sem Cert.QuIdeal.Gen

/-- The product of one step. -/
def stepDot (a : Vec Ideal S1024x1024 .bf16) (b : Vec Ideal S1024x1024 .bf16) (x : Fin 1024) (y : Fin 1024) : EReal :=
  ∑ k : Fin 1024, a (ix2 x k) * b (ix2 k y)

theorem pay1_at (a : Vec Ideal S1024x1024 .bf16) (b : Vec Ideal S1024x1024 .bf16) (x : Fin 1024) (y : Fin 1024) :
    k0_pay1 (F := Ideal) a b (ix2 x y) = stepDot a b x y := by
  unfold stepDot
  pointwise [k0_pay1]

/-- The product's left operand, as the host code prepares it. -/
def h_l (a0 : (⟨S4096x1024, .f32⟩ : BufTy).Contents (Elt Ideal)) : (⟨S4096x1024, .bf16⟩ : BufTy).Contents (Elt Ideal) :=
  (truncf (F := Ideal) .bf16 a0 bitsLt_bf16_f32)

/-- The product's right operand, as the host code prepares it. -/
def h_r (a1 : (⟨S1024x3072, .f32⟩ : BufTy).Contents (Elt Ideal)) : (⟨S1024x6144, .bf16⟩ : BufTy).Contents (Elt Ideal) :=
  (truncf (F := Ideal) .bf16 (shapeCast _ (concatenate S1024x16x384 2 [⟨S1024x16x128, (extractStridedSlice S1024x16x128 ![0, 0, 0] (shapeCast _ a1 shapeCasts_S1024x3072_S1024x16x192) slices_S1024x16x192_S1024x16x128_0_0_0)⟩, ⟨S1024x16x64, (extractStridedSlice S1024x16x64 ![0, 0, 128] (shapeCast _ a1 shapeCasts_S1024x3072_S1024x16x192) slices_S1024x16x192_S1024x16x64_0_0_128)⟩, ⟨S1024x16x64, (broadcastInDim S1024x16x64 ![] bcast_S_S1024x16x64 ((constant (F := Ideal) S_ .f32 0x00000000#32) : (⟨S_, .f32⟩ : BufTy).Contents (Elt Ideal)) : (⟨S1024x16x64, .f32⟩ : BufTy).Contents (Elt Ideal))⟩, ⟨S1024x16x64, (concatenate S1024x16x64 2 [⟨S1024x16x32, (Host.negf (F := Ideal) (φ := .f32) (extractStridedSlice S1024x16x32 ![0, 0, 32] (extractStridedSlice S1024x16x64 ![0, 0, 128] (shapeCast _ a1 shapeCasts_S1024x3072_S1024x16x192) slices_S1024x16x192_S1024x16x64_0_0_128) slices_S1024x16x64_S1024x16x32_0_0_32))⟩, ⟨S1024x16x32, (extractStridedSlice S1024x16x32 ![0, 0, 0] (extractStridedSlice S1024x16x64 ![0, 0, 128] (shapeCast _ a1 shapeCasts_S1024x3072_S1024x16x192) slices_S1024x16x192_S1024x16x64_0_0_128) slices_S1024x16x64_S1024x16x32_0_0_0)⟩] concatenates_S1024x16x32_S1024x16x32_S1024x16x64_d2)⟩, ⟨S1024x16x64, (broadcastInDim S1024x16x64 ![] bcast_S_S1024x16x64 ((constant (F := Ideal) S_ .f32 0x00000000#32) : (⟨S_, .f32⟩ : BufTy).Contents (Elt Ideal)) : (⟨S1024x16x64, .f32⟩ : BufTy).Contents (Elt Ideal))⟩] concatenates_S1024x16x128_S1024x16x64_S1024x16x64_S1024x16x64_S1024x16x64_S1024x16x384_d2 : (⟨S1024x16x384, .f32⟩ : BufTy).Contents (Elt Ideal)) shapeCasts_S1024x16x384_S1024x6144) bitsLt_bf16_f32)

/-- Row `y 0`, column `y 1` of the product. -/
def gW (a : (⟨S4096x1024, .bf16⟩ : BufTy).Contents (Elt Ideal)) (b : (⟨S1024x6144, .bf16⟩ : BufTy).Contents (Elt Ideal)) : (⟨S4096x6144, .f32⟩ : BufTy).Contents (Elt Ideal) :=
  fun y => ∑ k : Fin 1024, a (ix2 (y 0) k) * b (ix2 k (y 1))

variable (m : (ℓ : Loc nD τ sig) → Buf (Elt Ideal) ℓ) (c : Dev nD)

set_option maxHeartbeats 4000000

/-- The left operand of a memory. -/
abbrev pL := h_l (m ((c : Thread nD τ).loc main_arg0))

/-- The right operand of a memory. -/
abbrev pR := h_r (m ((c : Thread nD τ).loc main_arg1))

theorem V_l : V m c main_v0 = pL m c := by
  simp only [V, V0, hostOps0, List.flatten_cons, List.flatten_nil, List.append_nil, List.cons_append, List.nil_append]
  after_results <;> rfl

theorem V_r : V m c main_v12 = pR m c := by
  simp only [V, V0, hostOps0, List.flatten_cons, List.flatten_nil, List.append_nil, List.cons_append, List.nil_append]
  after_results <;> rfl

theorem idx0 : ∀ t : Fin cfg0.N, win0_0.index t = ![t.val / 6, 0] := by decide +kernel
theorem idx1 : ∀ t : Fin cfg0.N, win0_1.index t = ![0, t.val % 6] := by decide +kernel
theorem idx2 : ∀ t : Fin cfg0.N, win0_2.index t = ![t.val / 6, t.val % 6] := by decide +kernel

theorem rd0 (A : Buf (Elt Ideal) ((c : Thread nD τ).loc main_v0)) (t : Fin cfg0.N) (i : Fin 4) (j : Fin 6) (ht : t.val = 6 * i.val + 1 * j.val) (x : Fin 1024) (k : Fin 1024) :
    ((cfg0.win 0).blk t).view.read (Elt Ideal) A (ix2 x k) = A (ix2 ⟨i.val * 1024 + x.val, by omega⟩ k) := by
  blk_ext [idx0 t]

theorem rd1 (A : Buf (Elt Ideal) ((c : Thread nD τ).loc main_v12)) (t : Fin cfg0.N) (i : Fin 4) (j : Fin 6) (ht : t.val = 6 * i.val + 1 * j.val) (y : Fin 1024) (k : Fin 1024) :
    ((cfg0.win 1).blk t).view.read (Elt Ideal) A (ix2 k y) = A (ix2 k ⟨j.val * 1024 + y.val, by omega⟩) := by
  blk_ext [idx1 t]

theorem emb2 (t : Fin cfg0.N) (i : Fin 4) (j : Fin 6) (ht : t.val = 6 * i.val + 1 * j.val) (x : Fin 1024) (y : Fin 1024) :
    (((cfg0.win 2).blk t).view.emb (ix2 x y) : S4096x6144.Idx) = ix2 ⟨i.val * 1024 + x.val, by omega⟩ ⟨j.val * 1024 + y.val, by omega⟩ := by
  blk_ext [idx2 t]

theorem pt (t : Fin cfg0.N) : t.val < 24 := lt_of_lt_of_eq t.isLt (show cfg0.N = 24 from N_0)

/-- What a step computes, from the prepared operands. -/
theorem step_at (t : Fin cfg0.N) (i : Fin 4) (j : Fin 6) (ht : t.val = 6 * i.val + 1 * j.val) (x : Fin 1024) (y : Fin 1024) :
    stepDot (iblk m c 0 t) (iblk m c 1 t) x y = ∑ k : Fin 1024, pL m c (ix2 ⟨i.val * 1024 + x.val, by omega⟩ k) * pR m c (ix2 k ⟨j.val * 1024 + y.val, by omega⟩) := by
  unfold stepDot
  refine Finset.sum_congr rfl fun k _ => congrArg₂ (· * ·) ?_ ?_
  · exact (rd0 c (V m c main_v0) t i j ht x k).trans (congrFun (V_l m c) _)
  · exact (rd1 c (V m c main_v12) t i j ht y k).trans (congrFun (V_r m c) _)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- The array the product leaves. -/
theorem arr2 : (dats m 0 c).arrAt 2 cfg0.N = (gW (pL m c) (pR m c)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 6 * (⟨t.val / 6, by omega⟩ : Fin 4).val + 1 * (⟨t.val % 6, by omega⟩ : Fin 6).val := by
      show t.val = 6 * (t.val / 6) + 1 * (t.val % 6); omega
    rw [out_eq, pay1_at, step_at m c t _ _ ht a b]
    exact (congrArg (gW (pL m c) (pR m c)) (emb2 t _ _ ht a b)).symm

end Cert.QuIdeal.Val

end
-- ==== Proof.QuXArr.lean ====
/- The gradient of the compressed queries: what the host code prepares for the product, and what the product leaves.

   The grid is (row tile i, column tile j), two steps each, the first of which starts the accumulator and the second adds to it and writes it out. -/
module

public import proofs.«01_k».proof.Defs
public import proofs.«01_k».proof.Proof.Gen.QuXIdeal.Value
public import proofs.«01_k».proof.Proof.FfnSum
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QuXIdeal.Val

open Idealize.ShloMosaic Idealize.ShloMosaic.TcCoe Idealize.SL Idealize.SL.Sem Cert.QuXIdeal.Gen

/-- The product of one step. -/
def stepDot (a : Vec Ideal S1024x3072 .bf16) (b : Vec Ideal S1024x3072 .bf16) (x : Fin 1024) (y : Fin 1024) : EReal :=
  ∑ k : Fin 3072, a (ix2 x k) * b (ix2 y k)

theorem pay1_at (a : Vec Ideal S1024x3072 .bf16) (b : Vec Ideal S1024x3072 .bf16) (x : Fin 1024) (y : Fin 1024) :
    k0_pay1 (F := Ideal) a b (ix2 x y) = stepDot a b x y := by
  unfold stepDot
  pointwise [k0_pay1]

theorem pay2_at (s : Vec Ideal S1024x1024 .f32) (a : Vec Ideal S1024x3072 .bf16) (b : Vec Ideal S1024x3072 .bf16) (x : Fin 1024) (y : Fin 1024) :
    k0_pay2 (F := Ideal) s a b (ix2 x y) = s (ix2 x y) + stepDot a b x y := by
  unfold stepDot
  pointwise [k0_pay2]

/-- The product's left operand, as the host code prepares it. -/
def h_l (a2 : (⟨S4096x32, .f32⟩ : BufTy).Contents (Elt Ideal)) (a3 : (⟨S4096x32, .f32⟩ : BufTy).Contents (Elt Ideal)) (a4 : (⟨S4096x16x128, .f32⟩ : BufTy).Contents (Elt Ideal)) (a5 : (⟨S4096x16x64, .f32⟩ : BufTy).Contents (Elt Ideal)) : (⟨S4096x6144, .bf16⟩ : BufTy).Contents (Elt Ideal) :=
  (truncf (F := Ideal) .bf16 (shapeCast _ (concatenate S4096x16x384 2 [⟨S4096x16x128, a4⟩, ⟨S4096x16x64, (mulf (F := Ideal) (φ := .f32) a5 (broadcastInDim S4096x16x64 ![0, 1, 2] bcast_S4096x1x64_S4096x16x64_0_1_2 (broadcastInDim S4096x1x64 ![0, 2] bcast_S4096x64_S4096x1x64_0_2 (concatenate S4096x64 1 [⟨S4096x32, a2⟩, ⟨S4096x32, a2⟩] concatenates_S4096x32_S4096x32_S4096x64_d1) : (⟨S4096x1x64, .f32⟩ : BufTy).Contents (Elt Ideal)) : (⟨S4096x16x64, .f32⟩ : BufTy).Contents (Elt Ideal)))⟩, ⟨S4096x16x64, (broadcastInDim S4096x16x64 ![] bcast_S_S4096x16x64 ((constant (F := Ideal) S_ .f32 0x00000000#32) : (⟨S_, .f32⟩ : BufTy).Contents (Elt Ideal)) : (⟨S4096x16x64, .f32⟩ : BufTy).Contents (Elt Ideal))⟩, ⟨S4096x16x64, (mulf (F := Ideal) (φ := .f32) a5 (broadcastInDim S4096x16x64 ![0, 1, 2] bcast_S4096x1x64_S4096x16x64_0_1_2 (broadcastInDim S4096x1x64 ![0, 2] bcast_S4096x64_S4096x1x64_0_2 (concatenate S4096x64 1 [⟨S4096x32, a3⟩, ⟨S4096x32, a3⟩] concatenates_S4096x32_S4096x32_S4096x64_d1) : (⟨S4096x1x64, .f32⟩ : BufTy).Contents (Elt Ideal)) : (⟨S4096x16x64, .f32⟩ : BufTy).Contents (Elt Ideal)))⟩, ⟨S4096x16x64, (broadcastInDim S4096x16x64 ![] bcast_S_S4096x16x64 ((constant (F := Ideal) S_ .f32 0x00000000#32) : (⟨S_, .f32⟩ : BufTy).Contents (Elt Ideal)) : (⟨S4096x16x64, .f32⟩ : BufTy).Contents (Elt Ideal))⟩] concatenates_S4096x16x128_S4096x16x64_S4096x16x64_S4096x16x64_S4096x16x64_S4096x16x384_d2 : (⟨S4096x16x384, .f32⟩ : BufTy).Contents (Elt Ideal)) shapeCasts_S4096x16x384_S4096x6144) bitsLt_bf16_f32)

/-- The product's right operand, as the host code prepares it. -/
def h_r (a1 : (⟨S1024x3072, .f32⟩ : BufTy).Contents (Elt Ideal)) : (⟨S1024x6144, .bf16⟩ : BufTy).Contents (Elt Ideal) :=
  (truncf (F := Ideal) .bf16 (shapeCast _ (concatenate S1024x16x384 2 [⟨S1024x16x128, (extractStridedSlice S1024x16x128 ![0, 0, 0] (shapeCast _ a1 shapeCasts_S1024x3072_S1024x16x192) slices_S1024x16x192_S1024x16x128_0_0_0)⟩, ⟨S1024x16x64, (extractStridedSlice S1024x16x64 ![0, 0, 128] (shapeCast _ a1 shapeCasts_S1024x3072_S1024x16x192) slices_S1024x16x192_S1024x16x64_0_0_128)⟩, ⟨S1024x16x64, (broadcastInDim S1024x16x64 ![] bcast_S_S1024x16x64 ((constant (F := Ideal) S_ .f32 0x00000000#32) : (⟨S_, .f32⟩ : BufTy).Contents (Elt Ideal)) : (⟨S1024x16x64, .f32⟩ : BufTy).Contents (Elt Ideal))⟩, ⟨S1024x16x64, (concatenate S1024x16x64 2 [⟨S1024x16x32, (Host.negf (F := Ideal) (φ := .f32) (extractStridedSlice S1024x16x32 ![0, 0, 32] (extractStridedSlice S1024x16x64 ![0, 0, 128] (shapeCast _ a1 shapeCasts_S1024x3072_S1024x16x192) slices_S1024x16x192_S1024x16x64_0_0_128) slices_S1024x16x64_S1024x16x32_0_0_32))⟩, ⟨S1024x16x32, (extractStridedSlice S1024x16x32 ![0, 0, 0] (extractStridedSlice S1024x16x64 ![0, 0, 128] (shapeCast _ a1 shapeCasts_S1024x3072_S1024x16x192) slices_S1024x16x192_S1024x16x64_0_0_128) slices_S1024x16x64_S1024x16x32_0_0_0)⟩] concatenates_S1024x16x32_S1024x16x32_S1024x16x64_d2)⟩, ⟨S1024x16x64, (broadcastInDim S1024x16x64 ![] bcast_S_S1024x16x64 ((constant (F := Ideal) S_ .f32 0x00000000#32) : (⟨S_, .f32⟩ : BufTy).Contents (Elt Ideal)) : (⟨S1024x16x64, .f32⟩ : BufTy).Contents (Elt Ideal))⟩] concatenates_S1024x16x128_S1024x16x64_S1024x16x64_S1024x16x64_S1024x16x64_S1024x16x384_d2 : (⟨S1024x16x384, .f32⟩ : BufTy).Contents (Elt Ideal)) shapeCasts_S1024x16x384_S1024x6144) bitsLt_bf16_f32)

/-- Row `y 0`, column `y 1` of the product. -/
def gW (a : (⟨S4096x6144, .bf16⟩ : BufTy).Contents (Elt Ideal)) (b : (⟨S1024x6144, .bf16⟩ : BufTy).Contents (Elt Ideal)) : (⟨S4096x1024, .f32⟩ : BufTy).Contents (Elt Ideal) :=
  fun y => ∑ k : Fin 6144, a (ix2 (y 0) k) * b (ix2 (y 1) k)

variable (m : (ℓ : Loc nD τ sig) → Buf (Elt Ideal) ℓ) (c : Dev nD)

set_option maxHeartbeats 4000000

/-- The left operand of a memory. -/
abbrev pL := h_l (m ((c : Thread nD τ).loc main_arg2)) (m ((c : Thread nD τ).loc main_arg3)) (m ((c : Thread nD τ).loc main_arg4)) (m ((c : Thread nD τ).loc main_arg5))

/-- The right operand of a memory. -/
abbrev pR := h_r (m ((c : Thread nD τ).loc main_arg1))

theorem V_l : V m c main_v11 = pL m c := by
  simp only [V, hostOps0, List.flatten_cons, List.flatten_nil, List.append_nil, List.cons_append, List.nil_append]
  after_results <;> rfl

theorem V_r : V m c main_v23 = pR m c := by
  simp only [V, hostOps0, List.flatten_cons, List.flatten_nil, List.append_nil, List.cons_append, List.nil_append]
  after_results <;> rfl

theorem idx0 : ∀ t : Fin cfg0.N, win0_0.index t = ![t.val / 2, t.val % 2] := by decide +kernel
theorem idx1 : ∀ t : Fin cfg0.N, win0_1.index t = ![0, t.val % 2] := by decide +kernel
theorem idx2 : ∀ t : Fin cfg0.N, win0_2.index t = ![t.val / 2, 0] := by decide +kernel

theorem rd0 (A : Buf (Elt Ideal) ((c : Thread nD τ).loc main_v11)) (t : Fin cfg0.N) (i : Fin 4) (j : Fin 1) (s : Fin 2) (ht : t.val = 2 * i.val + 2 * j.val + s.val) (x : Fin 1024) (k : Fin 3072) :
    ((cfg0.win 0).blk t).view.read (Elt Ideal) A (ix2 x k) = A (ix2 ⟨i.val * 1024 + x.val, by omega⟩ ⟨s.val * 3072 + k.val, by omega⟩) := by
  blk_ext [idx0 t]

theorem rd1 (A : Buf (Elt Ideal) ((c : Thread nD τ).loc main_v23)) (t : Fin cfg0.N) (i : Fin 4) (j : Fin 1) (s : Fin 2) (ht : t.val = 2 * i.val + 2 * j.val + s.val) (y : Fin 1024) (k : Fin 3072) :
    ((cfg0.win 1).blk t).view.read (Elt Ideal) A (ix2 y k) = A (ix2 ⟨j.val * 1024 + y.val, by omega⟩ ⟨s.val * 3072 + k.val, by omega⟩) := by
  blk_ext [idx1 t]

theorem emb2 (t : Fin cfg0.N) (i : Fin 4) (j : Fin 1) (s : Fin 2) (ht : t.val = 2 * i.val + 2 * j.val + s.val) (x : Fin 1024) (y : Fin 1024) :
    (((cfg0.win 2).blk t).view.emb (ix2 x y) : S4096x1024.Idx) = ix2 ⟨i.val * 1024 + x.val, by omega⟩ ⟨j.val * 1024 + y.val, by omega⟩ := by
  blk_ext [idx2 t]

theorem pt (t : Fin cfg0.N) : t.val < 8 := lt_of_lt_of_eq t.isLt (show cfg0.N = 8 from N_0)

/-- What a step computes, from the prepared operands. -/
theorem step_at (t : Fin cfg0.N) (i : Fin 4) (j : Fin 1) (s : Fin 2) (ht : t.val = 2 * i.val + 2 * j.val + s.val) (x : Fin 1024) (y : Fin 1024) :
    stepDot (iblk m c 0 t) (iblk m c 1 t) x y = ∑ k : Fin 3072, pL m c (ix2 ⟨i.val * 1024 + x.val, by omega⟩ ⟨s.val * 3072 + k.val, by omega⟩) * pR m c (ix2 ⟨j.val * 1024 + y.val, by omega⟩ ⟨s.val * 3072 + k.val, by omega⟩) := by
  unfold stepDot
  refine Finset.sum_congr rfl fun k _ => congrArg₂ (· * ·) ?_ ?_
  · exact (rd0 c (V m c main_v11) t i j s ht x k).trans (congrFun (V_l m c) _)
  · exact (rd1 c (V m c main_v23) t i j s ht y k).trans (congrFun (V_r m c) _)

theorem flush2 (t : Fin cfg0.N) : win0_2.flush t = true → t.val % 2 = 1 := by
  revert t; decide +kernel

/-- The first step starts the accumulator. -/
theorem acc_first (t : Fin cfg0.N) (h : t.val % 2 = 0) :
    (outsAt0 m c t.val t.isLt).2 = k0_pay1 (iblk m c 0 t) (iblk m c 1 t) := by
  rw [outsAt0_A m c t h (by omega) (by omega)]
  frame_open
  frame_out
  try simp only [read_unread_whole]

/-- The second step adds to it and writes the sum out. -/
theorem out_last (t : Fin cfg0.N) (h : t.val % 2 = 1) :
    (outsAt0 m c t.val t.isLt).1 = k0_pay2 (outsAt0 m c (t.val - 1) (Nat.lt_of_le_of_lt (Nat.sub_le _ _) t.isLt)).2 (iblk m c 0 t) (iblk m c 1 t) := by
  rw [outsAt0_B m c t (by omega) h h]
  frame_open
  frame_out
  try simp only [read_unread_whole]

/-- The two steps of a tile. -/
theorem out_two (i : Fin 4) (j : Fin 1) (t : Fin cfg0.N) (ht : t.val = 2 * i.val + 2 * j.val + 1) (x : Fin 1024) (y : Fin 1024) :
    (outsAt0 m c t.val t.isLt).1 (ix2 x y) = (gW (pL m c) (pR m c)) (ix2 ⟨i.val * 1024 + x.val, by omega⟩ ⟨j.val * 1024 + y.val, by omega⟩) := by
  have hN := pt t
  have h0 := acc_first m c ⟨t.val - 1, by have := t.isLt; omega⟩ (by show (t.val - 1) % 2 = 0; omega)
  have h1 := out_last m c t (by omega)
  have e0 := (congrFun h0 (ix2 x y)).trans ((pay1_at _ _ x y).trans (step_at m c _ i j 0 (by show t.val - 1 = 2 * i.val + 2 * j.val + 0; omega) x y))
  have e1 := (congrFun h1 (ix2 x y)).trans ((pay2_at _ _ _ x y).trans (congrArg₂ (· + ·) e0 (step_at m c _ i j 1 (by show t.val = 2 * i.val + 2 * j.val + 1; omega) x y)))
  exact e1.trans (Cert.Ffn.sum_two (n := 3072) rfl fun k => pL m c (ix2 ⟨i.val * 1024 + x.val, by omega⟩ k) * pR m c (ix2 ⟨j.val * 1024 + y.val, by omega⟩ k))

/-- The array the product leaves. -/
theorem arr2 : (dats m 0 c).arrAt 2 cfg0.N = (gW (pL m c) (pR m c)) :=
  (dats m 0 c).arrAt_eq_of_covers 2 _ (by decide +kernel) fun t hf y => by
    have h1 := flush2 t hf
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 2 * (⟨t.val / 2, by omega⟩ : Fin 4).val + 2 * (⟨t.val / 2 % 1, by omega⟩ : Fin 1).val + 1 := by
      show t.val = 2 * (t.val / 2) + 2 * (t.val / 2 % 1) + 1; omega
    rw [out_two m c _ _ t ht a b]
    exact (congrArg (gW (pL m c) (pR m c)) (emb2 t _ _ 1 ht a b)).symm

end Cert.QuXIdeal.Val

end
-- ==== Proof.QuXEnds.lean ====
/- The gradient of the queries' input: what the product leaves is the reference's result.

   The kernel lays the rotary columns out twice, rotated the second time, and pads; the reference rotates the result. -/
module

public import proofs.«01_k».proof.Defs
public import proofs.«01_k».proof.Proof.QuXArr
public import proofs.«01_k».proof.Proof.Rotary
public import proofs.«01_k».proof.Proof.RotaryFinite
public import proofs.«01_k».proof.Proof.Gen.QuXRefIdeal.Read
public import proofs.«01_k».proof.Proof.Gen.Pre_finite_queries_input

@[expose] public section

set_option maxRecDepth 16384

noncomputable section

namespace Cert.QuXIdeal.Val

open Idealize.ShloMosaic Idealize.ShloMosaic.TcCoe Idealize.SL Idealize.SL.Sem Cert.QuXIdeal.Gen Cert.QuXRefIdeal.Read Cert.Rotary.Index

variable (a1 : (⟨S1024x3072, .f32⟩ : BufTy).Contents (Elt Ideal)) (a2 : (⟨S4096x32, .f32⟩ : BufTy).Contents (Elt Ideal)) (a3 : (⟨S4096x32, .f32⟩ : BufTy).Contents (Elt Ideal)) (a4 : (⟨S4096x16x128, .f32⟩ : BufTy).Contents (Elt Ideal)) (a5 : (⟨S4096x16x64, .f32⟩ : BufTy).Contents (Elt Ideal))

/-! The prepared gradient, column by column. -/

theorem g_c (t : Fin 4096) (h : Fin 16) (i : Fin 128) :
    h_l a2 a3 a4 a5 (ix2 t ⟨h.val * 384 + i.val, by omega⟩) = a4 (ix3 t h i) := by
  pointwise [h_l]
  all_goals simp (disch := omega) only [dif_pos, dif_neg, false_and, dite_false, Nat.sub_sub, Nat.reduceAdd, Nat.add_sub_cancel_left, q12, q13, add_zero, zero_add]

theorem g_1 (t : Fin 4096) (h : Fin 16) (j : Fin 32) :
    h_l a2 a3 a4 a5 (ix2 t ⟨h.val * 384 + (128 + j.val), by omega⟩) = a5 (ix3 t h ⟨j.val, by omega⟩) * a2 (ix2 t j) := by
  pointwise [h_l]
  all_goals simp (disch := omega) only [dif_pos, dif_neg, false_and, dite_false, Nat.sub_sub, Nat.reduceAdd, Nat.add_sub_cancel_left, q1, q2, q3, q4, q5, q6, q7, q8, q9, q10, q11, add_zero, zero_add]

theorem g_2 (t : Fin 4096) (h : Fin 16) (j : Fin 32) :
    h_l a2 a3 a4 a5 (ix2 t ⟨h.val * 384 + (128 + (32 + j.val)), by omega⟩) = a5 (ix3 t h ⟨32 + j.val, by omega⟩) * a2 (ix2 t j) := by
  pointwise [h_l]
  all_goals simp (disch := omega) only [dif_pos, dif_neg, false_and, dite_false, Nat.sub_sub, Nat.reduceAdd, Nat.add_sub_cancel_left, q1, q2, q3, q4, q5, q6, q7, q8, q9, q10, q11, add_zero, zero_add]

theorem g_3 (t : Fin 4096) (h : Fin 16) (j : Fin 32) :
    h_l a2 a3 a4 a5 (ix2 t ⟨h.val * 384 + (128 + (128 + j.val)), by omega⟩) = a5 (ix3 t h ⟨j.val, by omega⟩) * a3 (ix2 t j) := by
  pointwise [h_l]
  all_goals simp (disch := omega) only [dif_pos, dif_neg, false_and, dite_false, Nat.sub_sub, Nat.reduceAdd, Nat.add_sub_cancel_left, q1, q2, q3, q4, q5, q6, q7, q8, q9, q10, q11, add_zero, zero_add]

theorem g_4 (t : Fin 4096) (h : Fin 16) (j : Fin 32) :
    h_l a2 a3 a4 a5 (ix2 t ⟨h.val * 384 + (128 + (160 + j.val)), by omega⟩) = a5 (ix3 t h ⟨32 + j.val, by omega⟩) * a3 (ix2 t j) := by
  pointwise [h_l]
  all_goals simp (disch := omega) only [dif_pos, dif_neg, false_and, dite_false, Nat.sub_sub, Nat.reduceAdd, Nat.add_sub_cancel_left, q1, q2, q3, q4, q5, q6, q7, q8, q9, q10, q11, add_zero, zero_add]

theorem g_z1 (t : Fin 4096) (h : Fin 16) (j : Fin 64) :
    h_l a2 a3 a4 a5 (ix2 t ⟨h.val * 384 + (128 + (64 + j.val)), by omega⟩) = 0 := by
  pointwise [h_l]
  all_goals simp (disch := omega) only [dif_pos, dif_neg, false_and, dite_false, Nat.sub_sub, Nat.reduceAdd, Nat.add_sub_cancel_left, add_zero, zero_add]

theorem g_z2 (t : Fin 4096) (h : Fin 16) (j : Fin 64) :
    h_l a2 a3 a4 a5 (ix2 t ⟨h.val * 384 + (128 + (192 + j.val)), by omega⟩) = 0 := by
  pointwise [h_l]
  all_goals simp (disch := omega) only [dif_pos, dif_neg, false_and, dite_false, Nat.sub_sub, Nat.reduceAdd, Nat.add_sub_cancel_left, add_zero, zero_add]

/-! The reference's gradient of the product, column by column. -/

theorem ref_c (t : Fin 4096) (h : Fin 16) (i : Fin 128) :
    val_main_v38 (F := Ideal) a2 a3 a4 a5 (ix2 t ⟨h.val * 192 + i.val, by omega⟩) = a4 (ix3 t h i) := by
  pointwise [val_main_v38, val_main_v37, val_main_v35, val_main_cst_1, val_main_v34, val_main_v32, val_main_cst, val_main_v28, val_main_v24, val_main_v20, val_main_v23, val_main_v4, val_main_v27, val_main_v25, val_main_v19, val_main_v26, val_main_v5, val_main_v33, val_main_cst_0, val_main_v31, val_main_v22, val_main_v21, val_main_v30, val_main_v29, val_main_v36, val_main_cst_2]
  all_goals simp (disch := omega) only [dif_pos, dif_neg, false_and, dite_false, Nat.sub_sub, Nat.reduceAdd, Nat.add_sub_cancel_left, q12, q13, add_zero, zero_add]

theorem ref_1 (t : Fin 4096) (h : Fin 16) (j : Fin 32) :
    val_main_v38 (F := Ideal) a2 a3 a4 a5 (ix2 t ⟨h.val * 192 + (128 + j.val), by omega⟩) = a5 (ix3 t h ⟨32 + j.val, by omega⟩) * a3 (ix2 t j) + a5 (ix3 t h ⟨j.val, by omega⟩) * a2 (ix2 t j) := by
  pointwise [val_main_v38, val_main_v37, val_main_v35, val_main_cst_1, val_main_v34, val_main_v32, val_main_cst, val_main_v28, val_main_v24, val_main_v20, val_main_v23, val_main_v4, val_main_v27, val_main_v25, val_main_v19, val_main_v26, val_main_v5, val_main_v33, val_main_cst_0, val_main_v31, val_main_v22, val_main_v21, val_main_v30, val_main_v29, val_main_v36, val_main_cst_2]
  all_goals simp (disch := omega) only [dif_pos, dif_neg, false_and, dite_false, Nat.sub_sub, Nat.reduceAdd, Nat.add_sub_cancel_left, q1, q2, q3, q4, q5, q6, q7, q8, q9, q10, q11, add_zero, zero_add]

theorem ref_2 (t : Fin 4096) (h : Fin 16) (j : Fin 32) :
    val_main_v38 (F := Ideal) a2 a3 a4 a5 (ix2 t ⟨h.val * 192 + (128 + (32 + j.val)), by omega⟩) = a5 (ix3 t h ⟨32 + j.val, by omega⟩) * a2 (ix2 t j) + -a5 (ix3 t h ⟨j.val, by omega⟩) * a3 (ix2 t j) := by
  pointwise [val_main_v38, val_main_v37, val_main_v35, val_main_cst_1, val_main_v34, val_main_v32, val_main_cst, val_main_v28, val_main_v24, val_main_v20, val_main_v23, val_main_v4, val_main_v27, val_main_v25, val_main_v19, val_main_v26, val_main_v5, val_main_v33, val_main_cst_0, val_main_v31, val_main_v22, val_main_v21, val_main_v30, val_main_v29, val_main_v36, val_main_cst_2]
  all_goals simp (disch := omega) only [dif_pos, dif_neg, false_and, dite_false, Nat.sub_sub, Nat.reduceAdd, Nat.add_sub_cancel_left, q1, q2, q3, q4, q5, q6, q7, q8, q9, q10, q11, add_zero, zero_add]

/-! The prepared weights, column by column. -/

theorem w_c (d : Fin 1024) (h : Fin 16) (i : Fin 128) :
    h_r a1 (ix2 d ⟨h.val * 384 + i.val, by omega⟩) = a1 (ix2 d ⟨h.val * 192 + i.val, by omega⟩) := by
  pointwise [h_r]
  all_goals simp (disch := omega) only [dif_pos, dif_neg, false_and, dite_false, Nat.sub_sub, Nat.reduceAdd, Nat.add_sub_cancel_left, q12, q13, add_zero, zero_add]

theorem w_1 (d : Fin 1024) (h : Fin 16) (j : Fin 32) :
    h_r a1 (ix2 d ⟨h.val * 384 + (128 + j.val), by omega⟩) = a1 (ix2 d ⟨h.val * 192 + (128 + j.val), by omega⟩) := by
  pointwise [h_r]
  all_goals simp (disch := omega) only [dif_pos, dif_neg, false_and, dite_false, Nat.sub_sub, Nat.reduceAdd, Nat.add_sub_cancel_left, q1, q2, q3, q4, q5, q6, q7, q8, q9, q10, q11, add_zero, zero_add]

theorem w_2 (d : Fin 1024) (h : Fin 16) (j : Fin 32) :
    h_r a1 (ix2 d ⟨h.val * 384 + (128 + (32 + j.val)), by omega⟩) = a1 (ix2 d ⟨h.val * 192 + (128 + (32 + j.val)), by omega⟩) := by
  pointwise [h_r]
  all_goals simp (disch := omega) only [dif_pos, dif_neg, false_and, dite_false, Nat.sub_sub, Nat.reduceAdd, Nat.add_sub_cancel_left, q1, q2, q3, q4, q5, q6, q7, q8, q9, q10, q11, add_zero, zero_add]

theorem w_3 (d : Fin 1024) (h : Fin 16) (j : Fin 32) :
    h_r a1 (ix2 d ⟨h.val * 384 + (128 + (128 + j.val)), by omega⟩) = -a1 (ix2 d ⟨h.val * 192 + (128 + (32 + j.val)), by omega⟩) := by
  pointwise [h_r]
  all_goals simp (disch := omega) only [dif_pos, dif_neg, false_and, dite_false, Nat.sub_sub, Nat.reduceAdd, Nat.add_sub_cancel_left, q1, q2, q3, q4, q5, q6, q7, q8, q9, q10, q11, add_zero, zero_add]

theorem w_4 (d : Fin 1024) (h : Fin 16) (j : Fin 32) :
    h_r a1 (ix2 d ⟨h.val * 384 + (128 + (160 + j.val)), by omega⟩) = a1 (ix2 d ⟨h.val * 192 + (128 + j.val), by omega⟩) := by
  pointwise [h_r]
  all_goals simp (disch := omega) only [dif_pos, dif_neg, false_and, dite_false, Nat.sub_sub, Nat.reduceAdd, Nat.add_sub_cancel_left, q1, q2, q3, q4, q5, q6, q7, q8, q9, q10, q11, add_zero, zero_add]

/-- The product is the reference's. -/
theorem same (h1 : ∀ y : S1024x3072.Idx, ∃ r : ℝ, a1 y = (r : EReal)) (h2 : ∀ y : S4096x32.Idx, ∃ r : ℝ, a2 y = (r : EReal)) (h3 : ∀ y : S4096x32.Idx, ∃ r : ℝ, a3 y = (r : EReal)) (h5 : ∀ y : S4096x16x64.Idx, ∃ r : ℝ, a5 y = (r : EReal)) :
    gW (h_l a2 a3 a4 a5) (h_r a1) = val_main_v39 (F := Ideal) a1 a2 a3 a4 a5 := by
  choose v1 e1 using h1
  choose v2 e2 using h2
  choose v3 e3 using h3
  choose v5 e5 using h5
  funext y
  obtain ⟨x, z, rfl⟩ : ∃ (x : Fin 4096) (z : Fin 1024), y = ix2 x z := ⟨y 0, y 1, by funext d; fin_cases d <;> rfl⟩
  have el : ∀ k, lidx_main_v39 (ix2 x z) k = ix2 x k := fun k => by funext d; fin_cases d <;> rfl
  have er : ∀ k, ridx_main_v39 (ix2 x z) k = ix2 z k := fun k => by funext d; fin_cases d <;> rfl
  rw [val_main_v39_apply]
  simp only [el, er]
  show ∑ e, (fun e : Fin 6144 => h_l a2 a3 a4 a5 (ix2 x e) * h_r a1 (ix2 z e)) e = ∑ e, (fun e : Fin 3072 => val_main_v38 (F := Ideal) a2 a3 a4 a5 (ix2 x e) * a1 (ix2 z e)) e
  refine (Cert.Rotary.sum_heads (p := 384) rfl (fun e : Fin 6144 => h_l a2 a3 a4 a5 (ix2 x e) * h_r a1 (ix2 z e))).trans (Eq.trans ?_ (Cert.Rotary.sum_heads (p := 192) rfl (fun e : Fin 3072 => val_main_v38 (F := Ideal) a2 a3 a4 a5 (ix2 x e) * a1 (ix2 z e))).symm)
  refine Finset.sum_congr rfl fun h _ => ?_
  refine (Cert.Rotary.sum_ext (C := 128) rfl (fun r : Fin 384 => (fun e : Fin 6144 => h_l a2 a3 a4 a5 (ix2 x e) * h_r a1 (ix2 z e)) ⟨h.val * 384 + r.val, by omega⟩) (fun j => ?_) (fun j => ?_)).trans
    (Eq.trans ?_ (Cert.Rotary.sum_ref (C := 128) rfl (fun r : Fin 192 => (fun e : Fin 3072 => val_main_v38 (F := Ideal) a2 a3 a4 a5 (ix2 x e) * a1 (ix2 z e)) ⟨h.val * 192 + r.val, by omega⟩)).symm)
  · exact (congrArg (· * _) (g_z1 a2 a3 a4 a5 x h j)).trans (zero_mul _)
  · exact (congrArg (· * _) (g_z2 a2 a3 a4 a5 x h j)).trans (zero_mul _)
  refine congrArg₂ (· + ·) (Finset.sum_congr rfl fun i _ => ?_) (Finset.sum_congr rfl fun j _ => ?_)
  · show h_l a2 a3 a4 a5 (ix2 x ⟨h.val * 384 + i.val, by omega⟩) * h_r a1 (ix2 z ⟨h.val * 384 + i.val, by omega⟩) = val_main_v38 (F := Ideal) a2 a3 a4 a5 (ix2 x ⟨h.val * 192 + i.val, by omega⟩) * a1 (ix2 z ⟨h.val * 192 + i.val, by omega⟩)
    rw [g_c, w_c, ref_c]
  · show h_l a2 a3 a4 a5 (ix2 x ⟨h.val * 384 + (128 + j.val), by omega⟩) * h_r a1 (ix2 z ⟨h.val * 384 + (128 + j.val), by omega⟩) + h_l a2 a3 a4 a5 (ix2 x ⟨h.val * 384 + (128 + (32 + j.val)), by omega⟩) * h_r a1 (ix2 z ⟨h.val * 384 + (128 + (32 + j.val)), by omega⟩)
      + h_l a2 a3 a4 a5 (ix2 x ⟨h.val * 384 + (128 + (128 + j.val)), by omega⟩) * h_r a1 (ix2 z ⟨h.val * 384 + (128 + (128 + j.val)), by omega⟩) + h_l a2 a3 a4 a5 (ix2 x ⟨h.val * 384 + (128 + (160 + j.val)), by omega⟩) * h_r a1 (ix2 z ⟨h.val * 384 + (128 + (160 + j.val)), by omega⟩)
      = val_main_v38 (F := Ideal) a2 a3 a4 a5 (ix2 x ⟨h.val * 192 + (128 + j.val), by omega⟩) * a1 (ix2 z ⟨h.val * 192 + (128 + j.val), by omega⟩) + val_main_v38 (F := Ideal) a2 a3 a4 a5 (ix2 x ⟨h.val * 192 + (128 + (32 + j.val)), by omega⟩) * a1 (ix2 z ⟨h.val * 192 + (128 + (32 + j.val)), by omega⟩)
    rw [g_1, g_2, g_3, g_4, w_1, w_2, w_3, w_4, ref_1, ref_2]
    simp only [e1, e2, e3, e5]
    exact Cert.Rotary.pair _ _ _ _ _ _

variable (m : (ℓ : Loc nD τ sig) → Buf (Elt Ideal) ℓ)

/-- The reference's result, at the arguments of the kernel's memory. -/
abbrev out0 (c : Dev nD) := Cert.QuXRefIdeal.Read.val_main_v39 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The run of the kernel's program: the reference's values, the arguments unchanged. -/
theorem ends (ρ : Dev nD → PrngReg)
    (hr1 : ∀ (c : Dev nD) (y : S1024x3072.Idx), ∃ d : ℝ, (m ((c.tc : Thread nD τ).loc main_arg1) : (⟨S1024x3072, .f32⟩ : BufTy).Contents (Elt Ideal)) y = (d : EReal)) (hr2 : ∀ (c : Dev nD) (y : S4096x32.Idx), ∃ d : ℝ, (m ((c.tc : Thread nD τ).loc main_arg2) : (⟨S4096x32, .f32⟩ : BufTy).Contents (Elt Ideal)) y = (d : EReal)) (hr3 : ∀ (c : Dev nD) (y : S4096x32.Idx), ∃ d : ℝ, (m ((c.tc : Thread nD τ).loc main_arg3) : (⟨S4096x32, .f32⟩ : BufTy).Contents (Elt Ideal)) y = (d : EReal)) (hr5 : ∀ (c : Dev nD) (y : S4096x16x64.Idx), ∃ d : ℝ, (m ((c.tc : Thread nD τ).loc main_arg5) : (⟨S4096x16x64, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v24) = out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((arr2 m c).trans (same _ _ _ _ _ (hr1 c) (hr2 c) (hr3 c) (hr5 c))), (h c).2⟩) (Cert.QuXIdeal.Value.run_blocks m ρ)

end Cert.QuXIdeal.Val

namespace Cert.QuXRefIdeal.Val

open Idealize.ShloMosaic Idealize.ShloMosaic.TcCoe Idealize.SL Idealize.SL.Sem Cert.QuXRefIdeal.Gen Cert.QuXRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Cert.QuXRefIdeal.Value.run m ρ)

end Cert.QuXRefIdeal.Val

namespace Cert.Proof

open Idealize.ShloMosaic Idealize.SL Idealize.SL.Sem

/-- The kernel's result is the reference's, when the arrays of the precondition are real. -/
theorem quX_algebraic : Cert.algebraic_QuXIdeal_QuXRefIdeal_pre_finite_queries_input := by
  intro m g m' g' hpre hagree
  refine ⟨Cert.QuXIdeal.Val.out0 m,
    Cert.QuXIdeal.Val.ends m g (fun c => Cert.Rotary.real2 _ _ (hpre c).1) (fun c => Cert.Rotary.real2 _ _ (hpre c).2.1) (fun c => Cert.Rotary.real2 _ _ (hpre c).2.2.1) (fun c => Cert.Rotary.real3 _ _ (hpre c).2.2.2), ?_⟩
  refine (θ_run _ _ _).mono (fun r h c => ⟨(h c).1.trans ((Cert.QuXRefIdeal.Read.val_main_v39_eq _ _ _ _ _ ).trans ?_), (h c).2⟩) (Cert.QuXRefIdeal.Value.run m' g')
  · exact ((congrArg₂ (fun a b => Cert.QuXRefIdeal.Read.val_main_v39 (F := Ideal) a b _ _ _) (hagree c).2.1 (hagree c).2.2.1).trans ((congrArg₂ (fun a b => Cert.QuXRefIdeal.Read.val_main_v39 (F := Ideal) _ _ a b _) (hagree c).2.2.2.1 (hagree c).2.2.2.2.1).trans (congrArg (fun a => Cert.QuXRefIdeal.Read.val_main_v39 (F := Ideal) _ _ _ _ a) (hagree c).2.2.2.2.2)))

end Cert.Proof

end
-- ==== Proof.QuEnds.lean ====
/- The queries: what the product leaves is the reference's result.

   The kernel lays the rotary columns out twice, rotated the second time, and pads; the reference rotates the result. -/
module

public import proofs.«01_k».proof.Defs
public import proofs.«01_k».proof.Proof.QuArr
public import proofs.«01_k».proof.Proof.Rotary
public import proofs.«01_k».proof.Proof.RotaryFinite
public import proofs.«01_k».proof.Proof.QuXEnds
public import proofs.«01_k».proof.Proof.Gen.QuRefIdeal.Read
public import proofs.«01_k».proof.Proof.Gen.Pre_finite_queries

@[expose] public section

set_option maxRecDepth 16384

noncomputable section

namespace Cert.QuIdeal.Val

open Idealize.ShloMosaic Idealize.ShloMosaic.TcCoe Idealize.SL Idealize.SL.Sem Cert.QuIdeal.Gen Cert.QuRefIdeal.Read Cert.Rotary.Index

variable (a0 : (⟨S4096x1024, .f32⟩ : BufTy).Contents (Elt Ideal)) (a1 : (⟨S1024x3072, .f32⟩ : BufTy).Contents (Elt Ideal)) (a2 : (⟨S4096x32, .f32⟩ : BufTy).Contents (Elt Ideal)) (a3 : (⟨S4096x32, .f32⟩ : BufTy).Contents (Elt Ideal))

/-! The prepared weights, column by column. -/

theorem w_c (d : Fin 1024) (h : Fin 16) (i : Fin 128) :
    h_r a1 (ix2 d ⟨h.val * 384 + i.val, by omega⟩) = a1 (ix2 d ⟨h.val * 192 + i.val, by omega⟩) :=
  Cert.QuXIdeal.Val.w_c a1 d h i

theorem w_1 (d : Fin 1024) (h : Fin 16) (j : Fin 32) :
    h_r a1 (ix2 d ⟨h.val * 384 + (128 + j.val), by omega⟩) = a1 (ix2 d ⟨h.val * 192 + (128 + j.val), by omega⟩) :=
  Cert.QuXIdeal.Val.w_1 a1 d h j

theorem w_2 (d : Fin 1024) (h : Fin 16) (j : Fin 32) :
    h_r a1 (ix2 d ⟨h.val * 384 + (128 + (32 + j.val)), by omega⟩) = a1 (ix2 d ⟨h.val * 192 + (128 + (32 + j.val)), by omega⟩) :=
  Cert.QuXIdeal.Val.w_2 a1 d h j

theorem w_3 (d : Fin 1024) (h : Fin 16) (j : Fin 32) :
    h_r a1 (ix2 d ⟨h.val * 384 + (128 + (128 + j.val)), by omega⟩) = -a1 (ix2 d ⟨h.val * 192 + (128 + (32 + j.val)), by omega⟩) :=
  Cert.QuXIdeal.Val.w_3 a1 d h j

theorem w_4 (d : Fin 1024) (h : Fin 16) (j : Fin 32) :
    h_r a1 (ix2 d ⟨h.val * 384 + (128 + (160 + j.val)), by omega⟩) = a1 (ix2 d ⟨h.val * 192 + (128 + j.val), by omega⟩) :=
  Cert.QuXIdeal.Val.w_4 a1 d h j

/-- The other operand is the array itself. -/
theorem x_at (t : Fin 4096) (x : Fin 1024) : h_l a0 (ix2 t x) = a0 (ix2 t x) := by
  pointwise [h_l]

/-- The plain columns of the product. -/
def t_o (y : (⟨S4096x6144, .f32⟩ : BufTy).Contents (Elt Ideal)) : (⟨S4096x16x128, .f32⟩ : BufTy).Contents (Elt Ideal) :=
  extractStridedSlice S4096x16x128 ![0, 0, 0] (shapeCast S4096x16x384 y shapeCasts_S4096x6144_S4096x16x384) slices_S4096x16x384_S4096x16x128_0_0_0

/-- The rotary columns: the columns times the cosines, the rotated ones times the sines. -/
def t_r (y : (⟨S4096x6144, .f32⟩ : BufTy).Contents (Elt Ideal)) (a2 : (⟨S4096x32, .f32⟩ : BufTy).Contents (Elt Ideal)) (a3 : (⟨S4096x32, .f32⟩ : BufTy).Contents (Elt Ideal)) : (⟨S4096x16x64, .f32⟩ : BufTy).Contents (Elt Ideal) :=
  addf (F := Ideal) (φ := .f32) (mulf (F := Ideal) (φ := .f32) (extractStridedSlice S4096x16x64 ![0, 0, 128] (shapeCast S4096x16x384 y shapeCasts_S4096x6144_S4096x16x384) slices_S4096x16x384_S4096x16x64_0_0_128) (broadcastInDim S4096x16x64 ![0, 1, 2] bcast_S4096x1x64_S4096x16x64_0_1_2 (broadcastInDim S4096x1x64 ![0, 2] bcast_S4096x64_S4096x1x64_0_2 (concatenate S4096x64 1 [⟨S4096x32, a2⟩, ⟨S4096x32, a2⟩] concatenates_S4096x32_S4096x32_S4096x64_d1)))) (mulf (F := Ideal) (φ := .f32) (extractStridedSlice S4096x16x64 ![0, 0, 256] (shapeCast S4096x16x384 y shapeCasts_S4096x6144_S4096x16x384) slices_S4096x16x384_S4096x16x64_0_0_256) (broadcastInDim S4096x16x64 ![0, 1, 2] bcast_S4096x1x64_S4096x16x64_0_1_2 (broadcastInDim S4096x1x64 ![0, 2] bcast_S4096x64_S4096x1x64_0_2 (concatenate S4096x64 1 [⟨S4096x32, a3⟩, ⟨S4096x32, a3⟩] concatenates_S4096x32_S4096x32_S4096x64_d1))))

theorem t_c (y : (⟨S4096x6144, .f32⟩ : BufTy).Contents (Elt Ideal)) (x : Fin 4096) (h : Fin 16) (i : Fin 128) :
    t_o y (ix3 x h i) = y (ix2 x ⟨h.val * 384 + i.val, by omega⟩) := by
  pointwise [t_o]
  all_goals simp (disch := omega) only [dif_pos, dif_neg, false_and, dite_false, Nat.sub_sub, Nat.reduceAdd, Nat.add_sub_cancel_left, q12, q13, add_zero, zero_add]

theorem t_1 (y : (⟨S4096x6144, .f32⟩ : BufTy).Contents (Elt Ideal)) (a2 : (⟨S4096x32, .f32⟩ : BufTy).Contents (Elt Ideal)) (a3 : (⟨S4096x32, .f32⟩ : BufTy).Contents (Elt Ideal)) (x : Fin 4096) (h : Fin 16) (j : Fin 32) :
    t_r y a2 a3 (ix3 x h ⟨j.val, by omega⟩) = y (ix2 x ⟨h.val * 384 + (128 + j.val), by omega⟩) * a2 (ix2 x j) + y (ix2 x ⟨h.val * 384 + (128 + (128 + j.val)), by omega⟩) * a3 (ix2 x j) := by
  pointwise [t_r]
  all_goals simp (disch := omega) only [dif_pos, dif_neg, false_and, dite_false, Nat.sub_sub, Nat.reduceAdd, Nat.add_sub_cancel_left, q1, q2, q3, q4, q5, q6, q7, q8, q9, q10, q11, add_zero, zero_add]

theorem t_2 (y : (⟨S4096x6144, .f32⟩ : BufTy).Contents (Elt Ideal)) (a2 : (⟨S4096x32, .f32⟩ : BufTy).Contents (Elt Ideal)) (a3 : (⟨S4096x32, .f32⟩ : BufTy).Contents (Elt Ideal)) (x : Fin 4096) (h : Fin 16) (j : Fin 32) :
    t_r y a2 a3 (ix3 x h ⟨32 + j.val, by omega⟩) = y (ix2 x ⟨h.val * 384 + (128 + (32 + j.val)), by omega⟩) * a2 (ix2 x j) + y (ix2 x ⟨h.val * 384 + (128 + (160 + j.val)), by omega⟩) * a3 (ix2 x j) := by
  pointwise [t_r]
  all_goals simp (disch := omega) only [dif_pos, dif_neg, false_and, dite_false, Nat.sub_sub, Nat.reduceAdd, Nat.add_sub_cancel_left, q1, q2, q3, q4, q5, q6, q7, q8, q9, q10, q11, add_zero, zero_add]

theorem ref_c (x : Fin 4096) (h : Fin 16) (i : Fin 128) :
    val_main_v2 (F := Ideal) a0 a1 (ix3 x h i) = val_main_v0 (F := Ideal) a0 a1 (ix2 x ⟨h.val * 192 + i.val, by omega⟩) := by
  pointwise [val_main_v2, val_main_v1]
  all_goals simp (disch := omega) only [dif_pos, dif_neg, false_and, dite_false, Nat.sub_sub, Nat.reduceAdd, Nat.add_sub_cancel_left, q12, q13, add_zero, zero_add]

theorem ref_1 (x : Fin 4096) (h : Fin 16) (j : Fin 32) :
    val_main_v18 (F := Ideal) a0 a1 a2 a3 (ix3 x h ⟨j.val, by omega⟩) = val_main_v0 (F := Ideal) a0 a1 (ix2 x ⟨h.val * 192 + (128 + j.val), by omega⟩) * a2 (ix2 x j) - val_main_v0 (F := Ideal) a0 a1 (ix2 x ⟨h.val * 192 + (128 + (32 + j.val)), by omega⟩) * a3 (ix2 x j) := by
  pointwise [val_main_v18, val_main_v12, val_main_v11, val_main_v10, val_main_v5, val_main_v7, val_main_v3, val_main_v1, val_main_v9, val_main_v6, val_main_v8, val_main_v4, val_main_v17, val_main_v14, val_main_v13, val_main_v16, val_main_v15]
  all_goals simp (disch := omega) only [dif_pos, dif_neg, false_and, dite_false, Nat.sub_sub, Nat.reduceAdd, Nat.add_sub_cancel_left, q1, q2, q3, q4, q5, q6, q7, q8, q9, q10, q11, add_zero, zero_add]

theorem ref_2 (x : Fin 4096) (h : Fin 16) (j : Fin 32) :
    val_main_v18 (F := Ideal) a0 a1 a2 a3 (ix3 x h ⟨32 + j.val, by omega⟩) = val_main_v0 (F := Ideal) a0 a1 (ix2 x ⟨h.val * 192 + (128 + (32 + j.val)), by omega⟩) * a2 (ix2 x j) + val_main_v0 (F := Ideal) a0 a1 (ix2 x ⟨h.val * 192 + (128 + j.val), by omega⟩) * a3 (ix2 x j) := by
  pointwise [val_main_v18, val_main_v12, val_main_v11, val_main_v10, val_main_v5, val_main_v7, val_main_v3, val_main_v1, val_main_v9, val_main_v6, val_main_v8, val_main_v4, val_main_v17, val_main_v14, val_main_v13, val_main_v16, val_main_v15]
  all_goals simp (disch := omega) only [dif_pos, dif_neg, false_and, dite_false, Nat.sub_sub, Nat.reduceAdd, Nat.add_sub_cancel_left, q1, q2, q3, q4, q5, q6, q7, q8, q9, q10, q11, add_zero, zero_add]

/-- An entry of the reference's product. -/
theorem ref_at (x : Fin 4096) (e : Fin 3072) :
    val_main_v0 (F := Ideal) a0 a1 (ix2 x e) = ∑ k : Fin 1024, a0 (ix2 x k) * a1 (ix2 k e) := by
  have el : ∀ k, lidx_main_v0 (ix2 x e) k = ix2 x k := fun k => by funext d; fin_cases d <;> rfl
  have er : ∀ k, ridx_main_v0 (ix2 x e) k = ix2 k e := fun k => by funext d; fin_cases d <;> rfl
  rw [val_main_v0_apply]
  simp only [el, er]

/-- An entry of the kernel's product. -/
theorem gW_at (x : Fin 4096) (e : Fin 6144) :
    gW (h_l a0) (h_r a1) (ix2 x e) = ∑ k : Fin 1024, a0 (ix2 x k) * h_r a1 (ix2 k e) :=
  Finset.sum_congr rfl fun k _ => congrArg (· * _) (x_at a0 x k)

/-- The plain columns are the reference's. -/
theorem same_c : t_o (gW (h_l a0) (h_r a1)) = val_main_v2 (F := Ideal) a0 a1 := by
  funext y
  obtain ⟨x, h, i, rfl⟩ : ∃ (x : Fin 4096) (h : Fin 16) (i : Fin 128), y = (ix3 x h i) := ⟨y 0, y 1, y 2, by funext d; fin_cases d <;> rfl⟩
  rw [t_c, ref_c, gW_at, ref_at]
  simp only [w_c]

/-- The rotary columns are the reference's. -/
theorem same_r (h0 : ∀ y : S4096x1024.Idx, ∃ r : ℝ, a0 y = (r : EReal)) (h1 : ∀ y : S1024x3072.Idx, ∃ r : ℝ, a1 y = (r : EReal)) :
    t_r (gW (h_l a0) (h_r a1)) a2 a3 = val_main_v18 (F := Ideal) a0 a1 a2 a3 := by
  choose v0 e0 using h0
  choose v1 e1 using h1
  funext y
  obtain ⟨x, h, z, rfl⟩ : ∃ (x : Fin 4096) (h : Fin 16) (z : Fin 64), y = (ix3 x h z) := ⟨y 0, y 1, y 2, by funext d; fin_cases d <;> rfl⟩
  obtain ⟨i, _⟩ | ⟨j, rfl⟩ | ⟨j, rfl⟩ := Cert.Rotary.cases (C := 0) rfl z
  · exact i.elim0
  · have ez : (⟨0 + j.val, by omega⟩ : Fin 64) = ⟨j.val, by omega⟩ := Fin.ext (Nat.zero_add _)
    rw [ez, t_1, ref_1, gW_at, gW_at, ref_at, ref_at]
    simp only [w_1, w_3]
    have e : (∑ k : Fin 1024, a0 (ix2 x k) * -a1 (ix2 k ⟨h.val * 192 + (128 + (32 + j.val)), by omega⟩)) = -∑ k : Fin 1024, a0 (ix2 x k) * a1 (ix2 k ⟨h.val * 192 + (128 + (32 + j.val)), by omega⟩) := by
      simp only [e0, e1]
      exact Cert.Rotary.neg (fun k => v0 (ix2 x k)) (fun k => v1 (ix2 k ⟨h.val * 192 + (128 + (32 + j.val)), by omega⟩))
    rw [e, EReal.neg_mul, sub_eq_add_neg]
  · have ez : (⟨0 + (32 + j.val), by omega⟩ : Fin 64) = ⟨32 + j.val, by omega⟩ := Fin.ext (Nat.zero_add _)
    rw [ez, t_2, ref_2, gW_at, gW_at, ref_at, ref_at]
    simp only [w_2, w_4]

variable (m : (ℓ : Loc nD τ sig) → Buf (Elt Ideal) ℓ)

/-- The reference's result, at the arguments of the kernel's memory. -/
abbrev out0 (c : Dev nD) := Cert.QuRefIdeal.Read.val_main_v2 (F := Ideal) (m ((c.tc : Thread nD τ).loc main_arg0)) (m ((c.tc : Thread nD τ).loc main_arg1))

/-- The reference's result, at the arguments of the kernel's memory. -/
abbrev out1 (c : Dev nD) := Cert.QuRefIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3))

/-- The run of the kernel's program: the reference's values, the arguments unchanged. -/
theorem ends (ρ : Dev nD → PrngReg)
    (hr0 : ∀ (c : Dev nD) (y : S4096x1024.Idx), ∃ d : ℝ, (m ((c.tc : Thread nD τ).loc main_arg0) : (⟨S4096x1024, .f32⟩ : BufTy).Contents (Elt Ideal)) y = (d : EReal)) (hr1 : ∀ (c : Dev nD) (y : S1024x3072.Idx), ∃ d : ℝ, (m ((c.tc : Thread nD τ).loc main_arg1) : (⟨S1024x3072, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v19) = out0 m c
      ∧ r.2.mem ((c.tc : Thread nD τ).loc main_v26) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((congrArg t_o (arr2 m c)).trans (same_c _ _)),
    (h c).2.1.trans ((congrArg (fun y => t_r y (m ((c.tc : Thread nD τ).loc main_arg2)) (m ((c.tc : Thread nD τ).loc main_arg3))) (arr2 m c)).trans (same_r _ _ _ _ (hr0 c) (hr1 c))), (h c).2.2⟩) (Cert.QuIdeal.Value.run m ρ)

end Cert.QuIdeal.Val

namespace Cert.QuRefIdeal.Val

open Idealize.ShloMosaic Idealize.ShloMosaic.TcCoe Idealize.SL Idealize.SL.Sem Cert.QuRefIdeal.Gen Cert.QuRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Cert.QuRefIdeal.Value.run m ρ)

end Cert.QuRefIdeal.Val

namespace Cert.Proof

open Idealize.ShloMosaic Idealize.SL Idealize.SL.Sem

/-- The kernel's results are the reference's, when the arrays of the precondition are real. -/
theorem qu_algebraic : Cert.algebraic_QuIdeal_QuRefIdeal_pre_finite_queries := by
  intro m g m' g' hpre hagree
  refine ⟨Cert.QuIdeal.Val.out0 m, Cert.QuIdeal.Val.out1 m,
    Cert.QuIdeal.Val.ends m g (fun c => Cert.Rotary.real2 _ _ (hpre c).1) (fun c => Cert.Rotary.real2 _ _ (hpre c).2), ?_⟩
  refine (θ_run _ _ _).mono (fun r h c => ⟨(h c).1.trans ((Cert.QuRefIdeal.Read.val_main_v2_eq _ _ ).trans ?_), (h c).2.1.trans ((Cert.QuRefIdeal.Read.val_main_v18_eq _ _ _ _ ).trans ?_), (h c).2.2⟩) (Cert.QuRefIdeal.Value.run m' g')
  · exact (congrArg₂ (fun a b => Cert.QuRefIdeal.Read.val_main_v2 (F := Ideal) a b) (hagree c).1 (hagree c).2.1)
  · exact ((congrArg₂ (fun a b => Cert.QuRefIdeal.Read.val_main_v18 (F := Ideal) a b _ _) (hagree c).1 (hagree c).2.1).trans (congrArg₂ (fun a b => Cert.QuRefIdeal.Read.val_main_v18 (F := Ideal) _ _ a b) (hagree c).2.2.1 (hagree c).2.2.2))

end Cert.Proof

end
-- ==== Proof.QuWArr.lean ====
/- The gradient of the queries' weights: what the host code prepares for the product, and what the product leaves.

   The grid is (row tile i, column tile j), one step each. -/
module

public import proofs.«01_k».proof.Defs
public import proofs.«01_k».proof.Proof.Gen.QuWIdeal.Run
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QuWIdeal.Val

open Idealize.ShloMosaic Idealize.ShloMosaic.TcCoe Idealize.SL Idealize.SL.Sem Cert.QuWIdeal.Gen

/-- The product of one step. -/
def stepDot (a : Vec Ideal S4096x1024 .bf16) (b : Vec Ideal S4096x1024 .bf16) (x : Fin 1024) (y : Fin 1024) : EReal :=
  ∑ k : Fin 4096, a (ix2 k x) * b (ix2 k y)

theorem pay1_at (a : Vec Ideal S4096x1024 .bf16) (b : Vec Ideal S4096x1024 .bf16) (x : Fin 1024) (y : Fin 1024) :
    k0_pay1 (F := Ideal) a b (ix2 x y) = stepDot a b x y := by
  unfold stepDot
  pointwise [k0_pay1]

/-- The product's left operand, as the host code prepares it. -/
def h_l (a0 : (⟨S4096x1024, .f32⟩ : BufTy).Contents (Elt Ideal)) : (⟨S4096x1024, .bf16⟩ : BufTy).Contents (Elt Ideal) :=
  (truncf (F := Ideal) .bf16 a0 bitsLt_bf16_f32)

/-- The product's right operand, as the host code prepares it. -/
def h_r (a2 : (⟨S4096x32, .f32⟩ : BufTy).Contents (Elt Ideal)) (a3 : (⟨S4096x32, .f32⟩ : BufTy).Contents (Elt Ideal)) (a4 : (⟨S4096x16x128, .f32⟩ : BufTy).Contents (Elt Ideal)) (a5 : (⟨S4096x16x64, .f32⟩ : BufTy).Contents (Elt Ideal)) : (⟨S4096x6144, .bf16⟩ : BufTy).Contents (Elt Ideal) :=
  (truncf (F := Ideal) .bf16 (shapeCast _ (concatenate S4096x16x384 2 [⟨S4096x16x128, a4⟩, ⟨S4096x16x64, (mulf (F := Ideal) (φ := .f32) a5 (broadcastInDim S4096x16x64 ![0, 1, 2] bcast_S4096x1x64_S4096x16x64_0_1_2 (broadcastInDim S4096x1x64 ![0, 2] bcast_S4096x64_S4096x1x64_0_2 (concatenate S4096x64 1 [⟨S4096x32, a2⟩, ⟨S4096x32, a2⟩] concatenates_S4096x32_S4096x32_S4096x64_d1) : (⟨S4096x1x64, .f32⟩ : BufTy).Contents (Elt Ideal)) : (⟨S4096x16x64, .f32⟩ : BufTy).Contents (Elt Ideal)))⟩, ⟨S4096x16x64, (broadcastInDim S4096x16x64 ![] bcast_S_S4096x16x64 ((constant (F := Ideal) S_ .f32 0x00000000#32) : (⟨S_, .f32⟩ : BufTy).Contents (Elt Ideal)) : (⟨S4096x16x64, .f32⟩ : BufTy).Contents (Elt Ideal))⟩, ⟨S4096x16x64, (mulf (F := Ideal) (φ := .f32) a5 (broadcastInDim S4096x16x64 ![0, 1, 2] bcast_S4096x1x64_S4096x16x64_0_1_2 (broadcastInDim S4096x1x64 ![0, 2] bcast_S4096x64_S4096x1x64_0_2 (concatenate S4096x64 1 [⟨S4096x32, a3⟩, ⟨S4096x32, a3⟩] concatenates_S4096x32_S4096x32_S4096x64_d1) : (⟨S4096x1x64, .f32⟩ : BufTy).Contents (Elt Ideal)) : (⟨S4096x16x64, .f32⟩ : BufTy).Contents (Elt Ideal)))⟩, ⟨S4096x16x64, (broadcastInDim S4096x16x64 ![] bcast_S_S4096x16x64 ((constant (F := Ideal) S_ .f32 0x00000000#32) : (⟨S_, .f32⟩ : BufTy).Contents (Elt Ideal)) : (⟨S4096x16x64, .f32⟩ : BufTy).Contents (Elt Ideal))⟩] concatenates_S4096x16x128_S4096x16x64_S4096x16x64_S4096x16x64_S4096x16x64_S4096x16x384_d2 : (⟨S4096x16x384, .f32⟩ : BufTy).Contents (Elt Ideal)) shapeCasts_S4096x16x384_S4096x6144) bitsLt_bf16_f32)

/-- Row `y 0`, column `y 1` of the product. -/
def gW (a : (⟨S4096x1024, .bf16⟩ : BufTy).Contents (Elt Ideal)) (b : (⟨S4096x6144, .bf16⟩ : BufTy).Contents (Elt Ideal)) : (⟨S1024x6144, .f32⟩ : BufTy).Contents (Elt Ideal) :=
  fun y => ∑ k : Fin 4096, a (ix2 k (y 0)) * b (ix2 k (y 1))

variable (m : (ℓ : Loc nD τ sig) → Buf (Elt Ideal) ℓ) (c : Dev nD)

set_option maxHeartbeats 4000000

/-- The left operand of a memory. -/
abbrev pL := h_l (m ((c : Thread nD τ).loc main_arg0))

/-- The right operand of a memory. -/
abbrev pR := h_r (m ((c : Thread nD τ).loc main_arg2)) (m ((c : Thread nD τ).loc main_arg3)) (m ((c : Thread nD τ).loc main_arg4)) (m ((c : Thread nD τ).loc main_arg5))

theorem V_l : V m c main_v0 = pL m c := by
  simp only [V, V0, hostOps0, List.flatten_cons, List.flatten_nil, List.append_nil, List.cons_append, List.nil_append]
  after_results <;> rfl

theorem V_r : V m c main_v12 = pR m c := by
  simp only [V, V0, hostOps0, List.flatten_cons, List.flatten_nil, List.append_nil, List.cons_append, List.nil_append]
  after_results <;> rfl

theorem idx0 : ∀ t : Fin cfg0.N, win0_0.index t = ![0, 0] := by decide +kernel
theorem idx1 : ∀ t : Fin cfg0.N, win0_1.index t = ![0, t.val % 6] := by decide +kernel
theorem idx2 : ∀ t : Fin cfg0.N, win0_2.index t = ![0, t.val % 6] := by decide +kernel

theorem rd0 (A : Buf (Elt Ideal) ((c : Thread nD τ).loc main_v0)) (t : Fin cfg0.N) (i : Fin 1) (j : Fin 6) (ht : t.val = 6 * i.val + 1 * j.val) (x : Fin 1024) (k : Fin 4096) :
    ((cfg0.win 0).blk t).view.read (Elt Ideal) A (ix2 k x) = A (ix2 k ⟨i.val * 1024 + x.val, by omega⟩) := by
  blk_ext [idx0 t]

theorem rd1 (A : Buf (Elt Ideal) ((c : Thread nD τ).loc main_v12)) (t : Fin cfg0.N) (i : Fin 1) (j : Fin 6) (ht : t.val = 6 * i.val + 1 * j.val) (y : Fin 1024) (k : Fin 4096) :
    ((cfg0.win 1).blk t).view.read (Elt Ideal) A (ix2 k y) = A (ix2 k ⟨j.val * 1024 + y.val, by omega⟩) := by
  blk_ext [idx1 t]

theorem emb2 (t : Fin cfg0.N) (i : Fin 1) (j : Fin 6) (ht : t.val = 6 * i.val + 1 * j.val) (x : Fin 1024) (y : Fin 1024) :
    (((cfg0.win 2).blk t).view.emb (ix2 x y) : S1024x6144.Idx) = ix2 ⟨i.val * 1024 + x.val, by omega⟩ ⟨j.val * 1024 + y.val, by omega⟩ := by
  blk_ext [idx2 t]

theorem pt (t : Fin cfg0.N) : t.val < 6 := lt_of_lt_of_eq t.isLt (show cfg0.N = 6 from N_0)

/-- What a step computes, from the prepared operands. -/
theorem step_at (t : Fin cfg0.N) (i : Fin 1) (j : Fin 6) (ht : t.val = 6 * i.val + 1 * j.val) (x : Fin 1024) (y : Fin 1024) :
    stepDot (iblk m c 0 t) (iblk m c 1 t) x y = ∑ k : Fin 4096, pL m c (ix2 k ⟨i.val * 1024 + x.val, by omega⟩) * pR m c (ix2 k ⟨j.val * 1024 + y.val, by omega⟩) := by
  unfold stepDot
  refine Finset.sum_congr rfl fun k _ => congrArg₂ (· * ·) ?_ ?_
  · exact (rd0 c (V m c main_v0) t i j ht x k).trans (congrFun (V_l m c) _)
  · exact (rd1 c (V m c main_v12) t i j ht y k).trans (congrFun (V_r m c) _)

/-- The block of a point is its payload. -/
theorem out_eq (t : Fin cfg0.N) : out0_2 (iblk m c 0 t) (iblk m c 1 t) = k0_pay1 (F := Ideal) (iblk m c 0 t) (iblk m c 1 t) := by
  unfold out0_2
  frame_out
  try simp only [read_unread_whole]

/-- The array the product leaves. -/
theorem arr2 : (dats m 0 c).arrAt 2 cfg0.N = (gW (pL m c) (pR m c)) :=
  (dats m 0 c).arrAt_eq_of_covers 2 _ (by decide +kernel) fun t hf y => by
    blk_simp
    rw [after0_2]
    have hN := pt t
    obtain ⟨a, b, rfl⟩ : ∃ (a : Fin 1024) (b : Fin 1024), y = ix2 a b := ⟨y 0, y 1, funext fun k => match k with | ⟨0, _⟩ => rfl | ⟨1, _⟩ => rfl⟩
    have ht : t.val = 6 * (⟨t.val / 6, by omega⟩ : Fin 1).val + 1 * (⟨t.val % 6, by omega⟩ : Fin 6).val := by
      show t.val = 6 * (t.val / 6) + 1 * (t.val % 6); omega
    rw [out_eq, pay1_at, step_at m c t _ _ ht a b]
    exact (congrArg (gW (pL m c) (pR m c)) (emb2 t _ _ ht a b)).symm

end Cert.QuWIdeal.Val

end
-- ==== Proof.QuWEnds.lean ====
/- The gradient of the queries' weights: what the product leaves is the reference's result.

   The kernel lays the rotary columns out twice, rotated the second time, and pads; the reference rotates the result. -/
module

public import proofs.«01_k».proof.Defs
public import proofs.«01_k».proof.Proof.QuWArr
public import proofs.«01_k».proof.Proof.Rotary
public import proofs.«01_k».proof.Proof.RotaryFinite
public import proofs.«01_k».proof.Proof.QuXEnds
public import proofs.«01_k».proof.Proof.Gen.QuWRefIdeal.Read
public import proofs.«01_k».proof.Proof.Gen.Pre_finite_queries_weight

@[expose] public section

set_option maxRecDepth 16384

noncomputable section

namespace Cert.QuWIdeal.Val

open Idealize.ShloMosaic Idealize.ShloMosaic.TcCoe Idealize.SL Idealize.SL.Sem Cert.QuWIdeal.Gen Cert.QuWRefIdeal.Read Cert.Rotary.Index

variable (a0 : (⟨S4096x1024, .f32⟩ : BufTy).Contents (Elt Ideal)) (a2 : (⟨S4096x32, .f32⟩ : BufTy).Contents (Elt Ideal)) (a3 : (⟨S4096x32, .f32⟩ : BufTy).Contents (Elt Ideal)) (a4 : (⟨S4096x16x128, .f32⟩ : BufTy).Contents (Elt Ideal)) (a5 : (⟨S4096x16x64, .f32⟩ : BufTy).Contents (Elt Ideal))

/-! The prepared gradient, column by column. -/

theorem g_c (t : Fin 4096) (h : Fin 16) (i : Fin 128) :
    h_r a2 a3 a4 a5 (ix2 t ⟨h.val * 384 + i.val, by omega⟩) = a4 (ix3 t h i) :=
  Cert.QuXIdeal.Val.g_c a2 a3 a4 a5 t h i

theorem g_1 (t : Fin 4096) (h : Fin 16) (j : Fin 32) :
    h_r a2 a3 a4 a5 (ix2 t ⟨h.val * 384 + (128 + j.val), by omega⟩) = a5 (ix3 t h ⟨j.val, by omega⟩) * a2 (ix2 t j) :=
  Cert.QuXIdeal.Val.g_1 a2 a3 a4 a5 t h j

theorem g_2 (t : Fin 4096) (h : Fin 16) (j : Fin 32) :
    h_r a2 a3 a4 a5 (ix2 t ⟨h.val * 384 + (128 + (32 + j.val)), by omega⟩) = a5 (ix3 t h ⟨32 + j.val, by omega⟩) * a2 (ix2 t j) :=
  Cert.QuXIdeal.Val.g_2 a2 a3 a4 a5 t h j

theorem g_3 (t : Fin 4096) (h : Fin 16) (j : Fin 32) :
    h_r a2 a3 a4 a5 (ix2 t ⟨h.val * 384 + (128 + (128 + j.val)), by omega⟩) = a5 (ix3 t h ⟨j.val, by omega⟩) * a3 (ix2 t j) :=
  Cert.QuXIdeal.Val.g_3 a2 a3 a4 a5 t h j

theorem g_4 (t : Fin 4096) (h : Fin 16) (j : Fin 32) :
    h_r a2 a3 a4 a5 (ix2 t ⟨h.val * 384 + (128 + (160 + j.val)), by omega⟩) = a5 (ix3 t h ⟨32 + j.val, by omega⟩) * a3 (ix2 t j) :=
  Cert.QuXIdeal.Val.g_4 a2 a3 a4 a5 t h j

/-! The reference's gradient of the product, column by column. -/

theorem ref_c (t : Fin 4096) (h : Fin 16) (i : Fin 128) :
    val_main_v38 (F := Ideal) a2 a3 a4 a5 (ix2 t ⟨h.val * 192 + i.val, by omega⟩) = a4 (ix3 t h i) :=
  Cert.QuXIdeal.Val.ref_c a2 a3 a4 a5 t h i

theorem ref_1 (t : Fin 4096) (h : Fin 16) (j : Fin 32) :
    val_main_v38 (F := Ideal) a2 a3 a4 a5 (ix2 t ⟨h.val * 192 + (128 + j.val), by omega⟩) = a5 (ix3 t h ⟨32 + j.val, by omega⟩) * a3 (ix2 t j) + a5 (ix3 t h ⟨j.val, by omega⟩) * a2 (ix2 t j) :=
  Cert.QuXIdeal.Val.ref_1 a2 a3 a4 a5 t h j

theorem ref_2 (t : Fin 4096) (h : Fin 16) (j : Fin 32) :
    val_main_v38 (F := Ideal) a2 a3 a4 a5 (ix2 t ⟨h.val * 192 + (128 + (32 + j.val)), by omega⟩) = a5 (ix3 t h ⟨32 + j.val, by omega⟩) * a2 (ix2 t j) + -a5 (ix3 t h ⟨j.val, by omega⟩) * a3 (ix2 t j) :=
  Cert.QuXIdeal.Val.ref_2 a2 a3 a4 a5 t h j

/-- The other operand is the array itself. -/
theorem x_at (t : Fin 4096) (x : Fin 1024) : h_l a0 (ix2 t x) = a0 (ix2 t x) := by
  pointwise [h_l]

/-- What the host code makes of the product: the rotary rows and the rotated ones, turned back, are added. -/
def t_o (y : (⟨S1024x6144, .f32⟩ : BufTy).Contents (Elt Ideal)) : (⟨S1024x3072, .f32⟩ : BufTy).Contents (Elt Ideal) :=
  shapeCast S1024x3072 (concatenate S1024x16x192 2 [⟨S1024x16x128, (extractStridedSlice S1024x16x128 ![0, 0, 0] (shapeCast S1024x16x384 y shapeCasts_S1024x6144_S1024x16x384) slices_S1024x16x384_S1024x16x128_0_0_0)⟩, ⟨S1024x16x64, (addf (F := Ideal) (φ := .f32) (extractStridedSlice S1024x16x64 ![0, 0, 128] (shapeCast S1024x16x384 y shapeCasts_S1024x6144_S1024x16x384) slices_S1024x16x384_S1024x16x64_0_0_128) (concatenate S1024x16x64 2 [⟨S1024x16x32, (extractStridedSlice S1024x16x32 ![0, 0, 32] (extractStridedSlice S1024x16x64 ![0, 0, 256] (shapeCast S1024x16x384 y shapeCasts_S1024x6144_S1024x16x384) slices_S1024x16x384_S1024x16x64_0_0_256) slices_S1024x16x64_S1024x16x32_0_0_32)⟩, ⟨S1024x16x32, (Host.negf (F := Ideal) (φ := .f32) (extractStridedSlice S1024x16x32 ![0, 0, 0] (extractStridedSlice S1024x16x64 ![0, 0, 256] (shapeCast S1024x16x384 y shapeCasts_S1024x6144_S1024x16x384) slices_S1024x16x384_S1024x16x64_0_0_256) slices_S1024x16x64_S1024x16x32_0_0_0))⟩] concatenates_S1024x16x32_S1024x16x32_S1024x16x64_d2))⟩] concatenates_S1024x16x128_S1024x16x64_S1024x16x192_d2) shapeCasts_S1024x16x192_S1024x3072

theorem t_c (y : (⟨S1024x6144, .f32⟩ : BufTy).Contents (Elt Ideal)) (d : Fin 1024) (h : Fin 16) (i : Fin 128) :
    t_o y (ix2 d ⟨h.val * 192 + i.val, by omega⟩) = y (ix2 d ⟨h.val * 384 + i.val, by omega⟩) := by
  pointwise [t_o]
  all_goals simp (disch := omega) only [dif_pos, dif_neg, false_and, dite_false, Nat.sub_sub, Nat.reduceAdd, Nat.add_sub_cancel_left, q12, q13, add_zero, zero_add]

theorem t_1 (y : (⟨S1024x6144, .f32⟩ : BufTy).Contents (Elt Ideal)) (d : Fin 1024) (h : Fin 16) (j : Fin 32) :
    t_o y (ix2 d ⟨h.val * 192 + (128 + j.val), by omega⟩) = y (ix2 d ⟨h.val * 384 + (128 + j.val), by omega⟩) + y (ix2 d ⟨h.val * 384 + (128 + (160 + j.val)), by omega⟩) := by
  pointwise [t_o]
  all_goals simp (disch := omega) only [dif_pos, dif_neg, false_and, dite_false, Nat.sub_sub, Nat.reduceAdd, Nat.add_sub_cancel_left, q1, q2, q3, q4, q5, q6, q7, q8, q9, q10, q11, add_zero, zero_add]

theorem t_2 (y : (⟨S1024x6144, .f32⟩ : BufTy).Contents (Elt Ideal)) (d : Fin 1024) (h : Fin 16) (j : Fin 32) :
    t_o y (ix2 d ⟨h.val * 192 + (128 + (32 + j.val)), by omega⟩) = y (ix2 d ⟨h.val * 384 + (128 + (32 + j.val)), by omega⟩) + -y (ix2 d ⟨h.val * 384 + (128 + (128 + j.val)), by omega⟩) := by
  pointwise [t_o]
  all_goals simp (disch := omega) only [dif_pos, dif_neg, false_and, dite_false, Nat.sub_sub, Nat.reduceAdd, Nat.add_sub_cancel_left, q1, q2, q3, q4, q5, q6, q7, q8, q9, q10, q11, add_zero, zero_add]

/-- The result is the reference's. -/
theorem same (h0 : ∀ y : S4096x1024.Idx, ∃ r : ℝ, a0 y = (r : EReal)) (h2 : ∀ y : S4096x32.Idx, ∃ r : ℝ, a2 y = (r : EReal)) (h3 : ∀ y : S4096x32.Idx, ∃ r : ℝ, a3 y = (r : EReal)) (h5 : ∀ y : S4096x16x64.Idx, ∃ r : ℝ, a5 y = (r : EReal)) :
    t_o (gW (h_l a0) (h_r a2 a3 a4 a5)) = val_main_v40 (F := Ideal) a0 a2 a3 a4 a5 := by
  choose v0 e0 using h0
  choose v2 e2 using h2
  choose v3 e3 using h3
  choose v5 e5 using h5
  funext y
  obtain ⟨x, z, rfl⟩ : ∃ (x : Fin 1024) (z : Fin 3072), y = ix2 x z := ⟨y 0, y 1, by funext d; fin_cases d <;> rfl⟩
  have el : ∀ k, lidx_main_v39 (idx_main_v40 (ix2 x z)) k = ix2 k z := fun k => by funext d; fin_cases d <;> rfl
  have er : ∀ k, ridx_main_v39 (idx_main_v40 (ix2 x z)) k = ix2 k x := fun k => by funext d; fin_cases d <;> rfl
  rw [val_main_v40_apply, val_main_v39_apply]
  simp only [el, er]
  clear el er
  have eW : ∀ e, gW (h_l a0) (h_r a2 a3 a4 a5) (ix2 x e) = ∑ k : Fin 4096, h_r a2 a3 a4 a5 (ix2 k e) * h_l a0 (ix2 k x) :=
    fun _ => Finset.sum_congr rfl fun _ _ => mul_comm _ _
  obtain ⟨h, r, rfl⟩ := Cert.Rotary.blocks (p := 192) rfl (by decide) z
  obtain ⟨i, rfl⟩ | ⟨j, rfl⟩ | ⟨j, rfl⟩ := Cert.Rotary.cases (C := 128) rfl r
  · refine (t_c _ _ h _).trans ?_
    rw [eW]
    exact Finset.sum_congr rfl fun k _ => congrArg₂ (· * ·) ((g_c _ _ _ _ _ h _).trans (ref_c _ _ _ _ _ h _).symm) (x_at _ _ _)
  · refine (t_1 _ _ h _).trans ?_
    rw [eW, eW]
    refine Eq.trans ?_ (Finset.sum_congr rfl fun k _ => congrArg (· * a0 (ix2 k x)) (ref_1 a2 a3 a4 a5 k h j).symm)
    simp only [g_1, g_4, x_at, e0, e2, e3, e5]
    exact Cert.Rotary.first (fun t => v5 (ix3 t h ⟨j.val, by omega⟩)) (fun t => v5 (ix3 t h ⟨32 + j.val, by omega⟩)) (fun t => v2 (ix2 t j)) (fun t => v3 (ix2 t j)) (fun t => v0 (ix2 t x))
  · refine (t_2 _ _ h _).trans ?_
    rw [eW, eW]
    refine Eq.trans ?_ (Finset.sum_congr rfl fun k _ => congrArg (· * a0 (ix2 k x)) (ref_2 a2 a3 a4 a5 k h j).symm)
    simp only [g_2, g_3, x_at, e0, e2, e3, e5]
    exact Cert.Rotary.second (fun t => v5 (ix3 t h ⟨j.val, by omega⟩)) (fun t => v5 (ix3 t h ⟨32 + j.val, by omega⟩)) (fun t => v2 (ix2 t j)) (fun t => v3 (ix2 t j)) (fun t => v0 (ix2 t x))

variable (m : (ℓ : Loc nD τ sig) → Buf (Elt Ideal) ℓ)

/-- The reference's result, at the arguments of the kernel's memory. -/
abbrev out0 (c : Dev nD) := Cert.QuWRefIdeal.Read.val_main_v40 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

/-- The run of the kernel's program: the reference's values, the arguments unchanged. -/
theorem ends (ρ : Dev nD → PrngReg)
    (hr0 : ∀ (c : Dev nD) (y : S4096x1024.Idx), ∃ d : ℝ, (m ((c.tc : Thread nD τ).loc main_arg0) : (⟨S4096x1024, .f32⟩ : BufTy).Contents (Elt Ideal)) y = (d : EReal)) (hr2 : ∀ (c : Dev nD) (y : S4096x32.Idx), ∃ d : ℝ, (m ((c.tc : Thread nD τ).loc main_arg2) : (⟨S4096x32, .f32⟩ : BufTy).Contents (Elt Ideal)) y = (d : EReal)) (hr3 : ∀ (c : Dev nD) (y : S4096x32.Idx), ∃ d : ℝ, (m ((c.tc : Thread nD τ).loc main_arg3) : (⟨S4096x32, .f32⟩ : BufTy).Contents (Elt Ideal)) y = (d : EReal)) (hr5 : ∀ (c : Dev nD) (y : S4096x16x64.Idx), ∃ d : ℝ, (m ((c.tc : Thread nD τ).loc main_arg5) : (⟨S4096x16x64, .f32⟩ : BufTy).Contents (Elt Ideal)) y = (d : EReal)) :
    θ_run defs (onTc (τ := τ) (main (F := Ideal))) ⟨m, fun _ => 0, ρ⟩ fun r => ∀ c : Dev nD,
      r.2.mem ((c.tc : Thread nD τ).loc main_v24) = out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((congrArg t_o (arr2 m c)).trans (same _ _ _ _ _ (hr0 c) (hr2 c) (hr3 c) (hr5 c))), (h c).2⟩) (Cert.QuWIdeal.Value.run m ρ)

end Cert.QuWIdeal.Val

namespace Cert.QuWRefIdeal.Val

open Idealize.ShloMosaic Idealize.ShloMosaic.TcCoe Idealize.SL Idealize.SL.Sem Cert.QuWRefIdeal.Gen Cert.QuWRefIdeal.Read

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Cert.QuWRefIdeal.Value.run m ρ)

end Cert.QuWRefIdeal.Val

namespace Cert.Proof

open Idealize.ShloMosaic Idealize.SL Idealize.SL.Sem

/-- The kernel's result is the reference's, when the arrays of the precondition are real. -/
theorem quW_algebraic : Cert.algebraic_QuWIdeal_QuWRefIdeal_pre_finite_queries_weight := by
  intro m g m' g' hpre hagree
  refine ⟨Cert.QuWIdeal.Val.out0 m,
    Cert.QuWIdeal.Val.ends m g (fun c => Cert.Rotary.real2 _ _ (hpre c).1) (fun c => Cert.Rotary.real2 _ _ (hpre c).2.1) (fun c => Cert.Rotary.real2 _ _ (hpre c).2.2.1) (fun c => Cert.Rotary.real3 _ _ (hpre c).2.2.2), ?_⟩
  refine (θ_run _ _ _).mono (fun r h c => ⟨(h c).1.trans ((Cert.QuWRefIdeal.Read.val_main_v40_eq _ _ _ _ _ ).trans ?_), (h c).2⟩) (Cert.QuWRefIdeal.Value.run m' g')
  · exact ((congrArg₂ (fun a b => Cert.QuWRefIdeal.Read.val_main_v40 (F := Ideal) a b _ _ _) (hagree c).1 (hagree c).2.2.1).trans ((congrArg₂ (fun a b => Cert.QuWRefIdeal.Read.val_main_v40 (F := Ideal) _ _ a b _) (hagree c).2.2.2.1 (hagree c).2.2.2.2.1).trans (congrArg (fun a => Cert.QuWRefIdeal.Read.val_main_v40 (F := Ideal) _ _ _ _ a) (hagree c).2.2.2.2.2)))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Ends
public import proofs.«01_k».proof.Proof.Finite
public import proofs.«01_k».proof.Proof.Gen.Gate.Frame
public import proofs.«01_k».proof.Proof.Gen.GateIdeal.Frame
public import proofs.«01_k».proof.Proof.GateEnds
public import proofs.«01_k».proof.Proof.Gen.Down.Frame
public import proofs.«01_k».proof.Proof.Gen.DownIdeal.Frame
public import proofs.«01_k».proof.Proof.DownEnds
public import proofs.«01_k».proof.Proof.Gen.WGate.Frame
public import proofs.«01_k».proof.Proof.Gen.WGateIdeal.Frame
public import proofs.«01_k».proof.Proof.WGateEnds
public import proofs.«01_k».proof.Proof.Gen.WUp.Frame
public import proofs.«01_k».proof.Proof.Gen.WUpIdeal.Frame
public import proofs.«01_k».proof.Proof.WUpEnds
public import proofs.«01_k».proof.Proof.Gen.HnGate.Frame
public import proofs.«01_k».proof.Proof.Gen.HnGateIdeal.Frame
public import proofs.«01_k».proof.Proof.HnGateEnds
public import proofs.«01_k».proof.Proof.Gen.HnUp.Frame
public import proofs.«01_k».proof.Proof.Gen.HnUpIdeal.Frame
public import proofs.«01_k».proof.Proof.HnUpEnds
public import proofs.«01_k».proof.Proof.Gen.FGate.Frame
public import proofs.«01_k».proof.Proof.Gen.FGateIdeal.Frame
public import proofs.«01_k».proof.Proof.FGateEnds
public import proofs.«01_k».proof.Proof.Gen.FUp.Frame
public import proofs.«01_k».proof.Proof.Gen.FUpIdeal.Frame
public import proofs.«01_k».proof.Proof.FUpEnds
public import proofs.«01_k».proof.Proof.Gen.FDown.Frame
public import proofs.«01_k».proof.Proof.Gen.FDownIdeal.Frame
public import proofs.«01_k».proof.Proof.FDownEnds
public import proofs.«01_k».proof.Proof.Gen.Out.Frame
public import proofs.«01_k».proof.Proof.Gen.OutIdeal.Frame
public import proofs.«01_k».proof.Proof.OutEnds
public import proofs.«01_k».proof.Proof.Gen.DMixed.Frame
public import proofs.«01_k».proof.Proof.Gen.DMixedIdeal.Frame
public import proofs.«01_k».proof.Proof.DMixedEnds
public import proofs.«01_k».proof.Proof.Gen.DwoA.Frame
public import proofs.«01_k».proof.Proof.Gen.DwoAIdeal.Frame
public import proofs.«01_k».proof.Proof.DwoAEnds
public import proofs.«01_k».proof.Proof.Gen.DwoG.Frame
public import proofs.«01_k».proof.Proof.Gen.DwoGIdeal.Frame
public import proofs.«01_k».proof.Proof.DwoGEnds
public import proofs.«01_k».proof.Proof.Gen.Uv.Frame
public import proofs.«01_k».proof.Proof.Gen.UvIdeal.Frame
public import proofs.«01_k».proof.Proof.UvEnds
public import proofs.«01_k».proof.Proof.Gen.UvW.Frame
public import proofs.«01_k».proof.Proof.Gen.UvWIdeal.Frame
public import proofs.«01_k».proof.Proof.UvWEnds
public import proofs.«01_k».proof.Proof.Gen.UvX.Frame
public import proofs.«01_k».proof.Proof.Gen.UvXIdeal.Frame
public import proofs.«01_k».proof.Proof.UvXEnds
public import proofs.«01_k».proof.Proof.Gen.Kv.Frame
public import proofs.«01_k».proof.Proof.Gen.KvIdeal.Frame
public import proofs.«01_k».proof.Proof.KvEnds
public import proofs.«01_k».proof.Proof.Gen.KvX.Frame
public import proofs.«01_k».proof.Proof.Gen.KvXIdeal.Frame
public import proofs.«01_k».proof.Proof.KvXEnds
public import proofs.«01_k».proof.Proof.Gen.KvW.Frame
public import proofs.«01_k».proof.Proof.Gen.KvWIdeal.Frame
public import proofs.«01_k».proof.Proof.KvWEnds
public import proofs.«01_k».proof.Proof.Gen.Col.Frame
public import proofs.«01_k».proof.Proof.Gen.ColIdeal.Frame
public import proofs.«01_k».proof.Proof.ColEnds
public import proofs.«01_k».proof.Proof.Gen.ColX.Frame
public import proofs.«01_k».proof.Proof.Gen.ColXIdeal.Frame
public import proofs.«01_k».proof.Proof.ColXEnds
public import proofs.«01_k».proof.Proof.Gen.ColW.Frame
public import proofs.«01_k».proof.Proof.Gen.ColWIdeal.Frame
public import proofs.«01_k».proof.Proof.ColWEnds
public import proofs.«01_k».proof.Proof.Gen.Qu.Frame
public import proofs.«01_k».proof.Proof.Gen.QuIdeal.Frame
public import proofs.«01_k».proof.Proof.QuEnds
public import proofs.«01_k».proof.Proof.Gen.QuX.Frame
public import proofs.«01_k».proof.Proof.Gen.QuXIdeal.Frame
public import proofs.«01_k».proof.Proof.QuXEnds
public import proofs.«01_k».proof.Proof.Gen.QuW.Frame
public import proofs.«01_k».proof.Proof.Gen.QuWIdeal.Frame
public import proofs.«01_k».proof.Proof.QuWEnds
public import proofs.«01_k».proof.Proof.Gen.Pre_finite_gate
public import proofs.«01_k».proof.Proof.Gen.Pre_finite_columns
public import proofs.«01_k».proof.Proof.Gen.Pre_finite_columns_input
public import proofs.«01_k».proof.Proof.Gen.Pre_finite_columns_weight
public import proofs.«01_k».proof.Proof.Gen.Pre_finite_queries
public import proofs.«01_k».proof.Proof.Gen.Pre_finite_queries_input
public import proofs.«01_k».proof.Proof.Gen.Pre_finite_queries_weight
public import Idealize.ShloMosaic.Adequacy
public import Idealize.ShloMosaic.Init

@[expose] public section

noncomputable section

namespace Cert.Proof

open Idealize.ShloMosaic Idealize.SL.Sem Cert.Kernel

/-- The real arrays the arguments hold on device `c`. -/
def inOf (m : (ℓ : Loc Cert.KernelIdeal.nD Cert.KernelIdeal.τ Cert.KernelIdeal.sig) → Buf (Elt Ideal) ℓ) (c : Dev Cert.KernelIdeal.nD) : Cert.Spec.In where
  q := Cert.Finite.rl (a := 4096) (b := 3072) (m ((c.tc : Thread Cert.KernelIdeal.nD Cert.KernelIdeal.τ).loc Cert.KernelIdeal.main_arg0))
  kv := Cert.Finite.rl (a := 4096) (b := 4096) (m ((c.tc : Thread Cert.KernelIdeal.nD Cert.KernelIdeal.τ).loc Cert.KernelIdeal.main_arg1))
  kr := Cert.Finite.rl (a := 4096) (b := 64) (m ((c.tc : Thread Cert.KernelIdeal.nD Cert.KernelIdeal.τ).loc Cert.KernelIdeal.main_arg2))
  cs := Cert.Finite.rl (a := 4096) (b := 32) (m ((c.tc : Thread Cert.KernelIdeal.nD Cert.KernelIdeal.τ).loc Cert.KernelIdeal.main_arg3))
  sn := Cert.Finite.rl (a := 4096) (b := 32) (m ((c.tc : Thread Cert.KernelIdeal.nD Cert.KernelIdeal.τ).loc Cert.KernelIdeal.main_arg4))
  g := Cert.Finite.rl (a := 4096) (b := 2048) (m ((c.tc : Thread Cert.KernelIdeal.nD Cert.KernelIdeal.τ).loc Cert.KernelIdeal.main_arg5))

/-- The precondition gives the real arrays. -/
theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Val.ArgsAt m c (inOf m c) where
  a0 := Cert.Finite.arr_of _ _ (h c).1
  a1 := Cert.Finite.arr_of _ _ (h c).2.1
  a2 := Cert.Finite.arr_of _ _ (h c).2.2.1
  a3 := Cert.Finite.arr_of _ _ (h c).2.2.2.1
  a4 := Cert.Finite.arr_of _ _ (h c).2.2.2.2.1
  a5 := Cert.Finite.arr_of _ _ (h c).2.2.2.2.2

/-- The kernel's three results are the reference's: both are the real gradients. -/
theorem algebraic : Cert.algebraic_KernelIdeal_ReferenceIdeal_pre_finite := by
  intro m g m' g' hpre hagree
  have A := args_real m hpre
  have B : ∀ c, Cert.ReferenceIdeal.Val.ArgsAt m' c (inOf m c) := fun c =>
    ⟨(hagree c).1.trans (A c).a0, (hagree c).2.1.trans (A c).a1, (hagree c).2.2.1.trans (A c).a2,
      (hagree c).2.2.2.1.trans (A c).a3, (hagree c).2.2.2.2.1.trans (A c).a4, (hagree c).2.2.2.2.2.trans (A c).a5⟩
  refine ⟨fun c => Cert.Spec.arr (Cert.Spec.dq (inOf m c)), fun c => Cert.Spec.arr (Cert.Spec.dkv (inOf m c)),
    fun c => Cert.Spec.arr (Cert.Spec.dkr (inOf m c)), ?_, ?_⟩
  · exact (θ_run _ _ _).mono (fun r h c => ⟨(h.1 c).1, (h.1 c).2.1, (h.1 c).2.2, h.2.1 c⟩)
      (θ_run_and (Cert.KernelIdeal.Val.ends m g (inOf m) A) (Cert.KernelIdeal.Gen.frame m g))
  · exact (θ_run _ _ _).mono (fun r h c => ⟨(h.1 c).1, (h.1 c).2.1, (h.1 c).2.2, h.2.1 c⟩)
      (θ_run_and (Cert.ReferenceIdeal.Val.ends m' g' (inOf m) B) (Cert.ReferenceIdeal.Val.frame m' g'))

theorem claim : Cert.Claim := ⟨Cert.Kernel.Gen.facts, Cert.KernelIdeal.Gen.facts, Cert.ReferenceIdeal.Gen.facts,
  Cert.Gate.Gen.facts, Cert.GateIdeal.Gen.facts, Cert.GateRefIdeal.Gen.facts,
  Cert.Down.Gen.facts, Cert.DownIdeal.Gen.facts, Cert.DownRefIdeal.Gen.facts,
  Cert.WGate.Gen.facts, Cert.WGateIdeal.Gen.facts, Cert.WGateRefIdeal.Gen.facts,
  Cert.WUp.Gen.facts, Cert.WUpIdeal.Gen.facts, Cert.WUpRefIdeal.Gen.facts,
  Cert.HnGate.Gen.facts, Cert.HnGateIdeal.Gen.facts, Cert.HnGateRefIdeal.Gen.facts,
  Cert.HnUp.Gen.facts, Cert.HnUpIdeal.Gen.facts, Cert.HnUpRefIdeal.Gen.facts,
  Cert.FGate.Gen.facts, Cert.FGateIdeal.Gen.facts, Cert.FGateRefIdeal.Gen.facts,
  Cert.FUp.Gen.facts, Cert.FUpIdeal.Gen.facts, Cert.FUpRefIdeal.Gen.facts,
  Cert.FDown.Gen.facts, Cert.FDownIdeal.Gen.facts, Cert.FDownRefIdeal.Gen.facts,
  Cert.Out.Gen.facts, Cert.OutIdeal.Gen.facts, Cert.OutRefIdeal.Gen.facts,
  Cert.DMixed.Gen.facts, Cert.DMixedIdeal.Gen.facts, Cert.DMixedRefIdeal.Gen.facts,
  Cert.DwoA.Gen.facts, Cert.DwoAIdeal.Gen.facts, Cert.DwoARefIdeal.Gen.facts,
  Cert.DwoG.Gen.facts, Cert.DwoGIdeal.Gen.facts, Cert.DwoGRefIdeal.Gen.facts,
  Cert.Uv.Gen.facts, Cert.UvIdeal.Gen.facts, Cert.UvRefIdeal.Gen.facts,
  Cert.UvW.Gen.facts, Cert.UvWIdeal.Gen.facts, Cert.UvWRefIdeal.Gen.facts,
  Cert.UvX.Gen.facts, Cert.UvXIdeal.Gen.facts, Cert.UvXRefIdeal.Gen.facts,
  Cert.Kv.Gen.facts, Cert.KvIdeal.Gen.facts, Cert.KvRefIdeal.Gen.facts,
  Cert.KvX.Gen.facts, Cert.KvXIdeal.Gen.facts, Cert.KvXRefIdeal.Gen.facts,
  Cert.KvW.Gen.facts, Cert.KvWIdeal.Gen.facts, Cert.KvWRefIdeal.Gen.facts,
  Cert.Col.Gen.facts, Cert.ColIdeal.Gen.facts, Cert.ColRefIdeal.Gen.facts,
  Cert.ColX.Gen.facts, Cert.ColXIdeal.Gen.facts, Cert.ColXRefIdeal.Gen.facts,
  Cert.ColW.Gen.facts, Cert.ColWIdeal.Gen.facts, Cert.ColWRefIdeal.Gen.facts,
  Cert.Qu.Gen.facts, Cert.QuIdeal.Gen.facts, Cert.QuRefIdeal.Gen.facts,
  Cert.QuX.Gen.facts, Cert.QuXIdeal.Gen.facts, Cert.QuXRefIdeal.Gen.facts,
  Cert.QuW.Gen.facts, Cert.QuWIdeal.Gen.facts, Cert.QuWRefIdeal.Gen.facts,
  Cert.Pre_finite.Gen.facts, Cert.Pre_finite_gate.Gen.facts,
  Cert.Pre_finite_columns.Gen.facts,
  Cert.Pre_finite_columns_input.Gen.facts,
  Cert.Pre_finite_columns_weight.Gen.facts,
  Cert.Pre_finite_queries.Gen.facts,
  Cert.Pre_finite_queries_input.Gen.facts,
  Cert.Pre_finite_queries_weight.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Val.frame m ρ, fun m ρ _ => Cert.ReferenceIdeal.Val.frame m ρ,
  fun m ρ _ => Cert.Gate.Gen.frame m ρ, fun m ρ _ => Cert.GateIdeal.Gen.frame m ρ, fun m ρ _ => Cert.GateIdeal.Gen.frame m ρ, fun m ρ _ => Cert.GateRefIdeal.Val.frame m ρ, fun m ρ _ => Cert.GateRefIdeal.Val.frame m ρ,
  fun m ρ _ => Cert.Down.Gen.frame m ρ, fun m ρ _ => Cert.DownIdeal.Gen.frame m ρ, fun m ρ _ => Cert.DownRefIdeal.Val.frame m ρ,
  fun m ρ _ => Cert.WGate.Gen.frame m ρ, fun m ρ _ => Cert.WGateIdeal.Gen.frame m ρ, fun m ρ _ => Cert.WGateRefIdeal.Val.frame m ρ,
  fun m ρ _ => Cert.WUp.Gen.frame m ρ, fun m ρ _ => Cert.WUpIdeal.Gen.frame m ρ, fun m ρ _ => Cert.WUpRefIdeal.Val.frame m ρ,
  fun m ρ _ => Cert.HnGate.Gen.frame m ρ, fun m ρ _ => Cert.HnGateIdeal.Gen.frame m ρ, fun m ρ _ => Cert.HnGateRefIdeal.Val.frame m ρ,
  fun m ρ _ => Cert.HnUp.Gen.frame m ρ, fun m ρ _ => Cert.HnUpIdeal.Gen.frame m ρ, fun m ρ _ => Cert.HnUpRefIdeal.Val.frame m ρ,
  fun m ρ _ => Cert.FGate.Gen.frame m ρ, fun m ρ _ => Cert.FGateIdeal.Gen.frame m ρ, fun m ρ _ => Cert.FGateRefIdeal.Val.frame m ρ,
  fun m ρ _ => Cert.FUp.Gen.frame m ρ, fun m ρ _ => Cert.FUpIdeal.Gen.frame m ρ, fun m ρ _ => Cert.FUpRefIdeal.Val.frame m ρ,
  fun m ρ _ => Cert.FDown.Gen.frame m ρ, fun m ρ _ => Cert.FDownIdeal.Gen.frame m ρ, fun m ρ _ => Cert.FDownRefIdeal.Val.frame m ρ,
  fun m ρ _ => Cert.Out.Gen.frame m ρ, fun m ρ _ => Cert.OutIdeal.Gen.frame m ρ, fun m ρ _ => Cert.OutRefIdeal.Val.frame m ρ,
  fun m ρ _ => Cert.DMixed.Gen.frame m ρ, fun m ρ _ => Cert.DMixedIdeal.Gen.frame m ρ, fun m ρ _ => Cert.DMixedRefIdeal.Val.frame m ρ,
  fun m ρ _ => Cert.DwoA.Gen.frame m ρ, fun m ρ _ => Cert.DwoAIdeal.Gen.frame m ρ, fun m ρ _ => Cert.DwoARefIdeal.Val.frame m ρ,
  fun m ρ _ => Cert.DwoG.Gen.frame m ρ, fun m ρ _ => Cert.DwoGIdeal.Gen.frame m ρ, fun m ρ _ => Cert.DwoGRefIdeal.Val.frame m ρ,
  fun m ρ _ => Cert.Uv.Gen.frame m ρ, fun m ρ _ => Cert.UvIdeal.Gen.frame m ρ, fun m ρ _ => Cert.UvRefIdeal.Val.frame m ρ,
  fun m ρ _ => Cert.UvW.Gen.frame m ρ, fun m ρ _ => Cert.UvWIdeal.Gen.frame m ρ, fun m ρ _ => Cert.UvWRefIdeal.Val.frame m ρ,
  fun m ρ _ => Cert.UvX.Gen.frame m ρ, fun m ρ _ => Cert.UvXIdeal.Gen.frame m ρ, fun m ρ _ => Cert.UvXRefIdeal.Val.frame m ρ,
  fun m ρ _ => Cert.Kv.Gen.frame m ρ, fun m ρ _ => Cert.KvIdeal.Gen.frame m ρ, fun m ρ _ => Cert.KvRefIdeal.Val.frame m ρ,
  fun m ρ _ => Cert.KvX.Gen.frame m ρ, fun m ρ _ => Cert.KvXIdeal.Gen.frame m ρ, fun m ρ _ => Cert.KvXRefIdeal.Val.frame m ρ,
  fun m ρ _ => Cert.KvW.Gen.frame m ρ, fun m ρ _ => Cert.KvWIdeal.Gen.frame m ρ, fun m ρ _ => Cert.KvWRefIdeal.Val.frame m ρ,
  fun m ρ _ => Cert.Col.Gen.frame m ρ, fun m ρ _ => Cert.ColIdeal.Gen.frame m ρ, fun m ρ _ => Cert.ColIdeal.Gen.frame m ρ, fun m ρ _ => Cert.ColRefIdeal.Val.frame m ρ, fun m ρ _ => Cert.ColRefIdeal.Val.frame m ρ,
  fun m ρ _ => Cert.ColX.Gen.frame m ρ, fun m ρ _ => Cert.ColXIdeal.Gen.frame m ρ, fun m ρ _ => Cert.ColXIdeal.Gen.frame m ρ, fun m ρ _ => Cert.ColXRefIdeal.Val.frame m ρ, fun m ρ _ => Cert.ColXRefIdeal.Val.frame m ρ,
  fun m ρ _ => Cert.ColW.Gen.frame m ρ, fun m ρ _ => Cert.ColWIdeal.Gen.frame m ρ, fun m ρ _ => Cert.ColWIdeal.Gen.frame m ρ, fun m ρ _ => Cert.ColWRefIdeal.Val.frame m ρ, fun m ρ _ => Cert.ColWRefIdeal.Val.frame m ρ,
  fun m ρ _ => Cert.Qu.Gen.frame m ρ, fun m ρ _ => Cert.QuIdeal.Gen.frame m ρ, fun m ρ _ => Cert.QuIdeal.Gen.frame m ρ, fun m ρ _ => Cert.QuRefIdeal.Val.frame m ρ, fun m ρ _ => Cert.QuRefIdeal.Val.frame m ρ,
  fun m ρ _ => Cert.QuX.Gen.frame m ρ, fun m ρ _ => Cert.QuXIdeal.Gen.frame m ρ, fun m ρ _ => Cert.QuXIdeal.Gen.frame m ρ, fun m ρ _ => Cert.QuXRefIdeal.Val.frame m ρ, fun m ρ _ => Cert.QuXRefIdeal.Val.frame m ρ,
  fun m ρ _ => Cert.QuW.Gen.frame m ρ, fun m ρ _ => Cert.QuWIdeal.Gen.frame m ρ, fun m ρ _ => Cert.QuWIdeal.Gen.frame m ρ, fun m ρ _ => Cert.QuWRefIdeal.Val.frame m ρ, fun m ρ _ => Cert.QuWRefIdeal.Val.frame m ρ,
  ⟨IdealRules.named_const.statement Cert.KernelIdeal.κ "scale_log2e" .f32 0x3DD53B95#32 (((((Real.sqrt 192)⁻¹ * (Real.log 2)⁻¹ : ℝ)) : EReal)) rfl,
   IdealRules.named_const.statement Cert.KernelIdeal.κ "scale" .f32 0x3D93CD3A#32 ((((Real.sqrt 192)⁻¹ : ℝ)) : EReal) rfl,
   IdealRules.named_const.statement Cert.KernelIdeal.κ "ln2" .f32 0x3F317218#32 ((Real.log 2 : ℝ) : EReal) rfl⟩,
  algebraic,
  trivial, gate_algebraic,
  trivial, down_algebraic,
  trivial, wgate_algebraic,
  trivial, wup_algebraic,
  trivial, hngate_algebraic,
  trivial, hnup_algebraic,
  trivial, fgate_algebraic,
  trivial, fup_algebraic,
  trivial, fdown_algebraic,
  trivial, out_algebraic,
  trivial, dmixed_algebraic,
  trivial, dwoa_algebraic,
  trivial, dwog_algebraic,
  trivial, uv_algebraic,
  trivial, uvw_algebraic,
  trivial, uvx_algebraic,
  trivial, kv_algebraic,
  trivial, kvx_algebraic,
  trivial, kvw_algebraic,
  trivial, col_algebraic,
  trivial, colX_algebraic,
  trivial, colW_algebraic,
  trivial, qu_algebraic,
  trivial, quX_algebraic,
  trivial, quW_algebraic⟩

end Cert.Proof

end
